-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 4096, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.block ⟨3, ![2, 128, 512]⟩ ⟨3, ![2, 4096, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v85) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  bcast_S_S512x256 : S_.BroadcastsInDim S512x256 (![] : Fin 0 → Fin S512x256.rank)
  bcast_S_S256x512 : S_.BroadcastsInDim S256x512 (![] : Fin 0 → Fin S256x512.rank)

variable [Facts]

def fn_part1 {F : FTy → Type} [FloatOps F] (main_v3 : IVec S2x128x512 1) (main_v7 : IVec S512x256 1) (main_v11 : IVec S512x256 1) (main_v15 : IVec S512x256 1) (main_v17 : FVec F S256x512 .f32) (main_v18 : FVec F S256x512 .f32) : IVec S2x128x512 1 × IVec S512x256 1 × IVec S512x256 1 × IVec S512x256 1 × IVec S256x512 1 :=
  let main_v19 : IVec S256x512 1 := cmpf .olt main_v17 main_v18
  (main_v3, main_v7, main_v11, main_v15, main_v19)

def fn {F : FTy → Type} [FloatOps F] (main_arg0 : FVec F S2x128x512 .bf16) (main_arg1 : FVec F S512x256 .bf16) (main_arg2 : FVec F S512x256 .bf16) (main_arg3 : FVec F S512x256 .bf16) (main_arg4 : FVec F S256x512 .bf16) : IVec S2x128x512 1 × IVec S512x256 1 × IVec S512x256 1 × IVec S512x256 1 × IVec S256x512 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_v4 : FVec F S512x256 .f32 := (extf .f32 · bitsLt_bf16_f32) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_v8 : FVec F S512x256 .f32 := (extf .f32 · bitsLt_bf16_f32) main_arg2
  let main_v9 : FVec F S512x256 .f32 := Host.absf main_v8
  let main_cst_1 : FVec F S_ .f32 := constant S_ .f32 0x7F800000#32
  let main_v10 : FVec F S512x256 .f32 := broadcastInDim S512x256 ![] bcast_S_S512x256 main_cst_1
  let main_v11 : IVec S512x256 1 := cmpf .olt main_v9 main_v10
  let main_v12 : FVec F S512x256 .f32 := (extf .f32 · bitsLt_bf16_f32) main_arg3
  let main_v13 : FVec F S512x256 .f32 := Host.absf main_v12
  let main_cst_2 : FVec F S_ .f32 := constant S_ .f32 0x7F800000#32
  let main_v14 : FVec F S512x256 .f32 := broadcastInDim S512x256 ![] bcast_S_S512x256 main_cst_2
  let main_v15 : IVec S512x256 1 := cmpf .olt main_v13 main_v14
  let main_v16 : FVec F S256x512 .f32 := (extf .f32 · bitsLt_bf16_f32) main_arg4
  let main_v17 : FVec F S256x512 .f32 := Host.absf main_v16
  let main_cst_3 : FVec F S_ .f32 := constant S_ .f32 0x7F800000#32
  let main_v18 : FVec F S256x512 .f32 := broadcastInDim S256x512 ![] bcast_S_S256x512 main_cst_3
  fn_part1 (F := F) main_v3 main_v7 main_v11 main_v15 main_v17 main_v18
-- ==== Pre_finite_ReferenceIdeal.lean ====
abbrev S2x4096x512 : Shape := ⟨3, ![2, 4096, 512]⟩
abbrev S512x256 : Shape := ⟨2, ![512, 256]⟩
abbrev S256x512 : Shape := ⟨2, ![256, 512]⟩
abbrev S_ : Shape := ⟨0, ![]⟩

class Facts : Prop where
  bitsLt_bf16_f32 : FTy.bits .bf16 < FTy.bits .f32
  bcast_S_S2x4096x512 : S_.BroadcastsInDim S2x4096x512 (![] : Fin 0 → Fin S2x4096x512.rank)
  bcast_S_S512x256 : S_.BroadcastsInDim S512x256 (![] : Fin 0 → Fin S512x256.rank)
  bcast_S_S256x512 : S_.BroadcastsInDim S256x512 (![] : Fin 0 → Fin S256x512.rank)

variable [Facts]

def fn_part1 {F : FTy → Type} [FloatOps F] (main_v3 : IVec S2x4096x512 1) (main_v7 : IVec S512x256 1) (main_v11 : IVec S512x256 1) (main_v15 : IVec S512x256 1) (main_v17 : FVec F S256x512 .f32) (main_v18 : FVec F S256x512 .f32) : IVec S2x4096x512 1 × IVec S512x256 1 × IVec S512x256 1 × IVec S512x256 1 × IVec S256x512 1 :=
  let main_v19 : IVec S256x512 1 := cmpf .olt main_v17 main_v18
  (main_v3, main_v7, main_v11, main_v15, main_v19)

def fn {F : FTy → Type} [FloatOps F] (main_arg0 : FVec F S2x4096x512 .bf16) (main_arg1 : FVec F S512x256 .bf16) (main_arg2 : FVec F S512x256 .bf16) (main_arg3 : FVec F S512x256 .bf16) (main_arg4 : FVec F S256x512 .bf16) : IVec S2x4096x512 1 × IVec S512x256 1 × IVec S512x256 1 × IVec S512x256 1 × IVec S256x512 1 :=
  let main_v0 : FVec F S2x4096x512 .f32 := (extf .f32 · bitsLt_bf16_f32) main_arg0
  let main_v1 : FVec F S2x4096x512 .f32 := Host.absf main_v0
  let main_cst : FVec F S_ .f32 := constant S_ .f32 0x7F800000#32
  let main_v2 : FVec F S2x4096x512 .f32 := broadcastInDim S2x4096x512 ![] bcast_S_S2x4096x512 main_cst
  let main_v3 : IVec S2x4096x512 1 := cmpf .olt main_v1 main_v2
  let main_v4 : FVec F S512x256 .f32 := (extf .f32 · bitsLt_bf16_f32) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_v8 : FVec F S512x256 .f32 := (extf .f32 · bitsLt_bf16_f32) main_arg2
  let main_v9 : FVec F S512x256 .f32 := Host.absf main_v8
  let main_cst_1 : FVec F S_ .f32 := constant S_ .f32 0x7F800000#32
  let main_v10 : FVec F S512x256 .f32 := broadcastInDim S512x256 ![] bcast_S_S512x256 main_cst_1
  let main_v11 : IVec S512x256 1 := cmpf .olt main_v9 main_v10
  let main_v12 : FVec F S512x256 .f32 := (extf .f32 · bitsLt_bf16_f32) main_arg3
  let main_v13 : FVec F S512x256 .f32 := Host.absf main_v12
  let main_cst_2 : FVec F S_ .f32 := constant S_ .f32 0x7F800000#32
  let main_v14 : FVec F S512x256 .f32 := broadcastInDim S512x256 ![] bcast_S_S512x256 main_cst_2
  let main_v15 : IVec S512x256 1 := cmpf .olt main_v13 main_v14
  let main_v16 : FVec F S256x512 .f32 := (extf .f32 · bitsLt_bf16_f32) main_arg4
  let main_v17 : FVec F S256x512 .f32 := Host.absf main_v16
  let main_cst_3 : FVec F S_ .f32 := constant S_ .f32 0x7F800000#32
  let main_v18 : FVec F S256x512 .f32 := broadcastInDim S256x512 ![] bcast_S_S256x512 main_cst_3
  fn_part1 (F := F) main_v3 main_v7 main_v11 main_v15 main_v17 main_v18
-- ==== Kernel.lean ====
abbrev S2x128x512 : Shape := ⟨3, ![2, 128, 512]⟩
abbrev S512x256 : Shape := ⟨2, ![512, 256]⟩
abbrev S256x512 : Shape := ⟨2, ![256, 512]⟩
abbrev S32x3 : Shape := ⟨2, ![32, 3]⟩
abbrev S32x2x9 : Shape := ⟨3, ![32, 2, 9]⟩
abbrev S32x2x8 : Shape := ⟨3, ![32, 2, 8]⟩
abbrev S_ : Shape := ⟨0, ![]⟩
abbrev S1 : Shape := ⟨1, ![1]⟩
abbrev S3 : Shape := ⟨1, ![3]⟩
abbrev S2x9 : Shape := ⟨2, ![2, 9]⟩
abbrev S2x8 : Shape := ⟨2, ![2, 8]⟩
abbrev S2x4096x512 : Shape := ⟨3, ![2, 4096, 512]⟩
abbrev S2x4x128x4096 : Shape := ⟨4, ![2, 4, 128, 4096]⟩
abbrev S2 : Shape := ⟨1, ![2]⟩
abbrev S2x2x8 : Shape := ⟨3, ![2, 2, 8]⟩
abbrev S2x2x7 : Shape := ⟨3, ![2, 2, 7]⟩
abbrev S128x256 : Shape := ⟨2, ![128, 256]⟩
abbrev S1x128x512 : Shape := ⟨3, ![1, 128, 512]⟩
abbrev S128x512 : Shape := ⟨2, ![128, 512]⟩
abbrev S128x255 : Shape := ⟨2, ![128, 255]⟩
abbrev S128x1 : Shape := ⟨2, ![128, 1]⟩
abbrev S1x128x256 : Shape := ⟨3, ![1, 128, 256]⟩
abbrev S1x1x1 : Shape := ⟨3, ![1, 1, 1]⟩
abbrev S1x128x64 : Shape := ⟨3, ![1, 128, 64]⟩
abbrev S128x64 : Shape := ⟨2, ![128, 64]⟩
abbrev S128x128 : Shape := ⟨2, ![128, 128]⟩
abbrev S1x1x128x128 : Shape := ⟨4, ![1, 1, 128, 128]⟩
abbrev S128 : Shape := ⟨1, ![128]⟩
abbrev S1x1 : Shape := ⟨2, ![1, 1]⟩
abbrev S1x1x128x4096 : Shape := ⟨4, ![1, 1, 128, 4096]⟩
abbrev S128x4096 : Shape := ⟨2, ![128, 4096]⟩
abbrev S1x4096x64 : Shape := ⟨3, ![1, 4096, 64]⟩
abbrev S4096x64 : Shape := ⟨2, ![4096, 64]⟩

abbrev nBuf : Space → Nat
  | .hbm => 72
  | .vmem => 8
  | .smem => 3
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S512x256, .bf16⟩
  | .hbm, ⟨3, _⟩ => ⟨S512x256, .bf16⟩
  | .hbm, ⟨4, _⟩ => ⟨S256x512, .bf16⟩
  | .hbm, ⟨5, _⟩ => ⟨S32x3, .i32⟩
  | .hbm, ⟨6, _⟩ => ⟨S32x2x9, .i32⟩
  | .hbm, ⟨7, _⟩ => ⟨S32x2x8, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S1, .i1⟩
  | .hbm, ⟨24, _⟩ => ⟨S1, .i1⟩
  | .hbm, ⟨25, _⟩ => ⟨S1, .i1⟩
  | .hbm, ⟨26, _⟩ => ⟨S_, .i1⟩
  | .hbm, ⟨27, _⟩ => ⟨S_, .i1⟩
  | .hbm, ⟨28, _⟩ => ⟨S3, .i32⟩
  | .hbm, ⟨29, _⟩ => ⟨S3, .i1⟩
  | .hbm, ⟨30, _⟩ => ⟨S_, .i32⟩
  | .hbm, ⟨31, _⟩ => ⟨S3, .i32⟩
  | .hbm, ⟨32, _⟩ => ⟨S3, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S1, .i1⟩
  | .hbm, ⟨43, _⟩ => ⟨S1, .i1⟩
  | .hbm, ⟨44, _⟩ => ⟨S1, .i1⟩
  | .hbm, ⟨45, _⟩ => ⟨S_, .i1⟩
  | .hbm, ⟨46, _⟩ => ⟨S_, .i1⟩
  | .hbm, ⟨47, _⟩ => ⟨S2x9, .i32⟩
  | .hbm, ⟨48, _⟩ => ⟨S2x9, .i1⟩
  | .hbm, ⟨49, _⟩ => ⟨S_, .i32⟩
  | .hbm, ⟨50, _⟩ => ⟨S2x9, .i32⟩
  | .hbm, ⟨51, _⟩ => ⟨S2x9, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S1, .i1⟩
  | .hbm, ⟨62, _⟩ => ⟨S1, .i1⟩
  | .hbm, ⟨63, _⟩ => ⟨S1, .i1⟩
  | .hbm, ⟨64, _⟩ => ⟨S_, .i1⟩
  | .hbm, ⟨65, _⟩ => ⟨S_, .i1⟩
  | .hbm, ⟨66, _⟩ => ⟨S2x8, .i32⟩
  | .hbm, ⟨67, _⟩ => ⟨S2x8, .i1⟩
  | .hbm, ⟨68, _⟩ => ⟨S_, .i32⟩
  | .hbm, ⟨69, _⟩ => ⟨S2x8, .i32⟩
  | .hbm, ⟨70, _⟩ => ⟨S2x8, .i32⟩
  | .hbm, ⟨71, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S256x512, .bf16⟩
  | .local _ .vmem, ⟨5, _⟩ => ⟨S2x128x512, .f32⟩
  | .local _ .vmem, ⟨6, _⟩ => ⟨S2x4096x512, .bf16⟩
  | .local _ .vmem, ⟨7, _⟩ => ⟨S2x4x128x4096, .f32⟩
  | .local _ .smem, ⟨0, _⟩ => ⟨S3, .i32⟩
  | .local _ .smem, ⟨1, _⟩ => ⟨S2x9, .i32⟩
  | .local _ .smem, ⟨2, _⟩ => ⟨S2x8, .i32⟩
  | _, _ => ⟨S2x128x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 2 → Bool
  | ⟨0, _⟩ => false
  | ⟨1, _⟩ => true
  | _ => false

abbrev dmaSemScoped : Fin 257 → Bool
  | ⟨i, _⟩ => dmaSemScopedAt i

abbrev sig : RefSig :=
  (ofTc nBuf bufTy 2 257 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_c : Ref sig .tc := ⟨.hbm, 14, rfl⟩
abbrev main_call0_v0 : Ref sig .tc := ⟨.hbm, 15, rfl⟩
abbrev main_call0_c_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_c_1 : Ref sig .tc := ⟨.hbm, 20, rfl⟩
abbrev main_call0_c_2 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_c_3 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_c_4 : Ref sig .tc := ⟨.hbm, 30, rfl⟩
abbrev main_call0_v11 : Ref sig .tc := ⟨.hbm, 31, rfl⟩
abbrev main_v5 : Ref sig .tc := ⟨.hbm, 32, rfl⟩
abbrev main_call1_c : Ref sig .tc := ⟨.hbm, 33, rfl⟩
abbrev main_call1_v0 : Ref sig .tc := ⟨.hbm, 34, rfl⟩
abbrev main_call1_c_0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_c_1 : Ref sig .tc := ⟨.hbm, 39, rfl⟩
abbrev main_call1_c_2 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_c_3 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_c_4 : Ref sig .tc := ⟨.hbm, 49, rfl⟩
abbrev main_call1_v11 : Ref sig .tc := ⟨.hbm, 50, rfl⟩
abbrev main_v6 : Ref sig .tc := ⟨.hbm, 51, rfl⟩
abbrev main_call2_c : Ref sig .tc := ⟨.hbm, 52, rfl⟩
abbrev main_call2_v0 : Ref sig .tc := ⟨.hbm, 53, rfl⟩
abbrev main_call2_c_0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_c_1 : Ref sig .tc := ⟨.hbm, 58, rfl⟩
abbrev main_call2_c_2 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_c_3 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_c_4 : Ref sig .tc := ⟨.hbm, 68, rfl⟩
abbrev main_call2_v11 : Ref sig .tc := ⟨.hbm, 69, rfl⟩
abbrev main_v7 : Ref sig .tc := ⟨.hbm, 70, rfl⟩
abbrev main_v8 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg8_0 : Ref sig .tc := ⟨.vmem, 5, rfl⟩
abbrev cc0_scratch0 : Ref sig .tc := ⟨.vmem, 6, rfl⟩
abbrev cc0_scratch1 : Ref sig .tc := ⟨.vmem, 7, rfl⟩
abbrev cc0_stg5_0 : Ref sig .tc := ⟨.smem, 0, rfl⟩
abbrev cc0_stg6_0 : Ref sig .tc := ⟨.smem, 1, rfl⟩
abbrev cc0_stg7_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 32
abbrev τ : Topo := Topo.v7x

variable {F : FTy → Type} [FloatOps F]

abbrev grid0 : Pipeline.Grid := .none

def k0_dev1 (v3 : BitVec 32) : Nat :=
  let c0_i32 : BitVec 32 := 0#32
  let c1_i32_1 : BitVec 32 := 1#32
  let v7 : BitVec 32 := Scalar.muli v3 c1_i32_1
  let v8 : BitVec 32 := Scalar.addi c0_i32 v7
  v8.toNat

def k0_dev2 (v4 : BitVec 32) : Nat :=
  let c0_i32_4 : BitVec 32 := 0#32
  let c1_i32_3 : BitVec 32 := 1#32
  let v9 : BitVec 32 := Scalar.muli v4 c1_i32_3
  let v10 : BitVec 32 := Scalar.addi c0_i32_4 v9
  v10.toNat

def k0_dev3 (v5 : BitVec 32) : Nat :=
  let c0_i32_7 : BitVec 32 := 0#32
  let c1_i32_6 : BitVec 32 := 1#32
  let v11 : BitVec 32 := Scalar.muli v5 c1_i32_6
  let v12 : BitVec 32 := Scalar.addi c0_i32_7 v11
  v12.toNat

def k0_off1 (d0 : Dev nD) : Fin 3 → Nat :=
  let c0_27 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_21 : BitVec 32 := 128#32
  let v62 : BitVec 32 := Scalar.muli v2 c128_i32_21
  let v79 : Index := Scalar.indexCast v62
  let c0_28 : Index := 0#32
  ![0, v79.toNat, 0]
def k0_off2 (d0 : Dev nD) : Fin 3 → Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_29 : BitVec 32 := 128#32
  let v83 : BitVec 32 := Scalar.muli v2 c128_i32_29
  let c0_i32_36 : BitVec 32 := 0#32
  ![0, v83.toNat, 0]
def k0_dev4 (v5 : BitVec 32) : Nat :=
  let c0_i32_35 : BitVec 32 := 0#32
  let c1_i32_34 : BitVec 32 := 1#32
  let v84 : BitVec 32 := Scalar.muli v5 c1_i32_34
  let v85 : BitVec 32 := Scalar.addi c0_i32_35 v84
  v85.toNat
def k0_dev5 (v4 : BitVec 32) : Nat :=
  let c0_i32_48 : BitVec 32 := 0#32
  let c1_i32_47 : BitVec 32 := 1#32
  let v95 : BitVec 32 := Scalar.muli v4 c1_i32_47
  let v96 : BitVec 32 := Scalar.addi c0_i32_48 v95
  v96.toNat
def k0_dev6 (v3 : BitVec 32) : Nat :=
  let c0_i32_61 : BitVec 32 := 0#32
  let c1_i32_60 : BitVec 32 := 1#32
  let v106 : BitVec 32 := Scalar.muli v3 c1_i32_60
  let v107 : BitVec 32 := Scalar.addi c0_i32_61 v106
  v107.toNat
def k0_off3 (d0 : Dev nD) : Fin 3 → Nat :=
  let c0_65 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_21 : BitVec 32 := 128#32
  let v62 : BitVec 32 := Scalar.muli v2 c128_i32_21
  let v118 : Index := Scalar.indexCast v62
  let c256 : Index := 256#32
  ![0, v118.toNat, 256]
def k0_off4 (d0 : Dev nD) : Fin 3 → Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_66 : BitVec 32 := 128#32
  let v122 : BitVec 32 := Scalar.muli v2 c128_i32_66
  let c256_i32 : BitVec 32 := 256#32
  ![0, v122.toNat, 256]
def k0_dev7 (v5 : BitVec 32) : Nat :=
  let c0_i32_72 : BitVec 32 := 0#32
  let c1_i32_71 : BitVec 32 := 1#32
  let v123 : BitVec 32 := Scalar.muli v5 c1_i32_71
  let v124 : BitVec 32 := Scalar.addi c0_i32_72 v123
  v124.toNat
def k0_dev8 (v4 : BitVec 32) : Nat :=
  let c0_i32_84 : BitVec 32 := 0#32
  let c1_i32_83 : BitVec 32 := 1#32
  let v134 : BitVec 32 := Scalar.muli v4 c1_i32_83
  let v135 : BitVec 32 := Scalar.addi c0_i32_84 v134
  v135.toNat
def k0_dev9 (v3 : BitVec 32) : Nat :=
  let c0_i32_97 : BitVec 32 := 0#32
  let c1_i32_96 : BitVec 32 := 1#32
  let v145 : BitVec 32 := Scalar.muli v3 c1_i32_96
  let v146 : BitVec 32 := Scalar.addi c0_i32_97 v145
  v146.toNat
def k0_off5 (d0 : Dev nD) : Fin 3 → Nat :=
  let c1_105 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_21 : BitVec 32 := 128#32
  let v62 : BitVec 32 := Scalar.muli v2 c128_i32_21
  let v171 : Index := Scalar.indexCast v62
  let c0_106 : Index := 0#32
  ![1, v171.toNat, 0]
def k0_off6 (d0 : Dev nD) : Fin 3 → Nat :=
  let c1_i32_109 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_107 : BitVec 32 := 128#32
  let v175 : BitVec 32 := Scalar.muli v2 c128_i32_107
  let c0_i32_114 : BitVec 32 := 0#32
  ![1, v175.toNat, 0]
def k0_dev10 (v5 : BitVec 32) : Nat :=
  let c0_i32_113 : BitVec 32 := 0#32
  let c1_i32_112 : BitVec 32 := 1#32
  let v176 : BitVec 32 := Scalar.muli v5 c1_i32_112
  let v177 : BitVec 32 := Scalar.addi c0_i32_113 v176
  v177.toNat
def k0_dev11 (v4 : BitVec 32) : Nat :=
  let c0_i32_126 : BitVec 32 := 0#32
  let c1_i32_125 : BitVec 32 := 1#32
  let v187 : BitVec 32 := Scalar.muli v4 c1_i32_125
  let v188 : BitVec 32 := Scalar.addi c0_i32_126 v187
  v188.toNat
def k0_dev12 (v3 : BitVec 32) : Nat :=
  let c0_i32_139 : BitVec 32 := 0#32
  let c1_i32_138 : BitVec 32 := 1#32
  let v198 : BitVec 32 := Scalar.muli v3 c1_i32_138
  let v199 : BitVec 32 := Scalar.addi c0_i32_139 v198
  v199.toNat
def k0_off7 (d0 : Dev nD) : Fin 3 → Nat :=
  let c1_143 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_21 : BitVec 32 := 128#32
  let v62 : BitVec 32 := Scalar.muli v2 c128_i32_21
  let v210 : Index := Scalar.indexCast v62
  let c256_144 : Index := 256#32
  ![1, v210.toNat, 256]
def k0_off8 (d0 : Dev nD) : Fin 3 → Nat :=
  let c1_i32_147 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_145 : BitVec 32 := 128#32
  let v214 : BitVec 32 := Scalar.muli v2 c128_i32_145
  let c256_i32_152 : BitVec 32 := 256#32
  ![1, v214.toNat, 256]
def k0_dev13 (v5 : BitVec 32) : Nat :=
  let c0_i32_151 : BitVec 32 := 0#32
  let c1_i32_150 : BitVec 32 := 1#32
  let v215 : BitVec 32 := Scalar.muli v5 c1_i32_150
  let v216 : BitVec 32 := Scalar.addi c0_i32_151 v215
  v216.toNat
def k0_dev14 (v4 : BitVec 32) : Nat :=
  let c0_i32_164 : BitVec 32 := 0#32
  let c1_i32_163 : BitVec 32 := 1#32
  let v226 : BitVec 32 := Scalar.muli v4 c1_i32_163
  let v227 : BitVec 32 := Scalar.addi c0_i32_164 v226
  v227.toNat
def k0_dev15 (v3 : BitVec 32) : Nat :=
  let c0_i32_177 : BitVec 32 := 0#32
  let c1_i32_176 : BitVec 32 := 1#32
  let v237 : BitVec 32 := Scalar.muli v3 c1_i32_176
  let v238 : BitVec 32 := Scalar.addi c0_i32_177 v237
  v238.toNat
def k0_off9 (d0 : Dev nD) : Fin 3 → Nat :=
  let c0_203 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_202 : BitVec 32 := 128#32
  let v293 : BitVec 32 := Scalar.muli v2 c128_i32_202
  let v294 : Index := Scalar.indexCast v293
  let c0_204 : Index := 0#32
  ![0, v294.toNat, 0]
def k0_off10 (d0 : Dev nD) : Fin 4 → Nat :=
  let c0_206 : Index := 0#32
  let c0_207 : Index := 0#32
  let c0_208 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_202 : BitVec 32 := 128#32
  let v293 : BitVec 32 := Scalar.muli v2 c128_i32_202
  let v299 : Index := Scalar.indexCast v293
  ![0, 0, 0, v299.toNat]
def k0_off11 (d0 : Dev nD) : Fin 3 → Nat :=
  let c0_210 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_202 : BitVec 32 := 128#32
  let v293 : BitVec 32 := Scalar.muli v2 c128_i32_202
  let v306 : Index := Scalar.indexCast v293
  let c64 : Index := 64#32
  ![0, v306.toNat, 64]
def k0_off12 (d0 : Dev nD) : Fin 4 → Nat :=
  let c0_212 : Index := 0#32
  let c1_213 : Index := 1#32
  let c0_214 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_202 : BitVec 32 := 128#32
  let v293 : BitVec 32 := Scalar.muli v2 c128_i32_202
  let v311 : Index := Scalar.indexCast v293
  ![0, 1, 0, v311.toNat]
def k0_off13 (d0 : Dev nD) : Fin 3 → Nat :=
  let c0_216 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_202 : BitVec 32 := 128#32
  let v293 : BitVec 32 := Scalar.muli v2 c128_i32_202
  let v318 : Index := Scalar.indexCast v293
  let c128 : Index := 128#32
  ![0, v318.toNat, 128]
def k0_off14 (d0 : Dev nD) : Fin 4 → Nat :=
  let c0_218 : Index := 0#32
  let c2_219 : Index := 2#32
  let c0_220 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_202 : BitVec 32 := 128#32
  let v293 : BitVec 32 := Scalar.muli v2 c128_i32_202
  let v323 : Index := Scalar.indexCast v293
  ![0, 2, 0, v323.toNat]
def k0_off15 (d0 : Dev nD) : Fin 3 → Nat :=
  let c0_222 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_202 : BitVec 32 := 128#32
  let v293 : BitVec 32 := Scalar.muli v2 c128_i32_202
  let v330 : Index := Scalar.indexCast v293
  let c192 : Index := 192#32
  ![0, v330.toNat, 192]
def k0_off16 (d0 : Dev nD) : Fin 4 → Nat :=
  let c0_224 : Index := 0#32
  let c3 : Index := 3#32
  let c0_225 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_202 : BitVec 32 := 128#32
  let v293 : BitVec 32 := Scalar.muli v2 c128_i32_202
  let v335 : Index := Scalar.indexCast v293
  ![0, 3, 0, v335.toNat]
def k0_off17 (d0 : Dev nD) : Fin 3 → Nat :=
  let c1_227 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_202 : BitVec 32 := 128#32
  let v293 : BitVec 32 := Scalar.muli v2 c128_i32_202
  let v342 : Index := Scalar.indexCast v293
  let c0_228 : Index := 0#32
  ![1, v342.toNat, 0]
def k0_off18 (d0 : Dev nD) : Fin 4 → Nat :=
  let c1_230 : Index := 1#32
  let c0_231 : Index := 0#32
  let c0_232 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_202 : BitVec 32 := 128#32
  let v293 : BitVec 32 := Scalar.muli v2 c128_i32_202
  let v347 : Index := Scalar.indexCast v293
  ![1, 0, 0, v347.toNat]
def k0_off19 (d0 : Dev nD) : Fin 3 → Nat :=
  let c1_234 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_202 : BitVec 32 := 128#32
  let v293 : BitVec 32 := Scalar.muli v2 c128_i32_202
  let v354 : Index := Scalar.indexCast v293
  let c64_235 : Index := 64#32
  ![1, v354.toNat, 64]
def k0_off20 (d0 : Dev nD) : Fin 4 → Nat :=
  let c1_237 : Index := 1#32
  let c1_238 : Index := 1#32
  let c0_239 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_202 : BitVec 32 := 128#32
  let v293 : BitVec 32 := Scalar.muli v2 c128_i32_202
  let v359 : Index := Scalar.indexCast v293
  ![1, 1, 0, v359.toNat]
def k0_off21 (d0 : Dev nD) : Fin 3 → Nat :=
  let c1_241 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_202 : BitVec 32 := 128#32
  let v293 : BitVec 32 := Scalar.muli v2 c128_i32_202
  let v366 : Index := Scalar.indexCast v293
  let c128_242 : Index := 128#32
  ![1, v366.toNat, 128]
def k0_off22 (d0 : Dev nD) : Fin 4 → Nat :=
  let c1_244 : Index := 1#32
  let c2_245 : Index := 2#32
  let c0_246 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_202 : BitVec 32 := 128#32
  let v293 : BitVec 32 := Scalar.muli v2 c128_i32_202
  let v371 : Index := Scalar.indexCast v293
  ![1, 2, 0, v371.toNat]
def k0_off23 (d0 : Dev nD) : Fin 3 → Nat :=
  let c1_248 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_202 : BitVec 32 := 128#32
  let v293 : BitVec 32 := Scalar.muli v2 c128_i32_202
  let v378 : Index := Scalar.indexCast v293
  let c192_249 : Index := 192#32
  ![1, v378.toNat, 192]
def k0_off24 (d0 : Dev nD) : Fin 4 → Nat :=
  let c1_251 : Index := 1#32
  let c3_252 : Index := 3#32
  let c0_253 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_202 : BitVec 32 := 128#32
  let v293 : BitVec 32 := Scalar.muli v2 c128_i32_202
  let v383 : Index := Scalar.indexCast v293
  ![1, 3, 0, v383.toNat]
def k0_off25 (v5 : BitVec 32) : Fin 3 → Nat :=
  let c0_288 : Index := 0#32
  let c128_i32_287 : BitVec 32 := 128#32
  let v422 : BitVec 32 := Scalar.muli v5 c128_i32_287
  let v423 : Index := Scalar.indexCast v422
  let c0_289 : Index := 0#32
  ![0, v423.toNat, 0]
def k0_off26 (v5 : BitVec 32) : Fin 4 → Nat :=
  let c0_291 : Index := 0#32
  let c0_292 : Index := 0#32
  let c0_293 : Index := 0#32
  let c128_i32_287 : BitVec 32 := 128#32
  let v422 : BitVec 32 := Scalar.muli v5 c128_i32_287
  let v428 : Index := Scalar.indexCast v422
  ![0, 0, 0, v428.toNat]
def k0_off27 (v5 : BitVec 32) : Fin 3 → Nat :=
  let c0_295 : Index := 0#32
  let c128_i32_287 : BitVec 32 := 128#32
  let v422 : BitVec 32 := Scalar.muli v5 c128_i32_287
  let v435 : Index := Scalar.indexCast v422
  let c64_296 : Index := 64#32
  ![0, v435.toNat, 64]
def k0_off28 (v5 : BitVec 32) : Fin 4 → Nat :=
  let c0_298 : Index := 0#32
  let c1_299 : Index := 1#32
  let c0_300 : Index := 0#32
  let c128_i32_287 : BitVec 32 := 128#32
  let v422 : BitVec 32 := Scalar.muli v5 c128_i32_287
  let v440 : Index := Scalar.indexCast v422
  ![0, 1, 0, v440.toNat]
def k0_off29 (v5 : BitVec 32) : Fin 3 → Nat :=
  let c0_302 : Index := 0#32
  let c128_i32_287 : BitVec 32 := 128#32
  let v422 : BitVec 32 := Scalar.muli v5 c128_i32_287
  let v447 : Index := Scalar.indexCast v422
  let c128_303 : Index := 128#32
  ![0, v447.toNat, 128]
def k0_off30 (v5 : BitVec 32) : Fin 4 → Nat :=
  let c0_305 : Index := 0#32
  let c2_306 : Index := 2#32
  let c0_307 : Index := 0#32
  let c128_i32_287 : BitVec 32 := 128#32
  let v422 : BitVec 32 := Scalar.muli v5 c128_i32_287
  let v452 : Index := Scalar.indexCast v422
  ![0, 2, 0, v452.toNat]
def k0_off31 (v5 : BitVec 32) : Fin 3 → Nat :=
  let c0_309 : Index := 0#32
  let c128_i32_287 : BitVec 32 := 128#32
  let v422 : BitVec 32 := Scalar.muli v5 c128_i32_287
  let v459 : Index := Scalar.indexCast v422
  let c192_310 : Index := 192#32
  ![0, v459.toNat, 192]
def k0_off32 (v5 : BitVec 32) : Fin 4 → Nat :=
  let c0_312 : Index := 0#32
  let c3_313 : Index := 3#32
  let c0_314 : Index := 0#32
  let c128_i32_287 : BitVec 32 := 128#32
  let v422 : BitVec 32 := Scalar.muli v5 c128_i32_287
  let v464 : Index := Scalar.indexCast v422
  ![0, 3, 0, v464.toNat]
def k0_off33 (v5 : BitVec 32) : Fin 3 → Nat :=
  let c1_316 : Index := 1#32
  let c128_i32_287 : BitVec 32 := 128#32
  let v422 : BitVec 32 := Scalar.muli v5 c128_i32_287
  let v471 : Index := Scalar.indexCast v422
  let c0_317 : Index := 0#32
  ![1, v471.toNat, 0]
def k0_off34 (v5 : BitVec 32) : Fin 4 → Nat :=
  let c1_319 : Index := 1#32
  let c0_320 : Index := 0#32
  let c0_321 : Index := 0#32
  let c128_i32_287 : BitVec 32 := 128#32
  let v422 : BitVec 32 := Scalar.muli v5 c128_i32_287
  let v476 : Index := Scalar.indexCast v422
  ![1, 0, 0, v476.toNat]
def k0_off35 (v5 : BitVec 32) : Fin 3 → Nat :=
  let c1_323 : Index := 1#32
  let c128_i32_287 : BitVec 32 := 128#32
  let v422 : BitVec 32 := Scalar.muli v5 c128_i32_287
  let v483 : Index := Scalar.indexCast v422
  let c64_324 : Index := 64#32
  ![1, v483.toNat, 64]
def k0_off36 (v5 : BitVec 32) : Fin 4 → Nat :=
  let c1_326 : Index := 1#32
  let c1_327 : Index := 1#32
  let c0_328 : Index := 0#32
  let c128_i32_287 : BitVec 32 := 128#32
  let v422 : BitVec 32 := Scalar.muli v5 c128_i32_287
  let v488 : Index := Scalar.indexCast v422
  ![1, 1, 0, v488.toNat]
def k0_off37 (v5 : BitVec 32) : Fin 3 → Nat :=
  let c1_330 : Index := 1#32
  let c128_i32_287 : BitVec 32 := 128#32
  let v422 : BitVec 32 := Scalar.muli v5 c128_i32_287
  let v495 : Index := Scalar.indexCast v422
  let c128_331 : Index := 128#32
  ![1, v495.toNat, 128]
def k0_off38 (v5 : BitVec 32) : Fin 4 → Nat :=
  let c1_333 : Index := 1#32
  let c2_334 : Index := 2#32
  let c0_335 : Index := 0#32
  let c128_i32_287 : BitVec 32 := 128#32
  let v422 : BitVec 32 := Scalar.muli v5 c128_i32_287
  let v500 : Index := Scalar.indexCast v422
  ![1, 2, 0, v500.toNat]
def k0_off39 (v5 : BitVec 32) : Fin 3 → Nat :=
  let c1_337 : Index := 1#32
  let c128_i32_287 : BitVec 32 := 128#32
  let v422 : BitVec 32 := Scalar.muli v5 c128_i32_287
  let v507 : Index := Scalar.indexCast v422
  let c192_338 : Index := 192#32
  ![1, v507.toNat, 192]
def k0_off40 (v5 : BitVec 32) : Fin 4 → Nat :=
  let c1_340 : Index := 1#32
  let c3_341 : Index := 3#32
  let c0_342 : Index := 0#32
  let c128_i32_287 : BitVec 32 := 128#32
  let v422 : BitVec 32 := Scalar.muli v5 c128_i32_287
  let v512 : Index := Scalar.indexCast v422
  ![1, 3, 0, v512.toNat]
def k0_off41 (v5 : BitVec 32) : Fin 3 → Nat :=
  let c0_i32_346 : BitVec 32 := 0#32
  let c128_i32_344 : BitVec 32 := 128#32
  let v519 : BitVec 32 := Scalar.muli v5 c128_i32_344
  let c0_i32_355 : BitVec 32 := 0#32
  ![0, v519.toNat, 0]
def k0_dev16 (v4 : BitVec 32) : Nat :=
  let c0_i32_354 : BitVec 32 := 0#32
  let c1_i32_353 : BitVec 32 := 1#32
  let v520 : BitVec 32 := Scalar.muli v4 c1_i32_353
  let v521 : BitVec 32 := Scalar.addi c0_i32_354 v520
  v521.toNat
def k0_off42 (v5 : BitVec 32) : Fin 3 → Nat :=
  let c0_i32_359 : BitVec 32 := 0#32
  let c128_i32_357 : BitVec 32 := 128#32
  let v530 : BitVec 32 := Scalar.muli v5 c128_i32_357
  let c256_i32_368 : BitVec 32 := 256#32
  ![0, v530.toNat, 256]
def k0_dev17 (v4 : BitVec 32) : Nat :=
  let c0_i32_367 : BitVec 32 := 0#32
  let c1_i32_366 : BitVec 32 := 1#32
  let v531 : BitVec 32 := Scalar.muli v4 c1_i32_366
  let v532 : BitVec 32 := Scalar.addi c0_i32_367 v531
  v532.toNat
def k0_dev18 (v3 : BitVec 32) : Nat :=
  let c0_i32_380 : BitVec 32 := 0#32
  let c1_i32_379 : BitVec 32 := 1#32
  let v542 : BitVec 32 := Scalar.muli v3 c1_i32_379
  let v543 : BitVec 32 := Scalar.addi c0_i32_380 v542
  v543.toNat
def k0_dev19 (v3 : BitVec 32) : Nat :=
  let c0_i32_393 : BitVec 32 := 0#32
  let c1_i32_392 : BitVec 32 := 1#32
  let v553 : BitVec 32 := Scalar.muli v3 c1_i32_392
  let v554 : BitVec 32 := Scalar.addi c0_i32_393 v553
  v554.toNat
def k0_off43 (v5 : BitVec 32) : Fin 3 → Nat :=
  let c1_i32_398 : BitVec 32 := 1#32
  let c128_i32_396 : BitVec 32 := 128#32
  let v563 : BitVec 32 := Scalar.muli v5 c128_i32_396
  let c0_i32_407 : BitVec 32 := 0#32
  ![1, v563.toNat, 0]
def k0_dev20 (v4 : BitVec 32) : Nat :=
  let c0_i32_406 : BitVec 32 := 0#32
  let c1_i32_405 : BitVec 32 := 1#32
  let v564 : BitVec 32 := Scalar.muli v4 c1_i32_405
  let v565 : BitVec 32 := Scalar.addi c0_i32_406 v564
  v565.toNat
def k0_off44 (v5 : BitVec 32) : Fin 3 → Nat :=
  let c1_i32_411 : BitVec 32 := 1#32
  let c128_i32_409 : BitVec 32 := 128#32
  let v574 : BitVec 32 := Scalar.muli v5 c128_i32_409
  let c256_i32_420 : BitVec 32 := 256#32
  ![1, v574.toNat, 256]
def k0_dev21 (v4 : BitVec 32) : Nat :=
  let c0_i32_419 : BitVec 32 := 0#32
  let c1_i32_418 : BitVec 32 := 1#32
  let v575 : BitVec 32 := Scalar.muli v4 c1_i32_418
  let v576 : BitVec 32 := Scalar.addi c0_i32_419 v575
  v576.toNat
def k0_dev22 (v3 : BitVec 32) : Nat :=
  let c0_i32_432 : BitVec 32 := 0#32
  let c1_i32_431 : BitVec 32 := 1#32
  let v586 : BitVec 32 := Scalar.muli v3 c1_i32_431
  let v587 : BitVec 32 := Scalar.addi c0_i32_432 v586
  v587.toNat
def k0_dev23 (v3 : BitVec 32) : Nat :=
  let c0_i32_445 : BitVec 32 := 0#32
  let c1_i32_444 : BitVec 32 := 1#32
  let v597 : BitVec 32 := Scalar.muli v3 c1_i32_444
  let v598 : BitVec 32 := Scalar.addi c0_i32_445 v597
  v598.toNat
def k0_off45 (v615 : BitVec 32) : Fin 3 → Nat :=
  let c0_i32_464 : BitVec 32 := 0#32
  let c128_i32_462 : BitVec 32 := 128#32
  let v616 : BitVec 32 := Scalar.muli v615 c128_i32_462
  let c0_i32_473 : BitVec 32 := 0#32
  ![0, v616.toNat, 0]

def k0_dev24 (v4 : BitVec 32) : Nat :=
  let c0_i32_472 : BitVec 32 := 0#32
  let c1_i32_471 : BitVec 32 := 1#32
  let v617 : BitVec 32 := Scalar.muli v4 c1_i32_471
  let v618 : BitVec 32 := Scalar.addi c0_i32_472 v617
  v618.toNat
def k0_off46 (d0 : Dev nD) : Fin 3 → Nat :=
  let c0_i32_476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_74 : BitVec 32 := 128#32
  let v133 : BitVec 32 := Scalar.muli v2 c128_i32_74
  let c256_i32_485 : BitVec 32 := 256#32
  ![0, v133.toNat, 256]
def k0_off47 (v635 : BitVec 32) : Fin 3 → Nat :=
  let c0_i32_491 : BitVec 32 := 0#32
  let c128_i32_489 : BitVec 32 := 128#32
  let v636 : BitVec 32 := Scalar.muli v635 c128_i32_489
  let c256_i32_500 : BitVec 32 := 256#32
  ![0, v636.toNat, 256]

def k0_dev25 (v4 : BitVec 32) : Nat :=
  let c0_i32_499 : BitVec 32 := 0#32
  let c1_i32_498 : BitVec 32 := 1#32
  let v637 : BitVec 32 := Scalar.muli v4 c1_i32_498
  let v638 : BitVec 32 := Scalar.addi c0_i32_499 v637
  v638.toNat
def k0_off48 (v5 : BitVec 32) : Fin 3 → Nat :=
  let c0_i32_503 : BitVec 32 := 0#32
  let c128_i32_344 : BitVec 32 := 128#32
  let v519 : BitVec 32 := Scalar.muli v5 c128_i32_344
  let c0_i32_512 : BitVec 32 := 0#32
  ![0, v519.toNat, 0]
def k0_off49 (v655 : BitVec 32) : Fin 3 → Nat :=
  let c0_i32_518 : BitVec 32 := 0#32
  let c128_i32_516 : BitVec 32 := 128#32
  let v656 : BitVec 32 := Scalar.muli v655 c128_i32_516
  let c0_i32_527 : BitVec 32 := 0#32
  ![0, v656.toNat, 0]

def k0_dev26 (v4 : BitVec 32) : Nat :=
  let c0_i32_526 : BitVec 32 := 0#32
  let c1_i32_525 : BitVec 32 := 1#32
  let v657 : BitVec 32 := Scalar.muli v4 c1_i32_525
  let v658 : BitVec 32 := Scalar.addi c0_i32_526 v657
  v658.toNat
def k0_off50 (v5 : BitVec 32) : Fin 3 → Nat :=
  let c0_i32_530 : BitVec 32 := 0#32
  let c128_i32_357 : BitVec 32 := 128#32
  let v530 : BitVec 32 := Scalar.muli v5 c128_i32_357
  let c256_i32_539 : BitVec 32 := 256#32
  ![0, v530.toNat, 256]
def k0_off51 (v675 : BitVec 32) : Fin 3 → Nat :=
  let c0_i32_545 : BitVec 32 := 0#32
  let c128_i32_543 : BitVec 32 := 128#32
  let v676 : BitVec 32 := Scalar.muli v675 c128_i32_543
  let c256_i32_554 : BitVec 32 := 256#32
  ![0, v676.toNat, 256]

def k0_dev27 (v4 : BitVec 32) : Nat :=
  let c0_i32_553 : BitVec 32 := 0#32
  let c1_i32_552 : BitVec 32 := 1#32
  let v677 : BitVec 32 := Scalar.muli v4 c1_i32_552
  let v678 : BitVec 32 := Scalar.addi c0_i32_553 v677
  v678.toNat
def k0_off52 (d0 : Dev nD) : Fin 3 → Nat :=
  let c1_i32_557 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_116 : BitVec 32 := 128#32
  let v186 : BitVec 32 := Scalar.muli v2 c128_i32_116
  let c0_i32_566 : BitVec 32 := 0#32
  ![1, v186.toNat, 0]
def k0_off53 (v695 : BitVec 32) : Fin 3 → Nat :=
  let c1_i32_572 : BitVec 32 := 1#32
  let c128_i32_570 : BitVec 32 := 128#32
  let v696 : BitVec 32 := Scalar.muli v695 c128_i32_570
  let c0_i32_581 : BitVec 32 := 0#32
  ![1, v696.toNat, 0]

def k0_dev28 (v4 : BitVec 32) : Nat :=
  let c0_i32_580 : BitVec 32 := 0#32
  let c1_i32_579 : BitVec 32 := 1#32
  let v697 : BitVec 32 := Scalar.muli v4 c1_i32_579
  let v698 : BitVec 32 := Scalar.addi c0_i32_580 v697
  v698.toNat
def k0_off54 (d0 : Dev nD) : Fin 3 → Nat :=
  let c1_i32_584 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_154 : BitVec 32 := 128#32
  let v225 : BitVec 32 := Scalar.muli v2 c128_i32_154
  let c256_i32_593 : BitVec 32 := 256#32
  ![1, v225.toNat, 256]
def k0_off55 (v715 : BitVec 32) : Fin 3 → Nat :=
  let c1_i32_599 : BitVec 32 := 1#32
  let c128_i32_597 : BitVec 32 := 128#32
  let v716 : BitVec 32 := Scalar.muli v715 c128_i32_597
  let c256_i32_608 : BitVec 32 := 256#32
  ![1, v716.toNat, 256]

def k0_dev29 (v4 : BitVec 32) : Nat :=
  let c0_i32_607 : BitVec 32 := 0#32
  let c1_i32_606 : BitVec 32 := 1#32
  let v717 : BitVec 32 := Scalar.muli v4 c1_i32_606
  let v718 : BitVec 32 := Scalar.addi c0_i32_607 v717
  v718.toNat
def k0_off56 (v5 : BitVec 32) : Fin 3 → Nat :=
  let c1_i32_611 : BitVec 32 := 1#32
  let c128_i32_396 : BitVec 32 := 128#32
  let v563 : BitVec 32 := Scalar.muli v5 c128_i32_396
  let c0_i32_620 : BitVec 32 := 0#32
  ![1, v563.toNat, 0]
def k0_off57 (v735 : BitVec 32) : Fin 3 → Nat :=
  let c1_i32_626 : BitVec 32 := 1#32
  let c128_i32_624 : BitVec 32 := 128#32
  let v736 : BitVec 32 := Scalar.muli v735 c128_i32_624
  let c0_i32_635 : BitVec 32 := 0#32
  ![1, v736.toNat, 0]

def k0_dev30 (v4 : BitVec 32) : Nat :=
  let c0_i32_634 : BitVec 32 := 0#32
  let c1_i32_633 : BitVec 32 := 1#32
  let v737 : BitVec 32 := Scalar.muli v4 c1_i32_633
  let v738 : BitVec 32 := Scalar.addi c0_i32_634 v737
  v738.toNat
def k0_off58 (v5 : BitVec 32) : Fin 3 → Nat :=
  let c1_i32_638 : BitVec 32 := 1#32
  let c128_i32_409 : BitVec 32 := 128#32
  let v574 : BitVec 32 := Scalar.muli v5 c128_i32_409
  let c256_i32_647 : BitVec 32 := 256#32
  ![1, v574.toNat, 256]
def k0_off59 (v755 : BitVec 32) : Fin 3 → Nat :=
  let c1_i32_653 : BitVec 32 := 1#32
  let c128_i32_651 : BitVec 32 := 128#32
  let v756 : BitVec 32 := Scalar.muli v755 c128_i32_651
  let c256_i32_662 : BitVec 32 := 256#32
  ![1, v756.toNat, 256]

def k0_dev31 (v4 : BitVec 32) : Nat :=
  let c0_i32_661 : BitVec 32 := 0#32
  let c1_i32_660 : BitVec 32 := 1#32
  let v757 : BitVec 32 := Scalar.muli v4 c1_i32_660
  let v758 : BitVec 32 := Scalar.addi c0_i32_661 v757
  v758.toNat
def k0_off60 (d0 : Dev nD) : Fin 3 → Nat :=
  let c0_i32_665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_51 : BitVec 32 := 128#32
  let v105 : BitVec 32 := Scalar.muli v2 c128_i32_51
  let c0_i32_674 : BitVec 32 := 0#32
  ![0, v105.toNat, 0]
def k0_off61 (v775 : BitVec 32) : Fin 3 → Nat :=
  let c0_i32_680 : BitVec 32 := 0#32
  let c128_i32_678 : BitVec 32 := 128#32
  let v776 : BitVec 32 := Scalar.muli v775 c128_i32_678
  let c0_i32_689 : BitVec 32 := 0#32
  ![0, v776.toNat, 0]

def k0_dev32 (v3 : BitVec 32) : Nat :=
  let c0_i32_688 : BitVec 32 := 0#32
  let c1_i32_687 : BitVec 32 := 1#32
  let v777 : BitVec 32 := Scalar.muli v3 c1_i32_687
  let v778 : BitVec 32 := Scalar.addi c0_i32_688 v777
  v778.toNat
def k0_off62 (d0 : Dev nD) : Fin 3 → Nat :=
  let c0_i32_692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_87 : BitVec 32 := 128#32
  let v144 : BitVec 32 := Scalar.muli v2 c128_i32_87
  let c256_i32_701 : BitVec 32 := 256#32
  ![0, v144.toNat, 256]
def k0_off63 (v795 : BitVec 32) : Fin 3 → Nat :=
  let c0_i32_707 : BitVec 32 := 0#32
  let c128_i32_705 : BitVec 32 := 128#32
  let v796 : BitVec 32 := Scalar.muli v795 c128_i32_705
  let c256_i32_716 : BitVec 32 := 256#32
  ![0, v796.toNat, 256]

def k0_dev33 (v3 : BitVec 32) : Nat :=
  let c0_i32_715 : BitVec 32 := 0#32
  let c1_i32_714 : BitVec 32 := 1#32
  let v797 : BitVec 32 := Scalar.muli v3 c1_i32_714
  let v798 : BitVec 32 := Scalar.addi c0_i32_715 v797
  v798.toNat
def k0_off64 (v5 : BitVec 32) : Fin 3 → Nat :=
  let c0_i32_719 : BitVec 32 := 0#32
  let c128_i32_370 : BitVec 32 := 128#32
  let v541 : BitVec 32 := Scalar.muli v5 c128_i32_370
  let c0_i32_728 : BitVec 32 := 0#32
  ![0, v541.toNat, 0]
def k0_off65 (v815 : BitVec 32) : Fin 3 → Nat :=
  let c0_i32_734 : BitVec 32 := 0#32
  let c128_i32_732 : BitVec 32 := 128#32
  let v816 : BitVec 32 := Scalar.muli v815 c128_i32_732
  let c0_i32_743 : BitVec 32 := 0#32
  ![0, v816.toNat, 0]

def k0_dev34 (v3 : BitVec 32) : Nat :=
  let c0_i32_742 : BitVec 32 := 0#32
  let c1_i32_741 : BitVec 32 := 1#32
  let v817 : BitVec 32 := Scalar.muli v3 c1_i32_741
  let v818 : BitVec 32 := Scalar.addi c0_i32_742 v817
  v818.toNat
def k0_off66 (v5 : BitVec 32) : Fin 3 → Nat :=
  let c0_i32_746 : BitVec 32 := 0#32
  let c128_i32_383 : BitVec 32 := 128#32
  let v552 : BitVec 32 := Scalar.muli v5 c128_i32_383
  let c256_i32_755 : BitVec 32 := 256#32
  ![0, v552.toNat, 256]
def k0_off67 (v835 : BitVec 32) : Fin 3 → Nat :=
  let c0_i32_761 : BitVec 32 := 0#32
  let c128_i32_759 : BitVec 32 := 128#32
  let v836 : BitVec 32 := Scalar.muli v835 c128_i32_759
  let c256_i32_770 : BitVec 32 := 256#32
  ![0, v836.toNat, 256]

def k0_dev35 (v3 : BitVec 32) : Nat :=
  let c0_i32_769 : BitVec 32 := 0#32
  let c1_i32_768 : BitVec 32 := 1#32
  let v837 : BitVec 32 := Scalar.muli v3 c1_i32_768
  let v838 : BitVec 32 := Scalar.addi c0_i32_769 v837
  v838.toNat
def k0_off68 (d0 : Dev nD) : Fin 3 → Nat :=
  let c1_i32_773 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_129 : BitVec 32 := 128#32
  let v197 : BitVec 32 := Scalar.muli v2 c128_i32_129
  let c0_i32_782 : BitVec 32 := 0#32
  ![1, v197.toNat, 0]
def k0_off69 (v855 : BitVec 32) : Fin 3 → Nat :=
  let c1_i32_788 : BitVec 32 := 1#32
  let c128_i32_786 : BitVec 32 := 128#32
  let v856 : BitVec 32 := Scalar.muli v855 c128_i32_786
  let c0_i32_797 : BitVec 32 := 0#32
  ![1, v856.toNat, 0]

def k0_dev36 (v3 : BitVec 32) : Nat :=
  let c0_i32_796 : BitVec 32 := 0#32
  let c1_i32_795 : BitVec 32 := 1#32
  let v857 : BitVec 32 := Scalar.muli v3 c1_i32_795
  let v858 : BitVec 32 := Scalar.addi c0_i32_796 v857
  v858.toNat
def k0_off70 (d0 : Dev nD) : Fin 3 → Nat :=
  let c1_i32_800 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_167 : BitVec 32 := 128#32
  let v236 : BitVec 32 := Scalar.muli v2 c128_i32_167
  let c256_i32_809 : BitVec 32 := 256#32
  ![1, v236.toNat, 256]
def k0_off71 (v875 : BitVec 32) : Fin 3 → Nat :=
  let c1_i32_815 : BitVec 32 := 1#32
  let c128_i32_813 : BitVec 32 := 128#32
  let v876 : BitVec 32 := Scalar.muli v875 c128_i32_813
  let c256_i32_824 : BitVec 32 := 256#32
  ![1, v876.toNat, 256]

def k0_dev37 (v3 : BitVec 32) : Nat :=
  let c0_i32_823 : BitVec 32 := 0#32
  let c1_i32_822 : BitVec 32 := 1#32
  let v877 : BitVec 32 := Scalar.muli v3 c1_i32_822
  let v878 : BitVec 32 := Scalar.addi c0_i32_823 v877
  v878.toNat
def k0_off72 (v5 : BitVec 32) : Fin 3 → Nat :=
  let c1_i32_827 : BitVec 32 := 1#32
  let c128_i32_422 : BitVec 32 := 128#32
  let v585 : BitVec 32 := Scalar.muli v5 c128_i32_422
  let c0_i32_836 : BitVec 32 := 0#32
  ![1, v585.toNat, 0]
def k0_off73 (v895 : BitVec 32) : Fin 3 → Nat :=
  let c1_i32_842 : BitVec 32 := 1#32
  let c128_i32_840 : BitVec 32 := 128#32
  let v896 : BitVec 32 := Scalar.muli v895 c128_i32_840
  let c0_i32_851 : BitVec 32 := 0#32
  ![1, v896.toNat, 0]

def k0_dev38 (v3 : BitVec 32) : Nat :=
  let c0_i32_850 : BitVec 32 := 0#32
  let c1_i32_849 : BitVec 32 := 1#32
  let v897 : BitVec 32 := Scalar.muli v3 c1_i32_849
  let v898 : BitVec 32 := Scalar.addi c0_i32_850 v897
  v898.toNat
def k0_off74 (v5 : BitVec 32) : Fin 3 → Nat :=
  let c1_i32_854 : BitVec 32 := 1#32
  let c128_i32_435 : BitVec 32 := 128#32
  let v596 : BitVec 32 := Scalar.muli v5 c128_i32_435
  let c256_i32_863 : BitVec 32 := 256#32
  ![1, v596.toNat, 256]
def k0_off75 (v915 : BitVec 32) : Fin 3 → Nat :=
  let c1_i32_869 : BitVec 32 := 1#32
  let c128_i32_867 : BitVec 32 := 128#32
  let v916 : BitVec 32 := Scalar.muli v915 c128_i32_867
  let c256_i32_878 : BitVec 32 := 256#32
  ![1, v916.toNat, 256]

def k0_dev39 (v3 : BitVec 32) : Nat :=
  let c0_i32_877 : BitVec 32 := 0#32
  let c1_i32_876 : BitVec 32 := 1#32
  let v917 : BitVec 32 := Scalar.muli v3 c1_i32_876
  let v918 : BitVec 32 := Scalar.addi c0_i32_877 v917
  v918.toNat
def k0_off76 (v927 : BitVec 32) : Fin 3 → Nat :=
  let c0_883 : Index := 0#32
  let c128_i32_882 : BitVec 32 := 128#32
  let v928 : BitVec 32 := Scalar.muli v927 c128_i32_882
  let v929 : Index := Scalar.indexCast v928
  let c0_884 : Index := 0#32
  ![0, v929.toNat, 0]

def k0_off77 (v927 : BitVec 32) : Fin 4 → Nat :=
  let c0_886 : Index := 0#32
  let c0_887 : Index := 0#32
  let c0_888 : Index := 0#32
  let c128_i32_882 : BitVec 32 := 128#32
  let v928 : BitVec 32 := Scalar.muli v927 c128_i32_882
  let v934 : Index := Scalar.indexCast v928
  ![0, 0, 0, v934.toNat]
def k0_off78 (v927 : BitVec 32) : Fin 3 → Nat :=
  let c0_890 : Index := 0#32
  let c128_i32_882 : BitVec 32 := 128#32
  let v928 : BitVec 32 := Scalar.muli v927 c128_i32_882
  let v941 : Index := Scalar.indexCast v928
  let c64_891 : Index := 64#32
  ![0, v941.toNat, 64]
def k0_off79 (v927 : BitVec 32) : Fin 4 → Nat :=
  let c0_893 : Index := 0#32
  let c1_894 : Index := 1#32
  let c0_895 : Index := 0#32
  let c128_i32_882 : BitVec 32 := 128#32
  let v928 : BitVec 32 := Scalar.muli v927 c128_i32_882
  let v946 : Index := Scalar.indexCast v928
  ![0, 1, 0, v946.toNat]
def k0_off80 (v927 : BitVec 32) : Fin 3 → Nat :=
  let c0_897 : Index := 0#32
  let c128_i32_882 : BitVec 32 := 128#32
  let v928 : BitVec 32 := Scalar.muli v927 c128_i32_882
  let v953 : Index := Scalar.indexCast v928
  let c128_898 : Index := 128#32
  ![0, v953.toNat, 128]
def k0_off81 (v927 : BitVec 32) : Fin 4 → Nat :=
  let c0_900 : Index := 0#32
  let c2_901 : Index := 2#32
  let c0_902 : Index := 0#32
  let c128_i32_882 : BitVec 32 := 128#32
  let v928 : BitVec 32 := Scalar.muli v927 c128_i32_882
  let v958 : Index := Scalar.indexCast v928
  ![0, 2, 0, v958.toNat]
def k0_off82 (v927 : BitVec 32) : Fin 3 → Nat :=
  let c0_904 : Index := 0#32
  let c128_i32_882 : BitVec 32 := 128#32
  let v928 : BitVec 32 := Scalar.muli v927 c128_i32_882
  let v965 : Index := Scalar.indexCast v928
  let c192_905 : Index := 192#32
  ![0, v965.toNat, 192]
def k0_off83 (v927 : BitVec 32) : Fin 4 → Nat :=
  let c0_907 : Index := 0#32
  let c3_908 : Index := 3#32
  let c0_909 : Index := 0#32
  let c128_i32_882 : BitVec 32 := 128#32
  let v928 : BitVec 32 := Scalar.muli v927 c128_i32_882
  let v970 : Index := Scalar.indexCast v928
  ![0, 3, 0, v970.toNat]
def k0_off84 (v927 : BitVec 32) : Fin 3 → Nat :=
  let c1_911 : Index := 1#32
  let c128_i32_882 : BitVec 32 := 128#32
  let v928 : BitVec 32 := Scalar.muli v927 c128_i32_882
  let v977 : Index := Scalar.indexCast v928
  let c0_912 : Index := 0#32
  ![1, v977.toNat, 0]
def k0_off85 (v927 : BitVec 32) : Fin 4 → Nat :=
  let c1_914 : Index := 1#32
  let c0_915 : Index := 0#32
  let c0_916 : Index := 0#32
  let c128_i32_882 : BitVec 32 := 128#32
  let v928 : BitVec 32 := Scalar.muli v927 c128_i32_882
  let v982 : Index := Scalar.indexCast v928
  ![1, 0, 0, v982.toNat]
def k0_off86 (v927 : BitVec 32) : Fin 3 → Nat :=
  let c1_918 : Index := 1#32
  let c128_i32_882 : BitVec 32 := 128#32
  let v928 : BitVec 32 := Scalar.muli v927 c128_i32_882
  let v989 : Index := Scalar.indexCast v928
  let c64_919 : Index := 64#32
  ![1, v989.toNat, 64]
def k0_off87 (v927 : BitVec 32) : Fin 4 → Nat :=
  let c1_921 : Index := 1#32
  let c1_922 : Index := 1#32
  let c0_923 : Index := 0#32
  let c128_i32_882 : BitVec 32 := 128#32
  let v928 : BitVec 32 := Scalar.muli v927 c128_i32_882
  let v994 : Index := Scalar.indexCast v928
  ![1, 1, 0, v994.toNat]
def k0_off88 (v927 : BitVec 32) : Fin 3 → Nat :=
  let c1_925 : Index := 1#32
  let c128_i32_882 : BitVec 32 := 128#32
  let v928 : BitVec 32 := Scalar.muli v927 c128_i32_882
  let v1001 : Index := Scalar.indexCast v928
  let c128_926 : Index := 128#32
  ![1, v1001.toNat, 128]
def k0_off89 (v927 : BitVec 32) : Fin 4 → Nat :=
  let c1_928 : Index := 1#32
  let c2_929 : Index := 2#32
  let c0_930 : Index := 0#32
  let c128_i32_882 : BitVec 32 := 128#32
  let v928 : BitVec 32 := Scalar.muli v927 c128_i32_882
  let v1006 : Index := Scalar.indexCast v928
  ![1, 2, 0, v1006.toNat]
def k0_off90 (v927 : BitVec 32) : Fin 3 → Nat :=
  let c1_932 : Index := 1#32
  let c128_i32_882 : BitVec 32 := 128#32
  let v928 : BitVec 32 := Scalar.muli v927 c128_i32_882
  let v1013 : Index := Scalar.indexCast v928
  let c192_933 : Index := 192#32
  ![1, v1013.toNat, 192]
def k0_off91 (v927 : BitVec 32) : Fin 4 → Nat :=
  let c1_935 : Index := 1#32
  let c3_936 : Index := 3#32
  let c0_937 : Index := 0#32
  let c128_i32_882 : BitVec 32 := 128#32
  let v928 : BitVec 32 := Scalar.muli v927 c128_i32_882
  let v1018 : Index := Scalar.indexCast v928
  ![1, 3, 0, v1018.toNat]

def k0_chk20 (v927 : BitVec 32) : Prop :=
  (∀ a, (k0_off76 v927) a + S1x128x64.size a ≤ S2x4096x512.size a) ∧
  (∀ a, (k0_off77 v927) a + S1x1x128x128.size a ≤ S2x4x128x4096.size a) ∧
  (∀ a, (k0_off78 v927) a + S1x128x64.size a ≤ S2x4096x512.size a) ∧
  (∀ a, (k0_off79 v927) a + S1x1x128x128.size a ≤ S2x4x128x4096.size a) ∧
  (∀ a, (k0_off80 v927) a + S1x128x64.size a ≤ S2x4096x512.size a) ∧
  (∀ a, (k0_off81 v927) a + S1x1x128x128.size a ≤ S2x4x128x4096.size a) ∧
  (∀ a, (k0_off82 v927) a + S1x128x64.size a ≤ S2x4096x512.size a) ∧
  (∀ a, (k0_off83 v927) a + S1x1x128x128.size a ≤ S2x4x128x4096.size a) ∧
  (∀ a, (k0_off84 v927) a + S1x128x64.size a ≤ S2x4096x512.size a) ∧
  (∀ a, (k0_off85 v927) a + S1x1x128x128.size a ≤ S2x4x128x4096.size a) ∧
  (∀ a, (k0_off86 v927) a + S1x128x64.size a ≤ S2x4096x512.size a) ∧
  (∀ a, (k0_off87 v927) a + S1x1x128x128.size a ≤ S2x4x128x4096.size a) ∧
  (∀ a, (k0_off88 v927) a + S1x128x64.size a ≤ S2x4096x512.size a) ∧
  (∀ a, (k0_off89 v927) a + S1x1x128x128.size a ≤ S2x4x128x4096.size a) ∧
  (∀ a, (k0_off90 v927) a + S1x128x64.size a ≤ S2x4096x512.size a) ∧
  (∀ a, (k0_off91 v927) a + S1x1x128x128.size a ≤ S2x4x128x4096.size a)
theorem k0_off76_inb : ∀ (v927 : BitVec 32) (k0_hw20 : k0_chk20 v927), ∀ a, (k0_off76 v927) a + S1x128x64.size a ≤ S2x4096x512.size a := fun v927 k0_hw20 => k0_hw20.1
theorem k0_off77_inb : ∀ (v927 : BitVec 32) (k0_hw20 : k0_chk20 v927), ∀ a, (k0_off77 v927) a + S1x1x128x128.size a ≤ S2x4x128x4096.size a := fun v927 k0_hw20 => k0_hw20.2.1
theorem k0_off78_inb : ∀ (v927 : BitVec 32) (k0_hw20 : k0_chk20 v927), ∀ a, (k0_off78 v927) a + S1x128x64.size a ≤ S2x4096x512.size a := fun v927 k0_hw20 => k0_hw20.2.2.1
theorem k0_off79_inb : ∀ (v927 : BitVec 32) (k0_hw20 : k0_chk20 v927), ∀ a, (k0_off79 v927) a + S1x1x128x128.size a ≤ S2x4x128x4096.size a := fun v927 k0_hw20 => k0_hw20.2.2.2.1
theorem k0_off80_inb : ∀ (v927 : BitVec 32) (k0_hw20 : k0_chk20 v927), ∀ a, (k0_off80 v927) a + S1x128x64.size a ≤ S2x4096x512.size a := fun v927 k0_hw20 => k0_hw20.2.2.2.2.1
theorem k0_off81_inb : ∀ (v927 : BitVec 32) (k0_hw20 : k0_chk20 v927), ∀ a, (k0_off81 v927) a + S1x1x128x128.size a ≤ S2x4x128x4096.size a := fun v927 k0_hw20 => k0_hw20.2.2.2.2.2.1
theorem k0_off82_inb : ∀ (v927 : BitVec 32) (k0_hw20 : k0_chk20 v927), ∀ a, (k0_off82 v927) a + S1x128x64.size a ≤ S2x4096x512.size a := fun v927 k0_hw20 => k0_hw20.2.2.2.2.2.2.1
theorem k0_off83_inb : ∀ (v927 : BitVec 32) (k0_hw20 : k0_chk20 v927), ∀ a, (k0_off83 v927) a + S1x1x128x128.size a ≤ S2x4x128x4096.size a := fun v927 k0_hw20 => k0_hw20.2.2.2.2.2.2.2.1
theorem k0_off84_inb : ∀ (v927 : BitVec 32) (k0_hw20 : k0_chk20 v927), ∀ a, (k0_off84 v927) a + S1x128x64.size a ≤ S2x4096x512.size a := fun v927 k0_hw20 => k0_hw20.2.2.2.2.2.2.2.2.1
theorem k0_off85_inb : ∀ (v927 : BitVec 32) (k0_hw20 : k0_chk20 v927), ∀ a, (k0_off85 v927) a + S1x1x128x128.size a ≤ S2x4x128x4096.size a := fun v927 k0_hw20 => k0_hw20.2.2.2.2.2.2.2.2.2.1
theorem k0_off86_inb : ∀ (v927 : BitVec 32) (k0_hw20 : k0_chk20 v927), ∀ a, (k0_off86 v927) a + S1x128x64.size a ≤ S2x4096x512.size a := fun v927 k0_hw20 => k0_hw20.2.2.2.2.2.2.2.2.2.2.1
theorem k0_off87_inb : ∀ (v927 : BitVec 32) (k0_hw20 : k0_chk20 v927), ∀ a, (k0_off87 v927) a + S1x1x128x128.size a ≤ S2x4x128x4096.size a := fun v927 k0_hw20 => k0_hw20.2.2.2.2.2.2.2.2.2.2.2.1
theorem k0_off88_inb : ∀ (v927 : BitVec 32) (k0_hw20 : k0_chk20 v927), ∀ a, (k0_off88 v927) a + S1x128x64.size a ≤ S2x4096x512.size a := fun v927 k0_hw20 => k0_hw20.2.2.2.2.2.2.2.2.2.2.2.2.1
theorem k0_off89_inb : ∀ (v927 : BitVec 32) (k0_hw20 : k0_chk20 v927), ∀ a, (k0_off89 v927) a + S1x1x128x128.size a ≤ S2x4x128x4096.size a := fun v927 k0_hw20 => k0_hw20.2.2.2.2.2.2.2.2.2.2.2.2.2.1
theorem k0_off90_inb : ∀ (v927 : BitVec 32) (k0_hw20 : k0_chk20 v927), ∀ a, (k0_off90 v927) a + S1x128x64.size a ≤ S2x4096x512.size a := fun v927 k0_hw20 => k0_hw20.2.2.2.2.2.2.2.2.2.2.2.2.2.2.1
theorem k0_off91_inb : ∀ (v927 : BitVec 32) (k0_hw20 : k0_chk20 v927), ∀ a, (k0_off91 v927) a + S1x1x128x128.size a ≤ S2x4x128x4096.size a := fun v927 k0_hw20 => k0_hw20.2.2.2.2.2.2.2.2.2.2.2.2.2.2.2

def k0_off92 (v1025 : BitVec 32) : Fin 3 → Nat :=
  let c0_942 : Index := 0#32
  let c128_i32_941 : BitVec 32 := 128#32
  let v1026 : BitVec 32 := Scalar.muli v1025 c128_i32_941
  let v1027 : Index := Scalar.indexCast v1026
  let c0_943 : Index := 0#32
  ![0, v1027.toNat, 0]

def k0_off93 (v1025 : BitVec 32) : Fin 4 → Nat :=
  let c0_945 : Index := 0#32
  let c0_946 : Index := 0#32
  let c0_947 : Index := 0#32
  let c128_i32_941 : BitVec 32 := 128#32
  let v1026 : BitVec 32 := Scalar.muli v1025 c128_i32_941
  let v1032 : Index := Scalar.indexCast v1026
  ![0, 0, 0, v1032.toNat]
def k0_off94 (v1025 : BitVec 32) : Fin 3 → Nat :=
  let c0_949 : Index := 0#32
  let c128_i32_941 : BitVec 32 := 128#32
  let v1026 : BitVec 32 := Scalar.muli v1025 c128_i32_941
  let v1039 : Index := Scalar.indexCast v1026
  let c64_950 : Index := 64#32
  ![0, v1039.toNat, 64]
def k0_off95 (v1025 : BitVec 32) : Fin 4 → Nat :=
  let c0_952 : Index := 0#32
  let c1_953 : Index := 1#32
  let c0_954 : Index := 0#32
  let c128_i32_941 : BitVec 32 := 128#32
  let v1026 : BitVec 32 := Scalar.muli v1025 c128_i32_941
  let v1044 : Index := Scalar.indexCast v1026
  ![0, 1, 0, v1044.toNat]
def k0_off96 (v1025 : BitVec 32) : Fin 3 → Nat :=
  let c0_956 : Index := 0#32
  let c128_i32_941 : BitVec 32 := 128#32
  let v1026 : BitVec 32 := Scalar.muli v1025 c128_i32_941
  let v1051 : Index := Scalar.indexCast v1026
  let c128_957 : Index := 128#32
  ![0, v1051.toNat, 128]
def k0_off97 (v1025 : BitVec 32) : Fin 4 → Nat :=
  let c0_959 : Index := 0#32
  let c2_960 : Index := 2#32
  let c0_961 : Index := 0#32
  let c128_i32_941 : BitVec 32 := 128#32
  let v1026 : BitVec 32 := Scalar.muli v1025 c128_i32_941
  let v1056 : Index := Scalar.indexCast v1026
  ![0, 2, 0, v1056.toNat]
def k0_off98 (v1025 : BitVec 32) : Fin 3 → Nat :=
  let c0_963 : Index := 0#32
  let c128_i32_941 : BitVec 32 := 128#32
  let v1026 : BitVec 32 := Scalar.muli v1025 c128_i32_941
  let v1063 : Index := Scalar.indexCast v1026
  let c192_964 : Index := 192#32
  ![0, v1063.toNat, 192]
def k0_off99 (v1025 : BitVec 32) : Fin 4 → Nat :=
  let c0_966 : Index := 0#32
  let c3_967 : Index := 3#32
  let c0_968 : Index := 0#32
  let c128_i32_941 : BitVec 32 := 128#32
  let v1026 : BitVec 32 := Scalar.muli v1025 c128_i32_941
  let v1068 : Index := Scalar.indexCast v1026
  ![0, 3, 0, v1068.toNat]
def k0_off100 (v1025 : BitVec 32) : Fin 3 → Nat :=
  let c1_970 : Index := 1#32
  let c128_i32_941 : BitVec 32 := 128#32
  let v1026 : BitVec 32 := Scalar.muli v1025 c128_i32_941
  let v1075 : Index := Scalar.indexCast v1026
  let c0_971 : Index := 0#32
  ![1, v1075.toNat, 0]
def k0_off101 (v1025 : BitVec 32) : Fin 4 → Nat :=
  let c1_973 : Index := 1#32
  let c0_974 : Index := 0#32
  let c0_975 : Index := 0#32
  let c128_i32_941 : BitVec 32 := 128#32
  let v1026 : BitVec 32 := Scalar.muli v1025 c128_i32_941
  let v1080 : Index := Scalar.indexCast v1026
  ![1, 0, 0, v1080.toNat]
def k0_off102 (v1025 : BitVec 32) : Fin 3 → Nat :=
  let c1_977 : Index := 1#32
  let c128_i32_941 : BitVec 32 := 128#32
  let v1026 : BitVec 32 := Scalar.muli v1025 c128_i32_941
  let v1087 : Index := Scalar.indexCast v1026
  let c64_978 : Index := 64#32
  ![1, v1087.toNat, 64]
def k0_off103 (v1025 : BitVec 32) : Fin 4 → Nat :=
  let c1_980 : Index := 1#32
  let c1_981 : Index := 1#32
  let c0_982 : Index := 0#32
  let c128_i32_941 : BitVec 32 := 128#32
  let v1026 : BitVec 32 := Scalar.muli v1025 c128_i32_941
  let v1092 : Index := Scalar.indexCast v1026
  ![1, 1, 0, v1092.toNat]
def k0_off104 (v1025 : BitVec 32) : Fin 3 → Nat :=
  let c1_984 : Index := 1#32
  let c128_i32_941 : BitVec 32 := 128#32
  let v1026 : BitVec 32 := Scalar.muli v1025 c128_i32_941
  let v1099 : Index := Scalar.indexCast v1026
  let c128_985 : Index := 128#32
  ![1, v1099.toNat, 128]
def k0_off105 (v1025 : BitVec 32) : Fin 4 → Nat :=
  let c1_987 : Index := 1#32
  let c2_988 : Index := 2#32
  let c0_989 : Index := 0#32
  let c128_i32_941 : BitVec 32 := 128#32
  let v1026 : BitVec 32 := Scalar.muli v1025 c128_i32_941
  let v1104 : Index := Scalar.indexCast v1026
  ![1, 2, 0, v1104.toNat]
def k0_off106 (v1025 : BitVec 32) : Fin 3 → Nat :=
  let c1_991 : Index := 1#32
  let c128_i32_941 : BitVec 32 := 128#32
  let v1026 : BitVec 32 := Scalar.muli v1025 c128_i32_941
  let v1111 : Index := Scalar.indexCast v1026
  let c192_992 : Index := 192#32
  ![1, v1111.toNat, 192]
def k0_off107 (v1025 : BitVec 32) : Fin 4 → Nat :=
  let c1_994 : Index := 1#32
  let c3_995 : Index := 3#32
  let c0_996 : Index := 0#32
  let c128_i32_941 : BitVec 32 := 128#32
  let v1026 : BitVec 32 := Scalar.muli v1025 c128_i32_941
  let v1116 : Index := Scalar.indexCast v1026
  ![1, 3, 0, v1116.toNat]

def k0_chk21 (v1025 : BitVec 32) : Prop :=
  (∀ a, (k0_off92 v1025) a + S1x128x64.size a ≤ S2x4096x512.size a) ∧
  (∀ a, (k0_off93 v1025) a + S1x1x128x128.size a ≤ S2x4x128x4096.size a) ∧
  (∀ a, (k0_off94 v1025) a + S1x128x64.size a ≤ S2x4096x512.size a) ∧
  (∀ a, (k0_off95 v1025) a + S1x1x128x128.size a ≤ S2x4x128x4096.size a) ∧
  (∀ a, (k0_off96 v1025) a + S1x128x64.size a ≤ S2x4096x512.size a) ∧
  (∀ a, (k0_off97 v1025) a + S1x1x128x128.size a ≤ S2x4x128x4096.size a) ∧
  (∀ a, (k0_off98 v1025) a + S1x128x64.size a ≤ S2x4096x512.size a) ∧
  (∀ a, (k0_off99 v1025) a + S1x1x128x128.size a ≤ S2x4x128x4096.size a) ∧
  (∀ a, (k0_off100 v1025) a + S1x128x64.size a ≤ S2x4096x512.size a) ∧
  (∀ a, (k0_off101 v1025) a + S1x1x128x128.size a ≤ S2x4x128x4096.size a) ∧
  (∀ a, (k0_off102 v1025) a + S1x128x64.size a ≤ S2x4096x512.size a) ∧
  (∀ a, (k0_off103 v1025) a + S1x1x128x128.size a ≤ S2x4x128x4096.size a) ∧
  (∀ a, (k0_off104 v1025) a + S1x128x64.size a ≤ S2x4096x512.size a) ∧
  (∀ a, (k0_off105 v1025) a + S1x1x128x128.size a ≤ S2x4x128x4096.size a) ∧
  (∀ a, (k0_off106 v1025) a + S1x128x64.size a ≤ S2x4096x512.size a) ∧
  (∀ a, (k0_off107 v1025) a + S1x1x128x128.size a ≤ S2x4x128x4096.size a)
theorem k0_off92_inb : ∀ (v1025 : BitVec 32) (k0_hw21 : k0_chk21 v1025), ∀ a, (k0_off92 v1025) a + S1x128x64.size a ≤ S2x4096x512.size a := fun v1025 k0_hw21 => k0_hw21.1
theorem k0_off93_inb : ∀ (v1025 : BitVec 32) (k0_hw21 : k0_chk21 v1025), ∀ a, (k0_off93 v1025) a + S1x1x128x128.size a ≤ S2x4x128x4096.size a := fun v1025 k0_hw21 => k0_hw21.2.1
theorem k0_off94_inb : ∀ (v1025 : BitVec 32) (k0_hw21 : k0_chk21 v1025), ∀ a, (k0_off94 v1025) a + S1x128x64.size a ≤ S2x4096x512.size a := fun v1025 k0_hw21 => k0_hw21.2.2.1
theorem k0_off95_inb : ∀ (v1025 : BitVec 32) (k0_hw21 : k0_chk21 v1025), ∀ a, (k0_off95 v1025) a + S1x1x128x128.size a ≤ S2x4x128x4096.size a := fun v1025 k0_hw21 => k0_hw21.2.2.2.1
theorem k0_off96_inb : ∀ (v1025 : BitVec 32) (k0_hw21 : k0_chk21 v1025), ∀ a, (k0_off96 v1025) a + S1x128x64.size a ≤ S2x4096x512.size a := fun v1025 k0_hw21 => k0_hw21.2.2.2.2.1
theorem k0_off97_inb : ∀ (v1025 : BitVec 32) (k0_hw21 : k0_chk21 v1025), ∀ a, (k0_off97 v1025) a + S1x1x128x128.size a ≤ S2x4x128x4096.size a := fun v1025 k0_hw21 => k0_hw21.2.2.2.2.2.1
theorem k0_off98_inb : ∀ (v1025 : BitVec 32) (k0_hw21 : k0_chk21 v1025), ∀ a, (k0_off98 v1025) a + S1x128x64.size a ≤ S2x4096x512.size a := fun v1025 k0_hw21 => k0_hw21.2.2.2.2.2.2.1
theorem k0_off99_inb : ∀ (v1025 : BitVec 32) (k0_hw21 : k0_chk21 v1025), ∀ a, (k0_off99 v1025) a + S1x1x128x128.size a ≤ S2x4x128x4096.size a := fun v1025 k0_hw21 => k0_hw21.2.2.2.2.2.2.2.1
theorem k0_off100_inb : ∀ (v1025 : BitVec 32) (k0_hw21 : k0_chk21 v1025), ∀ a, (k0_off100 v1025) a + S1x128x64.size a ≤ S2x4096x512.size a := fun v1025 k0_hw21 => k0_hw21.2.2.2.2.2.2.2.2.1
theorem k0_off101_inb : ∀ (v1025 : BitVec 32) (k0_hw21 : k0_chk21 v1025), ∀ a, (k0_off101 v1025) a + S1x1x128x128.size a ≤ S2x4x128x4096.size a := fun v1025 k0_hw21 => k0_hw21.2.2.2.2.2.2.2.2.2.1
theorem k0_off102_inb : ∀ (v1025 : BitVec 32) (k0_hw21 : k0_chk21 v1025), ∀ a, (k0_off102 v1025) a + S1x128x64.size a ≤ S2x4096x512.size a := fun v1025 k0_hw21 => k0_hw21.2.2.2.2.2.2.2.2.2.2.1
theorem k0_off103_inb : ∀ (v1025 : BitVec 32) (k0_hw21 : k0_chk21 v1025), ∀ a, (k0_off103 v1025) a + S1x1x128x128.size a ≤ S2x4x128x4096.size a := fun v1025 k0_hw21 => k0_hw21.2.2.2.2.2.2.2.2.2.2.2.1
theorem k0_off104_inb : ∀ (v1025 : BitVec 32) (k0_hw21 : k0_chk21 v1025), ∀ a, (k0_off104 v1025) a + S1x128x64.size a ≤ S2x4096x512.size a := fun v1025 k0_hw21 => k0_hw21.2.2.2.2.2.2.2.2.2.2.2.2.1
theorem k0_off105_inb : ∀ (v1025 : BitVec 32) (k0_hw21 : k0_chk21 v1025), ∀ a, (k0_off105 v1025) a + S1x1x128x128.size a ≤ S2x4x128x4096.size a := fun v1025 k0_hw21 => k0_hw21.2.2.2.2.2.2.2.2.2.2.2.2.2.1
theorem k0_off106_inb : ∀ (v1025 : BitVec 32) (k0_hw21 : k0_chk21 v1025), ∀ a, (k0_off106 v1025) a + S1x128x64.size a ≤ S2x4096x512.size a := fun v1025 k0_hw21 => k0_hw21.2.2.2.2.2.2.2.2.2.2.2.2.2.2.1
theorem k0_off107_inb : ∀ (v1025 : BitVec 32) (k0_hw21 : k0_chk21 v1025), ∀ a, (k0_off107 v1025) a + S1x1x128x128.size a ≤ S2x4x128x4096.size a := fun v1025 k0_hw21 => k0_hw21.2.2.2.2.2.2.2.2.2.2.2.2.2.2.2

def k0_off108 (v1123 : BitVec 32) : Fin 3 → Nat :=
  let c0_1001 : Index := 0#32
  let c128_i32_1000 : BitVec 32 := 128#32
  let v1124 : BitVec 32 := Scalar.muli v1123 c128_i32_1000
  let v1125 : Index := Scalar.indexCast v1124
  let c0_1002 : Index := 0#32
  ![0, v1125.toNat, 0]

def k0_off109 (v1123 : BitVec 32) : Fin 4 → Nat :=
  let c0_1004 : Index := 0#32
  let c0_1005 : Index := 0#32
  let c0_1006 : Index := 0#32
  let c128_i32_1000 : BitVec 32 := 128#32
  let v1124 : BitVec 32 := Scalar.muli v1123 c128_i32_1000
  let v1130 : Index := Scalar.indexCast v1124
  ![0, 0, 0, v1130.toNat]
def k0_off110 (v1123 : BitVec 32) : Fin 3 → Nat :=
  let c0_1008 : Index := 0#32
  let c128_i32_1000 : BitVec 32 := 128#32
  let v1124 : BitVec 32 := Scalar.muli v1123 c128_i32_1000
  let v1137 : Index := Scalar.indexCast v1124
  let c64_1009 : Index := 64#32
  ![0, v1137.toNat, 64]
def k0_off111 (v1123 : BitVec 32) : Fin 4 → Nat :=
  let c0_1011 : Index := 0#32
  let c1_1012 : Index := 1#32
  let c0_1013 : Index := 0#32
  let c128_i32_1000 : BitVec 32 := 128#32
  let v1124 : BitVec 32 := Scalar.muli v1123 c128_i32_1000
  let v1142 : Index := Scalar.indexCast v1124
  ![0, 1, 0, v1142.toNat]
def k0_off112 (v1123 : BitVec 32) : Fin 3 → Nat :=
  let c0_1015 : Index := 0#32
  let c128_i32_1000 : BitVec 32 := 128#32
  let v1124 : BitVec 32 := Scalar.muli v1123 c128_i32_1000
  let v1149 : Index := Scalar.indexCast v1124
  let c128_1016 : Index := 128#32
  ![0, v1149.toNat, 128]
def k0_off113 (v1123 : BitVec 32) : Fin 4 → Nat :=
  let c0_1018 : Index := 0#32
  let c2_1019 : Index := 2#32
  let c0_1020 : Index := 0#32
  let c128_i32_1000 : BitVec 32 := 128#32
  let v1124 : BitVec 32 := Scalar.muli v1123 c128_i32_1000
  let v1154 : Index := Scalar.indexCast v1124
  ![0, 2, 0, v1154.toNat]
def k0_off114 (v1123 : BitVec 32) : Fin 3 → Nat :=
  let c0_1022 : Index := 0#32
  let c128_i32_1000 : BitVec 32 := 128#32
  let v1124 : BitVec 32 := Scalar.muli v1123 c128_i32_1000
  let v1161 : Index := Scalar.indexCast v1124
  let c192_1023 : Index := 192#32
  ![0, v1161.toNat, 192]
def k0_off115 (v1123 : BitVec 32) : Fin 4 → Nat :=
  let c0_1025 : Index := 0#32
  let c3_1026 : Index := 3#32
  let c0_1027 : Index := 0#32
  let c128_i32_1000 : BitVec 32 := 128#32
  let v1124 : BitVec 32 := Scalar.muli v1123 c128_i32_1000
  let v1166 : Index := Scalar.indexCast v1124
  ![0, 3, 0, v1166.toNat]
def k0_off116 (v1123 : BitVec 32) : Fin 3 → Nat :=
  let c1_1029 : Index := 1#32
  let c128_i32_1000 : BitVec 32 := 128#32
  let v1124 : BitVec 32 := Scalar.muli v1123 c128_i32_1000
  let v1173 : Index := Scalar.indexCast v1124
  let c0_1030 : Index := 0#32
  ![1, v1173.toNat, 0]
def k0_off117 (v1123 : BitVec 32) : Fin 4 → Nat :=
  let c1_1032 : Index := 1#32
  let c0_1033 : Index := 0#32
  let c0_1034 : Index := 0#32
  let c128_i32_1000 : BitVec 32 := 128#32
  let v1124 : BitVec 32 := Scalar.muli v1123 c128_i32_1000
  let v1178 : Index := Scalar.indexCast v1124
  ![1, 0, 0, v1178.toNat]
def k0_off118 (v1123 : BitVec 32) : Fin 3 → Nat :=
  let c1_1036 : Index := 1#32
  let c128_i32_1000 : BitVec 32 := 128#32
  let v1124 : BitVec 32 := Scalar.muli v1123 c128_i32_1000
  let v1185 : Index := Scalar.indexCast v1124
  let c64_1037 : Index := 64#32
  ![1, v1185.toNat, 64]
def k0_off119 (v1123 : BitVec 32) : Fin 4 → Nat :=
  let c1_1039 : Index := 1#32
  let c1_1040 : Index := 1#32
  let c0_1041 : Index := 0#32
  let c128_i32_1000 : BitVec 32 := 128#32
  let v1124 : BitVec 32 := Scalar.muli v1123 c128_i32_1000
  let v1190 : Index := Scalar.indexCast v1124
  ![1, 1, 0, v1190.toNat]
def k0_off120 (v1123 : BitVec 32) : Fin 3 → Nat :=
  let c1_1043 : Index := 1#32
  let c128_i32_1000 : BitVec 32 := 128#32
  let v1124 : BitVec 32 := Scalar.muli v1123 c128_i32_1000
  let v1197 : Index := Scalar.indexCast v1124
  let c128_1044 : Index := 128#32
  ![1, v1197.toNat, 128]
def k0_off121 (v1123 : BitVec 32) : Fin 4 → Nat :=
  let c1_1046 : Index := 1#32
  let c2_1047 : Index := 2#32
  let c0_1048 : Index := 0#32
  let c128_i32_1000 : BitVec 32 := 128#32
  let v1124 : BitVec 32 := Scalar.muli v1123 c128_i32_1000
  let v1202 : Index := Scalar.indexCast v1124
  ![1, 2, 0, v1202.toNat]
def k0_off122 (v1123 : BitVec 32) : Fin 3 → Nat :=
  let c1_1050 : Index := 1#32
  let c128_i32_1000 : BitVec 32 := 128#32
  let v1124 : BitVec 32 := Scalar.muli v1123 c128_i32_1000
  let v1209 : Index := Scalar.indexCast v1124
  let c192_1051 : Index := 192#32
  ![1, v1209.toNat, 192]
def k0_off123 (v1123 : BitVec 32) : Fin 4 → Nat :=
  let c1_1053 : Index := 1#32
  let c3_1054 : Index := 3#32
  let c0_1055 : Index := 0#32
  let c128_i32_1000 : BitVec 32 := 128#32
  let v1124 : BitVec 32 := Scalar.muli v1123 c128_i32_1000
  let v1214 : Index := Scalar.indexCast v1124
  ![1, 3, 0, v1214.toNat]

def k0_chk22 (v1123 : BitVec 32) : Prop :=
  (∀ a, (k0_off108 v1123) a + S1x128x64.size a ≤ S2x4096x512.size a) ∧
  (∀ a, (k0_off109 v1123) a + S1x1x128x128.size a ≤ S2x4x128x4096.size a) ∧
  (∀ a, (k0_off110 v1123) a + S1x128x64.size a ≤ S2x4096x512.size a) ∧
  (∀ a, (k0_off111 v1123) a + S1x1x128x128.size a ≤ S2x4x128x4096.size a) ∧
  (∀ a, (k0_off112 v1123) a + S1x128x64.size a ≤ S2x4096x512.size a) ∧
  (∀ a, (k0_off113 v1123) a + S1x1x128x128.size a ≤ S2x4x128x4096.size a) ∧
  (∀ a, (k0_off114 v1123) a + S1x128x64.size a ≤ S2x4096x512.size a) ∧
  (∀ a, (k0_off115 v1123) a + S1x1x128x128.size a ≤ S2x4x128x4096.size a) ∧
  (∀ a, (k0_off116 v1123) a + S1x128x64.size a ≤ S2x4096x512.size a) ∧
  (∀ a, (k0_off117 v1123) a + S1x1x128x128.size a ≤ S2x4x128x4096.size a) ∧
  (∀ a, (k0_off118 v1123) a + S1x128x64.size a ≤ S2x4096x512.size a) ∧
  (∀ a, (k0_off119 v1123) a + S1x1x128x128.size a ≤ S2x4x128x4096.size a) ∧
  (∀ a, (k0_off120 v1123) a + S1x128x64.size a ≤ S2x4096x512.size a) ∧
  (∀ a, (k0_off121 v1123) a + S1x1x128x128.size a ≤ S2x4x128x4096.size a) ∧
  (∀ a, (k0_off122 v1123) a + S1x128x64.size a ≤ S2x4096x512.size a) ∧
  (∀ a, (k0_off123 v1123) a + S1x1x128x128.size a ≤ S2x4x128x4096.size a)
theorem k0_off108_inb : ∀ (v1123 : BitVec 32) (k0_hw22 : k0_chk22 v1123), ∀ a, (k0_off108 v1123) a + S1x128x64.size a ≤ S2x4096x512.size a := fun v1123 k0_hw22 => k0_hw22.1
theorem k0_off109_inb : ∀ (v1123 : BitVec 32) (k0_hw22 : k0_chk22 v1123), ∀ a, (k0_off109 v1123) a + S1x1x128x128.size a ≤ S2x4x128x4096.size a := fun v1123 k0_hw22 => k0_hw22.2.1
theorem k0_off110_inb : ∀ (v1123 : BitVec 32) (k0_hw22 : k0_chk22 v1123), ∀ a, (k0_off110 v1123) a + S1x128x64.size a ≤ S2x4096x512.size a := fun v1123 k0_hw22 => k0_hw22.2.2.1
theorem k0_off111_inb : ∀ (v1123 : BitVec 32) (k0_hw22 : k0_chk22 v1123), ∀ a, (k0_off111 v1123) a + S1x1x128x128.size a ≤ S2x4x128x4096.size a := fun v1123 k0_hw22 => k0_hw22.2.2.2.1
theorem k0_off112_inb : ∀ (v1123 : BitVec 32) (k0_hw22 : k0_chk22 v1123), ∀ a, (k0_off112 v1123) a + S1x128x64.size a ≤ S2x4096x512.size a := fun v1123 k0_hw22 => k0_hw22.2.2.2.2.1
theorem k0_off113_inb : ∀ (v1123 : BitVec 32) (k0_hw22 : k0_chk22 v1123), ∀ a, (k0_off113 v1123) a + S1x1x128x128.size a ≤ S2x4x128x4096.size a := fun v1123 k0_hw22 => k0_hw22.2.2.2.2.2.1
theorem k0_off114_inb : ∀ (v1123 : BitVec 32) (k0_hw22 : k0_chk22 v1123), ∀ a, (k0_off114 v1123) a + S1x128x64.size a ≤ S2x4096x512.size a := fun v1123 k0_hw22 => k0_hw22.2.2.2.2.2.2.1
theorem k0_off115_inb : ∀ (v1123 : BitVec 32) (k0_hw22 : k0_chk22 v1123), ∀ a, (k0_off115 v1123) a + S1x1x128x128.size a ≤ S2x4x128x4096.size a := fun v1123 k0_hw22 => k0_hw22.2.2.2.2.2.2.2.1
theorem k0_off116_inb : ∀ (v1123 : BitVec 32) (k0_hw22 : k0_chk22 v1123), ∀ a, (k0_off116 v1123) a + S1x128x64.size a ≤ S2x4096x512.size a := fun v1123 k0_hw22 => k0_hw22.2.2.2.2.2.2.2.2.1
theorem k0_off117_inb : ∀ (v1123 : BitVec 32) (k0_hw22 : k0_chk22 v1123), ∀ a, (k0_off117 v1123) a + S1x1x128x128.size a ≤ S2x4x128x4096.size a := fun v1123 k0_hw22 => k0_hw22.2.2.2.2.2.2.2.2.2.1
theorem k0_off118_inb : ∀ (v1123 : BitVec 32) (k0_hw22 : k0_chk22 v1123), ∀ a, (k0_off118 v1123) a + S1x128x64.size a ≤ S2x4096x512.size a := fun v1123 k0_hw22 => k0_hw22.2.2.2.2.2.2.2.2.2.2.1
theorem k0_off119_inb : ∀ (v1123 : BitVec 32) (k0_hw22 : k0_chk22 v1123), ∀ a, (k0_off119 v1123) a + S1x1x128x128.size a ≤ S2x4x128x4096.size a := fun v1123 k0_hw22 => k0_hw22.2.2.2.2.2.2.2.2.2.2.2.1
theorem k0_off120_inb : ∀ (v1123 : BitVec 32) (k0_hw22 : k0_chk22 v1123), ∀ a, (k0_off120 v1123) a + S1x128x64.size a ≤ S2x4096x512.size a := fun v1123 k0_hw22 => k0_hw22.2.2.2.2.2.2.2.2.2.2.2.2.1
theorem k0_off121_inb : ∀ (v1123 : BitVec 32) (k0_hw22 : k0_chk22 v1123), ∀ a, (k0_off121 v1123) a + S1x1x128x128.size a ≤ S2x4x128x4096.size a := fun v1123 k0_hw22 => k0_hw22.2.2.2.2.2.2.2.2.2.2.2.2.2.1
theorem k0_off122_inb : ∀ (v1123 : BitVec 32) (k0_hw22 : k0_chk22 v1123), ∀ a, (k0_off122 v1123) a + S1x128x64.size a ≤ S2x4096x512.size a := fun v1123 k0_hw22 => k0_hw22.2.2.2.2.2.2.2.2.2.2.2.2.2.2.1
theorem k0_off123_inb : ∀ (v1123 : BitVec 32) (k0_hw22 : k0_chk22 v1123), ∀ a, (k0_off123 v1123) a + S1x1x128x128.size a ≤ S2x4x128x4096.size a := fun v1123 k0_hw22 => k0_hw22.2.2.2.2.2.2.2.2.2.2.2.2.2.2.2

def k0_off124 (v1221 : BitVec 32) : Fin 3 → Nat :=
  let c0_1060 : Index := 0#32
  let c128_i32_1059 : BitVec 32 := 128#32
  let v1222 : BitVec 32 := Scalar.muli v1221 c128_i32_1059
  let v1223 : Index := Scalar.indexCast v1222
  let c0_1061 : Index := 0#32
  ![0, v1223.toNat, 0]

def k0_off125 (v1221 : BitVec 32) : Fin 4 → Nat :=
  let c0_1063 : Index := 0#32
  let c0_1064 : Index := 0#32
  let c0_1065 : Index := 0#32
  let c128_i32_1059 : BitVec 32 := 128#32
  let v1222 : BitVec 32 := Scalar.muli v1221 c128_i32_1059
  let v1228 : Index := Scalar.indexCast v1222
  ![0, 0, 0, v1228.toNat]
def k0_off126 (v1221 : BitVec 32) : Fin 3 → Nat :=
  let c0_1067 : Index := 0#32
  let c128_i32_1059 : BitVec 32 := 128#32
  let v1222 : BitVec 32 := Scalar.muli v1221 c128_i32_1059
  let v1235 : Index := Scalar.indexCast v1222
  let c64_1068 : Index := 64#32
  ![0, v1235.toNat, 64]
def k0_off127 (v1221 : BitVec 32) : Fin 4 → Nat :=
  let c0_1070 : Index := 0#32
  let c1_1071 : Index := 1#32
  let c0_1072 : Index := 0#32
  let c128_i32_1059 : BitVec 32 := 128#32
  let v1222 : BitVec 32 := Scalar.muli v1221 c128_i32_1059
  let v1240 : Index := Scalar.indexCast v1222
  ![0, 1, 0, v1240.toNat]
def k0_off128 (v1221 : BitVec 32) : Fin 3 → Nat :=
  let c0_1074 : Index := 0#32
  let c128_i32_1059 : BitVec 32 := 128#32
  let v1222 : BitVec 32 := Scalar.muli v1221 c128_i32_1059
  let v1247 : Index := Scalar.indexCast v1222
  let c128_1075 : Index := 128#32
  ![0, v1247.toNat, 128]
def k0_off129 (v1221 : BitVec 32) : Fin 4 → Nat :=
  let c0_1077 : Index := 0#32
  let c2_1078 : Index := 2#32
  let c0_1079 : Index := 0#32
  let c128_i32_1059 : BitVec 32 := 128#32
  let v1222 : BitVec 32 := Scalar.muli v1221 c128_i32_1059
  let v1252 : Index := Scalar.indexCast v1222
  ![0, 2, 0, v1252.toNat]
def k0_off130 (v1221 : BitVec 32) : Fin 3 → Nat :=
  let c0_1081 : Index := 0#32
  let c128_i32_1059 : BitVec 32 := 128#32
  let v1222 : BitVec 32 := Scalar.muli v1221 c128_i32_1059
  let v1259 : Index := Scalar.indexCast v1222
  let c192_1082 : Index := 192#32
  ![0, v1259.toNat, 192]
def k0_off131 (v1221 : BitVec 32) : Fin 4 → Nat :=
  let c0_1084 : Index := 0#32
  let c3_1085 : Index := 3#32
  let c0_1086 : Index := 0#32
  let c128_i32_1059 : BitVec 32 := 128#32
  let v1222 : BitVec 32 := Scalar.muli v1221 c128_i32_1059
  let v1264 : Index := Scalar.indexCast v1222
  ![0, 3, 0, v1264.toNat]
def k0_off132 (v1221 : BitVec 32) : Fin 3 → Nat :=
  let c1_1088 : Index := 1#32
  let c128_i32_1059 : BitVec 32 := 128#32
  let v1222 : BitVec 32 := Scalar.muli v1221 c128_i32_1059
  let v1271 : Index := Scalar.indexCast v1222
  let c0_1089 : Index := 0#32
  ![1, v1271.toNat, 0]
def k0_off133 (v1221 : BitVec 32) : Fin 4 → Nat :=
  let c1_1091 : Index := 1#32
  let c0_1092 : Index := 0#32
  let c0_1093 : Index := 0#32
  let c128_i32_1059 : BitVec 32 := 128#32
  let v1222 : BitVec 32 := Scalar.muli v1221 c128_i32_1059
  let v1276 : Index := Scalar.indexCast v1222
  ![1, 0, 0, v1276.toNat]
def k0_off134 (v1221 : BitVec 32) : Fin 3 → Nat :=
  let c1_1095 : Index := 1#32
  let c128_i32_1059 : BitVec 32 := 128#32
  let v1222 : BitVec 32 := Scalar.muli v1221 c128_i32_1059
  let v1283 : Index := Scalar.indexCast v1222
  let c64_1096 : Index := 64#32
  ![1, v1283.toNat, 64]
def k0_off135 (v1221 : BitVec 32) : Fin 4 → Nat :=
  let c1_1098 : Index := 1#32
  let c1_1099 : Index := 1#32
  let c0_1100 : Index := 0#32
  let c128_i32_1059 : BitVec 32 := 128#32
  let v1222 : BitVec 32 := Scalar.muli v1221 c128_i32_1059
  let v1288 : Index := Scalar.indexCast v1222
  ![1, 1, 0, v1288.toNat]
def k0_off136 (v1221 : BitVec 32) : Fin 3 → Nat :=
  let c1_1102 : Index := 1#32
  let c128_i32_1059 : BitVec 32 := 128#32
  let v1222 : BitVec 32 := Scalar.muli v1221 c128_i32_1059
  let v1295 : Index := Scalar.indexCast v1222
  let c128_1103 : Index := 128#32
  ![1, v1295.toNat, 128]
def k0_off137 (v1221 : BitVec 32) : Fin 4 → Nat :=
  let c1_1105 : Index := 1#32
  let c2_1106 : Index := 2#32
  let c0_1107 : Index := 0#32
  let c128_i32_1059 : BitVec 32 := 128#32
  let v1222 : BitVec 32 := Scalar.muli v1221 c128_i32_1059
  let v1300 : Index := Scalar.indexCast v1222
  ![1, 2, 0, v1300.toNat]
def k0_off138 (v1221 : BitVec 32) : Fin 3 → Nat :=
  let c1_1109 : Index := 1#32
  let c128_i32_1059 : BitVec 32 := 128#32
  let v1222 : BitVec 32 := Scalar.muli v1221 c128_i32_1059
  let v1307 : Index := Scalar.indexCast v1222
  let c192_1110 : Index := 192#32
  ![1, v1307.toNat, 192]
def k0_off139 (v1221 : BitVec 32) : Fin 4 → Nat :=
  let c1_1112 : Index := 1#32
  let c3_1113 : Index := 3#32
  let c0_1114 : Index := 0#32
  let c128_i32_1059 : BitVec 32 := 128#32
  let v1222 : BitVec 32 := Scalar.muli v1221 c128_i32_1059
  let v1312 : Index := Scalar.indexCast v1222
  ![1, 3, 0, v1312.toNat]

def k0_chk23 (v1221 : BitVec 32) : Prop :=
  (∀ a, (k0_off124 v1221) a + S1x128x64.size a ≤ S2x4096x512.size a) ∧
  (∀ a, (k0_off125 v1221) a + S1x1x128x128.size a ≤ S2x4x128x4096.size a) ∧
  (∀ a, (k0_off126 v1221) a + S1x128x64.size a ≤ S2x4096x512.size a) ∧
  (∀ a, (k0_off127 v1221) a + S1x1x128x128.size a ≤ S2x4x128x4096.size a) ∧
  (∀ a, (k0_off128 v1221) a + S1x128x64.size a ≤ S2x4096x512.size a) ∧
  (∀ a, (k0_off129 v1221) a + S1x1x128x128.size a ≤ S2x4x128x4096.size a) ∧
  (∀ a, (k0_off130 v1221) a + S1x128x64.size a ≤ S2x4096x512.size a) ∧
  (∀ a, (k0_off131 v1221) a + S1x1x128x128.size a ≤ S2x4x128x4096.size a) ∧
  (∀ a, (k0_off132 v1221) a + S1x128x64.size a ≤ S2x4096x512.size a) ∧
  (∀ a, (k0_off133 v1221) a + S1x1x128x128.size a ≤ S2x4x128x4096.size a) ∧
  (∀ a, (k0_off134 v1221) a + S1x128x64.size a ≤ S2x4096x512.size a) ∧
  (∀ a, (k0_off135 v1221) a + S1x1x128x128.size a ≤ S2x4x128x4096.size a) ∧
  (∀ a, (k0_off136 v1221) a + S1x128x64.size a ≤ S2x4096x512.size a) ∧
  (∀ a, (k0_off137 v1221) a + S1x1x128x128.size a ≤ S2x4x128x4096.size a) ∧
  (∀ a, (k0_off138 v1221) a + S1x128x64.size a ≤ S2x4096x512.size a) ∧
  (∀ a, (k0_off139 v1221) a + S1x1x128x128.size a ≤ S2x4x128x4096.size a)
theorem k0_off124_inb : ∀ (v1221 : BitVec 32) (k0_hw23 : k0_chk23 v1221), ∀ a, (k0_off124 v1221) a + S1x128x64.size a ≤ S2x4096x512.size a := fun v1221 k0_hw23 => k0_hw23.1
theorem k0_off125_inb : ∀ (v1221 : BitVec 32) (k0_hw23 : k0_chk23 v1221), ∀ a, (k0_off125 v1221) a + S1x1x128x128.size a ≤ S2x4x128x4096.size a := fun v1221 k0_hw23 => k0_hw23.2.1
theorem k0_off126_inb : ∀ (v1221 : BitVec 32) (k0_hw23 : k0_chk23 v1221), ∀ a, (k0_off126 v1221) a + S1x128x64.size a ≤ S2x4096x512.size a := fun v1221 k0_hw23 => k0_hw23.2.2.1
theorem k0_off127_inb : ∀ (v1221 : BitVec 32) (k0_hw23 : k0_chk23 v1221), ∀ a, (k0_off127 v1221) a + S1x1x128x128.size a ≤ S2x4x128x4096.size a := fun v1221 k0_hw23 => k0_hw23.2.2.2.1
theorem k0_off128_inb : ∀ (v1221 : BitVec 32) (k0_hw23 : k0_chk23 v1221), ∀ a, (k0_off128 v1221) a + S1x128x64.size a ≤ S2x4096x512.size a := fun v1221 k0_hw23 => k0_hw23.2.2.2.2.1
theorem k0_off129_inb : ∀ (v1221 : BitVec 32) (k0_hw23 : k0_chk23 v1221), ∀ a, (k0_off129 v1221) a + S1x1x128x128.size a ≤ S2x4x128x4096.size a := fun v1221 k0_hw23 => k0_hw23.2.2.2.2.2.1
theorem k0_off130_inb : ∀ (v1221 : BitVec 32) (k0_hw23 : k0_chk23 v1221), ∀ a, (k0_off130 v1221) a + S1x128x64.size a ≤ S2x4096x512.size a := fun v1221 k0_hw23 => k0_hw23.2.2.2.2.2.2.1
theorem k0_off131_inb : ∀ (v1221 : BitVec 32) (k0_hw23 : k0_chk23 v1221), ∀ a, (k0_off131 v1221) a + S1x1x128x128.size a ≤ S2x4x128x4096.size a := fun v1221 k0_hw23 => k0_hw23.2.2.2.2.2.2.2.1
theorem k0_off132_inb : ∀ (v1221 : BitVec 32) (k0_hw23 : k0_chk23 v1221), ∀ a, (k0_off132 v1221) a + S1x128x64.size a ≤ S2x4096x512.size a := fun v1221 k0_hw23 => k0_hw23.2.2.2.2.2.2.2.2.1
theorem k0_off133_inb : ∀ (v1221 : BitVec 32) (k0_hw23 : k0_chk23 v1221), ∀ a, (k0_off133 v1221) a + S1x1x128x128.size a ≤ S2x4x128x4096.size a := fun v1221 k0_hw23 => k0_hw23.2.2.2.2.2.2.2.2.2.1
theorem k0_off134_inb : ∀ (v1221 : BitVec 32) (k0_hw23 : k0_chk23 v1221), ∀ a, (k0_off134 v1221) a + S1x128x64.size a ≤ S2x4096x512.size a := fun v1221 k0_hw23 => k0_hw23.2.2.2.2.2.2.2.2.2.2.1
theorem k0_off135_inb : ∀ (v1221 : BitVec 32) (k0_hw23 : k0_chk23 v1221), ∀ a, (k0_off135 v1221) a + S1x1x128x128.size a ≤ S2x4x128x4096.size a := fun v1221 k0_hw23 => k0_hw23.2.2.2.2.2.2.2.2.2.2.2.1
theorem k0_off136_inb : ∀ (v1221 : BitVec 32) (k0_hw23 : k0_chk23 v1221), ∀ a, (k0_off136 v1221) a + S1x128x64.size a ≤ S2x4096x512.size a := fun v1221 k0_hw23 => k0_hw23.2.2.2.2.2.2.2.2.2.2.2.2.1
theorem k0_off137_inb : ∀ (v1221 : BitVec 32) (k0_hw23 : k0_chk23 v1221), ∀ a, (k0_off137 v1221) a + S1x1x128x128.size a ≤ S2x4x128x4096.size a := fun v1221 k0_hw23 => k0_hw23.2.2.2.2.2.2.2.2.2.2.2.2.2.1
theorem k0_off138_inb : ∀ (v1221 : BitVec 32) (k0_hw23 : k0_chk23 v1221), ∀ a, (k0_off138 v1221) a + S1x128x64.size a ≤ S2x4096x512.size a := fun v1221 k0_hw23 => k0_hw23.2.2.2.2.2.2.2.2.2.2.2.2.2.2.1
theorem k0_off139_inb : ∀ (v1221 : BitVec 32) (k0_hw23 : k0_chk23 v1221), ∀ a, (k0_off139 v1221) a + S1x1x128x128.size a ≤ S2x4x128x4096.size a := fun v1221 k0_hw23 => k0_hw23.2.2.2.2.2.2.2.2.2.2.2.2.2.2.2

def k0_off140 (v615 : BitVec 32) : Fin 3 → Nat :=
  let c0_i32_1117 : BitVec 32 := 0#32
  let c128_i32_462 : BitVec 32 := 128#32
  let v616 : BitVec 32 := Scalar.muli v615 c128_i32_462
  let c0_i32_1126 : BitVec 32 := 0#32
  ![0, v616.toNat, 0]
def k0_off141 (v1327 : BitVec 32) : Fin 3 → Nat :=
  let c0_i32_1132 : BitVec 32 := 0#32
  let c128_i32_1130 : BitVec 32 := 128#32
  let v1328 : BitVec 32 := Scalar.muli v1327 c128_i32_1130
  let c0_i32_1141 : BitVec 32 := 0#32
  ![0, v1328.toNat, 0]

def k0_dev40 (v4 : BitVec 32) : Nat :=
  let c0_i32_1140 : BitVec 32 := 0#32
  let c1_i32_1139 : BitVec 32 := 1#32
  let v1329 : BitVec 32 := Scalar.muli v4 c1_i32_1139
  let v1330 : BitVec 32 := Scalar.addi c0_i32_1140 v1329
  v1330.toNat
def k0_off142 (v635 : BitVec 32) : Fin 3 → Nat :=
  let c0_i32_1144 : BitVec 32 := 0#32
  let c128_i32_489 : BitVec 32 := 128#32
  let v636 : BitVec 32 := Scalar.muli v635 c128_i32_489
  let c256_i32_1153 : BitVec 32 := 256#32
  ![0, v636.toNat, 256]
def k0_off143 (v1347 : BitVec 32) : Fin 3 → Nat :=
  let c0_i32_1159 : BitVec 32 := 0#32
  let c128_i32_1157 : BitVec 32 := 128#32
  let v1348 : BitVec 32 := Scalar.muli v1347 c128_i32_1157
  let c256_i32_1168 : BitVec 32 := 256#32
  ![0, v1348.toNat, 256]

def k0_dev41 (v4 : BitVec 32) : Nat :=
  let c0_i32_1167 : BitVec 32 := 0#32
  let c1_i32_1166 : BitVec 32 := 1#32
  let v1349 : BitVec 32 := Scalar.muli v4 c1_i32_1166
  let v1350 : BitVec 32 := Scalar.addi c0_i32_1167 v1349
  v1350.toNat
def k0_off144 (v655 : BitVec 32) : Fin 3 → Nat :=
  let c0_i32_1171 : BitVec 32 := 0#32
  let c128_i32_516 : BitVec 32 := 128#32
  let v656 : BitVec 32 := Scalar.muli v655 c128_i32_516
  let c0_i32_1180 : BitVec 32 := 0#32
  ![0, v656.toNat, 0]
def k0_off145 (v1367 : BitVec 32) : Fin 3 → Nat :=
  let c0_i32_1186 : BitVec 32 := 0#32
  let c128_i32_1184 : BitVec 32 := 128#32
  let v1368 : BitVec 32 := Scalar.muli v1367 c128_i32_1184
  let c0_i32_1195 : BitVec 32 := 0#32
  ![0, v1368.toNat, 0]

def k0_dev42 (v4 : BitVec 32) : Nat :=
  let c0_i32_1194 : BitVec 32 := 0#32
  let c1_i32_1193 : BitVec 32 := 1#32
  let v1369 : BitVec 32 := Scalar.muli v4 c1_i32_1193
  let v1370 : BitVec 32 := Scalar.addi c0_i32_1194 v1369
  v1370.toNat
def k0_off146 (v675 : BitVec 32) : Fin 3 → Nat :=
  let c0_i32_1198 : BitVec 32 := 0#32
  let c128_i32_543 : BitVec 32 := 128#32
  let v676 : BitVec 32 := Scalar.muli v675 c128_i32_543
  let c256_i32_1207 : BitVec 32 := 256#32
  ![0, v676.toNat, 256]
def k0_off147 (v1387 : BitVec 32) : Fin 3 → Nat :=
  let c0_i32_1213 : BitVec 32 := 0#32
  let c128_i32_1211 : BitVec 32 := 128#32
  let v1388 : BitVec 32 := Scalar.muli v1387 c128_i32_1211
  let c256_i32_1222 : BitVec 32 := 256#32
  ![0, v1388.toNat, 256]

def k0_dev43 (v4 : BitVec 32) : Nat :=
  let c0_i32_1221 : BitVec 32 := 0#32
  let c1_i32_1220 : BitVec 32 := 1#32
  let v1389 : BitVec 32 := Scalar.muli v4 c1_i32_1220
  let v1390 : BitVec 32 := Scalar.addi c0_i32_1221 v1389
  v1390.toNat
def k0_off148 (v695 : BitVec 32) : Fin 3 → Nat :=
  let c1_i32_1225 : BitVec 32 := 1#32
  let c128_i32_570 : BitVec 32 := 128#32
  let v696 : BitVec 32 := Scalar.muli v695 c128_i32_570
  let c0_i32_1234 : BitVec 32 := 0#32
  ![1, v696.toNat, 0]
def k0_off149 (v1407 : BitVec 32) : Fin 3 → Nat :=
  let c1_i32_1240 : BitVec 32 := 1#32
  let c128_i32_1238 : BitVec 32 := 128#32
  let v1408 : BitVec 32 := Scalar.muli v1407 c128_i32_1238
  let c0_i32_1249 : BitVec 32 := 0#32
  ![1, v1408.toNat, 0]

def k0_dev44 (v4 : BitVec 32) : Nat :=
  let c0_i32_1248 : BitVec 32 := 0#32
  let c1_i32_1247 : BitVec 32 := 1#32
  let v1409 : BitVec 32 := Scalar.muli v4 c1_i32_1247
  let v1410 : BitVec 32 := Scalar.addi c0_i32_1248 v1409
  v1410.toNat
def k0_off150 (v715 : BitVec 32) : Fin 3 → Nat :=
  let c1_i32_1252 : BitVec 32 := 1#32
  let c128_i32_597 : BitVec 32 := 128#32
  let v716 : BitVec 32 := Scalar.muli v715 c128_i32_597
  let c256_i32_1261 : BitVec 32 := 256#32
  ![1, v716.toNat, 256]
def k0_off151 (v1427 : BitVec 32) : Fin 3 → Nat :=
  let c1_i32_1267 : BitVec 32 := 1#32
  let c128_i32_1265 : BitVec 32 := 128#32
  let v1428 : BitVec 32 := Scalar.muli v1427 c128_i32_1265
  let c256_i32_1276 : BitVec 32 := 256#32
  ![1, v1428.toNat, 256]

def k0_dev45 (v4 : BitVec 32) : Nat :=
  let c0_i32_1275 : BitVec 32 := 0#32
  let c1_i32_1274 : BitVec 32 := 1#32
  let v1429 : BitVec 32 := Scalar.muli v4 c1_i32_1274
  let v1430 : BitVec 32 := Scalar.addi c0_i32_1275 v1429
  v1430.toNat
def k0_off152 (v735 : BitVec 32) : Fin 3 → Nat :=
  let c1_i32_1279 : BitVec 32 := 1#32
  let c128_i32_624 : BitVec 32 := 128#32
  let v736 : BitVec 32 := Scalar.muli v735 c128_i32_624
  let c0_i32_1288 : BitVec 32 := 0#32
  ![1, v736.toNat, 0]
def k0_off153 (v1447 : BitVec 32) : Fin 3 → Nat :=
  let c1_i32_1294 : BitVec 32 := 1#32
  let c128_i32_1292 : BitVec 32 := 128#32
  let v1448 : BitVec 32 := Scalar.muli v1447 c128_i32_1292
  let c0_i32_1303 : BitVec 32 := 0#32
  ![1, v1448.toNat, 0]

def k0_dev46 (v4 : BitVec 32) : Nat :=
  let c0_i32_1302 : BitVec 32 := 0#32
  let c1_i32_1301 : BitVec 32 := 1#32
  let v1449 : BitVec 32 := Scalar.muli v4 c1_i32_1301
  let v1450 : BitVec 32 := Scalar.addi c0_i32_1302 v1449
  v1450.toNat
def k0_off154 (v755 : BitVec 32) : Fin 3 → Nat :=
  let c1_i32_1306 : BitVec 32 := 1#32
  let c128_i32_651 : BitVec 32 := 128#32
  let v756 : BitVec 32 := Scalar.muli v755 c128_i32_651
  let c256_i32_1315 : BitVec 32 := 256#32
  ![1, v756.toNat, 256]
def k0_off155 (v1467 : BitVec 32) : Fin 3 → Nat :=
  let c1_i32_1321 : BitVec 32 := 1#32
  let c128_i32_1319 : BitVec 32 := 128#32
  let v1468 : BitVec 32 := Scalar.muli v1467 c128_i32_1319
  let c256_i32_1330 : BitVec 32 := 256#32
  ![1, v1468.toNat, 256]

def k0_dev47 (v4 : BitVec 32) : Nat :=
  let c0_i32_1329 : BitVec 32 := 0#32
  let c1_i32_1328 : BitVec 32 := 1#32
  let v1469 : BitVec 32 := Scalar.muli v4 c1_i32_1328
  let v1470 : BitVec 32 := Scalar.addi c0_i32_1329 v1469
  v1470.toNat
def k0_off156 (v775 : BitVec 32) : Fin 3 → Nat :=
  let c0_i32_1333 : BitVec 32 := 0#32
  let c128_i32_678 : BitVec 32 := 128#32
  let v776 : BitVec 32 := Scalar.muli v775 c128_i32_678
  let c0_i32_1342 : BitVec 32 := 0#32
  ![0, v776.toNat, 0]
def k0_off157 (v1487 : BitVec 32) : Fin 3 → Nat :=
  let c0_i32_1348 : BitVec 32 := 0#32
  let c128_i32_1346 : BitVec 32 := 128#32
  let v1488 : BitVec 32 := Scalar.muli v1487 c128_i32_1346
  let c0_i32_1357 : BitVec 32 := 0#32
  ![0, v1488.toNat, 0]

def k0_dev48 (v3 : BitVec 32) : Nat :=
  let c0_i32_1356 : BitVec 32 := 0#32
  let c1_i32_1355 : BitVec 32 := 1#32
  let v1489 : BitVec 32 := Scalar.muli v3 c1_i32_1355
  let v1490 : BitVec 32 := Scalar.addi c0_i32_1356 v1489
  v1490.toNat
def k0_off158 (v795 : BitVec 32) : Fin 3 → Nat :=
  let c0_i32_1360 : BitVec 32 := 0#32
  let c128_i32_705 : BitVec 32 := 128#32
  let v796 : BitVec 32 := Scalar.muli v795 c128_i32_705
  let c256_i32_1369 : BitVec 32 := 256#32
  ![0, v796.toNat, 256]
def k0_off159 (v1507 : BitVec 32) : Fin 3 → Nat :=
  let c0_i32_1375 : BitVec 32 := 0#32
  let c128_i32_1373 : BitVec 32 := 128#32
  let v1508 : BitVec 32 := Scalar.muli v1507 c128_i32_1373
  let c256_i32_1384 : BitVec 32 := 256#32
  ![0, v1508.toNat, 256]

def k0_dev49 (v3 : BitVec 32) : Nat :=
  let c0_i32_1383 : BitVec 32 := 0#32
  let c1_i32_1382 : BitVec 32 := 1#32
  let v1509 : BitVec 32 := Scalar.muli v3 c1_i32_1382
  let v1510 : BitVec 32 := Scalar.addi c0_i32_1383 v1509
  v1510.toNat
def k0_off160 (v815 : BitVec 32) : Fin 3 → Nat :=
  let c0_i32_1387 : BitVec 32 := 0#32
  let c128_i32_732 : BitVec 32 := 128#32
  let v816 : BitVec 32 := Scalar.muli v815 c128_i32_732
  let c0_i32_1396 : BitVec 32 := 0#32
  ![0, v816.toNat, 0]
def k0_off161 (v1527 : BitVec 32) : Fin 3 → Nat :=
  let c0_i32_1402 : BitVec 32 := 0#32
  let c128_i32_1400 : BitVec 32 := 128#32
  let v1528 : BitVec 32 := Scalar.muli v1527 c128_i32_1400
  let c0_i32_1411 : BitVec 32 := 0#32
  ![0, v1528.toNat, 0]

def k0_dev50 (v3 : BitVec 32) : Nat :=
  let c0_i32_1410 : BitVec 32 := 0#32
  let c1_i32_1409 : BitVec 32 := 1#32
  let v1529 : BitVec 32 := Scalar.muli v3 c1_i32_1409
  let v1530 : BitVec 32 := Scalar.addi c0_i32_1410 v1529
  v1530.toNat
def k0_off162 (v835 : BitVec 32) : Fin 3 → Nat :=
  let c0_i32_1414 : BitVec 32 := 0#32
  let c128_i32_759 : BitVec 32 := 128#32
  let v836 : BitVec 32 := Scalar.muli v835 c128_i32_759
  let c256_i32_1423 : BitVec 32 := 256#32
  ![0, v836.toNat, 256]
def k0_off163 (v1547 : BitVec 32) : Fin 3 → Nat :=
  let c0_i32_1429 : BitVec 32 := 0#32
  let c128_i32_1427 : BitVec 32 := 128#32
  let v1548 : BitVec 32 := Scalar.muli v1547 c128_i32_1427
  let c256_i32_1438 : BitVec 32 := 256#32
  ![0, v1548.toNat, 256]

def k0_dev51 (v3 : BitVec 32) : Nat :=
  let c0_i32_1437 : BitVec 32 := 0#32
  let c1_i32_1436 : BitVec 32 := 1#32
  let v1549 : BitVec 32 := Scalar.muli v3 c1_i32_1436
  let v1550 : BitVec 32 := Scalar.addi c0_i32_1437 v1549
  v1550.toNat
def k0_off164 (v855 : BitVec 32) : Fin 3 → Nat :=
  let c1_i32_1441 : BitVec 32 := 1#32
  let c128_i32_786 : BitVec 32 := 128#32
  let v856 : BitVec 32 := Scalar.muli v855 c128_i32_786
  let c0_i32_1450 : BitVec 32 := 0#32
  ![1, v856.toNat, 0]
def k0_off165 (v1567 : BitVec 32) : Fin 3 → Nat :=
  let c1_i32_1456 : BitVec 32 := 1#32
  let c128_i32_1454 : BitVec 32 := 128#32
  let v1568 : BitVec 32 := Scalar.muli v1567 c128_i32_1454
  let c0_i32_1465 : BitVec 32 := 0#32
  ![1, v1568.toNat, 0]

def k0_dev52 (v3 : BitVec 32) : Nat :=
  let c0_i32_1464 : BitVec 32 := 0#32
  let c1_i32_1463 : BitVec 32 := 1#32
  let v1569 : BitVec 32 := Scalar.muli v3 c1_i32_1463
  let v1570 : BitVec 32 := Scalar.addi c0_i32_1464 v1569
  v1570.toNat
def k0_off166 (v875 : BitVec 32) : Fin 3 → Nat :=
  let c1_i32_1468 : BitVec 32 := 1#32
  let c128_i32_813 : BitVec 32 := 128#32
  let v876 : BitVec 32 := Scalar.muli v875 c128_i32_813
  let c256_i32_1477 : BitVec 32 := 256#32
  ![1, v876.toNat, 256]
def k0_off167 (v1587 : BitVec 32) : Fin 3 → Nat :=
  let c1_i32_1483 : BitVec 32 := 1#32
  let c128_i32_1481 : BitVec 32 := 128#32
  let v1588 : BitVec 32 := Scalar.muli v1587 c128_i32_1481
  let c256_i32_1492 : BitVec 32 := 256#32
  ![1, v1588.toNat, 256]

def k0_dev53 (v3 : BitVec 32) : Nat :=
  let c0_i32_1491 : BitVec 32 := 0#32
  let c1_i32_1490 : BitVec 32 := 1#32
  let v1589 : BitVec 32 := Scalar.muli v3 c1_i32_1490
  let v1590 : BitVec 32 := Scalar.addi c0_i32_1491 v1589
  v1590.toNat
def k0_off168 (v895 : BitVec 32) : Fin 3 → Nat :=
  let c1_i32_1495 : BitVec 32 := 1#32
  let c128_i32_840 : BitVec 32 := 128#32
  let v896 : BitVec 32 := Scalar.muli v895 c128_i32_840
  let c0_i32_1504 : BitVec 32 := 0#32
  ![1, v896.toNat, 0]
def k0_off169 (v1607 : BitVec 32) : Fin 3 → Nat :=
  let c1_i32_1510 : BitVec 32 := 1#32
  let c128_i32_1508 : BitVec 32 := 128#32
  let v1608 : BitVec 32 := Scalar.muli v1607 c128_i32_1508
  let c0_i32_1519 : BitVec 32 := 0#32
  ![1, v1608.toNat, 0]

def k0_dev54 (v3 : BitVec 32) : Nat :=
  let c0_i32_1518 : BitVec 32 := 0#32
  let c1_i32_1517 : BitVec 32 := 1#32
  let v1609 : BitVec 32 := Scalar.muli v3 c1_i32_1517
  let v1610 : BitVec 32 := Scalar.addi c0_i32_1518 v1609
  v1610.toNat
def k0_off170 (v915 : BitVec 32) : Fin 3 → Nat :=
  let c1_i32_1522 : BitVec 32 := 1#32
  let c128_i32_867 : BitVec 32 := 128#32
  let v916 : BitVec 32 := Scalar.muli v915 c128_i32_867
  let c256_i32_1531 : BitVec 32 := 256#32
  ![1, v916.toNat, 256]
def k0_off171 (v1627 : BitVec 32) : Fin 3 → Nat :=
  let c1_i32_1537 : BitVec 32 := 1#32
  let c128_i32_1535 : BitVec 32 := 128#32
  let v1628 : BitVec 32 := Scalar.muli v1627 c128_i32_1535
  let c256_i32_1546 : BitVec 32 := 256#32
  ![1, v1628.toNat, 256]

def k0_dev55 (v3 : BitVec 32) : Nat :=
  let c0_i32_1545 : BitVec 32 := 0#32
  let c1_i32_1544 : BitVec 32 := 1#32
  let v1629 : BitVec 32 := Scalar.muli v3 c1_i32_1544
  let v1630 : BitVec 32 := Scalar.addi c0_i32_1545 v1629
  v1630.toNat
def k0_off172 (v1639 : BitVec 32) : Fin 3 → Nat :=
  let c0_1551 : Index := 0#32
  let c128_i32_1550 : BitVec 32 := 128#32
  let v1640 : BitVec 32 := Scalar.muli v1639 c128_i32_1550
  let v1641 : Index := Scalar.indexCast v1640
  let c0_1552 : Index := 0#32
  ![0, v1641.toNat, 0]

def k0_off173 (v1639 : BitVec 32) : Fin 4 → Nat :=
  let c0_1554 : Index := 0#32
  let c0_1555 : Index := 0#32
  let c0_1556 : Index := 0#32
  let c128_i32_1550 : BitVec 32 := 128#32
  let v1640 : BitVec 32 := Scalar.muli v1639 c128_i32_1550
  let v1646 : Index := Scalar.indexCast v1640
  ![0, 0, 0, v1646.toNat]
def k0_off174 (v1639 : BitVec 32) : Fin 3 → Nat :=
  let c0_1558 : Index := 0#32
  let c128_i32_1550 : BitVec 32 := 128#32
  let v1640 : BitVec 32 := Scalar.muli v1639 c128_i32_1550
  let v1653 : Index := Scalar.indexCast v1640
  let c64_1559 : Index := 64#32
  ![0, v1653.toNat, 64]
def k0_off175 (v1639 : BitVec 32) : Fin 4 → Nat :=
  let c0_1561 : Index := 0#32
  let c1_1562 : Index := 1#32
  let c0_1563 : Index := 0#32
  let c128_i32_1550 : BitVec 32 := 128#32
  let v1640 : BitVec 32 := Scalar.muli v1639 c128_i32_1550
  let v1658 : Index := Scalar.indexCast v1640
  ![0, 1, 0, v1658.toNat]
def k0_off176 (v1639 : BitVec 32) : Fin 3 → Nat :=
  let c0_1565 : Index := 0#32
  let c128_i32_1550 : BitVec 32 := 128#32
  let v1640 : BitVec 32 := Scalar.muli v1639 c128_i32_1550
  let v1665 : Index := Scalar.indexCast v1640
  let c128_1566 : Index := 128#32
  ![0, v1665.toNat, 128]
def k0_off177 (v1639 : BitVec 32) : Fin 4 → Nat :=
  let c0_1568 : Index := 0#32
  let c2_1569 : Index := 2#32
  let c0_1570 : Index := 0#32
  let c128_i32_1550 : BitVec 32 := 128#32
  let v1640 : BitVec 32 := Scalar.muli v1639 c128_i32_1550
  let v1670 : Index := Scalar.indexCast v1640
  ![0, 2, 0, v1670.toNat]
def k0_off178 (v1639 : BitVec 32) : Fin 3 → Nat :=
  let c0_1572 : Index := 0#32
  let c128_i32_1550 : BitVec 32 := 128#32
  let v1640 : BitVec 32 := Scalar.muli v1639 c128_i32_1550
  let v1677 : Index := Scalar.indexCast v1640
  let c192_1573 : Index := 192#32
  ![0, v1677.toNat, 192]
def k0_off179 (v1639 : BitVec 32) : Fin 4 → Nat :=
  let c0_1575 : Index := 0#32
  let c3_1576 : Index := 3#32
  let c0_1577 : Index := 0#32
  let c128_i32_1550 : BitVec 32 := 128#32
  let v1640 : BitVec 32 := Scalar.muli v1639 c128_i32_1550
  let v1682 : Index := Scalar.indexCast v1640
  ![0, 3, 0, v1682.toNat]
def k0_off180 (v1639 : BitVec 32) : Fin 3 → Nat :=
  let c1_1579 : Index := 1#32
  let c128_i32_1550 : BitVec 32 := 128#32
  let v1640 : BitVec 32 := Scalar.muli v1639 c128_i32_1550
  let v1689 : Index := Scalar.indexCast v1640
  let c0_1580 : Index := 0#32
  ![1, v1689.toNat, 0]
def k0_off181 (v1639 : BitVec 32) : Fin 4 → Nat :=
  let c1_1582 : Index := 1#32
  let c0_1583 : Index := 0#32
  let c0_1584 : Index := 0#32
  let c128_i32_1550 : BitVec 32 := 128#32
  let v1640 : BitVec 32 := Scalar.muli v1639 c128_i32_1550
  let v1694 : Index := Scalar.indexCast v1640
  ![1, 0, 0, v1694.toNat]
def k0_off182 (v1639 : BitVec 32) : Fin 3 → Nat :=
  let c1_1586 : Index := 1#32
  let c128_i32_1550 : BitVec 32 := 128#32
  let v1640 : BitVec 32 := Scalar.muli v1639 c128_i32_1550
  let v1701 : Index := Scalar.indexCast v1640
  let c64_1587 : Index := 64#32
  ![1, v1701.toNat, 64]
def k0_off183 (v1639 : BitVec 32) : Fin 4 → Nat :=
  let c1_1589 : Index := 1#32
  let c1_1590 : Index := 1#32
  let c0_1591 : Index := 0#32
  let c128_i32_1550 : BitVec 32 := 128#32
  let v1640 : BitVec 32 := Scalar.muli v1639 c128_i32_1550
  let v1706 : Index := Scalar.indexCast v1640
  ![1, 1, 0, v1706.toNat]
def k0_off184 (v1639 : BitVec 32) : Fin 3 → Nat :=
  let c1_1593 : Index := 1#32
  let c128_i32_1550 : BitVec 32 := 128#32
  let v1640 : BitVec 32 := Scalar.muli v1639 c128_i32_1550
  let v1713 : Index := Scalar.indexCast v1640
  let c128_1594 : Index := 128#32
  ![1, v1713.toNat, 128]
def k0_off185 (v1639 : BitVec 32) : Fin 4 → Nat :=
  let c1_1596 : Index := 1#32
  let c2_1597 : Index := 2#32
  let c0_1598 : Index := 0#32
  let c128_i32_1550 : BitVec 32 := 128#32
  let v1640 : BitVec 32 := Scalar.muli v1639 c128_i32_1550
  let v1718 : Index := Scalar.indexCast v1640
  ![1, 2, 0, v1718.toNat]
def k0_off186 (v1639 : BitVec 32) : Fin 3 → Nat :=
  let c1_1600 : Index := 1#32
  let c128_i32_1550 : BitVec 32 := 128#32
  let v1640 : BitVec 32 := Scalar.muli v1639 c128_i32_1550
  let v1725 : Index := Scalar.indexCast v1640
  let c192_1601 : Index := 192#32
  ![1, v1725.toNat, 192]
def k0_off187 (v1639 : BitVec 32) : Fin 4 → Nat :=
  let c1_1603 : Index := 1#32
  let c3_1604 : Index := 3#32
  let c0_1605 : Index := 0#32
  let c128_i32_1550 : BitVec 32 := 128#32
  let v1640 : BitVec 32 := Scalar.muli v1639 c128_i32_1550
  let v1730 : Index := Scalar.indexCast v1640
  ![1, 3, 0, v1730.toNat]

def k0_chk40 (v1639 : BitVec 32) : Prop :=
  (∀ a, (k0_off172 v1639) a + S1x128x64.size a ≤ S2x4096x512.size a) ∧
  (∀ a, (k0_off173 v1639) a + S1x1x128x128.size a ≤ S2x4x128x4096.size a) ∧
  (∀ a, (k0_off174 v1639) a + S1x128x64.size a ≤ S2x4096x512.size a) ∧
  (∀ a, (k0_off175 v1639) a + S1x1x128x128.size a ≤ S2x4x128x4096.size a) ∧
  (∀ a, (k0_off176 v1639) a + S1x128x64.size a ≤ S2x4096x512.size a) ∧
  (∀ a, (k0_off177 v1639) a + S1x1x128x128.size a ≤ S2x4x128x4096.size a) ∧
  (∀ a, (k0_off178 v1639) a + S1x128x64.size a ≤ S2x4096x512.size a) ∧
  (∀ a, (k0_off179 v1639) a + S1x1x128x128.size a ≤ S2x4x128x4096.size a) ∧
  (∀ a, (k0_off180 v1639) a + S1x128x64.size a ≤ S2x4096x512.size a) ∧
  (∀ a, (k0_off181 v1639) a + S1x1x128x128.size a ≤ S2x4x128x4096.size a) ∧
  (∀ a, (k0_off182 v1639) a + S1x128x64.size a ≤ S2x4096x512.size a) ∧
  (∀ a, (k0_off183 v1639) a + S1x1x128x128.size a ≤ S2x4x128x4096.size a) ∧
  (∀ a, (k0_off184 v1639) a + S1x128x64.size a ≤ S2x4096x512.size a) ∧
  (∀ a, (k0_off185 v1639) a + S1x1x128x128.size a ≤ S2x4x128x4096.size a) ∧
  (∀ a, (k0_off186 v1639) a + S1x128x64.size a ≤ S2x4096x512.size a) ∧
  (∀ a, (k0_off187 v1639) a + S1x1x128x128.size a ≤ S2x4x128x4096.size a)
theorem k0_off172_inb : ∀ (v1639 : BitVec 32) (k0_hw40 : k0_chk40 v1639), ∀ a, (k0_off172 v1639) a + S1x128x64.size a ≤ S2x4096x512.size a := fun v1639 k0_hw40 => k0_hw40.1
theorem k0_off173_inb : ∀ (v1639 : BitVec 32) (k0_hw40 : k0_chk40 v1639), ∀ a, (k0_off173 v1639) a + S1x1x128x128.size a ≤ S2x4x128x4096.size a := fun v1639 k0_hw40 => k0_hw40.2.1
theorem k0_off174_inb : ∀ (v1639 : BitVec 32) (k0_hw40 : k0_chk40 v1639), ∀ a, (k0_off174 v1639) a + S1x128x64.size a ≤ S2x4096x512.size a := fun v1639 k0_hw40 => k0_hw40.2.2.1
theorem k0_off175_inb : ∀ (v1639 : BitVec 32) (k0_hw40 : k0_chk40 v1639), ∀ a, (k0_off175 v1639) a + S1x1x128x128.size a ≤ S2x4x128x4096.size a := fun v1639 k0_hw40 => k0_hw40.2.2.2.1
theorem k0_off176_inb : ∀ (v1639 : BitVec 32) (k0_hw40 : k0_chk40 v1639), ∀ a, (k0_off176 v1639) a + S1x128x64.size a ≤ S2x4096x512.size a := fun v1639 k0_hw40 => k0_hw40.2.2.2.2.1
theorem k0_off177_inb : ∀ (v1639 : BitVec 32) (k0_hw40 : k0_chk40 v1639), ∀ a, (k0_off177 v1639) a + S1x1x128x128.size a ≤ S2x4x128x4096.size a := fun v1639 k0_hw40 => k0_hw40.2.2.2.2.2.1
theorem k0_off178_inb : ∀ (v1639 : BitVec 32) (k0_hw40 : k0_chk40 v1639), ∀ a, (k0_off178 v1639) a + S1x128x64.size a ≤ S2x4096x512.size a := fun v1639 k0_hw40 => k0_hw40.2.2.2.2.2.2.1
theorem k0_off179_inb : ∀ (v1639 : BitVec 32) (k0_hw40 : k0_chk40 v1639), ∀ a, (k0_off179 v1639) a + S1x1x128x128.size a ≤ S2x4x128x4096.size a := fun v1639 k0_hw40 => k0_hw40.2.2.2.2.2.2.2.1
theorem k0_off180_inb : ∀ (v1639 : BitVec 32) (k0_hw40 : k0_chk40 v1639), ∀ a, (k0_off180 v1639) a + S1x128x64.size a ≤ S2x4096x512.size a := fun v1639 k0_hw40 => k0_hw40.2.2.2.2.2.2.2.2.1
theorem k0_off181_inb : ∀ (v1639 : BitVec 32) (k0_hw40 : k0_chk40 v1639), ∀ a, (k0_off181 v1639) a + S1x1x128x128.size a ≤ S2x4x128x4096.size a := fun v1639 k0_hw40 => k0_hw40.2.2.2.2.2.2.2.2.2.1
theorem k0_off182_inb : ∀ (v1639 : BitVec 32) (k0_hw40 : k0_chk40 v1639), ∀ a, (k0_off182 v1639) a + S1x128x64.size a ≤ S2x4096x512.size a := fun v1639 k0_hw40 => k0_hw40.2.2.2.2.2.2.2.2.2.2.1
theorem k0_off183_inb : ∀ (v1639 : BitVec 32) (k0_hw40 : k0_chk40 v1639), ∀ a, (k0_off183 v1639) a + S1x1x128x128.size a ≤ S2x4x128x4096.size a := fun v1639 k0_hw40 => k0_hw40.2.2.2.2.2.2.2.2.2.2.2.1
theorem k0_off184_inb : ∀ (v1639 : BitVec 32) (k0_hw40 : k0_chk40 v1639), ∀ a, (k0_off184 v1639) a + S1x128x64.size a ≤ S2x4096x512.size a := fun v1639 k0_hw40 => k0_hw40.2.2.2.2.2.2.2.2.2.2.2.2.1
theorem k0_off185_inb : ∀ (v1639 : BitVec 32) (k0_hw40 : k0_chk40 v1639), ∀ a, (k0_off185 v1639) a + S1x1x128x128.size a ≤ S2x4x128x4096.size a := fun v1639 k0_hw40 => k0_hw40.2.2.2.2.2.2.2.2.2.2.2.2.2.1
theorem k0_off186_inb : ∀ (v1639 : BitVec 32) (k0_hw40 : k0_chk40 v1639), ∀ a, (k0_off186 v1639) a + S1x128x64.size a ≤ S2x4096x512.size a := fun v1639 k0_hw40 => k0_hw40.2.2.2.2.2.2.2.2.2.2.2.2.2.2.1
theorem k0_off187_inb : ∀ (v1639 : BitVec 32) (k0_hw40 : k0_chk40 v1639), ∀ a, (k0_off187 v1639) a + S1x1x128x128.size a ≤ S2x4x128x4096.size a := fun v1639 k0_hw40 => k0_hw40.2.2.2.2.2.2.2.2.2.2.2.2.2.2.2

def k0_off188 (v1737 : BitVec 32) : Fin 3 → Nat :=
  let c0_1610 : Index := 0#32
  let c128_i32_1609 : BitVec 32 := 128#32
  let v1738 : BitVec 32 := Scalar.muli v1737 c128_i32_1609
  let v1739 : Index := Scalar.indexCast v1738
  let c0_1611 : Index := 0#32
  ![0, v1739.toNat, 0]

def k0_off189 (v1737 : BitVec 32) : Fin 4 → Nat :=
  let c0_1613 : Index := 0#32
  let c0_1614 : Index := 0#32
  let c0_1615 : Index := 0#32
  let c128_i32_1609 : BitVec 32 := 128#32
  let v1738 : BitVec 32 := Scalar.muli v1737 c128_i32_1609
  let v1744 : Index := Scalar.indexCast v1738
  ![0, 0, 0, v1744.toNat]
def k0_off190 (v1737 : BitVec 32) : Fin 3 → Nat :=
  let c0_1617 : Index := 0#32
  let c128_i32_1609 : BitVec 32 := 128#32
  let v1738 : BitVec 32 := Scalar.muli v1737 c128_i32_1609
  let v1751 : Index := Scalar.indexCast v1738
  let c64_1618 : Index := 64#32
  ![0, v1751.toNat, 64]
def k0_off191 (v1737 : BitVec 32) : Fin 4 → Nat :=
  let c0_1620 : Index := 0#32
  let c1_1621 : Index := 1#32
  let c0_1622 : Index := 0#32
  let c128_i32_1609 : BitVec 32 := 128#32
  let v1738 : BitVec 32 := Scalar.muli v1737 c128_i32_1609
  let v1756 : Index := Scalar.indexCast v1738
  ![0, 1, 0, v1756.toNat]
def k0_off192 (v1737 : BitVec 32) : Fin 3 → Nat :=
  let c0_1624 : Index := 0#32
  let c128_i32_1609 : BitVec 32 := 128#32
  let v1738 : BitVec 32 := Scalar.muli v1737 c128_i32_1609
  let v1763 : Index := Scalar.indexCast v1738
  let c128_1625 : Index := 128#32
  ![0, v1763.toNat, 128]
def k0_off193 (v1737 : BitVec 32) : Fin 4 → Nat :=
  let c0_1627 : Index := 0#32
  let c2_1628 : Index := 2#32
  let c0_1629 : Index := 0#32
  let c128_i32_1609 : BitVec 32 := 128#32
  let v1738 : BitVec 32 := Scalar.muli v1737 c128_i32_1609
  let v1768 : Index := Scalar.indexCast v1738
  ![0, 2, 0, v1768.toNat]
def k0_off194 (v1737 : BitVec 32) : Fin 3 → Nat :=
  let c0_1631 : Index := 0#32
  let c128_i32_1609 : BitVec 32 := 128#32
  let v1738 : BitVec 32 := Scalar.muli v1737 c128_i32_1609
  let v1775 : Index := Scalar.indexCast v1738
  let c192_1632 : Index := 192#32
  ![0, v1775.toNat, 192]
def k0_off195 (v1737 : BitVec 32) : Fin 4 → Nat :=
  let c0_1634 : Index := 0#32
  let c3_1635 : Index := 3#32
  let c0_1636 : Index := 0#32
  let c128_i32_1609 : BitVec 32 := 128#32
  let v1738 : BitVec 32 := Scalar.muli v1737 c128_i32_1609
  let v1780 : Index := Scalar.indexCast v1738
  ![0, 3, 0, v1780.toNat]
def k0_off196 (v1737 : BitVec 32) : Fin 3 → Nat :=
  let c1_1638 : Index := 1#32
  let c128_i32_1609 : BitVec 32 := 128#32
  let v1738 : BitVec 32 := Scalar.muli v1737 c128_i32_1609
  let v1787 : Index := Scalar.indexCast v1738
  let c0_1639 : Index := 0#32
  ![1, v1787.toNat, 0]
def k0_off197 (v1737 : BitVec 32) : Fin 4 → Nat :=
  let c1_1641 : Index := 1#32
  let c0_1642 : Index := 0#32
  let c0_1643 : Index := 0#32
  let c128_i32_1609 : BitVec 32 := 128#32
  let v1738 : BitVec 32 := Scalar.muli v1737 c128_i32_1609
  let v1792 : Index := Scalar.indexCast v1738
  ![1, 0, 0, v1792.toNat]
def k0_off198 (v1737 : BitVec 32) : Fin 3 → Nat :=
  let c1_1645 : Index := 1#32
  let c128_i32_1609 : BitVec 32 := 128#32
  let v1738 : BitVec 32 := Scalar.muli v1737 c128_i32_1609
  let v1799 : Index := Scalar.indexCast v1738
  let c64_1646 : Index := 64#32
  ![1, v1799.toNat, 64]
def k0_off199 (v1737 : BitVec 32) : Fin 4 → Nat :=
  let c1_1648 : Index := 1#32
  let c1_1649 : Index := 1#32
  let c0_1650 : Index := 0#32
  let c128_i32_1609 : BitVec 32 := 128#32
  let v1738 : BitVec 32 := Scalar.muli v1737 c128_i32_1609
  let v1804 : Index := Scalar.indexCast v1738
  ![1, 1, 0, v1804.toNat]
def k0_off200 (v1737 : BitVec 32) : Fin 3 → Nat :=
  let c1_1652 : Index := 1#32
  let c128_i32_1609 : BitVec 32 := 128#32
  let v1738 : BitVec 32 := Scalar.muli v1737 c128_i32_1609
  let v1811 : Index := Scalar.indexCast v1738
  let c128_1653 : Index := 128#32
  ![1, v1811.toNat, 128]
def k0_off201 (v1737 : BitVec 32) : Fin 4 → Nat :=
  let c1_1655 : Index := 1#32
  let c2_1656 : Index := 2#32
  let c0_1657 : Index := 0#32
  let c128_i32_1609 : BitVec 32 := 128#32
  let v1738 : BitVec 32 := Scalar.muli v1737 c128_i32_1609
  let v1816 : Index := Scalar.indexCast v1738
  ![1, 2, 0, v1816.toNat]
def k0_off202 (v1737 : BitVec 32) : Fin 3 → Nat :=
  let c1_1659 : Index := 1#32
  let c128_i32_1609 : BitVec 32 := 128#32
  let v1738 : BitVec 32 := Scalar.muli v1737 c128_i32_1609
  let v1823 : Index := Scalar.indexCast v1738
  let c192_1660 : Index := 192#32
  ![1, v1823.toNat, 192]
def k0_off203 (v1737 : BitVec 32) : Fin 4 → Nat :=
  let c1_1662 : Index := 1#32
  let c3_1663 : Index := 3#32
  let c0_1664 : Index := 0#32
  let c128_i32_1609 : BitVec 32 := 128#32
  let v1738 : BitVec 32 := Scalar.muli v1737 c128_i32_1609
  let v1828 : Index := Scalar.indexCast v1738
  ![1, 3, 0, v1828.toNat]

def k0_chk41 (v1737 : BitVec 32) : Prop :=
  (∀ a, (k0_off188 v1737) a + S1x128x64.size a ≤ S2x4096x512.size a) ∧
  (∀ a, (k0_off189 v1737) a + S1x1x128x128.size a ≤ S2x4x128x4096.size a) ∧
  (∀ a, (k0_off190 v1737) a + S1x128x64.size a ≤ S2x4096x512.size a) ∧
  (∀ a, (k0_off191 v1737) a + S1x1x128x128.size a ≤ S2x4x128x4096.size a) ∧
  (∀ a, (k0_off192 v1737) a + S1x128x64.size a ≤ S2x4096x512.size a) ∧
  (∀ a, (k0_off193 v1737) a + S1x1x128x128.size a ≤ S2x4x128x4096.size a) ∧
  (∀ a, (k0_off194 v1737) a + S1x128x64.size a ≤ S2x4096x512.size a) ∧
  (∀ a, (k0_off195 v1737) a + S1x1x128x128.size a ≤ S2x4x128x4096.size a) ∧
  (∀ a, (k0_off196 v1737) a + S1x128x64.size a ≤ S2x4096x512.size a) ∧
  (∀ a, (k0_off197 v1737) a + S1x1x128x128.size a ≤ S2x4x128x4096.size a) ∧
  (∀ a, (k0_off198 v1737) a + S1x128x64.size a ≤ S2x4096x512.size a) ∧
  (∀ a, (k0_off199 v1737) a + S1x1x128x128.size a ≤ S2x4x128x4096.size a) ∧
  (∀ a, (k0_off200 v1737) a + S1x128x64.size a ≤ S2x4096x512.size a) ∧
  (∀ a, (k0_off201 v1737) a + S1x1x128x128.size a ≤ S2x4x128x4096.size a) ∧
  (∀ a, (k0_off202 v1737) a + S1x128x64.size a ≤ S2x4096x512.size a) ∧
  (∀ a, (k0_off203 v1737) a + S1x1x128x128.size a ≤ S2x4x128x4096.size a)
theorem k0_off188_inb : ∀ (v1737 : BitVec 32) (k0_hw41 : k0_chk41 v1737), ∀ a, (k0_off188 v1737) a + S1x128x64.size a ≤ S2x4096x512.size a := fun v1737 k0_hw41 => k0_hw41.1
theorem k0_off189_inb : ∀ (v1737 : BitVec 32) (k0_hw41 : k0_chk41 v1737), ∀ a, (k0_off189 v1737) a + S1x1x128x128.size a ≤ S2x4x128x4096.size a := fun v1737 k0_hw41 => k0_hw41.2.1
theorem k0_off190_inb : ∀ (v1737 : BitVec 32) (k0_hw41 : k0_chk41 v1737), ∀ a, (k0_off190 v1737) a + S1x128x64.size a ≤ S2x4096x512.size a := fun v1737 k0_hw41 => k0_hw41.2.2.1
theorem k0_off191_inb : ∀ (v1737 : BitVec 32) (k0_hw41 : k0_chk41 v1737), ∀ a, (k0_off191 v1737) a + S1x1x128x128.size a ≤ S2x4x128x4096.size a := fun v1737 k0_hw41 => k0_hw41.2.2.2.1
theorem k0_off192_inb : ∀ (v1737 : BitVec 32) (k0_hw41 : k0_chk41 v1737), ∀ a, (k0_off192 v1737) a + S1x128x64.size a ≤ S2x4096x512.size a := fun v1737 k0_hw41 => k0_hw41.2.2.2.2.1
theorem k0_off193_inb : ∀ (v1737 : BitVec 32) (k0_hw41 : k0_chk41 v1737), ∀ a, (k0_off193 v1737) a + S1x1x128x128.size a ≤ S2x4x128x4096.size a := fun v1737 k0_hw41 => k0_hw41.2.2.2.2.2.1
theorem k0_off194_inb : ∀ (v1737 : BitVec 32) (k0_hw41 : k0_chk41 v1737), ∀ a, (k0_off194 v1737) a + S1x128x64.size a ≤ S2x4096x512.size a := fun v1737 k0_hw41 => k0_hw41.2.2.2.2.2.2.1
theorem k0_off195_inb : ∀ (v1737 : BitVec 32) (k0_hw41 : k0_chk41 v1737), ∀ a, (k0_off195 v1737) a + S1x1x128x128.size a ≤ S2x4x128x4096.size a := fun v1737 k0_hw41 => k0_hw41.2.2.2.2.2.2.2.1
theorem k0_off196_inb : ∀ (v1737 : BitVec 32) (k0_hw41 : k0_chk41 v1737), ∀ a, (k0_off196 v1737) a + S1x128x64.size a ≤ S2x4096x512.size a := fun v1737 k0_hw41 => k0_hw41.2.2.2.2.2.2.2.2.1
theorem k0_off197_inb : ∀ (v1737 : BitVec 32) (k0_hw41 : k0_chk41 v1737), ∀ a, (k0_off197 v1737) a + S1x1x128x128.size a ≤ S2x4x128x4096.size a := fun v1737 k0_hw41 => k0_hw41.2.2.2.2.2.2.2.2.2.1
theorem k0_off198_inb : ∀ (v1737 : BitVec 32) (k0_hw41 : k0_chk41 v1737), ∀ a, (k0_off198 v1737) a + S1x128x64.size a ≤ S2x4096x512.size a := fun v1737 k0_hw41 => k0_hw41.2.2.2.2.2.2.2.2.2.2.1
theorem k0_off199_inb : ∀ (v1737 : BitVec 32) (k0_hw41 : k0_chk41 v1737), ∀ a, (k0_off199 v1737) a + S1x1x128x128.size a ≤ S2x4x128x4096.size a := fun v1737 k0_hw41 => k0_hw41.2.2.2.2.2.2.2.2.2.2.2.1
theorem k0_off200_inb : ∀ (v1737 : BitVec 32) (k0_hw41 : k0_chk41 v1737), ∀ a, (k0_off200 v1737) a + S1x128x64.size a ≤ S2x4096x512.size a := fun v1737 k0_hw41 => k0_hw41.2.2.2.2.2.2.2.2.2.2.2.2.1
theorem k0_off201_inb : ∀ (v1737 : BitVec 32) (k0_hw41 : k0_chk41 v1737), ∀ a, (k0_off201 v1737) a + S1x1x128x128.size a ≤ S2x4x128x4096.size a := fun v1737 k0_hw41 => k0_hw41.2.2.2.2.2.2.2.2.2.2.2.2.2.1
theorem k0_off202_inb : ∀ (v1737 : BitVec 32) (k0_hw41 : k0_chk41 v1737), ∀ a, (k0_off202 v1737) a + S1x128x64.size a ≤ S2x4096x512.size a := fun v1737 k0_hw41 => k0_hw41.2.2.2.2.2.2.2.2.2.2.2.2.2.2.1
theorem k0_off203_inb : ∀ (v1737 : BitVec 32) (k0_hw41 : k0_chk41 v1737), ∀ a, (k0_off203 v1737) a + S1x1x128x128.size a ≤ S2x4x128x4096.size a := fun v1737 k0_hw41 => k0_hw41.2.2.2.2.2.2.2.2.2.2.2.2.2.2.2

def k0_off204 (v1835 : BitVec 32) : Fin 3 → Nat :=
  let c0_1669 : Index := 0#32
  let c128_i32_1668 : BitVec 32 := 128#32
  let v1836 : BitVec 32 := Scalar.muli v1835 c128_i32_1668
  let v1837 : Index := Scalar.indexCast v1836
  let c0_1670 : Index := 0#32
  ![0, v1837.toNat, 0]

def k0_off205 (v1835 : BitVec 32) : Fin 4 → Nat :=
  let c0_1672 : Index := 0#32
  let c0_1673 : Index := 0#32
  let c0_1674 : Index := 0#32
  let c128_i32_1668 : BitVec 32 := 128#32
  let v1836 : BitVec 32 := Scalar.muli v1835 c128_i32_1668
  let v1842 : Index := Scalar.indexCast v1836
  ![0, 0, 0, v1842.toNat]
def k0_off206 (v1835 : BitVec 32) : Fin 3 → Nat :=
  let c0_1676 : Index := 0#32
  let c128_i32_1668 : BitVec 32 := 128#32
  let v1836 : BitVec 32 := Scalar.muli v1835 c128_i32_1668
  let v1849 : Index := Scalar.indexCast v1836
  let c64_1677 : Index := 64#32
  ![0, v1849.toNat, 64]
def k0_off207 (v1835 : BitVec 32) : Fin 4 → Nat :=
  let c0_1679 : Index := 0#32
  let c1_1680 : Index := 1#32
  let c0_1681 : Index := 0#32
  let c128_i32_1668 : BitVec 32 := 128#32
  let v1836 : BitVec 32 := Scalar.muli v1835 c128_i32_1668
  let v1854 : Index := Scalar.indexCast v1836
  ![0, 1, 0, v1854.toNat]
def k0_off208 (v1835 : BitVec 32) : Fin 3 → Nat :=
  let c0_1683 : Index := 0#32
  let c128_i32_1668 : BitVec 32 := 128#32
  let v1836 : BitVec 32 := Scalar.muli v1835 c128_i32_1668
  let v1861 : Index := Scalar.indexCast v1836
  let c128_1684 : Index := 128#32
  ![0, v1861.toNat, 128]
def k0_off209 (v1835 : BitVec 32) : Fin 4 → Nat :=
  let c0_1686 : Index := 0#32
  let c2_1687 : Index := 2#32
  let c0_1688 : Index := 0#32
  let c128_i32_1668 : BitVec 32 := 128#32
  let v1836 : BitVec 32 := Scalar.muli v1835 c128_i32_1668
  let v1866 : Index := Scalar.indexCast v1836
  ![0, 2, 0, v1866.toNat]
def k0_off210 (v1835 : BitVec 32) : Fin 3 → Nat :=
  let c0_1690 : Index := 0#32
  let c128_i32_1668 : BitVec 32 := 128#32
  let v1836 : BitVec 32 := Scalar.muli v1835 c128_i32_1668
  let v1873 : Index := Scalar.indexCast v1836
  let c192_1691 : Index := 192#32
  ![0, v1873.toNat, 192]
def k0_off211 (v1835 : BitVec 32) : Fin 4 → Nat :=
  let c0_1693 : Index := 0#32
  let c3_1694 : Index := 3#32
  let c0_1695 : Index := 0#32
  let c128_i32_1668 : BitVec 32 := 128#32
  let v1836 : BitVec 32 := Scalar.muli v1835 c128_i32_1668
  let v1878 : Index := Scalar.indexCast v1836
  ![0, 3, 0, v1878.toNat]
def k0_off212 (v1835 : BitVec 32) : Fin 3 → Nat :=
  let c1_1697 : Index := 1#32
  let c128_i32_1668 : BitVec 32 := 128#32
  let v1836 : BitVec 32 := Scalar.muli v1835 c128_i32_1668
  let v1885 : Index := Scalar.indexCast v1836
  let c0_1698 : Index := 0#32
  ![1, v1885.toNat, 0]
def k0_off213 (v1835 : BitVec 32) : Fin 4 → Nat :=
  let c1_1700 : Index := 1#32
  let c0_1701 : Index := 0#32
  let c0_1702 : Index := 0#32
  let c128_i32_1668 : BitVec 32 := 128#32
  let v1836 : BitVec 32 := Scalar.muli v1835 c128_i32_1668
  let v1890 : Index := Scalar.indexCast v1836
  ![1, 0, 0, v1890.toNat]
def k0_off214 (v1835 : BitVec 32) : Fin 3 → Nat :=
  let c1_1704 : Index := 1#32
  let c128_i32_1668 : BitVec 32 := 128#32
  let v1836 : BitVec 32 := Scalar.muli v1835 c128_i32_1668
  let v1897 : Index := Scalar.indexCast v1836
  let c64_1705 : Index := 64#32
  ![1, v1897.toNat, 64]
def k0_off215 (v1835 : BitVec 32) : Fin 4 → Nat :=
  let c1_1707 : Index := 1#32
  let c1_1708 : Index := 1#32
  let c0_1709 : Index := 0#32
  let c128_i32_1668 : BitVec 32 := 128#32
  let v1836 : BitVec 32 := Scalar.muli v1835 c128_i32_1668
  let v1902 : Index := Scalar.indexCast v1836
  ![1, 1, 0, v1902.toNat]
def k0_off216 (v1835 : BitVec 32) : Fin 3 → Nat :=
  let c1_1711 : Index := 1#32
  let c128_i32_1668 : BitVec 32 := 128#32
  let v1836 : BitVec 32 := Scalar.muli v1835 c128_i32_1668
  let v1909 : Index := Scalar.indexCast v1836
  let c128_1712 : Index := 128#32
  ![1, v1909.toNat, 128]
def k0_off217 (v1835 : BitVec 32) : Fin 4 → Nat :=
  let c1_1714 : Index := 1#32
  let c2_1715 : Index := 2#32
  let c0_1716 : Index := 0#32
  let c128_i32_1668 : BitVec 32 := 128#32
  let v1836 : BitVec 32 := Scalar.muli v1835 c128_i32_1668
  let v1914 : Index := Scalar.indexCast v1836
  ![1, 2, 0, v1914.toNat]
def k0_off218 (v1835 : BitVec 32) : Fin 3 → Nat :=
  let c1_1718 : Index := 1#32
  let c128_i32_1668 : BitVec 32 := 128#32
  let v1836 : BitVec 32 := Scalar.muli v1835 c128_i32_1668
  let v1921 : Index := Scalar.indexCast v1836
  let c192_1719 : Index := 192#32
  ![1, v1921.toNat, 192]
def k0_off219 (v1835 : BitVec 32) : Fin 4 → Nat :=
  let c1_1721 : Index := 1#32
  let c3_1722 : Index := 3#32
  let c0_1723 : Index := 0#32
  let c128_i32_1668 : BitVec 32 := 128#32
  let v1836 : BitVec 32 := Scalar.muli v1835 c128_i32_1668
  let v1926 : Index := Scalar.indexCast v1836
  ![1, 3, 0, v1926.toNat]

def k0_chk42 (v1835 : BitVec 32) : Prop :=
  (∀ a, (k0_off204 v1835) a + S1x128x64.size a ≤ S2x4096x512.size a) ∧
  (∀ a, (k0_off205 v1835) a + S1x1x128x128.size a ≤ S2x4x128x4096.size a) ∧
  (∀ a, (k0_off206 v1835) a + S1x128x64.size a ≤ S2x4096x512.size a) ∧
  (∀ a, (k0_off207 v1835) a + S1x1x128x128.size a ≤ S2x4x128x4096.size a) ∧
  (∀ a, (k0_off208 v1835) a + S1x128x64.size a ≤ S2x4096x512.size a) ∧
  (∀ a, (k0_off209 v1835) a + S1x1x128x128.size a ≤ S2x4x128x4096.size a) ∧
  (∀ a, (k0_off210 v1835) a + S1x128x64.size a ≤ S2x4096x512.size a) ∧
  (∀ a, (k0_off211 v1835) a + S1x1x128x128.size a ≤ S2x4x128x4096.size a) ∧
  (∀ a, (k0_off212 v1835) a + S1x128x64.size a ≤ S2x4096x512.size a) ∧
  (∀ a, (k0_off213 v1835) a + S1x1x128x128.size a ≤ S2x4x128x4096.size a) ∧
  (∀ a, (k0_off214 v1835) a + S1x128x64.size a ≤ S2x4096x512.size a) ∧
  (∀ a, (k0_off215 v1835) a + S1x1x128x128.size a ≤ S2x4x128x4096.size a) ∧
  (∀ a, (k0_off216 v1835) a + S1x128x64.size a ≤ S2x4096x512.size a) ∧
  (∀ a, (k0_off217 v1835) a + S1x1x128x128.size a ≤ S2x4x128x4096.size a) ∧
  (∀ a, (k0_off218 v1835) a + S1x128x64.size a ≤ S2x4096x512.size a) ∧
  (∀ a, (k0_off219 v1835) a + S1x1x128x128.size a ≤ S2x4x128x4096.size a)
theorem k0_off204_inb : ∀ (v1835 : BitVec 32) (k0_hw42 : k0_chk42 v1835), ∀ a, (k0_off204 v1835) a + S1x128x64.size a ≤ S2x4096x512.size a := fun v1835 k0_hw42 => k0_hw42.1
theorem k0_off205_inb : ∀ (v1835 : BitVec 32) (k0_hw42 : k0_chk42 v1835), ∀ a, (k0_off205 v1835) a + S1x1x128x128.size a ≤ S2x4x128x4096.size a := fun v1835 k0_hw42 => k0_hw42.2.1
theorem k0_off206_inb : ∀ (v1835 : BitVec 32) (k0_hw42 : k0_chk42 v1835), ∀ a, (k0_off206 v1835) a + S1x128x64.size a ≤ S2x4096x512.size a := fun v1835 k0_hw42 => k0_hw42.2.2.1
theorem k0_off207_inb : ∀ (v1835 : BitVec 32) (k0_hw42 : k0_chk42 v1835), ∀ a, (k0_off207 v1835) a + S1x1x128x128.size a ≤ S2x4x128x4096.size a := fun v1835 k0_hw42 => k0_hw42.2.2.2.1
theorem k0_off208_inb : ∀ (v1835 : BitVec 32) (k0_hw42 : k0_chk42 v1835), ∀ a, (k0_off208 v1835) a + S1x128x64.size a ≤ S2x4096x512.size a := fun v1835 k0_hw42 => k0_hw42.2.2.2.2.1
theorem k0_off209_inb : ∀ (v1835 : BitVec 32) (k0_hw42 : k0_chk42 v1835), ∀ a, (k0_off209 v1835) a + S1x1x128x128.size a ≤ S2x4x128x4096.size a := fun v1835 k0_hw42 => k0_hw42.2.2.2.2.2.1
theorem k0_off210_inb : ∀ (v1835 : BitVec 32) (k0_hw42 : k0_chk42 v1835), ∀ a, (k0_off210 v1835) a + S1x128x64.size a ≤ S2x4096x512.size a := fun v1835 k0_hw42 => k0_hw42.2.2.2.2.2.2.1
theorem k0_off211_inb : ∀ (v1835 : BitVec 32) (k0_hw42 : k0_chk42 v1835), ∀ a, (k0_off211 v1835) a + S1x1x128x128.size a ≤ S2x4x128x4096.size a := fun v1835 k0_hw42 => k0_hw42.2.2.2.2.2.2.2.1
theorem k0_off212_inb : ∀ (v1835 : BitVec 32) (k0_hw42 : k0_chk42 v1835), ∀ a, (k0_off212 v1835) a + S1x128x64.size a ≤ S2x4096x512.size a := fun v1835 k0_hw42 => k0_hw42.2.2.2.2.2.2.2.2.1
theorem k0_off213_inb : ∀ (v1835 : BitVec 32) (k0_hw42 : k0_chk42 v1835), ∀ a, (k0_off213 v1835) a + S1x1x128x128.size a ≤ S2x4x128x4096.size a := fun v1835 k0_hw42 => k0_hw42.2.2.2.2.2.2.2.2.2.1
theorem k0_off214_inb : ∀ (v1835 : BitVec 32) (k0_hw42 : k0_chk42 v1835), ∀ a, (k0_off214 v1835) a + S1x128x64.size a ≤ S2x4096x512.size a := fun v1835 k0_hw42 => k0_hw42.2.2.2.2.2.2.2.2.2.2.1
theorem k0_off215_inb : ∀ (v1835 : BitVec 32) (k0_hw42 : k0_chk42 v1835), ∀ a, (k0_off215 v1835) a + S1x1x128x128.size a ≤ S2x4x128x4096.size a := fun v1835 k0_hw42 => k0_hw42.2.2.2.2.2.2.2.2.2.2.2.1
theorem k0_off216_inb : ∀ (v1835 : BitVec 32) (k0_hw42 : k0_chk42 v1835), ∀ a, (k0_off216 v1835) a + S1x128x64.size a ≤ S2x4096x512.size a := fun v1835 k0_hw42 => k0_hw42.2.2.2.2.2.2.2.2.2.2.2.2.1
theorem k0_off217_inb : ∀ (v1835 : BitVec 32) (k0_hw42 : k0_chk42 v1835), ∀ a, (k0_off217 v1835) a + S1x1x128x128.size a ≤ S2x4x128x4096.size a := fun v1835 k0_hw42 => k0_hw42.2.2.2.2.2.2.2.2.2.2.2.2.2.1
theorem k0_off218_inb : ∀ (v1835 : BitVec 32) (k0_hw42 : k0_chk42 v1835), ∀ a, (k0_off218 v1835) a + S1x128x64.size a ≤ S2x4096x512.size a := fun v1835 k0_hw42 => k0_hw42.2.2.2.2.2.2.2.2.2.2.2.2.2.2.1
theorem k0_off219_inb : ∀ (v1835 : BitVec 32) (k0_hw42 : k0_chk42 v1835), ∀ a, (k0_off219 v1835) a + S1x1x128x128.size a ≤ S2x4x128x4096.size a := fun v1835 k0_hw42 => k0_hw42.2.2.2.2.2.2.2.2.2.2.2.2.2.2.2

def k0_off220 (v1933 : BitVec 32) : Fin 3 → Nat :=
  let c0_1728 : Index := 0#32
  let c128_i32_1727 : BitVec 32 := 128#32
  let v1934 : BitVec 32 := Scalar.muli v1933 c128_i32_1727
  let v1935 : Index := Scalar.indexCast v1934
  let c0_1729 : Index := 0#32
  ![0, v1935.toNat, 0]

def k0_off221 (v1933 : BitVec 32) : Fin 4 → Nat :=
  let c0_1731 : Index := 0#32
  let c0_1732 : Index := 0#32
  let c0_1733 : Index := 0#32
  let c128_i32_1727 : BitVec 32 := 128#32
  let v1934 : BitVec 32 := Scalar.muli v1933 c128_i32_1727
  let v1940 : Index := Scalar.indexCast v1934
  ![0, 0, 0, v1940.toNat]
def k0_off222 (v1933 : BitVec 32) : Fin 3 → Nat :=
  let c0_1735 : Index := 0#32
  let c128_i32_1727 : BitVec 32 := 128#32
  let v1934 : BitVec 32 := Scalar.muli v1933 c128_i32_1727
  let v1947 : Index := Scalar.indexCast v1934
  let c64_1736 : Index := 64#32
  ![0, v1947.toNat, 64]
def k0_off223 (v1933 : BitVec 32) : Fin 4 → Nat :=
  let c0_1738 : Index := 0#32
  let c1_1739 : Index := 1#32
  let c0_1740 : Index := 0#32
  let c128_i32_1727 : BitVec 32 := 128#32
  let v1934 : BitVec 32 := Scalar.muli v1933 c128_i32_1727
  let v1952 : Index := Scalar.indexCast v1934
  ![0, 1, 0, v1952.toNat]
def k0_off224 (v1933 : BitVec 32) : Fin 3 → Nat :=
  let c0_1742 : Index := 0#32
  let c128_i32_1727 : BitVec 32 := 128#32
  let v1934 : BitVec 32 := Scalar.muli v1933 c128_i32_1727
  let v1959 : Index := Scalar.indexCast v1934
  let c128_1743 : Index := 128#32
  ![0, v1959.toNat, 128]
def k0_off225 (v1933 : BitVec 32) : Fin 4 → Nat :=
  let c0_1745 : Index := 0#32
  let c2_1746 : Index := 2#32
  let c0_1747 : Index := 0#32
  let c128_i32_1727 : BitVec 32 := 128#32
  let v1934 : BitVec 32 := Scalar.muli v1933 c128_i32_1727
  let v1964 : Index := Scalar.indexCast v1934
  ![0, 2, 0, v1964.toNat]
def k0_off226 (v1933 : BitVec 32) : Fin 3 → Nat :=
  let c0_1749 : Index := 0#32
  let c128_i32_1727 : BitVec 32 := 128#32
  let v1934 : BitVec 32 := Scalar.muli v1933 c128_i32_1727
  let v1971 : Index := Scalar.indexCast v1934
  let c192_1750 : Index := 192#32
  ![0, v1971.toNat, 192]
def k0_off227 (v1933 : BitVec 32) : Fin 4 → Nat :=
  let c0_1752 : Index := 0#32
  let c3_1753 : Index := 3#32
  let c0_1754 : Index := 0#32
  let c128_i32_1727 : BitVec 32 := 128#32
  let v1934 : BitVec 32 := Scalar.muli v1933 c128_i32_1727
  let v1976 : Index := Scalar.indexCast v1934
  ![0, 3, 0, v1976.toNat]
def k0_off228 (v1933 : BitVec 32) : Fin 3 → Nat :=
  let c1_1756 : Index := 1#32
  let c128_i32_1727 : BitVec 32 := 128#32
  let v1934 : BitVec 32 := Scalar.muli v1933 c128_i32_1727
  let v1983 : Index := Scalar.indexCast v1934
  let c0_1757 : Index := 0#32
  ![1, v1983.toNat, 0]
def k0_off229 (v1933 : BitVec 32) : Fin 4 → Nat :=
  let c1_1759 : Index := 1#32
  let c0_1760 : Index := 0#32
  let c0_1761 : Index := 0#32
  let c128_i32_1727 : BitVec 32 := 128#32
  let v1934 : BitVec 32 := Scalar.muli v1933 c128_i32_1727
  let v1988 : Index := Scalar.indexCast v1934
  ![1, 0, 0, v1988.toNat]
def k0_off230 (v1933 : BitVec 32) : Fin 3 → Nat :=
  let c1_1763 : Index := 1#32
  let c128_i32_1727 : BitVec 32 := 128#32
  let v1934 : BitVec 32 := Scalar.muli v1933 c128_i32_1727
  let v1995 : Index := Scalar.indexCast v1934
  let c64_1764 : Index := 64#32
  ![1, v1995.toNat, 64]
def k0_off231 (v1933 : BitVec 32) : Fin 4 → Nat :=
  let c1_1766 : Index := 1#32
  let c1_1767 : Index := 1#32
  let c0_1768 : Index := 0#32
  let c128_i32_1727 : BitVec 32 := 128#32
  let v1934 : BitVec 32 := Scalar.muli v1933 c128_i32_1727
  let v2000 : Index := Scalar.indexCast v1934
  ![1, 1, 0, v2000.toNat]
def k0_off232 (v1933 : BitVec 32) : Fin 3 → Nat :=
  let c1_1770 : Index := 1#32
  let c128_i32_1727 : BitVec 32 := 128#32
  let v1934 : BitVec 32 := Scalar.muli v1933 c128_i32_1727
  let v2007 : Index := Scalar.indexCast v1934
  let c128_1771 : Index := 128#32
  ![1, v2007.toNat, 128]
def k0_off233 (v1933 : BitVec 32) : Fin 4 → Nat :=
  let c1_1773 : Index := 1#32
  let c2_1774 : Index := 2#32
  let c0_1775 : Index := 0#32
  let c128_i32_1727 : BitVec 32 := 128#32
  let v1934 : BitVec 32 := Scalar.muli v1933 c128_i32_1727
  let v2012 : Index := Scalar.indexCast v1934
  ![1, 2, 0, v2012.toNat]
def k0_off234 (v1933 : BitVec 32) : Fin 3 → Nat :=
  let c1_1777 : Index := 1#32
  let c128_i32_1727 : BitVec 32 := 128#32
  let v1934 : BitVec 32 := Scalar.muli v1933 c128_i32_1727
  let v2019 : Index := Scalar.indexCast v1934
  let c192_1778 : Index := 192#32
  ![1, v2019.toNat, 192]
def k0_off235 (v1933 : BitVec 32) : Fin 4 → Nat :=
  let c1_1780 : Index := 1#32
  let c3_1781 : Index := 3#32
  let c0_1782 : Index := 0#32
  let c128_i32_1727 : BitVec 32 := 128#32
  let v1934 : BitVec 32 := Scalar.muli v1933 c128_i32_1727
  let v2024 : Index := Scalar.indexCast v1934
  ![1, 3, 0, v2024.toNat]

def k0_chk43 (v1933 : BitVec 32) : Prop :=
  (∀ a, (k0_off220 v1933) a + S1x128x64.size a ≤ S2x4096x512.size a) ∧
  (∀ a, (k0_off221 v1933) a + S1x1x128x128.size a ≤ S2x4x128x4096.size a) ∧
  (∀ a, (k0_off222 v1933) a + S1x128x64.size a ≤ S2x4096x512.size a) ∧
  (∀ a, (k0_off223 v1933) a + S1x1x128x128.size a ≤ S2x4x128x4096.size a) ∧
  (∀ a, (k0_off224 v1933) a + S1x128x64.size a ≤ S2x4096x512.size a) ∧
  (∀ a, (k0_off225 v1933) a + S1x1x128x128.size a ≤ S2x4x128x4096.size a) ∧
  (∀ a, (k0_off226 v1933) a + S1x128x64.size a ≤ S2x4096x512.size a) ∧
  (∀ a, (k0_off227 v1933) a + S1x1x128x128.size a ≤ S2x4x128x4096.size a) ∧
  (∀ a, (k0_off228 v1933) a + S1x128x64.size a ≤ S2x4096x512.size a) ∧
  (∀ a, (k0_off229 v1933) a + S1x1x128x128.size a ≤ S2x4x128x4096.size a) ∧
  (∀ a, (k0_off230 v1933) a + S1x128x64.size a ≤ S2x4096x512.size a) ∧
  (∀ a, (k0_off231 v1933) a + S1x1x128x128.size a ≤ S2x4x128x4096.size a) ∧
  (∀ a, (k0_off232 v1933) a + S1x128x64.size a ≤ S2x4096x512.size a) ∧
  (∀ a, (k0_off233 v1933) a + S1x1x128x128.size a ≤ S2x4x128x4096.size a) ∧
  (∀ a, (k0_off234 v1933) a + S1x128x64.size a ≤ S2x4096x512.size a) ∧
  (∀ a, (k0_off235 v1933) a + S1x1x128x128.size a ≤ S2x4x128x4096.size a)
theorem k0_off220_inb : ∀ (v1933 : BitVec 32) (k0_hw43 : k0_chk43 v1933), ∀ a, (k0_off220 v1933) a + S1x128x64.size a ≤ S2x4096x512.size a := fun v1933 k0_hw43 => k0_hw43.1
theorem k0_off221_inb : ∀ (v1933 : BitVec 32) (k0_hw43 : k0_chk43 v1933), ∀ a, (k0_off221 v1933) a + S1x1x128x128.size a ≤ S2x4x128x4096.size a := fun v1933 k0_hw43 => k0_hw43.2.1
theorem k0_off222_inb : ∀ (v1933 : BitVec 32) (k0_hw43 : k0_chk43 v1933), ∀ a, (k0_off222 v1933) a + S1x128x64.size a ≤ S2x4096x512.size a := fun v1933 k0_hw43 => k0_hw43.2.2.1
theorem k0_off223_inb : ∀ (v1933 : BitVec 32) (k0_hw43 : k0_chk43 v1933), ∀ a, (k0_off223 v1933) a + S1x1x128x128.size a ≤ S2x4x128x4096.size a := fun v1933 k0_hw43 => k0_hw43.2.2.2.1
theorem k0_off224_inb : ∀ (v1933 : BitVec 32) (k0_hw43 : k0_chk43 v1933), ∀ a, (k0_off224 v1933) a + S1x128x64.size a ≤ S2x4096x512.size a := fun v1933 k0_hw43 => k0_hw43.2.2.2.2.1
theorem k0_off225_inb : ∀ (v1933 : BitVec 32) (k0_hw43 : k0_chk43 v1933), ∀ a, (k0_off225 v1933) a + S1x1x128x128.size a ≤ S2x4x128x4096.size a := fun v1933 k0_hw43 => k0_hw43.2.2.2.2.2.1
theorem k0_off226_inb : ∀ (v1933 : BitVec 32) (k0_hw43 : k0_chk43 v1933), ∀ a, (k0_off226 v1933) a + S1x128x64.size a ≤ S2x4096x512.size a := fun v1933 k0_hw43 => k0_hw43.2.2.2.2.2.2.1
theorem k0_off227_inb : ∀ (v1933 : BitVec 32) (k0_hw43 : k0_chk43 v1933), ∀ a, (k0_off227 v1933) a + S1x1x128x128.size a ≤ S2x4x128x4096.size a := fun v1933 k0_hw43 => k0_hw43.2.2.2.2.2.2.2.1
theorem k0_off228_inb : ∀ (v1933 : BitVec 32) (k0_hw43 : k0_chk43 v1933), ∀ a, (k0_off228 v1933) a + S1x128x64.size a ≤ S2x4096x512.size a := fun v1933 k0_hw43 => k0_hw43.2.2.2.2.2.2.2.2.1
theorem k0_off229_inb : ∀ (v1933 : BitVec 32) (k0_hw43 : k0_chk43 v1933), ∀ a, (k0_off229 v1933) a + S1x1x128x128.size a ≤ S2x4x128x4096.size a := fun v1933 k0_hw43 => k0_hw43.2.2.2.2.2.2.2.2.2.1
theorem k0_off230_inb : ∀ (v1933 : BitVec 32) (k0_hw43 : k0_chk43 v1933), ∀ a, (k0_off230 v1933) a + S1x128x64.size a ≤ S2x4096x512.size a := fun v1933 k0_hw43 => k0_hw43.2.2.2.2.2.2.2.2.2.2.1
theorem k0_off231_inb : ∀ (v1933 : BitVec 32) (k0_hw43 : k0_chk43 v1933), ∀ a, (k0_off231 v1933) a + S1x1x128x128.size a ≤ S2x4x128x4096.size a := fun v1933 k0_hw43 => k0_hw43.2.2.2.2.2.2.2.2.2.2.2.1
theorem k0_off232_inb : ∀ (v1933 : BitVec 32) (k0_hw43 : k0_chk43 v1933), ∀ a, (k0_off232 v1933) a + S1x128x64.size a ≤ S2x4096x512.size a := fun v1933 k0_hw43 => k0_hw43.2.2.2.2.2.2.2.2.2.2.2.2.1
theorem k0_off233_inb : ∀ (v1933 : BitVec 32) (k0_hw43 : k0_chk43 v1933), ∀ a, (k0_off233 v1933) a + S1x1x128x128.size a ≤ S2x4x128x4096.size a := fun v1933 k0_hw43 => k0_hw43.2.2.2.2.2.2.2.2.2.2.2.2.2.1
theorem k0_off234_inb : ∀ (v1933 : BitVec 32) (k0_hw43 : k0_chk43 v1933), ∀ a, (k0_off234 v1933) a + S1x128x64.size a ≤ S2x4096x512.size a := fun v1933 k0_hw43 => k0_hw43.2.2.2.2.2.2.2.2.2.2.2.2.2.2.1
theorem k0_off235_inb : ∀ (v1933 : BitVec 32) (k0_hw43 : k0_chk43 v1933), ∀ a, (k0_off235 v1933) a + S1x1x128x128.size a ≤ S2x4x128x4096.size a := fun v1933 k0_hw43 => k0_hw43.2.2.2.2.2.2.2.2.2.2.2.2.2.2.2

def k0_off236 (v1327 : BitVec 32) : Fin 3 → Nat :=
  let c0_i32_1785 : BitVec 32 := 0#32
  let c128_i32_1130 : BitVec 32 := 128#32
  let v1328 : BitVec 32 := Scalar.muli v1327 c128_i32_1130
  let c0_i32_1794 : BitVec 32 := 0#32
  ![0, v1328.toNat, 0]
def k0_off237 (v2039 : BitVec 32) : Fin 3 → Nat :=
  let c0_i32_1800 : BitVec 32 := 0#32
  let c128_i32_1798 : BitVec 32 := 128#32
  let v2040 : BitVec 32 := Scalar.muli v2039 c128_i32_1798
  let c0_i32_1809 : BitVec 32 := 0#32
  ![0, v2040.toNat, 0]

def k0_dev56 (v4 : BitVec 32) : Nat :=
  let c0_i32_1808 : BitVec 32 := 0#32
  let c1_i32_1807 : BitVec 32 := 1#32
  let v2041 : BitVec 32 := Scalar.muli v4 c1_i32_1807
  let v2042 : BitVec 32 := Scalar.addi c0_i32_1808 v2041
  v2042.toNat
def k0_off238 (v1347 : BitVec 32) : Fin 3 → Nat :=
  let c0_i32_1812 : BitVec 32 := 0#32
  let c128_i32_1157 : BitVec 32 := 128#32
  let v1348 : BitVec 32 := Scalar.muli v1347 c128_i32_1157
  let c256_i32_1821 : BitVec 32 := 256#32
  ![0, v1348.toNat, 256]
def k0_off239 (v2059 : BitVec 32) : Fin 3 → Nat :=
  let c0_i32_1827 : BitVec 32 := 0#32
  let c128_i32_1825 : BitVec 32 := 128#32
  let v2060 : BitVec 32 := Scalar.muli v2059 c128_i32_1825
  let c256_i32_1836 : BitVec 32 := 256#32
  ![0, v2060.toNat, 256]

def k0_dev57 (v4 : BitVec 32) : Nat :=
  let c0_i32_1835 : BitVec 32 := 0#32
  let c1_i32_1834 : BitVec 32 := 1#32
  let v2061 : BitVec 32 := Scalar.muli v4 c1_i32_1834
  let v2062 : BitVec 32 := Scalar.addi c0_i32_1835 v2061
  v2062.toNat
def k0_off240 (v1367 : BitVec 32) : Fin 3 → Nat :=
  let c0_i32_1839 : BitVec 32 := 0#32
  let c128_i32_1184 : BitVec 32 := 128#32
  let v1368 : BitVec 32 := Scalar.muli v1367 c128_i32_1184
  let c0_i32_1848 : BitVec 32 := 0#32
  ![0, v1368.toNat, 0]
def k0_off241 (v2079 : BitVec 32) : Fin 3 → Nat :=
  let c0_i32_1854 : BitVec 32 := 0#32
  let c128_i32_1852 : BitVec 32 := 128#32
  let v2080 : BitVec 32 := Scalar.muli v2079 c128_i32_1852
  let c0_i32_1863 : BitVec 32 := 0#32
  ![0, v2080.toNat, 0]

def k0_dev58 (v4 : BitVec 32) : Nat :=
  let c0_i32_1862 : BitVec 32 := 0#32
  let c1_i32_1861 : BitVec 32 := 1#32
  let v2081 : BitVec 32 := Scalar.muli v4 c1_i32_1861
  let v2082 : BitVec 32 := Scalar.addi c0_i32_1862 v2081
  v2082.toNat
def k0_off242 (v1387 : BitVec 32) : Fin 3 → Nat :=
  let c0_i32_1866 : BitVec 32 := 0#32
  let c128_i32_1211 : BitVec 32 := 128#32
  let v1388 : BitVec 32 := Scalar.muli v1387 c128_i32_1211
  let c256_i32_1875 : BitVec 32 := 256#32
  ![0, v1388.toNat, 256]
def k0_off243 (v2099 : BitVec 32) : Fin 3 → Nat :=
  let c0_i32_1881 : BitVec 32 := 0#32
  let c128_i32_1879 : BitVec 32 := 128#32
  let v2100 : BitVec 32 := Scalar.muli v2099 c128_i32_1879
  let c256_i32_1890 : BitVec 32 := 256#32
  ![0, v2100.toNat, 256]

def k0_dev59 (v4 : BitVec 32) : Nat :=
  let c0_i32_1889 : BitVec 32 := 0#32
  let c1_i32_1888 : BitVec 32 := 1#32
  let v2101 : BitVec 32 := Scalar.muli v4 c1_i32_1888
  let v2102 : BitVec 32 := Scalar.addi c0_i32_1889 v2101
  v2102.toNat
def k0_off244 (v1407 : BitVec 32) : Fin 3 → Nat :=
  let c1_i32_1893 : BitVec 32 := 1#32
  let c128_i32_1238 : BitVec 32 := 128#32
  let v1408 : BitVec 32 := Scalar.muli v1407 c128_i32_1238
  let c0_i32_1902 : BitVec 32 := 0#32
  ![1, v1408.toNat, 0]
def k0_off245 (v2119 : BitVec 32) : Fin 3 → Nat :=
  let c1_i32_1908 : BitVec 32 := 1#32
  let c128_i32_1906 : BitVec 32 := 128#32
  let v2120 : BitVec 32 := Scalar.muli v2119 c128_i32_1906
  let c0_i32_1917 : BitVec 32 := 0#32
  ![1, v2120.toNat, 0]

def k0_dev60 (v4 : BitVec 32) : Nat :=
  let c0_i32_1916 : BitVec 32 := 0#32
  let c1_i32_1915 : BitVec 32 := 1#32
  let v2121 : BitVec 32 := Scalar.muli v4 c1_i32_1915
  let v2122 : BitVec 32 := Scalar.addi c0_i32_1916 v2121
  v2122.toNat
def k0_off246 (v1427 : BitVec 32) : Fin 3 → Nat :=
  let c1_i32_1920 : BitVec 32 := 1#32
  let c128_i32_1265 : BitVec 32 := 128#32
  let v1428 : BitVec 32 := Scalar.muli v1427 c128_i32_1265
  let c256_i32_1929 : BitVec 32 := 256#32
  ![1, v1428.toNat, 256]
def k0_off247 (v2139 : BitVec 32) : Fin 3 → Nat :=
  let c1_i32_1935 : BitVec 32 := 1#32
  let c128_i32_1933 : BitVec 32 := 128#32
  let v2140 : BitVec 32 := Scalar.muli v2139 c128_i32_1933
  let c256_i32_1944 : BitVec 32 := 256#32
  ![1, v2140.toNat, 256]

def k0_dev61 (v4 : BitVec 32) : Nat :=
  let c0_i32_1943 : BitVec 32 := 0#32
  let c1_i32_1942 : BitVec 32 := 1#32
  let v2141 : BitVec 32 := Scalar.muli v4 c1_i32_1942
  let v2142 : BitVec 32 := Scalar.addi c0_i32_1943 v2141
  v2142.toNat
def k0_off248 (v1447 : BitVec 32) : Fin 3 → Nat :=
  let c1_i32_1947 : BitVec 32 := 1#32
  let c128_i32_1292 : BitVec 32 := 128#32
  let v1448 : BitVec 32 := Scalar.muli v1447 c128_i32_1292
  let c0_i32_1956 : BitVec 32 := 0#32
  ![1, v1448.toNat, 0]
def k0_off249 (v2159 : BitVec 32) : Fin 3 → Nat :=
  let c1_i32_1962 : BitVec 32 := 1#32
  let c128_i32_1960 : BitVec 32 := 128#32
  let v2160 : BitVec 32 := Scalar.muli v2159 c128_i32_1960
  let c0_i32_1971 : BitVec 32 := 0#32
  ![1, v2160.toNat, 0]

def k0_dev62 (v4 : BitVec 32) : Nat :=
  let c0_i32_1970 : BitVec 32 := 0#32
  let c1_i32_1969 : BitVec 32 := 1#32
  let v2161 : BitVec 32 := Scalar.muli v4 c1_i32_1969
  let v2162 : BitVec 32 := Scalar.addi c0_i32_1970 v2161
  v2162.toNat
def k0_off250 (v1467 : BitVec 32) : Fin 3 → Nat :=
  let c1_i32_1974 : BitVec 32 := 1#32
  let c128_i32_1319 : BitVec 32 := 128#32
  let v1468 : BitVec 32 := Scalar.muli v1467 c128_i32_1319
  let c256_i32_1983 : BitVec 32 := 256#32
  ![1, v1468.toNat, 256]
def k0_off251 (v2179 : BitVec 32) : Fin 3 → Nat :=
  let c1_i32_1989 : BitVec 32 := 1#32
  let c128_i32_1987 : BitVec 32 := 128#32
  let v2180 : BitVec 32 := Scalar.muli v2179 c128_i32_1987
  let c256_i32_1998 : BitVec 32 := 256#32
  ![1, v2180.toNat, 256]

def k0_dev63 (v4 : BitVec 32) : Nat :=
  let c0_i32_1997 : BitVec 32 := 0#32
  let c1_i32_1996 : BitVec 32 := 1#32
  let v2181 : BitVec 32 := Scalar.muli v4 c1_i32_1996
  let v2182 : BitVec 32 := Scalar.addi c0_i32_1997 v2181
  v2182.toNat
def k0_off252 (v1487 : BitVec 32) : Fin 3 → Nat :=
  let c0_i32_2001 : BitVec 32 := 0#32
  let c128_i32_1346 : BitVec 32 := 128#32
  let v1488 : BitVec 32 := Scalar.muli v1487 c128_i32_1346
  let c0_i32_2010 : BitVec 32 := 0#32
  ![0, v1488.toNat, 0]
def k0_off253 (v2199 : BitVec 32) : Fin 3 → Nat :=
  let c0_i32_2016 : BitVec 32 := 0#32
  let c128_i32_2014 : BitVec 32 := 128#32
  let v2200 : BitVec 32 := Scalar.muli v2199 c128_i32_2014
  let c0_i32_2025 : BitVec 32 := 0#32
  ![0, v2200.toNat, 0]

def k0_dev64 (v3 : BitVec 32) : Nat :=
  let c0_i32_2024 : BitVec 32 := 0#32
  let c1_i32_2023 : BitVec 32 := 1#32
  let v2201 : BitVec 32 := Scalar.muli v3 c1_i32_2023
  let v2202 : BitVec 32 := Scalar.addi c0_i32_2024 v2201
  v2202.toNat
def k0_off254 (v1507 : BitVec 32) : Fin 3 → Nat :=
  let c0_i32_2028 : BitVec 32 := 0#32
  let c128_i32_1373 : BitVec 32 := 128#32
  let v1508 : BitVec 32 := Scalar.muli v1507 c128_i32_1373
  let c256_i32_2037 : BitVec 32 := 256#32
  ![0, v1508.toNat, 256]
def k0_off255 (v2219 : BitVec 32) : Fin 3 → Nat :=
  let c0_i32_2043 : BitVec 32 := 0#32
  let c128_i32_2041 : BitVec 32 := 128#32
  let v2220 : BitVec 32 := Scalar.muli v2219 c128_i32_2041
  let c256_i32_2052 : BitVec 32 := 256#32
  ![0, v2220.toNat, 256]

def k0_dev65 (v3 : BitVec 32) : Nat :=
  let c0_i32_2051 : BitVec 32 := 0#32
  let c1_i32_2050 : BitVec 32 := 1#32
  let v2221 : BitVec 32 := Scalar.muli v3 c1_i32_2050
  let v2222 : BitVec 32 := Scalar.addi c0_i32_2051 v2221
  v2222.toNat
def k0_off256 (v1527 : BitVec 32) : Fin 3 → Nat :=
  let c0_i32_2055 : BitVec 32 := 0#32
  let c128_i32_1400 : BitVec 32 := 128#32
  let v1528 : BitVec 32 := Scalar.muli v1527 c128_i32_1400
  let c0_i32_2064 : BitVec 32 := 0#32
  ![0, v1528.toNat, 0]
def k0_off257 (v2239 : BitVec 32) : Fin 3 → Nat :=
  let c0_i32_2070 : BitVec 32 := 0#32
  let c128_i32_2068 : BitVec 32 := 128#32
  let v2240 : BitVec 32 := Scalar.muli v2239 c128_i32_2068
  let c0_i32_2079 : BitVec 32 := 0#32
  ![0, v2240.toNat, 0]

def k0_dev66 (v3 : BitVec 32) : Nat :=
  let c0_i32_2078 : BitVec 32 := 0#32
  let c1_i32_2077 : BitVec 32 := 1#32
  let v2241 : BitVec 32 := Scalar.muli v3 c1_i32_2077
  let v2242 : BitVec 32 := Scalar.addi c0_i32_2078 v2241
  v2242.toNat
def k0_off258 (v1547 : BitVec 32) : Fin 3 → Nat :=
  let c0_i32_2082 : BitVec 32 := 0#32
  let c128_i32_1427 : BitVec 32 := 128#32
  let v1548 : BitVec 32 := Scalar.muli v1547 c128_i32_1427
  let c256_i32_2091 : BitVec 32 := 256#32
  ![0, v1548.toNat, 256]
def k0_off259 (v2259 : BitVec 32) : Fin 3 → Nat :=
  let c0_i32_2097 : BitVec 32 := 0#32
  let c128_i32_2095 : BitVec 32 := 128#32
  let v2260 : BitVec 32 := Scalar.muli v2259 c128_i32_2095
  let c256_i32_2106 : BitVec 32 := 256#32
  ![0, v2260.toNat, 256]

def k0_dev67 (v3 : BitVec 32) : Nat :=
  let c0_i32_2105 : BitVec 32 := 0#32
  let c1_i32_2104 : BitVec 32 := 1#32
  let v2261 : BitVec 32 := Scalar.muli v3 c1_i32_2104
  let v2262 : BitVec 32 := Scalar.addi c0_i32_2105 v2261
  v2262.toNat
def k0_off260 (v1567 : BitVec 32) : Fin 3 → Nat :=
  let c1_i32_2109 : BitVec 32 := 1#32
  let c128_i32_1454 : BitVec 32 := 128#32
  let v1568 : BitVec 32 := Scalar.muli v1567 c128_i32_1454
  let c0_i32_2118 : BitVec 32 := 0#32
  ![1, v1568.toNat, 0]
def k0_off261 (v2279 : BitVec 32) : Fin 3 → Nat :=
  let c1_i32_2124 : BitVec 32 := 1#32
  let c128_i32_2122 : BitVec 32 := 128#32
  let v2280 : BitVec 32 := Scalar.muli v2279 c128_i32_2122
  let c0_i32_2133 : BitVec 32 := 0#32
  ![1, v2280.toNat, 0]

def k0_dev68 (v3 : BitVec 32) : Nat :=
  let c0_i32_2132 : BitVec 32 := 0#32
  let c1_i32_2131 : BitVec 32 := 1#32
  let v2281 : BitVec 32 := Scalar.muli v3 c1_i32_2131
  let v2282 : BitVec 32 := Scalar.addi c0_i32_2132 v2281
  v2282.toNat
def k0_off262 (v1587 : BitVec 32) : Fin 3 → Nat :=
  let c1_i32_2136 : BitVec 32 := 1#32
  let c128_i32_1481 : BitVec 32 := 128#32
  let v1588 : BitVec 32 := Scalar.muli v1587 c128_i32_1481
  let c256_i32_2145 : BitVec 32 := 256#32
  ![1, v1588.toNat, 256]
def k0_off263 (v2299 : BitVec 32) : Fin 3 → Nat :=
  let c1_i32_2151 : BitVec 32 := 1#32
  let c128_i32_2149 : BitVec 32 := 128#32
  let v2300 : BitVec 32 := Scalar.muli v2299 c128_i32_2149
  let c256_i32_2160 : BitVec 32 := 256#32
  ![1, v2300.toNat, 256]

def k0_dev69 (v3 : BitVec 32) : Nat :=
  let c0_i32_2159 : BitVec 32 := 0#32
  let c1_i32_2158 : BitVec 32 := 1#32
  let v2301 : BitVec 32 := Scalar.muli v3 c1_i32_2158
  let v2302 : BitVec 32 := Scalar.addi c0_i32_2159 v2301
  v2302.toNat
def k0_off264 (v1607 : BitVec 32) : Fin 3 → Nat :=
  let c1_i32_2163 : BitVec 32 := 1#32
  let c128_i32_1508 : BitVec 32 := 128#32
  let v1608 : BitVec 32 := Scalar.muli v1607 c128_i32_1508
  let c0_i32_2172 : BitVec 32 := 0#32
  ![1, v1608.toNat, 0]
def k0_off265 (v2319 : BitVec 32) : Fin 3 → Nat :=
  let c1_i32_2178 : BitVec 32 := 1#32
  let c128_i32_2176 : BitVec 32 := 128#32
  let v2320 : BitVec 32 := Scalar.muli v2319 c128_i32_2176
  let c0_i32_2187 : BitVec 32 := 0#32
  ![1, v2320.toNat, 0]

def k0_dev70 (v3 : BitVec 32) : Nat :=
  let c0_i32_2186 : BitVec 32 := 0#32
  let c1_i32_2185 : BitVec 32 := 1#32
  let v2321 : BitVec 32 := Scalar.muli v3 c1_i32_2185
  let v2322 : BitVec 32 := Scalar.addi c0_i32_2186 v2321
  v2322.toNat
def k0_off266 (v1627 : BitVec 32) : Fin 3 → Nat :=
  let c1_i32_2190 : BitVec 32 := 1#32
  let c128_i32_1535 : BitVec 32 := 128#32
  let v1628 : BitVec 32 := Scalar.muli v1627 c128_i32_1535
  let c256_i32_2199 : BitVec 32 := 256#32
  ![1, v1628.toNat, 256]
def k0_off267 (v2339 : BitVec 32) : Fin 3 → Nat :=
  let c1_i32_2205 : BitVec 32 := 1#32
  let c128_i32_2203 : BitVec 32 := 128#32
  let v2340 : BitVec 32 := Scalar.muli v2339 c128_i32_2203
  let c256_i32_2214 : BitVec 32 := 256#32
  ![1, v2340.toNat, 256]

def k0_dev71 (v3 : BitVec 32) : Nat :=
  let c0_i32_2213 : BitVec 32 := 0#32
  let c1_i32_2212 : BitVec 32 := 1#32
  let v2341 : BitVec 32 := Scalar.muli v3 c1_i32_2212
  let v2342 : BitVec 32 := Scalar.addi c0_i32_2213 v2341
  v2342.toNat
def k0_off268 (v2351 : BitVec 32) : Fin 3 → Nat :=
  let c0_2219 : Index := 0#32
  let c128_i32_2218 : BitVec 32 := 128#32
  let v2352 : BitVec 32 := Scalar.muli v2351 c128_i32_2218
  let v2353 : Index := Scalar.indexCast v2352
  let c0_2220 : Index := 0#32
  ![0, v2353.toNat, 0]

def k0_off269 (v2351 : BitVec 32) : Fin 4 → Nat :=
  let c0_2222 : Index := 0#32
  let c0_2223 : Index := 0#32
  let c0_2224 : Index := 0#32
  let c128_i32_2218 : BitVec 32 := 128#32
  let v2352 : BitVec 32 := Scalar.muli v2351 c128_i32_2218
  let v2358 : Index := Scalar.indexCast v2352
  ![0, 0, 0, v2358.toNat]
def k0_off270 (v2351 : BitVec 32) : Fin 3 → Nat :=
  let c0_2226 : Index := 0#32
  let c128_i32_2218 : BitVec 32 := 128#32
  let v2352 : BitVec 32 := Scalar.muli v2351 c128_i32_2218
  let v2365 : Index := Scalar.indexCast v2352
  let c64_2227 : Index := 64#32
  ![0, v2365.toNat, 64]
def k0_off271 (v2351 : BitVec 32) : Fin 4 → Nat :=
  let c0_2229 : Index := 0#32
  let c1_2230 : Index := 1#32
  let c0_2231 : Index := 0#32
  let c128_i32_2218 : BitVec 32 := 128#32
  let v2352 : BitVec 32 := Scalar.muli v2351 c128_i32_2218
  let v2370 : Index := Scalar.indexCast v2352
  ![0, 1, 0, v2370.toNat]
def k0_off272 (v2351 : BitVec 32) : Fin 3 → Nat :=
  let c0_2233 : Index := 0#32
  let c128_i32_2218 : BitVec 32 := 128#32
  let v2352 : BitVec 32 := Scalar.muli v2351 c128_i32_2218
  let v2377 : Index := Scalar.indexCast v2352
  let c128_2234 : Index := 128#32
  ![0, v2377.toNat, 128]
def k0_off273 (v2351 : BitVec 32) : Fin 4 → Nat :=
  let c0_2236 : Index := 0#32
  let c2_2237 : Index := 2#32
  let c0_2238 : Index := 0#32
  let c128_i32_2218 : BitVec 32 := 128#32
  let v2352 : BitVec 32 := Scalar.muli v2351 c128_i32_2218
  let v2382 : Index := Scalar.indexCast v2352
  ![0, 2, 0, v2382.toNat]
def k0_off274 (v2351 : BitVec 32) : Fin 3 → Nat :=
  let c0_2240 : Index := 0#32
  let c128_i32_2218 : BitVec 32 := 128#32
  let v2352 : BitVec 32 := Scalar.muli v2351 c128_i32_2218
  let v2389 : Index := Scalar.indexCast v2352
  let c192_2241 : Index := 192#32
  ![0, v2389.toNat, 192]
def k0_off275 (v2351 : BitVec 32) : Fin 4 → Nat :=
  let c0_2243 : Index := 0#32
  let c3_2244 : Index := 3#32
  let c0_2245 : Index := 0#32
  let c128_i32_2218 : BitVec 32 := 128#32
  let v2352 : BitVec 32 := Scalar.muli v2351 c128_i32_2218
  let v2394 : Index := Scalar.indexCast v2352
  ![0, 3, 0, v2394.toNat]
def k0_off276 (v2351 : BitVec 32) : Fin 3 → Nat :=
  let c1_2247 : Index := 1#32
  let c128_i32_2218 : BitVec 32 := 128#32
  let v2352 : BitVec 32 := Scalar.muli v2351 c128_i32_2218
  let v2401 : Index := Scalar.indexCast v2352
  let c0_2248 : Index := 0#32
  ![1, v2401.toNat, 0]
def k0_off277 (v2351 : BitVec 32) : Fin 4 → Nat :=
  let c1_2250 : Index := 1#32
  let c0_2251 : Index := 0#32
  let c0_2252 : Index := 0#32
  let c128_i32_2218 : BitVec 32 := 128#32
  let v2352 : BitVec 32 := Scalar.muli v2351 c128_i32_2218
  let v2406 : Index := Scalar.indexCast v2352
  ![1, 0, 0, v2406.toNat]
def k0_off278 (v2351 : BitVec 32) : Fin 3 → Nat :=
  let c1_2254 : Index := 1#32
  let c128_i32_2218 : BitVec 32 := 128#32
  let v2352 : BitVec 32 := Scalar.muli v2351 c128_i32_2218
  let v2413 : Index := Scalar.indexCast v2352
  let c64_2255 : Index := 64#32
  ![1, v2413.toNat, 64]
def k0_off279 (v2351 : BitVec 32) : Fin 4 → Nat :=
  let c1_2257 : Index := 1#32
  let c1_2258 : Index := 1#32
  let c0_2259 : Index := 0#32
  let c128_i32_2218 : BitVec 32 := 128#32
  let v2352 : BitVec 32 := Scalar.muli v2351 c128_i32_2218
  let v2418 : Index := Scalar.indexCast v2352
  ![1, 1, 0, v2418.toNat]
def k0_off280 (v2351 : BitVec 32) : Fin 3 → Nat :=
  let c1_2261 : Index := 1#32
  let c128_i32_2218 : BitVec 32 := 128#32
  let v2352 : BitVec 32 := Scalar.muli v2351 c128_i32_2218
  let v2425 : Index := Scalar.indexCast v2352
  let c128_2262 : Index := 128#32
  ![1, v2425.toNat, 128]
def k0_off281 (v2351 : BitVec 32) : Fin 4 → Nat :=
  let c1_2264 : Index := 1#32
  let c2_2265 : Index := 2#32
  let c0_2266 : Index := 0#32
  let c128_i32_2218 : BitVec 32 := 128#32
  let v2352 : BitVec 32 := Scalar.muli v2351 c128_i32_2218
  let v2430 : Index := Scalar.indexCast v2352
  ![1, 2, 0, v2430.toNat]
def k0_off282 (v2351 : BitVec 32) : Fin 3 → Nat :=
  let c1_2268 : Index := 1#32
  let c128_i32_2218 : BitVec 32 := 128#32
  let v2352 : BitVec 32 := Scalar.muli v2351 c128_i32_2218
  let v2437 : Index := Scalar.indexCast v2352
  let c192_2269 : Index := 192#32
  ![1, v2437.toNat, 192]
def k0_off283 (v2351 : BitVec 32) : Fin 4 → Nat :=
  let c1_2271 : Index := 1#32
  let c3_2272 : Index := 3#32
  let c0_2273 : Index := 0#32
  let c128_i32_2218 : BitVec 32 := 128#32
  let v2352 : BitVec 32 := Scalar.muli v2351 c128_i32_2218
  let v2442 : Index := Scalar.indexCast v2352
  ![1, 3, 0, v2442.toNat]

def k0_chk60 (v2351 : BitVec 32) : Prop :=
  (∀ a, (k0_off268 v2351) a + S1x128x64.size a ≤ S2x4096x512.size a) ∧
  (∀ a, (k0_off269 v2351) a + S1x1x128x128.size a ≤ S2x4x128x4096.size a) ∧
  (∀ a, (k0_off270 v2351) a + S1x128x64.size a ≤ S2x4096x512.size a) ∧
  (∀ a, (k0_off271 v2351) a + S1x1x128x128.size a ≤ S2x4x128x4096.size a) ∧
  (∀ a, (k0_off272 v2351) a + S1x128x64.size a ≤ S2x4096x512.size a) ∧
  (∀ a, (k0_off273 v2351) a + S1x1x128x128.size a ≤ S2x4x128x4096.size a) ∧
  (∀ a, (k0_off274 v2351) a + S1x128x64.size a ≤ S2x4096x512.size a) ∧
  (∀ a, (k0_off275 v2351) a + S1x1x128x128.size a ≤ S2x4x128x4096.size a) ∧
  (∀ a, (k0_off276 v2351) a + S1x128x64.size a ≤ S2x4096x512.size a) ∧
  (∀ a, (k0_off277 v2351) a + S1x1x128x128.size a ≤ S2x4x128x4096.size a) ∧
  (∀ a, (k0_off278 v2351) a + S1x128x64.size a ≤ S2x4096x512.size a) ∧
  (∀ a, (k0_off279 v2351) a + S1x1x128x128.size a ≤ S2x4x128x4096.size a) ∧
  (∀ a, (k0_off280 v2351) a + S1x128x64.size a ≤ S2x4096x512.size a) ∧
  (∀ a, (k0_off281 v2351) a + S1x1x128x128.size a ≤ S2x4x128x4096.size a) ∧
  (∀ a, (k0_off282 v2351) a + S1x128x64.size a ≤ S2x4096x512.size a) ∧
  (∀ a, (k0_off283 v2351) a + S1x1x128x128.size a ≤ S2x4x128x4096.size a)
theorem k0_off268_inb : ∀ (v2351 : BitVec 32) (k0_hw60 : k0_chk60 v2351), ∀ a, (k0_off268 v2351) a + S1x128x64.size a ≤ S2x4096x512.size a := fun v2351 k0_hw60 => k0_hw60.1
theorem k0_off269_inb : ∀ (v2351 : BitVec 32) (k0_hw60 : k0_chk60 v2351), ∀ a, (k0_off269 v2351) a + S1x1x128x128.size a ≤ S2x4x128x4096.size a := fun v2351 k0_hw60 => k0_hw60.2.1
theorem k0_off270_inb : ∀ (v2351 : BitVec 32) (k0_hw60 : k0_chk60 v2351), ∀ a, (k0_off270 v2351) a + S1x128x64.size a ≤ S2x4096x512.size a := fun v2351 k0_hw60 => k0_hw60.2.2.1
theorem k0_off271_inb : ∀ (v2351 : BitVec 32) (k0_hw60 : k0_chk60 v2351), ∀ a, (k0_off271 v2351) a + S1x1x128x128.size a ≤ S2x4x128x4096.size a := fun v2351 k0_hw60 => k0_hw60.2.2.2.1
theorem k0_off272_inb : ∀ (v2351 : BitVec 32) (k0_hw60 : k0_chk60 v2351), ∀ a, (k0_off272 v2351) a + S1x128x64.size a ≤ S2x4096x512.size a := fun v2351 k0_hw60 => k0_hw60.2.2.2.2.1
theorem k0_off273_inb : ∀ (v2351 : BitVec 32) (k0_hw60 : k0_chk60 v2351), ∀ a, (k0_off273 v2351) a + S1x1x128x128.size a ≤ S2x4x128x4096.size a := fun v2351 k0_hw60 => k0_hw60.2.2.2.2.2.1
theorem k0_off274_inb : ∀ (v2351 : BitVec 32) (k0_hw60 : k0_chk60 v2351), ∀ a, (k0_off274 v2351) a + S1x128x64.size a ≤ S2x4096x512.size a := fun v2351 k0_hw60 => k0_hw60.2.2.2.2.2.2.1
theorem k0_off275_inb : ∀ (v2351 : BitVec 32) (k0_hw60 : k0_chk60 v2351), ∀ a, (k0_off275 v2351) a + S1x1x128x128.size a ≤ S2x4x128x4096.size a := fun v2351 k0_hw60 => k0_hw60.2.2.2.2.2.2.2.1
theorem k0_off276_inb : ∀ (v2351 : BitVec 32) (k0_hw60 : k0_chk60 v2351), ∀ a, (k0_off276 v2351) a + S1x128x64.size a ≤ S2x4096x512.size a := fun v2351 k0_hw60 => k0_hw60.2.2.2.2.2.2.2.2.1
theorem k0_off277_inb : ∀ (v2351 : BitVec 32) (k0_hw60 : k0_chk60 v2351), ∀ a, (k0_off277 v2351) a + S1x1x128x128.size a ≤ S2x4x128x4096.size a := fun v2351 k0_hw60 => k0_hw60.2.2.2.2.2.2.2.2.2.1
theorem k0_off278_inb : ∀ (v2351 : BitVec 32) (k0_hw60 : k0_chk60 v2351), ∀ a, (k0_off278 v2351) a + S1x128x64.size a ≤ S2x4096x512.size a := fun v2351 k0_hw60 => k0_hw60.2.2.2.2.2.2.2.2.2.2.1
theorem k0_off279_inb : ∀ (v2351 : BitVec 32) (k0_hw60 : k0_chk60 v2351), ∀ a, (k0_off279 v2351) a + S1x1x128x128.size a ≤ S2x4x128x4096.size a := fun v2351 k0_hw60 => k0_hw60.2.2.2.2.2.2.2.2.2.2.2.1
theorem k0_off280_inb : ∀ (v2351 : BitVec 32) (k0_hw60 : k0_chk60 v2351), ∀ a, (k0_off280 v2351) a + S1x128x64.size a ≤ S2x4096x512.size a := fun v2351 k0_hw60 => k0_hw60.2.2.2.2.2.2.2.2.2.2.2.2.1
theorem k0_off281_inb : ∀ (v2351 : BitVec 32) (k0_hw60 : k0_chk60 v2351), ∀ a, (k0_off281 v2351) a + S1x1x128x128.size a ≤ S2x4x128x4096.size a := fun v2351 k0_hw60 => k0_hw60.2.2.2.2.2.2.2.2.2.2.2.2.2.1
theorem k0_off282_inb : ∀ (v2351 : BitVec 32) (k0_hw60 : k0_chk60 v2351), ∀ a, (k0_off282 v2351) a + S1x128x64.size a ≤ S2x4096x512.size a := fun v2351 k0_hw60 => k0_hw60.2.2.2.2.2.2.2.2.2.2.2.2.2.2.1
theorem k0_off283_inb : ∀ (v2351 : BitVec 32) (k0_hw60 : k0_chk60 v2351), ∀ a, (k0_off283 v2351) a + S1x1x128x128.size a ≤ S2x4x128x4096.size a := fun v2351 k0_hw60 => k0_hw60.2.2.2.2.2.2.2.2.2.2.2.2.2.2.2

def k0_off284 (v2449 : BitVec 32) : Fin 3 → Nat :=
  let c0_2278 : Index := 0#32
  let c128_i32_2277 : BitVec 32 := 128#32
  let v2450 : BitVec 32 := Scalar.muli v2449 c128_i32_2277
  let v2451 : Index := Scalar.indexCast v2450
  let c0_2279 : Index := 0#32
  ![0, v2451.toNat, 0]

def k0_off285 (v2449 : BitVec 32) : Fin 4 → Nat :=
  let c0_2281 : Index := 0#32
  let c0_2282 : Index := 0#32
  let c0_2283 : Index := 0#32
  let c128_i32_2277 : BitVec 32 := 128#32
  let v2450 : BitVec 32 := Scalar.muli v2449 c128_i32_2277
  let v2456 : Index := Scalar.indexCast v2450
  ![0, 0, 0, v2456.toNat]
def k0_off286 (v2449 : BitVec 32) : Fin 3 → Nat :=
  let c0_2285 : Index := 0#32
  let c128_i32_2277 : BitVec 32 := 128#32
  let v2450 : BitVec 32 := Scalar.muli v2449 c128_i32_2277
  let v2463 : Index := Scalar.indexCast v2450
  let c64_2286 : Index := 64#32
  ![0, v2463.toNat, 64]
def k0_off287 (v2449 : BitVec 32) : Fin 4 → Nat :=
  let c0_2288 : Index := 0#32
  let c1_2289 : Index := 1#32
  let c0_2290 : Index := 0#32
  let c128_i32_2277 : BitVec 32 := 128#32
  let v2450 : BitVec 32 := Scalar.muli v2449 c128_i32_2277
  let v2468 : Index := Scalar.indexCast v2450
  ![0, 1, 0, v2468.toNat]
def k0_off288 (v2449 : BitVec 32) : Fin 3 → Nat :=
  let c0_2292 : Index := 0#32
  let c128_i32_2277 : BitVec 32 := 128#32
  let v2450 : BitVec 32 := Scalar.muli v2449 c128_i32_2277
  let v2475 : Index := Scalar.indexCast v2450
  let c128_2293 : Index := 128#32
  ![0, v2475.toNat, 128]
def k0_off289 (v2449 : BitVec 32) : Fin 4 → Nat :=
  let c0_2295 : Index := 0#32
  let c2_2296 : Index := 2#32
  let c0_2297 : Index := 0#32
  let c128_i32_2277 : BitVec 32 := 128#32
  let v2450 : BitVec 32 := Scalar.muli v2449 c128_i32_2277
  let v2480 : Index := Scalar.indexCast v2450
  ![0, 2, 0, v2480.toNat]
def k0_off290 (v2449 : BitVec 32) : Fin 3 → Nat :=
  let c0_2299 : Index := 0#32
  let c128_i32_2277 : BitVec 32 := 128#32
  let v2450 : BitVec 32 := Scalar.muli v2449 c128_i32_2277
  let v2487 : Index := Scalar.indexCast v2450
  let c192_2300 : Index := 192#32
  ![0, v2487.toNat, 192]
def k0_off291 (v2449 : BitVec 32) : Fin 4 → Nat :=
  let c0_2302 : Index := 0#32
  let c3_2303 : Index := 3#32
  let c0_2304 : Index := 0#32
  let c128_i32_2277 : BitVec 32 := 128#32
  let v2450 : BitVec 32 := Scalar.muli v2449 c128_i32_2277
  let v2492 : Index := Scalar.indexCast v2450
  ![0, 3, 0, v2492.toNat]
def k0_off292 (v2449 : BitVec 32) : Fin 3 → Nat :=
  let c1_2306 : Index := 1#32
  let c128_i32_2277 : BitVec 32 := 128#32
  let v2450 : BitVec 32 := Scalar.muli v2449 c128_i32_2277
  let v2499 : Index := Scalar.indexCast v2450
  let c0_2307 : Index := 0#32
  ![1, v2499.toNat, 0]
def k0_off293 (v2449 : BitVec 32) : Fin 4 → Nat :=
  let c1_2309 : Index := 1#32
  let c0_2310 : Index := 0#32
  let c0_2311 : Index := 0#32
  let c128_i32_2277 : BitVec 32 := 128#32
  let v2450 : BitVec 32 := Scalar.muli v2449 c128_i32_2277
  let v2504 : Index := Scalar.indexCast v2450
  ![1, 0, 0, v2504.toNat]
def k0_off294 (v2449 : BitVec 32) : Fin 3 → Nat :=
  let c1_2313 : Index := 1#32
  let c128_i32_2277 : BitVec 32 := 128#32
  let v2450 : BitVec 32 := Scalar.muli v2449 c128_i32_2277
  let v2511 : Index := Scalar.indexCast v2450
  let c64_2314 : Index := 64#32
  ![1, v2511.toNat, 64]
def k0_off295 (v2449 : BitVec 32) : Fin 4 → Nat :=
  let c1_2316 : Index := 1#32
  let c1_2317 : Index := 1#32
  let c0_2318 : Index := 0#32
  let c128_i32_2277 : BitVec 32 := 128#32
  let v2450 : BitVec 32 := Scalar.muli v2449 c128_i32_2277
  let v2516 : Index := Scalar.indexCast v2450
  ![1, 1, 0, v2516.toNat]
def k0_off296 (v2449 : BitVec 32) : Fin 3 → Nat :=
  let c1_2320 : Index := 1#32
  let c128_i32_2277 : BitVec 32 := 128#32
  let v2450 : BitVec 32 := Scalar.muli v2449 c128_i32_2277
  let v2523 : Index := Scalar.indexCast v2450
  let c128_2321 : Index := 128#32
  ![1, v2523.toNat, 128]
def k0_off297 (v2449 : BitVec 32) : Fin 4 → Nat :=
  let c1_2323 : Index := 1#32
  let c2_2324 : Index := 2#32
  let c0_2325 : Index := 0#32
  let c128_i32_2277 : BitVec 32 := 128#32
  let v2450 : BitVec 32 := Scalar.muli v2449 c128_i32_2277
  let v2528 : Index := Scalar.indexCast v2450
  ![1, 2, 0, v2528.toNat]
def k0_off298 (v2449 : BitVec 32) : Fin 3 → Nat :=
  let c1_2327 : Index := 1#32
  let c128_i32_2277 : BitVec 32 := 128#32
  let v2450 : BitVec 32 := Scalar.muli v2449 c128_i32_2277
  let v2535 : Index := Scalar.indexCast v2450
  let c192_2328 : Index := 192#32
  ![1, v2535.toNat, 192]
def k0_off299 (v2449 : BitVec 32) : Fin 4 → Nat :=
  let c1_2330 : Index := 1#32
  let c3_2331 : Index := 3#32
  let c0_2332 : Index := 0#32
  let c128_i32_2277 : BitVec 32 := 128#32
  let v2450 : BitVec 32 := Scalar.muli v2449 c128_i32_2277
  let v2540 : Index := Scalar.indexCast v2450
  ![1, 3, 0, v2540.toNat]

def k0_chk61 (v2449 : BitVec 32) : Prop :=
  (∀ a, (k0_off284 v2449) a + S1x128x64.size a ≤ S2x4096x512.size a) ∧
  (∀ a, (k0_off285 v2449) a + S1x1x128x128.size a ≤ S2x4x128x4096.size a) ∧
  (∀ a, (k0_off286 v2449) a + S1x128x64.size a ≤ S2x4096x512.size a) ∧
  (∀ a, (k0_off287 v2449) a + S1x1x128x128.size a ≤ S2x4x128x4096.size a) ∧
  (∀ a, (k0_off288 v2449) a + S1x128x64.size a ≤ S2x4096x512.size a) ∧
  (∀ a, (k0_off289 v2449) a + S1x1x128x128.size a ≤ S2x4x128x4096.size a) ∧
  (∀ a, (k0_off290 v2449) a + S1x128x64.size a ≤ S2x4096x512.size a) ∧
  (∀ a, (k0_off291 v2449) a + S1x1x128x128.size a ≤ S2x4x128x4096.size a) ∧
  (∀ a, (k0_off292 v2449) a + S1x128x64.size a ≤ S2x4096x512.size a) ∧
  (∀ a, (k0_off293 v2449) a + S1x1x128x128.size a ≤ S2x4x128x4096.size a) ∧
  (∀ a, (k0_off294 v2449) a + S1x128x64.size a ≤ S2x4096x512.size a) ∧
  (∀ a, (k0_off295 v2449) a + S1x1x128x128.size a ≤ S2x4x128x4096.size a) ∧
  (∀ a, (k0_off296 v2449) a + S1x128x64.size a ≤ S2x4096x512.size a) ∧
  (∀ a, (k0_off297 v2449) a + S1x1x128x128.size a ≤ S2x4x128x4096.size a) ∧
  (∀ a, (k0_off298 v2449) a + S1x128x64.size a ≤ S2x4096x512.size a) ∧
  (∀ a, (k0_off299 v2449) a + S1x1x128x128.size a ≤ S2x4x128x4096.size a)
theorem k0_off284_inb : ∀ (v2449 : BitVec 32) (k0_hw61 : k0_chk61 v2449), ∀ a, (k0_off284 v2449) a + S1x128x64.size a ≤ S2x4096x512.size a := fun v2449 k0_hw61 => k0_hw61.1
theorem k0_off285_inb : ∀ (v2449 : BitVec 32) (k0_hw61 : k0_chk61 v2449), ∀ a, (k0_off285 v2449) a + S1x1x128x128.size a ≤ S2x4x128x4096.size a := fun v2449 k0_hw61 => k0_hw61.2.1
theorem k0_off286_inb : ∀ (v2449 : BitVec 32) (k0_hw61 : k0_chk61 v2449), ∀ a, (k0_off286 v2449) a + S1x128x64.size a ≤ S2x4096x512.size a := fun v2449 k0_hw61 => k0_hw61.2.2.1
theorem k0_off287_inb : ∀ (v2449 : BitVec 32) (k0_hw61 : k0_chk61 v2449), ∀ a, (k0_off287 v2449) a + S1x1x128x128.size a ≤ S2x4x128x4096.size a := fun v2449 k0_hw61 => k0_hw61.2.2.2.1
theorem k0_off288_inb : ∀ (v2449 : BitVec 32) (k0_hw61 : k0_chk61 v2449), ∀ a, (k0_off288 v2449) a + S1x128x64.size a ≤ S2x4096x512.size a := fun v2449 k0_hw61 => k0_hw61.2.2.2.2.1
theorem k0_off289_inb : ∀ (v2449 : BitVec 32) (k0_hw61 : k0_chk61 v2449), ∀ a, (k0_off289 v2449) a + S1x1x128x128.size a ≤ S2x4x128x4096.size a := fun v2449 k0_hw61 => k0_hw61.2.2.2.2.2.1
theorem k0_off290_inb : ∀ (v2449 : BitVec 32) (k0_hw61 : k0_chk61 v2449), ∀ a, (k0_off290 v2449) a + S1x128x64.size a ≤ S2x4096x512.size a := fun v2449 k0_hw61 => k0_hw61.2.2.2.2.2.2.1
theorem k0_off291_inb : ∀ (v2449 : BitVec 32) (k0_hw61 : k0_chk61 v2449), ∀ a, (k0_off291 v2449) a + S1x1x128x128.size a ≤ S2x4x128x4096.size a := fun v2449 k0_hw61 => k0_hw61.2.2.2.2.2.2.2.1
theorem k0_off292_inb : ∀ (v2449 : BitVec 32) (k0_hw61 : k0_chk61 v2449), ∀ a, (k0_off292 v2449) a + S1x128x64.size a ≤ S2x4096x512.size a := fun v2449 k0_hw61 => k0_hw61.2.2.2.2.2.2.2.2.1
theorem k0_off293_inb : ∀ (v2449 : BitVec 32) (k0_hw61 : k0_chk61 v2449), ∀ a, (k0_off293 v2449) a + S1x1x128x128.size a ≤ S2x4x128x4096.size a := fun v2449 k0_hw61 => k0_hw61.2.2.2.2.2.2.2.2.2.1
theorem k0_off294_inb : ∀ (v2449 : BitVec 32) (k0_hw61 : k0_chk61 v2449), ∀ a, (k0_off294 v2449) a + S1x128x64.size a ≤ S2x4096x512.size a := fun v2449 k0_hw61 => k0_hw61.2.2.2.2.2.2.2.2.2.2.1
theorem k0_off295_inb : ∀ (v2449 : BitVec 32) (k0_hw61 : k0_chk61 v2449), ∀ a, (k0_off295 v2449) a + S1x1x128x128.size a ≤ S2x4x128x4096.size a := fun v2449 k0_hw61 => k0_hw61.2.2.2.2.2.2.2.2.2.2.2.1
theorem k0_off296_inb : ∀ (v2449 : BitVec 32) (k0_hw61 : k0_chk61 v2449), ∀ a, (k0_off296 v2449) a + S1x128x64.size a ≤ S2x4096x512.size a := fun v2449 k0_hw61 => k0_hw61.2.2.2.2.2.2.2.2.2.2.2.2.1
theorem k0_off297_inb : ∀ (v2449 : BitVec 32) (k0_hw61 : k0_chk61 v2449), ∀ a, (k0_off297 v2449) a + S1x1x128x128.size a ≤ S2x4x128x4096.size a := fun v2449 k0_hw61 => k0_hw61.2.2.2.2.2.2.2.2.2.2.2.2.2.1
theorem k0_off298_inb : ∀ (v2449 : BitVec 32) (k0_hw61 : k0_chk61 v2449), ∀ a, (k0_off298 v2449) a + S1x128x64.size a ≤ S2x4096x512.size a := fun v2449 k0_hw61 => k0_hw61.2.2.2.2.2.2.2.2.2.2.2.2.2.2.1
theorem k0_off299_inb : ∀ (v2449 : BitVec 32) (k0_hw61 : k0_chk61 v2449), ∀ a, (k0_off299 v2449) a + S1x1x128x128.size a ≤ S2x4x128x4096.size a := fun v2449 k0_hw61 => k0_hw61.2.2.2.2.2.2.2.2.2.2.2.2.2.2.2

def k0_off300 (v2547 : BitVec 32) : Fin 3 → Nat :=
  let c0_2337 : Index := 0#32
  let c128_i32_2336 : BitVec 32 := 128#32
  let v2548 : BitVec 32 := Scalar.muli v2547 c128_i32_2336
  let v2549 : Index := Scalar.indexCast v2548
  let c0_2338 : Index := 0#32
  ![0, v2549.toNat, 0]

def k0_off301 (v2547 : BitVec 32) : Fin 4 → Nat :=
  let c0_2340 : Index := 0#32
  let c0_2341 : Index := 0#32
  let c0_2342 : Index := 0#32
  let c128_i32_2336 : BitVec 32 := 128#32
  let v2548 : BitVec 32 := Scalar.muli v2547 c128_i32_2336
  let v2554 : Index := Scalar.indexCast v2548
  ![0, 0, 0, v2554.toNat]
def k0_off302 (v2547 : BitVec 32) : Fin 3 → Nat :=
  let c0_2344 : Index := 0#32
  let c128_i32_2336 : BitVec 32 := 128#32
  let v2548 : BitVec 32 := Scalar.muli v2547 c128_i32_2336
  let v2561 : Index := Scalar.indexCast v2548
  let c64_2345 : Index := 64#32
  ![0, v2561.toNat, 64]
def k0_off303 (v2547 : BitVec 32) : Fin 4 → Nat :=
  let c0_2347 : Index := 0#32
  let c1_2348 : Index := 1#32
  let c0_2349 : Index := 0#32
  let c128_i32_2336 : BitVec 32 := 128#32
  let v2548 : BitVec 32 := Scalar.muli v2547 c128_i32_2336
  let v2566 : Index := Scalar.indexCast v2548
  ![0, 1, 0, v2566.toNat]
def k0_off304 (v2547 : BitVec 32) : Fin 3 → Nat :=
  let c0_2351 : Index := 0#32
  let c128_i32_2336 : BitVec 32 := 128#32
  let v2548 : BitVec 32 := Scalar.muli v2547 c128_i32_2336
  let v2573 : Index := Scalar.indexCast v2548
  let c128_2352 : Index := 128#32
  ![0, v2573.toNat, 128]
def k0_off305 (v2547 : BitVec 32) : Fin 4 → Nat :=
  let c0_2354 : Index := 0#32
  let c2_2355 : Index := 2#32
  let c0_2356 : Index := 0#32
  let c128_i32_2336 : BitVec 32 := 128#32
  let v2548 : BitVec 32 := Scalar.muli v2547 c128_i32_2336
  let v2578 : Index := Scalar.indexCast v2548
  ![0, 2, 0, v2578.toNat]
def k0_off306 (v2547 : BitVec 32) : Fin 3 → Nat :=
  let c0_2358 : Index := 0#32
  let c128_i32_2336 : BitVec 32 := 128#32
  let v2548 : BitVec 32 := Scalar.muli v2547 c128_i32_2336
  let v2585 : Index := Scalar.indexCast v2548
  let c192_2359 : Index := 192#32
  ![0, v2585.toNat, 192]
def k0_off307 (v2547 : BitVec 32) : Fin 4 → Nat :=
  let c0_2361 : Index := 0#32
  let c3_2362 : Index := 3#32
  let c0_2363 : Index := 0#32
  let c128_i32_2336 : BitVec 32 := 128#32
  let v2548 : BitVec 32 := Scalar.muli v2547 c128_i32_2336
  let v2590 : Index := Scalar.indexCast v2548
  ![0, 3, 0, v2590.toNat]
def k0_off308 (v2547 : BitVec 32) : Fin 3 → Nat :=
  let c1_2365 : Index := 1#32
  let c128_i32_2336 : BitVec 32 := 128#32
  let v2548 : BitVec 32 := Scalar.muli v2547 c128_i32_2336
  let v2597 : Index := Scalar.indexCast v2548
  let c0_2366 : Index := 0#32
  ![1, v2597.toNat, 0]
def k0_off309 (v2547 : BitVec 32) : Fin 4 → Nat :=
  let c1_2368 : Index := 1#32
  let c0_2369 : Index := 0#32
  let c0_2370 : Index := 0#32
  let c128_i32_2336 : BitVec 32 := 128#32
  let v2548 : BitVec 32 := Scalar.muli v2547 c128_i32_2336
  let v2602 : Index := Scalar.indexCast v2548
  ![1, 0, 0, v2602.toNat]
def k0_off310 (v2547 : BitVec 32) : Fin 3 → Nat :=
  let c1_2372 : Index := 1#32
  let c128_i32_2336 : BitVec 32 := 128#32
  let v2548 : BitVec 32 := Scalar.muli v2547 c128_i32_2336
  let v2609 : Index := Scalar.indexCast v2548
  let c64_2373 : Index := 64#32
  ![1, v2609.toNat, 64]
def k0_off311 (v2547 : BitVec 32) : Fin 4 → Nat :=
  let c1_2375 : Index := 1#32
  let c1_2376 : Index := 1#32
  let c0_2377 : Index := 0#32
  let c128_i32_2336 : BitVec 32 := 128#32
  let v2548 : BitVec 32 := Scalar.muli v2547 c128_i32_2336
  let v2614 : Index := Scalar.indexCast v2548
  ![1, 1, 0, v2614.toNat]
def k0_off312 (v2547 : BitVec 32) : Fin 3 → Nat :=
  let c1_2379 : Index := 1#32
  let c128_i32_2336 : BitVec 32 := 128#32
  let v2548 : BitVec 32 := Scalar.muli v2547 c128_i32_2336
  let v2621 : Index := Scalar.indexCast v2548
  let c128_2380 : Index := 128#32
  ![1, v2621.toNat, 128]
def k0_off313 (v2547 : BitVec 32) : Fin 4 → Nat :=
  let c1_2382 : Index := 1#32
  let c2_2383 : Index := 2#32
  let c0_2384 : Index := 0#32
  let c128_i32_2336 : BitVec 32 := 128#32
  let v2548 : BitVec 32 := Scalar.muli v2547 c128_i32_2336
  let v2626 : Index := Scalar.indexCast v2548
  ![1, 2, 0, v2626.toNat]
def k0_off314 (v2547 : BitVec 32) : Fin 3 → Nat :=
  let c1_2386 : Index := 1#32
  let c128_i32_2336 : BitVec 32 := 128#32
  let v2548 : BitVec 32 := Scalar.muli v2547 c128_i32_2336
  let v2633 : Index := Scalar.indexCast v2548
  let c192_2387 : Index := 192#32
  ![1, v2633.toNat, 192]
def k0_off315 (v2547 : BitVec 32) : Fin 4 → Nat :=
  let c1_2389 : Index := 1#32
  let c3_2390 : Index := 3#32
  let c0_2391 : Index := 0#32
  let c128_i32_2336 : BitVec 32 := 128#32
  let v2548 : BitVec 32 := Scalar.muli v2547 c128_i32_2336
  let v2638 : Index := Scalar.indexCast v2548
  ![1, 3, 0, v2638.toNat]

def k0_chk62 (v2547 : BitVec 32) : Prop :=
  (∀ a, (k0_off300 v2547) a + S1x128x64.size a ≤ S2x4096x512.size a) ∧
  (∀ a, (k0_off301 v2547) a + S1x1x128x128.size a ≤ S2x4x128x4096.size a) ∧
  (∀ a, (k0_off302 v2547) a + S1x128x64.size a ≤ S2x4096x512.size a) ∧
  (∀ a, (k0_off303 v2547) a + S1x1x128x128.size a ≤ S2x4x128x4096.size a) ∧
  (∀ a, (k0_off304 v2547) a + S1x128x64.size a ≤ S2x4096x512.size a) ∧
  (∀ a, (k0_off305 v2547) a + S1x1x128x128.size a ≤ S2x4x128x4096.size a) ∧
  (∀ a, (k0_off306 v2547) a + S1x128x64.size a ≤ S2x4096x512.size a) ∧
  (∀ a, (k0_off307 v2547) a + S1x1x128x128.size a ≤ S2x4x128x4096.size a) ∧
  (∀ a, (k0_off308 v2547) a + S1x128x64.size a ≤ S2x4096x512.size a) ∧
  (∀ a, (k0_off309 v2547) a + S1x1x128x128.size a ≤ S2x4x128x4096.size a) ∧
  (∀ a, (k0_off310 v2547) a + S1x128x64.size a ≤ S2x4096x512.size a) ∧
  (∀ a, (k0_off311 v2547) a + S1x1x128x128.size a ≤ S2x4x128x4096.size a) ∧
  (∀ a, (k0_off312 v2547) a + S1x128x64.size a ≤ S2x4096x512.size a) ∧
  (∀ a, (k0_off313 v2547) a + S1x1x128x128.size a ≤ S2x4x128x4096.size a) ∧
  (∀ a, (k0_off314 v2547) a + S1x128x64.size a ≤ S2x4096x512.size a) ∧
  (∀ a, (k0_off315 v2547) a + S1x1x128x128.size a ≤ S2x4x128x4096.size a)
theorem k0_off300_inb : ∀ (v2547 : BitVec 32) (k0_hw62 : k0_chk62 v2547), ∀ a, (k0_off300 v2547) a + S1x128x64.size a ≤ S2x4096x512.size a := fun v2547 k0_hw62 => k0_hw62.1
theorem k0_off301_inb : ∀ (v2547 : BitVec 32) (k0_hw62 : k0_chk62 v2547), ∀ a, (k0_off301 v2547) a + S1x1x128x128.size a ≤ S2x4x128x4096.size a := fun v2547 k0_hw62 => k0_hw62.2.1
theorem k0_off302_inb : ∀ (v2547 : BitVec 32) (k0_hw62 : k0_chk62 v2547), ∀ a, (k0_off302 v2547) a + S1x128x64.size a ≤ S2x4096x512.size a := fun v2547 k0_hw62 => k0_hw62.2.2.1
theorem k0_off303_inb : ∀ (v2547 : BitVec 32) (k0_hw62 : k0_chk62 v2547), ∀ a, (k0_off303 v2547) a + S1x1x128x128.size a ≤ S2x4x128x4096.size a := fun v2547 k0_hw62 => k0_hw62.2.2.2.1
theorem k0_off304_inb : ∀ (v2547 : BitVec 32) (k0_hw62 : k0_chk62 v2547), ∀ a, (k0_off304 v2547) a + S1x128x64.size a ≤ S2x4096x512.size a := fun v2547 k0_hw62 => k0_hw62.2.2.2.2.1
theorem k0_off305_inb : ∀ (v2547 : BitVec 32) (k0_hw62 : k0_chk62 v2547), ∀ a, (k0_off305 v2547) a + S1x1x128x128.size a ≤ S2x4x128x4096.size a := fun v2547 k0_hw62 => k0_hw62.2.2.2.2.2.1
theorem k0_off306_inb : ∀ (v2547 : BitVec 32) (k0_hw62 : k0_chk62 v2547), ∀ a, (k0_off306 v2547) a + S1x128x64.size a ≤ S2x4096x512.size a := fun v2547 k0_hw62 => k0_hw62.2.2.2.2.2.2.1
theorem k0_off307_inb : ∀ (v2547 : BitVec 32) (k0_hw62 : k0_chk62 v2547), ∀ a, (k0_off307 v2547) a + S1x1x128x128.size a ≤ S2x4x128x4096.size a := fun v2547 k0_hw62 => k0_hw62.2.2.2.2.2.2.2.1
theorem k0_off308_inb : ∀ (v2547 : BitVec 32) (k0_hw62 : k0_chk62 v2547), ∀ a, (k0_off308 v2547) a + S1x128x64.size a ≤ S2x4096x512.size a := fun v2547 k0_hw62 => k0_hw62.2.2.2.2.2.2.2.2.1
theorem k0_off309_inb : ∀ (v2547 : BitVec 32) (k0_hw62 : k0_chk62 v2547), ∀ a, (k0_off309 v2547) a + S1x1x128x128.size a ≤ S2x4x128x4096.size a := fun v2547 k0_hw62 => k0_hw62.2.2.2.2.2.2.2.2.2.1
theorem k0_off310_inb : ∀ (v2547 : BitVec 32) (k0_hw62 : k0_chk62 v2547), ∀ a, (k0_off310 v2547) a + S1x128x64.size a ≤ S2x4096x512.size a := fun v2547 k0_hw62 => k0_hw62.2.2.2.2.2.2.2.2.2.2.1
theorem k0_off311_inb : ∀ (v2547 : BitVec 32) (k0_hw62 : k0_chk62 v2547), ∀ a, (k0_off311 v2547) a + S1x1x128x128.size a ≤ S2x4x128x4096.size a := fun v2547 k0_hw62 => k0_hw62.2.2.2.2.2.2.2.2.2.2.2.1
theorem k0_off312_inb : ∀ (v2547 : BitVec 32) (k0_hw62 : k0_chk62 v2547), ∀ a, (k0_off312 v2547) a + S1x128x64.size a ≤ S2x4096x512.size a := fun v2547 k0_hw62 => k0_hw62.2.2.2.2.2.2.2.2.2.2.2.2.1
theorem k0_off313_inb : ∀ (v2547 : BitVec 32) (k0_hw62 : k0_chk62 v2547), ∀ a, (k0_off313 v2547) a + S1x1x128x128.size a ≤ S2x4x128x4096.size a := fun v2547 k0_hw62 => k0_hw62.2.2.2.2.2.2.2.2.2.2.2.2.2.1
theorem k0_off314_inb : ∀ (v2547 : BitVec 32) (k0_hw62 : k0_chk62 v2547), ∀ a, (k0_off314 v2547) a + S1x128x64.size a ≤ S2x4096x512.size a := fun v2547 k0_hw62 => k0_hw62.2.2.2.2.2.2.2.2.2.2.2.2.2.2.1
theorem k0_off315_inb : ∀ (v2547 : BitVec 32) (k0_hw62 : k0_chk62 v2547), ∀ a, (k0_off315 v2547) a + S1x1x128x128.size a ≤ S2x4x128x4096.size a := fun v2547 k0_hw62 => k0_hw62.2.2.2.2.2.2.2.2.2.2.2.2.2.2.2

def k0_off316 (v2645 : BitVec 32) : Fin 3 → Nat :=
  let c0_2396 : Index := 0#32
  let c128_i32_2395 : BitVec 32 := 128#32
  let v2646 : BitVec 32 := Scalar.muli v2645 c128_i32_2395
  let v2647 : Index := Scalar.indexCast v2646
  let c0_2397 : Index := 0#32
  ![0, v2647.toNat, 0]

def k0_off317 (v2645 : BitVec 32) : Fin 4 → Nat :=
  let c0_2399 : Index := 0#32
  let c0_2400 : Index := 0#32
  let c0_2401 : Index := 0#32
  let c128_i32_2395 : BitVec 32 := 128#32
  let v2646 : BitVec 32 := Scalar.muli v2645 c128_i32_2395
  let v2652 : Index := Scalar.indexCast v2646
  ![0, 0, 0, v2652.toNat]
def k0_off318 (v2645 : BitVec 32) : Fin 3 → Nat :=
  let c0_2403 : Index := 0#32
  let c128_i32_2395 : BitVec 32 := 128#32
  let v2646 : BitVec 32 := Scalar.muli v2645 c128_i32_2395
  let v2659 : Index := Scalar.indexCast v2646
  let c64_2404 : Index := 64#32
  ![0, v2659.toNat, 64]
def k0_off319 (v2645 : BitVec 32) : Fin 4 → Nat :=
  let c0_2406 : Index := 0#32
  let c1_2407 : Index := 1#32
  let c0_2408 : Index := 0#32
  let c128_i32_2395 : BitVec 32 := 128#32
  let v2646 : BitVec 32 := Scalar.muli v2645 c128_i32_2395
  let v2664 : Index := Scalar.indexCast v2646
  ![0, 1, 0, v2664.toNat]
def k0_off320 (v2645 : BitVec 32) : Fin 3 → Nat :=
  let c0_2410 : Index := 0#32
  let c128_i32_2395 : BitVec 32 := 128#32
  let v2646 : BitVec 32 := Scalar.muli v2645 c128_i32_2395
  let v2671 : Index := Scalar.indexCast v2646
  let c128_2411 : Index := 128#32
  ![0, v2671.toNat, 128]
def k0_off321 (v2645 : BitVec 32) : Fin 4 → Nat :=
  let c0_2413 : Index := 0#32
  let c2_2414 : Index := 2#32
  let c0_2415 : Index := 0#32
  let c128_i32_2395 : BitVec 32 := 128#32
  let v2646 : BitVec 32 := Scalar.muli v2645 c128_i32_2395
  let v2676 : Index := Scalar.indexCast v2646
  ![0, 2, 0, v2676.toNat]
def k0_off322 (v2645 : BitVec 32) : Fin 3 → Nat :=
  let c0_2417 : Index := 0#32
  let c128_i32_2395 : BitVec 32 := 128#32
  let v2646 : BitVec 32 := Scalar.muli v2645 c128_i32_2395
  let v2683 : Index := Scalar.indexCast v2646
  let c192_2418 : Index := 192#32
  ![0, v2683.toNat, 192]
def k0_off323 (v2645 : BitVec 32) : Fin 4 → Nat :=
  let c0_2420 : Index := 0#32
  let c3_2421 : Index := 3#32
  let c0_2422 : Index := 0#32
  let c128_i32_2395 : BitVec 32 := 128#32
  let v2646 : BitVec 32 := Scalar.muli v2645 c128_i32_2395
  let v2688 : Index := Scalar.indexCast v2646
  ![0, 3, 0, v2688.toNat]
def k0_off324 (v2645 : BitVec 32) : Fin 3 → Nat :=
  let c1_2424 : Index := 1#32
  let c128_i32_2395 : BitVec 32 := 128#32
  let v2646 : BitVec 32 := Scalar.muli v2645 c128_i32_2395
  let v2695 : Index := Scalar.indexCast v2646
  let c0_2425 : Index := 0#32
  ![1, v2695.toNat, 0]
def k0_off325 (v2645 : BitVec 32) : Fin 4 → Nat :=
  let c1_2427 : Index := 1#32
  let c0_2428 : Index := 0#32
  let c0_2429 : Index := 0#32
  let c128_i32_2395 : BitVec 32 := 128#32
  let v2646 : BitVec 32 := Scalar.muli v2645 c128_i32_2395
  let v2700 : Index := Scalar.indexCast v2646
  ![1, 0, 0, v2700.toNat]
def k0_off326 (v2645 : BitVec 32) : Fin 3 → Nat :=
  let c1_2431 : Index := 1#32
  let c128_i32_2395 : BitVec 32 := 128#32
  let v2646 : BitVec 32 := Scalar.muli v2645 c128_i32_2395
  let v2707 : Index := Scalar.indexCast v2646
  let c64_2432 : Index := 64#32
  ![1, v2707.toNat, 64]
def k0_off327 (v2645 : BitVec 32) : Fin 4 → Nat :=
  let c1_2434 : Index := 1#32
  let c1_2435 : Index := 1#32
  let c0_2436 : Index := 0#32
  let c128_i32_2395 : BitVec 32 := 128#32
  let v2646 : BitVec 32 := Scalar.muli v2645 c128_i32_2395
  let v2712 : Index := Scalar.indexCast v2646
  ![1, 1, 0, v2712.toNat]
def k0_off328 (v2645 : BitVec 32) : Fin 3 → Nat :=
  let c1_2438 : Index := 1#32
  let c128_i32_2395 : BitVec 32 := 128#32
  let v2646 : BitVec 32 := Scalar.muli v2645 c128_i32_2395
  let v2719 : Index := Scalar.indexCast v2646
  let c128_2439 : Index := 128#32
  ![1, v2719.toNat, 128]
def k0_off329 (v2645 : BitVec 32) : Fin 4 → Nat :=
  let c1_2441 : Index := 1#32
  let c2_2442 : Index := 2#32
  let c0_2443 : Index := 0#32
  let c128_i32_2395 : BitVec 32 := 128#32
  let v2646 : BitVec 32 := Scalar.muli v2645 c128_i32_2395
  let v2724 : Index := Scalar.indexCast v2646
  ![1, 2, 0, v2724.toNat]
def k0_off330 (v2645 : BitVec 32) : Fin 3 → Nat :=
  let c1_2445 : Index := 1#32
  let c128_i32_2395 : BitVec 32 := 128#32
  let v2646 : BitVec 32 := Scalar.muli v2645 c128_i32_2395
  let v2731 : Index := Scalar.indexCast v2646
  let c192_2446 : Index := 192#32
  ![1, v2731.toNat, 192]
def k0_off331 (v2645 : BitVec 32) : Fin 4 → Nat :=
  let c1_2448 : Index := 1#32
  let c3_2449 : Index := 3#32
  let c0_2450 : Index := 0#32
  let c128_i32_2395 : BitVec 32 := 128#32
  let v2646 : BitVec 32 := Scalar.muli v2645 c128_i32_2395
  let v2736 : Index := Scalar.indexCast v2646
  ![1, 3, 0, v2736.toNat]

def k0_chk63 (v2645 : BitVec 32) : Prop :=
  (∀ a, (k0_off316 v2645) a + S1x128x64.size a ≤ S2x4096x512.size a) ∧
  (∀ a, (k0_off317 v2645) a + S1x1x128x128.size a ≤ S2x4x128x4096.size a) ∧
  (∀ a, (k0_off318 v2645) a + S1x128x64.size a ≤ S2x4096x512.size a) ∧
  (∀ a, (k0_off319 v2645) a + S1x1x128x128.size a ≤ S2x4x128x4096.size a) ∧
  (∀ a, (k0_off320 v2645) a + S1x128x64.size a ≤ S2x4096x512.size a) ∧
  (∀ a, (k0_off321 v2645) a + S1x1x128x128.size a ≤ S2x4x128x4096.size a) ∧
  (∀ a, (k0_off322 v2645) a + S1x128x64.size a ≤ S2x4096x512.size a) ∧
  (∀ a, (k0_off323 v2645) a + S1x1x128x128.size a ≤ S2x4x128x4096.size a) ∧
  (∀ a, (k0_off324 v2645) a + S1x128x64.size a ≤ S2x4096x512.size a) ∧
  (∀ a, (k0_off325 v2645) a + S1x1x128x128.size a ≤ S2x4x128x4096.size a) ∧
  (∀ a, (k0_off326 v2645) a + S1x128x64.size a ≤ S2x4096x512.size a) ∧
  (∀ a, (k0_off327 v2645) a + S1x1x128x128.size a ≤ S2x4x128x4096.size a) ∧
  (∀ a, (k0_off328 v2645) a + S1x128x64.size a ≤ S2x4096x512.size a) ∧
  (∀ a, (k0_off329 v2645) a + S1x1x128x128.size a ≤ S2x4x128x4096.size a) ∧
  (∀ a, (k0_off330 v2645) a + S1x128x64.size a ≤ S2x4096x512.size a) ∧
  (∀ a, (k0_off331 v2645) a + S1x1x128x128.size a ≤ S2x4x128x4096.size a)
theorem k0_off316_inb : ∀ (v2645 : BitVec 32) (k0_hw63 : k0_chk63 v2645), ∀ a, (k0_off316 v2645) a + S1x128x64.size a ≤ S2x4096x512.size a := fun v2645 k0_hw63 => k0_hw63.1
theorem k0_off317_inb : ∀ (v2645 : BitVec 32) (k0_hw63 : k0_chk63 v2645), ∀ a, (k0_off317 v2645) a + S1x1x128x128.size a ≤ S2x4x128x4096.size a := fun v2645 k0_hw63 => k0_hw63.2.1
theorem k0_off318_inb : ∀ (v2645 : BitVec 32) (k0_hw63 : k0_chk63 v2645), ∀ a, (k0_off318 v2645) a + S1x128x64.size a ≤ S2x4096x512.size a := fun v2645 k0_hw63 => k0_hw63.2.2.1
theorem k0_off319_inb : ∀ (v2645 : BitVec 32) (k0_hw63 : k0_chk63 v2645), ∀ a, (k0_off319 v2645) a + S1x1x128x128.size a ≤ S2x4x128x4096.size a := fun v2645 k0_hw63 => k0_hw63.2.2.2.1
theorem k0_off320_inb : ∀ (v2645 : BitVec 32) (k0_hw63 : k0_chk63 v2645), ∀ a, (k0_off320 v2645) a + S1x128x64.size a ≤ S2x4096x512.size a := fun v2645 k0_hw63 => k0_hw63.2.2.2.2.1
theorem k0_off321_inb : ∀ (v2645 : BitVec 32) (k0_hw63 : k0_chk63 v2645), ∀ a, (k0_off321 v2645) a + S1x1x128x128.size a ≤ S2x4x128x4096.size a := fun v2645 k0_hw63 => k0_hw63.2.2.2.2.2.1
theorem k0_off322_inb : ∀ (v2645 : BitVec 32) (k0_hw63 : k0_chk63 v2645), ∀ a, (k0_off322 v2645) a + S1x128x64.size a ≤ S2x4096x512.size a := fun v2645 k0_hw63 => k0_hw63.2.2.2.2.2.2.1
theorem k0_off323_inb : ∀ (v2645 : BitVec 32) (k0_hw63 : k0_chk63 v2645), ∀ a, (k0_off323 v2645) a + S1x1x128x128.size a ≤ S2x4x128x4096.size a := fun v2645 k0_hw63 => k0_hw63.2.2.2.2.2.2.2.1
theorem k0_off324_inb : ∀ (v2645 : BitVec 32) (k0_hw63 : k0_chk63 v2645), ∀ a, (k0_off324 v2645) a + S1x128x64.size a ≤ S2x4096x512.size a := fun v2645 k0_hw63 => k0_hw63.2.2.2.2.2.2.2.2.1
theorem k0_off325_inb : ∀ (v2645 : BitVec 32) (k0_hw63 : k0_chk63 v2645), ∀ a, (k0_off325 v2645) a + S1x1x128x128.size a ≤ S2x4x128x4096.size a := fun v2645 k0_hw63 => k0_hw63.2.2.2.2.2.2.2.2.2.1
theorem k0_off326_inb : ∀ (v2645 : BitVec 32) (k0_hw63 : k0_chk63 v2645), ∀ a, (k0_off326 v2645) a + S1x128x64.size a ≤ S2x4096x512.size a := fun v2645 k0_hw63 => k0_hw63.2.2.2.2.2.2.2.2.2.2.1
theorem k0_off327_inb : ∀ (v2645 : BitVec 32) (k0_hw63 : k0_chk63 v2645), ∀ a, (k0_off327 v2645) a + S1x1x128x128.size a ≤ S2x4x128x4096.size a := fun v2645 k0_hw63 => k0_hw63.2.2.2.2.2.2.2.2.2.2.2.1
theorem k0_off328_inb : ∀ (v2645 : BitVec 32) (k0_hw63 : k0_chk63 v2645), ∀ a, (k0_off328 v2645) a + S1x128x64.size a ≤ S2x4096x512.size a := fun v2645 k0_hw63 => k0_hw63.2.2.2.2.2.2.2.2.2.2.2.2.1
theorem k0_off329_inb : ∀ (v2645 : BitVec 32) (k0_hw63 : k0_chk63 v2645), ∀ a, (k0_off329 v2645) a + S1x1x128x128.size a ≤ S2x4x128x4096.size a := fun v2645 k0_hw63 => k0_hw63.2.2.2.2.2.2.2.2.2.2.2.2.2.1
theorem k0_off330_inb : ∀ (v2645 : BitVec 32) (k0_hw63 : k0_chk63 v2645), ∀ a, (k0_off330 v2645) a + S1x128x64.size a ≤ S2x4096x512.size a := fun v2645 k0_hw63 => k0_hw63.2.2.2.2.2.2.2.2.2.2.2.2.2.2.1
theorem k0_off331_inb : ∀ (v2645 : BitVec 32) (k0_hw63 : k0_chk63 v2645), ∀ a, (k0_off331 v2645) a + S1x1x128x128.size a ≤ S2x4x128x4096.size a := fun v2645 k0_hw63 => k0_hw63.2.2.2.2.2.2.2.2.2.2.2.2.2.2.2

def k0_off332 (v2039 : BitVec 32) : Fin 3 → Nat :=
  let c0_i32_2453 : BitVec 32 := 0#32
  let c128_i32_1798 : BitVec 32 := 128#32
  let v2040 : BitVec 32 := Scalar.muli v2039 c128_i32_1798
  let c0_i32_2462 : BitVec 32 := 0#32
  ![0, v2040.toNat, 0]
def k0_off333 (v2751 : BitVec 32) : Fin 3 → Nat :=
  let c0_i32_2467 : BitVec 32 := 0#32
  let c128_i32_2465 : BitVec 32 := 128#32
  let v2752 : BitVec 32 := Scalar.muli v2751 c128_i32_2465
  let c0_i32_2475 : BitVec 32 := 0#32
  ![0, v2752.toNat, 0]

def k0_dev72 (v4 : BitVec 32) : Nat :=
  let c0_i32_2474 : BitVec 32 := 0#32
  let c1_i32_2473 : BitVec 32 := 1#32
  let v2753 : BitVec 32 := Scalar.muli v4 c1_i32_2473
  let v2754 : BitVec 32 := Scalar.addi c0_i32_2474 v2753
  v2754.toNat
def k0_off334 (v2059 : BitVec 32) : Fin 3 → Nat :=
  let c0_i32_2478 : BitVec 32 := 0#32
  let c128_i32_1825 : BitVec 32 := 128#32
  let v2060 : BitVec 32 := Scalar.muli v2059 c128_i32_1825
  let c256_i32_2487 : BitVec 32 := 256#32
  ![0, v2060.toNat, 256]
def k0_off335 (v2771 : BitVec 32) : Fin 3 → Nat :=
  let c0_i32_2493 : BitVec 32 := 0#32
  let c128_i32_2491 : BitVec 32 := 128#32
  let v2772 : BitVec 32 := Scalar.muli v2771 c128_i32_2491
  let c256_i32_2502 : BitVec 32 := 256#32
  ![0, v2772.toNat, 256]

def k0_dev73 (v4 : BitVec 32) : Nat :=
  let c0_i32_2501 : BitVec 32 := 0#32
  let c1_i32_2500 : BitVec 32 := 1#32
  let v2773 : BitVec 32 := Scalar.muli v4 c1_i32_2500
  let v2774 : BitVec 32 := Scalar.addi c0_i32_2501 v2773
  v2774.toNat
def k0_off336 (v2079 : BitVec 32) : Fin 3 → Nat :=
  let c0_i32_2505 : BitVec 32 := 0#32
  let c128_i32_1852 : BitVec 32 := 128#32
  let v2080 : BitVec 32 := Scalar.muli v2079 c128_i32_1852
  let c0_i32_2514 : BitVec 32 := 0#32
  ![0, v2080.toNat, 0]
def k0_off337 (v2791 : BitVec 32) : Fin 3 → Nat :=
  let c0_i32_2520 : BitVec 32 := 0#32
  let c128_i32_2518 : BitVec 32 := 128#32
  let v2792 : BitVec 32 := Scalar.muli v2791 c128_i32_2518
  let c0_i32_2529 : BitVec 32 := 0#32
  ![0, v2792.toNat, 0]

def k0_dev74 (v4 : BitVec 32) : Nat :=
  let c0_i32_2528 : BitVec 32 := 0#32
  let c1_i32_2527 : BitVec 32 := 1#32
  let v2793 : BitVec 32 := Scalar.muli v4 c1_i32_2527
  let v2794 : BitVec 32 := Scalar.addi c0_i32_2528 v2793
  v2794.toNat
def k0_off338 (v2099 : BitVec 32) : Fin 3 → Nat :=
  let c0_i32_2532 : BitVec 32 := 0#32
  let c128_i32_1879 : BitVec 32 := 128#32
  let v2100 : BitVec 32 := Scalar.muli v2099 c128_i32_1879
  let c256_i32_2541 : BitVec 32 := 256#32
  ![0, v2100.toNat, 256]
def k0_off339 (v2811 : BitVec 32) : Fin 3 → Nat :=
  let c0_i32_2547 : BitVec 32 := 0#32
  let c128_i32_2545 : BitVec 32 := 128#32
  let v2812 : BitVec 32 := Scalar.muli v2811 c128_i32_2545
  let c256_i32_2556 : BitVec 32 := 256#32
  ![0, v2812.toNat, 256]

def k0_dev75 (v4 : BitVec 32) : Nat :=
  let c0_i32_2555 : BitVec 32 := 0#32
  let c1_i32_2554 : BitVec 32 := 1#32
  let v2813 : BitVec 32 := Scalar.muli v4 c1_i32_2554
  let v2814 : BitVec 32 := Scalar.addi c0_i32_2555 v2813
  v2814.toNat
def k0_off340 (v2119 : BitVec 32) : Fin 3 → Nat :=
  let c1_i32_2559 : BitVec 32 := 1#32
  let c128_i32_1906 : BitVec 32 := 128#32
  let v2120 : BitVec 32 := Scalar.muli v2119 c128_i32_1906
  let c0_i32_2568 : BitVec 32 := 0#32
  ![1, v2120.toNat, 0]
def k0_off341 (v2831 : BitVec 32) : Fin 3 → Nat :=
  let c1_i32_2574 : BitVec 32 := 1#32
  let c128_i32_2572 : BitVec 32 := 128#32
  let v2832 : BitVec 32 := Scalar.muli v2831 c128_i32_2572
  let c0_i32_2583 : BitVec 32 := 0#32
  ![1, v2832.toNat, 0]

def k0_dev76 (v4 : BitVec 32) : Nat :=
  let c0_i32_2582 : BitVec 32 := 0#32
  let c1_i32_2581 : BitVec 32 := 1#32
  let v2833 : BitVec 32 := Scalar.muli v4 c1_i32_2581
  let v2834 : BitVec 32 := Scalar.addi c0_i32_2582 v2833
  v2834.toNat
def k0_off342 (v2139 : BitVec 32) : Fin 3 → Nat :=
  let c1_i32_2586 : BitVec 32 := 1#32
  let c128_i32_1933 : BitVec 32 := 128#32
  let v2140 : BitVec 32 := Scalar.muli v2139 c128_i32_1933
  let c256_i32_2595 : BitVec 32 := 256#32
  ![1, v2140.toNat, 256]
def k0_off343 (v2851 : BitVec 32) : Fin 3 → Nat :=
  let c1_i32_2601 : BitVec 32 := 1#32
  let c128_i32_2599 : BitVec 32 := 128#32
  let v2852 : BitVec 32 := Scalar.muli v2851 c128_i32_2599
  let c256_i32_2610 : BitVec 32 := 256#32
  ![1, v2852.toNat, 256]

def k0_dev77 (v4 : BitVec 32) : Nat :=
  let c0_i32_2609 : BitVec 32 := 0#32
  let c1_i32_2608 : BitVec 32 := 1#32
  let v2853 : BitVec 32 := Scalar.muli v4 c1_i32_2608
  let v2854 : BitVec 32 := Scalar.addi c0_i32_2609 v2853
  v2854.toNat
def k0_off344 (v2159 : BitVec 32) : Fin 3 → Nat :=
  let c1_i32_2613 : BitVec 32 := 1#32
  let c128_i32_1960 : BitVec 32 := 128#32
  let v2160 : BitVec 32 := Scalar.muli v2159 c128_i32_1960
  let c0_i32_2622 : BitVec 32 := 0#32
  ![1, v2160.toNat, 0]
def k0_off345 (v2871 : BitVec 32) : Fin 3 → Nat :=
  let c1_i32_2628 : BitVec 32 := 1#32
  let c128_i32_2626 : BitVec 32 := 128#32
  let v2872 : BitVec 32 := Scalar.muli v2871 c128_i32_2626
  let c0_i32_2637 : BitVec 32 := 0#32
  ![1, v2872.toNat, 0]

def k0_dev78 (v4 : BitVec 32) : Nat :=
  let c0_i32_2636 : BitVec 32 := 0#32
  let c1_i32_2635 : BitVec 32 := 1#32
  let v2873 : BitVec 32 := Scalar.muli v4 c1_i32_2635
  let v2874 : BitVec 32 := Scalar.addi c0_i32_2636 v2873
  v2874.toNat
def k0_off346 (v2179 : BitVec 32) : Fin 3 → Nat :=
  let c1_i32_2640 : BitVec 32 := 1#32
  let c128_i32_1987 : BitVec 32 := 128#32
  let v2180 : BitVec 32 := Scalar.muli v2179 c128_i32_1987
  let c256_i32_2649 : BitVec 32 := 256#32
  ![1, v2180.toNat, 256]
def k0_off347 (v2891 : BitVec 32) : Fin 3 → Nat :=
  let c1_i32_2655 : BitVec 32 := 1#32
  let c128_i32_2653 : BitVec 32 := 128#32
  let v2892 : BitVec 32 := Scalar.muli v2891 c128_i32_2653
  let c256_i32_2664 : BitVec 32 := 256#32
  ![1, v2892.toNat, 256]

def k0_dev79 (v4 : BitVec 32) : Nat :=
  let c0_i32_2663 : BitVec 32 := 0#32
  let c1_i32_2662 : BitVec 32 := 1#32
  let v2893 : BitVec 32 := Scalar.muli v4 c1_i32_2662
  let v2894 : BitVec 32 := Scalar.addi c0_i32_2663 v2893
  v2894.toNat
def k0_off348 (v2199 : BitVec 32) : Fin 3 → Nat :=
  let c0_i32_2667 : BitVec 32 := 0#32
  let c128_i32_2014 : BitVec 32 := 128#32
  let v2200 : BitVec 32 := Scalar.muli v2199 c128_i32_2014
  let c0_i32_2676 : BitVec 32 := 0#32
  ![0, v2200.toNat, 0]
def k0_off349 (v2911 : BitVec 32) : Fin 3 → Nat :=
  let c0_i32_2682 : BitVec 32 := 0#32
  let c128_i32_2680 : BitVec 32 := 128#32
  let v2912 : BitVec 32 := Scalar.muli v2911 c128_i32_2680
  let c0_i32_2691 : BitVec 32 := 0#32
  ![0, v2912.toNat, 0]

def k0_dev80 (v3 : BitVec 32) : Nat :=
  let c0_i32_2690 : BitVec 32 := 0#32
  let c1_i32_2689 : BitVec 32 := 1#32
  let v2913 : BitVec 32 := Scalar.muli v3 c1_i32_2689
  let v2914 : BitVec 32 := Scalar.addi c0_i32_2690 v2913
  v2914.toNat
def k0_off350 (v2219 : BitVec 32) : Fin 3 → Nat :=
  let c0_i32_2694 : BitVec 32 := 0#32
  let c128_i32_2041 : BitVec 32 := 128#32
  let v2220 : BitVec 32 := Scalar.muli v2219 c128_i32_2041
  let c256_i32_2703 : BitVec 32 := 256#32
  ![0, v2220.toNat, 256]
def k0_off351 (v2931 : BitVec 32) : Fin 3 → Nat :=
  let c0_i32_2709 : BitVec 32 := 0#32
  let c128_i32_2707 : BitVec 32 := 128#32
  let v2932 : BitVec 32 := Scalar.muli v2931 c128_i32_2707
  let c256_i32_2718 : BitVec 32 := 256#32
  ![0, v2932.toNat, 256]

def k0_dev81 (v3 : BitVec 32) : Nat :=
  let c0_i32_2717 : BitVec 32 := 0#32
  let c1_i32_2716 : BitVec 32 := 1#32
  let v2933 : BitVec 32 := Scalar.muli v3 c1_i32_2716
  let v2934 : BitVec 32 := Scalar.addi c0_i32_2717 v2933
  v2934.toNat
def k0_off352 (v2239 : BitVec 32) : Fin 3 → Nat :=
  let c0_i32_2721 : BitVec 32 := 0#32
  let c128_i32_2068 : BitVec 32 := 128#32
  let v2240 : BitVec 32 := Scalar.muli v2239 c128_i32_2068
  let c0_i32_2730 : BitVec 32 := 0#32
  ![0, v2240.toNat, 0]
def k0_off353 (v2951 : BitVec 32) : Fin 3 → Nat :=
  let c0_i32_2736 : BitVec 32 := 0#32
  let c128_i32_2734 : BitVec 32 := 128#32
  let v2952 : BitVec 32 := Scalar.muli v2951 c128_i32_2734
  let c0_i32_2745 : BitVec 32 := 0#32
  ![0, v2952.toNat, 0]

def k0_dev82 (v3 : BitVec 32) : Nat :=
  let c0_i32_2744 : BitVec 32 := 0#32
  let c1_i32_2743 : BitVec 32 := 1#32
  let v2953 : BitVec 32 := Scalar.muli v3 c1_i32_2743
  let v2954 : BitVec 32 := Scalar.addi c0_i32_2744 v2953
  v2954.toNat
def k0_off354 (v2259 : BitVec 32) : Fin 3 → Nat :=
  let c0_i32_2748 : BitVec 32 := 0#32
  let c128_i32_2095 : BitVec 32 := 128#32
  let v2260 : BitVec 32 := Scalar.muli v2259 c128_i32_2095
  let c256_i32_2757 : BitVec 32 := 256#32
  ![0, v2260.toNat, 256]
def k0_off355 (v2971 : BitVec 32) : Fin 3 → Nat :=
  let c0_i32_2763 : BitVec 32 := 0#32
  let c128_i32_2761 : BitVec 32 := 128#32
  let v2972 : BitVec 32 := Scalar.muli v2971 c128_i32_2761
  let c256_i32_2772 : BitVec 32 := 256#32
  ![0, v2972.toNat, 256]

def k0_dev83 (v3 : BitVec 32) : Nat :=
  let c0_i32_2771 : BitVec 32 := 0#32
  let c1_i32_2770 : BitVec 32 := 1#32
  let v2973 : BitVec 32 := Scalar.muli v3 c1_i32_2770
  let v2974 : BitVec 32 := Scalar.addi c0_i32_2771 v2973
  v2974.toNat
def k0_off356 (v2279 : BitVec 32) : Fin 3 → Nat :=
  let c1_i32_2775 : BitVec 32 := 1#32
  let c128_i32_2122 : BitVec 32 := 128#32
  let v2280 : BitVec 32 := Scalar.muli v2279 c128_i32_2122
  let c0_i32_2784 : BitVec 32 := 0#32
  ![1, v2280.toNat, 0]
def k0_off357 (v2991 : BitVec 32) : Fin 3 → Nat :=
  let c1_i32_2790 : BitVec 32 := 1#32
  let c128_i32_2788 : BitVec 32 := 128#32
  let v2992 : BitVec 32 := Scalar.muli v2991 c128_i32_2788
  let c0_i32_2799 : BitVec 32 := 0#32
  ![1, v2992.toNat, 0]

def k0_dev84 (v3 : BitVec 32) : Nat :=
  let c0_i32_2798 : BitVec 32 := 0#32
  let c1_i32_2797 : BitVec 32 := 1#32
  let v2993 : BitVec 32 := Scalar.muli v3 c1_i32_2797
  let v2994 : BitVec 32 := Scalar.addi c0_i32_2798 v2993
  v2994.toNat
def k0_off358 (v2299 : BitVec 32) : Fin 3 → Nat :=
  let c1_i32_2802 : BitVec 32 := 1#32
  let c128_i32_2149 : BitVec 32 := 128#32
  let v2300 : BitVec 32 := Scalar.muli v2299 c128_i32_2149
  let c256_i32_2811 : BitVec 32 := 256#32
  ![1, v2300.toNat, 256]
def k0_off359 (v3011 : BitVec 32) : Fin 3 → Nat :=
  let c1_i32_2817 : BitVec 32 := 1#32
  let c128_i32_2815 : BitVec 32 := 128#32
  let v3012 : BitVec 32 := Scalar.muli v3011 c128_i32_2815
  let c256_i32_2826 : BitVec 32 := 256#32
  ![1, v3012.toNat, 256]

def k0_dev85 (v3 : BitVec 32) : Nat :=
  let c0_i32_2825 : BitVec 32 := 0#32
  let c1_i32_2824 : BitVec 32 := 1#32
  let v3013 : BitVec 32 := Scalar.muli v3 c1_i32_2824
  let v3014 : BitVec 32 := Scalar.addi c0_i32_2825 v3013
  v3014.toNat
def k0_off360 (v2319 : BitVec 32) : Fin 3 → Nat :=
  let c1_i32_2829 : BitVec 32 := 1#32
  let c128_i32_2176 : BitVec 32 := 128#32
  let v2320 : BitVec 32 := Scalar.muli v2319 c128_i32_2176
  let c0_i32_2838 : BitVec 32 := 0#32
  ![1, v2320.toNat, 0]
def k0_off361 (v3031 : BitVec 32) : Fin 3 → Nat :=
  let c1_i32_2844 : BitVec 32 := 1#32
  let c128_i32_2842 : BitVec 32 := 128#32
  let v3032 : BitVec 32 := Scalar.muli v3031 c128_i32_2842
  let c0_i32_2853 : BitVec 32 := 0#32
  ![1, v3032.toNat, 0]

def k0_dev86 (v3 : BitVec 32) : Nat :=
  let c0_i32_2852 : BitVec 32 := 0#32
  let c1_i32_2851 : BitVec 32 := 1#32
  let v3033 : BitVec 32 := Scalar.muli v3 c1_i32_2851
  let v3034 : BitVec 32 := Scalar.addi c0_i32_2852 v3033
  v3034.toNat
def k0_off362 (v2339 : BitVec 32) : Fin 3 → Nat :=
  let c1_i32_2856 : BitVec 32 := 1#32
  let c128_i32_2203 : BitVec 32 := 128#32
  let v2340 : BitVec 32 := Scalar.muli v2339 c128_i32_2203
  let c256_i32_2865 : BitVec 32 := 256#32
  ![1, v2340.toNat, 256]
def k0_off363 (v3051 : BitVec 32) : Fin 3 → Nat :=
  let c1_i32_2871 : BitVec 32 := 1#32
  let c128_i32_2869 : BitVec 32 := 128#32
  let v3052 : BitVec 32 := Scalar.muli v3051 c128_i32_2869
  let c256_i32_2880 : BitVec 32 := 256#32
  ![1, v3052.toNat, 256]

def k0_dev87 (v3 : BitVec 32) : Nat :=
  let c0_i32_2879 : BitVec 32 := 0#32
  let c1_i32_2878 : BitVec 32 := 1#32
  let v3053 : BitVec 32 := Scalar.muli v3 c1_i32_2878
  let v3054 : BitVec 32 := Scalar.addi c0_i32_2879 v3053
  v3054.toNat
def k0_off364 (v3063 : BitVec 32) : Fin 3 → Nat :=
  let c0_2885 : Index := 0#32
  let c128_i32_2884 : BitVec 32 := 128#32
  let v3064 : BitVec 32 := Scalar.muli v3063 c128_i32_2884
  let v3065 : Index := Scalar.indexCast v3064
  let c0_2886 : Index := 0#32
  ![0, v3065.toNat, 0]

def k0_off365 (v3063 : BitVec 32) : Fin 4 → Nat :=
  let c0_2888 : Index := 0#32
  let c0_2889 : Index := 0#32
  let c0_2890 : Index := 0#32
  let c128_i32_2884 : BitVec 32 := 128#32
  let v3064 : BitVec 32 := Scalar.muli v3063 c128_i32_2884
  let v3070 : Index := Scalar.indexCast v3064
  ![0, 0, 0, v3070.toNat]
def k0_off366 (v3063 : BitVec 32) : Fin 3 → Nat :=
  let c0_2892 : Index := 0#32
  let c128_i32_2884 : BitVec 32 := 128#32
  let v3064 : BitVec 32 := Scalar.muli v3063 c128_i32_2884
  let v3077 : Index := Scalar.indexCast v3064
  let c64_2893 : Index := 64#32
  ![0, v3077.toNat, 64]
def k0_off367 (v3063 : BitVec 32) : Fin 4 → Nat :=
  let c0_2895 : Index := 0#32
  let c1_2896 : Index := 1#32
  let c0_2897 : Index := 0#32
  let c128_i32_2884 : BitVec 32 := 128#32
  let v3064 : BitVec 32 := Scalar.muli v3063 c128_i32_2884
  let v3082 : Index := Scalar.indexCast v3064
  ![0, 1, 0, v3082.toNat]
def k0_off368 (v3063 : BitVec 32) : Fin 3 → Nat :=
  let c0_2899 : Index := 0#32
  let c128_i32_2884 : BitVec 32 := 128#32
  let v3064 : BitVec 32 := Scalar.muli v3063 c128_i32_2884
  let v3089 : Index := Scalar.indexCast v3064
  let c128_2900 : Index := 128#32
  ![0, v3089.toNat, 128]
def k0_off369 (v3063 : BitVec 32) : Fin 4 → Nat :=
  let c0_2902 : Index := 0#32
  let c2_2903 : Index := 2#32
  let c0_2904 : Index := 0#32
  let c128_i32_2884 : BitVec 32 := 128#32
  let v3064 : BitVec 32 := Scalar.muli v3063 c128_i32_2884
  let v3094 : Index := Scalar.indexCast v3064
  ![0, 2, 0, v3094.toNat]
def k0_off370 (v3063 : BitVec 32) : Fin 3 → Nat :=
  let c0_2906 : Index := 0#32
  let c128_i32_2884 : BitVec 32 := 128#32
  let v3064 : BitVec 32 := Scalar.muli v3063 c128_i32_2884
  let v3101 : Index := Scalar.indexCast v3064
  let c192_2907 : Index := 192#32
  ![0, v3101.toNat, 192]
def k0_off371 (v3063 : BitVec 32) : Fin 4 → Nat :=
  let c0_2909 : Index := 0#32
  let c3_2910 : Index := 3#32
  let c0_2911 : Index := 0#32
  let c128_i32_2884 : BitVec 32 := 128#32
  let v3064 : BitVec 32 := Scalar.muli v3063 c128_i32_2884
  let v3106 : Index := Scalar.indexCast v3064
  ![0, 3, 0, v3106.toNat]
def k0_off372 (v3063 : BitVec 32) : Fin 3 → Nat :=
  let c1_2913 : Index := 1#32
  let c128_i32_2884 : BitVec 32 := 128#32
  let v3064 : BitVec 32 := Scalar.muli v3063 c128_i32_2884
  let v3113 : Index := Scalar.indexCast v3064
  let c0_2914 : Index := 0#32
  ![1, v3113.toNat, 0]
def k0_off373 (v3063 : BitVec 32) : Fin 4 → Nat :=
  let c1_2916 : Index := 1#32
  let c0_2917 : Index := 0#32
  let c0_2918 : Index := 0#32
  let c128_i32_2884 : BitVec 32 := 128#32
  let v3064 : BitVec 32 := Scalar.muli v3063 c128_i32_2884
  let v3118 : Index := Scalar.indexCast v3064
  ![1, 0, 0, v3118.toNat]
def k0_off374 (v3063 : BitVec 32) : Fin 3 → Nat :=
  let c1_2920 : Index := 1#32
  let c128_i32_2884 : BitVec 32 := 128#32
  let v3064 : BitVec 32 := Scalar.muli v3063 c128_i32_2884
  let v3125 : Index := Scalar.indexCast v3064
  let c64_2921 : Index := 64#32
  ![1, v3125.toNat, 64]
def k0_off375 (v3063 : BitVec 32) : Fin 4 → Nat :=
  let c1_2923 : Index := 1#32
  let c1_2924 : Index := 1#32
  let c0_2925 : Index := 0#32
  let c128_i32_2884 : BitVec 32 := 128#32
  let v3064 : BitVec 32 := Scalar.muli v3063 c128_i32_2884
  let v3130 : Index := Scalar.indexCast v3064
  ![1, 1, 0, v3130.toNat]
def k0_off376 (v3063 : BitVec 32) : Fin 3 → Nat :=
  let c1_2927 : Index := 1#32
  let c128_i32_2884 : BitVec 32 := 128#32
  let v3064 : BitVec 32 := Scalar.muli v3063 c128_i32_2884
  let v3137 : Index := Scalar.indexCast v3064
  let c128_2928 : Index := 128#32
  ![1, v3137.toNat, 128]
def k0_off377 (v3063 : BitVec 32) : Fin 4 → Nat :=
  let c1_2930 : Index := 1#32
  let c2_2931 : Index := 2#32
  let c0_2932 : Index := 0#32
  let c128_i32_2884 : BitVec 32 := 128#32
  let v3064 : BitVec 32 := Scalar.muli v3063 c128_i32_2884
  let v3142 : Index := Scalar.indexCast v3064
  ![1, 2, 0, v3142.toNat]
def k0_off378 (v3063 : BitVec 32) : Fin 3 → Nat :=
  let c1_2934 : Index := 1#32
  let c128_i32_2884 : BitVec 32 := 128#32
  let v3064 : BitVec 32 := Scalar.muli v3063 c128_i32_2884
  let v3149 : Index := Scalar.indexCast v3064
  let c192_2935 : Index := 192#32
  ![1, v3149.toNat, 192]
def k0_off379 (v3063 : BitVec 32) : Fin 4 → Nat :=
  let c1_2937 : Index := 1#32
  let c3_2938 : Index := 3#32
  let c0_2939 : Index := 0#32
  let c128_i32_2884 : BitVec 32 := 128#32
  let v3064 : BitVec 32 := Scalar.muli v3063 c128_i32_2884
  let v3154 : Index := Scalar.indexCast v3064
  ![1, 3, 0, v3154.toNat]

def k0_chk80 (v3063 : BitVec 32) : Prop :=
  (∀ a, (k0_off364 v3063) a + S1x128x64.size a ≤ S2x4096x512.size a) ∧
  (∀ a, (k0_off365 v3063) a + S1x1x128x128.size a ≤ S2x4x128x4096.size a) ∧
  (∀ a, (k0_off366 v3063) a + S1x128x64.size a ≤ S2x4096x512.size a) ∧
  (∀ a, (k0_off367 v3063) a + S1x1x128x128.size a ≤ S2x4x128x4096.size a) ∧
  (∀ a, (k0_off368 v3063) a + S1x128x64.size a ≤ S2x4096x512.size a) ∧
  (∀ a, (k0_off369 v3063) a + S1x1x128x128.size a ≤ S2x4x128x4096.size a) ∧
  (∀ a, (k0_off370 v3063) a + S1x128x64.size a ≤ S2x4096x512.size a) ∧
  (∀ a, (k0_off371 v3063) a + S1x1x128x128.size a ≤ S2x4x128x4096.size a) ∧
  (∀ a, (k0_off372 v3063) a + S1x128x64.size a ≤ S2x4096x512.size a) ∧
  (∀ a, (k0_off373 v3063) a + S1x1x128x128.size a ≤ S2x4x128x4096.size a) ∧
  (∀ a, (k0_off374 v3063) a + S1x128x64.size a ≤ S2x4096x512.size a) ∧
  (∀ a, (k0_off375 v3063) a + S1x1x128x128.size a ≤ S2x4x128x4096.size a) ∧
  (∀ a, (k0_off376 v3063) a + S1x128x64.size a ≤ S2x4096x512.size a) ∧
  (∀ a, (k0_off377 v3063) a + S1x1x128x128.size a ≤ S2x4x128x4096.size a) ∧
  (∀ a, (k0_off378 v3063) a + S1x128x64.size a ≤ S2x4096x512.size a) ∧
  (∀ a, (k0_off379 v3063) a + S1x1x128x128.size a ≤ S2x4x128x4096.size a)
theorem k0_off364_inb : ∀ (v3063 : BitVec 32) (k0_hw80 : k0_chk80 v3063), ∀ a, (k0_off364 v3063) a + S1x128x64.size a ≤ S2x4096x512.size a := fun v3063 k0_hw80 => k0_hw80.1
theorem k0_off365_inb : ∀ (v3063 : BitVec 32) (k0_hw80 : k0_chk80 v3063), ∀ a, (k0_off365 v3063) a + S1x1x128x128.size a ≤ S2x4x128x4096.size a := fun v3063 k0_hw80 => k0_hw80.2.1
theorem k0_off366_inb : ∀ (v3063 : BitVec 32) (k0_hw80 : k0_chk80 v3063), ∀ a, (k0_off366 v3063) a + S1x128x64.size a ≤ S2x4096x512.size a := fun v3063 k0_hw80 => k0_hw80.2.2.1
theorem k0_off367_inb : ∀ (v3063 : BitVec 32) (k0_hw80 : k0_chk80 v3063), ∀ a, (k0_off367 v3063) a + S1x1x128x128.size a ≤ S2x4x128x4096.size a := fun v3063 k0_hw80 => k0_hw80.2.2.2.1
theorem k0_off368_inb : ∀ (v3063 : BitVec 32) (k0_hw80 : k0_chk80 v3063), ∀ a, (k0_off368 v3063) a + S1x128x64.size a ≤ S2x4096x512.size a := fun v3063 k0_hw80 => k0_hw80.2.2.2.2.1
theorem k0_off369_inb : ∀ (v3063 : BitVec 32) (k0_hw80 : k0_chk80 v3063), ∀ a, (k0_off369 v3063) a + S1x1x128x128.size a ≤ S2x4x128x4096.size a := fun v3063 k0_hw80 => k0_hw80.2.2.2.2.2.1
theorem k0_off370_inb : ∀ (v3063 : BitVec 32) (k0_hw80 : k0_chk80 v3063), ∀ a, (k0_off370 v3063) a + S1x128x64.size a ≤ S2x4096x512.size a := fun v3063 k0_hw80 => k0_hw80.2.2.2.2.2.2.1
theorem k0_off371_inb : ∀ (v3063 : BitVec 32) (k0_hw80 : k0_chk80 v3063), ∀ a, (k0_off371 v3063) a + S1x1x128x128.size a ≤ S2x4x128x4096.size a := fun v3063 k0_hw80 => k0_hw80.2.2.2.2.2.2.2.1
theorem k0_off372_inb : ∀ (v3063 : BitVec 32) (k0_hw80 : k0_chk80 v3063), ∀ a, (k0_off372 v3063) a + S1x128x64.size a ≤ S2x4096x512.size a := fun v3063 k0_hw80 => k0_hw80.2.2.2.2.2.2.2.2.1
theorem k0_off373_inb : ∀ (v3063 : BitVec 32) (k0_hw80 : k0_chk80 v3063), ∀ a, (k0_off373 v3063) a + S1x1x128x128.size a ≤ S2x4x128x4096.size a := fun v3063 k0_hw80 => k0_hw80.2.2.2.2.2.2.2.2.2.1
theorem k0_off374_inb : ∀ (v3063 : BitVec 32) (k0_hw80 : k0_chk80 v3063), ∀ a, (k0_off374 v3063) a + S1x128x64.size a ≤ S2x4096x512.size a := fun v3063 k0_hw80 => k0_hw80.2.2.2.2.2.2.2.2.2.2.1
theorem k0_off375_inb : ∀ (v3063 : BitVec 32) (k0_hw80 : k0_chk80 v3063), ∀ a, (k0_off375 v3063) a + S1x1x128x128.size a ≤ S2x4x128x4096.size a := fun v3063 k0_hw80 => k0_hw80.2.2.2.2.2.2.2.2.2.2.2.1
theorem k0_off376_inb : ∀ (v3063 : BitVec 32) (k0_hw80 : k0_chk80 v3063), ∀ a, (k0_off376 v3063) a + S1x128x64.size a ≤ S2x4096x512.size a := fun v3063 k0_hw80 => k0_hw80.2.2.2.2.2.2.2.2.2.2.2.2.1
theorem k0_off377_inb : ∀ (v3063 : BitVec 32) (k0_hw80 : k0_chk80 v3063), ∀ a, (k0_off377 v3063) a + S1x1x128x128.size a ≤ S2x4x128x4096.size a := fun v3063 k0_hw80 => k0_hw80.2.2.2.2.2.2.2.2.2.2.2.2.2.1
theorem k0_off378_inb : ∀ (v3063 : BitVec 32) (k0_hw80 : k0_chk80 v3063), ∀ a, (k0_off378 v3063) a + S1x128x64.size a ≤ S2x4096x512.size a := fun v3063 k0_hw80 => k0_hw80.2.2.2.2.2.2.2.2.2.2.2.2.2.2.1
theorem k0_off379_inb : ∀ (v3063 : BitVec 32) (k0_hw80 : k0_chk80 v3063), ∀ a, (k0_off379 v3063) a + S1x1x128x128.size a ≤ S2x4x128x4096.size a := fun v3063 k0_hw80 => k0_hw80.2.2.2.2.2.2.2.2.2.2.2.2.2.2.2

def k0_off380 (v3161 : BitVec 32) : Fin 3 → Nat :=
  let c0_2944 : Index := 0#32
  let c128_i32_2943 : BitVec 32 := 128#32
  let v3162 : BitVec 32 := Scalar.muli v3161 c128_i32_2943
  let v3163 : Index := Scalar.indexCast v3162
  let c0_2945 : Index := 0#32
  ![0, v3163.toNat, 0]

def k0_off381 (v3161 : BitVec 32) : Fin 4 → Nat :=
  let c0_2947 : Index := 0#32
  let c0_2948 : Index := 0#32
  let c0_2949 : Index := 0#32
  let c128_i32_2943 : BitVec 32 := 128#32
  let v3162 : BitVec 32 := Scalar.muli v3161 c128_i32_2943
  let v3168 : Index := Scalar.indexCast v3162
  ![0, 0, 0, v3168.toNat]
def k0_off382 (v3161 : BitVec 32) : Fin 3 → Nat :=
  let c0_2951 : Index := 0#32
  let c128_i32_2943 : BitVec 32 := 128#32
  let v3162 : BitVec 32 := Scalar.muli v3161 c128_i32_2943
  let v3175 : Index := Scalar.indexCast v3162
  let c64_2952 : Index := 64#32
  ![0, v3175.toNat, 64]
def k0_off383 (v3161 : BitVec 32) : Fin 4 → Nat :=
  let c0_2954 : Index := 0#32
  let c1_2955 : Index := 1#32
  let c0_2956 : Index := 0#32
  let c128_i32_2943 : BitVec 32 := 128#32
  let v3162 : BitVec 32 := Scalar.muli v3161 c128_i32_2943
  let v3180 : Index := Scalar.indexCast v3162
  ![0, 1, 0, v3180.toNat]
def k0_off384 (v3161 : BitVec 32) : Fin 3 → Nat :=
  let c0_2958 : Index := 0#32
  let c128_i32_2943 : BitVec 32 := 128#32
  let v3162 : BitVec 32 := Scalar.muli v3161 c128_i32_2943
  let v3187 : Index := Scalar.indexCast v3162
  let c128_2959 : Index := 128#32
  ![0, v3187.toNat, 128]
def k0_off385 (v3161 : BitVec 32) : Fin 4 → Nat :=
  let c0_2961 : Index := 0#32
  let c2_2962 : Index := 2#32
  let c0_2963 : Index := 0#32
  let c128_i32_2943 : BitVec 32 := 128#32
  let v3162 : BitVec 32 := Scalar.muli v3161 c128_i32_2943
  let v3192 : Index := Scalar.indexCast v3162
  ![0, 2, 0, v3192.toNat]
def k0_off386 (v3161 : BitVec 32) : Fin 3 → Nat :=
  let c0_2965 : Index := 0#32
  let c128_i32_2943 : BitVec 32 := 128#32
  let v3162 : BitVec 32 := Scalar.muli v3161 c128_i32_2943
  let v3199 : Index := Scalar.indexCast v3162
  let c192_2966 : Index := 192#32
  ![0, v3199.toNat, 192]
def k0_off387 (v3161 : BitVec 32) : Fin 4 → Nat :=
  let c0_2968 : Index := 0#32
  let c3_2969 : Index := 3#32
  let c0_2970 : Index := 0#32
  let c128_i32_2943 : BitVec 32 := 128#32
  let v3162 : BitVec 32 := Scalar.muli v3161 c128_i32_2943
  let v3204 : Index := Scalar.indexCast v3162
  ![0, 3, 0, v3204.toNat]
def k0_off388 (v3161 : BitVec 32) : Fin 3 → Nat :=
  let c1_2972 : Index := 1#32
  let c128_i32_2943 : BitVec 32 := 128#32
  let v3162 : BitVec 32 := Scalar.muli v3161 c128_i32_2943
  let v3211 : Index := Scalar.indexCast v3162
  let c0_2973 : Index := 0#32
  ![1, v3211.toNat, 0]
def k0_off389 (v3161 : BitVec 32) : Fin 4 → Nat :=
  let c1_2975 : Index := 1#32
  let c0_2976 : Index := 0#32
  let c0_2977 : Index := 0#32
  let c128_i32_2943 : BitVec 32 := 128#32
  let v3162 : BitVec 32 := Scalar.muli v3161 c128_i32_2943
  let v3216 : Index := Scalar.indexCast v3162
  ![1, 0, 0, v3216.toNat]
def k0_off390 (v3161 : BitVec 32) : Fin 3 → Nat :=
  let c1_2979 : Index := 1#32
  let c128_i32_2943 : BitVec 32 := 128#32
  let v3162 : BitVec 32 := Scalar.muli v3161 c128_i32_2943
  let v3223 : Index := Scalar.indexCast v3162
  let c64_2980 : Index := 64#32
  ![1, v3223.toNat, 64]
def k0_off391 (v3161 : BitVec 32) : Fin 4 → Nat :=
  let c1_2982 : Index := 1#32
  let c1_2983 : Index := 1#32
  let c0_2984 : Index := 0#32
  let c128_i32_2943 : BitVec 32 := 128#32
  let v3162 : BitVec 32 := Scalar.muli v3161 c128_i32_2943
  let v3228 : Index := Scalar.indexCast v3162
  ![1, 1, 0, v3228.toNat]
def k0_off392 (v3161 : BitVec 32) : Fin 3 → Nat :=
  let c1_2986 : Index := 1#32
  let c128_i32_2943 : BitVec 32 := 128#32
  let v3162 : BitVec 32 := Scalar.muli v3161 c128_i32_2943
  let v3235 : Index := Scalar.indexCast v3162
  let c128_2987 : Index := 128#32
  ![1, v3235.toNat, 128]
def k0_off393 (v3161 : BitVec 32) : Fin 4 → Nat :=
  let c1_2989 : Index := 1#32
  let c2_2990 : Index := 2#32
  let c0_2991 : Index := 0#32
  let c128_i32_2943 : BitVec 32 := 128#32
  let v3162 : BitVec 32 := Scalar.muli v3161 c128_i32_2943
  let v3240 : Index := Scalar.indexCast v3162
  ![1, 2, 0, v3240.toNat]
def k0_off394 (v3161 : BitVec 32) : Fin 3 → Nat :=
  let c1_2993 : Index := 1#32
  let c128_i32_2943 : BitVec 32 := 128#32
  let v3162 : BitVec 32 := Scalar.muli v3161 c128_i32_2943
  let v3247 : Index := Scalar.indexCast v3162
  let c192_2994 : Index := 192#32
  ![1, v3247.toNat, 192]
def k0_off395 (v3161 : BitVec 32) : Fin 4 → Nat :=
  let c1_2996 : Index := 1#32
  let c3_2997 : Index := 3#32
  let c0_2998 : Index := 0#32
  let c128_i32_2943 : BitVec 32 := 128#32
  let v3162 : BitVec 32 := Scalar.muli v3161 c128_i32_2943
  let v3252 : Index := Scalar.indexCast v3162
  ![1, 3, 0, v3252.toNat]

def k0_chk81 (v3161 : BitVec 32) : Prop :=
  (∀ a, (k0_off380 v3161) a + S1x128x64.size a ≤ S2x4096x512.size a) ∧
  (∀ a, (k0_off381 v3161) a + S1x1x128x128.size a ≤ S2x4x128x4096.size a) ∧
  (∀ a, (k0_off382 v3161) a + S1x128x64.size a ≤ S2x4096x512.size a) ∧
  (∀ a, (k0_off383 v3161) a + S1x1x128x128.size a ≤ S2x4x128x4096.size a) ∧
  (∀ a, (k0_off384 v3161) a + S1x128x64.size a ≤ S2x4096x512.size a) ∧
  (∀ a, (k0_off385 v3161) a + S1x1x128x128.size a ≤ S2x4x128x4096.size a) ∧
  (∀ a, (k0_off386 v3161) a + S1x128x64.size a ≤ S2x4096x512.size a) ∧
  (∀ a, (k0_off387 v3161) a + S1x1x128x128.size a ≤ S2x4x128x4096.size a) ∧
  (∀ a, (k0_off388 v3161) a + S1x128x64.size a ≤ S2x4096x512.size a) ∧
  (∀ a, (k0_off389 v3161) a + S1x1x128x128.size a ≤ S2x4x128x4096.size a) ∧
  (∀ a, (k0_off390 v3161) a + S1x128x64.size a ≤ S2x4096x512.size a) ∧
  (∀ a, (k0_off391 v3161) a + S1x1x128x128.size a ≤ S2x4x128x4096.size a) ∧
  (∀ a, (k0_off392 v3161) a + S1x128x64.size a ≤ S2x4096x512.size a) ∧
  (∀ a, (k0_off393 v3161) a + S1x1x128x128.size a ≤ S2x4x128x4096.size a) ∧
  (∀ a, (k0_off394 v3161) a + S1x128x64.size a ≤ S2x4096x512.size a) ∧
  (∀ a, (k0_off395 v3161) a + S1x1x128x128.size a ≤ S2x4x128x4096.size a)
theorem k0_off380_inb : ∀ (v3161 : BitVec 32) (k0_hw81 : k0_chk81 v3161), ∀ a, (k0_off380 v3161) a + S1x128x64.size a ≤ S2x4096x512.size a := fun v3161 k0_hw81 => k0_hw81.1
theorem k0_off381_inb : ∀ (v3161 : BitVec 32) (k0_hw81 : k0_chk81 v3161), ∀ a, (k0_off381 v3161) a + S1x1x128x128.size a ≤ S2x4x128x4096.size a := fun v3161 k0_hw81 => k0_hw81.2.1
theorem k0_off382_inb : ∀ (v3161 : BitVec 32) (k0_hw81 : k0_chk81 v3161), ∀ a, (k0_off382 v3161) a + S1x128x64.size a ≤ S2x4096x512.size a := fun v3161 k0_hw81 => k0_hw81.2.2.1
theorem k0_off383_inb : ∀ (v3161 : BitVec 32) (k0_hw81 : k0_chk81 v3161), ∀ a, (k0_off383 v3161) a + S1x1x128x128.size a ≤ S2x4x128x4096.size a := fun v3161 k0_hw81 => k0_hw81.2.2.2.1
theorem k0_off384_inb : ∀ (v3161 : BitVec 32) (k0_hw81 : k0_chk81 v3161), ∀ a, (k0_off384 v3161) a + S1x128x64.size a ≤ S2x4096x512.size a := fun v3161 k0_hw81 => k0_hw81.2.2.2.2.1
theorem k0_off385_inb : ∀ (v3161 : BitVec 32) (k0_hw81 : k0_chk81 v3161), ∀ a, (k0_off385 v3161) a + S1x1x128x128.size a ≤ S2x4x128x4096.size a := fun v3161 k0_hw81 => k0_hw81.2.2.2.2.2.1
theorem k0_off386_inb : ∀ (v3161 : BitVec 32) (k0_hw81 : k0_chk81 v3161), ∀ a, (k0_off386 v3161) a + S1x128x64.size a ≤ S2x4096x512.size a := fun v3161 k0_hw81 => k0_hw81.2.2.2.2.2.2.1
theorem k0_off387_inb : ∀ (v3161 : BitVec 32) (k0_hw81 : k0_chk81 v3161), ∀ a, (k0_off387 v3161) a + S1x1x128x128.size a ≤ S2x4x128x4096.size a := fun v3161 k0_hw81 => k0_hw81.2.2.2.2.2.2.2.1
theorem k0_off388_inb : ∀ (v3161 : BitVec 32) (k0_hw81 : k0_chk81 v3161), ∀ a, (k0_off388 v3161) a + S1x128x64.size a ≤ S2x4096x512.size a := fun v3161 k0_hw81 => k0_hw81.2.2.2.2.2.2.2.2.1
theorem k0_off389_inb : ∀ (v3161 : BitVec 32) (k0_hw81 : k0_chk81 v3161), ∀ a, (k0_off389 v3161) a + S1x1x128x128.size a ≤ S2x4x128x4096.size a := fun v3161 k0_hw81 => k0_hw81.2.2.2.2.2.2.2.2.2.1
theorem k0_off390_inb : ∀ (v3161 : BitVec 32) (k0_hw81 : k0_chk81 v3161), ∀ a, (k0_off390 v3161) a + S1x128x64.size a ≤ S2x4096x512.size a := fun v3161 k0_hw81 => k0_hw81.2.2.2.2.2.2.2.2.2.2.1
theorem k0_off391_inb : ∀ (v3161 : BitVec 32) (k0_hw81 : k0_chk81 v3161), ∀ a, (k0_off391 v3161) a + S1x1x128x128.size a ≤ S2x4x128x4096.size a := fun v3161 k0_hw81 => k0_hw81.2.2.2.2.2.2.2.2.2.2.2.1
theorem k0_off392_inb : ∀ (v3161 : BitVec 32) (k0_hw81 : k0_chk81 v3161), ∀ a, (k0_off392 v3161) a + S1x128x64.size a ≤ S2x4096x512.size a := fun v3161 k0_hw81 => k0_hw81.2.2.2.2.2.2.2.2.2.2.2.2.1
theorem k0_off393_inb : ∀ (v3161 : BitVec 32) (k0_hw81 : k0_chk81 v3161), ∀ a, (k0_off393 v3161) a + S1x1x128x128.size a ≤ S2x4x128x4096.size a := fun v3161 k0_hw81 => k0_hw81.2.2.2.2.2.2.2.2.2.2.2.2.2.1
theorem k0_off394_inb : ∀ (v3161 : BitVec 32) (k0_hw81 : k0_chk81 v3161), ∀ a, (k0_off394 v3161) a + S1x128x64.size a ≤ S2x4096x512.size a := fun v3161 k0_hw81 => k0_hw81.2.2.2.2.2.2.2.2.2.2.2.2.2.2.1
theorem k0_off395_inb : ∀ (v3161 : BitVec 32) (k0_hw81 : k0_chk81 v3161), ∀ a, (k0_off395 v3161) a + S1x1x128x128.size a ≤ S2x4x128x4096.size a := fun v3161 k0_hw81 => k0_hw81.2.2.2.2.2.2.2.2.2.2.2.2.2.2.2

def k0_off396 (v3259 : BitVec 32) : Fin 3 → Nat :=
  let c0_3003 : Index := 0#32
  let c128_i32_3002 : BitVec 32 := 128#32
  let v3260 : BitVec 32 := Scalar.muli v3259 c128_i32_3002
  let v3261 : Index := Scalar.indexCast v3260
  let c0_3004 : Index := 0#32
  ![0, v3261.toNat, 0]

def k0_off397 (v3259 : BitVec 32) : Fin 4 → Nat :=
  let c0_3006 : Index := 0#32
  let c0_3007 : Index := 0#32
  let c0_3008 : Index := 0#32
  let c128_i32_3002 : BitVec 32 := 128#32
  let v3260 : BitVec 32 := Scalar.muli v3259 c128_i32_3002
  let v3266 : Index := Scalar.indexCast v3260
  ![0, 0, 0, v3266.toNat]
def k0_off398 (v3259 : BitVec 32) : Fin 3 → Nat :=
  let c0_3010 : Index := 0#32
  let c128_i32_3002 : BitVec 32 := 128#32
  let v3260 : BitVec 32 := Scalar.muli v3259 c128_i32_3002
  let v3273 : Index := Scalar.indexCast v3260
  let c64_3011 : Index := 64#32
  ![0, v3273.toNat, 64]
def k0_off399 (v3259 : BitVec 32) : Fin 4 → Nat :=
  let c0_3013 : Index := 0#32
  let c1_3014 : Index := 1#32
  let c0_3015 : Index := 0#32
  let c128_i32_3002 : BitVec 32 := 128#32
  let v3260 : BitVec 32 := Scalar.muli v3259 c128_i32_3002
  let v3278 : Index := Scalar.indexCast v3260
  ![0, 1, 0, v3278.toNat]
def k0_off400 (v3259 : BitVec 32) : Fin 3 → Nat :=
  let c0_3017 : Index := 0#32
  let c128_i32_3002 : BitVec 32 := 128#32
  let v3260 : BitVec 32 := Scalar.muli v3259 c128_i32_3002
  let v3285 : Index := Scalar.indexCast v3260
  let c128_3018 : Index := 128#32
  ![0, v3285.toNat, 128]
def k0_off401 (v3259 : BitVec 32) : Fin 4 → Nat :=
  let c0_3020 : Index := 0#32
  let c2_3021 : Index := 2#32
  let c0_3022 : Index := 0#32
  let c128_i32_3002 : BitVec 32 := 128#32
  let v3260 : BitVec 32 := Scalar.muli v3259 c128_i32_3002
  let v3290 : Index := Scalar.indexCast v3260
  ![0, 2, 0, v3290.toNat]
def k0_off402 (v3259 : BitVec 32) : Fin 3 → Nat :=
  let c0_3024 : Index := 0#32
  let c128_i32_3002 : BitVec 32 := 128#32
  let v3260 : BitVec 32 := Scalar.muli v3259 c128_i32_3002
  let v3297 : Index := Scalar.indexCast v3260
  let c192_3025 : Index := 192#32
  ![0, v3297.toNat, 192]
def k0_off403 (v3259 : BitVec 32) : Fin 4 → Nat :=
  let c0_3027 : Index := 0#32
  let c3_3028 : Index := 3#32
  let c0_3029 : Index := 0#32
  let c128_i32_3002 : BitVec 32 := 128#32
  let v3260 : BitVec 32 := Scalar.muli v3259 c128_i32_3002
  let v3302 : Index := Scalar.indexCast v3260
  ![0, 3, 0, v3302.toNat]
def k0_off404 (v3259 : BitVec 32) : Fin 3 → Nat :=
  let c1_3031 : Index := 1#32
  let c128_i32_3002 : BitVec 32 := 128#32
  let v3260 : BitVec 32 := Scalar.muli v3259 c128_i32_3002
  let v3309 : Index := Scalar.indexCast v3260
  let c0_3032 : Index := 0#32
  ![1, v3309.toNat, 0]
def k0_off405 (v3259 : BitVec 32) : Fin 4 → Nat :=
  let c1_3034 : Index := 1#32
  let c0_3035 : Index := 0#32
  let c0_3036 : Index := 0#32
  let c128_i32_3002 : BitVec 32 := 128#32
  let v3260 : BitVec 32 := Scalar.muli v3259 c128_i32_3002
  let v3314 : Index := Scalar.indexCast v3260
  ![1, 0, 0, v3314.toNat]
def k0_off406 (v3259 : BitVec 32) : Fin 3 → Nat :=
  let c1_3038 : Index := 1#32
  let c128_i32_3002 : BitVec 32 := 128#32
  let v3260 : BitVec 32 := Scalar.muli v3259 c128_i32_3002
  let v3321 : Index := Scalar.indexCast v3260
  let c64_3039 : Index := 64#32
  ![1, v3321.toNat, 64]
def k0_off407 (v3259 : BitVec 32) : Fin 4 → Nat :=
  let c1_3041 : Index := 1#32
  let c1_3042 : Index := 1#32
  let c0_3043 : Index := 0#32
  let c128_i32_3002 : BitVec 32 := 128#32
  let v3260 : BitVec 32 := Scalar.muli v3259 c128_i32_3002
  let v3326 : Index := Scalar.indexCast v3260
  ![1, 1, 0, v3326.toNat]
def k0_off408 (v3259 : BitVec 32) : Fin 3 → Nat :=
  let c1_3045 : Index := 1#32
  let c128_i32_3002 : BitVec 32 := 128#32
  let v3260 : BitVec 32 := Scalar.muli v3259 c128_i32_3002
  let v3333 : Index := Scalar.indexCast v3260
  let c128_3046 : Index := 128#32
  ![1, v3333.toNat, 128]
def k0_off409 (v3259 : BitVec 32) : Fin 4 → Nat :=
  let c1_3048 : Index := 1#32
  let c2_3049 : Index := 2#32
  let c0_3050 : Index := 0#32
  let c128_i32_3002 : BitVec 32 := 128#32
  let v3260 : BitVec 32 := Scalar.muli v3259 c128_i32_3002
  let v3338 : Index := Scalar.indexCast v3260
  ![1, 2, 0, v3338.toNat]
def k0_off410 (v3259 : BitVec 32) : Fin 3 → Nat :=
  let c1_3052 : Index := 1#32
  let c128_i32_3002 : BitVec 32 := 128#32
  let v3260 : BitVec 32 := Scalar.muli v3259 c128_i32_3002
  let v3345 : Index := Scalar.indexCast v3260
  let c192_3053 : Index := 192#32
  ![1, v3345.toNat, 192]
def k0_off411 (v3259 : BitVec 32) : Fin 4 → Nat :=
  let c1_3055 : Index := 1#32
  let c3_3056 : Index := 3#32
  let c0_3057 : Index := 0#32
  let c128_i32_3002 : BitVec 32 := 128#32
  let v3260 : BitVec 32 := Scalar.muli v3259 c128_i32_3002
  let v3350 : Index := Scalar.indexCast v3260
  ![1, 3, 0, v3350.toNat]

def k0_chk82 (v3259 : BitVec 32) : Prop :=
  (∀ a, (k0_off396 v3259) a + S1x128x64.size a ≤ S2x4096x512.size a) ∧
  (∀ a, (k0_off397 v3259) a + S1x1x128x128.size a ≤ S2x4x128x4096.size a) ∧
  (∀ a, (k0_off398 v3259) a + S1x128x64.size a ≤ S2x4096x512.size a) ∧
  (∀ a, (k0_off399 v3259) a + S1x1x128x128.size a ≤ S2x4x128x4096.size a) ∧
  (∀ a, (k0_off400 v3259) a + S1x128x64.size a ≤ S2x4096x512.size a) ∧
  (∀ a, (k0_off401 v3259) a + S1x1x128x128.size a ≤ S2x4x128x4096.size a) ∧
  (∀ a, (k0_off402 v3259) a + S1x128x64.size a ≤ S2x4096x512.size a) ∧
  (∀ a, (k0_off403 v3259) a + S1x1x128x128.size a ≤ S2x4x128x4096.size a) ∧
  (∀ a, (k0_off404 v3259) a + S1x128x64.size a ≤ S2x4096x512.size a) ∧
  (∀ a, (k0_off405 v3259) a + S1x1x128x128.size a ≤ S2x4x128x4096.size a) ∧
  (∀ a, (k0_off406 v3259) a + S1x128x64.size a ≤ S2x4096x512.size a) ∧
  (∀ a, (k0_off407 v3259) a + S1x1x128x128.size a ≤ S2x4x128x4096.size a) ∧
  (∀ a, (k0_off408 v3259) a + S1x128x64.size a ≤ S2x4096x512.size a) ∧
  (∀ a, (k0_off409 v3259) a + S1x1x128x128.size a ≤ S2x4x128x4096.size a) ∧
  (∀ a, (k0_off410 v3259) a + S1x128x64.size a ≤ S2x4096x512.size a) ∧
  (∀ a, (k0_off411 v3259) a + S1x1x128x128.size a ≤ S2x4x128x4096.size a)
theorem k0_off396_inb : ∀ (v3259 : BitVec 32) (k0_hw82 : k0_chk82 v3259), ∀ a, (k0_off396 v3259) a + S1x128x64.size a ≤ S2x4096x512.size a := fun v3259 k0_hw82 => k0_hw82.1
theorem k0_off397_inb : ∀ (v3259 : BitVec 32) (k0_hw82 : k0_chk82 v3259), ∀ a, (k0_off397 v3259) a + S1x1x128x128.size a ≤ S2x4x128x4096.size a := fun v3259 k0_hw82 => k0_hw82.2.1
theorem k0_off398_inb : ∀ (v3259 : BitVec 32) (k0_hw82 : k0_chk82 v3259), ∀ a, (k0_off398 v3259) a + S1x128x64.size a ≤ S2x4096x512.size a := fun v3259 k0_hw82 => k0_hw82.2.2.1
theorem k0_off399_inb : ∀ (v3259 : BitVec 32) (k0_hw82 : k0_chk82 v3259), ∀ a, (k0_off399 v3259) a + S1x1x128x128.size a ≤ S2x4x128x4096.size a := fun v3259 k0_hw82 => k0_hw82.2.2.2.1
theorem k0_off400_inb : ∀ (v3259 : BitVec 32) (k0_hw82 : k0_chk82 v3259), ∀ a, (k0_off400 v3259) a + S1x128x64.size a ≤ S2x4096x512.size a := fun v3259 k0_hw82 => k0_hw82.2.2.2.2.1
theorem k0_off401_inb : ∀ (v3259 : BitVec 32) (k0_hw82 : k0_chk82 v3259), ∀ a, (k0_off401 v3259) a + S1x1x128x128.size a ≤ S2x4x128x4096.size a := fun v3259 k0_hw82 => k0_hw82.2.2.2.2.2.1
theorem k0_off402_inb : ∀ (v3259 : BitVec 32) (k0_hw82 : k0_chk82 v3259), ∀ a, (k0_off402 v3259) a + S1x128x64.size a ≤ S2x4096x512.size a := fun v3259 k0_hw82 => k0_hw82.2.2.2.2.2.2.1
theorem k0_off403_inb : ∀ (v3259 : BitVec 32) (k0_hw82 : k0_chk82 v3259), ∀ a, (k0_off403 v3259) a + S1x1x128x128.size a ≤ S2x4x128x4096.size a := fun v3259 k0_hw82 => k0_hw82.2.2.2.2.2.2.2.1
theorem k0_off404_inb : ∀ (v3259 : BitVec 32) (k0_hw82 : k0_chk82 v3259), ∀ a, (k0_off404 v3259) a + S1x128x64.size a ≤ S2x4096x512.size a := fun v3259 k0_hw82 => k0_hw82.2.2.2.2.2.2.2.2.1
theorem k0_off405_inb : ∀ (v3259 : BitVec 32) (k0_hw82 : k0_chk82 v3259), ∀ a, (k0_off405 v3259) a + S1x1x128x128.size a ≤ S2x4x128x4096.size a := fun v3259 k0_hw82 => k0_hw82.2.2.2.2.2.2.2.2.2.1
theorem k0_off406_inb : ∀ (v3259 : BitVec 32) (k0_hw82 : k0_chk82 v3259), ∀ a, (k0_off406 v3259) a + S1x128x64.size a ≤ S2x4096x512.size a := fun v3259 k0_hw82 => k0_hw82.2.2.2.2.2.2.2.2.2.2.1
theorem k0_off407_inb : ∀ (v3259 : BitVec 32) (k0_hw82 : k0_chk82 v3259), ∀ a, (k0_off407 v3259) a + S1x1x128x128.size a ≤ S2x4x128x4096.size a := fun v3259 k0_hw82 => k0_hw82.2.2.2.2.2.2.2.2.2.2.2.1
theorem k0_off408_inb : ∀ (v3259 : BitVec 32) (k0_hw82 : k0_chk82 v3259), ∀ a, (k0_off408 v3259) a + S1x128x64.size a ≤ S2x4096x512.size a := fun v3259 k0_hw82 => k0_hw82.2.2.2.2.2.2.2.2.2.2.2.2.1
theorem k0_off409_inb : ∀ (v3259 : BitVec 32) (k0_hw82 : k0_chk82 v3259), ∀ a, (k0_off409 v3259) a + S1x1x128x128.size a ≤ S2x4x128x4096.size a := fun v3259 k0_hw82 => k0_hw82.2.2.2.2.2.2.2.2.2.2.2.2.2.1
theorem k0_off410_inb : ∀ (v3259 : BitVec 32) (k0_hw82 : k0_chk82 v3259), ∀ a, (k0_off410 v3259) a + S1x128x64.size a ≤ S2x4096x512.size a := fun v3259 k0_hw82 => k0_hw82.2.2.2.2.2.2.2.2.2.2.2.2.2.2.1
theorem k0_off411_inb : ∀ (v3259 : BitVec 32) (k0_hw82 : k0_chk82 v3259), ∀ a, (k0_off411 v3259) a + S1x1x128x128.size a ≤ S2x4x128x4096.size a := fun v3259 k0_hw82 => k0_hw82.2.2.2.2.2.2.2.2.2.2.2.2.2.2.2

def k0_off412 (v3357 : BitVec 32) : Fin 3 → Nat :=
  let c0_3062 : Index := 0#32
  let c128_i32_3061 : BitVec 32 := 128#32
  let v3358 : BitVec 32 := Scalar.muli v3357 c128_i32_3061
  let v3359 : Index := Scalar.indexCast v3358
  let c0_3063 : Index := 0#32
  ![0, v3359.toNat, 0]

def k0_off413 (v3357 : BitVec 32) : Fin 4 → Nat :=
  let c0_3065 : Index := 0#32
  let c0_3066 : Index := 0#32
  let c0_3067 : Index := 0#32
  let c128_i32_3061 : BitVec 32 := 128#32
  let v3358 : BitVec 32 := Scalar.muli v3357 c128_i32_3061
  let v3364 : Index := Scalar.indexCast v3358
  ![0, 0, 0, v3364.toNat]
def k0_off414 (v3357 : BitVec 32) : Fin 3 → Nat :=
  let c0_3069 : Index := 0#32
  let c128_i32_3061 : BitVec 32 := 128#32
  let v3358 : BitVec 32 := Scalar.muli v3357 c128_i32_3061
  let v3371 : Index := Scalar.indexCast v3358
  let c64_3070 : Index := 64#32
  ![0, v3371.toNat, 64]
def k0_off415 (v3357 : BitVec 32) : Fin 4 → Nat :=
  let c0_3072 : Index := 0#32
  let c1_3073 : Index := 1#32
  let c0_3074 : Index := 0#32
  let c128_i32_3061 : BitVec 32 := 128#32
  let v3358 : BitVec 32 := Scalar.muli v3357 c128_i32_3061
  let v3376 : Index := Scalar.indexCast v3358
  ![0, 1, 0, v3376.toNat]
def k0_off416 (v3357 : BitVec 32) : Fin 3 → Nat :=
  let c0_3076 : Index := 0#32
  let c128_i32_3061 : BitVec 32 := 128#32
  let v3358 : BitVec 32 := Scalar.muli v3357 c128_i32_3061
  let v3383 : Index := Scalar.indexCast v3358
  let c128_3077 : Index := 128#32
  ![0, v3383.toNat, 128]
def k0_off417 (v3357 : BitVec 32) : Fin 4 → Nat :=
  let c0_3079 : Index := 0#32
  let c2_3080 : Index := 2#32
  let c0_3081 : Index := 0#32
  let c128_i32_3061 : BitVec 32 := 128#32
  let v3358 : BitVec 32 := Scalar.muli v3357 c128_i32_3061
  let v3388 : Index := Scalar.indexCast v3358
  ![0, 2, 0, v3388.toNat]
def k0_off418 (v3357 : BitVec 32) : Fin 3 → Nat :=
  let c0_3083 : Index := 0#32
  let c128_i32_3061 : BitVec 32 := 128#32
  let v3358 : BitVec 32 := Scalar.muli v3357 c128_i32_3061
  let v3395 : Index := Scalar.indexCast v3358
  let c192_3084 : Index := 192#32
  ![0, v3395.toNat, 192]
def k0_off419 (v3357 : BitVec 32) : Fin 4 → Nat :=
  let c0_3086 : Index := 0#32
  let c3_3087 : Index := 3#32
  let c0_3088 : Index := 0#32
  let c128_i32_3061 : BitVec 32 := 128#32
  let v3358 : BitVec 32 := Scalar.muli v3357 c128_i32_3061
  let v3400 : Index := Scalar.indexCast v3358
  ![0, 3, 0, v3400.toNat]
def k0_off420 (v3357 : BitVec 32) : Fin 3 → Nat :=
  let c1_3090 : Index := 1#32
  let c128_i32_3061 : BitVec 32 := 128#32
  let v3358 : BitVec 32 := Scalar.muli v3357 c128_i32_3061
  let v3407 : Index := Scalar.indexCast v3358
  let c0_3091 : Index := 0#32
  ![1, v3407.toNat, 0]
def k0_off421 (v3357 : BitVec 32) : Fin 4 → Nat :=
  let c1_3093 : Index := 1#32
  let c0_3094 : Index := 0#32
  let c0_3095 : Index := 0#32
  let c128_i32_3061 : BitVec 32 := 128#32
  let v3358 : BitVec 32 := Scalar.muli v3357 c128_i32_3061
  let v3412 : Index := Scalar.indexCast v3358
  ![1, 0, 0, v3412.toNat]
def k0_off422 (v3357 : BitVec 32) : Fin 3 → Nat :=
  let c1_3097 : Index := 1#32
  let c128_i32_3061 : BitVec 32 := 128#32
  let v3358 : BitVec 32 := Scalar.muli v3357 c128_i32_3061
  let v3419 : Index := Scalar.indexCast v3358
  let c64_3098 : Index := 64#32
  ![1, v3419.toNat, 64]
def k0_off423 (v3357 : BitVec 32) : Fin 4 → Nat :=
  let c1_3100 : Index := 1#32
  let c1_3101 : Index := 1#32
  let c0_3102 : Index := 0#32
  let c128_i32_3061 : BitVec 32 := 128#32
  let v3358 : BitVec 32 := Scalar.muli v3357 c128_i32_3061
  let v3424 : Index := Scalar.indexCast v3358
  ![1, 1, 0, v3424.toNat]
def k0_off424 (v3357 : BitVec 32) : Fin 3 → Nat :=
  let c1_3104 : Index := 1#32
  let c128_i32_3061 : BitVec 32 := 128#32
  let v3358 : BitVec 32 := Scalar.muli v3357 c128_i32_3061
  let v3431 : Index := Scalar.indexCast v3358
  let c128_3105 : Index := 128#32
  ![1, v3431.toNat, 128]
def k0_off425 (v3357 : BitVec 32) : Fin 4 → Nat :=
  let c1_3107 : Index := 1#32
  let c2_3108 : Index := 2#32
  let c0_3109 : Index := 0#32
  let c128_i32_3061 : BitVec 32 := 128#32
  let v3358 : BitVec 32 := Scalar.muli v3357 c128_i32_3061
  let v3436 : Index := Scalar.indexCast v3358
  ![1, 2, 0, v3436.toNat]
def k0_off426 (v3357 : BitVec 32) : Fin 3 → Nat :=
  let c1_3111 : Index := 1#32
  let c128_i32_3061 : BitVec 32 := 128#32
  let v3358 : BitVec 32 := Scalar.muli v3357 c128_i32_3061
  let v3443 : Index := Scalar.indexCast v3358
  let c192_3112 : Index := 192#32
  ![1, v3443.toNat, 192]
def k0_off427 (v3357 : BitVec 32) : Fin 4 → Nat :=
  let c1_3114 : Index := 1#32
  let c3_3115 : Index := 3#32
  let c0_3116 : Index := 0#32
  let c128_i32_3061 : BitVec 32 := 128#32
  let v3358 : BitVec 32 := Scalar.muli v3357 c128_i32_3061
  let v3448 : Index := Scalar.indexCast v3358
  ![1, 3, 0, v3448.toNat]

def k0_chk83 (v3357 : BitVec 32) : Prop :=
  (∀ a, (k0_off412 v3357) a + S1x128x64.size a ≤ S2x4096x512.size a) ∧
  (∀ a, (k0_off413 v3357) a + S1x1x128x128.size a ≤ S2x4x128x4096.size a) ∧
  (∀ a, (k0_off414 v3357) a + S1x128x64.size a ≤ S2x4096x512.size a) ∧
  (∀ a, (k0_off415 v3357) a + S1x1x128x128.size a ≤ S2x4x128x4096.size a) ∧
  (∀ a, (k0_off416 v3357) a + S1x128x64.size a ≤ S2x4096x512.size a) ∧
  (∀ a, (k0_off417 v3357) a + S1x1x128x128.size a ≤ S2x4x128x4096.size a) ∧
  (∀ a, (k0_off418 v3357) a + S1x128x64.size a ≤ S2x4096x512.size a) ∧
  (∀ a, (k0_off419 v3357) a + S1x1x128x128.size a ≤ S2x4x128x4096.size a) ∧
  (∀ a, (k0_off420 v3357) a + S1x128x64.size a ≤ S2x4096x512.size a) ∧
  (∀ a, (k0_off421 v3357) a + S1x1x128x128.size a ≤ S2x4x128x4096.size a) ∧
  (∀ a, (k0_off422 v3357) a + S1x128x64.size a ≤ S2x4096x512.size a) ∧
  (∀ a, (k0_off423 v3357) a + S1x1x128x128.size a ≤ S2x4x128x4096.size a) ∧
  (∀ a, (k0_off424 v3357) a + S1x128x64.size a ≤ S2x4096x512.size a) ∧
  (∀ a, (k0_off425 v3357) a + S1x1x128x128.size a ≤ S2x4x128x4096.size a) ∧
  (∀ a, (k0_off426 v3357) a + S1x128x64.size a ≤ S2x4096x512.size a) ∧
  (∀ a, (k0_off427 v3357) a + S1x1x128x128.size a ≤ S2x4x128x4096.size a)
theorem k0_off412_inb : ∀ (v3357 : BitVec 32) (k0_hw83 : k0_chk83 v3357), ∀ a, (k0_off412 v3357) a + S1x128x64.size a ≤ S2x4096x512.size a := fun v3357 k0_hw83 => k0_hw83.1
theorem k0_off413_inb : ∀ (v3357 : BitVec 32) (k0_hw83 : k0_chk83 v3357), ∀ a, (k0_off413 v3357) a + S1x1x128x128.size a ≤ S2x4x128x4096.size a := fun v3357 k0_hw83 => k0_hw83.2.1
theorem k0_off414_inb : ∀ (v3357 : BitVec 32) (k0_hw83 : k0_chk83 v3357), ∀ a, (k0_off414 v3357) a + S1x128x64.size a ≤ S2x4096x512.size a := fun v3357 k0_hw83 => k0_hw83.2.2.1
theorem k0_off415_inb : ∀ (v3357 : BitVec 32) (k0_hw83 : k0_chk83 v3357), ∀ a, (k0_off415 v3357) a + S1x1x128x128.size a ≤ S2x4x128x4096.size a := fun v3357 k0_hw83 => k0_hw83.2.2.2.1
theorem k0_off416_inb : ∀ (v3357 : BitVec 32) (k0_hw83 : k0_chk83 v3357), ∀ a, (k0_off416 v3357) a + S1x128x64.size a ≤ S2x4096x512.size a := fun v3357 k0_hw83 => k0_hw83.2.2.2.2.1
theorem k0_off417_inb : ∀ (v3357 : BitVec 32) (k0_hw83 : k0_chk83 v3357), ∀ a, (k0_off417 v3357) a + S1x1x128x128.size a ≤ S2x4x128x4096.size a := fun v3357 k0_hw83 => k0_hw83.2.2.2.2.2.1
theorem k0_off418_inb : ∀ (v3357 : BitVec 32) (k0_hw83 : k0_chk83 v3357), ∀ a, (k0_off418 v3357) a + S1x128x64.size a ≤ S2x4096x512.size a := fun v3357 k0_hw83 => k0_hw83.2.2.2.2.2.2.1
theorem k0_off419_inb : ∀ (v3357 : BitVec 32) (k0_hw83 : k0_chk83 v3357), ∀ a, (k0_off419 v3357) a + S1x1x128x128.size a ≤ S2x4x128x4096.size a := fun v3357 k0_hw83 => k0_hw83.2.2.2.2.2.2.2.1
theorem k0_off420_inb : ∀ (v3357 : BitVec 32) (k0_hw83 : k0_chk83 v3357), ∀ a, (k0_off420 v3357) a + S1x128x64.size a ≤ S2x4096x512.size a := fun v3357 k0_hw83 => k0_hw83.2.2.2.2.2.2.2.2.1
theorem k0_off421_inb : ∀ (v3357 : BitVec 32) (k0_hw83 : k0_chk83 v3357), ∀ a, (k0_off421 v3357) a + S1x1x128x128.size a ≤ S2x4x128x4096.size a := fun v3357 k0_hw83 => k0_hw83.2.2.2.2.2.2.2.2.2.1
theorem k0_off422_inb : ∀ (v3357 : BitVec 32) (k0_hw83 : k0_chk83 v3357), ∀ a, (k0_off422 v3357) a + S1x128x64.size a ≤ S2x4096x512.size a := fun v3357 k0_hw83 => k0_hw83.2.2.2.2.2.2.2.2.2.2.1
theorem k0_off423_inb : ∀ (v3357 : BitVec 32) (k0_hw83 : k0_chk83 v3357), ∀ a, (k0_off423 v3357) a + S1x1x128x128.size a ≤ S2x4x128x4096.size a := fun v3357 k0_hw83 => k0_hw83.2.2.2.2.2.2.2.2.2.2.2.1
theorem k0_off424_inb : ∀ (v3357 : BitVec 32) (k0_hw83 : k0_chk83 v3357), ∀ a, (k0_off424 v3357) a + S1x128x64.size a ≤ S2x4096x512.size a := fun v3357 k0_hw83 => k0_hw83.2.2.2.2.2.2.2.2.2.2.2.2.1
theorem k0_off425_inb : ∀ (v3357 : BitVec 32) (k0_hw83 : k0_chk83 v3357), ∀ a, (k0_off425 v3357) a + S1x1x128x128.size a ≤ S2x4x128x4096.size a := fun v3357 k0_hw83 => k0_hw83.2.2.2.2.2.2.2.2.2.2.2.2.2.1
theorem k0_off426_inb : ∀ (v3357 : BitVec 32) (k0_hw83 : k0_chk83 v3357), ∀ a, (k0_off426 v3357) a + S1x128x64.size a ≤ S2x4096x512.size a := fun v3357 k0_hw83 => k0_hw83.2.2.2.2.2.2.2.2.2.2.2.2.2.2.1
theorem k0_off427_inb : ∀ (v3357 : BitVec 32) (k0_hw83 : k0_chk83 v3357), ∀ a, (k0_off427 v3357) a + S1x1x128x128.size a ≤ S2x4x128x4096.size a := fun v3357 k0_hw83 => k0_hw83.2.2.2.2.2.2.2.2.2.2.2.2.2.2.2

def k0_off428 (v2751 : BitVec 32) : Fin 3 → Nat :=
  let c0_i32_3119 : BitVec 32 := 0#32
  let c128_i32_2465 : BitVec 32 := 128#32
  let v2752 : BitVec 32 := Scalar.muli v2751 c128_i32_2465
  let c0_i32_3128 : BitVec 32 := 0#32
  ![0, v2752.toNat, 0]
def k0_off429 (v3463 : BitVec 32) : Fin 3 → Nat :=
  let c0_i32_3133 : BitVec 32 := 0#32
  let c128_i32_3131 : BitVec 32 := 128#32
  let v3464 : BitVec 32 := Scalar.muli v3463 c128_i32_3131
  let c0_i32_3141 : BitVec 32 := 0#32
  ![0, v3464.toNat, 0]

def k0_dev88 (v4 : BitVec 32) : Nat :=
  let c0_i32_3140 : BitVec 32 := 0#32
  let c1_i32_3139 : BitVec 32 := 1#32
  let v3465 : BitVec 32 := Scalar.muli v4 c1_i32_3139
  let v3466 : BitVec 32 := Scalar.addi c0_i32_3140 v3465
  v3466.toNat
def k0_off430 (v2771 : BitVec 32) : Fin 3 → Nat :=
  let c0_i32_3144 : BitVec 32 := 0#32
  let c128_i32_2491 : BitVec 32 := 128#32
  let v2772 : BitVec 32 := Scalar.muli v2771 c128_i32_2491
  let c256_i32_3153 : BitVec 32 := 256#32
  ![0, v2772.toNat, 256]
def k0_off431 (v3483 : BitVec 32) : Fin 3 → Nat :=
  let c0_i32_3159 : BitVec 32 := 0#32
  let c128_i32_3157 : BitVec 32 := 128#32
  let v3484 : BitVec 32 := Scalar.muli v3483 c128_i32_3157
  let c256_i32_3168 : BitVec 32 := 256#32
  ![0, v3484.toNat, 256]

def k0_dev89 (v4 : BitVec 32) : Nat :=
  let c0_i32_3167 : BitVec 32 := 0#32
  let c1_i32_3166 : BitVec 32 := 1#32
  let v3485 : BitVec 32 := Scalar.muli v4 c1_i32_3166
  let v3486 : BitVec 32 := Scalar.addi c0_i32_3167 v3485
  v3486.toNat
def k0_off432 (v2791 : BitVec 32) : Fin 3 → Nat :=
  let c0_i32_3171 : BitVec 32 := 0#32
  let c128_i32_2518 : BitVec 32 := 128#32
  let v2792 : BitVec 32 := Scalar.muli v2791 c128_i32_2518
  let c0_i32_3180 : BitVec 32 := 0#32
  ![0, v2792.toNat, 0]
def k0_off433 (v3503 : BitVec 32) : Fin 3 → Nat :=
  let c0_i32_3186 : BitVec 32 := 0#32
  let c128_i32_3184 : BitVec 32 := 128#32
  let v3504 : BitVec 32 := Scalar.muli v3503 c128_i32_3184
  let c0_i32_3195 : BitVec 32 := 0#32
  ![0, v3504.toNat, 0]

def k0_dev90 (v4 : BitVec 32) : Nat :=
  let c0_i32_3194 : BitVec 32 := 0#32
  let c1_i32_3193 : BitVec 32 := 1#32
  let v3505 : BitVec 32 := Scalar.muli v4 c1_i32_3193
  let v3506 : BitVec 32 := Scalar.addi c0_i32_3194 v3505
  v3506.toNat
def k0_off434 (v2811 : BitVec 32) : Fin 3 → Nat :=
  let c0_i32_3198 : BitVec 32 := 0#32
  let c128_i32_2545 : BitVec 32 := 128#32
  let v2812 : BitVec 32 := Scalar.muli v2811 c128_i32_2545
  let c256_i32_3207 : BitVec 32 := 256#32
  ![0, v2812.toNat, 256]
def k0_off435 (v3523 : BitVec 32) : Fin 3 → Nat :=
  let c0_i32_3213 : BitVec 32 := 0#32
  let c128_i32_3211 : BitVec 32 := 128#32
  let v3524 : BitVec 32 := Scalar.muli v3523 c128_i32_3211
  let c256_i32_3222 : BitVec 32 := 256#32
  ![0, v3524.toNat, 256]

def k0_dev91 (v4 : BitVec 32) : Nat :=
  let c0_i32_3221 : BitVec 32 := 0#32
  let c1_i32_3220 : BitVec 32 := 1#32
  let v3525 : BitVec 32 := Scalar.muli v4 c1_i32_3220
  let v3526 : BitVec 32 := Scalar.addi c0_i32_3221 v3525
  v3526.toNat
def k0_off436 (v2831 : BitVec 32) : Fin 3 → Nat :=
  let c1_i32_3225 : BitVec 32 := 1#32
  let c128_i32_2572 : BitVec 32 := 128#32
  let v2832 : BitVec 32 := Scalar.muli v2831 c128_i32_2572
  let c0_i32_3234 : BitVec 32 := 0#32
  ![1, v2832.toNat, 0]
def k0_off437 (v3543 : BitVec 32) : Fin 3 → Nat :=
  let c1_i32_3240 : BitVec 32 := 1#32
  let c128_i32_3238 : BitVec 32 := 128#32
  let v3544 : BitVec 32 := Scalar.muli v3543 c128_i32_3238
  let c0_i32_3249 : BitVec 32 := 0#32
  ![1, v3544.toNat, 0]

def k0_dev92 (v4 : BitVec 32) : Nat :=
  let c0_i32_3248 : BitVec 32 := 0#32
  let c1_i32_3247 : BitVec 32 := 1#32
  let v3545 : BitVec 32 := Scalar.muli v4 c1_i32_3247
  let v3546 : BitVec 32 := Scalar.addi c0_i32_3248 v3545
  v3546.toNat
def k0_off438 (v2851 : BitVec 32) : Fin 3 → Nat :=
  let c1_i32_3252 : BitVec 32 := 1#32
  let c128_i32_2599 : BitVec 32 := 128#32
  let v2852 : BitVec 32 := Scalar.muli v2851 c128_i32_2599
  let c256_i32_3261 : BitVec 32 := 256#32
  ![1, v2852.toNat, 256]
def k0_off439 (v3563 : BitVec 32) : Fin 3 → Nat :=
  let c1_i32_3267 : BitVec 32 := 1#32
  let c128_i32_3265 : BitVec 32 := 128#32
  let v3564 : BitVec 32 := Scalar.muli v3563 c128_i32_3265
  let c256_i32_3276 : BitVec 32 := 256#32
  ![1, v3564.toNat, 256]

def k0_dev93 (v4 : BitVec 32) : Nat :=
  let c0_i32_3275 : BitVec 32 := 0#32
  let c1_i32_3274 : BitVec 32 := 1#32
  let v3565 : BitVec 32 := Scalar.muli v4 c1_i32_3274
  let v3566 : BitVec 32 := Scalar.addi c0_i32_3275 v3565
  v3566.toNat
def k0_off440 (v2871 : BitVec 32) : Fin 3 → Nat :=
  let c1_i32_3279 : BitVec 32 := 1#32
  let c128_i32_2626 : BitVec 32 := 128#32
  let v2872 : BitVec 32 := Scalar.muli v2871 c128_i32_2626
  let c0_i32_3288 : BitVec 32 := 0#32
  ![1, v2872.toNat, 0]
def k0_off441 (v3583 : BitVec 32) : Fin 3 → Nat :=
  let c1_i32_3294 : BitVec 32 := 1#32
  let c128_i32_3292 : BitVec 32 := 128#32
  let v3584 : BitVec 32 := Scalar.muli v3583 c128_i32_3292
  let c0_i32_3303 : BitVec 32 := 0#32
  ![1, v3584.toNat, 0]

def k0_dev94 (v4 : BitVec 32) : Nat :=
  let c0_i32_3302 : BitVec 32 := 0#32
  let c1_i32_3301 : BitVec 32 := 1#32
  let v3585 : BitVec 32 := Scalar.muli v4 c1_i32_3301
  let v3586 : BitVec 32 := Scalar.addi c0_i32_3302 v3585
  v3586.toNat
def k0_off442 (v2891 : BitVec 32) : Fin 3 → Nat :=
  let c1_i32_3306 : BitVec 32 := 1#32
  let c128_i32_2653 : BitVec 32 := 128#32
  let v2892 : BitVec 32 := Scalar.muli v2891 c128_i32_2653
  let c256_i32_3315 : BitVec 32 := 256#32
  ![1, v2892.toNat, 256]
def k0_off443 (v3603 : BitVec 32) : Fin 3 → Nat :=
  let c1_i32_3321 : BitVec 32 := 1#32
  let c128_i32_3319 : BitVec 32 := 128#32
  let v3604 : BitVec 32 := Scalar.muli v3603 c128_i32_3319
  let c256_i32_3330 : BitVec 32 := 256#32
  ![1, v3604.toNat, 256]

def k0_dev95 (v4 : BitVec 32) : Nat :=
  let c0_i32_3329 : BitVec 32 := 0#32
  let c1_i32_3328 : BitVec 32 := 1#32
  let v3605 : BitVec 32 := Scalar.muli v4 c1_i32_3328
  let v3606 : BitVec 32 := Scalar.addi c0_i32_3329 v3605
  v3606.toNat
def k0_off444 (v2911 : BitVec 32) : Fin 3 → Nat :=
  let c0_i32_3333 : BitVec 32 := 0#32
  let c128_i32_2680 : BitVec 32 := 128#32
  let v2912 : BitVec 32 := Scalar.muli v2911 c128_i32_2680
  let c0_i32_3342 : BitVec 32 := 0#32
  ![0, v2912.toNat, 0]
def k0_off445 (v3623 : BitVec 32) : Fin 3 → Nat :=
  let c0_i32_3348 : BitVec 32 := 0#32
  let c128_i32_3346 : BitVec 32 := 128#32
  let v3624 : BitVec 32 := Scalar.muli v3623 c128_i32_3346
  let c0_i32_3357 : BitVec 32 := 0#32
  ![0, v3624.toNat, 0]

def k0_dev96 (v3 : BitVec 32) : Nat :=
  let c0_i32_3356 : BitVec 32 := 0#32
  let c1_i32_3355 : BitVec 32 := 1#32
  let v3625 : BitVec 32 := Scalar.muli v3 c1_i32_3355
  let v3626 : BitVec 32 := Scalar.addi c0_i32_3356 v3625
  v3626.toNat
def k0_off446 (v2931 : BitVec 32) : Fin 3 → Nat :=
  let c0_i32_3360 : BitVec 32 := 0#32
  let c128_i32_2707 : BitVec 32 := 128#32
  let v2932 : BitVec 32 := Scalar.muli v2931 c128_i32_2707
  let c256_i32_3369 : BitVec 32 := 256#32
  ![0, v2932.toNat, 256]
def k0_off447 (v3643 : BitVec 32) : Fin 3 → Nat :=
  let c0_i32_3375 : BitVec 32 := 0#32
  let c128_i32_3373 : BitVec 32 := 128#32
  let v3644 : BitVec 32 := Scalar.muli v3643 c128_i32_3373
  let c256_i32_3384 : BitVec 32 := 256#32
  ![0, v3644.toNat, 256]

def k0_dev97 (v3 : BitVec 32) : Nat :=
  let c0_i32_3383 : BitVec 32 := 0#32
  let c1_i32_3382 : BitVec 32 := 1#32
  let v3645 : BitVec 32 := Scalar.muli v3 c1_i32_3382
  let v3646 : BitVec 32 := Scalar.addi c0_i32_3383 v3645
  v3646.toNat
def k0_off448 (v2951 : BitVec 32) : Fin 3 → Nat :=
  let c0_i32_3387 : BitVec 32 := 0#32
  let c128_i32_2734 : BitVec 32 := 128#32
  let v2952 : BitVec 32 := Scalar.muli v2951 c128_i32_2734
  let c0_i32_3396 : BitVec 32 := 0#32
  ![0, v2952.toNat, 0]
def k0_off449 (v3663 : BitVec 32) : Fin 3 → Nat :=
  let c0_i32_3402 : BitVec 32 := 0#32
  let c128_i32_3400 : BitVec 32 := 128#32
  let v3664 : BitVec 32 := Scalar.muli v3663 c128_i32_3400
  let c0_i32_3411 : BitVec 32 := 0#32
  ![0, v3664.toNat, 0]

def k0_dev98 (v3 : BitVec 32) : Nat :=
  let c0_i32_3410 : BitVec 32 := 0#32
  let c1_i32_3409 : BitVec 32 := 1#32
  let v3665 : BitVec 32 := Scalar.muli v3 c1_i32_3409
  let v3666 : BitVec 32 := Scalar.addi c0_i32_3410 v3665
  v3666.toNat
def k0_off450 (v2971 : BitVec 32) : Fin 3 → Nat :=
  let c0_i32_3414 : BitVec 32 := 0#32
  let c128_i32_2761 : BitVec 32 := 128#32
  let v2972 : BitVec 32 := Scalar.muli v2971 c128_i32_2761
  let c256_i32_3423 : BitVec 32 := 256#32
  ![0, v2972.toNat, 256]
def k0_off451 (v3683 : BitVec 32) : Fin 3 → Nat :=
  let c0_i32_3429 : BitVec 32 := 0#32
  let c128_i32_3427 : BitVec 32 := 128#32
  let v3684 : BitVec 32 := Scalar.muli v3683 c128_i32_3427
  let c256_i32_3438 : BitVec 32 := 256#32
  ![0, v3684.toNat, 256]

def k0_dev99 (v3 : BitVec 32) : Nat :=
  let c0_i32_3437 : BitVec 32 := 0#32
  let c1_i32_3436 : BitVec 32 := 1#32
  let v3685 : BitVec 32 := Scalar.muli v3 c1_i32_3436
  let v3686 : BitVec 32 := Scalar.addi c0_i32_3437 v3685
  v3686.toNat
def k0_off452 (v2991 : BitVec 32) : Fin 3 → Nat :=
  let c1_i32_3441 : BitVec 32 := 1#32
  let c128_i32_2788 : BitVec 32 := 128#32
  let v2992 : BitVec 32 := Scalar.muli v2991 c128_i32_2788
  let c0_i32_3450 : BitVec 32 := 0#32
  ![1, v2992.toNat, 0]
def k0_off453 (v3703 : BitVec 32) : Fin 3 → Nat :=
  let c1_i32_3456 : BitVec 32 := 1#32
  let c128_i32_3454 : BitVec 32 := 128#32
  let v3704 : BitVec 32 := Scalar.muli v3703 c128_i32_3454
  let c0_i32_3465 : BitVec 32 := 0#32
  ![1, v3704.toNat, 0]

def k0_dev100 (v3 : BitVec 32) : Nat :=
  let c0_i32_3464 : BitVec 32 := 0#32
  let c1_i32_3463 : BitVec 32 := 1#32
  let v3705 : BitVec 32 := Scalar.muli v3 c1_i32_3463
  let v3706 : BitVec 32 := Scalar.addi c0_i32_3464 v3705
  v3706.toNat
def k0_off454 (v3011 : BitVec 32) : Fin 3 → Nat :=
  let c1_i32_3468 : BitVec 32 := 1#32
  let c128_i32_2815 : BitVec 32 := 128#32
  let v3012 : BitVec 32 := Scalar.muli v3011 c128_i32_2815
  let c256_i32_3477 : BitVec 32 := 256#32
  ![1, v3012.toNat, 256]
def k0_off455 (v3723 : BitVec 32) : Fin 3 → Nat :=
  let c1_i32_3483 : BitVec 32 := 1#32
  let c128_i32_3481 : BitVec 32 := 128#32
  let v3724 : BitVec 32 := Scalar.muli v3723 c128_i32_3481
  let c256_i32_3492 : BitVec 32 := 256#32
  ![1, v3724.toNat, 256]

def k0_dev101 (v3 : BitVec 32) : Nat :=
  let c0_i32_3491 : BitVec 32 := 0#32
  let c1_i32_3490 : BitVec 32 := 1#32
  let v3725 : BitVec 32 := Scalar.muli v3 c1_i32_3490
  let v3726 : BitVec 32 := Scalar.addi c0_i32_3491 v3725
  v3726.toNat
def k0_off456 (v3031 : BitVec 32) : Fin 3 → Nat :=
  let c1_i32_3495 : BitVec 32 := 1#32
  let c128_i32_2842 : BitVec 32 := 128#32
  let v3032 : BitVec 32 := Scalar.muli v3031 c128_i32_2842
  let c0_i32_3504 : BitVec 32 := 0#32
  ![1, v3032.toNat, 0]
def k0_off457 (v3743 : BitVec 32) : Fin 3 → Nat :=
  let c1_i32_3510 : BitVec 32 := 1#32
  let c128_i32_3508 : BitVec 32 := 128#32
  let v3744 : BitVec 32 := Scalar.muli v3743 c128_i32_3508
  let c0_i32_3519 : BitVec 32 := 0#32
  ![1, v3744.toNat, 0]

def k0_dev102 (v3 : BitVec 32) : Nat :=
  let c0_i32_3518 : BitVec 32 := 0#32
  let c1_i32_3517 : BitVec 32 := 1#32
  let v3745 : BitVec 32 := Scalar.muli v3 c1_i32_3517
  let v3746 : BitVec 32 := Scalar.addi c0_i32_3518 v3745
  v3746.toNat
def k0_off458 (v3051 : BitVec 32) : Fin 3 → Nat :=
  let c1_i32_3522 : BitVec 32 := 1#32
  let c128_i32_2869 : BitVec 32 := 128#32
  let v3052 : BitVec 32 := Scalar.muli v3051 c128_i32_2869
  let c256_i32_3531 : BitVec 32 := 256#32
  ![1, v3052.toNat, 256]
def k0_off459 (v3763 : BitVec 32) : Fin 3 → Nat :=
  let c1_i32_3537 : BitVec 32 := 1#32
  let c128_i32_3535 : BitVec 32 := 128#32
  let v3764 : BitVec 32 := Scalar.muli v3763 c128_i32_3535
  let c256_i32_3546 : BitVec 32 := 256#32
  ![1, v3764.toNat, 256]

def k0_dev103 (v3 : BitVec 32) : Nat :=
  let c0_i32_3545 : BitVec 32 := 0#32
  let c1_i32_3544 : BitVec 32 := 1#32
  let v3765 : BitVec 32 := Scalar.muli v3 c1_i32_3544
  let v3766 : BitVec 32 := Scalar.addi c0_i32_3545 v3765
  v3766.toNat
def k0_off460 (v3775 : BitVec 32) : Fin 3 → Nat :=
  let c0_3551 : Index := 0#32
  let c128_i32_3550 : BitVec 32 := 128#32
  let v3776 : BitVec 32 := Scalar.muli v3775 c128_i32_3550
  let v3777 : Index := Scalar.indexCast v3776
  let c0_3552 : Index := 0#32
  ![0, v3777.toNat, 0]

def k0_off461 (v3775 : BitVec 32) : Fin 4 → Nat :=
  let c0_3554 : Index := 0#32
  let c0_3555 : Index := 0#32
  let c0_3556 : Index := 0#32
  let c128_i32_3550 : BitVec 32 := 128#32
  let v3776 : BitVec 32 := Scalar.muli v3775 c128_i32_3550
  let v3782 : Index := Scalar.indexCast v3776
  ![0, 0, 0, v3782.toNat]
def k0_off462 (v3775 : BitVec 32) : Fin 3 → Nat :=
  let c0_3558 : Index := 0#32
  let c128_i32_3550 : BitVec 32 := 128#32
  let v3776 : BitVec 32 := Scalar.muli v3775 c128_i32_3550
  let v3789 : Index := Scalar.indexCast v3776
  let c64_3559 : Index := 64#32
  ![0, v3789.toNat, 64]
def k0_off463 (v3775 : BitVec 32) : Fin 4 → Nat :=
  let c0_3561 : Index := 0#32
  let c1_3562 : Index := 1#32
  let c0_3563 : Index := 0#32
  let c128_i32_3550 : BitVec 32 := 128#32
  let v3776 : BitVec 32 := Scalar.muli v3775 c128_i32_3550
  let v3794 : Index := Scalar.indexCast v3776
  ![0, 1, 0, v3794.toNat]
def k0_off464 (v3775 : BitVec 32) : Fin 3 → Nat :=
  let c0_3565 : Index := 0#32
  let c128_i32_3550 : BitVec 32 := 128#32
  let v3776 : BitVec 32 := Scalar.muli v3775 c128_i32_3550
  let v3801 : Index := Scalar.indexCast v3776
  let c128_3566 : Index := 128#32
  ![0, v3801.toNat, 128]
def k0_off465 (v3775 : BitVec 32) : Fin 4 → Nat :=
  let c0_3568 : Index := 0#32
  let c2_3569 : Index := 2#32
  let c0_3570 : Index := 0#32
  let c128_i32_3550 : BitVec 32 := 128#32
  let v3776 : BitVec 32 := Scalar.muli v3775 c128_i32_3550
  let v3806 : Index := Scalar.indexCast v3776
  ![0, 2, 0, v3806.toNat]
def k0_off466 (v3775 : BitVec 32) : Fin 3 → Nat :=
  let c0_3572 : Index := 0#32
  let c128_i32_3550 : BitVec 32 := 128#32
  let v3776 : BitVec 32 := Scalar.muli v3775 c128_i32_3550
  let v3813 : Index := Scalar.indexCast v3776
  let c192_3573 : Index := 192#32
  ![0, v3813.toNat, 192]
def k0_off467 (v3775 : BitVec 32) : Fin 4 → Nat :=
  let c0_3575 : Index := 0#32
  let c3_3576 : Index := 3#32
  let c0_3577 : Index := 0#32
  let c128_i32_3550 : BitVec 32 := 128#32
  let v3776 : BitVec 32 := Scalar.muli v3775 c128_i32_3550
  let v3818 : Index := Scalar.indexCast v3776
  ![0, 3, 0, v3818.toNat]
def k0_off468 (v3775 : BitVec 32) : Fin 3 → Nat :=
  let c1_3579 : Index := 1#32
  let c128_i32_3550 : BitVec 32 := 128#32
  let v3776 : BitVec 32 := Scalar.muli v3775 c128_i32_3550
  let v3825 : Index := Scalar.indexCast v3776
  let c0_3580 : Index := 0#32
  ![1, v3825.toNat, 0]
def k0_off469 (v3775 : BitVec 32) : Fin 4 → Nat :=
  let c1_3582 : Index := 1#32
  let c0_3583 : Index := 0#32
  let c0_3584 : Index := 0#32
  let c128_i32_3550 : BitVec 32 := 128#32
  let v3776 : BitVec 32 := Scalar.muli v3775 c128_i32_3550
  let v3830 : Index := Scalar.indexCast v3776
  ![1, 0, 0, v3830.toNat]
def k0_off470 (v3775 : BitVec 32) : Fin 3 → Nat :=
  let c1_3586 : Index := 1#32
  let c128_i32_3550 : BitVec 32 := 128#32
  let v3776 : BitVec 32 := Scalar.muli v3775 c128_i32_3550
  let v3837 : Index := Scalar.indexCast v3776
  let c64_3587 : Index := 64#32
  ![1, v3837.toNat, 64]
def k0_off471 (v3775 : BitVec 32) : Fin 4 → Nat :=
  let c1_3589 : Index := 1#32
  let c1_3590 : Index := 1#32
  let c0_3591 : Index := 0#32
  let c128_i32_3550 : BitVec 32 := 128#32
  let v3776 : BitVec 32 := Scalar.muli v3775 c128_i32_3550
  let v3842 : Index := Scalar.indexCast v3776
  ![1, 1, 0, v3842.toNat]
def k0_off472 (v3775 : BitVec 32) : Fin 3 → Nat :=
  let c1_3593 : Index := 1#32
  let c128_i32_3550 : BitVec 32 := 128#32
  let v3776 : BitVec 32 := Scalar.muli v3775 c128_i32_3550
  let v3849 : Index := Scalar.indexCast v3776
  let c128_3594 : Index := 128#32
  ![1, v3849.toNat, 128]
def k0_off473 (v3775 : BitVec 32) : Fin 4 → Nat :=
  let c1_3596 : Index := 1#32
  let c2_3597 : Index := 2#32
  let c0_3598 : Index := 0#32
  let c128_i32_3550 : BitVec 32 := 128#32
  let v3776 : BitVec 32 := Scalar.muli v3775 c128_i32_3550
  let v3854 : Index := Scalar.indexCast v3776
  ![1, 2, 0, v3854.toNat]
def k0_off474 (v3775 : BitVec 32) : Fin 3 → Nat :=
  let c1_3600 : Index := 1#32
  let c128_i32_3550 : BitVec 32 := 128#32
  let v3776 : BitVec 32 := Scalar.muli v3775 c128_i32_3550
  let v3861 : Index := Scalar.indexCast v3776
  let c192_3601 : Index := 192#32
  ![1, v3861.toNat, 192]
def k0_off475 (v3775 : BitVec 32) : Fin 4 → Nat :=
  let c1_3603 : Index := 1#32
  let c3_3604 : Index := 3#32
  let c0_3605 : Index := 0#32
  let c128_i32_3550 : BitVec 32 := 128#32
  let v3776 : BitVec 32 := Scalar.muli v3775 c128_i32_3550
  let v3866 : Index := Scalar.indexCast v3776
  ![1, 3, 0, v3866.toNat]

def k0_chk100 (v3775 : BitVec 32) : Prop :=
  (∀ a, (k0_off460 v3775) a + S1x128x64.size a ≤ S2x4096x512.size a) ∧
  (∀ a, (k0_off461 v3775) a + S1x1x128x128.size a ≤ S2x4x128x4096.size a) ∧
  (∀ a, (k0_off462 v3775) a + S1x128x64.size a ≤ S2x4096x512.size a) ∧
  (∀ a, (k0_off463 v3775) a + S1x1x128x128.size a ≤ S2x4x128x4096.size a) ∧
  (∀ a, (k0_off464 v3775) a + S1x128x64.size a ≤ S2x4096x512.size a) ∧
  (∀ a, (k0_off465 v3775) a + S1x1x128x128.size a ≤ S2x4x128x4096.size a) ∧
  (∀ a, (k0_off466 v3775) a + S1x128x64.size a ≤ S2x4096x512.size a) ∧
  (∀ a, (k0_off467 v3775) a + S1x1x128x128.size a ≤ S2x4x128x4096.size a) ∧
  (∀ a, (k0_off468 v3775) a + S1x128x64.size a ≤ S2x4096x512.size a) ∧
  (∀ a, (k0_off469 v3775) a + S1x1x128x128.size a ≤ S2x4x128x4096.size a) ∧
  (∀ a, (k0_off470 v3775) a + S1x128x64.size a ≤ S2x4096x512.size a) ∧
  (∀ a, (k0_off471 v3775) a + S1x1x128x128.size a ≤ S2x4x128x4096.size a) ∧
  (∀ a, (k0_off472 v3775) a + S1x128x64.size a ≤ S2x4096x512.size a) ∧
  (∀ a, (k0_off473 v3775) a + S1x1x128x128.size a ≤ S2x4x128x4096.size a) ∧
  (∀ a, (k0_off474 v3775) a + S1x128x64.size a ≤ S2x4096x512.size a) ∧
  (∀ a, (k0_off475 v3775) a + S1x1x128x128.size a ≤ S2x4x128x4096.size a)
theorem k0_off460_inb : ∀ (v3775 : BitVec 32) (k0_hw100 : k0_chk100 v3775), ∀ a, (k0_off460 v3775) a + S1x128x64.size a ≤ S2x4096x512.size a := fun v3775 k0_hw100 => k0_hw100.1
theorem k0_off461_inb : ∀ (v3775 : BitVec 32) (k0_hw100 : k0_chk100 v3775), ∀ a, (k0_off461 v3775) a + S1x1x128x128.size a ≤ S2x4x128x4096.size a := fun v3775 k0_hw100 => k0_hw100.2.1
theorem k0_off462_inb : ∀ (v3775 : BitVec 32) (k0_hw100 : k0_chk100 v3775), ∀ a, (k0_off462 v3775) a + S1x128x64.size a ≤ S2x4096x512.size a := fun v3775 k0_hw100 => k0_hw100.2.2.1
theorem k0_off463_inb : ∀ (v3775 : BitVec 32) (k0_hw100 : k0_chk100 v3775), ∀ a, (k0_off463 v3775) a + S1x1x128x128.size a ≤ S2x4x128x4096.size a := fun v3775 k0_hw100 => k0_hw100.2.2.2.1
theorem k0_off464_inb : ∀ (v3775 : BitVec 32) (k0_hw100 : k0_chk100 v3775), ∀ a, (k0_off464 v3775) a + S1x128x64.size a ≤ S2x4096x512.size a := fun v3775 k0_hw100 => k0_hw100.2.2.2.2.1
theorem k0_off465_inb : ∀ (v3775 : BitVec 32) (k0_hw100 : k0_chk100 v3775), ∀ a, (k0_off465 v3775) a + S1x1x128x128.size a ≤ S2x4x128x4096.size a := fun v3775 k0_hw100 => k0_hw100.2.2.2.2.2.1
theorem k0_off466_inb : ∀ (v3775 : BitVec 32) (k0_hw100 : k0_chk100 v3775), ∀ a, (k0_off466 v3775) a + S1x128x64.size a ≤ S2x4096x512.size a := fun v3775 k0_hw100 => k0_hw100.2.2.2.2.2.2.1
theorem k0_off467_inb : ∀ (v3775 : BitVec 32) (k0_hw100 : k0_chk100 v3775), ∀ a, (k0_off467 v3775) a + S1x1x128x128.size a ≤ S2x4x128x4096.size a := fun v3775 k0_hw100 => k0_hw100.2.2.2.2.2.2.2.1
theorem k0_off468_inb : ∀ (v3775 : BitVec 32) (k0_hw100 : k0_chk100 v3775), ∀ a, (k0_off468 v3775) a + S1x128x64.size a ≤ S2x4096x512.size a := fun v3775 k0_hw100 => k0_hw100.2.2.2.2.2.2.2.2.1
theorem k0_off469_inb : ∀ (v3775 : BitVec 32) (k0_hw100 : k0_chk100 v3775), ∀ a, (k0_off469 v3775) a + S1x1x128x128.size a ≤ S2x4x128x4096.size a := fun v3775 k0_hw100 => k0_hw100.2.2.2.2.2.2.2.2.2.1
theorem k0_off470_inb : ∀ (v3775 : BitVec 32) (k0_hw100 : k0_chk100 v3775), ∀ a, (k0_off470 v3775) a + S1x128x64.size a ≤ S2x4096x512.size a := fun v3775 k0_hw100 => k0_hw100.2.2.2.2.2.2.2.2.2.2.1
theorem k0_off471_inb : ∀ (v3775 : BitVec 32) (k0_hw100 : k0_chk100 v3775), ∀ a, (k0_off471 v3775) a + S1x1x128x128.size a ≤ S2x4x128x4096.size a := fun v3775 k0_hw100 => k0_hw100.2.2.2.2.2.2.2.2.2.2.2.1
theorem k0_off472_inb : ∀ (v3775 : BitVec 32) (k0_hw100 : k0_chk100 v3775), ∀ a, (k0_off472 v3775) a + S1x128x64.size a ≤ S2x4096x512.size a := fun v3775 k0_hw100 => k0_hw100.2.2.2.2.2.2.2.2.2.2.2.2.1
theorem k0_off473_inb : ∀ (v3775 : BitVec 32) (k0_hw100 : k0_chk100 v3775), ∀ a, (k0_off473 v3775) a + S1x1x128x128.size a ≤ S2x4x128x4096.size a := fun v3775 k0_hw100 => k0_hw100.2.2.2.2.2.2.2.2.2.2.2.2.2.1
theorem k0_off474_inb : ∀ (v3775 : BitVec 32) (k0_hw100 : k0_chk100 v3775), ∀ a, (k0_off474 v3775) a + S1x128x64.size a ≤ S2x4096x512.size a := fun v3775 k0_hw100 => k0_hw100.2.2.2.2.2.2.2.2.2.2.2.2.2.2.1
theorem k0_off475_inb : ∀ (v3775 : BitVec 32) (k0_hw100 : k0_chk100 v3775), ∀ a, (k0_off475 v3775) a + S1x1x128x128.size a ≤ S2x4x128x4096.size a := fun v3775 k0_hw100 => k0_hw100.2.2.2.2.2.2.2.2.2.2.2.2.2.2.2

def k0_off476 (v3873 : BitVec 32) : Fin 3 → Nat :=
  let c0_3610 : Index := 0#32
  let c128_i32_3609 : BitVec 32 := 128#32
  let v3874 : BitVec 32 := Scalar.muli v3873 c128_i32_3609
  let v3875 : Index := Scalar.indexCast v3874
  let c0_3611 : Index := 0#32
  ![0, v3875.toNat, 0]

def k0_off477 (v3873 : BitVec 32) : Fin 4 → Nat :=
  let c0_3613 : Index := 0#32
  let c0_3614 : Index := 0#32
  let c0_3615 : Index := 0#32
  let c128_i32_3609 : BitVec 32 := 128#32
  let v3874 : BitVec 32 := Scalar.muli v3873 c128_i32_3609
  let v3880 : Index := Scalar.indexCast v3874
  ![0, 0, 0, v3880.toNat]
def k0_off478 (v3873 : BitVec 32) : Fin 3 → Nat :=
  let c0_3617 : Index := 0#32
  let c128_i32_3609 : BitVec 32 := 128#32
  let v3874 : BitVec 32 := Scalar.muli v3873 c128_i32_3609
  let v3887 : Index := Scalar.indexCast v3874
  let c64_3618 : Index := 64#32
  ![0, v3887.toNat, 64]
def k0_off479 (v3873 : BitVec 32) : Fin 4 → Nat :=
  let c0_3620 : Index := 0#32
  let c1_3621 : Index := 1#32
  let c0_3622 : Index := 0#32
  let c128_i32_3609 : BitVec 32 := 128#32
  let v3874 : BitVec 32 := Scalar.muli v3873 c128_i32_3609
  let v3892 : Index := Scalar.indexCast v3874
  ![0, 1, 0, v3892.toNat]
def k0_off480 (v3873 : BitVec 32) : Fin 3 → Nat :=
  let c0_3624 : Index := 0#32
  let c128_i32_3609 : BitVec 32 := 128#32
  let v3874 : BitVec 32 := Scalar.muli v3873 c128_i32_3609
  let v3899 : Index := Scalar.indexCast v3874
  let c128_3625 : Index := 128#32
  ![0, v3899.toNat, 128]
def k0_off481 (v3873 : BitVec 32) : Fin 4 → Nat :=
  let c0_3627 : Index := 0#32
  let c2_3628 : Index := 2#32
  let c0_3629 : Index := 0#32
  let c128_i32_3609 : BitVec 32 := 128#32
  let v3874 : BitVec 32 := Scalar.muli v3873 c128_i32_3609
  let v3904 : Index := Scalar.indexCast v3874
  ![0, 2, 0, v3904.toNat]
def k0_off482 (v3873 : BitVec 32) : Fin 3 → Nat :=
  let c0_3631 : Index := 0#32
  let c128_i32_3609 : BitVec 32 := 128#32
  let v3874 : BitVec 32 := Scalar.muli v3873 c128_i32_3609
  let v3911 : Index := Scalar.indexCast v3874
  let c192_3632 : Index := 192#32
  ![0, v3911.toNat, 192]
def k0_off483 (v3873 : BitVec 32) : Fin 4 → Nat :=
  let c0_3634 : Index := 0#32
  let c3_3635 : Index := 3#32
  let c0_3636 : Index := 0#32
  let c128_i32_3609 : BitVec 32 := 128#32
  let v3874 : BitVec 32 := Scalar.muli v3873 c128_i32_3609
  let v3916 : Index := Scalar.indexCast v3874
  ![0, 3, 0, v3916.toNat]
def k0_off484 (v3873 : BitVec 32) : Fin 3 → Nat :=
  let c1_3638 : Index := 1#32
  let c128_i32_3609 : BitVec 32 := 128#32
  let v3874 : BitVec 32 := Scalar.muli v3873 c128_i32_3609
  let v3923 : Index := Scalar.indexCast v3874
  let c0_3639 : Index := 0#32
  ![1, v3923.toNat, 0]
def k0_off485 (v3873 : BitVec 32) : Fin 4 → Nat :=
  let c1_3641 : Index := 1#32
  let c0_3642 : Index := 0#32
  let c0_3643 : Index := 0#32
  let c128_i32_3609 : BitVec 32 := 128#32
  let v3874 : BitVec 32 := Scalar.muli v3873 c128_i32_3609
  let v3928 : Index := Scalar.indexCast v3874
  ![1, 0, 0, v3928.toNat]
def k0_off486 (v3873 : BitVec 32) : Fin 3 → Nat :=
  let c1_3645 : Index := 1#32
  let c128_i32_3609 : BitVec 32 := 128#32
  let v3874 : BitVec 32 := Scalar.muli v3873 c128_i32_3609
  let v3935 : Index := Scalar.indexCast v3874
  let c64_3646 : Index := 64#32
  ![1, v3935.toNat, 64]
def k0_off487 (v3873 : BitVec 32) : Fin 4 → Nat :=
  let c1_3648 : Index := 1#32
  let c1_3649 : Index := 1#32
  let c0_3650 : Index := 0#32
  let c128_i32_3609 : BitVec 32 := 128#32
  let v3874 : BitVec 32 := Scalar.muli v3873 c128_i32_3609
  let v3940 : Index := Scalar.indexCast v3874
  ![1, 1, 0, v3940.toNat]
def k0_off488 (v3873 : BitVec 32) : Fin 3 → Nat :=
  let c1_3652 : Index := 1#32
  let c128_i32_3609 : BitVec 32 := 128#32
  let v3874 : BitVec 32 := Scalar.muli v3873 c128_i32_3609
  let v3947 : Index := Scalar.indexCast v3874
  let c128_3653 : Index := 128#32
  ![1, v3947.toNat, 128]
def k0_off489 (v3873 : BitVec 32) : Fin 4 → Nat :=
  let c1_3655 : Index := 1#32
  let c2_3656 : Index := 2#32
  let c0_3657 : Index := 0#32
  let c128_i32_3609 : BitVec 32 := 128#32
  let v3874 : BitVec 32 := Scalar.muli v3873 c128_i32_3609
  let v3952 : Index := Scalar.indexCast v3874
  ![1, 2, 0, v3952.toNat]
def k0_off490 (v3873 : BitVec 32) : Fin 3 → Nat :=
  let c1_3659 : Index := 1#32
  let c128_i32_3609 : BitVec 32 := 128#32
  let v3874 : BitVec 32 := Scalar.muli v3873 c128_i32_3609
  let v3959 : Index := Scalar.indexCast v3874
  let c192_3660 : Index := 192#32
  ![1, v3959.toNat, 192]
def k0_off491 (v3873 : BitVec 32) : Fin 4 → Nat :=
  let c1_3662 : Index := 1#32
  let c3_3663 : Index := 3#32
  let c0_3664 : Index := 0#32
  let c128_i32_3609 : BitVec 32 := 128#32
  let v3874 : BitVec 32 := Scalar.muli v3873 c128_i32_3609
  let v3964 : Index := Scalar.indexCast v3874
  ![1, 3, 0, v3964.toNat]

def k0_chk101 (v3873 : BitVec 32) : Prop :=
  (∀ a, (k0_off476 v3873) a + S1x128x64.size a ≤ S2x4096x512.size a) ∧
  (∀ a, (k0_off477 v3873) a + S1x1x128x128.size a ≤ S2x4x128x4096.size a) ∧
  (∀ a, (k0_off478 v3873) a + S1x128x64.size a ≤ S2x4096x512.size a) ∧
  (∀ a, (k0_off479 v3873) a + S1x1x128x128.size a ≤ S2x4x128x4096.size a) ∧
  (∀ a, (k0_off480 v3873) a + S1x128x64.size a ≤ S2x4096x512.size a) ∧
  (∀ a, (k0_off481 v3873) a + S1x1x128x128.size a ≤ S2x4x128x4096.size a) ∧
  (∀ a, (k0_off482 v3873) a + S1x128x64.size a ≤ S2x4096x512.size a) ∧
  (∀ a, (k0_off483 v3873) a + S1x1x128x128.size a ≤ S2x4x128x4096.size a) ∧
  (∀ a, (k0_off484 v3873) a + S1x128x64.size a ≤ S2x4096x512.size a) ∧
  (∀ a, (k0_off485 v3873) a + S1x1x128x128.size a ≤ S2x4x128x4096.size a) ∧
  (∀ a, (k0_off486 v3873) a + S1x128x64.size a ≤ S2x4096x512.size a) ∧
  (∀ a, (k0_off487 v3873) a + S1x1x128x128.size a ≤ S2x4x128x4096.size a) ∧
  (∀ a, (k0_off488 v3873) a + S1x128x64.size a ≤ S2x4096x512.size a) ∧
  (∀ a, (k0_off489 v3873) a + S1x1x128x128.size a ≤ S2x4x128x4096.size a) ∧
  (∀ a, (k0_off490 v3873) a + S1x128x64.size a ≤ S2x4096x512.size a) ∧
  (∀ a, (k0_off491 v3873) a + S1x1x128x128.size a ≤ S2x4x128x4096.size a)
theorem k0_off476_inb : ∀ (v3873 : BitVec 32) (k0_hw101 : k0_chk101 v3873), ∀ a, (k0_off476 v3873) a + S1x128x64.size a ≤ S2x4096x512.size a := fun v3873 k0_hw101 => k0_hw101.1
theorem k0_off477_inb : ∀ (v3873 : BitVec 32) (k0_hw101 : k0_chk101 v3873), ∀ a, (k0_off477 v3873) a + S1x1x128x128.size a ≤ S2x4x128x4096.size a := fun v3873 k0_hw101 => k0_hw101.2.1
theorem k0_off478_inb : ∀ (v3873 : BitVec 32) (k0_hw101 : k0_chk101 v3873), ∀ a, (k0_off478 v3873) a + S1x128x64.size a ≤ S2x4096x512.size a := fun v3873 k0_hw101 => k0_hw101.2.2.1
theorem k0_off479_inb : ∀ (v3873 : BitVec 32) (k0_hw101 : k0_chk101 v3873), ∀ a, (k0_off479 v3873) a + S1x1x128x128.size a ≤ S2x4x128x4096.size a := fun v3873 k0_hw101 => k0_hw101.2.2.2.1
theorem k0_off480_inb : ∀ (v3873 : BitVec 32) (k0_hw101 : k0_chk101 v3873), ∀ a, (k0_off480 v3873) a + S1x128x64.size a ≤ S2x4096x512.size a := fun v3873 k0_hw101 => k0_hw101.2.2.2.2.1
theorem k0_off481_inb : ∀ (v3873 : BitVec 32) (k0_hw101 : k0_chk101 v3873), ∀ a, (k0_off481 v3873) a + S1x1x128x128.size a ≤ S2x4x128x4096.size a := fun v3873 k0_hw101 => k0_hw101.2.2.2.2.2.1
theorem k0_off482_inb : ∀ (v3873 : BitVec 32) (k0_hw101 : k0_chk101 v3873), ∀ a, (k0_off482 v3873) a + S1x128x64.size a ≤ S2x4096x512.size a := fun v3873 k0_hw101 => k0_hw101.2.2.2.2.2.2.1
theorem k0_off483_inb : ∀ (v3873 : BitVec 32) (k0_hw101 : k0_chk101 v3873), ∀ a, (k0_off483 v3873) a + S1x1x128x128.size a ≤ S2x4x128x4096.size a := fun v3873 k0_hw101 => k0_hw101.2.2.2.2.2.2.2.1
theorem k0_off484_inb : ∀ (v3873 : BitVec 32) (k0_hw101 : k0_chk101 v3873), ∀ a, (k0_off484 v3873) a + S1x128x64.size a ≤ S2x4096x512.size a := fun v3873 k0_hw101 => k0_hw101.2.2.2.2.2.2.2.2.1
theorem k0_off485_inb : ∀ (v3873 : BitVec 32) (k0_hw101 : k0_chk101 v3873), ∀ a, (k0_off485 v3873) a + S1x1x128x128.size a ≤ S2x4x128x4096.size a := fun v3873 k0_hw101 => k0_hw101.2.2.2.2.2.2.2.2.2.1
theorem k0_off486_inb : ∀ (v3873 : BitVec 32) (k0_hw101 : k0_chk101 v3873), ∀ a, (k0_off486 v3873) a + S1x128x64.size a ≤ S2x4096x512.size a := fun v3873 k0_hw101 => k0_hw101.2.2.2.2.2.2.2.2.2.2.1
theorem k0_off487_inb : ∀ (v3873 : BitVec 32) (k0_hw101 : k0_chk101 v3873), ∀ a, (k0_off487 v3873) a + S1x1x128x128.size a ≤ S2x4x128x4096.size a := fun v3873 k0_hw101 => k0_hw101.2.2.2.2.2.2.2.2.2.2.2.1
theorem k0_off488_inb : ∀ (v3873 : BitVec 32) (k0_hw101 : k0_chk101 v3873), ∀ a, (k0_off488 v3873) a + S1x128x64.size a ≤ S2x4096x512.size a := fun v3873 k0_hw101 => k0_hw101.2.2.2.2.2.2.2.2.2.2.2.2.1
theorem k0_off489_inb : ∀ (v3873 : BitVec 32) (k0_hw101 : k0_chk101 v3873), ∀ a, (k0_off489 v3873) a + S1x1x128x128.size a ≤ S2x4x128x4096.size a := fun v3873 k0_hw101 => k0_hw101.2.2.2.2.2.2.2.2.2.2.2.2.2.1
theorem k0_off490_inb : ∀ (v3873 : BitVec 32) (k0_hw101 : k0_chk101 v3873), ∀ a, (k0_off490 v3873) a + S1x128x64.size a ≤ S2x4096x512.size a := fun v3873 k0_hw101 => k0_hw101.2.2.2.2.2.2.2.2.2.2.2.2.2.2.1
theorem k0_off491_inb : ∀ (v3873 : BitVec 32) (k0_hw101 : k0_chk101 v3873), ∀ a, (k0_off491 v3873) a + S1x1x128x128.size a ≤ S2x4x128x4096.size a := fun v3873 k0_hw101 => k0_hw101.2.2.2.2.2.2.2.2.2.2.2.2.2.2.2

def k0_off492 (v3971 : BitVec 32) : Fin 3 → Nat :=
  let c0_3669 : Index := 0#32
  let c128_i32_3668 : BitVec 32 := 128#32
  let v3972 : BitVec 32 := Scalar.muli v3971 c128_i32_3668
  let v3973 : Index := Scalar.indexCast v3972
  let c0_3670 : Index := 0#32
  ![0, v3973.toNat, 0]

def k0_off493 (v3971 : BitVec 32) : Fin 4 → Nat :=
  let c0_3672 : Index := 0#32
  let c0_3673 : Index := 0#32
  let c0_3674 : Index := 0#32
  let c128_i32_3668 : BitVec 32 := 128#32
  let v3972 : BitVec 32 := Scalar.muli v3971 c128_i32_3668
  let v3978 : Index := Scalar.indexCast v3972
  ![0, 0, 0, v3978.toNat]
def k0_off494 (v3971 : BitVec 32) : Fin 3 → Nat :=
  let c0_3676 : Index := 0#32
  let c128_i32_3668 : BitVec 32 := 128#32
  let v3972 : BitVec 32 := Scalar.muli v3971 c128_i32_3668
  let v3985 : Index := Scalar.indexCast v3972
  let c64_3677 : Index := 64#32
  ![0, v3985.toNat, 64]
def k0_off495 (v3971 : BitVec 32) : Fin 4 → Nat :=
  let c0_3679 : Index := 0#32
  let c1_3680 : Index := 1#32
  let c0_3681 : Index := 0#32
  let c128_i32_3668 : BitVec 32 := 128#32
  let v3972 : BitVec 32 := Scalar.muli v3971 c128_i32_3668
  let v3990 : Index := Scalar.indexCast v3972
  ![0, 1, 0, v3990.toNat]
def k0_off496 (v3971 : BitVec 32) : Fin 3 → Nat :=
  let c0_3683 : Index := 0#32
  let c128_i32_3668 : BitVec 32 := 128#32
  let v3972 : BitVec 32 := Scalar.muli v3971 c128_i32_3668
  let v3997 : Index := Scalar.indexCast v3972
  let c128_3684 : Index := 128#32
  ![0, v3997.toNat, 128]
def k0_off497 (v3971 : BitVec 32) : Fin 4 → Nat :=
  let c0_3686 : Index := 0#32
  let c2_3687 : Index := 2#32
  let c0_3688 : Index := 0#32
  let c128_i32_3668 : BitVec 32 := 128#32
  let v3972 : BitVec 32 := Scalar.muli v3971 c128_i32_3668
  let v4002 : Index := Scalar.indexCast v3972
  ![0, 2, 0, v4002.toNat]
def k0_off498 (v3971 : BitVec 32) : Fin 3 → Nat :=
  let c0_3690 : Index := 0#32
  let c128_i32_3668 : BitVec 32 := 128#32
  let v3972 : BitVec 32 := Scalar.muli v3971 c128_i32_3668
  let v4009 : Index := Scalar.indexCast v3972
  let c192_3691 : Index := 192#32
  ![0, v4009.toNat, 192]
def k0_off499 (v3971 : BitVec 32) : Fin 4 → Nat :=
  let c0_3693 : Index := 0#32
  let c3_3694 : Index := 3#32
  let c0_3695 : Index := 0#32
  let c128_i32_3668 : BitVec 32 := 128#32
  let v3972 : BitVec 32 := Scalar.muli v3971 c128_i32_3668
  let v4014 : Index := Scalar.indexCast v3972
  ![0, 3, 0, v4014.toNat]
def k0_off500 (v3971 : BitVec 32) : Fin 3 → Nat :=
  let c1_3697 : Index := 1#32
  let c128_i32_3668 : BitVec 32 := 128#32
  let v3972 : BitVec 32 := Scalar.muli v3971 c128_i32_3668
  let v4021 : Index := Scalar.indexCast v3972
  let c0_3698 : Index := 0#32
  ![1, v4021.toNat, 0]
def k0_off501 (v3971 : BitVec 32) : Fin 4 → Nat :=
  let c1_3700 : Index := 1#32
  let c0_3701 : Index := 0#32
  let c0_3702 : Index := 0#32
  let c128_i32_3668 : BitVec 32 := 128#32
  let v3972 : BitVec 32 := Scalar.muli v3971 c128_i32_3668
  let v4026 : Index := Scalar.indexCast v3972
  ![1, 0, 0, v4026.toNat]
def k0_off502 (v3971 : BitVec 32) : Fin 3 → Nat :=
  let c1_3704 : Index := 1#32
  let c128_i32_3668 : BitVec 32 := 128#32
  let v3972 : BitVec 32 := Scalar.muli v3971 c128_i32_3668
  let v4033 : Index := Scalar.indexCast v3972
  let c64_3705 : Index := 64#32
  ![1, v4033.toNat, 64]
def k0_off503 (v3971 : BitVec 32) : Fin 4 → Nat :=
  let c1_3707 : Index := 1#32
  let c1_3708 : Index := 1#32
  let c0_3709 : Index := 0#32
  let c128_i32_3668 : BitVec 32 := 128#32
  let v3972 : BitVec 32 := Scalar.muli v3971 c128_i32_3668
  let v4038 : Index := Scalar.indexCast v3972
  ![1, 1, 0, v4038.toNat]
def k0_off504 (v3971 : BitVec 32) : Fin 3 → Nat :=
  let c1_3711 : Index := 1#32
  let c128_i32_3668 : BitVec 32 := 128#32
  let v3972 : BitVec 32 := Scalar.muli v3971 c128_i32_3668
  let v4045 : Index := Scalar.indexCast v3972
  let c128_3712 : Index := 128#32
  ![1, v4045.toNat, 128]
def k0_off505 (v3971 : BitVec 32) : Fin 4 → Nat :=
  let c1_3714 : Index := 1#32
  let c2_3715 : Index := 2#32
  let c0_3716 : Index := 0#32
  let c128_i32_3668 : BitVec 32 := 128#32
  let v3972 : BitVec 32 := Scalar.muli v3971 c128_i32_3668
  let v4050 : Index := Scalar.indexCast v3972
  ![1, 2, 0, v4050.toNat]
def k0_off506 (v3971 : BitVec 32) : Fin 3 → Nat :=
  let c1_3718 : Index := 1#32
  let c128_i32_3668 : BitVec 32 := 128#32
  let v3972 : BitVec 32 := Scalar.muli v3971 c128_i32_3668
  let v4057 : Index := Scalar.indexCast v3972
  let c192_3719 : Index := 192#32
  ![1, v4057.toNat, 192]
def k0_off507 (v3971 : BitVec 32) : Fin 4 → Nat :=
  let c1_3721 : Index := 1#32
  let c3_3722 : Index := 3#32
  let c0_3723 : Index := 0#32
  let c128_i32_3668 : BitVec 32 := 128#32
  let v3972 : BitVec 32 := Scalar.muli v3971 c128_i32_3668
  let v4062 : Index := Scalar.indexCast v3972
  ![1, 3, 0, v4062.toNat]

def k0_chk102 (v3971 : BitVec 32) : Prop :=
  (∀ a, (k0_off492 v3971) a + S1x128x64.size a ≤ S2x4096x512.size a) ∧
  (∀ a, (k0_off493 v3971) a + S1x1x128x128.size a ≤ S2x4x128x4096.size a) ∧
  (∀ a, (k0_off494 v3971) a + S1x128x64.size a ≤ S2x4096x512.size a) ∧
  (∀ a, (k0_off495 v3971) a + S1x1x128x128.size a ≤ S2x4x128x4096.size a) ∧
  (∀ a, (k0_off496 v3971) a + S1x128x64.size a ≤ S2x4096x512.size a) ∧
  (∀ a, (k0_off497 v3971) a + S1x1x128x128.size a ≤ S2x4x128x4096.size a) ∧
  (∀ a, (k0_off498 v3971) a + S1x128x64.size a ≤ S2x4096x512.size a) ∧
  (∀ a, (k0_off499 v3971) a + S1x1x128x128.size a ≤ S2x4x128x4096.size a) ∧
  (∀ a, (k0_off500 v3971) a + S1x128x64.size a ≤ S2x4096x512.size a) ∧
  (∀ a, (k0_off501 v3971) a + S1x1x128x128.size a ≤ S2x4x128x4096.size a) ∧
  (∀ a, (k0_off502 v3971) a + S1x128x64.size a ≤ S2x4096x512.size a) ∧
  (∀ a, (k0_off503 v3971) a + S1x1x128x128.size a ≤ S2x4x128x4096.size a) ∧
  (∀ a, (k0_off504 v3971) a + S1x128x64.size a ≤ S2x4096x512.size a) ∧
  (∀ a, (k0_off505 v3971) a + S1x1x128x128.size a ≤ S2x4x128x4096.size a) ∧
  (∀ a, (k0_off506 v3971) a + S1x128x64.size a ≤ S2x4096x512.size a) ∧
  (∀ a, (k0_off507 v3971) a + S1x1x128x128.size a ≤ S2x4x128x4096.size a)
theorem k0_off492_inb : ∀ (v3971 : BitVec 32) (k0_hw102 : k0_chk102 v3971), ∀ a, (k0_off492 v3971) a + S1x128x64.size a ≤ S2x4096x512.size a := fun v3971 k0_hw102 => k0_hw102.1
theorem k0_off493_inb : ∀ (v3971 : BitVec 32) (k0_hw102 : k0_chk102 v3971), ∀ a, (k0_off493 v3971) a + S1x1x128x128.size a ≤ S2x4x128x4096.size a := fun v3971 k0_hw102 => k0_hw102.2.1
theorem k0_off494_inb : ∀ (v3971 : BitVec 32) (k0_hw102 : k0_chk102 v3971), ∀ a, (k0_off494 v3971) a + S1x128x64.size a ≤ S2x4096x512.size a := fun v3971 k0_hw102 => k0_hw102.2.2.1
theorem k0_off495_inb : ∀ (v3971 : BitVec 32) (k0_hw102 : k0_chk102 v3971), ∀ a, (k0_off495 v3971) a + S1x1x128x128.size a ≤ S2x4x128x4096.size a := fun v3971 k0_hw102 => k0_hw102.2.2.2.1
theorem k0_off496_inb : ∀ (v3971 : BitVec 32) (k0_hw102 : k0_chk102 v3971), ∀ a, (k0_off496 v3971) a + S1x128x64.size a ≤ S2x4096x512.size a := fun v3971 k0_hw102 => k0_hw102.2.2.2.2.1
theorem k0_off497_inb : ∀ (v3971 : BitVec 32) (k0_hw102 : k0_chk102 v3971), ∀ a, (k0_off497 v3971) a + S1x1x128x128.size a ≤ S2x4x128x4096.size a := fun v3971 k0_hw102 => k0_hw102.2.2.2.2.2.1
theorem k0_off498_inb : ∀ (v3971 : BitVec 32) (k0_hw102 : k0_chk102 v3971), ∀ a, (k0_off498 v3971) a + S1x128x64.size a ≤ S2x4096x512.size a := fun v3971 k0_hw102 => k0_hw102.2.2.2.2.2.2.1
theorem k0_off499_inb : ∀ (v3971 : BitVec 32) (k0_hw102 : k0_chk102 v3971), ∀ a, (k0_off499 v3971) a + S1x1x128x128.size a ≤ S2x4x128x4096.size a := fun v3971 k0_hw102 => k0_hw102.2.2.2.2.2.2.2.1
theorem k0_off500_inb : ∀ (v3971 : BitVec 32) (k0_hw102 : k0_chk102 v3971), ∀ a, (k0_off500 v3971) a + S1x128x64.size a ≤ S2x4096x512.size a := fun v3971 k0_hw102 => k0_hw102.2.2.2.2.2.2.2.2.1
theorem k0_off501_inb : ∀ (v3971 : BitVec 32) (k0_hw102 : k0_chk102 v3971), ∀ a, (k0_off501 v3971) a + S1x1x128x128.size a ≤ S2x4x128x4096.size a := fun v3971 k0_hw102 => k0_hw102.2.2.2.2.2.2.2.2.2.1
theorem k0_off502_inb : ∀ (v3971 : BitVec 32) (k0_hw102 : k0_chk102 v3971), ∀ a, (k0_off502 v3971) a + S1x128x64.size a ≤ S2x4096x512.size a := fun v3971 k0_hw102 => k0_hw102.2.2.2.2.2.2.2.2.2.2.1
theorem k0_off503_inb : ∀ (v3971 : BitVec 32) (k0_hw102 : k0_chk102 v3971), ∀ a, (k0_off503 v3971) a + S1x1x128x128.size a ≤ S2x4x128x4096.size a := fun v3971 k0_hw102 => k0_hw102.2.2.2.2.2.2.2.2.2.2.2.1
theorem k0_off504_inb : ∀ (v3971 : BitVec 32) (k0_hw102 : k0_chk102 v3971), ∀ a, (k0_off504 v3971) a + S1x128x64.size a ≤ S2x4096x512.size a := fun v3971 k0_hw102 => k0_hw102.2.2.2.2.2.2.2.2.2.2.2.2.1
theorem k0_off505_inb : ∀ (v3971 : BitVec 32) (k0_hw102 : k0_chk102 v3971), ∀ a, (k0_off505 v3971) a + S1x1x128x128.size a ≤ S2x4x128x4096.size a := fun v3971 k0_hw102 => k0_hw102.2.2.2.2.2.2.2.2.2.2.2.2.2.1
theorem k0_off506_inb : ∀ (v3971 : BitVec 32) (k0_hw102 : k0_chk102 v3971), ∀ a, (k0_off506 v3971) a + S1x128x64.size a ≤ S2x4096x512.size a := fun v3971 k0_hw102 => k0_hw102.2.2.2.2.2.2.2.2.2.2.2.2.2.2.1
theorem k0_off507_inb : ∀ (v3971 : BitVec 32) (k0_hw102 : k0_chk102 v3971), ∀ a, (k0_off507 v3971) a + S1x1x128x128.size a ≤ S2x4x128x4096.size a := fun v3971 k0_hw102 => k0_hw102.2.2.2.2.2.2.2.2.2.2.2.2.2.2.2

def k0_off508 (v4069 : BitVec 32) : Fin 3 → Nat :=
  let c0_3728 : Index := 0#32
  let c128_i32_3727 : BitVec 32 := 128#32
  let v4070 : BitVec 32 := Scalar.muli v4069 c128_i32_3727
  let v4071 : Index := Scalar.indexCast v4070
  let c0_3729 : Index := 0#32
  ![0, v4071.toNat, 0]

def k0_off509 (v4069 : BitVec 32) : Fin 4 → Nat :=
  let c0_3731 : Index := 0#32
  let c0_3732 : Index := 0#32
  let c0_3733 : Index := 0#32
  let c128_i32_3727 : BitVec 32 := 128#32
  let v4070 : BitVec 32 := Scalar.muli v4069 c128_i32_3727
  let v4076 : Index := Scalar.indexCast v4070
  ![0, 0, 0, v4076.toNat]
def k0_off510 (v4069 : BitVec 32) : Fin 3 → Nat :=
  let c0_3735 : Index := 0#32
  let c128_i32_3727 : BitVec 32 := 128#32
  let v4070 : BitVec 32 := Scalar.muli v4069 c128_i32_3727
  let v4083 : Index := Scalar.indexCast v4070
  let c64_3736 : Index := 64#32
  ![0, v4083.toNat, 64]
def k0_off511 (v4069 : BitVec 32) : Fin 4 → Nat :=
  let c0_3738 : Index := 0#32
  let c1_3739 : Index := 1#32
  let c0_3740 : Index := 0#32
  let c128_i32_3727 : BitVec 32 := 128#32
  let v4070 : BitVec 32 := Scalar.muli v4069 c128_i32_3727
  let v4088 : Index := Scalar.indexCast v4070
  ![0, 1, 0, v4088.toNat]
def k0_off512 (v4069 : BitVec 32) : Fin 3 → Nat :=
  let c0_3742 : Index := 0#32
  let c128_i32_3727 : BitVec 32 := 128#32
  let v4070 : BitVec 32 := Scalar.muli v4069 c128_i32_3727
  let v4095 : Index := Scalar.indexCast v4070
  let c128_3743 : Index := 128#32
  ![0, v4095.toNat, 128]
def k0_off513 (v4069 : BitVec 32) : Fin 4 → Nat :=
  let c0_3745 : Index := 0#32
  let c2_3746 : Index := 2#32
  let c0_3747 : Index := 0#32
  let c128_i32_3727 : BitVec 32 := 128#32
  let v4070 : BitVec 32 := Scalar.muli v4069 c128_i32_3727
  let v4100 : Index := Scalar.indexCast v4070
  ![0, 2, 0, v4100.toNat]
def k0_off514 (v4069 : BitVec 32) : Fin 3 → Nat :=
  let c0_3749 : Index := 0#32
  let c128_i32_3727 : BitVec 32 := 128#32
  let v4070 : BitVec 32 := Scalar.muli v4069 c128_i32_3727
  let v4107 : Index := Scalar.indexCast v4070
  let c192_3750 : Index := 192#32
  ![0, v4107.toNat, 192]
def k0_off515 (v4069 : BitVec 32) : Fin 4 → Nat :=
  let c0_3752 : Index := 0#32
  let c3_3753 : Index := 3#32
  let c0_3754 : Index := 0#32
  let c128_i32_3727 : BitVec 32 := 128#32
  let v4070 : BitVec 32 := Scalar.muli v4069 c128_i32_3727
  let v4112 : Index := Scalar.indexCast v4070
  ![0, 3, 0, v4112.toNat]
def k0_off516 (v4069 : BitVec 32) : Fin 3 → Nat :=
  let c1_3756 : Index := 1#32
  let c128_i32_3727 : BitVec 32 := 128#32
  let v4070 : BitVec 32 := Scalar.muli v4069 c128_i32_3727
  let v4119 : Index := Scalar.indexCast v4070
  let c0_3757 : Index := 0#32
  ![1, v4119.toNat, 0]
def k0_off517 (v4069 : BitVec 32) : Fin 4 → Nat :=
  let c1_3759 : Index := 1#32
  let c0_3760 : Index := 0#32
  let c0_3761 : Index := 0#32
  let c128_i32_3727 : BitVec 32 := 128#32
  let v4070 : BitVec 32 := Scalar.muli v4069 c128_i32_3727
  let v4124 : Index := Scalar.indexCast v4070
  ![1, 0, 0, v4124.toNat]
def k0_off518 (v4069 : BitVec 32) : Fin 3 → Nat :=
  let c1_3763 : Index := 1#32
  let c128_i32_3727 : BitVec 32 := 128#32
  let v4070 : BitVec 32 := Scalar.muli v4069 c128_i32_3727
  let v4131 : Index := Scalar.indexCast v4070
  let c64_3764 : Index := 64#32
  ![1, v4131.toNat, 64]
def k0_off519 (v4069 : BitVec 32) : Fin 4 → Nat :=
  let c1_3766 : Index := 1#32
  let c1_3767 : Index := 1#32
  let c0_3768 : Index := 0#32
  let c128_i32_3727 : BitVec 32 := 128#32
  let v4070 : BitVec 32 := Scalar.muli v4069 c128_i32_3727
  let v4136 : Index := Scalar.indexCast v4070
  ![1, 1, 0, v4136.toNat]
def k0_off520 (v4069 : BitVec 32) : Fin 3 → Nat :=
  let c1_3770 : Index := 1#32
  let c128_i32_3727 : BitVec 32 := 128#32
  let v4070 : BitVec 32 := Scalar.muli v4069 c128_i32_3727
  let v4143 : Index := Scalar.indexCast v4070
  let c128_3771 : Index := 128#32
  ![1, v4143.toNat, 128]
def k0_off521 (v4069 : BitVec 32) : Fin 4 → Nat :=
  let c1_3773 : Index := 1#32
  let c2_3774 : Index := 2#32
  let c0_3775 : Index := 0#32
  let c128_i32_3727 : BitVec 32 := 128#32
  let v4070 : BitVec 32 := Scalar.muli v4069 c128_i32_3727
  let v4148 : Index := Scalar.indexCast v4070
  ![1, 2, 0, v4148.toNat]
def k0_off522 (v4069 : BitVec 32) : Fin 3 → Nat :=
  let c1_3777 : Index := 1#32
  let c128_i32_3727 : BitVec 32 := 128#32
  let v4070 : BitVec 32 := Scalar.muli v4069 c128_i32_3727
  let v4155 : Index := Scalar.indexCast v4070
  let c192_3778 : Index := 192#32
  ![1, v4155.toNat, 192]
def k0_off523 (v4069 : BitVec 32) : Fin 4 → Nat :=
  let c1_3780 : Index := 1#32
  let c3_3781 : Index := 3#32
  let c0_3782 : Index := 0#32
  let c128_i32_3727 : BitVec 32 := 128#32
  let v4070 : BitVec 32 := Scalar.muli v4069 c128_i32_3727
  let v4160 : Index := Scalar.indexCast v4070
  ![1, 3, 0, v4160.toNat]

def k0_chk103 (v4069 : BitVec 32) : Prop :=
  (∀ a, (k0_off508 v4069) a + S1x128x64.size a ≤ S2x4096x512.size a) ∧
  (∀ a, (k0_off509 v4069) a + S1x1x128x128.size a ≤ S2x4x128x4096.size a) ∧
  (∀ a, (k0_off510 v4069) a + S1x128x64.size a ≤ S2x4096x512.size a) ∧
  (∀ a, (k0_off511 v4069) a + S1x1x128x128.size a ≤ S2x4x128x4096.size a) ∧
  (∀ a, (k0_off512 v4069) a + S1x128x64.size a ≤ S2x4096x512.size a) ∧
  (∀ a, (k0_off513 v4069) a + S1x1x128x128.size a ≤ S2x4x128x4096.size a) ∧
  (∀ a, (k0_off514 v4069) a + S1x128x64.size a ≤ S2x4096x512.size a) ∧
  (∀ a, (k0_off515 v4069) a + S1x1x128x128.size a ≤ S2x4x128x4096.size a) ∧
  (∀ a, (k0_off516 v4069) a + S1x128x64.size a ≤ S2x4096x512.size a) ∧
  (∀ a, (k0_off517 v4069) a + S1x1x128x128.size a ≤ S2x4x128x4096.size a) ∧
  (∀ a, (k0_off518 v4069) a + S1x128x64.size a ≤ S2x4096x512.size a) ∧
  (∀ a, (k0_off519 v4069) a + S1x1x128x128.size a ≤ S2x4x128x4096.size a) ∧
  (∀ a, (k0_off520 v4069) a + S1x128x64.size a ≤ S2x4096x512.size a) ∧
  (∀ a, (k0_off521 v4069) a + S1x1x128x128.size a ≤ S2x4x128x4096.size a) ∧
  (∀ a, (k0_off522 v4069) a + S1x128x64.size a ≤ S2x4096x512.size a) ∧
  (∀ a, (k0_off523 v4069) a + S1x1x128x128.size a ≤ S2x4x128x4096.size a)
theorem k0_off508_inb : ∀ (v4069 : BitVec 32) (k0_hw103 : k0_chk103 v4069), ∀ a, (k0_off508 v4069) a + S1x128x64.size a ≤ S2x4096x512.size a := fun v4069 k0_hw103 => k0_hw103.1
theorem k0_off509_inb : ∀ (v4069 : BitVec 32) (k0_hw103 : k0_chk103 v4069), ∀ a, (k0_off509 v4069) a + S1x1x128x128.size a ≤ S2x4x128x4096.size a := fun v4069 k0_hw103 => k0_hw103.2.1
theorem k0_off510_inb : ∀ (v4069 : BitVec 32) (k0_hw103 : k0_chk103 v4069), ∀ a, (k0_off510 v4069) a + S1x128x64.size a ≤ S2x4096x512.size a := fun v4069 k0_hw103 => k0_hw103.2.2.1
theorem k0_off511_inb : ∀ (v4069 : BitVec 32) (k0_hw103 : k0_chk103 v4069), ∀ a, (k0_off511 v4069) a + S1x1x128x128.size a ≤ S2x4x128x4096.size a := fun v4069 k0_hw103 => k0_hw103.2.2.2.1
theorem k0_off512_inb : ∀ (v4069 : BitVec 32) (k0_hw103 : k0_chk103 v4069), ∀ a, (k0_off512 v4069) a + S1x128x64.size a ≤ S2x4096x512.size a := fun v4069 k0_hw103 => k0_hw103.2.2.2.2.1
theorem k0_off513_inb : ∀ (v4069 : BitVec 32) (k0_hw103 : k0_chk103 v4069), ∀ a, (k0_off513 v4069) a + S1x1x128x128.size a ≤ S2x4x128x4096.size a := fun v4069 k0_hw103 => k0_hw103.2.2.2.2.2.1
theorem k0_off514_inb : ∀ (v4069 : BitVec 32) (k0_hw103 : k0_chk103 v4069), ∀ a, (k0_off514 v4069) a + S1x128x64.size a ≤ S2x4096x512.size a := fun v4069 k0_hw103 => k0_hw103.2.2.2.2.2.2.1
theorem k0_off515_inb : ∀ (v4069 : BitVec 32) (k0_hw103 : k0_chk103 v4069), ∀ a, (k0_off515 v4069) a + S1x1x128x128.size a ≤ S2x4x128x4096.size a := fun v4069 k0_hw103 => k0_hw103.2.2.2.2.2.2.2.1
theorem k0_off516_inb : ∀ (v4069 : BitVec 32) (k0_hw103 : k0_chk103 v4069), ∀ a, (k0_off516 v4069) a + S1x128x64.size a ≤ S2x4096x512.size a := fun v4069 k0_hw103 => k0_hw103.2.2.2.2.2.2.2.2.1
theorem k0_off517_inb : ∀ (v4069 : BitVec 32) (k0_hw103 : k0_chk103 v4069), ∀ a, (k0_off517 v4069) a + S1x1x128x128.size a ≤ S2x4x128x4096.size a := fun v4069 k0_hw103 => k0_hw103.2.2.2.2.2.2.2.2.2.1
theorem k0_off518_inb : ∀ (v4069 : BitVec 32) (k0_hw103 : k0_chk103 v4069), ∀ a, (k0_off518 v4069) a + S1x128x64.size a ≤ S2x4096x512.size a := fun v4069 k0_hw103 => k0_hw103.2.2.2.2.2.2.2.2.2.2.1
theorem k0_off519_inb : ∀ (v4069 : BitVec 32) (k0_hw103 : k0_chk103 v4069), ∀ a, (k0_off519 v4069) a + S1x1x128x128.size a ≤ S2x4x128x4096.size a := fun v4069 k0_hw103 => k0_hw103.2.2.2.2.2.2.2.2.2.2.2.1
theorem k0_off520_inb : ∀ (v4069 : BitVec 32) (k0_hw103 : k0_chk103 v4069), ∀ a, (k0_off520 v4069) a + S1x128x64.size a ≤ S2x4096x512.size a := fun v4069 k0_hw103 => k0_hw103.2.2.2.2.2.2.2.2.2.2.2.2.1
theorem k0_off521_inb : ∀ (v4069 : BitVec 32) (k0_hw103 : k0_chk103 v4069), ∀ a, (k0_off521 v4069) a + S1x1x128x128.size a ≤ S2x4x128x4096.size a := fun v4069 k0_hw103 => k0_hw103.2.2.2.2.2.2.2.2.2.2.2.2.2.1
theorem k0_off522_inb : ∀ (v4069 : BitVec 32) (k0_hw103 : k0_chk103 v4069), ∀ a, (k0_off522 v4069) a + S1x128x64.size a ≤ S2x4096x512.size a := fun v4069 k0_hw103 => k0_hw103.2.2.2.2.2.2.2.2.2.2.2.2.2.2.1
theorem k0_off523_inb : ∀ (v4069 : BitVec 32) (k0_hw103 : k0_chk103 v4069), ∀ a, (k0_off523 v4069) a + S1x1x128x128.size a ≤ S2x4x128x4096.size a := fun v4069 k0_hw103 => k0_hw103.2.2.2.2.2.2.2.2.2.2.2.2.2.2.2

def k0_off524 (v3463 : BitVec 32) : Fin 3 → Nat :=
  let c0_i32_3785 : BitVec 32 := 0#32
  let c128_i32_3131 : BitVec 32 := 128#32
  let v3464 : BitVec 32 := Scalar.muli v3463 c128_i32_3131
  let c0_i32_3794 : BitVec 32 := 0#32
  ![0, v3464.toNat, 0]
def k0_off525 (v4175 : BitVec 32) : Fin 3 → Nat :=
  let c0_i32_3799 : BitVec 32 := 0#32
  let c128_i32_3797 : BitVec 32 := 128#32
  let v4176 : BitVec 32 := Scalar.muli v4175 c128_i32_3797
  let c0_i32_3807 : BitVec 32 := 0#32
  ![0, v4176.toNat, 0]

def k0_dev104 (v4 : BitVec 32) : Nat :=
  let c0_i32_3806 : BitVec 32 := 0#32
  let c1_i32_3805 : BitVec 32 := 1#32
  let v4177 : BitVec 32 := Scalar.muli v4 c1_i32_3805
  let v4178 : BitVec 32 := Scalar.addi c0_i32_3806 v4177
  v4178.toNat
def k0_off526 (v3483 : BitVec 32) : Fin 3 → Nat :=
  let c0_i32_3810 : BitVec 32 := 0#32
  let c128_i32_3157 : BitVec 32 := 128#32
  let v3484 : BitVec 32 := Scalar.muli v3483 c128_i32_3157
  let c256_i32_3819 : BitVec 32 := 256#32
  ![0, v3484.toNat, 256]
def k0_off527 (v4195 : BitVec 32) : Fin 3 → Nat :=
  let c0_i32_3825 : BitVec 32 := 0#32
  let c128_i32_3823 : BitVec 32 := 128#32
  let v4196 : BitVec 32 := Scalar.muli v4195 c128_i32_3823
  let c256_i32_3834 : BitVec 32 := 256#32
  ![0, v4196.toNat, 256]

def k0_dev105 (v4 : BitVec 32) : Nat :=
  let c0_i32_3833 : BitVec 32 := 0#32
  let c1_i32_3832 : BitVec 32 := 1#32
  let v4197 : BitVec 32 := Scalar.muli v4 c1_i32_3832
  let v4198 : BitVec 32 := Scalar.addi c0_i32_3833 v4197
  v4198.toNat
def k0_off528 (v3503 : BitVec 32) : Fin 3 → Nat :=
  let c0_i32_3837 : BitVec 32 := 0#32
  let c128_i32_3184 : BitVec 32 := 128#32
  let v3504 : BitVec 32 := Scalar.muli v3503 c128_i32_3184
  let c0_i32_3846 : BitVec 32 := 0#32
  ![0, v3504.toNat, 0]
def k0_off529 (v4215 : BitVec 32) : Fin 3 → Nat :=
  let c0_i32_3852 : BitVec 32 := 0#32
  let c128_i32_3850 : BitVec 32 := 128#32
  let v4216 : BitVec 32 := Scalar.muli v4215 c128_i32_3850
  let c0_i32_3861 : BitVec 32 := 0#32
  ![0, v4216.toNat, 0]

def k0_dev106 (v4 : BitVec 32) : Nat :=
  let c0_i32_3860 : BitVec 32 := 0#32
  let c1_i32_3859 : BitVec 32 := 1#32
  let v4217 : BitVec 32 := Scalar.muli v4 c1_i32_3859
  let v4218 : BitVec 32 := Scalar.addi c0_i32_3860 v4217
  v4218.toNat
def k0_off530 (v3523 : BitVec 32) : Fin 3 → Nat :=
  let c0_i32_3864 : BitVec 32 := 0#32
  let c128_i32_3211 : BitVec 32 := 128#32
  let v3524 : BitVec 32 := Scalar.muli v3523 c128_i32_3211
  let c256_i32_3873 : BitVec 32 := 256#32
  ![0, v3524.toNat, 256]
def k0_off531 (v4235 : BitVec 32) : Fin 3 → Nat :=
  let c0_i32_3879 : BitVec 32 := 0#32
  let c128_i32_3877 : BitVec 32 := 128#32
  let v4236 : BitVec 32 := Scalar.muli v4235 c128_i32_3877
  let c256_i32_3888 : BitVec 32 := 256#32
  ![0, v4236.toNat, 256]

def k0_dev107 (v4 : BitVec 32) : Nat :=
  let c0_i32_3887 : BitVec 32 := 0#32
  let c1_i32_3886 : BitVec 32 := 1#32
  let v4237 : BitVec 32 := Scalar.muli v4 c1_i32_3886
  let v4238 : BitVec 32 := Scalar.addi c0_i32_3887 v4237
  v4238.toNat
def k0_off532 (v3543 : BitVec 32) : Fin 3 → Nat :=
  let c1_i32_3891 : BitVec 32 := 1#32
  let c128_i32_3238 : BitVec 32 := 128#32
  let v3544 : BitVec 32 := Scalar.muli v3543 c128_i32_3238
  let c0_i32_3900 : BitVec 32 := 0#32
  ![1, v3544.toNat, 0]
def k0_off533 (v4255 : BitVec 32) : Fin 3 → Nat :=
  let c1_i32_3906 : BitVec 32 := 1#32
  let c128_i32_3904 : BitVec 32 := 128#32
  let v4256 : BitVec 32 := Scalar.muli v4255 c128_i32_3904
  let c0_i32_3915 : BitVec 32 := 0#32
  ![1, v4256.toNat, 0]

def k0_dev108 (v4 : BitVec 32) : Nat :=
  let c0_i32_3914 : BitVec 32 := 0#32
  let c1_i32_3913 : BitVec 32 := 1#32
  let v4257 : BitVec 32 := Scalar.muli v4 c1_i32_3913
  let v4258 : BitVec 32 := Scalar.addi c0_i32_3914 v4257
  v4258.toNat
def k0_off534 (v3563 : BitVec 32) : Fin 3 → Nat :=
  let c1_i32_3918 : BitVec 32 := 1#32
  let c128_i32_3265 : BitVec 32 := 128#32
  let v3564 : BitVec 32 := Scalar.muli v3563 c128_i32_3265
  let c256_i32_3927 : BitVec 32 := 256#32
  ![1, v3564.toNat, 256]
def k0_off535 (v4275 : BitVec 32) : Fin 3 → Nat :=
  let c1_i32_3933 : BitVec 32 := 1#32
  let c128_i32_3931 : BitVec 32 := 128#32
  let v4276 : BitVec 32 := Scalar.muli v4275 c128_i32_3931
  let c256_i32_3942 : BitVec 32 := 256#32
  ![1, v4276.toNat, 256]

def k0_dev109 (v4 : BitVec 32) : Nat :=
  let c0_i32_3941 : BitVec 32 := 0#32
  let c1_i32_3940 : BitVec 32 := 1#32
  let v4277 : BitVec 32 := Scalar.muli v4 c1_i32_3940
  let v4278 : BitVec 32 := Scalar.addi c0_i32_3941 v4277
  v4278.toNat
def k0_off536 (v3583 : BitVec 32) : Fin 3 → Nat :=
  let c1_i32_3945 : BitVec 32 := 1#32
  let c128_i32_3292 : BitVec 32 := 128#32
  let v3584 : BitVec 32 := Scalar.muli v3583 c128_i32_3292
  let c0_i32_3954 : BitVec 32 := 0#32
  ![1, v3584.toNat, 0]
def k0_off537 (v4295 : BitVec 32) : Fin 3 → Nat :=
  let c1_i32_3960 : BitVec 32 := 1#32
  let c128_i32_3958 : BitVec 32 := 128#32
  let v4296 : BitVec 32 := Scalar.muli v4295 c128_i32_3958
  let c0_i32_3969 : BitVec 32 := 0#32
  ![1, v4296.toNat, 0]

def k0_dev110 (v4 : BitVec 32) : Nat :=
  let c0_i32_3968 : BitVec 32 := 0#32
  let c1_i32_3967 : BitVec 32 := 1#32
  let v4297 : BitVec 32 := Scalar.muli v4 c1_i32_3967
  let v4298 : BitVec 32 := Scalar.addi c0_i32_3968 v4297
  v4298.toNat
def k0_off538 (v3603 : BitVec 32) : Fin 3 → Nat :=
  let c1_i32_3972 : BitVec 32 := 1#32
  let c128_i32_3319 : BitVec 32 := 128#32
  let v3604 : BitVec 32 := Scalar.muli v3603 c128_i32_3319
  let c256_i32_3981 : BitVec 32 := 256#32
  ![1, v3604.toNat, 256]
def k0_off539 (v4315 : BitVec 32) : Fin 3 → Nat :=
  let c1_i32_3987 : BitVec 32 := 1#32
  let c128_i32_3985 : BitVec 32 := 128#32
  let v4316 : BitVec 32 := Scalar.muli v4315 c128_i32_3985
  let c256_i32_3996 : BitVec 32 := 256#32
  ![1, v4316.toNat, 256]

def k0_dev111 (v4 : BitVec 32) : Nat :=
  let c0_i32_3995 : BitVec 32 := 0#32
  let c1_i32_3994 : BitVec 32 := 1#32
  let v4317 : BitVec 32 := Scalar.muli v4 c1_i32_3994
  let v4318 : BitVec 32 := Scalar.addi c0_i32_3995 v4317
  v4318.toNat
def k0_off540 (v3623 : BitVec 32) : Fin 3 → Nat :=
  let c0_i32_3999 : BitVec 32 := 0#32
  let c128_i32_3346 : BitVec 32 := 128#32
  let v3624 : BitVec 32 := Scalar.muli v3623 c128_i32_3346
  let c0_i32_4008 : BitVec 32 := 0#32
  ![0, v3624.toNat, 0]
def k0_off541 (v4335 : BitVec 32) : Fin 3 → Nat :=
  let c0_i32_4014 : BitVec 32 := 0#32
  let c128_i32_4012 : BitVec 32 := 128#32
  let v4336 : BitVec 32 := Scalar.muli v4335 c128_i32_4012
  let c0_i32_4023 : BitVec 32 := 0#32
  ![0, v4336.toNat, 0]

def k0_dev112 (v3 : BitVec 32) : Nat :=
  let c0_i32_4022 : BitVec 32 := 0#32
  let c1_i32_4021 : BitVec 32 := 1#32
  let v4337 : BitVec 32 := Scalar.muli v3 c1_i32_4021
  let v4338 : BitVec 32 := Scalar.addi c0_i32_4022 v4337
  v4338.toNat
def k0_off542 (v3643 : BitVec 32) : Fin 3 → Nat :=
  let c0_i32_4026 : BitVec 32 := 0#32
  let c128_i32_3373 : BitVec 32 := 128#32
  let v3644 : BitVec 32 := Scalar.muli v3643 c128_i32_3373
  let c256_i32_4035 : BitVec 32 := 256#32
  ![0, v3644.toNat, 256]
def k0_off543 (v4355 : BitVec 32) : Fin 3 → Nat :=
  let c0_i32_4041 : BitVec 32 := 0#32
  let c128_i32_4039 : BitVec 32 := 128#32
  let v4356 : BitVec 32 := Scalar.muli v4355 c128_i32_4039
  let c256_i32_4050 : BitVec 32 := 256#32
  ![0, v4356.toNat, 256]

def k0_dev113 (v3 : BitVec 32) : Nat :=
  let c0_i32_4049 : BitVec 32 := 0#32
  let c1_i32_4048 : BitVec 32 := 1#32
  let v4357 : BitVec 32 := Scalar.muli v3 c1_i32_4048
  let v4358 : BitVec 32 := Scalar.addi c0_i32_4049 v4357
  v4358.toNat
def k0_off544 (v3663 : BitVec 32) : Fin 3 → Nat :=
  let c0_i32_4053 : BitVec 32 := 0#32
  let c128_i32_3400 : BitVec 32 := 128#32
  let v3664 : BitVec 32 := Scalar.muli v3663 c128_i32_3400
  let c0_i32_4062 : BitVec 32 := 0#32
  ![0, v3664.toNat, 0]
def k0_off545 (v4375 : BitVec 32) : Fin 3 → Nat :=
  let c0_i32_4068 : BitVec 32 := 0#32
  let c128_i32_4066 : BitVec 32 := 128#32
  let v4376 : BitVec 32 := Scalar.muli v4375 c128_i32_4066
  let c0_i32_4077 : BitVec 32 := 0#32
  ![0, v4376.toNat, 0]

def k0_dev114 (v3 : BitVec 32) : Nat :=
  let c0_i32_4076 : BitVec 32 := 0#32
  let c1_i32_4075 : BitVec 32 := 1#32
  let v4377 : BitVec 32 := Scalar.muli v3 c1_i32_4075
  let v4378 : BitVec 32 := Scalar.addi c0_i32_4076 v4377
  v4378.toNat
def k0_off546 (v3683 : BitVec 32) : Fin 3 → Nat :=
  let c0_i32_4080 : BitVec 32 := 0#32
  let c128_i32_3427 : BitVec 32 := 128#32
  let v3684 : BitVec 32 := Scalar.muli v3683 c128_i32_3427
  let c256_i32_4089 : BitVec 32 := 256#32
  ![0, v3684.toNat, 256]
def k0_off547 (v4395 : BitVec 32) : Fin 3 → Nat :=
  let c0_i32_4095 : BitVec 32 := 0#32
  let c128_i32_4093 : BitVec 32 := 128#32
  let v4396 : BitVec 32 := Scalar.muli v4395 c128_i32_4093
  let c256_i32_4104 : BitVec 32 := 256#32
  ![0, v4396.toNat, 256]

def k0_dev115 (v3 : BitVec 32) : Nat :=
  let c0_i32_4103 : BitVec 32 := 0#32
  let c1_i32_4102 : BitVec 32 := 1#32
  let v4397 : BitVec 32 := Scalar.muli v3 c1_i32_4102
  let v4398 : BitVec 32 := Scalar.addi c0_i32_4103 v4397
  v4398.toNat
def k0_off548 (v3703 : BitVec 32) : Fin 3 → Nat :=
  let c1_i32_4107 : BitVec 32 := 1#32
  let c128_i32_3454 : BitVec 32 := 128#32
  let v3704 : BitVec 32 := Scalar.muli v3703 c128_i32_3454
  let c0_i32_4116 : BitVec 32 := 0#32
  ![1, v3704.toNat, 0]
def k0_off549 (v4415 : BitVec 32) : Fin 3 → Nat :=
  let c1_i32_4122 : BitVec 32 := 1#32
  let c128_i32_4120 : BitVec 32 := 128#32
  let v4416 : BitVec 32 := Scalar.muli v4415 c128_i32_4120
  let c0_i32_4131 : BitVec 32 := 0#32
  ![1, v4416.toNat, 0]

def k0_dev116 (v3 : BitVec 32) : Nat :=
  let c0_i32_4130 : BitVec 32 := 0#32
  let c1_i32_4129 : BitVec 32 := 1#32
  let v4417 : BitVec 32 := Scalar.muli v3 c1_i32_4129
  let v4418 : BitVec 32 := Scalar.addi c0_i32_4130 v4417
  v4418.toNat
def k0_off550 (v3723 : BitVec 32) : Fin 3 → Nat :=
  let c1_i32_4134 : BitVec 32 := 1#32
  let c128_i32_3481 : BitVec 32 := 128#32
  let v3724 : BitVec 32 := Scalar.muli v3723 c128_i32_3481
  let c256_i32_4143 : BitVec 32 := 256#32
  ![1, v3724.toNat, 256]
def k0_off551 (v4435 : BitVec 32) : Fin 3 → Nat :=
  let c1_i32_4149 : BitVec 32 := 1#32
  let c128_i32_4147 : BitVec 32 := 128#32
  let v4436 : BitVec 32 := Scalar.muli v4435 c128_i32_4147
  let c256_i32_4158 : BitVec 32 := 256#32
  ![1, v4436.toNat, 256]

def k0_dev117 (v3 : BitVec 32) : Nat :=
  let c0_i32_4157 : BitVec 32 := 0#32
  let c1_i32_4156 : BitVec 32 := 1#32
  let v4437 : BitVec 32 := Scalar.muli v3 c1_i32_4156
  let v4438 : BitVec 32 := Scalar.addi c0_i32_4157 v4437
  v4438.toNat
def k0_off552 (v3743 : BitVec 32) : Fin 3 → Nat :=
  let c1_i32_4161 : BitVec 32 := 1#32
  let c128_i32_3508 : BitVec 32 := 128#32
  let v3744 : BitVec 32 := Scalar.muli v3743 c128_i32_3508
  let c0_i32_4170 : BitVec 32 := 0#32
  ![1, v3744.toNat, 0]
def k0_off553 (v4455 : BitVec 32) : Fin 3 → Nat :=
  let c1_i32_4176 : BitVec 32 := 1#32
  let c128_i32_4174 : BitVec 32 := 128#32
  let v4456 : BitVec 32 := Scalar.muli v4455 c128_i32_4174
  let c0_i32_4185 : BitVec 32 := 0#32
  ![1, v4456.toNat, 0]

def k0_dev118 (v3 : BitVec 32) : Nat :=
  let c0_i32_4184 : BitVec 32 := 0#32
  let c1_i32_4183 : BitVec 32 := 1#32
  let v4457 : BitVec 32 := Scalar.muli v3 c1_i32_4183
  let v4458 : BitVec 32 := Scalar.addi c0_i32_4184 v4457
  v4458.toNat
def k0_off554 (v3763 : BitVec 32) : Fin 3 → Nat :=
  let c1_i32_4188 : BitVec 32 := 1#32
  let c128_i32_3535 : BitVec 32 := 128#32
  let v3764 : BitVec 32 := Scalar.muli v3763 c128_i32_3535
  let c256_i32_4197 : BitVec 32 := 256#32
  ![1, v3764.toNat, 256]
def k0_off555 (v4475 : BitVec 32) : Fin 3 → Nat :=
  let c1_i32_4203 : BitVec 32 := 1#32
  let c128_i32_4201 : BitVec 32 := 128#32
  let v4476 : BitVec 32 := Scalar.muli v4475 c128_i32_4201
  let c256_i32_4212 : BitVec 32 := 256#32
  ![1, v4476.toNat, 256]

def k0_dev119 (v3 : BitVec 32) : Nat :=
  let c0_i32_4211 : BitVec 32 := 0#32
  let c1_i32_4210 : BitVec 32 := 1#32
  let v4477 : BitVec 32 := Scalar.muli v3 c1_i32_4210
  let v4478 : BitVec 32 := Scalar.addi c0_i32_4211 v4477
  v4478.toNat
def k0_off556 (v4487 : BitVec 32) : Fin 3 → Nat :=
  let c0_4217 : Index := 0#32
  let c128_i32_4216 : BitVec 32 := 128#32
  let v4488 : BitVec 32 := Scalar.muli v4487 c128_i32_4216
  let v4489 : Index := Scalar.indexCast v4488
  let c0_4218 : Index := 0#32
  ![0, v4489.toNat, 0]

def k0_off557 (v4487 : BitVec 32) : Fin 4 → Nat :=
  let c0_4220 : Index := 0#32
  let c0_4221 : Index := 0#32
  let c0_4222 : Index := 0#32
  let c128_i32_4216 : BitVec 32 := 128#32
  let v4488 : BitVec 32 := Scalar.muli v4487 c128_i32_4216
  let v4494 : Index := Scalar.indexCast v4488
  ![0, 0, 0, v4494.toNat]
def k0_off558 (v4487 : BitVec 32) : Fin 3 → Nat :=
  let c0_4224 : Index := 0#32
  let c128_i32_4216 : BitVec 32 := 128#32
  let v4488 : BitVec 32 := Scalar.muli v4487 c128_i32_4216
  let v4501 : Index := Scalar.indexCast v4488
  let c64_4225 : Index := 64#32
  ![0, v4501.toNat, 64]
def k0_off559 (v4487 : BitVec 32) : Fin 4 → Nat :=
  let c0_4227 : Index := 0#32
  let c1_4228 : Index := 1#32
  let c0_4229 : Index := 0#32
  let c128_i32_4216 : BitVec 32 := 128#32
  let v4488 : BitVec 32 := Scalar.muli v4487 c128_i32_4216
  let v4506 : Index := Scalar.indexCast v4488
  ![0, 1, 0, v4506.toNat]
def k0_off560 (v4487 : BitVec 32) : Fin 3 → Nat :=
  let c0_4231 : Index := 0#32
  let c128_i32_4216 : BitVec 32 := 128#32
  let v4488 : BitVec 32 := Scalar.muli v4487 c128_i32_4216
  let v4513 : Index := Scalar.indexCast v4488
  let c128_4232 : Index := 128#32
  ![0, v4513.toNat, 128]
def k0_off561 (v4487 : BitVec 32) : Fin 4 → Nat :=
  let c0_4234 : Index := 0#32
  let c2_4235 : Index := 2#32
  let c0_4236 : Index := 0#32
  let c128_i32_4216 : BitVec 32 := 128#32
  let v4488 : BitVec 32 := Scalar.muli v4487 c128_i32_4216
  let v4518 : Index := Scalar.indexCast v4488
  ![0, 2, 0, v4518.toNat]
def k0_off562 (v4487 : BitVec 32) : Fin 3 → Nat :=
  let c0_4238 : Index := 0#32
  let c128_i32_4216 : BitVec 32 := 128#32
  let v4488 : BitVec 32 := Scalar.muli v4487 c128_i32_4216
  let v4525 : Index := Scalar.indexCast v4488
  let c192_4239 : Index := 192#32
  ![0, v4525.toNat, 192]
def k0_off563 (v4487 : BitVec 32) : Fin 4 → Nat :=
  let c0_4241 : Index := 0#32
  let c3_4242 : Index := 3#32
  let c0_4243 : Index := 0#32
  let c128_i32_4216 : BitVec 32 := 128#32
  let v4488 : BitVec 32 := Scalar.muli v4487 c128_i32_4216
  let v4530 : Index := Scalar.indexCast v4488
  ![0, 3, 0, v4530.toNat]
def k0_off564 (v4487 : BitVec 32) : Fin 3 → Nat :=
  let c1_4245 : Index := 1#32
  let c128_i32_4216 : BitVec 32 := 128#32
  let v4488 : BitVec 32 := Scalar.muli v4487 c128_i32_4216
  let v4537 : Index := Scalar.indexCast v4488
  let c0_4246 : Index := 0#32
  ![1, v4537.toNat, 0]
def k0_off565 (v4487 : BitVec 32) : Fin 4 → Nat :=
  let c1_4248 : Index := 1#32
  let c0_4249 : Index := 0#32
  let c0_4250 : Index := 0#32
  let c128_i32_4216 : BitVec 32 := 128#32
  let v4488 : BitVec 32 := Scalar.muli v4487 c128_i32_4216
  let v4542 : Index := Scalar.indexCast v4488
  ![1, 0, 0, v4542.toNat]
def k0_off566 (v4487 : BitVec 32) : Fin 3 → Nat :=
  let c1_4252 : Index := 1#32
  let c128_i32_4216 : BitVec 32 := 128#32
  let v4488 : BitVec 32 := Scalar.muli v4487 c128_i32_4216
  let v4549 : Index := Scalar.indexCast v4488
  let c64_4253 : Index := 64#32
  ![1, v4549.toNat, 64]
def k0_off567 (v4487 : BitVec 32) : Fin 4 → Nat :=
  let c1_4255 : Index := 1#32
  let c1_4256 : Index := 1#32
  let c0_4257 : Index := 0#32
  let c128_i32_4216 : BitVec 32 := 128#32
  let v4488 : BitVec 32 := Scalar.muli v4487 c128_i32_4216
  let v4554 : Index := Scalar.indexCast v4488
  ![1, 1, 0, v4554.toNat]
def k0_off568 (v4487 : BitVec 32) : Fin 3 → Nat :=
  let c1_4259 : Index := 1#32
  let c128_i32_4216 : BitVec 32 := 128#32
  let v4488 : BitVec 32 := Scalar.muli v4487 c128_i32_4216
  let v4561 : Index := Scalar.indexCast v4488
  let c128_4260 : Index := 128#32
  ![1, v4561.toNat, 128]
def k0_off569 (v4487 : BitVec 32) : Fin 4 → Nat :=
  let c1_4262 : Index := 1#32
  let c2_4263 : Index := 2#32
  let c0_4264 : Index := 0#32
  let c128_i32_4216 : BitVec 32 := 128#32
  let v4488 : BitVec 32 := Scalar.muli v4487 c128_i32_4216
  let v4566 : Index := Scalar.indexCast v4488
  ![1, 2, 0, v4566.toNat]
def k0_off570 (v4487 : BitVec 32) : Fin 3 → Nat :=
  let c1_4266 : Index := 1#32
  let c128_i32_4216 : BitVec 32 := 128#32
  let v4488 : BitVec 32 := Scalar.muli v4487 c128_i32_4216
  let v4573 : Index := Scalar.indexCast v4488
  let c192_4267 : Index := 192#32
  ![1, v4573.toNat, 192]
def k0_off571 (v4487 : BitVec 32) : Fin 4 → Nat :=
  let c1_4269 : Index := 1#32
  let c3_4270 : Index := 3#32
  let c0_4271 : Index := 0#32
  let c128_i32_4216 : BitVec 32 := 128#32
  let v4488 : BitVec 32 := Scalar.muli v4487 c128_i32_4216
  let v4578 : Index := Scalar.indexCast v4488
  ![1, 3, 0, v4578.toNat]

def k0_chk120 (v4487 : BitVec 32) : Prop :=
  (∀ a, (k0_off556 v4487) a + S1x128x64.size a ≤ S2x4096x512.size a) ∧
  (∀ a, (k0_off557 v4487) a + S1x1x128x128.size a ≤ S2x4x128x4096.size a) ∧
  (∀ a, (k0_off558 v4487) a + S1x128x64.size a ≤ S2x4096x512.size a) ∧
  (∀ a, (k0_off559 v4487) a + S1x1x128x128.size a ≤ S2x4x128x4096.size a) ∧
  (∀ a, (k0_off560 v4487) a + S1x128x64.size a ≤ S2x4096x512.size a) ∧
  (∀ a, (k0_off561 v4487) a + S1x1x128x128.size a ≤ S2x4x128x4096.size a) ∧
  (∀ a, (k0_off562 v4487) a + S1x128x64.size a ≤ S2x4096x512.size a) ∧
  (∀ a, (k0_off563 v4487) a + S1x1x128x128.size a ≤ S2x4x128x4096.size a) ∧
  (∀ a, (k0_off564 v4487) a + S1x128x64.size a ≤ S2x4096x512.size a) ∧
  (∀ a, (k0_off565 v4487) a + S1x1x128x128.size a ≤ S2x4x128x4096.size a) ∧
  (∀ a, (k0_off566 v4487) a + S1x128x64.size a ≤ S2x4096x512.size a) ∧
  (∀ a, (k0_off567 v4487) a + S1x1x128x128.size a ≤ S2x4x128x4096.size a) ∧
  (∀ a, (k0_off568 v4487) a + S1x128x64.size a ≤ S2x4096x512.size a) ∧
  (∀ a, (k0_off569 v4487) a + S1x1x128x128.size a ≤ S2x4x128x4096.size a) ∧
  (∀ a, (k0_off570 v4487) a + S1x128x64.size a ≤ S2x4096x512.size a) ∧
  (∀ a, (k0_off571 v4487) a + S1x1x128x128.size a ≤ S2x4x128x4096.size a)
theorem k0_off556_inb : ∀ (v4487 : BitVec 32) (k0_hw120 : k0_chk120 v4487), ∀ a, (k0_off556 v4487) a + S1x128x64.size a ≤ S2x4096x512.size a := fun v4487 k0_hw120 => k0_hw120.1
theorem k0_off557_inb : ∀ (v4487 : BitVec 32) (k0_hw120 : k0_chk120 v4487), ∀ a, (k0_off557 v4487) a + S1x1x128x128.size a ≤ S2x4x128x4096.size a := fun v4487 k0_hw120 => k0_hw120.2.1
theorem k0_off558_inb : ∀ (v4487 : BitVec 32) (k0_hw120 : k0_chk120 v4487), ∀ a, (k0_off558 v4487) a + S1x128x64.size a ≤ S2x4096x512.size a := fun v4487 k0_hw120 => k0_hw120.2.2.1
theorem k0_off559_inb : ∀ (v4487 : BitVec 32) (k0_hw120 : k0_chk120 v4487), ∀ a, (k0_off559 v4487) a + S1x1x128x128.size a ≤ S2x4x128x4096.size a := fun v4487 k0_hw120 => k0_hw120.2.2.2.1
theorem k0_off560_inb : ∀ (v4487 : BitVec 32) (k0_hw120 : k0_chk120 v4487), ∀ a, (k0_off560 v4487) a + S1x128x64.size a ≤ S2x4096x512.size a := fun v4487 k0_hw120 => k0_hw120.2.2.2.2.1
theorem k0_off561_inb : ∀ (v4487 : BitVec 32) (k0_hw120 : k0_chk120 v4487), ∀ a, (k0_off561 v4487) a + S1x1x128x128.size a ≤ S2x4x128x4096.size a := fun v4487 k0_hw120 => k0_hw120.2.2.2.2.2.1
theorem k0_off562_inb : ∀ (v4487 : BitVec 32) (k0_hw120 : k0_chk120 v4487), ∀ a, (k0_off562 v4487) a + S1x128x64.size a ≤ S2x4096x512.size a := fun v4487 k0_hw120 => k0_hw120.2.2.2.2.2.2.1
theorem k0_off563_inb : ∀ (v4487 : BitVec 32) (k0_hw120 : k0_chk120 v4487), ∀ a, (k0_off563 v4487) a + S1x1x128x128.size a ≤ S2x4x128x4096.size a := fun v4487 k0_hw120 => k0_hw120.2.2.2.2.2.2.2.1
theorem k0_off564_inb : ∀ (v4487 : BitVec 32) (k0_hw120 : k0_chk120 v4487), ∀ a, (k0_off564 v4487) a + S1x128x64.size a ≤ S2x4096x512.size a := fun v4487 k0_hw120 => k0_hw120.2.2.2.2.2.2.2.2.1
theorem k0_off565_inb : ∀ (v4487 : BitVec 32) (k0_hw120 : k0_chk120 v4487), ∀ a, (k0_off565 v4487) a + S1x1x128x128.size a ≤ S2x4x128x4096.size a := fun v4487 k0_hw120 => k0_hw120.2.2.2.2.2.2.2.2.2.1
theorem k0_off566_inb : ∀ (v4487 : BitVec 32) (k0_hw120 : k0_chk120 v4487), ∀ a, (k0_off566 v4487) a + S1x128x64.size a ≤ S2x4096x512.size a := fun v4487 k0_hw120 => k0_hw120.2.2.2.2.2.2.2.2.2.2.1
theorem k0_off567_inb : ∀ (v4487 : BitVec 32) (k0_hw120 : k0_chk120 v4487), ∀ a, (k0_off567 v4487) a + S1x1x128x128.size a ≤ S2x4x128x4096.size a := fun v4487 k0_hw120 => k0_hw120.2.2.2.2.2.2.2.2.2.2.2.1
theorem k0_off568_inb : ∀ (v4487 : BitVec 32) (k0_hw120 : k0_chk120 v4487), ∀ a, (k0_off568 v4487) a + S1x128x64.size a ≤ S2x4096x512.size a := fun v4487 k0_hw120 => k0_hw120.2.2.2.2.2.2.2.2.2.2.2.2.1
theorem k0_off569_inb : ∀ (v4487 : BitVec 32) (k0_hw120 : k0_chk120 v4487), ∀ a, (k0_off569 v4487) a + S1x1x128x128.size a ≤ S2x4x128x4096.size a := fun v4487 k0_hw120 => k0_hw120.2.2.2.2.2.2.2.2.2.2.2.2.2.1
theorem k0_off570_inb : ∀ (v4487 : BitVec 32) (k0_hw120 : k0_chk120 v4487), ∀ a, (k0_off570 v4487) a + S1x128x64.size a ≤ S2x4096x512.size a := fun v4487 k0_hw120 => k0_hw120.2.2.2.2.2.2.2.2.2.2.2.2.2.2.1
theorem k0_off571_inb : ∀ (v4487 : BitVec 32) (k0_hw120 : k0_chk120 v4487), ∀ a, (k0_off571 v4487) a + S1x1x128x128.size a ≤ S2x4x128x4096.size a := fun v4487 k0_hw120 => k0_hw120.2.2.2.2.2.2.2.2.2.2.2.2.2.2.2

def k0_off572 (v4585 : BitVec 32) : Fin 3 → Nat :=
  let c0_4276 : Index := 0#32
  let c128_i32_4275 : BitVec 32 := 128#32
  let v4586 : BitVec 32 := Scalar.muli v4585 c128_i32_4275
  let v4587 : Index := Scalar.indexCast v4586
  let c0_4277 : Index := 0#32
  ![0, v4587.toNat, 0]

def k0_off573 (v4585 : BitVec 32) : Fin 4 → Nat :=
  let c0_4279 : Index := 0#32
  let c0_4280 : Index := 0#32
  let c0_4281 : Index := 0#32
  let c128_i32_4275 : BitVec 32 := 128#32
  let v4586 : BitVec 32 := Scalar.muli v4585 c128_i32_4275
  let v4592 : Index := Scalar.indexCast v4586
  ![0, 0, 0, v4592.toNat]
def k0_off574 (v4585 : BitVec 32) : Fin 3 → Nat :=
  let c0_4283 : Index := 0#32
  let c128_i32_4275 : BitVec 32 := 128#32
  let v4586 : BitVec 32 := Scalar.muli v4585 c128_i32_4275
  let v4599 : Index := Scalar.indexCast v4586
  let c64_4284 : Index := 64#32
  ![0, v4599.toNat, 64]
def k0_off575 (v4585 : BitVec 32) : Fin 4 → Nat :=
  let c0_4286 : Index := 0#32
  let c1_4287 : Index := 1#32
  let c0_4288 : Index := 0#32
  let c128_i32_4275 : BitVec 32 := 128#32
  let v4586 : BitVec 32 := Scalar.muli v4585 c128_i32_4275
  let v4604 : Index := Scalar.indexCast v4586
  ![0, 1, 0, v4604.toNat]
def k0_off576 (v4585 : BitVec 32) : Fin 3 → Nat :=
  let c0_4290 : Index := 0#32
  let c128_i32_4275 : BitVec 32 := 128#32
  let v4586 : BitVec 32 := Scalar.muli v4585 c128_i32_4275
  let v4611 : Index := Scalar.indexCast v4586
  let c128_4291 : Index := 128#32
  ![0, v4611.toNat, 128]
def k0_off577 (v4585 : BitVec 32) : Fin 4 → Nat :=
  let c0_4293 : Index := 0#32
  let c2_4294 : Index := 2#32
  let c0_4295 : Index := 0#32
  let c128_i32_4275 : BitVec 32 := 128#32
  let v4586 : BitVec 32 := Scalar.muli v4585 c128_i32_4275
  let v4616 : Index := Scalar.indexCast v4586
  ![0, 2, 0, v4616.toNat]
def k0_off578 (v4585 : BitVec 32) : Fin 3 → Nat :=
  let c0_4297 : Index := 0#32
  let c128_i32_4275 : BitVec 32 := 128#32
  let v4586 : BitVec 32 := Scalar.muli v4585 c128_i32_4275
  let v4623 : Index := Scalar.indexCast v4586
  let c192_4298 : Index := 192#32
  ![0, v4623.toNat, 192]
def k0_off579 (v4585 : BitVec 32) : Fin 4 → Nat :=
  let c0_4300 : Index := 0#32
  let c3_4301 : Index := 3#32
  let c0_4302 : Index := 0#32
  let c128_i32_4275 : BitVec 32 := 128#32
  let v4586 : BitVec 32 := Scalar.muli v4585 c128_i32_4275
  let v4628 : Index := Scalar.indexCast v4586
  ![0, 3, 0, v4628.toNat]
def k0_off580 (v4585 : BitVec 32) : Fin 3 → Nat :=
  let c1_4304 : Index := 1#32
  let c128_i32_4275 : BitVec 32 := 128#32
  let v4586 : BitVec 32 := Scalar.muli v4585 c128_i32_4275
  let v4635 : Index := Scalar.indexCast v4586
  let c0_4305 : Index := 0#32
  ![1, v4635.toNat, 0]
def k0_off581 (v4585 : BitVec 32) : Fin 4 → Nat :=
  let c1_4307 : Index := 1#32
  let c0_4308 : Index := 0#32
  let c0_4309 : Index := 0#32
  let c128_i32_4275 : BitVec 32 := 128#32
  let v4586 : BitVec 32 := Scalar.muli v4585 c128_i32_4275
  let v4640 : Index := Scalar.indexCast v4586
  ![1, 0, 0, v4640.toNat]
def k0_off582 (v4585 : BitVec 32) : Fin 3 → Nat :=
  let c1_4311 : Index := 1#32
  let c128_i32_4275 : BitVec 32 := 128#32
  let v4586 : BitVec 32 := Scalar.muli v4585 c128_i32_4275
  let v4647 : Index := Scalar.indexCast v4586
  let c64_4312 : Index := 64#32
  ![1, v4647.toNat, 64]
def k0_off583 (v4585 : BitVec 32) : Fin 4 → Nat :=
  let c1_4314 : Index := 1#32
  let c1_4315 : Index := 1#32
  let c0_4316 : Index := 0#32
  let c128_i32_4275 : BitVec 32 := 128#32
  let v4586 : BitVec 32 := Scalar.muli v4585 c128_i32_4275
  let v4652 : Index := Scalar.indexCast v4586
  ![1, 1, 0, v4652.toNat]
def k0_off584 (v4585 : BitVec 32) : Fin 3 → Nat :=
  let c1_4318 : Index := 1#32
  let c128_i32_4275 : BitVec 32 := 128#32
  let v4586 : BitVec 32 := Scalar.muli v4585 c128_i32_4275
  let v4659 : Index := Scalar.indexCast v4586
  let c128_4319 : Index := 128#32
  ![1, v4659.toNat, 128]
def k0_off585 (v4585 : BitVec 32) : Fin 4 → Nat :=
  let c1_4321 : Index := 1#32
  let c2_4322 : Index := 2#32
  let c0_4323 : Index := 0#32
  let c128_i32_4275 : BitVec 32 := 128#32
  let v4586 : BitVec 32 := Scalar.muli v4585 c128_i32_4275
  let v4664 : Index := Scalar.indexCast v4586
  ![1, 2, 0, v4664.toNat]
def k0_off586 (v4585 : BitVec 32) : Fin 3 → Nat :=
  let c1_4325 : Index := 1#32
  let c128_i32_4275 : BitVec 32 := 128#32
  let v4586 : BitVec 32 := Scalar.muli v4585 c128_i32_4275
  let v4671 : Index := Scalar.indexCast v4586
  let c192_4326 : Index := 192#32
  ![1, v4671.toNat, 192]
def k0_off587 (v4585 : BitVec 32) : Fin 4 → Nat :=
  let c1_4328 : Index := 1#32
  let c3_4329 : Index := 3#32
  let c0_4330 : Index := 0#32
  let c128_i32_4275 : BitVec 32 := 128#32
  let v4586 : BitVec 32 := Scalar.muli v4585 c128_i32_4275
  let v4676 : Index := Scalar.indexCast v4586
  ![1, 3, 0, v4676.toNat]

def k0_chk121 (v4585 : BitVec 32) : Prop :=
  (∀ a, (k0_off572 v4585) a + S1x128x64.size a ≤ S2x4096x512.size a) ∧
  (∀ a, (k0_off573 v4585) a + S1x1x128x128.size a ≤ S2x4x128x4096.size a) ∧
  (∀ a, (k0_off574 v4585) a + S1x128x64.size a ≤ S2x4096x512.size a) ∧
  (∀ a, (k0_off575 v4585) a + S1x1x128x128.size a ≤ S2x4x128x4096.size a) ∧
  (∀ a, (k0_off576 v4585) a + S1x128x64.size a ≤ S2x4096x512.size a) ∧
  (∀ a, (k0_off577 v4585) a + S1x1x128x128.size a ≤ S2x4x128x4096.size a) ∧
  (∀ a, (k0_off578 v4585) a + S1x128x64.size a ≤ S2x4096x512.size a) ∧
  (∀ a, (k0_off579 v4585) a + S1x1x128x128.size a ≤ S2x4x128x4096.size a) ∧
  (∀ a, (k0_off580 v4585) a + S1x128x64.size a ≤ S2x4096x512.size a) ∧
  (∀ a, (k0_off581 v4585) a + S1x1x128x128.size a ≤ S2x4x128x4096.size a) ∧
  (∀ a, (k0_off582 v4585) a + S1x128x64.size a ≤ S2x4096x512.size a) ∧
  (∀ a, (k0_off583 v4585) a + S1x1x128x128.size a ≤ S2x4x128x4096.size a) ∧
  (∀ a, (k0_off584 v4585) a + S1x128x64.size a ≤ S2x4096x512.size a) ∧
  (∀ a, (k0_off585 v4585) a + S1x1x128x128.size a ≤ S2x4x128x4096.size a) ∧
  (∀ a, (k0_off586 v4585) a + S1x128x64.size a ≤ S2x4096x512.size a) ∧
  (∀ a, (k0_off587 v4585) a + S1x1x128x128.size a ≤ S2x4x128x4096.size a)
theorem k0_off572_inb : ∀ (v4585 : BitVec 32) (k0_hw121 : k0_chk121 v4585), ∀ a, (k0_off572 v4585) a + S1x128x64.size a ≤ S2x4096x512.size a := fun v4585 k0_hw121 => k0_hw121.1
theorem k0_off573_inb : ∀ (v4585 : BitVec 32) (k0_hw121 : k0_chk121 v4585), ∀ a, (k0_off573 v4585) a + S1x1x128x128.size a ≤ S2x4x128x4096.size a := fun v4585 k0_hw121 => k0_hw121.2.1
theorem k0_off574_inb : ∀ (v4585 : BitVec 32) (k0_hw121 : k0_chk121 v4585), ∀ a, (k0_off574 v4585) a + S1x128x64.size a ≤ S2x4096x512.size a := fun v4585 k0_hw121 => k0_hw121.2.2.1
theorem k0_off575_inb : ∀ (v4585 : BitVec 32) (k0_hw121 : k0_chk121 v4585), ∀ a, (k0_off575 v4585) a + S1x1x128x128.size a ≤ S2x4x128x4096.size a := fun v4585 k0_hw121 => k0_hw121.2.2.2.1
theorem k0_off576_inb : ∀ (v4585 : BitVec 32) (k0_hw121 : k0_chk121 v4585), ∀ a, (k0_off576 v4585) a + S1x128x64.size a ≤ S2x4096x512.size a := fun v4585 k0_hw121 => k0_hw121.2.2.2.2.1
theorem k0_off577_inb : ∀ (v4585 : BitVec 32) (k0_hw121 : k0_chk121 v4585), ∀ a, (k0_off577 v4585) a + S1x1x128x128.size a ≤ S2x4x128x4096.size a := fun v4585 k0_hw121 => k0_hw121.2.2.2.2.2.1
theorem k0_off578_inb : ∀ (v4585 : BitVec 32) (k0_hw121 : k0_chk121 v4585), ∀ a, (k0_off578 v4585) a + S1x128x64.size a ≤ S2x4096x512.size a := fun v4585 k0_hw121 => k0_hw121.2.2.2.2.2.2.1
theorem k0_off579_inb : ∀ (v4585 : BitVec 32) (k0_hw121 : k0_chk121 v4585), ∀ a, (k0_off579 v4585) a + S1x1x128x128.size a ≤ S2x4x128x4096.size a := fun v4585 k0_hw121 => k0_hw121.2.2.2.2.2.2.2.1
theorem k0_off580_inb : ∀ (v4585 : BitVec 32) (k0_hw121 : k0_chk121 v4585), ∀ a, (k0_off580 v4585) a + S1x128x64.size a ≤ S2x4096x512.size a := fun v4585 k0_hw121 => k0_hw121.2.2.2.2.2.2.2.2.1
theorem k0_off581_inb : ∀ (v4585 : BitVec 32) (k0_hw121 : k0_chk121 v4585), ∀ a, (k0_off581 v4585) a + S1x1x128x128.size a ≤ S2x4x128x4096.size a := fun v4585 k0_hw121 => k0_hw121.2.2.2.2.2.2.2.2.2.1
theorem k0_off582_inb : ∀ (v4585 : BitVec 32) (k0_hw121 : k0_chk121 v4585), ∀ a, (k0_off582 v4585) a + S1x128x64.size a ≤ S2x4096x512.size a := fun v4585 k0_hw121 => k0_hw121.2.2.2.2.2.2.2.2.2.2.1
theorem k0_off583_inb : ∀ (v4585 : BitVec 32) (k0_hw121 : k0_chk121 v4585), ∀ a, (k0_off583 v4585) a + S1x1x128x128.size a ≤ S2x4x128x4096.size a := fun v4585 k0_hw121 => k0_hw121.2.2.2.2.2.2.2.2.2.2.2.1
theorem k0_off584_inb : ∀ (v4585 : BitVec 32) (k0_hw121 : k0_chk121 v4585), ∀ a, (k0_off584 v4585) a + S1x128x64.size a ≤ S2x4096x512.size a := fun v4585 k0_hw121 => k0_hw121.2.2.2.2.2.2.2.2.2.2.2.2.1
theorem k0_off585_inb : ∀ (v4585 : BitVec 32) (k0_hw121 : k0_chk121 v4585), ∀ a, (k0_off585 v4585) a + S1x1x128x128.size a ≤ S2x4x128x4096.size a := fun v4585 k0_hw121 => k0_hw121.2.2.2.2.2.2.2.2.2.2.2.2.2.1
theorem k0_off586_inb : ∀ (v4585 : BitVec 32) (k0_hw121 : k0_chk121 v4585), ∀ a, (k0_off586 v4585) a + S1x128x64.size a ≤ S2x4096x512.size a := fun v4585 k0_hw121 => k0_hw121.2.2.2.2.2.2.2.2.2.2.2.2.2.2.1
theorem k0_off587_inb : ∀ (v4585 : BitVec 32) (k0_hw121 : k0_chk121 v4585), ∀ a, (k0_off587 v4585) a + S1x1x128x128.size a ≤ S2x4x128x4096.size a := fun v4585 k0_hw121 => k0_hw121.2.2.2.2.2.2.2.2.2.2.2.2.2.2.2

def k0_off588 (v4683 : BitVec 32) : Fin 3 → Nat :=
  let c0_4335 : Index := 0#32
  let c128_i32_4334 : BitVec 32 := 128#32
  let v4684 : BitVec 32 := Scalar.muli v4683 c128_i32_4334
  let v4685 : Index := Scalar.indexCast v4684
  let c0_4336 : Index := 0#32
  ![0, v4685.toNat, 0]

def k0_off589 (v4683 : BitVec 32) : Fin 4 → Nat :=
  let c0_4338 : Index := 0#32
  let c0_4339 : Index := 0#32
  let c0_4340 : Index := 0#32
  let c128_i32_4334 : BitVec 32 := 128#32
  let v4684 : BitVec 32 := Scalar.muli v4683 c128_i32_4334
  let v4690 : Index := Scalar.indexCast v4684
  ![0, 0, 0, v4690.toNat]
def k0_off590 (v4683 : BitVec 32) : Fin 3 → Nat :=
  let c0_4342 : Index := 0#32
  let c128_i32_4334 : BitVec 32 := 128#32
  let v4684 : BitVec 32 := Scalar.muli v4683 c128_i32_4334
  let v4697 : Index := Scalar.indexCast v4684
  let c64_4343 : Index := 64#32
  ![0, v4697.toNat, 64]
def k0_off591 (v4683 : BitVec 32) : Fin 4 → Nat :=
  let c0_4345 : Index := 0#32
  let c1_4346 : Index := 1#32
  let c0_4347 : Index := 0#32
  let c128_i32_4334 : BitVec 32 := 128#32
  let v4684 : BitVec 32 := Scalar.muli v4683 c128_i32_4334
  let v4702 : Index := Scalar.indexCast v4684
  ![0, 1, 0, v4702.toNat]
def k0_off592 (v4683 : BitVec 32) : Fin 3 → Nat :=
  let c0_4349 : Index := 0#32
  let c128_i32_4334 : BitVec 32 := 128#32
  let v4684 : BitVec 32 := Scalar.muli v4683 c128_i32_4334
  let v4709 : Index := Scalar.indexCast v4684
  let c128_4350 : Index := 128#32
  ![0, v4709.toNat, 128]
def k0_off593 (v4683 : BitVec 32) : Fin 4 → Nat :=
  let c0_4352 : Index := 0#32
  let c2_4353 : Index := 2#32
  let c0_4354 : Index := 0#32
  let c128_i32_4334 : BitVec 32 := 128#32
  let v4684 : BitVec 32 := Scalar.muli v4683 c128_i32_4334
  let v4714 : Index := Scalar.indexCast v4684
  ![0, 2, 0, v4714.toNat]
def k0_off594 (v4683 : BitVec 32) : Fin 3 → Nat :=
  let c0_4356 : Index := 0#32
  let c128_i32_4334 : BitVec 32 := 128#32
  let v4684 : BitVec 32 := Scalar.muli v4683 c128_i32_4334
  let v4721 : Index := Scalar.indexCast v4684
  let c192_4357 : Index := 192#32
  ![0, v4721.toNat, 192]
def k0_off595 (v4683 : BitVec 32) : Fin 4 → Nat :=
  let c0_4359 : Index := 0#32
  let c3_4360 : Index := 3#32
  let c0_4361 : Index := 0#32
  let c128_i32_4334 : BitVec 32 := 128#32
  let v4684 : BitVec 32 := Scalar.muli v4683 c128_i32_4334
  let v4726 : Index := Scalar.indexCast v4684
  ![0, 3, 0, v4726.toNat]
def k0_off596 (v4683 : BitVec 32) : Fin 3 → Nat :=
  let c1_4363 : Index := 1#32
  let c128_i32_4334 : BitVec 32 := 128#32
  let v4684 : BitVec 32 := Scalar.muli v4683 c128_i32_4334
  let v4733 : Index := Scalar.indexCast v4684
  let c0_4364 : Index := 0#32
  ![1, v4733.toNat, 0]
def k0_off597 (v4683 : BitVec 32) : Fin 4 → Nat :=
  let c1_4366 : Index := 1#32
  let c0_4367 : Index := 0#32
  let c0_4368 : Index := 0#32
  let c128_i32_4334 : BitVec 32 := 128#32
  let v4684 : BitVec 32 := Scalar.muli v4683 c128_i32_4334
  let v4738 : Index := Scalar.indexCast v4684
  ![1, 0, 0, v4738.toNat]
def k0_off598 (v4683 : BitVec 32) : Fin 3 → Nat :=
  let c1_4370 : Index := 1#32
  let c128_i32_4334 : BitVec 32 := 128#32
  let v4684 : BitVec 32 := Scalar.muli v4683 c128_i32_4334
  let v4745 : Index := Scalar.indexCast v4684
  let c64_4371 : Index := 64#32
  ![1, v4745.toNat, 64]
def k0_off599 (v4683 : BitVec 32) : Fin 4 → Nat :=
  let c1_4373 : Index := 1#32
  let c1_4374 : Index := 1#32
  let c0_4375 : Index := 0#32
  let c128_i32_4334 : BitVec 32 := 128#32
  let v4684 : BitVec 32 := Scalar.muli v4683 c128_i32_4334
  let v4750 : Index := Scalar.indexCast v4684
  ![1, 1, 0, v4750.toNat]
def k0_off600 (v4683 : BitVec 32) : Fin 3 → Nat :=
  let c1_4377 : Index := 1#32
  let c128_i32_4334 : BitVec 32 := 128#32
  let v4684 : BitVec 32 := Scalar.muli v4683 c128_i32_4334
  let v4757 : Index := Scalar.indexCast v4684
  let c128_4378 : Index := 128#32
  ![1, v4757.toNat, 128]
def k0_off601 (v4683 : BitVec 32) : Fin 4 → Nat :=
  let c1_4380 : Index := 1#32
  let c2_4381 : Index := 2#32
  let c0_4382 : Index := 0#32
  let c128_i32_4334 : BitVec 32 := 128#32
  let v4684 : BitVec 32 := Scalar.muli v4683 c128_i32_4334
  let v4762 : Index := Scalar.indexCast v4684
  ![1, 2, 0, v4762.toNat]
def k0_off602 (v4683 : BitVec 32) : Fin 3 → Nat :=
  let c1_4384 : Index := 1#32
  let c128_i32_4334 : BitVec 32 := 128#32
  let v4684 : BitVec 32 := Scalar.muli v4683 c128_i32_4334
  let v4769 : Index := Scalar.indexCast v4684
  let c192_4385 : Index := 192#32
  ![1, v4769.toNat, 192]
def k0_off603 (v4683 : BitVec 32) : Fin 4 → Nat :=
  let c1_4387 : Index := 1#32
  let c3_4388 : Index := 3#32
  let c0_4389 : Index := 0#32
  let c128_i32_4334 : BitVec 32 := 128#32
  let v4684 : BitVec 32 := Scalar.muli v4683 c128_i32_4334
  let v4774 : Index := Scalar.indexCast v4684
  ![1, 3, 0, v4774.toNat]

def k0_chk122 (v4683 : BitVec 32) : Prop :=
  (∀ a, (k0_off588 v4683) a + S1x128x64.size a ≤ S2x4096x512.size a) ∧
  (∀ a, (k0_off589 v4683) a + S1x1x128x128.size a ≤ S2x4x128x4096.size a) ∧
  (∀ a, (k0_off590 v4683) a + S1x128x64.size a ≤ S2x4096x512.size a) ∧
  (∀ a, (k0_off591 v4683) a + S1x1x128x128.size a ≤ S2x4x128x4096.size a) ∧
  (∀ a, (k0_off592 v4683) a + S1x128x64.size a ≤ S2x4096x512.size a) ∧
  (∀ a, (k0_off593 v4683) a + S1x1x128x128.size a ≤ S2x4x128x4096.size a) ∧
  (∀ a, (k0_off594 v4683) a + S1x128x64.size a ≤ S2x4096x512.size a) ∧
  (∀ a, (k0_off595 v4683) a + S1x1x128x128.size a ≤ S2x4x128x4096.size a) ∧
  (∀ a, (k0_off596 v4683) a + S1x128x64.size a ≤ S2x4096x512.size a) ∧
  (∀ a, (k0_off597 v4683) a + S1x1x128x128.size a ≤ S2x4x128x4096.size a) ∧
  (∀ a, (k0_off598 v4683) a + S1x128x64.size a ≤ S2x4096x512.size a) ∧
  (∀ a, (k0_off599 v4683) a + S1x1x128x128.size a ≤ S2x4x128x4096.size a) ∧
  (∀ a, (k0_off600 v4683) a + S1x128x64.size a ≤ S2x4096x512.size a) ∧
  (∀ a, (k0_off601 v4683) a + S1x1x128x128.size a ≤ S2x4x128x4096.size a) ∧
  (∀ a, (k0_off602 v4683) a + S1x128x64.size a ≤ S2x4096x512.size a) ∧
  (∀ a, (k0_off603 v4683) a + S1x1x128x128.size a ≤ S2x4x128x4096.size a)
theorem k0_off588_inb : ∀ (v4683 : BitVec 32) (k0_hw122 : k0_chk122 v4683), ∀ a, (k0_off588 v4683) a + S1x128x64.size a ≤ S2x4096x512.size a := fun v4683 k0_hw122 => k0_hw122.1
theorem k0_off589_inb : ∀ (v4683 : BitVec 32) (k0_hw122 : k0_chk122 v4683), ∀ a, (k0_off589 v4683) a + S1x1x128x128.size a ≤ S2x4x128x4096.size a := fun v4683 k0_hw122 => k0_hw122.2.1
theorem k0_off590_inb : ∀ (v4683 : BitVec 32) (k0_hw122 : k0_chk122 v4683), ∀ a, (k0_off590 v4683) a + S1x128x64.size a ≤ S2x4096x512.size a := fun v4683 k0_hw122 => k0_hw122.2.2.1
theorem k0_off591_inb : ∀ (v4683 : BitVec 32) (k0_hw122 : k0_chk122 v4683), ∀ a, (k0_off591 v4683) a + S1x1x128x128.size a ≤ S2x4x128x4096.size a := fun v4683 k0_hw122 => k0_hw122.2.2.2.1
theorem k0_off592_inb : ∀ (v4683 : BitVec 32) (k0_hw122 : k0_chk122 v4683), ∀ a, (k0_off592 v4683) a + S1x128x64.size a ≤ S2x4096x512.size a := fun v4683 k0_hw122 => k0_hw122.2.2.2.2.1
theorem k0_off593_inb : ∀ (v4683 : BitVec 32) (k0_hw122 : k0_chk122 v4683), ∀ a, (k0_off593 v4683) a + S1x1x128x128.size a ≤ S2x4x128x4096.size a := fun v4683 k0_hw122 => k0_hw122.2.2.2.2.2.1
theorem k0_off594_inb : ∀ (v4683 : BitVec 32) (k0_hw122 : k0_chk122 v4683), ∀ a, (k0_off594 v4683) a + S1x128x64.size a ≤ S2x4096x512.size a := fun v4683 k0_hw122 => k0_hw122.2.2.2.2.2.2.1
theorem k0_off595_inb : ∀ (v4683 : BitVec 32) (k0_hw122 : k0_chk122 v4683), ∀ a, (k0_off595 v4683) a + S1x1x128x128.size a ≤ S2x4x128x4096.size a := fun v4683 k0_hw122 => k0_hw122.2.2.2.2.2.2.2.1
theorem k0_off596_inb : ∀ (v4683 : BitVec 32) (k0_hw122 : k0_chk122 v4683), ∀ a, (k0_off596 v4683) a + S1x128x64.size a ≤ S2x4096x512.size a := fun v4683 k0_hw122 => k0_hw122.2.2.2.2.2.2.2.2.1
theorem k0_off597_inb : ∀ (v4683 : BitVec 32) (k0_hw122 : k0_chk122 v4683), ∀ a, (k0_off597 v4683) a + S1x1x128x128.size a ≤ S2x4x128x4096.size a := fun v4683 k0_hw122 => k0_hw122.2.2.2.2.2.2.2.2.2.1
theorem k0_off598_inb : ∀ (v4683 : BitVec 32) (k0_hw122 : k0_chk122 v4683), ∀ a, (k0_off598 v4683) a + S1x128x64.size a ≤ S2x4096x512.size a := fun v4683 k0_hw122 => k0_hw122.2.2.2.2.2.2.2.2.2.2.1
theorem k0_off599_inb : ∀ (v4683 : BitVec 32) (k0_hw122 : k0_chk122 v4683), ∀ a, (k0_off599 v4683) a + S1x1x128x128.size a ≤ S2x4x128x4096.size a := fun v4683 k0_hw122 => k0_hw122.2.2.2.2.2.2.2.2.2.2.2.1
theorem k0_off600_inb : ∀ (v4683 : BitVec 32) (k0_hw122 : k0_chk122 v4683), ∀ a, (k0_off600 v4683) a + S1x128x64.size a ≤ S2x4096x512.size a := fun v4683 k0_hw122 => k0_hw122.2.2.2.2.2.2.2.2.2.2.2.2.1
theorem k0_off601_inb : ∀ (v4683 : BitVec 32) (k0_hw122 : k0_chk122 v4683), ∀ a, (k0_off601 v4683) a + S1x1x128x128.size a ≤ S2x4x128x4096.size a := fun v4683 k0_hw122 => k0_hw122.2.2.2.2.2.2.2.2.2.2.2.2.2.1
theorem k0_off602_inb : ∀ (v4683 : BitVec 32) (k0_hw122 : k0_chk122 v4683), ∀ a, (k0_off602 v4683) a + S1x128x64.size a ≤ S2x4096x512.size a := fun v4683 k0_hw122 => k0_hw122.2.2.2.2.2.2.2.2.2.2.2.2.2.2.1
theorem k0_off603_inb : ∀ (v4683 : BitVec 32) (k0_hw122 : k0_chk122 v4683), ∀ a, (k0_off603 v4683) a + S1x1x128x128.size a ≤ S2x4x128x4096.size a := fun v4683 k0_hw122 => k0_hw122.2.2.2.2.2.2.2.2.2.2.2.2.2.2.2

def k0_off604 (v4781 : BitVec 32) : Fin 3 → Nat :=
  let c0_4394 : Index := 0#32
  let c128_i32_4393 : BitVec 32 := 128#32
  let v4782 : BitVec 32 := Scalar.muli v4781 c128_i32_4393
  let v4783 : Index := Scalar.indexCast v4782
  let c0_4395 : Index := 0#32
  ![0, v4783.toNat, 0]

def k0_off605 (v4781 : BitVec 32) : Fin 4 → Nat :=
  let c0_4397 : Index := 0#32
  let c0_4398 : Index := 0#32
  let c0_4399 : Index := 0#32
  let c128_i32_4393 : BitVec 32 := 128#32
  let v4782 : BitVec 32 := Scalar.muli v4781 c128_i32_4393
  let v4788 : Index := Scalar.indexCast v4782
  ![0, 0, 0, v4788.toNat]
def k0_off606 (v4781 : BitVec 32) : Fin 3 → Nat :=
  let c0_4401 : Index := 0#32
  let c128_i32_4393 : BitVec 32 := 128#32
  let v4782 : BitVec 32 := Scalar.muli v4781 c128_i32_4393
  let v4795 : Index := Scalar.indexCast v4782
  let c64_4402 : Index := 64#32
  ![0, v4795.toNat, 64]
def k0_off607 (v4781 : BitVec 32) : Fin 4 → Nat :=
  let c0_4404 : Index := 0#32
  let c1_4405 : Index := 1#32
  let c0_4406 : Index := 0#32
  let c128_i32_4393 : BitVec 32 := 128#32
  let v4782 : BitVec 32 := Scalar.muli v4781 c128_i32_4393
  let v4800 : Index := Scalar.indexCast v4782
  ![0, 1, 0, v4800.toNat]
def k0_off608 (v4781 : BitVec 32) : Fin 3 → Nat :=
  let c0_4408 : Index := 0#32
  let c128_i32_4393 : BitVec 32 := 128#32
  let v4782 : BitVec 32 := Scalar.muli v4781 c128_i32_4393
  let v4807 : Index := Scalar.indexCast v4782
  let c128_4409 : Index := 128#32
  ![0, v4807.toNat, 128]
def k0_off609 (v4781 : BitVec 32) : Fin 4 → Nat :=
  let c0_4411 : Index := 0#32
  let c2_4412 : Index := 2#32
  let c0_4413 : Index := 0#32
  let c128_i32_4393 : BitVec 32 := 128#32
  let v4782 : BitVec 32 := Scalar.muli v4781 c128_i32_4393
  let v4812 : Index := Scalar.indexCast v4782
  ![0, 2, 0, v4812.toNat]
def k0_off610 (v4781 : BitVec 32) : Fin 3 → Nat :=
  let c0_4415 : Index := 0#32
  let c128_i32_4393 : BitVec 32 := 128#32
  let v4782 : BitVec 32 := Scalar.muli v4781 c128_i32_4393
  let v4819 : Index := Scalar.indexCast v4782
  let c192_4416 : Index := 192#32
  ![0, v4819.toNat, 192]
def k0_off611 (v4781 : BitVec 32) : Fin 4 → Nat :=
  let c0_4418 : Index := 0#32
  let c3_4419 : Index := 3#32
  let c0_4420 : Index := 0#32
  let c128_i32_4393 : BitVec 32 := 128#32
  let v4782 : BitVec 32 := Scalar.muli v4781 c128_i32_4393
  let v4824 : Index := Scalar.indexCast v4782
  ![0, 3, 0, v4824.toNat]
def k0_off612 (v4781 : BitVec 32) : Fin 3 → Nat :=
  let c1_4422 : Index := 1#32
  let c128_i32_4393 : BitVec 32 := 128#32
  let v4782 : BitVec 32 := Scalar.muli v4781 c128_i32_4393
  let v4831 : Index := Scalar.indexCast v4782
  let c0_4423 : Index := 0#32
  ![1, v4831.toNat, 0]
def k0_off613 (v4781 : BitVec 32) : Fin 4 → Nat :=
  let c1_4425 : Index := 1#32
  let c0_4426 : Index := 0#32
  let c0_4427 : Index := 0#32
  let c128_i32_4393 : BitVec 32 := 128#32
  let v4782 : BitVec 32 := Scalar.muli v4781 c128_i32_4393
  let v4836 : Index := Scalar.indexCast v4782
  ![1, 0, 0, v4836.toNat]
def k0_off614 (v4781 : BitVec 32) : Fin 3 → Nat :=
  let c1_4429 : Index := 1#32
  let c128_i32_4393 : BitVec 32 := 128#32
  let v4782 : BitVec 32 := Scalar.muli v4781 c128_i32_4393
  let v4843 : Index := Scalar.indexCast v4782
  let c64_4430 : Index := 64#32
  ![1, v4843.toNat, 64]
def k0_off615 (v4781 : BitVec 32) : Fin 4 → Nat :=
  let c1_4432 : Index := 1#32
  let c1_4433 : Index := 1#32
  let c0_4434 : Index := 0#32
  let c128_i32_4393 : BitVec 32 := 128#32
  let v4782 : BitVec 32 := Scalar.muli v4781 c128_i32_4393
  let v4848 : Index := Scalar.indexCast v4782
  ![1, 1, 0, v4848.toNat]
def k0_off616 (v4781 : BitVec 32) : Fin 3 → Nat :=
  let c1_4436 : Index := 1#32
  let c128_i32_4393 : BitVec 32 := 128#32
  let v4782 : BitVec 32 := Scalar.muli v4781 c128_i32_4393
  let v4855 : Index := Scalar.indexCast v4782
  let c128_4437 : Index := 128#32
  ![1, v4855.toNat, 128]
def k0_off617 (v4781 : BitVec 32) : Fin 4 → Nat :=
  let c1_4439 : Index := 1#32
  let c2_4440 : Index := 2#32
  let c0_4441 : Index := 0#32
  let c128_i32_4393 : BitVec 32 := 128#32
  let v4782 : BitVec 32 := Scalar.muli v4781 c128_i32_4393
  let v4860 : Index := Scalar.indexCast v4782
  ![1, 2, 0, v4860.toNat]
def k0_off618 (v4781 : BitVec 32) : Fin 3 → Nat :=
  let c1_4443 : Index := 1#32
  let c128_i32_4393 : BitVec 32 := 128#32
  let v4782 : BitVec 32 := Scalar.muli v4781 c128_i32_4393
  let v4867 : Index := Scalar.indexCast v4782
  let c192_4444 : Index := 192#32
  ![1, v4867.toNat, 192]
def k0_off619 (v4781 : BitVec 32) : Fin 4 → Nat :=
  let c1_4446 : Index := 1#32
  let c3_4447 : Index := 3#32
  let c0_4448 : Index := 0#32
  let c128_i32_4393 : BitVec 32 := 128#32
  let v4782 : BitVec 32 := Scalar.muli v4781 c128_i32_4393
  let v4872 : Index := Scalar.indexCast v4782
  ![1, 3, 0, v4872.toNat]

def k0_chk123 (v4781 : BitVec 32) : Prop :=
  (∀ a, (k0_off604 v4781) a + S1x128x64.size a ≤ S2x4096x512.size a) ∧
  (∀ a, (k0_off605 v4781) a + S1x1x128x128.size a ≤ S2x4x128x4096.size a) ∧
  (∀ a, (k0_off606 v4781) a + S1x128x64.size a ≤ S2x4096x512.size a) ∧
  (∀ a, (k0_off607 v4781) a + S1x1x128x128.size a ≤ S2x4x128x4096.size a) ∧
  (∀ a, (k0_off608 v4781) a + S1x128x64.size a ≤ S2x4096x512.size a) ∧
  (∀ a, (k0_off609 v4781) a + S1x1x128x128.size a ≤ S2x4x128x4096.size a) ∧
  (∀ a, (k0_off610 v4781) a + S1x128x64.size a ≤ S2x4096x512.size a) ∧
  (∀ a, (k0_off611 v4781) a + S1x1x128x128.size a ≤ S2x4x128x4096.size a) ∧
  (∀ a, (k0_off612 v4781) a + S1x128x64.size a ≤ S2x4096x512.size a) ∧
  (∀ a, (k0_off613 v4781) a + S1x1x128x128.size a ≤ S2x4x128x4096.size a) ∧
  (∀ a, (k0_off614 v4781) a + S1x128x64.size a ≤ S2x4096x512.size a) ∧
  (∀ a, (k0_off615 v4781) a + S1x1x128x128.size a ≤ S2x4x128x4096.size a) ∧
  (∀ a, (k0_off616 v4781) a + S1x128x64.size a ≤ S2x4096x512.size a) ∧
  (∀ a, (k0_off617 v4781) a + S1x1x128x128.size a ≤ S2x4x128x4096.size a) ∧
  (∀ a, (k0_off618 v4781) a + S1x128x64.size a ≤ S2x4096x512.size a) ∧
  (∀ a, (k0_off619 v4781) a + S1x1x128x128.size a ≤ S2x4x128x4096.size a)
theorem k0_off604_inb : ∀ (v4781 : BitVec 32) (k0_hw123 : k0_chk123 v4781), ∀ a, (k0_off604 v4781) a + S1x128x64.size a ≤ S2x4096x512.size a := fun v4781 k0_hw123 => k0_hw123.1
theorem k0_off605_inb : ∀ (v4781 : BitVec 32) (k0_hw123 : k0_chk123 v4781), ∀ a, (k0_off605 v4781) a + S1x1x128x128.size a ≤ S2x4x128x4096.size a := fun v4781 k0_hw123 => k0_hw123.2.1
theorem k0_off606_inb : ∀ (v4781 : BitVec 32) (k0_hw123 : k0_chk123 v4781), ∀ a, (k0_off606 v4781) a + S1x128x64.size a ≤ S2x4096x512.size a := fun v4781 k0_hw123 => k0_hw123.2.2.1
theorem k0_off607_inb : ∀ (v4781 : BitVec 32) (k0_hw123 : k0_chk123 v4781), ∀ a, (k0_off607 v4781) a + S1x1x128x128.size a ≤ S2x4x128x4096.size a := fun v4781 k0_hw123 => k0_hw123.2.2.2.1
theorem k0_off608_inb : ∀ (v4781 : BitVec 32) (k0_hw123 : k0_chk123 v4781), ∀ a, (k0_off608 v4781) a + S1x128x64.size a ≤ S2x4096x512.size a := fun v4781 k0_hw123 => k0_hw123.2.2.2.2.1
theorem k0_off609_inb : ∀ (v4781 : BitVec 32) (k0_hw123 : k0_chk123 v4781), ∀ a, (k0_off609 v4781) a + S1x1x128x128.size a ≤ S2x4x128x4096.size a := fun v4781 k0_hw123 => k0_hw123.2.2.2.2.2.1
theorem k0_off610_inb : ∀ (v4781 : BitVec 32) (k0_hw123 : k0_chk123 v4781), ∀ a, (k0_off610 v4781) a + S1x128x64.size a ≤ S2x4096x512.size a := fun v4781 k0_hw123 => k0_hw123.2.2.2.2.2.2.1
theorem k0_off611_inb : ∀ (v4781 : BitVec 32) (k0_hw123 : k0_chk123 v4781), ∀ a, (k0_off611 v4781) a + S1x1x128x128.size a ≤ S2x4x128x4096.size a := fun v4781 k0_hw123 => k0_hw123.2.2.2.2.2.2.2.1
theorem k0_off612_inb : ∀ (v4781 : BitVec 32) (k0_hw123 : k0_chk123 v4781), ∀ a, (k0_off612 v4781) a + S1x128x64.size a ≤ S2x4096x512.size a := fun v4781 k0_hw123 => k0_hw123.2.2.2.2.2.2.2.2.1
theorem k0_off613_inb : ∀ (v4781 : BitVec 32) (k0_hw123 : k0_chk123 v4781), ∀ a, (k0_off613 v4781) a + S1x1x128x128.size a ≤ S2x4x128x4096.size a := fun v4781 k0_hw123 => k0_hw123.2.2.2.2.2.2.2.2.2.1
theorem k0_off614_inb : ∀ (v4781 : BitVec 32) (k0_hw123 : k0_chk123 v4781), ∀ a, (k0_off614 v4781) a + S1x128x64.size a ≤ S2x4096x512.size a := fun v4781 k0_hw123 => k0_hw123.2.2.2.2.2.2.2.2.2.2.1
theorem k0_off615_inb : ∀ (v4781 : BitVec 32) (k0_hw123 : k0_chk123 v4781), ∀ a, (k0_off615 v4781) a + S1x1x128x128.size a ≤ S2x4x128x4096.size a := fun v4781 k0_hw123 => k0_hw123.2.2.2.2.2.2.2.2.2.2.2.1
theorem k0_off616_inb : ∀ (v4781 : BitVec 32) (k0_hw123 : k0_chk123 v4781), ∀ a, (k0_off616 v4781) a + S1x128x64.size a ≤ S2x4096x512.size a := fun v4781 k0_hw123 => k0_hw123.2.2.2.2.2.2.2.2.2.2.2.2.1
theorem k0_off617_inb : ∀ (v4781 : BitVec 32) (k0_hw123 : k0_chk123 v4781), ∀ a, (k0_off617 v4781) a + S1x1x128x128.size a ≤ S2x4x128x4096.size a := fun v4781 k0_hw123 => k0_hw123.2.2.2.2.2.2.2.2.2.2.2.2.2.1
theorem k0_off618_inb : ∀ (v4781 : BitVec 32) (k0_hw123 : k0_chk123 v4781), ∀ a, (k0_off618 v4781) a + S1x128x64.size a ≤ S2x4096x512.size a := fun v4781 k0_hw123 => k0_hw123.2.2.2.2.2.2.2.2.2.2.2.2.2.2.1
theorem k0_off619_inb : ∀ (v4781 : BitVec 32) (k0_hw123 : k0_chk123 v4781), ∀ a, (k0_off619 v4781) a + S1x1x128x128.size a ≤ S2x4x128x4096.size a := fun v4781 k0_hw123 => k0_hw123.2.2.2.2.2.2.2.2.2.2.2.2.2.2.2

def k0_off620 (v4175 : BitVec 32) : Fin 3 → Nat :=
  let c0_i32_4451 : BitVec 32 := 0#32
  let c128_i32_3797 : BitVec 32 := 128#32
  let v4176 : BitVec 32 := Scalar.muli v4175 c128_i32_3797
  let c0_i32_4460 : BitVec 32 := 0#32
  ![0, v4176.toNat, 0]
def k0_off621 (v4887 : BitVec 32) : Fin 3 → Nat :=
  let c0_i32_4465 : BitVec 32 := 0#32
  let c128_i32_4463 : BitVec 32 := 128#32
  let v4888 : BitVec 32 := Scalar.muli v4887 c128_i32_4463
  let c0_i32_4473 : BitVec 32 := 0#32
  ![0, v4888.toNat, 0]

def k0_dev120 (v4 : BitVec 32) : Nat :=
  let c0_i32_4472 : BitVec 32 := 0#32
  let c1_i32_4471 : BitVec 32 := 1#32
  let v4889 : BitVec 32 := Scalar.muli v4 c1_i32_4471
  let v4890 : BitVec 32 := Scalar.addi c0_i32_4472 v4889
  v4890.toNat
def k0_off622 (v4195 : BitVec 32) : Fin 3 → Nat :=
  let c0_i32_4476 : BitVec 32 := 0#32
  let c128_i32_3823 : BitVec 32 := 128#32
  let v4196 : BitVec 32 := Scalar.muli v4195 c128_i32_3823
  let c256_i32_4485 : BitVec 32 := 256#32
  ![0, v4196.toNat, 256]
def k0_off623 (v4907 : BitVec 32) : Fin 3 → Nat :=
  let c0_i32_4491 : BitVec 32 := 0#32
  let c128_i32_4489 : BitVec 32 := 128#32
  let v4908 : BitVec 32 := Scalar.muli v4907 c128_i32_4489
  let c256_i32_4500 : BitVec 32 := 256#32
  ![0, v4908.toNat, 256]

def k0_dev121 (v4 : BitVec 32) : Nat :=
  let c0_i32_4499 : BitVec 32 := 0#32
  let c1_i32_4498 : BitVec 32 := 1#32
  let v4909 : BitVec 32 := Scalar.muli v4 c1_i32_4498
  let v4910 : BitVec 32 := Scalar.addi c0_i32_4499 v4909
  v4910.toNat
def k0_off624 (v4215 : BitVec 32) : Fin 3 → Nat :=
  let c0_i32_4503 : BitVec 32 := 0#32
  let c128_i32_3850 : BitVec 32 := 128#32
  let v4216 : BitVec 32 := Scalar.muli v4215 c128_i32_3850
  let c0_i32_4512 : BitVec 32 := 0#32
  ![0, v4216.toNat, 0]
def k0_off625 (v4927 : BitVec 32) : Fin 3 → Nat :=
  let c0_i32_4518 : BitVec 32 := 0#32
  let c128_i32_4516 : BitVec 32 := 128#32
  let v4928 : BitVec 32 := Scalar.muli v4927 c128_i32_4516
  let c0_i32_4527 : BitVec 32 := 0#32
  ![0, v4928.toNat, 0]

def k0_dev122 (v4 : BitVec 32) : Nat :=
  let c0_i32_4526 : BitVec 32 := 0#32
  let c1_i32_4525 : BitVec 32 := 1#32
  let v4929 : BitVec 32 := Scalar.muli v4 c1_i32_4525
  let v4930 : BitVec 32 := Scalar.addi c0_i32_4526 v4929
  v4930.toNat
def k0_off626 (v4235 : BitVec 32) : Fin 3 → Nat :=
  let c0_i32_4530 : BitVec 32 := 0#32
  let c128_i32_3877 : BitVec 32 := 128#32
  let v4236 : BitVec 32 := Scalar.muli v4235 c128_i32_3877
  let c256_i32_4539 : BitVec 32 := 256#32
  ![0, v4236.toNat, 256]
def k0_off627 (v4947 : BitVec 32) : Fin 3 → Nat :=
  let c0_i32_4545 : BitVec 32 := 0#32
  let c128_i32_4543 : BitVec 32 := 128#32
  let v4948 : BitVec 32 := Scalar.muli v4947 c128_i32_4543
  let c256_i32_4554 : BitVec 32 := 256#32
  ![0, v4948.toNat, 256]

def k0_dev123 (v4 : BitVec 32) : Nat :=
  let c0_i32_4553 : BitVec 32 := 0#32
  let c1_i32_4552 : BitVec 32 := 1#32
  let v4949 : BitVec 32 := Scalar.muli v4 c1_i32_4552
  let v4950 : BitVec 32 := Scalar.addi c0_i32_4553 v4949
  v4950.toNat
def k0_off628 (v4255 : BitVec 32) : Fin 3 → Nat :=
  let c1_i32_4557 : BitVec 32 := 1#32
  let c128_i32_3904 : BitVec 32 := 128#32
  let v4256 : BitVec 32 := Scalar.muli v4255 c128_i32_3904
  let c0_i32_4566 : BitVec 32 := 0#32
  ![1, v4256.toNat, 0]
def k0_off629 (v4967 : BitVec 32) : Fin 3 → Nat :=
  let c1_i32_4572 : BitVec 32 := 1#32
  let c128_i32_4570 : BitVec 32 := 128#32
  let v4968 : BitVec 32 := Scalar.muli v4967 c128_i32_4570
  let c0_i32_4581 : BitVec 32 := 0#32
  ![1, v4968.toNat, 0]

def k0_dev124 (v4 : BitVec 32) : Nat :=
  let c0_i32_4580 : BitVec 32 := 0#32
  let c1_i32_4579 : BitVec 32 := 1#32
  let v4969 : BitVec 32 := Scalar.muli v4 c1_i32_4579
  let v4970 : BitVec 32 := Scalar.addi c0_i32_4580 v4969
  v4970.toNat
def k0_off630 (v4275 : BitVec 32) : Fin 3 → Nat :=
  let c1_i32_4584 : BitVec 32 := 1#32
  let c128_i32_3931 : BitVec 32 := 128#32
  let v4276 : BitVec 32 := Scalar.muli v4275 c128_i32_3931
  let c256_i32_4593 : BitVec 32 := 256#32
  ![1, v4276.toNat, 256]
def k0_off631 (v4987 : BitVec 32) : Fin 3 → Nat :=
  let c1_i32_4599 : BitVec 32 := 1#32
  let c128_i32_4597 : BitVec 32 := 128#32
  let v4988 : BitVec 32 := Scalar.muli v4987 c128_i32_4597
  let c256_i32_4608 : BitVec 32 := 256#32
  ![1, v4988.toNat, 256]

def k0_dev125 (v4 : BitVec 32) : Nat :=
  let c0_i32_4607 : BitVec 32 := 0#32
  let c1_i32_4606 : BitVec 32 := 1#32
  let v4989 : BitVec 32 := Scalar.muli v4 c1_i32_4606
  let v4990 : BitVec 32 := Scalar.addi c0_i32_4607 v4989
  v4990.toNat
def k0_off632 (v4295 : BitVec 32) : Fin 3 → Nat :=
  let c1_i32_4611 : BitVec 32 := 1#32
  let c128_i32_3958 : BitVec 32 := 128#32
  let v4296 : BitVec 32 := Scalar.muli v4295 c128_i32_3958
  let c0_i32_4620 : BitVec 32 := 0#32
  ![1, v4296.toNat, 0]
def k0_off633 (v5007 : BitVec 32) : Fin 3 → Nat :=
  let c1_i32_4626 : BitVec 32 := 1#32
  let c128_i32_4624 : BitVec 32 := 128#32
  let v5008 : BitVec 32 := Scalar.muli v5007 c128_i32_4624
  let c0_i32_4635 : BitVec 32 := 0#32
  ![1, v5008.toNat, 0]

def k0_dev126 (v4 : BitVec 32) : Nat :=
  let c0_i32_4634 : BitVec 32 := 0#32
  let c1_i32_4633 : BitVec 32 := 1#32
  let v5009 : BitVec 32 := Scalar.muli v4 c1_i32_4633
  let v5010 : BitVec 32 := Scalar.addi c0_i32_4634 v5009
  v5010.toNat
def k0_off634 (v4315 : BitVec 32) : Fin 3 → Nat :=
  let c1_i32_4638 : BitVec 32 := 1#32
  let c128_i32_3985 : BitVec 32 := 128#32
  let v4316 : BitVec 32 := Scalar.muli v4315 c128_i32_3985
  let c256_i32_4647 : BitVec 32 := 256#32
  ![1, v4316.toNat, 256]
def k0_off635 (v5027 : BitVec 32) : Fin 3 → Nat :=
  let c1_i32_4653 : BitVec 32 := 1#32
  let c128_i32_4651 : BitVec 32 := 128#32
  let v5028 : BitVec 32 := Scalar.muli v5027 c128_i32_4651
  let c256_i32_4662 : BitVec 32 := 256#32
  ![1, v5028.toNat, 256]

def k0_dev127 (v4 : BitVec 32) : Nat :=
  let c0_i32_4661 : BitVec 32 := 0#32
  let c1_i32_4660 : BitVec 32 := 1#32
  let v5029 : BitVec 32 := Scalar.muli v4 c1_i32_4660
  let v5030 : BitVec 32 := Scalar.addi c0_i32_4661 v5029
  v5030.toNat
def k0_off636 (v4335 : BitVec 32) : Fin 3 → Nat :=
  let c0_i32_4665 : BitVec 32 := 0#32
  let c128_i32_4012 : BitVec 32 := 128#32
  let v4336 : BitVec 32 := Scalar.muli v4335 c128_i32_4012
  let c0_i32_4674 : BitVec 32 := 0#32
  ![0, v4336.toNat, 0]
def k0_off637 (v4355 : BitVec 32) : Fin 3 → Nat :=
  let c0_i32_4677 : BitVec 32 := 0#32
  let c128_i32_4039 : BitVec 32 := 128#32
  let v4356 : BitVec 32 := Scalar.muli v4355 c128_i32_4039
  let c256_i32_4686 : BitVec 32 := 256#32
  ![0, v4356.toNat, 256]
def k0_off638 (v4375 : BitVec 32) : Fin 3 → Nat :=
  let c0_i32_4689 : BitVec 32 := 0#32
  let c128_i32_4066 : BitVec 32 := 128#32
  let v4376 : BitVec 32 := Scalar.muli v4375 c128_i32_4066
  let c0_i32_4698 : BitVec 32 := 0#32
  ![0, v4376.toNat, 0]
def k0_off639 (v4395 : BitVec 32) : Fin 3 → Nat :=
  let c0_i32_4701 : BitVec 32 := 0#32
  let c128_i32_4093 : BitVec 32 := 128#32
  let v4396 : BitVec 32 := Scalar.muli v4395 c128_i32_4093
  let c256_i32_4710 : BitVec 32 := 256#32
  ![0, v4396.toNat, 256]
def k0_off640 (v4415 : BitVec 32) : Fin 3 → Nat :=
  let c1_i32_4713 : BitVec 32 := 1#32
  let c128_i32_4120 : BitVec 32 := 128#32
  let v4416 : BitVec 32 := Scalar.muli v4415 c128_i32_4120
  let c0_i32_4722 : BitVec 32 := 0#32
  ![1, v4416.toNat, 0]
def k0_off641 (v4435 : BitVec 32) : Fin 3 → Nat :=
  let c1_i32_4725 : BitVec 32 := 1#32
  let c128_i32_4147 : BitVec 32 := 128#32
  let v4436 : BitVec 32 := Scalar.muli v4435 c128_i32_4147
  let c256_i32_4734 : BitVec 32 := 256#32
  ![1, v4436.toNat, 256]
def k0_off642 (v4455 : BitVec 32) : Fin 3 → Nat :=
  let c1_i32_4737 : BitVec 32 := 1#32
  let c128_i32_4174 : BitVec 32 := 128#32
  let v4456 : BitVec 32 := Scalar.muli v4455 c128_i32_4174
  let c0_i32_4746 : BitVec 32 := 0#32
  ![1, v4456.toNat, 0]
def k0_off643 (v4475 : BitVec 32) : Fin 3 → Nat :=
  let c1_i32_4749 : BitVec 32 := 1#32
  let c128_i32_4201 : BitVec 32 := 128#32
  let v4476 : BitVec 32 := Scalar.muli v4475 c128_i32_4201
  let c256_i32_4758 : BitVec 32 := 256#32
  ![1, v4476.toNat, 256]
def k0_off644 (v5103 : BitVec 32) : Fin 3 → Nat :=
  let c0_4763 : Index := 0#32
  let c128_i32_4762 : BitVec 32 := 128#32
  let v5104 : BitVec 32 := Scalar.muli v5103 c128_i32_4762
  let v5105 : Index := Scalar.indexCast v5104
  let c0_4764 : Index := 0#32
  ![0, v5105.toNat, 0]

def k0_off645 (v5103 : BitVec 32) : Fin 4 → Nat :=
  let c0_4766 : Index := 0#32
  let c0_4767 : Index := 0#32
  let c0_4768 : Index := 0#32
  let c128_i32_4762 : BitVec 32 := 128#32
  let v5104 : BitVec 32 := Scalar.muli v5103 c128_i32_4762
  let v5110 : Index := Scalar.indexCast v5104
  ![0, 0, 0, v5110.toNat]
def k0_off646 (v5103 : BitVec 32) : Fin 3 → Nat :=
  let c0_4770 : Index := 0#32
  let c128_i32_4762 : BitVec 32 := 128#32
  let v5104 : BitVec 32 := Scalar.muli v5103 c128_i32_4762
  let v5117 : Index := Scalar.indexCast v5104
  let c64_4771 : Index := 64#32
  ![0, v5117.toNat, 64]
def k0_off647 (v5103 : BitVec 32) : Fin 4 → Nat :=
  let c0_4773 : Index := 0#32
  let c1_4774 : Index := 1#32
  let c0_4775 : Index := 0#32
  let c128_i32_4762 : BitVec 32 := 128#32
  let v5104 : BitVec 32 := Scalar.muli v5103 c128_i32_4762
  let v5122 : Index := Scalar.indexCast v5104
  ![0, 1, 0, v5122.toNat]
def k0_off648 (v5103 : BitVec 32) : Fin 3 → Nat :=
  let c0_4777 : Index := 0#32
  let c128_i32_4762 : BitVec 32 := 128#32
  let v5104 : BitVec 32 := Scalar.muli v5103 c128_i32_4762
  let v5129 : Index := Scalar.indexCast v5104
  let c128_4778 : Index := 128#32
  ![0, v5129.toNat, 128]
def k0_off649 (v5103 : BitVec 32) : Fin 4 → Nat :=
  let c0_4780 : Index := 0#32
  let c2_4781 : Index := 2#32
  let c0_4782 : Index := 0#32
  let c128_i32_4762 : BitVec 32 := 128#32
  let v5104 : BitVec 32 := Scalar.muli v5103 c128_i32_4762
  let v5134 : Index := Scalar.indexCast v5104
  ![0, 2, 0, v5134.toNat]
def k0_off650 (v5103 : BitVec 32) : Fin 3 → Nat :=
  let c0_4784 : Index := 0#32
  let c128_i32_4762 : BitVec 32 := 128#32
  let v5104 : BitVec 32 := Scalar.muli v5103 c128_i32_4762
  let v5141 : Index := Scalar.indexCast v5104
  let c192_4785 : Index := 192#32
  ![0, v5141.toNat, 192]
def k0_off651 (v5103 : BitVec 32) : Fin 4 → Nat :=
  let c0_4787 : Index := 0#32
  let c3_4788 : Index := 3#32
  let c0_4789 : Index := 0#32
  let c128_i32_4762 : BitVec 32 := 128#32
  let v5104 : BitVec 32 := Scalar.muli v5103 c128_i32_4762
  let v5146 : Index := Scalar.indexCast v5104
  ![0, 3, 0, v5146.toNat]
def k0_off652 (v5103 : BitVec 32) : Fin 3 → Nat :=
  let c1_4791 : Index := 1#32
  let c128_i32_4762 : BitVec 32 := 128#32
  let v5104 : BitVec 32 := Scalar.muli v5103 c128_i32_4762
  let v5153 : Index := Scalar.indexCast v5104
  let c0_4792 : Index := 0#32
  ![1, v5153.toNat, 0]
def k0_off653 (v5103 : BitVec 32) : Fin 4 → Nat :=
  let c1_4794 : Index := 1#32
  let c0_4795 : Index := 0#32
  let c0_4796 : Index := 0#32
  let c128_i32_4762 : BitVec 32 := 128#32
  let v5104 : BitVec 32 := Scalar.muli v5103 c128_i32_4762
  let v5158 : Index := Scalar.indexCast v5104
  ![1, 0, 0, v5158.toNat]
def k0_off654 (v5103 : BitVec 32) : Fin 3 → Nat :=
  let c1_4798 : Index := 1#32
  let c128_i32_4762 : BitVec 32 := 128#32
  let v5104 : BitVec 32 := Scalar.muli v5103 c128_i32_4762
  let v5165 : Index := Scalar.indexCast v5104
  let c64_4799 : Index := 64#32
  ![1, v5165.toNat, 64]
def k0_off655 (v5103 : BitVec 32) : Fin 4 → Nat :=
  let c1_4801 : Index := 1#32
  let c1_4802 : Index := 1#32
  let c0_4803 : Index := 0#32
  let c128_i32_4762 : BitVec 32 := 128#32
  let v5104 : BitVec 32 := Scalar.muli v5103 c128_i32_4762
  let v5170 : Index := Scalar.indexCast v5104
  ![1, 1, 0, v5170.toNat]
def k0_off656 (v5103 : BitVec 32) : Fin 3 → Nat :=
  let c1_4805 : Index := 1#32
  let c128_i32_4762 : BitVec 32 := 128#32
  let v5104 : BitVec 32 := Scalar.muli v5103 c128_i32_4762
  let v5177 : Index := Scalar.indexCast v5104
  let c128_4806 : Index := 128#32
  ![1, v5177.toNat, 128]
def k0_off657 (v5103 : BitVec 32) : Fin 4 → Nat :=
  let c1_4808 : Index := 1#32
  let c2_4809 : Index := 2#32
  let c0_4810 : Index := 0#32
  let c128_i32_4762 : BitVec 32 := 128#32
  let v5104 : BitVec 32 := Scalar.muli v5103 c128_i32_4762
  let v5182 : Index := Scalar.indexCast v5104
  ![1, 2, 0, v5182.toNat]
def k0_off658 (v5103 : BitVec 32) : Fin 3 → Nat :=
  let c1_4812 : Index := 1#32
  let c128_i32_4762 : BitVec 32 := 128#32
  let v5104 : BitVec 32 := Scalar.muli v5103 c128_i32_4762
  let v5189 : Index := Scalar.indexCast v5104
  let c192_4813 : Index := 192#32
  ![1, v5189.toNat, 192]
def k0_off659 (v5103 : BitVec 32) : Fin 4 → Nat :=
  let c1_4815 : Index := 1#32
  let c3_4816 : Index := 3#32
  let c0_4817 : Index := 0#32
  let c128_i32_4762 : BitVec 32 := 128#32
  let v5104 : BitVec 32 := Scalar.muli v5103 c128_i32_4762
  let v5194 : Index := Scalar.indexCast v5104
  ![1, 3, 0, v5194.toNat]

def k0_chk132 (v5103 : BitVec 32) : Prop :=
  (∀ a, (k0_off644 v5103) a + S1x128x64.size a ≤ S2x4096x512.size a) ∧
  (∀ a, (k0_off645 v5103) a + S1x1x128x128.size a ≤ S2x4x128x4096.size a) ∧
  (∀ a, (k0_off646 v5103) a + S1x128x64.size a ≤ S2x4096x512.size a) ∧
  (∀ a, (k0_off647 v5103) a + S1x1x128x128.size a ≤ S2x4x128x4096.size a) ∧
  (∀ a, (k0_off648 v5103) a + S1x128x64.size a ≤ S2x4096x512.size a) ∧
  (∀ a, (k0_off649 v5103) a + S1x1x128x128.size a ≤ S2x4x128x4096.size a) ∧
  (∀ a, (k0_off650 v5103) a + S1x128x64.size a ≤ S2x4096x512.size a) ∧
  (∀ a, (k0_off651 v5103) a + S1x1x128x128.size a ≤ S2x4x128x4096.size a) ∧
  (∀ a, (k0_off652 v5103) a + S1x128x64.size a ≤ S2x4096x512.size a) ∧
  (∀ a, (k0_off653 v5103) a + S1x1x128x128.size a ≤ S2x4x128x4096.size a) ∧
  (∀ a, (k0_off654 v5103) a + S1x128x64.size a ≤ S2x4096x512.size a) ∧
  (∀ a, (k0_off655 v5103) a + S1x1x128x128.size a ≤ S2x4x128x4096.size a) ∧
  (∀ a, (k0_off656 v5103) a + S1x128x64.size a ≤ S2x4096x512.size a) ∧
  (∀ a, (k0_off657 v5103) a + S1x1x128x128.size a ≤ S2x4x128x4096.size a) ∧
  (∀ a, (k0_off658 v5103) a + S1x128x64.size a ≤ S2x4096x512.size a) ∧
  (∀ a, (k0_off659 v5103) a + S1x1x128x128.size a ≤ S2x4x128x4096.size a)
theorem k0_off644_inb : ∀ (v5103 : BitVec 32) (k0_hw132 : k0_chk132 v5103), ∀ a, (k0_off644 v5103) a + S1x128x64.size a ≤ S2x4096x512.size a := fun v5103 k0_hw132 => k0_hw132.1
theorem k0_off645_inb : ∀ (v5103 : BitVec 32) (k0_hw132 : k0_chk132 v5103), ∀ a, (k0_off645 v5103) a + S1x1x128x128.size a ≤ S2x4x128x4096.size a := fun v5103 k0_hw132 => k0_hw132.2.1
theorem k0_off646_inb : ∀ (v5103 : BitVec 32) (k0_hw132 : k0_chk132 v5103), ∀ a, (k0_off646 v5103) a + S1x128x64.size a ≤ S2x4096x512.size a := fun v5103 k0_hw132 => k0_hw132.2.2.1
theorem k0_off647_inb : ∀ (v5103 : BitVec 32) (k0_hw132 : k0_chk132 v5103), ∀ a, (k0_off647 v5103) a + S1x1x128x128.size a ≤ S2x4x128x4096.size a := fun v5103 k0_hw132 => k0_hw132.2.2.2.1
theorem k0_off648_inb : ∀ (v5103 : BitVec 32) (k0_hw132 : k0_chk132 v5103), ∀ a, (k0_off648 v5103) a + S1x128x64.size a ≤ S2x4096x512.size a := fun v5103 k0_hw132 => k0_hw132.2.2.2.2.1
theorem k0_off649_inb : ∀ (v5103 : BitVec 32) (k0_hw132 : k0_chk132 v5103), ∀ a, (k0_off649 v5103) a + S1x1x128x128.size a ≤ S2x4x128x4096.size a := fun v5103 k0_hw132 => k0_hw132.2.2.2.2.2.1
theorem k0_off650_inb : ∀ (v5103 : BitVec 32) (k0_hw132 : k0_chk132 v5103), ∀ a, (k0_off650 v5103) a + S1x128x64.size a ≤ S2x4096x512.size a := fun v5103 k0_hw132 => k0_hw132.2.2.2.2.2.2.1
theorem k0_off651_inb : ∀ (v5103 : BitVec 32) (k0_hw132 : k0_chk132 v5103), ∀ a, (k0_off651 v5103) a + S1x1x128x128.size a ≤ S2x4x128x4096.size a := fun v5103 k0_hw132 => k0_hw132.2.2.2.2.2.2.2.1
theorem k0_off652_inb : ∀ (v5103 : BitVec 32) (k0_hw132 : k0_chk132 v5103), ∀ a, (k0_off652 v5103) a + S1x128x64.size a ≤ S2x4096x512.size a := fun v5103 k0_hw132 => k0_hw132.2.2.2.2.2.2.2.2.1
theorem k0_off653_inb : ∀ (v5103 : BitVec 32) (k0_hw132 : k0_chk132 v5103), ∀ a, (k0_off653 v5103) a + S1x1x128x128.size a ≤ S2x4x128x4096.size a := fun v5103 k0_hw132 => k0_hw132.2.2.2.2.2.2.2.2.2.1
theorem k0_off654_inb : ∀ (v5103 : BitVec 32) (k0_hw132 : k0_chk132 v5103), ∀ a, (k0_off654 v5103) a + S1x128x64.size a ≤ S2x4096x512.size a := fun v5103 k0_hw132 => k0_hw132.2.2.2.2.2.2.2.2.2.2.1
theorem k0_off655_inb : ∀ (v5103 : BitVec 32) (k0_hw132 : k0_chk132 v5103), ∀ a, (k0_off655 v5103) a + S1x1x128x128.size a ≤ S2x4x128x4096.size a := fun v5103 k0_hw132 => k0_hw132.2.2.2.2.2.2.2.2.2.2.2.1
theorem k0_off656_inb : ∀ (v5103 : BitVec 32) (k0_hw132 : k0_chk132 v5103), ∀ a, (k0_off656 v5103) a + S1x128x64.size a ≤ S2x4096x512.size a := fun v5103 k0_hw132 => k0_hw132.2.2.2.2.2.2.2.2.2.2.2.2.1
theorem k0_off657_inb : ∀ (v5103 : BitVec 32) (k0_hw132 : k0_chk132 v5103), ∀ a, (k0_off657 v5103) a + S1x1x128x128.size a ≤ S2x4x128x4096.size a := fun v5103 k0_hw132 => k0_hw132.2.2.2.2.2.2.2.2.2.2.2.2.2.1
theorem k0_off658_inb : ∀ (v5103 : BitVec 32) (k0_hw132 : k0_chk132 v5103), ∀ a, (k0_off658 v5103) a + S1x128x64.size a ≤ S2x4096x512.size a := fun v5103 k0_hw132 => k0_hw132.2.2.2.2.2.2.2.2.2.2.2.2.2.2.1
theorem k0_off659_inb : ∀ (v5103 : BitVec 32) (k0_hw132 : k0_chk132 v5103), ∀ a, (k0_off659 v5103) a + S1x1x128x128.size a ≤ S2x4x128x4096.size a := fun v5103 k0_hw132 => k0_hw132.2.2.2.2.2.2.2.2.2.2.2.2.2.2.2

def k0_off660 (v5201 : BitVec 32) : Fin 3 → Nat :=
  let c0_4822 : Index := 0#32
  let c128_i32_4821 : BitVec 32 := 128#32
  let v5202 : BitVec 32 := Scalar.muli v5201 c128_i32_4821
  let v5203 : Index := Scalar.indexCast v5202
  let c0_4823 : Index := 0#32
  ![0, v5203.toNat, 0]

def k0_off661 (v5201 : BitVec 32) : Fin 4 → Nat :=
  let c0_4825 : Index := 0#32
  let c0_4826 : Index := 0#32
  let c0_4827 : Index := 0#32
  let c128_i32_4821 : BitVec 32 := 128#32
  let v5202 : BitVec 32 := Scalar.muli v5201 c128_i32_4821
  let v5208 : Index := Scalar.indexCast v5202
  ![0, 0, 0, v5208.toNat]
def k0_off662 (v5201 : BitVec 32) : Fin 3 → Nat :=
  let c0_4829 : Index := 0#32
  let c128_i32_4821 : BitVec 32 := 128#32
  let v5202 : BitVec 32 := Scalar.muli v5201 c128_i32_4821
  let v5215 : Index := Scalar.indexCast v5202
  let c64_4830 : Index := 64#32
  ![0, v5215.toNat, 64]
def k0_off663 (v5201 : BitVec 32) : Fin 4 → Nat :=
  let c0_4832 : Index := 0#32
  let c1_4833 : Index := 1#32
  let c0_4834 : Index := 0#32
  let c128_i32_4821 : BitVec 32 := 128#32
  let v5202 : BitVec 32 := Scalar.muli v5201 c128_i32_4821
  let v5220 : Index := Scalar.indexCast v5202
  ![0, 1, 0, v5220.toNat]
def k0_off664 (v5201 : BitVec 32) : Fin 3 → Nat :=
  let c0_4836 : Index := 0#32
  let c128_i32_4821 : BitVec 32 := 128#32
  let v5202 : BitVec 32 := Scalar.muli v5201 c128_i32_4821
  let v5227 : Index := Scalar.indexCast v5202
  let c128_4837 : Index := 128#32
  ![0, v5227.toNat, 128]
def k0_off665 (v5201 : BitVec 32) : Fin 4 → Nat :=
  let c0_4839 : Index := 0#32
  let c2_4840 : Index := 2#32
  let c0_4841 : Index := 0#32
  let c128_i32_4821 : BitVec 32 := 128#32
  let v5202 : BitVec 32 := Scalar.muli v5201 c128_i32_4821
  let v5232 : Index := Scalar.indexCast v5202
  ![0, 2, 0, v5232.toNat]
def k0_off666 (v5201 : BitVec 32) : Fin 3 → Nat :=
  let c0_4843 : Index := 0#32
  let c128_i32_4821 : BitVec 32 := 128#32
  let v5202 : BitVec 32 := Scalar.muli v5201 c128_i32_4821
  let v5239 : Index := Scalar.indexCast v5202
  let c192_4844 : Index := 192#32
  ![0, v5239.toNat, 192]
def k0_off667 (v5201 : BitVec 32) : Fin 4 → Nat :=
  let c0_4846 : Index := 0#32
  let c3_4847 : Index := 3#32
  let c0_4848 : Index := 0#32
  let c128_i32_4821 : BitVec 32 := 128#32
  let v5202 : BitVec 32 := Scalar.muli v5201 c128_i32_4821
  let v5244 : Index := Scalar.indexCast v5202
  ![0, 3, 0, v5244.toNat]
def k0_off668 (v5201 : BitVec 32) : Fin 3 → Nat :=
  let c1_4850 : Index := 1#32
  let c128_i32_4821 : BitVec 32 := 128#32
  let v5202 : BitVec 32 := Scalar.muli v5201 c128_i32_4821
  let v5251 : Index := Scalar.indexCast v5202
  let c0_4851 : Index := 0#32
  ![1, v5251.toNat, 0]
def k0_off669 (v5201 : BitVec 32) : Fin 4 → Nat :=
  let c1_4853 : Index := 1#32
  let c0_4854 : Index := 0#32
  let c0_4855 : Index := 0#32
  let c128_i32_4821 : BitVec 32 := 128#32
  let v5202 : BitVec 32 := Scalar.muli v5201 c128_i32_4821
  let v5256 : Index := Scalar.indexCast v5202
  ![1, 0, 0, v5256.toNat]
def k0_off670 (v5201 : BitVec 32) : Fin 3 → Nat :=
  let c1_4857 : Index := 1#32
  let c128_i32_4821 : BitVec 32 := 128#32
  let v5202 : BitVec 32 := Scalar.muli v5201 c128_i32_4821
  let v5263 : Index := Scalar.indexCast v5202
  let c64_4858 : Index := 64#32
  ![1, v5263.toNat, 64]
def k0_off671 (v5201 : BitVec 32) : Fin 4 → Nat :=
  let c1_4860 : Index := 1#32
  let c1_4861 : Index := 1#32
  let c0_4862 : Index := 0#32
  let c128_i32_4821 : BitVec 32 := 128#32
  let v5202 : BitVec 32 := Scalar.muli v5201 c128_i32_4821
  let v5268 : Index := Scalar.indexCast v5202
  ![1, 1, 0, v5268.toNat]
def k0_off672 (v5201 : BitVec 32) : Fin 3 → Nat :=
  let c1_4864 : Index := 1#32
  let c128_i32_4821 : BitVec 32 := 128#32
  let v5202 : BitVec 32 := Scalar.muli v5201 c128_i32_4821
  let v5275 : Index := Scalar.indexCast v5202
  let c128_4865 : Index := 128#32
  ![1, v5275.toNat, 128]
def k0_off673 (v5201 : BitVec 32) : Fin 4 → Nat :=
  let c1_4867 : Index := 1#32
  let c2_4868 : Index := 2#32
  let c0_4869 : Index := 0#32
  let c128_i32_4821 : BitVec 32 := 128#32
  let v5202 : BitVec 32 := Scalar.muli v5201 c128_i32_4821
  let v5280 : Index := Scalar.indexCast v5202
  ![1, 2, 0, v5280.toNat]
def k0_off674 (v5201 : BitVec 32) : Fin 3 → Nat :=
  let c1_4871 : Index := 1#32
  let c128_i32_4821 : BitVec 32 := 128#32
  let v5202 : BitVec 32 := Scalar.muli v5201 c128_i32_4821
  let v5287 : Index := Scalar.indexCast v5202
  let c192_4872 : Index := 192#32
  ![1, v5287.toNat, 192]
def k0_off675 (v5201 : BitVec 32) : Fin 4 → Nat :=
  let c1_4874 : Index := 1#32
  let c3_4875 : Index := 3#32
  let c0_4876 : Index := 0#32
  let c128_i32_4821 : BitVec 32 := 128#32
  let v5202 : BitVec 32 := Scalar.muli v5201 c128_i32_4821
  let v5292 : Index := Scalar.indexCast v5202
  ![1, 3, 0, v5292.toNat]

def k0_chk133 (v5201 : BitVec 32) : Prop :=
  (∀ a, (k0_off660 v5201) a + S1x128x64.size a ≤ S2x4096x512.size a) ∧
  (∀ a, (k0_off661 v5201) a + S1x1x128x128.size a ≤ S2x4x128x4096.size a) ∧
  (∀ a, (k0_off662 v5201) a + S1x128x64.size a ≤ S2x4096x512.size a) ∧
  (∀ a, (k0_off663 v5201) a + S1x1x128x128.size a ≤ S2x4x128x4096.size a) ∧
  (∀ a, (k0_off664 v5201) a + S1x128x64.size a ≤ S2x4096x512.size a) ∧
  (∀ a, (k0_off665 v5201) a + S1x1x128x128.size a ≤ S2x4x128x4096.size a) ∧
  (∀ a, (k0_off666 v5201) a + S1x128x64.size a ≤ S2x4096x512.size a) ∧
  (∀ a, (k0_off667 v5201) a + S1x1x128x128.size a ≤ S2x4x128x4096.size a) ∧
  (∀ a, (k0_off668 v5201) a + S1x128x64.size a ≤ S2x4096x512.size a) ∧
  (∀ a, (k0_off669 v5201) a + S1x1x128x128.size a ≤ S2x4x128x4096.size a) ∧
  (∀ a, (k0_off670 v5201) a + S1x128x64.size a ≤ S2x4096x512.size a) ∧
  (∀ a, (k0_off671 v5201) a + S1x1x128x128.size a ≤ S2x4x128x4096.size a) ∧
  (∀ a, (k0_off672 v5201) a + S1x128x64.size a ≤ S2x4096x512.size a) ∧
  (∀ a, (k0_off673 v5201) a + S1x1x128x128.size a ≤ S2x4x128x4096.size a) ∧
  (∀ a, (k0_off674 v5201) a + S1x128x64.size a ≤ S2x4096x512.size a) ∧
  (∀ a, (k0_off675 v5201) a + S1x1x128x128.size a ≤ S2x4x128x4096.size a)
theorem k0_off660_inb : ∀ (v5201 : BitVec 32) (k0_hw133 : k0_chk133 v5201), ∀ a, (k0_off660 v5201) a + S1x128x64.size a ≤ S2x4096x512.size a := fun v5201 k0_hw133 => k0_hw133.1
theorem k0_off661_inb : ∀ (v5201 : BitVec 32) (k0_hw133 : k0_chk133 v5201), ∀ a, (k0_off661 v5201) a + S1x1x128x128.size a ≤ S2x4x128x4096.size a := fun v5201 k0_hw133 => k0_hw133.2.1
theorem k0_off662_inb : ∀ (v5201 : BitVec 32) (k0_hw133 : k0_chk133 v5201), ∀ a, (k0_off662 v5201) a + S1x128x64.size a ≤ S2x4096x512.size a := fun v5201 k0_hw133 => k0_hw133.2.2.1
theorem k0_off663_inb : ∀ (v5201 : BitVec 32) (k0_hw133 : k0_chk133 v5201), ∀ a, (k0_off663 v5201) a + S1x1x128x128.size a ≤ S2x4x128x4096.size a := fun v5201 k0_hw133 => k0_hw133.2.2.2.1
theorem k0_off664_inb : ∀ (v5201 : BitVec 32) (k0_hw133 : k0_chk133 v5201), ∀ a, (k0_off664 v5201) a + S1x128x64.size a ≤ S2x4096x512.size a := fun v5201 k0_hw133 => k0_hw133.2.2.2.2.1
theorem k0_off665_inb : ∀ (v5201 : BitVec 32) (k0_hw133 : k0_chk133 v5201), ∀ a, (k0_off665 v5201) a + S1x1x128x128.size a ≤ S2x4x128x4096.size a := fun v5201 k0_hw133 => k0_hw133.2.2.2.2.2.1
theorem k0_off666_inb : ∀ (v5201 : BitVec 32) (k0_hw133 : k0_chk133 v5201), ∀ a, (k0_off666 v5201) a + S1x128x64.size a ≤ S2x4096x512.size a := fun v5201 k0_hw133 => k0_hw133.2.2.2.2.2.2.1
theorem k0_off667_inb : ∀ (v5201 : BitVec 32) (k0_hw133 : k0_chk133 v5201), ∀ a, (k0_off667 v5201) a + S1x1x128x128.size a ≤ S2x4x128x4096.size a := fun v5201 k0_hw133 => k0_hw133.2.2.2.2.2.2.2.1
theorem k0_off668_inb : ∀ (v5201 : BitVec 32) (k0_hw133 : k0_chk133 v5201), ∀ a, (k0_off668 v5201) a + S1x128x64.size a ≤ S2x4096x512.size a := fun v5201 k0_hw133 => k0_hw133.2.2.2.2.2.2.2.2.1
theorem k0_off669_inb : ∀ (v5201 : BitVec 32) (k0_hw133 : k0_chk133 v5201), ∀ a, (k0_off669 v5201) a + S1x1x128x128.size a ≤ S2x4x128x4096.size a := fun v5201 k0_hw133 => k0_hw133.2.2.2.2.2.2.2.2.2.1
theorem k0_off670_inb : ∀ (v5201 : BitVec 32) (k0_hw133 : k0_chk133 v5201), ∀ a, (k0_off670 v5201) a + S1x128x64.size a ≤ S2x4096x512.size a := fun v5201 k0_hw133 => k0_hw133.2.2.2.2.2.2.2.2.2.2.1
theorem k0_off671_inb : ∀ (v5201 : BitVec 32) (k0_hw133 : k0_chk133 v5201), ∀ a, (k0_off671 v5201) a + S1x1x128x128.size a ≤ S2x4x128x4096.size a := fun v5201 k0_hw133 => k0_hw133.2.2.2.2.2.2.2.2.2.2.2.1
theorem k0_off672_inb : ∀ (v5201 : BitVec 32) (k0_hw133 : k0_chk133 v5201), ∀ a, (k0_off672 v5201) a + S1x128x64.size a ≤ S2x4096x512.size a := fun v5201 k0_hw133 => k0_hw133.2.2.2.2.2.2.2.2.2.2.2.2.1
theorem k0_off673_inb : ∀ (v5201 : BitVec 32) (k0_hw133 : k0_chk133 v5201), ∀ a, (k0_off673 v5201) a + S1x1x128x128.size a ≤ S2x4x128x4096.size a := fun v5201 k0_hw133 => k0_hw133.2.2.2.2.2.2.2.2.2.2.2.2.2.1
theorem k0_off674_inb : ∀ (v5201 : BitVec 32) (k0_hw133 : k0_chk133 v5201), ∀ a, (k0_off674 v5201) a + S1x128x64.size a ≤ S2x4096x512.size a := fun v5201 k0_hw133 => k0_hw133.2.2.2.2.2.2.2.2.2.2.2.2.2.2.1
theorem k0_off675_inb : ∀ (v5201 : BitVec 32) (k0_hw133 : k0_chk133 v5201), ∀ a, (k0_off675 v5201) a + S1x1x128x128.size a ≤ S2x4x128x4096.size a := fun v5201 k0_hw133 => k0_hw133.2.2.2.2.2.2.2.2.2.2.2.2.2.2.2

def k0_off676 (v5299 : BitVec 32) : Fin 3 → Nat :=
  let c0_4881 : Index := 0#32
  let c128_i32_4880 : BitVec 32 := 128#32
  let v5300 : BitVec 32 := Scalar.muli v5299 c128_i32_4880
  let v5301 : Index := Scalar.indexCast v5300
  let c0_4882 : Index := 0#32
  ![0, v5301.toNat, 0]

def k0_off677 (v5299 : BitVec 32) : Fin 4 → Nat :=
  let c0_4884 : Index := 0#32
  let c0_4885 : Index := 0#32
  let c0_4886 : Index := 0#32
  let c128_i32_4880 : BitVec 32 := 128#32
  let v5300 : BitVec 32 := Scalar.muli v5299 c128_i32_4880
  let v5306 : Index := Scalar.indexCast v5300
  ![0, 0, 0, v5306.toNat]
def k0_off678 (v5299 : BitVec 32) : Fin 3 → Nat :=
  let c0_4888 : Index := 0#32
  let c128_i32_4880 : BitVec 32 := 128#32
  let v5300 : BitVec 32 := Scalar.muli v5299 c128_i32_4880
  let v5313 : Index := Scalar.indexCast v5300
  let c64_4889 : Index := 64#32
  ![0, v5313.toNat, 64]
def k0_off679 (v5299 : BitVec 32) : Fin 4 → Nat :=
  let c0_4891 : Index := 0#32
  let c1_4892 : Index := 1#32
  let c0_4893 : Index := 0#32
  let c128_i32_4880 : BitVec 32 := 128#32
  let v5300 : BitVec 32 := Scalar.muli v5299 c128_i32_4880
  let v5318 : Index := Scalar.indexCast v5300
  ![0, 1, 0, v5318.toNat]
def k0_off680 (v5299 : BitVec 32) : Fin 3 → Nat :=
  let c0_4895 : Index := 0#32
  let c128_i32_4880 : BitVec 32 := 128#32
  let v5300 : BitVec 32 := Scalar.muli v5299 c128_i32_4880
  let v5325 : Index := Scalar.indexCast v5300
  let c128_4896 : Index := 128#32
  ![0, v5325.toNat, 128]
def k0_off681 (v5299 : BitVec 32) : Fin 4 → Nat :=
  let c0_4898 : Index := 0#32
  let c2_4899 : Index := 2#32
  let c0_4900 : Index := 0#32
  let c128_i32_4880 : BitVec 32 := 128#32
  let v5300 : BitVec 32 := Scalar.muli v5299 c128_i32_4880
  let v5330 : Index := Scalar.indexCast v5300
  ![0, 2, 0, v5330.toNat]
def k0_off682 (v5299 : BitVec 32) : Fin 3 → Nat :=
  let c0_4902 : Index := 0#32
  let c128_i32_4880 : BitVec 32 := 128#32
  let v5300 : BitVec 32 := Scalar.muli v5299 c128_i32_4880
  let v5337 : Index := Scalar.indexCast v5300
  let c192_4903 : Index := 192#32
  ![0, v5337.toNat, 192]
def k0_off683 (v5299 : BitVec 32) : Fin 4 → Nat :=
  let c0_4905 : Index := 0#32
  let c3_4906 : Index := 3#32
  let c0_4907 : Index := 0#32
  let c128_i32_4880 : BitVec 32 := 128#32
  let v5300 : BitVec 32 := Scalar.muli v5299 c128_i32_4880
  let v5342 : Index := Scalar.indexCast v5300
  ![0, 3, 0, v5342.toNat]
def k0_off684 (v5299 : BitVec 32) : Fin 3 → Nat :=
  let c1_4909 : Index := 1#32
  let c128_i32_4880 : BitVec 32 := 128#32
  let v5300 : BitVec 32 := Scalar.muli v5299 c128_i32_4880
  let v5349 : Index := Scalar.indexCast v5300
  let c0_4910 : Index := 0#32
  ![1, v5349.toNat, 0]
def k0_off685 (v5299 : BitVec 32) : Fin 4 → Nat :=
  let c1_4912 : Index := 1#32
  let c0_4913 : Index := 0#32
  let c0_4914 : Index := 0#32
  let c128_i32_4880 : BitVec 32 := 128#32
  let v5300 : BitVec 32 := Scalar.muli v5299 c128_i32_4880
  let v5354 : Index := Scalar.indexCast v5300
  ![1, 0, 0, v5354.toNat]
def k0_off686 (v5299 : BitVec 32) : Fin 3 → Nat :=
  let c1_4916 : Index := 1#32
  let c128_i32_4880 : BitVec 32 := 128#32
  let v5300 : BitVec 32 := Scalar.muli v5299 c128_i32_4880
  let v5361 : Index := Scalar.indexCast v5300
  let c64_4917 : Index := 64#32
  ![1, v5361.toNat, 64]
def k0_off687 (v5299 : BitVec 32) : Fin 4 → Nat :=
  let c1_4919 : Index := 1#32
  let c1_4920 : Index := 1#32
  let c0_4921 : Index := 0#32
  let c128_i32_4880 : BitVec 32 := 128#32
  let v5300 : BitVec 32 := Scalar.muli v5299 c128_i32_4880
  let v5366 : Index := Scalar.indexCast v5300
  ![1, 1, 0, v5366.toNat]
def k0_off688 (v5299 : BitVec 32) : Fin 3 → Nat :=
  let c1_4923 : Index := 1#32
  let c128_i32_4880 : BitVec 32 := 128#32
  let v5300 : BitVec 32 := Scalar.muli v5299 c128_i32_4880
  let v5373 : Index := Scalar.indexCast v5300
  let c128_4924 : Index := 128#32
  ![1, v5373.toNat, 128]
def k0_off689 (v5299 : BitVec 32) : Fin 4 → Nat :=
  let c1_4926 : Index := 1#32
  let c2_4927 : Index := 2#32
  let c0_4928 : Index := 0#32
  let c128_i32_4880 : BitVec 32 := 128#32
  let v5300 : BitVec 32 := Scalar.muli v5299 c128_i32_4880
  let v5378 : Index := Scalar.indexCast v5300
  ![1, 2, 0, v5378.toNat]
def k0_off690 (v5299 : BitVec 32) : Fin 3 → Nat :=
  let c1_4930 : Index := 1#32
  let c128_i32_4880 : BitVec 32 := 128#32
  let v5300 : BitVec 32 := Scalar.muli v5299 c128_i32_4880
  let v5385 : Index := Scalar.indexCast v5300
  let c192_4931 : Index := 192#32
  ![1, v5385.toNat, 192]
def k0_off691 (v5299 : BitVec 32) : Fin 4 → Nat :=
  let c1_4933 : Index := 1#32
  let c3_4934 : Index := 3#32
  let c0_4935 : Index := 0#32
  let c128_i32_4880 : BitVec 32 := 128#32
  let v5300 : BitVec 32 := Scalar.muli v5299 c128_i32_4880
  let v5390 : Index := Scalar.indexCast v5300
  ![1, 3, 0, v5390.toNat]

def k0_chk134 (v5299 : BitVec 32) : Prop :=
  (∀ a, (k0_off676 v5299) a + S1x128x64.size a ≤ S2x4096x512.size a) ∧
  (∀ a, (k0_off677 v5299) a + S1x1x128x128.size a ≤ S2x4x128x4096.size a) ∧
  (∀ a, (k0_off678 v5299) a + S1x128x64.size a ≤ S2x4096x512.size a) ∧
  (∀ a, (k0_off679 v5299) a + S1x1x128x128.size a ≤ S2x4x128x4096.size a) ∧
  (∀ a, (k0_off680 v5299) a + S1x128x64.size a ≤ S2x4096x512.size a) ∧
  (∀ a, (k0_off681 v5299) a + S1x1x128x128.size a ≤ S2x4x128x4096.size a) ∧
  (∀ a, (k0_off682 v5299) a + S1x128x64.size a ≤ S2x4096x512.size a) ∧
  (∀ a, (k0_off683 v5299) a + S1x1x128x128.size a ≤ S2x4x128x4096.size a) ∧
  (∀ a, (k0_off684 v5299) a + S1x128x64.size a ≤ S2x4096x512.size a) ∧
  (∀ a, (k0_off685 v5299) a + S1x1x128x128.size a ≤ S2x4x128x4096.size a) ∧
  (∀ a, (k0_off686 v5299) a + S1x128x64.size a ≤ S2x4096x512.size a) ∧
  (∀ a, (k0_off687 v5299) a + S1x1x128x128.size a ≤ S2x4x128x4096.size a) ∧
  (∀ a, (k0_off688 v5299) a + S1x128x64.size a ≤ S2x4096x512.size a) ∧
  (∀ a, (k0_off689 v5299) a + S1x1x128x128.size a ≤ S2x4x128x4096.size a) ∧
  (∀ a, (k0_off690 v5299) a + S1x128x64.size a ≤ S2x4096x512.size a) ∧
  (∀ a, (k0_off691 v5299) a + S1x1x128x128.size a ≤ S2x4x128x4096.size a)
theorem k0_off676_inb : ∀ (v5299 : BitVec 32) (k0_hw134 : k0_chk134 v5299), ∀ a, (k0_off676 v5299) a + S1x128x64.size a ≤ S2x4096x512.size a := fun v5299 k0_hw134 => k0_hw134.1
theorem k0_off677_inb : ∀ (v5299 : BitVec 32) (k0_hw134 : k0_chk134 v5299), ∀ a, (k0_off677 v5299) a + S1x1x128x128.size a ≤ S2x4x128x4096.size a := fun v5299 k0_hw134 => k0_hw134.2.1
theorem k0_off678_inb : ∀ (v5299 : BitVec 32) (k0_hw134 : k0_chk134 v5299), ∀ a, (k0_off678 v5299) a + S1x128x64.size a ≤ S2x4096x512.size a := fun v5299 k0_hw134 => k0_hw134.2.2.1
theorem k0_off679_inb : ∀ (v5299 : BitVec 32) (k0_hw134 : k0_chk134 v5299), ∀ a, (k0_off679 v5299) a + S1x1x128x128.size a ≤ S2x4x128x4096.size a := fun v5299 k0_hw134 => k0_hw134.2.2.2.1
theorem k0_off680_inb : ∀ (v5299 : BitVec 32) (k0_hw134 : k0_chk134 v5299), ∀ a, (k0_off680 v5299) a + S1x128x64.size a ≤ S2x4096x512.size a := fun v5299 k0_hw134 => k0_hw134.2.2.2.2.1
theorem k0_off681_inb : ∀ (v5299 : BitVec 32) (k0_hw134 : k0_chk134 v5299), ∀ a, (k0_off681 v5299) a + S1x1x128x128.size a ≤ S2x4x128x4096.size a := fun v5299 k0_hw134 => k0_hw134.2.2.2.2.2.1
theorem k0_off682_inb : ∀ (v5299 : BitVec 32) (k0_hw134 : k0_chk134 v5299), ∀ a, (k0_off682 v5299) a + S1x128x64.size a ≤ S2x4096x512.size a := fun v5299 k0_hw134 => k0_hw134.2.2.2.2.2.2.1
theorem k0_off683_inb : ∀ (v5299 : BitVec 32) (k0_hw134 : k0_chk134 v5299), ∀ a, (k0_off683 v5299) a + S1x1x128x128.size a ≤ S2x4x128x4096.size a := fun v5299 k0_hw134 => k0_hw134.2.2.2.2.2.2.2.1
theorem k0_off684_inb : ∀ (v5299 : BitVec 32) (k0_hw134 : k0_chk134 v5299), ∀ a, (k0_off684 v5299) a + S1x128x64.size a ≤ S2x4096x512.size a := fun v5299 k0_hw134 => k0_hw134.2.2.2.2.2.2.2.2.1
theorem k0_off685_inb : ∀ (v5299 : BitVec 32) (k0_hw134 : k0_chk134 v5299), ∀ a, (k0_off685 v5299) a + S1x1x128x128.size a ≤ S2x4x128x4096.size a := fun v5299 k0_hw134 => k0_hw134.2.2.2.2.2.2.2.2.2.1
theorem k0_off686_inb : ∀ (v5299 : BitVec 32) (k0_hw134 : k0_chk134 v5299), ∀ a, (k0_off686 v5299) a + S1x128x64.size a ≤ S2x4096x512.size a := fun v5299 k0_hw134 => k0_hw134.2.2.2.2.2.2.2.2.2.2.1
theorem k0_off687_inb : ∀ (v5299 : BitVec 32) (k0_hw134 : k0_chk134 v5299), ∀ a, (k0_off687 v5299) a + S1x1x128x128.size a ≤ S2x4x128x4096.size a := fun v5299 k0_hw134 => k0_hw134.2.2.2.2.2.2.2.2.2.2.2.1
theorem k0_off688_inb : ∀ (v5299 : BitVec 32) (k0_hw134 : k0_chk134 v5299), ∀ a, (k0_off688 v5299) a + S1x128x64.size a ≤ S2x4096x512.size a := fun v5299 k0_hw134 => k0_hw134.2.2.2.2.2.2.2.2.2.2.2.2.1
theorem k0_off689_inb : ∀ (v5299 : BitVec 32) (k0_hw134 : k0_chk134 v5299), ∀ a, (k0_off689 v5299) a + S1x1x128x128.size a ≤ S2x4x128x4096.size a := fun v5299 k0_hw134 => k0_hw134.2.2.2.2.2.2.2.2.2.2.2.2.2.1
theorem k0_off690_inb : ∀ (v5299 : BitVec 32) (k0_hw134 : k0_chk134 v5299), ∀ a, (k0_off690 v5299) a + S1x128x64.size a ≤ S2x4096x512.size a := fun v5299 k0_hw134 => k0_hw134.2.2.2.2.2.2.2.2.2.2.2.2.2.2.1
theorem k0_off691_inb : ∀ (v5299 : BitVec 32) (k0_hw134 : k0_chk134 v5299), ∀ a, (k0_off691 v5299) a + S1x1x128x128.size a ≤ S2x4x128x4096.size a := fun v5299 k0_hw134 => k0_hw134.2.2.2.2.2.2.2.2.2.2.2.2.2.2.2

def k0_off692 (v5397 : BitVec 32) : Fin 3 → Nat :=
  let c0_4940 : Index := 0#32
  let c128_i32_4939 : BitVec 32 := 128#32
  let v5398 : BitVec 32 := Scalar.muli v5397 c128_i32_4939
  let v5399 : Index := Scalar.indexCast v5398
  let c0_4941 : Index := 0#32
  ![0, v5399.toNat, 0]

def k0_off693 (v5397 : BitVec 32) : Fin 4 → Nat :=
  let c0_4943 : Index := 0#32
  let c0_4944 : Index := 0#32
  let c0_4945 : Index := 0#32
  let c128_i32_4939 : BitVec 32 := 128#32
  let v5398 : BitVec 32 := Scalar.muli v5397 c128_i32_4939
  let v5404 : Index := Scalar.indexCast v5398
  ![0, 0, 0, v5404.toNat]
def k0_off694 (v5397 : BitVec 32) : Fin 3 → Nat :=
  let c0_4947 : Index := 0#32
  let c128_i32_4939 : BitVec 32 := 128#32
  let v5398 : BitVec 32 := Scalar.muli v5397 c128_i32_4939
  let v5411 : Index := Scalar.indexCast v5398
  let c64_4948 : Index := 64#32
  ![0, v5411.toNat, 64]
def k0_off695 (v5397 : BitVec 32) : Fin 4 → Nat :=
  let c0_4950 : Index := 0#32
  let c1_4951 : Index := 1#32
  let c0_4952 : Index := 0#32
  let c128_i32_4939 : BitVec 32 := 128#32
  let v5398 : BitVec 32 := Scalar.muli v5397 c128_i32_4939
  let v5416 : Index := Scalar.indexCast v5398
  ![0, 1, 0, v5416.toNat]
def k0_off696 (v5397 : BitVec 32) : Fin 3 → Nat :=
  let c0_4954 : Index := 0#32
  let c128_i32_4939 : BitVec 32 := 128#32
  let v5398 : BitVec 32 := Scalar.muli v5397 c128_i32_4939
  let v5423 : Index := Scalar.indexCast v5398
  let c128_4955 : Index := 128#32
  ![0, v5423.toNat, 128]
def k0_off697 (v5397 : BitVec 32) : Fin 4 → Nat :=
  let c0_4957 : Index := 0#32
  let c2_4958 : Index := 2#32
  let c0_4959 : Index := 0#32
  let c128_i32_4939 : BitVec 32 := 128#32
  let v5398 : BitVec 32 := Scalar.muli v5397 c128_i32_4939
  let v5428 : Index := Scalar.indexCast v5398
  ![0, 2, 0, v5428.toNat]
def k0_off698 (v5397 : BitVec 32) : Fin 3 → Nat :=
  let c0_4961 : Index := 0#32
  let c128_i32_4939 : BitVec 32 := 128#32
  let v5398 : BitVec 32 := Scalar.muli v5397 c128_i32_4939
  let v5435 : Index := Scalar.indexCast v5398
  let c192_4962 : Index := 192#32
  ![0, v5435.toNat, 192]
def k0_off699 (v5397 : BitVec 32) : Fin 4 → Nat :=
  let c0_4964 : Index := 0#32
  let c3_4965 : Index := 3#32
  let c0_4966 : Index := 0#32
  let c128_i32_4939 : BitVec 32 := 128#32
  let v5398 : BitVec 32 := Scalar.muli v5397 c128_i32_4939
  let v5440 : Index := Scalar.indexCast v5398
  ![0, 3, 0, v5440.toNat]
def k0_off700 (v5397 : BitVec 32) : Fin 3 → Nat :=
  let c1_4968 : Index := 1#32
  let c128_i32_4939 : BitVec 32 := 128#32
  let v5398 : BitVec 32 := Scalar.muli v5397 c128_i32_4939
  let v5447 : Index := Scalar.indexCast v5398
  let c0_4969 : Index := 0#32
  ![1, v5447.toNat, 0]
def k0_off701 (v5397 : BitVec 32) : Fin 4 → Nat :=
  let c1_4971 : Index := 1#32
  let c0_4972 : Index := 0#32
  let c0_4973 : Index := 0#32
  let c128_i32_4939 : BitVec 32 := 128#32
  let v5398 : BitVec 32 := Scalar.muli v5397 c128_i32_4939
  let v5452 : Index := Scalar.indexCast v5398
  ![1, 0, 0, v5452.toNat]
def k0_off702 (v5397 : BitVec 32) : Fin 3 → Nat :=
  let c1_4975 : Index := 1#32
  let c128_i32_4939 : BitVec 32 := 128#32
  let v5398 : BitVec 32 := Scalar.muli v5397 c128_i32_4939
  let v5459 : Index := Scalar.indexCast v5398
  let c64_4976 : Index := 64#32
  ![1, v5459.toNat, 64]
def k0_off703 (v5397 : BitVec 32) : Fin 4 → Nat :=
  let c1_4978 : Index := 1#32
  let c1_4979 : Index := 1#32
  let c0_4980 : Index := 0#32
  let c128_i32_4939 : BitVec 32 := 128#32
  let v5398 : BitVec 32 := Scalar.muli v5397 c128_i32_4939
  let v5464 : Index := Scalar.indexCast v5398
  ![1, 1, 0, v5464.toNat]
def k0_off704 (v5397 : BitVec 32) : Fin 3 → Nat :=
  let c1_4982 : Index := 1#32
  let c128_i32_4939 : BitVec 32 := 128#32
  let v5398 : BitVec 32 := Scalar.muli v5397 c128_i32_4939
  let v5471 : Index := Scalar.indexCast v5398
  let c128_4983 : Index := 128#32
  ![1, v5471.toNat, 128]
def k0_off705 (v5397 : BitVec 32) : Fin 4 → Nat :=
  let c1_4985 : Index := 1#32
  let c2_4986 : Index := 2#32
  let c0_4987 : Index := 0#32
  let c128_i32_4939 : BitVec 32 := 128#32
  let v5398 : BitVec 32 := Scalar.muli v5397 c128_i32_4939
  let v5476 : Index := Scalar.indexCast v5398
  ![1, 2, 0, v5476.toNat]
def k0_off706 (v5397 : BitVec 32) : Fin 3 → Nat :=
  let c1_4989 : Index := 1#32
  let c128_i32_4939 : BitVec 32 := 128#32
  let v5398 : BitVec 32 := Scalar.muli v5397 c128_i32_4939
  let v5483 : Index := Scalar.indexCast v5398
  let c192_4990 : Index := 192#32
  ![1, v5483.toNat, 192]
def k0_off707 (v5397 : BitVec 32) : Fin 4 → Nat :=
  let c1_4992 : Index := 1#32
  let c3_4993 : Index := 3#32
  let c0_4994 : Index := 0#32
  let c128_i32_4939 : BitVec 32 := 128#32
  let v5398 : BitVec 32 := Scalar.muli v5397 c128_i32_4939
  let v5488 : Index := Scalar.indexCast v5398
  ![1, 3, 0, v5488.toNat]

def k0_chk135 (v5397 : BitVec 32) : Prop :=
  (∀ a, (k0_off692 v5397) a + S1x128x64.size a ≤ S2x4096x512.size a) ∧
  (∀ a, (k0_off693 v5397) a + S1x1x128x128.size a ≤ S2x4x128x4096.size a) ∧
  (∀ a, (k0_off694 v5397) a + S1x128x64.size a ≤ S2x4096x512.size a) ∧
  (∀ a, (k0_off695 v5397) a + S1x1x128x128.size a ≤ S2x4x128x4096.size a) ∧
  (∀ a, (k0_off696 v5397) a + S1x128x64.size a ≤ S2x4096x512.size a) ∧
  (∀ a, (k0_off697 v5397) a + S1x1x128x128.size a ≤ S2x4x128x4096.size a) ∧
  (∀ a, (k0_off698 v5397) a + S1x128x64.size a ≤ S2x4096x512.size a) ∧
  (∀ a, (k0_off699 v5397) a + S1x1x128x128.size a ≤ S2x4x128x4096.size a) ∧
  (∀ a, (k0_off700 v5397) a + S1x128x64.size a ≤ S2x4096x512.size a) ∧
  (∀ a, (k0_off701 v5397) a + S1x1x128x128.size a ≤ S2x4x128x4096.size a) ∧
  (∀ a, (k0_off702 v5397) a + S1x128x64.size a ≤ S2x4096x512.size a) ∧
  (∀ a, (k0_off703 v5397) a + S1x1x128x128.size a ≤ S2x4x128x4096.size a) ∧
  (∀ a, (k0_off704 v5397) a + S1x128x64.size a ≤ S2x4096x512.size a) ∧
  (∀ a, (k0_off705 v5397) a + S1x1x128x128.size a ≤ S2x4x128x4096.size a) ∧
  (∀ a, (k0_off706 v5397) a + S1x128x64.size a ≤ S2x4096x512.size a) ∧
  (∀ a, (k0_off707 v5397) a + S1x1x128x128.size a ≤ S2x4x128x4096.size a)
theorem k0_off692_inb : ∀ (v5397 : BitVec 32) (k0_hw135 : k0_chk135 v5397), ∀ a, (k0_off692 v5397) a + S1x128x64.size a ≤ S2x4096x512.size a := fun v5397 k0_hw135 => k0_hw135.1
theorem k0_off693_inb : ∀ (v5397 : BitVec 32) (k0_hw135 : k0_chk135 v5397), ∀ a, (k0_off693 v5397) a + S1x1x128x128.size a ≤ S2x4x128x4096.size a := fun v5397 k0_hw135 => k0_hw135.2.1
theorem k0_off694_inb : ∀ (v5397 : BitVec 32) (k0_hw135 : k0_chk135 v5397), ∀ a, (k0_off694 v5397) a + S1x128x64.size a ≤ S2x4096x512.size a := fun v5397 k0_hw135 => k0_hw135.2.2.1
theorem k0_off695_inb : ∀ (v5397 : BitVec 32) (k0_hw135 : k0_chk135 v5397), ∀ a, (k0_off695 v5397) a + S1x1x128x128.size a ≤ S2x4x128x4096.size a := fun v5397 k0_hw135 => k0_hw135.2.2.2.1
theorem k0_off696_inb : ∀ (v5397 : BitVec 32) (k0_hw135 : k0_chk135 v5397), ∀ a, (k0_off696 v5397) a + S1x128x64.size a ≤ S2x4096x512.size a := fun v5397 k0_hw135 => k0_hw135.2.2.2.2.1
theorem k0_off697_inb : ∀ (v5397 : BitVec 32) (k0_hw135 : k0_chk135 v5397), ∀ a, (k0_off697 v5397) a + S1x1x128x128.size a ≤ S2x4x128x4096.size a := fun v5397 k0_hw135 => k0_hw135.2.2.2.2.2.1
theorem k0_off698_inb : ∀ (v5397 : BitVec 32) (k0_hw135 : k0_chk135 v5397), ∀ a, (k0_off698 v5397) a + S1x128x64.size a ≤ S2x4096x512.size a := fun v5397 k0_hw135 => k0_hw135.2.2.2.2.2.2.1
theorem k0_off699_inb : ∀ (v5397 : BitVec 32) (k0_hw135 : k0_chk135 v5397), ∀ a, (k0_off699 v5397) a + S1x1x128x128.size a ≤ S2x4x128x4096.size a := fun v5397 k0_hw135 => k0_hw135.2.2.2.2.2.2.2.1
theorem k0_off700_inb : ∀ (v5397 : BitVec 32) (k0_hw135 : k0_chk135 v5397), ∀ a, (k0_off700 v5397) a + S1x128x64.size a ≤ S2x4096x512.size a := fun v5397 k0_hw135 => k0_hw135.2.2.2.2.2.2.2.2.1
theorem k0_off701_inb : ∀ (v5397 : BitVec 32) (k0_hw135 : k0_chk135 v5397), ∀ a, (k0_off701 v5397) a + S1x1x128x128.size a ≤ S2x4x128x4096.size a := fun v5397 k0_hw135 => k0_hw135.2.2.2.2.2.2.2.2.2.1
theorem k0_off702_inb : ∀ (v5397 : BitVec 32) (k0_hw135 : k0_chk135 v5397), ∀ a, (k0_off702 v5397) a + S1x128x64.size a ≤ S2x4096x512.size a := fun v5397 k0_hw135 => k0_hw135.2.2.2.2.2.2.2.2.2.2.1
theorem k0_off703_inb : ∀ (v5397 : BitVec 32) (k0_hw135 : k0_chk135 v5397), ∀ a, (k0_off703 v5397) a + S1x1x128x128.size a ≤ S2x4x128x4096.size a := fun v5397 k0_hw135 => k0_hw135.2.2.2.2.2.2.2.2.2.2.2.1
theorem k0_off704_inb : ∀ (v5397 : BitVec 32) (k0_hw135 : k0_chk135 v5397), ∀ a, (k0_off704 v5397) a + S1x128x64.size a ≤ S2x4096x512.size a := fun v5397 k0_hw135 => k0_hw135.2.2.2.2.2.2.2.2.2.2.2.2.1
theorem k0_off705_inb : ∀ (v5397 : BitVec 32) (k0_hw135 : k0_chk135 v5397), ∀ a, (k0_off705 v5397) a + S1x1x128x128.size a ≤ S2x4x128x4096.size a := fun v5397 k0_hw135 => k0_hw135.2.2.2.2.2.2.2.2.2.2.2.2.2.1
theorem k0_off706_inb : ∀ (v5397 : BitVec 32) (k0_hw135 : k0_chk135 v5397), ∀ a, (k0_off706 v5397) a + S1x128x64.size a ≤ S2x4096x512.size a := fun v5397 k0_hw135 => k0_hw135.2.2.2.2.2.2.2.2.2.2.2.2.2.2.1
theorem k0_off707_inb : ∀ (v5397 : BitVec 32) (k0_hw135 : k0_chk135 v5397), ∀ a, (k0_off707 v5397) a + S1x1x128x128.size a ≤ S2x4x128x4096.size a := fun v5397 k0_hw135 => k0_hw135.2.2.2.2.2.2.2.2.2.2.2.2.2.2.2

def k0_off708 (v4887 : BitVec 32) : Fin 3 → Nat :=
  let c0_i32_4997 : BitVec 32 := 0#32
  let c128_i32_4463 : BitVec 32 := 128#32
  let v4888 : BitVec 32 := Scalar.muli v4887 c128_i32_4463
  let c0_i32_5006 : BitVec 32 := 0#32
  ![0, v4888.toNat, 0]
def k0_off709 (v4907 : BitVec 32) : Fin 3 → Nat :=
  let c0_i32_5009 : BitVec 32 := 0#32
  let c128_i32_4489 : BitVec 32 := 128#32
  let v4908 : BitVec 32 := Scalar.muli v4907 c128_i32_4489
  let c256_i32_5018 : BitVec 32 := 256#32
  ![0, v4908.toNat, 256]
def k0_off710 (v4927 : BitVec 32) : Fin 3 → Nat :=
  let c0_i32_5021 : BitVec 32 := 0#32
  let c128_i32_4516 : BitVec 32 := 128#32
  let v4928 : BitVec 32 := Scalar.muli v4927 c128_i32_4516
  let c0_i32_5030 : BitVec 32 := 0#32
  ![0, v4928.toNat, 0]
def k0_off711 (v4947 : BitVec 32) : Fin 3 → Nat :=
  let c0_i32_5033 : BitVec 32 := 0#32
  let c128_i32_4543 : BitVec 32 := 128#32
  let v4948 : BitVec 32 := Scalar.muli v4947 c128_i32_4543
  let c256_i32_5042 : BitVec 32 := 256#32
  ![0, v4948.toNat, 256]
def k0_off712 (v4967 : BitVec 32) : Fin 3 → Nat :=
  let c1_i32_5045 : BitVec 32 := 1#32
  let c128_i32_4570 : BitVec 32 := 128#32
  let v4968 : BitVec 32 := Scalar.muli v4967 c128_i32_4570
  let c0_i32_5054 : BitVec 32 := 0#32
  ![1, v4968.toNat, 0]
def k0_off713 (v4987 : BitVec 32) : Fin 3 → Nat :=
  let c1_i32_5057 : BitVec 32 := 1#32
  let c128_i32_4597 : BitVec 32 := 128#32
  let v4988 : BitVec 32 := Scalar.muli v4987 c128_i32_4597
  let c256_i32_5066 : BitVec 32 := 256#32
  ![1, v4988.toNat, 256]
def k0_off714 (v5007 : BitVec 32) : Fin 3 → Nat :=
  let c1_i32_5069 : BitVec 32 := 1#32
  let c128_i32_4624 : BitVec 32 := 128#32
  let v5008 : BitVec 32 := Scalar.muli v5007 c128_i32_4624
  let c0_i32_5078 : BitVec 32 := 0#32
  ![1, v5008.toNat, 0]
def k0_off715 (v5027 : BitVec 32) : Fin 3 → Nat :=
  let c1_i32_5081 : BitVec 32 := 1#32
  let c128_i32_4651 : BitVec 32 := 128#32
  let v5028 : BitVec 32 := Scalar.muli v5027 c128_i32_4651
  let c256_i32_5090 : BitVec 32 := 256#32
  ![1, v5028.toNat, 256]
def k0_off716 (v5559 : BitVec 32) : Fin 3 → Nat :=
  let c0_5094 : Index := 0#32
  let c128_i32_5093 : BitVec 32 := 128#32
  let v5560 : BitVec 32 := Scalar.muli v5559 c128_i32_5093
  let v5561 : Index := Scalar.indexCast v5560
  let c0_5095 : Index := 0#32
  ![0, v5561.toNat, 0]

def k0_off717 (v5559 : BitVec 32) : Fin 4 → Nat :=
  let c0_5097 : Index := 0#32
  let c0_5098 : Index := 0#32
  let c0_5099 : Index := 0#32
  let c128_i32_5093 : BitVec 32 := 128#32
  let v5560 : BitVec 32 := Scalar.muli v5559 c128_i32_5093
  let v5566 : Index := Scalar.indexCast v5560
  ![0, 0, 0, v5566.toNat]
def k0_off718 (v5559 : BitVec 32) : Fin 3 → Nat :=
  let c0_5101 : Index := 0#32
  let c128_i32_5093 : BitVec 32 := 128#32
  let v5560 : BitVec 32 := Scalar.muli v5559 c128_i32_5093
  let v5573 : Index := Scalar.indexCast v5560
  let c64_5102 : Index := 64#32
  ![0, v5573.toNat, 64]
def k0_off719 (v5559 : BitVec 32) : Fin 4 → Nat :=
  let c0_5104 : Index := 0#32
  let c1_5105 : Index := 1#32
  let c0_5106 : Index := 0#32
  let c128_i32_5093 : BitVec 32 := 128#32
  let v5560 : BitVec 32 := Scalar.muli v5559 c128_i32_5093
  let v5578 : Index := Scalar.indexCast v5560
  ![0, 1, 0, v5578.toNat]
def k0_off720 (v5559 : BitVec 32) : Fin 3 → Nat :=
  let c0_5108 : Index := 0#32
  let c128_i32_5093 : BitVec 32 := 128#32
  let v5560 : BitVec 32 := Scalar.muli v5559 c128_i32_5093
  let v5585 : Index := Scalar.indexCast v5560
  let c128_5109 : Index := 128#32
  ![0, v5585.toNat, 128]
def k0_off721 (v5559 : BitVec 32) : Fin 4 → Nat :=
  let c0_5111 : Index := 0#32
  let c2_5112 : Index := 2#32
  let c0_5113 : Index := 0#32
  let c128_i32_5093 : BitVec 32 := 128#32
  let v5560 : BitVec 32 := Scalar.muli v5559 c128_i32_5093
  let v5590 : Index := Scalar.indexCast v5560
  ![0, 2, 0, v5590.toNat]
def k0_off722 (v5559 : BitVec 32) : Fin 3 → Nat :=
  let c0_5115 : Index := 0#32
  let c128_i32_5093 : BitVec 32 := 128#32
  let v5560 : BitVec 32 := Scalar.muli v5559 c128_i32_5093
  let v5597 : Index := Scalar.indexCast v5560
  let c192_5116 : Index := 192#32
  ![0, v5597.toNat, 192]
def k0_off723 (v5559 : BitVec 32) : Fin 4 → Nat :=
  let c0_5118 : Index := 0#32
  let c3_5119 : Index := 3#32
  let c0_5120 : Index := 0#32
  let c128_i32_5093 : BitVec 32 := 128#32
  let v5560 : BitVec 32 := Scalar.muli v5559 c128_i32_5093
  let v5602 : Index := Scalar.indexCast v5560
  ![0, 3, 0, v5602.toNat]
def k0_off724 (v5559 : BitVec 32) : Fin 3 → Nat :=
  let c1_5122 : Index := 1#32
  let c128_i32_5093 : BitVec 32 := 128#32
  let v5560 : BitVec 32 := Scalar.muli v5559 c128_i32_5093
  let v5609 : Index := Scalar.indexCast v5560
  let c0_5123 : Index := 0#32
  ![1, v5609.toNat, 0]
def k0_off725 (v5559 : BitVec 32) : Fin 4 → Nat :=
  let c1_5125 : Index := 1#32
  let c0_5126 : Index := 0#32
  let c0_5127 : Index := 0#32
  let c128_i32_5093 : BitVec 32 := 128#32
  let v5560 : BitVec 32 := Scalar.muli v5559 c128_i32_5093
  let v5614 : Index := Scalar.indexCast v5560
  ![1, 0, 0, v5614.toNat]
def k0_off726 (v5559 : BitVec 32) : Fin 3 → Nat :=
  let c1_5129 : Index := 1#32
  let c128_i32_5093 : BitVec 32 := 128#32
  let v5560 : BitVec 32 := Scalar.muli v5559 c128_i32_5093
  let v5621 : Index := Scalar.indexCast v5560
  let c64_5130 : Index := 64#32
  ![1, v5621.toNat, 64]
def k0_off727 (v5559 : BitVec 32) : Fin 4 → Nat :=
  let c1_5132 : Index := 1#32
  let c1_5133 : Index := 1#32
  let c0_5134 : Index := 0#32
  let c128_i32_5093 : BitVec 32 := 128#32
  let v5560 : BitVec 32 := Scalar.muli v5559 c128_i32_5093
  let v5626 : Index := Scalar.indexCast v5560
  ![1, 1, 0, v5626.toNat]
def k0_off728 (v5559 : BitVec 32) : Fin 3 → Nat :=
  let c1_5136 : Index := 1#32
  let c128_i32_5093 : BitVec 32 := 128#32
  let v5560 : BitVec 32 := Scalar.muli v5559 c128_i32_5093
  let v5633 : Index := Scalar.indexCast v5560
  let c128_5137 : Index := 128#32
  ![1, v5633.toNat, 128]
def k0_off729 (v5559 : BitVec 32) : Fin 4 → Nat :=
  let c1_5139 : Index := 1#32
  let c2_5140 : Index := 2#32
  let c0_5141 : Index := 0#32
  let c128_i32_5093 : BitVec 32 := 128#32
  let v5560 : BitVec 32 := Scalar.muli v5559 c128_i32_5093
  let v5638 : Index := Scalar.indexCast v5560
  ![1, 2, 0, v5638.toNat]
def k0_off730 (v5559 : BitVec 32) : Fin 3 → Nat :=
  let c1_5143 : Index := 1#32
  let c128_i32_5093 : BitVec 32 := 128#32
  let v5560 : BitVec 32 := Scalar.muli v5559 c128_i32_5093
  let v5645 : Index := Scalar.indexCast v5560
  let c192_5144 : Index := 192#32
  ![1, v5645.toNat, 192]
def k0_off731 (v5559 : BitVec 32) : Fin 4 → Nat :=
  let c1_5146 : Index := 1#32
  let c3_5147 : Index := 3#32
  let c0_5148 : Index := 0#32
  let c128_i32_5093 : BitVec 32 := 128#32
  let v5560 : BitVec 32 := Scalar.muli v5559 c128_i32_5093
  let v5650 : Index := Scalar.indexCast v5560
  ![1, 3, 0, v5650.toNat]

def k0_chk136 (v5559 : BitVec 32) : Prop :=
  (∀ a, (k0_off716 v5559) a + S1x128x64.size a ≤ S2x4096x512.size a) ∧
  (∀ a, (k0_off717 v5559) a + S1x1x128x128.size a ≤ S2x4x128x4096.size a) ∧
  (∀ a, (k0_off718 v5559) a + S1x128x64.size a ≤ S2x4096x512.size a) ∧
  (∀ a, (k0_off719 v5559) a + S1x1x128x128.size a ≤ S2x4x128x4096.size a) ∧
  (∀ a, (k0_off720 v5559) a + S1x128x64.size a ≤ S2x4096x512.size a) ∧
  (∀ a, (k0_off721 v5559) a + S1x1x128x128.size a ≤ S2x4x128x4096.size a) ∧
  (∀ a, (k0_off722 v5559) a + S1x128x64.size a ≤ S2x4096x512.size a) ∧
  (∀ a, (k0_off723 v5559) a + S1x1x128x128.size a ≤ S2x4x128x4096.size a) ∧
  (∀ a, (k0_off724 v5559) a + S1x128x64.size a ≤ S2x4096x512.size a) ∧
  (∀ a, (k0_off725 v5559) a + S1x1x128x128.size a ≤ S2x4x128x4096.size a) ∧
  (∀ a, (k0_off726 v5559) a + S1x128x64.size a ≤ S2x4096x512.size a) ∧
  (∀ a, (k0_off727 v5559) a + S1x1x128x128.size a ≤ S2x4x128x4096.size a) ∧
  (∀ a, (k0_off728 v5559) a + S1x128x64.size a ≤ S2x4096x512.size a) ∧
  (∀ a, (k0_off729 v5559) a + S1x1x128x128.size a ≤ S2x4x128x4096.size a) ∧
  (∀ a, (k0_off730 v5559) a + S1x128x64.size a ≤ S2x4096x512.size a) ∧
  (∀ a, (k0_off731 v5559) a + S1x1x128x128.size a ≤ S2x4x128x4096.size a)
theorem k0_off716_inb : ∀ (v5559 : BitVec 32) (k0_hw136 : k0_chk136 v5559), ∀ a, (k0_off716 v5559) a + S1x128x64.size a ≤ S2x4096x512.size a := fun v5559 k0_hw136 => k0_hw136.1
theorem k0_off717_inb : ∀ (v5559 : BitVec 32) (k0_hw136 : k0_chk136 v5559), ∀ a, (k0_off717 v5559) a + S1x1x128x128.size a ≤ S2x4x128x4096.size a := fun v5559 k0_hw136 => k0_hw136.2.1
theorem k0_off718_inb : ∀ (v5559 : BitVec 32) (k0_hw136 : k0_chk136 v5559), ∀ a, (k0_off718 v5559) a + S1x128x64.size a ≤ S2x4096x512.size a := fun v5559 k0_hw136 => k0_hw136.2.2.1
theorem k0_off719_inb : ∀ (v5559 : BitVec 32) (k0_hw136 : k0_chk136 v5559), ∀ a, (k0_off719 v5559) a + S1x1x128x128.size a ≤ S2x4x128x4096.size a := fun v5559 k0_hw136 => k0_hw136.2.2.2.1
theorem k0_off720_inb : ∀ (v5559 : BitVec 32) (k0_hw136 : k0_chk136 v5559), ∀ a, (k0_off720 v5559) a + S1x128x64.size a ≤ S2x4096x512.size a := fun v5559 k0_hw136 => k0_hw136.2.2.2.2.1
theorem k0_off721_inb : ∀ (v5559 : BitVec 32) (k0_hw136 : k0_chk136 v5559), ∀ a, (k0_off721 v5559) a + S1x1x128x128.size a ≤ S2x4x128x4096.size a := fun v5559 k0_hw136 => k0_hw136.2.2.2.2.2.1
theorem k0_off722_inb : ∀ (v5559 : BitVec 32) (k0_hw136 : k0_chk136 v5559), ∀ a, (k0_off722 v5559) a + S1x128x64.size a ≤ S2x4096x512.size a := fun v5559 k0_hw136 => k0_hw136.2.2.2.2.2.2.1
theorem k0_off723_inb : ∀ (v5559 : BitVec 32) (k0_hw136 : k0_chk136 v5559), ∀ a, (k0_off723 v5559) a + S1x1x128x128.size a ≤ S2x4x128x4096.size a := fun v5559 k0_hw136 => k0_hw136.2.2.2.2.2.2.2.1
theorem k0_off724_inb : ∀ (v5559 : BitVec 32) (k0_hw136 : k0_chk136 v5559), ∀ a, (k0_off724 v5559) a + S1x128x64.size a ≤ S2x4096x512.size a := fun v5559 k0_hw136 => k0_hw136.2.2.2.2.2.2.2.2.1
theorem k0_off725_inb : ∀ (v5559 : BitVec 32) (k0_hw136 : k0_chk136 v5559), ∀ a, (k0_off725 v5559) a + S1x1x128x128.size a ≤ S2x4x128x4096.size a := fun v5559 k0_hw136 => k0_hw136.2.2.2.2.2.2.2.2.2.1
theorem k0_off726_inb : ∀ (v5559 : BitVec 32) (k0_hw136 : k0_chk136 v5559), ∀ a, (k0_off726 v5559) a + S1x128x64.size a ≤ S2x4096x512.size a := fun v5559 k0_hw136 => k0_hw136.2.2.2.2.2.2.2.2.2.2.1
theorem k0_off727_inb : ∀ (v5559 : BitVec 32) (k0_hw136 : k0_chk136 v5559), ∀ a, (k0_off727 v5559) a + S1x1x128x128.size a ≤ S2x4x128x4096.size a := fun v5559 k0_hw136 => k0_hw136.2.2.2.2.2.2.2.2.2.2.2.1
theorem k0_off728_inb : ∀ (v5559 : BitVec 32) (k0_hw136 : k0_chk136 v5559), ∀ a, (k0_off728 v5559) a + S1x128x64.size a ≤ S2x4096x512.size a := fun v5559 k0_hw136 => k0_hw136.2.2.2.2.2.2.2.2.2.2.2.2.1
theorem k0_off729_inb : ∀ (v5559 : BitVec 32) (k0_hw136 : k0_chk136 v5559), ∀ a, (k0_off729 v5559) a + S1x1x128x128.size a ≤ S2x4x128x4096.size a := fun v5559 k0_hw136 => k0_hw136.2.2.2.2.2.2.2.2.2.2.2.2.2.1
theorem k0_off730_inb : ∀ (v5559 : BitVec 32) (k0_hw136 : k0_chk136 v5559), ∀ a, (k0_off730 v5559) a + S1x128x64.size a ≤ S2x4096x512.size a := fun v5559 k0_hw136 => k0_hw136.2.2.2.2.2.2.2.2.2.2.2.2.2.2.1
theorem k0_off731_inb : ∀ (v5559 : BitVec 32) (k0_hw136 : k0_chk136 v5559), ∀ a, (k0_off731 v5559) a + S1x1x128x128.size a ≤ S2x4x128x4096.size a := fun v5559 k0_hw136 => k0_hw136.2.2.2.2.2.2.2.2.2.2.2.2.2.2.2

def k0_off732 (v5657 : BitVec 32) : Fin 3 → Nat :=
  let c0_5153 : Index := 0#32
  let c128_i32_5152 : BitVec 32 := 128#32
  let v5658 : BitVec 32 := Scalar.muli v5657 c128_i32_5152
  let v5659 : Index := Scalar.indexCast v5658
  let c0_5154 : Index := 0#32
  ![0, v5659.toNat, 0]

def k0_off733 (v5657 : BitVec 32) : Fin 4 → Nat :=
  let c0_5156 : Index := 0#32
  let c0_5157 : Index := 0#32
  let c0_5158 : Index := 0#32
  let c128_i32_5152 : BitVec 32 := 128#32
  let v5658 : BitVec 32 := Scalar.muli v5657 c128_i32_5152
  let v5664 : Index := Scalar.indexCast v5658
  ![0, 0, 0, v5664.toNat]
def k0_off734 (v5657 : BitVec 32) : Fin 3 → Nat :=
  let c0_5160 : Index := 0#32
  let c128_i32_5152 : BitVec 32 := 128#32
  let v5658 : BitVec 32 := Scalar.muli v5657 c128_i32_5152
  let v5671 : Index := Scalar.indexCast v5658
  let c64_5161 : Index := 64#32
  ![0, v5671.toNat, 64]
def k0_off735 (v5657 : BitVec 32) : Fin 4 → Nat :=
  let c0_5163 : Index := 0#32
  let c1_5164 : Index := 1#32
  let c0_5165 : Index := 0#32
  let c128_i32_5152 : BitVec 32 := 128#32
  let v5658 : BitVec 32 := Scalar.muli v5657 c128_i32_5152
  let v5676 : Index := Scalar.indexCast v5658
  ![0, 1, 0, v5676.toNat]
def k0_off736 (v5657 : BitVec 32) : Fin 3 → Nat :=
  let c0_5167 : Index := 0#32
  let c128_i32_5152 : BitVec 32 := 128#32
  let v5658 : BitVec 32 := Scalar.muli v5657 c128_i32_5152
  let v5683 : Index := Scalar.indexCast v5658
  let c128_5168 : Index := 128#32
  ![0, v5683.toNat, 128]
def k0_off737 (v5657 : BitVec 32) : Fin 4 → Nat :=
  let c0_5170 : Index := 0#32
  let c2_5171 : Index := 2#32
  let c0_5172 : Index := 0#32
  let c128_i32_5152 : BitVec 32 := 128#32
  let v5658 : BitVec 32 := Scalar.muli v5657 c128_i32_5152
  let v5688 : Index := Scalar.indexCast v5658
  ![0, 2, 0, v5688.toNat]
def k0_off738 (v5657 : BitVec 32) : Fin 3 → Nat :=
  let c0_5174 : Index := 0#32
  let c128_i32_5152 : BitVec 32 := 128#32
  let v5658 : BitVec 32 := Scalar.muli v5657 c128_i32_5152
  let v5695 : Index := Scalar.indexCast v5658
  let c192_5175 : Index := 192#32
  ![0, v5695.toNat, 192]
def k0_off739 (v5657 : BitVec 32) : Fin 4 → Nat :=
  let c0_5177 : Index := 0#32
  let c3_5178 : Index := 3#32
  let c0_5179 : Index := 0#32
  let c128_i32_5152 : BitVec 32 := 128#32
  let v5658 : BitVec 32 := Scalar.muli v5657 c128_i32_5152
  let v5700 : Index := Scalar.indexCast v5658
  ![0, 3, 0, v5700.toNat]
def k0_off740 (v5657 : BitVec 32) : Fin 3 → Nat :=
  let c1_5181 : Index := 1#32
  let c128_i32_5152 : BitVec 32 := 128#32
  let v5658 : BitVec 32 := Scalar.muli v5657 c128_i32_5152
  let v5707 : Index := Scalar.indexCast v5658
  let c0_5182 : Index := 0#32
  ![1, v5707.toNat, 0]
def k0_off741 (v5657 : BitVec 32) : Fin 4 → Nat :=
  let c1_5184 : Index := 1#32
  let c0_5185 : Index := 0#32
  let c0_5186 : Index := 0#32
  let c128_i32_5152 : BitVec 32 := 128#32
  let v5658 : BitVec 32 := Scalar.muli v5657 c128_i32_5152
  let v5712 : Index := Scalar.indexCast v5658
  ![1, 0, 0, v5712.toNat]
def k0_off742 (v5657 : BitVec 32) : Fin 3 → Nat :=
  let c1_5188 : Index := 1#32
  let c128_i32_5152 : BitVec 32 := 128#32
  let v5658 : BitVec 32 := Scalar.muli v5657 c128_i32_5152
  let v5719 : Index := Scalar.indexCast v5658
  let c64_5189 : Index := 64#32
  ![1, v5719.toNat, 64]
def k0_off743 (v5657 : BitVec 32) : Fin 4 → Nat :=
  let c1_5191 : Index := 1#32
  let c1_5192 : Index := 1#32
  let c0_5193 : Index := 0#32
  let c128_i32_5152 : BitVec 32 := 128#32
  let v5658 : BitVec 32 := Scalar.muli v5657 c128_i32_5152
  let v5724 : Index := Scalar.indexCast v5658
  ![1, 1, 0, v5724.toNat]
def k0_off744 (v5657 : BitVec 32) : Fin 3 → Nat :=
  let c1_5195 : Index := 1#32
  let c128_i32_5152 : BitVec 32 := 128#32
  let v5658 : BitVec 32 := Scalar.muli v5657 c128_i32_5152
  let v5731 : Index := Scalar.indexCast v5658
  let c128_5196 : Index := 128#32
  ![1, v5731.toNat, 128]
def k0_off745 (v5657 : BitVec 32) : Fin 4 → Nat :=
  let c1_5198 : Index := 1#32
  let c2_5199 : Index := 2#32
  let c0_5200 : Index := 0#32
  let c128_i32_5152 : BitVec 32 := 128#32
  let v5658 : BitVec 32 := Scalar.muli v5657 c128_i32_5152
  let v5736 : Index := Scalar.indexCast v5658
  ![1, 2, 0, v5736.toNat]
def k0_off746 (v5657 : BitVec 32) : Fin 3 → Nat :=
  let c1_5202 : Index := 1#32
  let c128_i32_5152 : BitVec 32 := 128#32
  let v5658 : BitVec 32 := Scalar.muli v5657 c128_i32_5152
  let v5743 : Index := Scalar.indexCast v5658
  let c192_5203 : Index := 192#32
  ![1, v5743.toNat, 192]
def k0_off747 (v5657 : BitVec 32) : Fin 4 → Nat :=
  let c1_5205 : Index := 1#32
  let c3_5206 : Index := 3#32
  let c0_5207 : Index := 0#32
  let c128_i32_5152 : BitVec 32 := 128#32
  let v5658 : BitVec 32 := Scalar.muli v5657 c128_i32_5152
  let v5748 : Index := Scalar.indexCast v5658
  ![1, 3, 0, v5748.toNat]

def k0_chk137 (v5657 : BitVec 32) : Prop :=
  (∀ a, (k0_off732 v5657) a + S1x128x64.size a ≤ S2x4096x512.size a) ∧
  (∀ a, (k0_off733 v5657) a + S1x1x128x128.size a ≤ S2x4x128x4096.size a) ∧
  (∀ a, (k0_off734 v5657) a + S1x128x64.size a ≤ S2x4096x512.size a) ∧
  (∀ a, (k0_off735 v5657) a + S1x1x128x128.size a ≤ S2x4x128x4096.size a) ∧
  (∀ a, (k0_off736 v5657) a + S1x128x64.size a ≤ S2x4096x512.size a) ∧
  (∀ a, (k0_off737 v5657) a + S1x1x128x128.size a ≤ S2x4x128x4096.size a) ∧
  (∀ a, (k0_off738 v5657) a + S1x128x64.size a ≤ S2x4096x512.size a) ∧
  (∀ a, (k0_off739 v5657) a + S1x1x128x128.size a ≤ S2x4x128x4096.size a) ∧
  (∀ a, (k0_off740 v5657) a + S1x128x64.size a ≤ S2x4096x512.size a) ∧
  (∀ a, (k0_off741 v5657) a + S1x1x128x128.size a ≤ S2x4x128x4096.size a) ∧
  (∀ a, (k0_off742 v5657) a + S1x128x64.size a ≤ S2x4096x512.size a) ∧
  (∀ a, (k0_off743 v5657) a + S1x1x128x128.size a ≤ S2x4x128x4096.size a) ∧
  (∀ a, (k0_off744 v5657) a + S1x128x64.size a ≤ S2x4096x512.size a) ∧
  (∀ a, (k0_off745 v5657) a + S1x1x128x128.size a ≤ S2x4x128x4096.size a) ∧
  (∀ a, (k0_off746 v5657) a + S1x128x64.size a ≤ S2x4096x512.size a) ∧
  (∀ a, (k0_off747 v5657) a + S1x1x128x128.size a ≤ S2x4x128x4096.size a)
theorem k0_off732_inb : ∀ (v5657 : BitVec 32) (k0_hw137 : k0_chk137 v5657), ∀ a, (k0_off732 v5657) a + S1x128x64.size a ≤ S2x4096x512.size a := fun v5657 k0_hw137 => k0_hw137.1
theorem k0_off733_inb : ∀ (v5657 : BitVec 32) (k0_hw137 : k0_chk137 v5657), ∀ a, (k0_off733 v5657) a + S1x1x128x128.size a ≤ S2x4x128x4096.size a := fun v5657 k0_hw137 => k0_hw137.2.1
theorem k0_off734_inb : ∀ (v5657 : BitVec 32) (k0_hw137 : k0_chk137 v5657), ∀ a, (k0_off734 v5657) a + S1x128x64.size a ≤ S2x4096x512.size a := fun v5657 k0_hw137 => k0_hw137.2.2.1
theorem k0_off735_inb : ∀ (v5657 : BitVec 32) (k0_hw137 : k0_chk137 v5657), ∀ a, (k0_off735 v5657) a + S1x1x128x128.size a ≤ S2x4x128x4096.size a := fun v5657 k0_hw137 => k0_hw137.2.2.2.1
theorem k0_off736_inb : ∀ (v5657 : BitVec 32) (k0_hw137 : k0_chk137 v5657), ∀ a, (k0_off736 v5657) a + S1x128x64.size a ≤ S2x4096x512.size a := fun v5657 k0_hw137 => k0_hw137.2.2.2.2.1
theorem k0_off737_inb : ∀ (v5657 : BitVec 32) (k0_hw137 : k0_chk137 v5657), ∀ a, (k0_off737 v5657) a + S1x1x128x128.size a ≤ S2x4x128x4096.size a := fun v5657 k0_hw137 => k0_hw137.2.2.2.2.2.1
theorem k0_off738_inb : ∀ (v5657 : BitVec 32) (k0_hw137 : k0_chk137 v5657), ∀ a, (k0_off738 v5657) a + S1x128x64.size a ≤ S2x4096x512.size a := fun v5657 k0_hw137 => k0_hw137.2.2.2.2.2.2.1
theorem k0_off739_inb : ∀ (v5657 : BitVec 32) (k0_hw137 : k0_chk137 v5657), ∀ a, (k0_off739 v5657) a + S1x1x128x128.size a ≤ S2x4x128x4096.size a := fun v5657 k0_hw137 => k0_hw137.2.2.2.2.2.2.2.1
theorem k0_off740_inb : ∀ (v5657 : BitVec 32) (k0_hw137 : k0_chk137 v5657), ∀ a, (k0_off740 v5657) a + S1x128x64.size a ≤ S2x4096x512.size a := fun v5657 k0_hw137 => k0_hw137.2.2.2.2.2.2.2.2.1
theorem k0_off741_inb : ∀ (v5657 : BitVec 32) (k0_hw137 : k0_chk137 v5657), ∀ a, (k0_off741 v5657) a + S1x1x128x128.size a ≤ S2x4x128x4096.size a := fun v5657 k0_hw137 => k0_hw137.2.2.2.2.2.2.2.2.2.1
theorem k0_off742_inb : ∀ (v5657 : BitVec 32) (k0_hw137 : k0_chk137 v5657), ∀ a, (k0_off742 v5657) a + S1x128x64.size a ≤ S2x4096x512.size a := fun v5657 k0_hw137 => k0_hw137.2.2.2.2.2.2.2.2.2.2.1
theorem k0_off743_inb : ∀ (v5657 : BitVec 32) (k0_hw137 : k0_chk137 v5657), ∀ a, (k0_off743 v5657) a + S1x1x128x128.size a ≤ S2x4x128x4096.size a := fun v5657 k0_hw137 => k0_hw137.2.2.2.2.2.2.2.2.2.2.2.1
theorem k0_off744_inb : ∀ (v5657 : BitVec 32) (k0_hw137 : k0_chk137 v5657), ∀ a, (k0_off744 v5657) a + S1x128x64.size a ≤ S2x4096x512.size a := fun v5657 k0_hw137 => k0_hw137.2.2.2.2.2.2.2.2.2.2.2.2.1
theorem k0_off745_inb : ∀ (v5657 : BitVec 32) (k0_hw137 : k0_chk137 v5657), ∀ a, (k0_off745 v5657) a + S1x1x128x128.size a ≤ S2x4x128x4096.size a := fun v5657 k0_hw137 => k0_hw137.2.2.2.2.2.2.2.2.2.2.2.2.2.1
theorem k0_off746_inb : ∀ (v5657 : BitVec 32) (k0_hw137 : k0_chk137 v5657), ∀ a, (k0_off746 v5657) a + S1x128x64.size a ≤ S2x4096x512.size a := fun v5657 k0_hw137 => k0_hw137.2.2.2.2.2.2.2.2.2.2.2.2.2.2.1
theorem k0_off747_inb : ∀ (v5657 : BitVec 32) (k0_hw137 : k0_chk137 v5657), ∀ a, (k0_off747 v5657) a + S1x1x128x128.size a ≤ S2x4x128x4096.size a := fun v5657 k0_hw137 => k0_hw137.2.2.2.2.2.2.2.2.2.2.2.2.2.2.2

def k0_off748 (d0 : Dev nD) : Fin 3 → Nat :=
  let c0_i32_5289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_29 : BitVec 32 := 128#32
  let v83 : BitVec 32 := Scalar.muli v2 c128_i32_29
  let c0_i32_5293 : BitVec 32 := 0#32
  ![0, v83.toNat, 0]
def k0_off749 (d0 : Dev nD) : Fin 3 → Nat :=
  let c0_i32_5318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_66 : BitVec 32 := 128#32
  let v122 : BitVec 32 := Scalar.muli v2 c128_i32_66
  let c256_i32_5322 : BitVec 32 := 256#32
  ![0, v122.toNat, 256]
def k0_off750 (d0 : Dev nD) : Fin 3 → Nat :=
  let c1_i32_5347 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_107 : BitVec 32 := 128#32
  let v175 : BitVec 32 := Scalar.muli v2 c128_i32_107
  let c0_i32_5351 : BitVec 32 := 0#32
  ![1, v175.toNat, 0]
def k0_off751 (d0 : Dev nD) : Fin 3 → Nat :=
  let c1_i32_5376 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_145 : BitVec 32 := 128#32
  let v214 : BitVec 32 := Scalar.muli v2 c128_i32_145
  let c256_i32_5380 : BitVec 32 := 256#32
  ![1, v214.toNat, 256]
def k0_off752 (v5 : BitVec 32) : Fin 3 → Nat :=
  let c0_i32_5405 : BitVec 32 := 0#32
  let c128_i32_344 : BitVec 32 := 128#32
  let v519 : BitVec 32 := Scalar.muli v5 c128_i32_344
  let c0_i32_5413 : BitVec 32 := 0#32
  ![0, v519.toNat, 0]
def k0_off753 (v5 : BitVec 32) : Fin 3 → Nat :=
  let c0_i32_5416 : BitVec 32 := 0#32
  let c128_i32_357 : BitVec 32 := 128#32
  let v530 : BitVec 32 := Scalar.muli v5 c128_i32_357
  let c256_i32_5424 : BitVec 32 := 256#32
  ![0, v530.toNat, 256]
def k0_off754 (v5 : BitVec 32) : Fin 3 → Nat :=
  let c1_i32_5449 : BitVec 32 := 1#32
  let c128_i32_396 : BitVec 32 := 128#32
  let v563 : BitVec 32 := Scalar.muli v5 c128_i32_396
  let c0_i32_5457 : BitVec 32 := 0#32
  ![1, v563.toNat, 0]
def k0_off755 (v5 : BitVec 32) : Fin 3 → Nat :=
  let c1_i32_5460 : BitVec 32 := 1#32
  let c128_i32_409 : BitVec 32 := 128#32
  let v574 : BitVec 32 := Scalar.muli v5 c128_i32_409
  let c256_i32_5468 : BitVec 32 := 256#32
  ![1, v574.toNat, 256]
def k0_off756 (v615 : BitVec 32) : Fin 3 → Nat :=
  let c0_i32_5493 : BitVec 32 := 0#32
  let c128_i32_462 : BitVec 32 := 128#32
  let v616 : BitVec 32 := Scalar.muli v615 c128_i32_462
  let c0_i32_5501 : BitVec 32 := 0#32
  ![0, v616.toNat, 0]

def k0_chk4 (v615 : BitVec 32) : Prop :=
  (∀ a, (k0_off45 v615) a + S1x128x256.size a ≤ S2x4096x512.size a) ∧
  (∀ (hinb : ∀ a, (k0_off45 v615) a + S1x128x256.size a ≤ S2x4096x512.size a), (Rect.unit (s := S2x4096x512) (k0_off45 v615) S1x128x256.size hinb).WholeWords (EltTy.packing .bf16)) ∧
  (∀ a, (k0_off140 v615) a + S1x128x256.size a ≤ S2x4096x512.size a) ∧
  (∀ (hinb : ∀ a, (k0_off140 v615) a + S1x128x256.size a ≤ S2x4096x512.size a), (Rect.unit (s := S2x4096x512) (k0_off140 v615) S1x128x256.size hinb).WholeWords (EltTy.packing .bf16)) ∧
  (∀ a, (k0_off756 v615) a + S1x128x256.size a ≤ S2x4096x512.size a) ∧
  (∀ (hinb : ∀ a, (k0_off756 v615) a + S1x128x256.size a ≤ S2x4096x512.size a), (Rect.unit (s := S2x4096x512) (k0_off756 v615) S1x128x256.size hinb).WholeWords (EltTy.packing .bf16))
theorem k0_off45_inb : ∀ (v615 : BitVec 32) (k0_hw4 : k0_chk4 v615), ∀ a, (k0_off45 v615) a + S1x128x256.size a ≤ S2x4096x512.size a := fun v615 k0_hw4 => k0_hw4.1
theorem k0_off45_wordsbf16 : ∀ (v615 : BitVec 32) (k0_hw4 : k0_chk4 v615), (Rect.unit (s := S2x4096x512) (k0_off45 v615) S1x128x256.size (k0_off45_inb v615 k0_hw4)).WholeWords (EltTy.packing .bf16) := fun v615 k0_hw4 => k0_hw4.2.1 (k0_off45_inb v615 k0_hw4)
theorem k0_off140_inb : ∀ (v615 : BitVec 32) (k0_hw4 : k0_chk4 v615), ∀ a, (k0_off140 v615) a + S1x128x256.size a ≤ S2x4096x512.size a := fun v615 k0_hw4 => k0_hw4.2.2.1
theorem k0_off140_wordsbf16 : ∀ (v615 : BitVec 32) (k0_hw4 : k0_chk4 v615), (Rect.unit (s := S2x4096x512) (k0_off140 v615) S1x128x256.size (k0_off140_inb v615 k0_hw4)).WholeWords (EltTy.packing .bf16) := fun v615 k0_hw4 => k0_hw4.2.2.2.1 (k0_off140_inb v615 k0_hw4)
theorem k0_off756_inb : ∀ (v615 : BitVec 32) (k0_hw4 : k0_chk4 v615), ∀ a, (k0_off756 v615) a + S1x128x256.size a ≤ S2x4096x512.size a := fun v615 k0_hw4 => k0_hw4.2.2.2.2.1
theorem k0_off756_wordsbf16 : ∀ (v615 : BitVec 32) (k0_hw4 : k0_chk4 v615), (Rect.unit (s := S2x4096x512) (k0_off756 v615) S1x128x256.size (k0_off756_inb v615 k0_hw4)).WholeWords (EltTy.packing .bf16) := fun v615 k0_hw4 => k0_hw4.2.2.2.2.2 (k0_off756_inb v615 k0_hw4)

def k0_off757 (v635 : BitVec 32) : Fin 3 → Nat :=
  let c0_i32_5504 : BitVec 32 := 0#32
  let c128_i32_489 : BitVec 32 := 128#32
  let v636 : BitVec 32 := Scalar.muli v635 c128_i32_489
  let c256_i32_5512 : BitVec 32 := 256#32
  ![0, v636.toNat, 256]

def k0_chk5 (v635 : BitVec 32) : Prop :=
  (∀ a, (k0_off47 v635) a + S1x128x256.size a ≤ S2x4096x512.size a) ∧
  (∀ (hinb : ∀ a, (k0_off47 v635) a + S1x128x256.size a ≤ S2x4096x512.size a), (Rect.unit (s := S2x4096x512) (k0_off47 v635) S1x128x256.size hinb).WholeWords (EltTy.packing .bf16)) ∧
  (∀ a, (k0_off142 v635) a + S1x128x256.size a ≤ S2x4096x512.size a) ∧
  (∀ (hinb : ∀ a, (k0_off142 v635) a + S1x128x256.size a ≤ S2x4096x512.size a), (Rect.unit (s := S2x4096x512) (k0_off142 v635) S1x128x256.size hinb).WholeWords (EltTy.packing .bf16)) ∧
  (∀ a, (k0_off757 v635) a + S1x128x256.size a ≤ S2x4096x512.size a) ∧
  (∀ (hinb : ∀ a, (k0_off757 v635) a + S1x128x256.size a ≤ S2x4096x512.size a), (Rect.unit (s := S2x4096x512) (k0_off757 v635) S1x128x256.size hinb).WholeWords (EltTy.packing .bf16))
theorem k0_off47_inb : ∀ (v635 : BitVec 32) (k0_hw5 : k0_chk5 v635), ∀ a, (k0_off47 v635) a + S1x128x256.size a ≤ S2x4096x512.size a := fun v635 k0_hw5 => k0_hw5.1
theorem k0_off47_wordsbf16 : ∀ (v635 : BitVec 32) (k0_hw5 : k0_chk5 v635), (Rect.unit (s := S2x4096x512) (k0_off47 v635) S1x128x256.size (k0_off47_inb v635 k0_hw5)).WholeWords (EltTy.packing .bf16) := fun v635 k0_hw5 => k0_hw5.2.1 (k0_off47_inb v635 k0_hw5)
theorem k0_off142_inb : ∀ (v635 : BitVec 32) (k0_hw5 : k0_chk5 v635), ∀ a, (k0_off142 v635) a + S1x128x256.size a ≤ S2x4096x512.size a := fun v635 k0_hw5 => k0_hw5.2.2.1
theorem k0_off142_wordsbf16 : ∀ (v635 : BitVec 32) (k0_hw5 : k0_chk5 v635), (Rect.unit (s := S2x4096x512) (k0_off142 v635) S1x128x256.size (k0_off142_inb v635 k0_hw5)).WholeWords (EltTy.packing .bf16) := fun v635 k0_hw5 => k0_hw5.2.2.2.1 (k0_off142_inb v635 k0_hw5)
theorem k0_off757_inb : ∀ (v635 : BitVec 32) (k0_hw5 : k0_chk5 v635), ∀ a, (k0_off757 v635) a + S1x128x256.size a ≤ S2x4096x512.size a := fun v635 k0_hw5 => k0_hw5.2.2.2.2.1
theorem k0_off757_wordsbf16 : ∀ (v635 : BitVec 32) (k0_hw5 : k0_chk5 v635), (Rect.unit (s := S2x4096x512) (k0_off757 v635) S1x128x256.size (k0_off757_inb v635 k0_hw5)).WholeWords (EltTy.packing .bf16) := fun v635 k0_hw5 => k0_hw5.2.2.2.2.2 (k0_off757_inb v635 k0_hw5)

def k0_off758 (v655 : BitVec 32) : Fin 3 → Nat :=
  let c0_i32_5515 : BitVec 32 := 0#32
  let c128_i32_516 : BitVec 32 := 128#32
  let v656 : BitVec 32 := Scalar.muli v655 c128_i32_516
  let c0_i32_5523 : BitVec 32 := 0#32
  ![0, v656.toNat, 0]

def k0_chk6 (v655 : BitVec 32) : Prop :=
  (∀ a, (k0_off49 v655) a + S1x128x256.size a ≤ S2x4096x512.size a) ∧
  (∀ (hinb : ∀ a, (k0_off49 v655) a + S1x128x256.size a ≤ S2x4096x512.size a), (Rect.unit (s := S2x4096x512) (k0_off49 v655) S1x128x256.size hinb).WholeWords (EltTy.packing .bf16)) ∧
  (∀ a, (k0_off144 v655) a + S1x128x256.size a ≤ S2x4096x512.size a) ∧
  (∀ (hinb : ∀ a, (k0_off144 v655) a + S1x128x256.size a ≤ S2x4096x512.size a), (Rect.unit (s := S2x4096x512) (k0_off144 v655) S1x128x256.size hinb).WholeWords (EltTy.packing .bf16)) ∧
  (∀ a, (k0_off758 v655) a + S1x128x256.size a ≤ S2x4096x512.size a) ∧
  (∀ (hinb : ∀ a, (k0_off758 v655) a + S1x128x256.size a ≤ S2x4096x512.size a), (Rect.unit (s := S2x4096x512) (k0_off758 v655) S1x128x256.size hinb).WholeWords (EltTy.packing .bf16))
theorem k0_off49_inb : ∀ (v655 : BitVec 32) (k0_hw6 : k0_chk6 v655), ∀ a, (k0_off49 v655) a + S1x128x256.size a ≤ S2x4096x512.size a := fun v655 k0_hw6 => k0_hw6.1
theorem k0_off49_wordsbf16 : ∀ (v655 : BitVec 32) (k0_hw6 : k0_chk6 v655), (Rect.unit (s := S2x4096x512) (k0_off49 v655) S1x128x256.size (k0_off49_inb v655 k0_hw6)).WholeWords (EltTy.packing .bf16) := fun v655 k0_hw6 => k0_hw6.2.1 (k0_off49_inb v655 k0_hw6)
theorem k0_off144_inb : ∀ (v655 : BitVec 32) (k0_hw6 : k0_chk6 v655), ∀ a, (k0_off144 v655) a + S1x128x256.size a ≤ S2x4096x512.size a := fun v655 k0_hw6 => k0_hw6.2.2.1
theorem k0_off144_wordsbf16 : ∀ (v655 : BitVec 32) (k0_hw6 : k0_chk6 v655), (Rect.unit (s := S2x4096x512) (k0_off144 v655) S1x128x256.size (k0_off144_inb v655 k0_hw6)).WholeWords (EltTy.packing .bf16) := fun v655 k0_hw6 => k0_hw6.2.2.2.1 (k0_off144_inb v655 k0_hw6)
theorem k0_off758_inb : ∀ (v655 : BitVec 32) (k0_hw6 : k0_chk6 v655), ∀ a, (k0_off758 v655) a + S1x128x256.size a ≤ S2x4096x512.size a := fun v655 k0_hw6 => k0_hw6.2.2.2.2.1
theorem k0_off758_wordsbf16 : ∀ (v655 : BitVec 32) (k0_hw6 : k0_chk6 v655), (Rect.unit (s := S2x4096x512) (k0_off758 v655) S1x128x256.size (k0_off758_inb v655 k0_hw6)).WholeWords (EltTy.packing .bf16) := fun v655 k0_hw6 => k0_hw6.2.2.2.2.2 (k0_off758_inb v655 k0_hw6)

def k0_off759 (v675 : BitVec 32) : Fin 3 → Nat :=
  let c0_i32_5526 : BitVec 32 := 0#32
  let c128_i32_543 : BitVec 32 := 128#32
  let v676 : BitVec 32 := Scalar.muli v675 c128_i32_543
  let c256_i32_5534 : BitVec 32 := 256#32
  ![0, v676.toNat, 256]

def k0_chk7 (v675 : BitVec 32) : Prop :=
  (∀ a, (k0_off51 v675) a + S1x128x256.size a ≤ S2x4096x512.size a) ∧
  (∀ (hinb : ∀ a, (k0_off51 v675) a + S1x128x256.size a ≤ S2x4096x512.size a), (Rect.unit (s := S2x4096x512) (k0_off51 v675) S1x128x256.size hinb).WholeWords (EltTy.packing .bf16)) ∧
  (∀ a, (k0_off146 v675) a + S1x128x256.size a ≤ S2x4096x512.size a) ∧
  (∀ (hinb : ∀ a, (k0_off146 v675) a + S1x128x256.size a ≤ S2x4096x512.size a), (Rect.unit (s := S2x4096x512) (k0_off146 v675) S1x128x256.size hinb).WholeWords (EltTy.packing .bf16)) ∧
  (∀ a, (k0_off759 v675) a + S1x128x256.size a ≤ S2x4096x512.size a) ∧
  (∀ (hinb : ∀ a, (k0_off759 v675) a + S1x128x256.size a ≤ S2x4096x512.size a), (Rect.unit (s := S2x4096x512) (k0_off759 v675) S1x128x256.size hinb).WholeWords (EltTy.packing .bf16))
theorem k0_off51_inb : ∀ (v675 : BitVec 32) (k0_hw7 : k0_chk7 v675), ∀ a, (k0_off51 v675) a + S1x128x256.size a ≤ S2x4096x512.size a := fun v675 k0_hw7 => k0_hw7.1
theorem k0_off51_wordsbf16 : ∀ (v675 : BitVec 32) (k0_hw7 : k0_chk7 v675), (Rect.unit (s := S2x4096x512) (k0_off51 v675) S1x128x256.size (k0_off51_inb v675 k0_hw7)).WholeWords (EltTy.packing .bf16) := fun v675 k0_hw7 => k0_hw7.2.1 (k0_off51_inb v675 k0_hw7)
theorem k0_off146_inb : ∀ (v675 : BitVec 32) (k0_hw7 : k0_chk7 v675), ∀ a, (k0_off146 v675) a + S1x128x256.size a ≤ S2x4096x512.size a := fun v675 k0_hw7 => k0_hw7.2.2.1
theorem k0_off146_wordsbf16 : ∀ (v675 : BitVec 32) (k0_hw7 : k0_chk7 v675), (Rect.unit (s := S2x4096x512) (k0_off146 v675) S1x128x256.size (k0_off146_inb v675 k0_hw7)).WholeWords (EltTy.packing .bf16) := fun v675 k0_hw7 => k0_hw7.2.2.2.1 (k0_off146_inb v675 k0_hw7)
theorem k0_off759_inb : ∀ (v675 : BitVec 32) (k0_hw7 : k0_chk7 v675), ∀ a, (k0_off759 v675) a + S1x128x256.size a ≤ S2x4096x512.size a := fun v675 k0_hw7 => k0_hw7.2.2.2.2.1
theorem k0_off759_wordsbf16 : ∀ (v675 : BitVec 32) (k0_hw7 : k0_chk7 v675), (Rect.unit (s := S2x4096x512) (k0_off759 v675) S1x128x256.size (k0_off759_inb v675 k0_hw7)).WholeWords (EltTy.packing .bf16) := fun v675 k0_hw7 => k0_hw7.2.2.2.2.2 (k0_off759_inb v675 k0_hw7)

def k0_off760 (v695 : BitVec 32) : Fin 3 → Nat :=
  let c1_i32_5537 : BitVec 32 := 1#32
  let c128_i32_570 : BitVec 32 := 128#32
  let v696 : BitVec 32 := Scalar.muli v695 c128_i32_570
  let c0_i32_5545 : BitVec 32 := 0#32
  ![1, v696.toNat, 0]

def k0_chk8 (v695 : BitVec 32) : Prop :=
  (∀ a, (k0_off53 v695) a + S1x128x256.size a ≤ S2x4096x512.size a) ∧
  (∀ (hinb : ∀ a, (k0_off53 v695) a + S1x128x256.size a ≤ S2x4096x512.size a), (Rect.unit (s := S2x4096x512) (k0_off53 v695) S1x128x256.size hinb).WholeWords (EltTy.packing .bf16)) ∧
  (∀ a, (k0_off148 v695) a + S1x128x256.size a ≤ S2x4096x512.size a) ∧
  (∀ (hinb : ∀ a, (k0_off148 v695) a + S1x128x256.size a ≤ S2x4096x512.size a), (Rect.unit (s := S2x4096x512) (k0_off148 v695) S1x128x256.size hinb).WholeWords (EltTy.packing .bf16)) ∧
  (∀ a, (k0_off760 v695) a + S1x128x256.size a ≤ S2x4096x512.size a) ∧
  (∀ (hinb : ∀ a, (k0_off760 v695) a + S1x128x256.size a ≤ S2x4096x512.size a), (Rect.unit (s := S2x4096x512) (k0_off760 v695) S1x128x256.size hinb).WholeWords (EltTy.packing .bf16))
theorem k0_off53_inb : ∀ (v695 : BitVec 32) (k0_hw8 : k0_chk8 v695), ∀ a, (k0_off53 v695) a + S1x128x256.size a ≤ S2x4096x512.size a := fun v695 k0_hw8 => k0_hw8.1
theorem k0_off53_wordsbf16 : ∀ (v695 : BitVec 32) (k0_hw8 : k0_chk8 v695), (Rect.unit (s := S2x4096x512) (k0_off53 v695) S1x128x256.size (k0_off53_inb v695 k0_hw8)).WholeWords (EltTy.packing .bf16) := fun v695 k0_hw8 => k0_hw8.2.1 (k0_off53_inb v695 k0_hw8)
theorem k0_off148_inb : ∀ (v695 : BitVec 32) (k0_hw8 : k0_chk8 v695), ∀ a, (k0_off148 v695) a + S1x128x256.size a ≤ S2x4096x512.size a := fun v695 k0_hw8 => k0_hw8.2.2.1
theorem k0_off148_wordsbf16 : ∀ (v695 : BitVec 32) (k0_hw8 : k0_chk8 v695), (Rect.unit (s := S2x4096x512) (k0_off148 v695) S1x128x256.size (k0_off148_inb v695 k0_hw8)).WholeWords (EltTy.packing .bf16) := fun v695 k0_hw8 => k0_hw8.2.2.2.1 (k0_off148_inb v695 k0_hw8)
theorem k0_off760_inb : ∀ (v695 : BitVec 32) (k0_hw8 : k0_chk8 v695), ∀ a, (k0_off760 v695) a + S1x128x256.size a ≤ S2x4096x512.size a := fun v695 k0_hw8 => k0_hw8.2.2.2.2.1
theorem k0_off760_wordsbf16 : ∀ (v695 : BitVec 32) (k0_hw8 : k0_chk8 v695), (Rect.unit (s := S2x4096x512) (k0_off760 v695) S1x128x256.size (k0_off760_inb v695 k0_hw8)).WholeWords (EltTy.packing .bf16) := fun v695 k0_hw8 => k0_hw8.2.2.2.2.2 (k0_off760_inb v695 k0_hw8)

def k0_off761 (v715 : BitVec 32) : Fin 3 → Nat :=
  let c1_i32_5548 : BitVec 32 := 1#32
  let c128_i32_597 : BitVec 32 := 128#32
  let v716 : BitVec 32 := Scalar.muli v715 c128_i32_597
  let c256_i32_5556 : BitVec 32 := 256#32
  ![1, v716.toNat, 256]

def k0_chk9 (v715 : BitVec 32) : Prop :=
  (∀ a, (k0_off55 v715) a + S1x128x256.size a ≤ S2x4096x512.size a) ∧
  (∀ (hinb : ∀ a, (k0_off55 v715) a + S1x128x256.size a ≤ S2x4096x512.size a), (Rect.unit (s := S2x4096x512) (k0_off55 v715) S1x128x256.size hinb).WholeWords (EltTy.packing .bf16)) ∧
  (∀ a, (k0_off150 v715) a + S1x128x256.size a ≤ S2x4096x512.size a) ∧
  (∀ (hinb : ∀ a, (k0_off150 v715) a + S1x128x256.size a ≤ S2x4096x512.size a), (Rect.unit (s := S2x4096x512) (k0_off150 v715) S1x128x256.size hinb).WholeWords (EltTy.packing .bf16)) ∧
  (∀ a, (k0_off761 v715) a + S1x128x256.size a ≤ S2x4096x512.size a) ∧
  (∀ (hinb : ∀ a, (k0_off761 v715) a + S1x128x256.size a ≤ S2x4096x512.size a), (Rect.unit (s := S2x4096x512) (k0_off761 v715) S1x128x256.size hinb).WholeWords (EltTy.packing .bf16))
theorem k0_off55_inb : ∀ (v715 : BitVec 32) (k0_hw9 : k0_chk9 v715), ∀ a, (k0_off55 v715) a + S1x128x256.size a ≤ S2x4096x512.size a := fun v715 k0_hw9 => k0_hw9.1
theorem k0_off55_wordsbf16 : ∀ (v715 : BitVec 32) (k0_hw9 : k0_chk9 v715), (Rect.unit (s := S2x4096x512) (k0_off55 v715) S1x128x256.size (k0_off55_inb v715 k0_hw9)).WholeWords (EltTy.packing .bf16) := fun v715 k0_hw9 => k0_hw9.2.1 (k0_off55_inb v715 k0_hw9)
theorem k0_off150_inb : ∀ (v715 : BitVec 32) (k0_hw9 : k0_chk9 v715), ∀ a, (k0_off150 v715) a + S1x128x256.size a ≤ S2x4096x512.size a := fun v715 k0_hw9 => k0_hw9.2.2.1
theorem k0_off150_wordsbf16 : ∀ (v715 : BitVec 32) (k0_hw9 : k0_chk9 v715), (Rect.unit (s := S2x4096x512) (k0_off150 v715) S1x128x256.size (k0_off150_inb v715 k0_hw9)).WholeWords (EltTy.packing .bf16) := fun v715 k0_hw9 => k0_hw9.2.2.2.1 (k0_off150_inb v715 k0_hw9)
theorem k0_off761_inb : ∀ (v715 : BitVec 32) (k0_hw9 : k0_chk9 v715), ∀ a, (k0_off761 v715) a + S1x128x256.size a ≤ S2x4096x512.size a := fun v715 k0_hw9 => k0_hw9.2.2.2.2.1
theorem k0_off761_wordsbf16 : ∀ (v715 : BitVec 32) (k0_hw9 : k0_chk9 v715), (Rect.unit (s := S2x4096x512) (k0_off761 v715) S1x128x256.size (k0_off761_inb v715 k0_hw9)).WholeWords (EltTy.packing .bf16) := fun v715 k0_hw9 => k0_hw9.2.2.2.2.2 (k0_off761_inb v715 k0_hw9)

def k0_off762 (v735 : BitVec 32) : Fin 3 → Nat :=
  let c1_i32_5559 : BitVec 32 := 1#32
  let c128_i32_624 : BitVec 32 := 128#32
  let v736 : BitVec 32 := Scalar.muli v735 c128_i32_624
  let c0_i32_5567 : BitVec 32 := 0#32
  ![1, v736.toNat, 0]

def k0_chk10 (v735 : BitVec 32) : Prop :=
  (∀ a, (k0_off57 v735) a + S1x128x256.size a ≤ S2x4096x512.size a) ∧
  (∀ (hinb : ∀ a, (k0_off57 v735) a + S1x128x256.size a ≤ S2x4096x512.size a), (Rect.unit (s := S2x4096x512) (k0_off57 v735) S1x128x256.size hinb).WholeWords (EltTy.packing .bf16)) ∧
  (∀ a, (k0_off152 v735) a + S1x128x256.size a ≤ S2x4096x512.size a) ∧
  (∀ (hinb : ∀ a, (k0_off152 v735) a + S1x128x256.size a ≤ S2x4096x512.size a), (Rect.unit (s := S2x4096x512) (k0_off152 v735) S1x128x256.size hinb).WholeWords (EltTy.packing .bf16)) ∧
  (∀ a, (k0_off762 v735) a + S1x128x256.size a ≤ S2x4096x512.size a) ∧
  (∀ (hinb : ∀ a, (k0_off762 v735) a + S1x128x256.size a ≤ S2x4096x512.size a), (Rect.unit (s := S2x4096x512) (k0_off762 v735) S1x128x256.size hinb).WholeWords (EltTy.packing .bf16))
theorem k0_off57_inb : ∀ (v735 : BitVec 32) (k0_hw10 : k0_chk10 v735), ∀ a, (k0_off57 v735) a + S1x128x256.size a ≤ S2x4096x512.size a := fun v735 k0_hw10 => k0_hw10.1
theorem k0_off57_wordsbf16 : ∀ (v735 : BitVec 32) (k0_hw10 : k0_chk10 v735), (Rect.unit (s := S2x4096x512) (k0_off57 v735) S1x128x256.size (k0_off57_inb v735 k0_hw10)).WholeWords (EltTy.packing .bf16) := fun v735 k0_hw10 => k0_hw10.2.1 (k0_off57_inb v735 k0_hw10)
theorem k0_off152_inb : ∀ (v735 : BitVec 32) (k0_hw10 : k0_chk10 v735), ∀ a, (k0_off152 v735) a + S1x128x256.size a ≤ S2x4096x512.size a := fun v735 k0_hw10 => k0_hw10.2.2.1
theorem k0_off152_wordsbf16 : ∀ (v735 : BitVec 32) (k0_hw10 : k0_chk10 v735), (Rect.unit (s := S2x4096x512) (k0_off152 v735) S1x128x256.size (k0_off152_inb v735 k0_hw10)).WholeWords (EltTy.packing .bf16) := fun v735 k0_hw10 => k0_hw10.2.2.2.1 (k0_off152_inb v735 k0_hw10)
theorem k0_off762_inb : ∀ (v735 : BitVec 32) (k0_hw10 : k0_chk10 v735), ∀ a, (k0_off762 v735) a + S1x128x256.size a ≤ S2x4096x512.size a := fun v735 k0_hw10 => k0_hw10.2.2.2.2.1
theorem k0_off762_wordsbf16 : ∀ (v735 : BitVec 32) (k0_hw10 : k0_chk10 v735), (Rect.unit (s := S2x4096x512) (k0_off762 v735) S1x128x256.size (k0_off762_inb v735 k0_hw10)).WholeWords (EltTy.packing .bf16) := fun v735 k0_hw10 => k0_hw10.2.2.2.2.2 (k0_off762_inb v735 k0_hw10)

def k0_off763 (v755 : BitVec 32) : Fin 3 → Nat :=
  let c1_i32_5570 : BitVec 32 := 1#32
  let c128_i32_651 : BitVec 32 := 128#32
  let v756 : BitVec 32 := Scalar.muli v755 c128_i32_651
  let c256_i32_5578 : BitVec 32 := 256#32
  ![1, v756.toNat, 256]

def k0_chk11 (v755 : BitVec 32) : Prop :=
  (∀ a, (k0_off59 v755) a + S1x128x256.size a ≤ S2x4096x512.size a) ∧
  (∀ (hinb : ∀ a, (k0_off59 v755) a + S1x128x256.size a ≤ S2x4096x512.size a), (Rect.unit (s := S2x4096x512) (k0_off59 v755) S1x128x256.size hinb).WholeWords (EltTy.packing .bf16)) ∧
  (∀ a, (k0_off154 v755) a + S1x128x256.size a ≤ S2x4096x512.size a) ∧
  (∀ (hinb : ∀ a, (k0_off154 v755) a + S1x128x256.size a ≤ S2x4096x512.size a), (Rect.unit (s := S2x4096x512) (k0_off154 v755) S1x128x256.size hinb).WholeWords (EltTy.packing .bf16)) ∧
  (∀ a, (k0_off763 v755) a + S1x128x256.size a ≤ S2x4096x512.size a) ∧
  (∀ (hinb : ∀ a, (k0_off763 v755) a + S1x128x256.size a ≤ S2x4096x512.size a), (Rect.unit (s := S2x4096x512) (k0_off763 v755) S1x128x256.size hinb).WholeWords (EltTy.packing .bf16))
theorem k0_off59_inb : ∀ (v755 : BitVec 32) (k0_hw11 : k0_chk11 v755), ∀ a, (k0_off59 v755) a + S1x128x256.size a ≤ S2x4096x512.size a := fun v755 k0_hw11 => k0_hw11.1
theorem k0_off59_wordsbf16 : ∀ (v755 : BitVec 32) (k0_hw11 : k0_chk11 v755), (Rect.unit (s := S2x4096x512) (k0_off59 v755) S1x128x256.size (k0_off59_inb v755 k0_hw11)).WholeWords (EltTy.packing .bf16) := fun v755 k0_hw11 => k0_hw11.2.1 (k0_off59_inb v755 k0_hw11)
theorem k0_off154_inb : ∀ (v755 : BitVec 32) (k0_hw11 : k0_chk11 v755), ∀ a, (k0_off154 v755) a + S1x128x256.size a ≤ S2x4096x512.size a := fun v755 k0_hw11 => k0_hw11.2.2.1
theorem k0_off154_wordsbf16 : ∀ (v755 : BitVec 32) (k0_hw11 : k0_chk11 v755), (Rect.unit (s := S2x4096x512) (k0_off154 v755) S1x128x256.size (k0_off154_inb v755 k0_hw11)).WholeWords (EltTy.packing .bf16) := fun v755 k0_hw11 => k0_hw11.2.2.2.1 (k0_off154_inb v755 k0_hw11)
theorem k0_off763_inb : ∀ (v755 : BitVec 32) (k0_hw11 : k0_chk11 v755), ∀ a, (k0_off763 v755) a + S1x128x256.size a ≤ S2x4096x512.size a := fun v755 k0_hw11 => k0_hw11.2.2.2.2.1
theorem k0_off763_wordsbf16 : ∀ (v755 : BitVec 32) (k0_hw11 : k0_chk11 v755), (Rect.unit (s := S2x4096x512) (k0_off763 v755) S1x128x256.size (k0_off763_inb v755 k0_hw11)).WholeWords (EltTy.packing .bf16) := fun v755 k0_hw11 => k0_hw11.2.2.2.2.2 (k0_off763_inb v755 k0_hw11)

def k0_off764 (v775 : BitVec 32) : Fin 3 → Nat :=
  let c0_i32_5581 : BitVec 32 := 0#32
  let c128_i32_678 : BitVec 32 := 128#32
  let v776 : BitVec 32 := Scalar.muli v775 c128_i32_678
  let c0_i32_5589 : BitVec 32 := 0#32
  ![0, v776.toNat, 0]

def k0_chk12 (v775 : BitVec 32) : Prop :=
  (∀ a, (k0_off61 v775) a + S1x128x256.size a ≤ S2x4096x512.size a) ∧
  (∀ (hinb : ∀ a, (k0_off61 v775) a + S1x128x256.size a ≤ S2x4096x512.size a), (Rect.unit (s := S2x4096x512) (k0_off61 v775) S1x128x256.size hinb).WholeWords (EltTy.packing .bf16)) ∧
  (∀ a, (k0_off156 v775) a + S1x128x256.size a ≤ S2x4096x512.size a) ∧
  (∀ (hinb : ∀ a, (k0_off156 v775) a + S1x128x256.size a ≤ S2x4096x512.size a), (Rect.unit (s := S2x4096x512) (k0_off156 v775) S1x128x256.size hinb).WholeWords (EltTy.packing .bf16)) ∧
  (∀ a, (k0_off764 v775) a + S1x128x256.size a ≤ S2x4096x512.size a) ∧
  (∀ (hinb : ∀ a, (k0_off764 v775) a + S1x128x256.size a ≤ S2x4096x512.size a), (Rect.unit (s := S2x4096x512) (k0_off764 v775) S1x128x256.size hinb).WholeWords (EltTy.packing .bf16))
theorem k0_off61_inb : ∀ (v775 : BitVec 32) (k0_hw12 : k0_chk12 v775), ∀ a, (k0_off61 v775) a + S1x128x256.size a ≤ S2x4096x512.size a := fun v775 k0_hw12 => k0_hw12.1
theorem k0_off61_wordsbf16 : ∀ (v775 : BitVec 32) (k0_hw12 : k0_chk12 v775), (Rect.unit (s := S2x4096x512) (k0_off61 v775) S1x128x256.size (k0_off61_inb v775 k0_hw12)).WholeWords (EltTy.packing .bf16) := fun v775 k0_hw12 => k0_hw12.2.1 (k0_off61_inb v775 k0_hw12)
theorem k0_off156_inb : ∀ (v775 : BitVec 32) (k0_hw12 : k0_chk12 v775), ∀ a, (k0_off156 v775) a + S1x128x256.size a ≤ S2x4096x512.size a := fun v775 k0_hw12 => k0_hw12.2.2.1
theorem k0_off156_wordsbf16 : ∀ (v775 : BitVec 32) (k0_hw12 : k0_chk12 v775), (Rect.unit (s := S2x4096x512) (k0_off156 v775) S1x128x256.size (k0_off156_inb v775 k0_hw12)).WholeWords (EltTy.packing .bf16) := fun v775 k0_hw12 => k0_hw12.2.2.2.1 (k0_off156_inb v775 k0_hw12)
theorem k0_off764_inb : ∀ (v775 : BitVec 32) (k0_hw12 : k0_chk12 v775), ∀ a, (k0_off764 v775) a + S1x128x256.size a ≤ S2x4096x512.size a := fun v775 k0_hw12 => k0_hw12.2.2.2.2.1
theorem k0_off764_wordsbf16 : ∀ (v775 : BitVec 32) (k0_hw12 : k0_chk12 v775), (Rect.unit (s := S2x4096x512) (k0_off764 v775) S1x128x256.size (k0_off764_inb v775 k0_hw12)).WholeWords (EltTy.packing .bf16) := fun v775 k0_hw12 => k0_hw12.2.2.2.2.2 (k0_off764_inb v775 k0_hw12)

def k0_off765 (v795 : BitVec 32) : Fin 3 → Nat :=
  let c0_i32_5592 : BitVec 32 := 0#32
  let c128_i32_705 : BitVec 32 := 128#32
  let v796 : BitVec 32 := Scalar.muli v795 c128_i32_705
  let c256_i32_5600 : BitVec 32 := 256#32
  ![0, v796.toNat, 256]

def k0_chk13 (v795 : BitVec 32) : Prop :=
  (∀ a, (k0_off63 v795) a + S1x128x256.size a ≤ S2x4096x512.size a) ∧
  (∀ (hinb : ∀ a, (k0_off63 v795) a + S1x128x256.size a ≤ S2x4096x512.size a), (Rect.unit (s := S2x4096x512) (k0_off63 v795) S1x128x256.size hinb).WholeWords (EltTy.packing .bf16)) ∧
  (∀ a, (k0_off158 v795) a + S1x128x256.size a ≤ S2x4096x512.size a) ∧
  (∀ (hinb : ∀ a, (k0_off158 v795) a + S1x128x256.size a ≤ S2x4096x512.size a), (Rect.unit (s := S2x4096x512) (k0_off158 v795) S1x128x256.size hinb).WholeWords (EltTy.packing .bf16)) ∧
  (∀ a, (k0_off765 v795) a + S1x128x256.size a ≤ S2x4096x512.size a) ∧
  (∀ (hinb : ∀ a, (k0_off765 v795) a + S1x128x256.size a ≤ S2x4096x512.size a), (Rect.unit (s := S2x4096x512) (k0_off765 v795) S1x128x256.size hinb).WholeWords (EltTy.packing .bf16))
theorem k0_off63_inb : ∀ (v795 : BitVec 32) (k0_hw13 : k0_chk13 v795), ∀ a, (k0_off63 v795) a + S1x128x256.size a ≤ S2x4096x512.size a := fun v795 k0_hw13 => k0_hw13.1
theorem k0_off63_wordsbf16 : ∀ (v795 : BitVec 32) (k0_hw13 : k0_chk13 v795), (Rect.unit (s := S2x4096x512) (k0_off63 v795) S1x128x256.size (k0_off63_inb v795 k0_hw13)).WholeWords (EltTy.packing .bf16) := fun v795 k0_hw13 => k0_hw13.2.1 (k0_off63_inb v795 k0_hw13)
theorem k0_off158_inb : ∀ (v795 : BitVec 32) (k0_hw13 : k0_chk13 v795), ∀ a, (k0_off158 v795) a + S1x128x256.size a ≤ S2x4096x512.size a := fun v795 k0_hw13 => k0_hw13.2.2.1
theorem k0_off158_wordsbf16 : ∀ (v795 : BitVec 32) (k0_hw13 : k0_chk13 v795), (Rect.unit (s := S2x4096x512) (k0_off158 v795) S1x128x256.size (k0_off158_inb v795 k0_hw13)).WholeWords (EltTy.packing .bf16) := fun v795 k0_hw13 => k0_hw13.2.2.2.1 (k0_off158_inb v795 k0_hw13)
theorem k0_off765_inb : ∀ (v795 : BitVec 32) (k0_hw13 : k0_chk13 v795), ∀ a, (k0_off765 v795) a + S1x128x256.size a ≤ S2x4096x512.size a := fun v795 k0_hw13 => k0_hw13.2.2.2.2.1
theorem k0_off765_wordsbf16 : ∀ (v795 : BitVec 32) (k0_hw13 : k0_chk13 v795), (Rect.unit (s := S2x4096x512) (k0_off765 v795) S1x128x256.size (k0_off765_inb v795 k0_hw13)).WholeWords (EltTy.packing .bf16) := fun v795 k0_hw13 => k0_hw13.2.2.2.2.2 (k0_off765_inb v795 k0_hw13)

def k0_off766 (v815 : BitVec 32) : Fin 3 → Nat :=
  let c0_i32_5603 : BitVec 32 := 0#32
  let c128_i32_732 : BitVec 32 := 128#32
  let v816 : BitVec 32 := Scalar.muli v815 c128_i32_732
  let c0_i32_5611 : BitVec 32 := 0#32
  ![0, v816.toNat, 0]

def k0_chk14 (v815 : BitVec 32) : Prop :=
  (∀ a, (k0_off65 v815) a + S1x128x256.size a ≤ S2x4096x512.size a) ∧
  (∀ (hinb : ∀ a, (k0_off65 v815) a + S1x128x256.size a ≤ S2x4096x512.size a), (Rect.unit (s := S2x4096x512) (k0_off65 v815) S1x128x256.size hinb).WholeWords (EltTy.packing .bf16)) ∧
  (∀ a, (k0_off160 v815) a + S1x128x256.size a ≤ S2x4096x512.size a) ∧
  (∀ (hinb : ∀ a, (k0_off160 v815) a + S1x128x256.size a ≤ S2x4096x512.size a), (Rect.unit (s := S2x4096x512) (k0_off160 v815) S1x128x256.size hinb).WholeWords (EltTy.packing .bf16)) ∧
  (∀ a, (k0_off766 v815) a + S1x128x256.size a ≤ S2x4096x512.size a) ∧
  (∀ (hinb : ∀ a, (k0_off766 v815) a + S1x128x256.size a ≤ S2x4096x512.size a), (Rect.unit (s := S2x4096x512) (k0_off766 v815) S1x128x256.size hinb).WholeWords (EltTy.packing .bf16))
theorem k0_off65_inb : ∀ (v815 : BitVec 32) (k0_hw14 : k0_chk14 v815), ∀ a, (k0_off65 v815) a + S1x128x256.size a ≤ S2x4096x512.size a := fun v815 k0_hw14 => k0_hw14.1
theorem k0_off65_wordsbf16 : ∀ (v815 : BitVec 32) (k0_hw14 : k0_chk14 v815), (Rect.unit (s := S2x4096x512) (k0_off65 v815) S1x128x256.size (k0_off65_inb v815 k0_hw14)).WholeWords (EltTy.packing .bf16) := fun v815 k0_hw14 => k0_hw14.2.1 (k0_off65_inb v815 k0_hw14)
theorem k0_off160_inb : ∀ (v815 : BitVec 32) (k0_hw14 : k0_chk14 v815), ∀ a, (k0_off160 v815) a + S1x128x256.size a ≤ S2x4096x512.size a := fun v815 k0_hw14 => k0_hw14.2.2.1
theorem k0_off160_wordsbf16 : ∀ (v815 : BitVec 32) (k0_hw14 : k0_chk14 v815), (Rect.unit (s := S2x4096x512) (k0_off160 v815) S1x128x256.size (k0_off160_inb v815 k0_hw14)).WholeWords (EltTy.packing .bf16) := fun v815 k0_hw14 => k0_hw14.2.2.2.1 (k0_off160_inb v815 k0_hw14)
theorem k0_off766_inb : ∀ (v815 : BitVec 32) (k0_hw14 : k0_chk14 v815), ∀ a, (k0_off766 v815) a + S1x128x256.size a ≤ S2x4096x512.size a := fun v815 k0_hw14 => k0_hw14.2.2.2.2.1
theorem k0_off766_wordsbf16 : ∀ (v815 : BitVec 32) (k0_hw14 : k0_chk14 v815), (Rect.unit (s := S2x4096x512) (k0_off766 v815) S1x128x256.size (k0_off766_inb v815 k0_hw14)).WholeWords (EltTy.packing .bf16) := fun v815 k0_hw14 => k0_hw14.2.2.2.2.2 (k0_off766_inb v815 k0_hw14)

def k0_off767 (v835 : BitVec 32) : Fin 3 → Nat :=
  let c0_i32_5614 : BitVec 32 := 0#32
  let c128_i32_759 : BitVec 32 := 128#32
  let v836 : BitVec 32 := Scalar.muli v835 c128_i32_759
  let c256_i32_5622 : BitVec 32 := 256#32
  ![0, v836.toNat, 256]

def k0_chk15 (v835 : BitVec 32) : Prop :=
  (∀ a, (k0_off67 v835) a + S1x128x256.size a ≤ S2x4096x512.size a) ∧
  (∀ (hinb : ∀ a, (k0_off67 v835) a + S1x128x256.size a ≤ S2x4096x512.size a), (Rect.unit (s := S2x4096x512) (k0_off67 v835) S1x128x256.size hinb).WholeWords (EltTy.packing .bf16)) ∧
  (∀ a, (k0_off162 v835) a + S1x128x256.size a ≤ S2x4096x512.size a) ∧
  (∀ (hinb : ∀ a, (k0_off162 v835) a + S1x128x256.size a ≤ S2x4096x512.size a), (Rect.unit (s := S2x4096x512) (k0_off162 v835) S1x128x256.size hinb).WholeWords (EltTy.packing .bf16)) ∧
  (∀ a, (k0_off767 v835) a + S1x128x256.size a ≤ S2x4096x512.size a) ∧
  (∀ (hinb : ∀ a, (k0_off767 v835) a + S1x128x256.size a ≤ S2x4096x512.size a), (Rect.unit (s := S2x4096x512) (k0_off767 v835) S1x128x256.size hinb).WholeWords (EltTy.packing .bf16))
theorem k0_off67_inb : ∀ (v835 : BitVec 32) (k0_hw15 : k0_chk15 v835), ∀ a, (k0_off67 v835) a + S1x128x256.size a ≤ S2x4096x512.size a := fun v835 k0_hw15 => k0_hw15.1
theorem k0_off67_wordsbf16 : ∀ (v835 : BitVec 32) (k0_hw15 : k0_chk15 v835), (Rect.unit (s := S2x4096x512) (k0_off67 v835) S1x128x256.size (k0_off67_inb v835 k0_hw15)).WholeWords (EltTy.packing .bf16) := fun v835 k0_hw15 => k0_hw15.2.1 (k0_off67_inb v835 k0_hw15)
theorem k0_off162_inb : ∀ (v835 : BitVec 32) (k0_hw15 : k0_chk15 v835), ∀ a, (k0_off162 v835) a + S1x128x256.size a ≤ S2x4096x512.size a := fun v835 k0_hw15 => k0_hw15.2.2.1
theorem k0_off162_wordsbf16 : ∀ (v835 : BitVec 32) (k0_hw15 : k0_chk15 v835), (Rect.unit (s := S2x4096x512) (k0_off162 v835) S1x128x256.size (k0_off162_inb v835 k0_hw15)).WholeWords (EltTy.packing .bf16) := fun v835 k0_hw15 => k0_hw15.2.2.2.1 (k0_off162_inb v835 k0_hw15)
theorem k0_off767_inb : ∀ (v835 : BitVec 32) (k0_hw15 : k0_chk15 v835), ∀ a, (k0_off767 v835) a + S1x128x256.size a ≤ S2x4096x512.size a := fun v835 k0_hw15 => k0_hw15.2.2.2.2.1
theorem k0_off767_wordsbf16 : ∀ (v835 : BitVec 32) (k0_hw15 : k0_chk15 v835), (Rect.unit (s := S2x4096x512) (k0_off767 v835) S1x128x256.size (k0_off767_inb v835 k0_hw15)).WholeWords (EltTy.packing .bf16) := fun v835 k0_hw15 => k0_hw15.2.2.2.2.2 (k0_off767_inb v835 k0_hw15)

def k0_off768 (v855 : BitVec 32) : Fin 3 → Nat :=
  let c1_i32_5625 : BitVec 32 := 1#32
  let c128_i32_786 : BitVec 32 := 128#32
  let v856 : BitVec 32 := Scalar.muli v855 c128_i32_786
  let c0_i32_5633 : BitVec 32 := 0#32
  ![1, v856.toNat, 0]

def k0_chk16 (v855 : BitVec 32) : Prop :=
  (∀ a, (k0_off69 v855) a + S1x128x256.size a ≤ S2x4096x512.size a) ∧
  (∀ (hinb : ∀ a, (k0_off69 v855) a + S1x128x256.size a ≤ S2x4096x512.size a), (Rect.unit (s := S2x4096x512) (k0_off69 v855) S1x128x256.size hinb).WholeWords (EltTy.packing .bf16)) ∧
  (∀ a, (k0_off164 v855) a + S1x128x256.size a ≤ S2x4096x512.size a) ∧
  (∀ (hinb : ∀ a, (k0_off164 v855) a + S1x128x256.size a ≤ S2x4096x512.size a), (Rect.unit (s := S2x4096x512) (k0_off164 v855) S1x128x256.size hinb).WholeWords (EltTy.packing .bf16)) ∧
  (∀ a, (k0_off768 v855) a + S1x128x256.size a ≤ S2x4096x512.size a) ∧
  (∀ (hinb : ∀ a, (k0_off768 v855) a + S1x128x256.size a ≤ S2x4096x512.size a), (Rect.unit (s := S2x4096x512) (k0_off768 v855) S1x128x256.size hinb).WholeWords (EltTy.packing .bf16))
theorem k0_off69_inb : ∀ (v855 : BitVec 32) (k0_hw16 : k0_chk16 v855), ∀ a, (k0_off69 v855) a + S1x128x256.size a ≤ S2x4096x512.size a := fun v855 k0_hw16 => k0_hw16.1
theorem k0_off69_wordsbf16 : ∀ (v855 : BitVec 32) (k0_hw16 : k0_chk16 v855), (Rect.unit (s := S2x4096x512) (k0_off69 v855) S1x128x256.size (k0_off69_inb v855 k0_hw16)).WholeWords (EltTy.packing .bf16) := fun v855 k0_hw16 => k0_hw16.2.1 (k0_off69_inb v855 k0_hw16)
theorem k0_off164_inb : ∀ (v855 : BitVec 32) (k0_hw16 : k0_chk16 v855), ∀ a, (k0_off164 v855) a + S1x128x256.size a ≤ S2x4096x512.size a := fun v855 k0_hw16 => k0_hw16.2.2.1
theorem k0_off164_wordsbf16 : ∀ (v855 : BitVec 32) (k0_hw16 : k0_chk16 v855), (Rect.unit (s := S2x4096x512) (k0_off164 v855) S1x128x256.size (k0_off164_inb v855 k0_hw16)).WholeWords (EltTy.packing .bf16) := fun v855 k0_hw16 => k0_hw16.2.2.2.1 (k0_off164_inb v855 k0_hw16)
theorem k0_off768_inb : ∀ (v855 : BitVec 32) (k0_hw16 : k0_chk16 v855), ∀ a, (k0_off768 v855) a + S1x128x256.size a ≤ S2x4096x512.size a := fun v855 k0_hw16 => k0_hw16.2.2.2.2.1
theorem k0_off768_wordsbf16 : ∀ (v855 : BitVec 32) (k0_hw16 : k0_chk16 v855), (Rect.unit (s := S2x4096x512) (k0_off768 v855) S1x128x256.size (k0_off768_inb v855 k0_hw16)).WholeWords (EltTy.packing .bf16) := fun v855 k0_hw16 => k0_hw16.2.2.2.2.2 (k0_off768_inb v855 k0_hw16)

def k0_off769 (v875 : BitVec 32) : Fin 3 → Nat :=
  let c1_i32_5636 : BitVec 32 := 1#32
  let c128_i32_813 : BitVec 32 := 128#32
  let v876 : BitVec 32 := Scalar.muli v875 c128_i32_813
  let c256_i32_5644 : BitVec 32 := 256#32
  ![1, v876.toNat, 256]

def k0_chk17 (v875 : BitVec 32) : Prop :=
  (∀ a, (k0_off71 v875) a + S1x128x256.size a ≤ S2x4096x512.size a) ∧
  (∀ (hinb : ∀ a, (k0_off71 v875) a + S1x128x256.size a ≤ S2x4096x512.size a), (Rect.unit (s := S2x4096x512) (k0_off71 v875) S1x128x256.size hinb).WholeWords (EltTy.packing .bf16)) ∧
  (∀ a, (k0_off166 v875) a + S1x128x256.size a ≤ S2x4096x512.size a) ∧
  (∀ (hinb : ∀ a, (k0_off166 v875) a + S1x128x256.size a ≤ S2x4096x512.size a), (Rect.unit (s := S2x4096x512) (k0_off166 v875) S1x128x256.size hinb).WholeWords (EltTy.packing .bf16)) ∧
  (∀ a, (k0_off769 v875) a + S1x128x256.size a ≤ S2x4096x512.size a) ∧
  (∀ (hinb : ∀ a, (k0_off769 v875) a + S1x128x256.size a ≤ S2x4096x512.size a), (Rect.unit (s := S2x4096x512) (k0_off769 v875) S1x128x256.size hinb).WholeWords (EltTy.packing .bf16))
theorem k0_off71_inb : ∀ (v875 : BitVec 32) (k0_hw17 : k0_chk17 v875), ∀ a, (k0_off71 v875) a + S1x128x256.size a ≤ S2x4096x512.size a := fun v875 k0_hw17 => k0_hw17.1
theorem k0_off71_wordsbf16 : ∀ (v875 : BitVec 32) (k0_hw17 : k0_chk17 v875), (Rect.unit (s := S2x4096x512) (k0_off71 v875) S1x128x256.size (k0_off71_inb v875 k0_hw17)).WholeWords (EltTy.packing .bf16) := fun v875 k0_hw17 => k0_hw17.2.1 (k0_off71_inb v875 k0_hw17)
theorem k0_off166_inb : ∀ (v875 : BitVec 32) (k0_hw17 : k0_chk17 v875), ∀ a, (k0_off166 v875) a + S1x128x256.size a ≤ S2x4096x512.size a := fun v875 k0_hw17 => k0_hw17.2.2.1
theorem k0_off166_wordsbf16 : ∀ (v875 : BitVec 32) (k0_hw17 : k0_chk17 v875), (Rect.unit (s := S2x4096x512) (k0_off166 v875) S1x128x256.size (k0_off166_inb v875 k0_hw17)).WholeWords (EltTy.packing .bf16) := fun v875 k0_hw17 => k0_hw17.2.2.2.1 (k0_off166_inb v875 k0_hw17)
theorem k0_off769_inb : ∀ (v875 : BitVec 32) (k0_hw17 : k0_chk17 v875), ∀ a, (k0_off769 v875) a + S1x128x256.size a ≤ S2x4096x512.size a := fun v875 k0_hw17 => k0_hw17.2.2.2.2.1
theorem k0_off769_wordsbf16 : ∀ (v875 : BitVec 32) (k0_hw17 : k0_chk17 v875), (Rect.unit (s := S2x4096x512) (k0_off769 v875) S1x128x256.size (k0_off769_inb v875 k0_hw17)).WholeWords (EltTy.packing .bf16) := fun v875 k0_hw17 => k0_hw17.2.2.2.2.2 (k0_off769_inb v875 k0_hw17)

def k0_off770 (v895 : BitVec 32) : Fin 3 → Nat :=
  let c1_i32_5647 : BitVec 32 := 1#32
  let c128_i32_840 : BitVec 32 := 128#32
  let v896 : BitVec 32 := Scalar.muli v895 c128_i32_840
  let c0_i32_5655 : BitVec 32 := 0#32
  ![1, v896.toNat, 0]

def k0_chk18 (v895 : BitVec 32) : Prop :=
  (∀ a, (k0_off73 v895) a + S1x128x256.size a ≤ S2x4096x512.size a) ∧
  (∀ (hinb : ∀ a, (k0_off73 v895) a + S1x128x256.size a ≤ S2x4096x512.size a), (Rect.unit (s := S2x4096x512) (k0_off73 v895) S1x128x256.size hinb).WholeWords (EltTy.packing .bf16)) ∧
  (∀ a, (k0_off168 v895) a + S1x128x256.size a ≤ S2x4096x512.size a) ∧
  (∀ (hinb : ∀ a, (k0_off168 v895) a + S1x128x256.size a ≤ S2x4096x512.size a), (Rect.unit (s := S2x4096x512) (k0_off168 v895) S1x128x256.size hinb).WholeWords (EltTy.packing .bf16)) ∧
  (∀ a, (k0_off770 v895) a + S1x128x256.size a ≤ S2x4096x512.size a) ∧
  (∀ (hinb : ∀ a, (k0_off770 v895) a + S1x128x256.size a ≤ S2x4096x512.size a), (Rect.unit (s := S2x4096x512) (k0_off770 v895) S1x128x256.size hinb).WholeWords (EltTy.packing .bf16))
theorem k0_off73_inb : ∀ (v895 : BitVec 32) (k0_hw18 : k0_chk18 v895), ∀ a, (k0_off73 v895) a + S1x128x256.size a ≤ S2x4096x512.size a := fun v895 k0_hw18 => k0_hw18.1
theorem k0_off73_wordsbf16 : ∀ (v895 : BitVec 32) (k0_hw18 : k0_chk18 v895), (Rect.unit (s := S2x4096x512) (k0_off73 v895) S1x128x256.size (k0_off73_inb v895 k0_hw18)).WholeWords (EltTy.packing .bf16) := fun v895 k0_hw18 => k0_hw18.2.1 (k0_off73_inb v895 k0_hw18)
theorem k0_off168_inb : ∀ (v895 : BitVec 32) (k0_hw18 : k0_chk18 v895), ∀ a, (k0_off168 v895) a + S1x128x256.size a ≤ S2x4096x512.size a := fun v895 k0_hw18 => k0_hw18.2.2.1
theorem k0_off168_wordsbf16 : ∀ (v895 : BitVec 32) (k0_hw18 : k0_chk18 v895), (Rect.unit (s := S2x4096x512) (k0_off168 v895) S1x128x256.size (k0_off168_inb v895 k0_hw18)).WholeWords (EltTy.packing .bf16) := fun v895 k0_hw18 => k0_hw18.2.2.2.1 (k0_off168_inb v895 k0_hw18)
theorem k0_off770_inb : ∀ (v895 : BitVec 32) (k0_hw18 : k0_chk18 v895), ∀ a, (k0_off770 v895) a + S1x128x256.size a ≤ S2x4096x512.size a := fun v895 k0_hw18 => k0_hw18.2.2.2.2.1
theorem k0_off770_wordsbf16 : ∀ (v895 : BitVec 32) (k0_hw18 : k0_chk18 v895), (Rect.unit (s := S2x4096x512) (k0_off770 v895) S1x128x256.size (k0_off770_inb v895 k0_hw18)).WholeWords (EltTy.packing .bf16) := fun v895 k0_hw18 => k0_hw18.2.2.2.2.2 (k0_off770_inb v895 k0_hw18)

def k0_off771 (v915 : BitVec 32) : Fin 3 → Nat :=
  let c1_i32_5658 : BitVec 32 := 1#32
  let c128_i32_867 : BitVec 32 := 128#32
  let v916 : BitVec 32 := Scalar.muli v915 c128_i32_867
  let c256_i32_5666 : BitVec 32 := 256#32
  ![1, v916.toNat, 256]

def k0_chk19 (v915 : BitVec 32) : Prop :=
  (∀ a, (k0_off75 v915) a + S1x128x256.size a ≤ S2x4096x512.size a) ∧
  (∀ (hinb : ∀ a, (k0_off75 v915) a + S1x128x256.size a ≤ S2x4096x512.size a), (Rect.unit (s := S2x4096x512) (k0_off75 v915) S1x128x256.size hinb).WholeWords (EltTy.packing .bf16)) ∧
  (∀ a, (k0_off170 v915) a + S1x128x256.size a ≤ S2x4096x512.size a) ∧
  (∀ (hinb : ∀ a, (k0_off170 v915) a + S1x128x256.size a ≤ S2x4096x512.size a), (Rect.unit (s := S2x4096x512) (k0_off170 v915) S1x128x256.size hinb).WholeWords (EltTy.packing .bf16)) ∧
  (∀ a, (k0_off771 v915) a + S1x128x256.size a ≤ S2x4096x512.size a) ∧
  (∀ (hinb : ∀ a, (k0_off771 v915) a + S1x128x256.size a ≤ S2x4096x512.size a), (Rect.unit (s := S2x4096x512) (k0_off771 v915) S1x128x256.size hinb).WholeWords (EltTy.packing .bf16))
theorem k0_off75_inb : ∀ (v915 : BitVec 32) (k0_hw19 : k0_chk19 v915), ∀ a, (k0_off75 v915) a + S1x128x256.size a ≤ S2x4096x512.size a := fun v915 k0_hw19 => k0_hw19.1
theorem k0_off75_wordsbf16 : ∀ (v915 : BitVec 32) (k0_hw19 : k0_chk19 v915), (Rect.unit (s := S2x4096x512) (k0_off75 v915) S1x128x256.size (k0_off75_inb v915 k0_hw19)).WholeWords (EltTy.packing .bf16) := fun v915 k0_hw19 => k0_hw19.2.1 (k0_off75_inb v915 k0_hw19)
theorem k0_off170_inb : ∀ (v915 : BitVec 32) (k0_hw19 : k0_chk19 v915), ∀ a, (k0_off170 v915) a + S1x128x256.size a ≤ S2x4096x512.size a := fun v915 k0_hw19 => k0_hw19.2.2.1
theorem k0_off170_wordsbf16 : ∀ (v915 : BitVec 32) (k0_hw19 : k0_chk19 v915), (Rect.unit (s := S2x4096x512) (k0_off170 v915) S1x128x256.size (k0_off170_inb v915 k0_hw19)).WholeWords (EltTy.packing .bf16) := fun v915 k0_hw19 => k0_hw19.2.2.2.1 (k0_off170_inb v915 k0_hw19)
theorem k0_off771_inb : ∀ (v915 : BitVec 32) (k0_hw19 : k0_chk19 v915), ∀ a, (k0_off771 v915) a + S1x128x256.size a ≤ S2x4096x512.size a := fun v915 k0_hw19 => k0_hw19.2.2.2.2.1
theorem k0_off771_wordsbf16 : ∀ (v915 : BitVec 32) (k0_hw19 : k0_chk19 v915), (Rect.unit (s := S2x4096x512) (k0_off771 v915) S1x128x256.size (k0_off771_inb v915 k0_hw19)).WholeWords (EltTy.packing .bf16) := fun v915 k0_hw19 => k0_hw19.2.2.2.2.2 (k0_off771_inb v915 k0_hw19)

def k0_off772 (v1327 : BitVec 32) : Fin 3 → Nat :=
  let c0_i32_5669 : BitVec 32 := 0#32
  let c128_i32_1130 : BitVec 32 := 128#32
  let v1328 : BitVec 32 := Scalar.muli v1327 c128_i32_1130
  let c0_i32_5677 : BitVec 32 := 0#32
  ![0, v1328.toNat, 0]

def k0_chk24 (v1327 : BitVec 32) : Prop :=
  (∀ a, (k0_off141 v1327) a + S1x128x256.size a ≤ S2x4096x512.size a) ∧
  (∀ (hinb : ∀ a, (k0_off141 v1327) a + S1x128x256.size a ≤ S2x4096x512.size a), (Rect.unit (s := S2x4096x512) (k0_off141 v1327) S1x128x256.size hinb).WholeWords (EltTy.packing .bf16)) ∧
  (∀ a, (k0_off236 v1327) a + S1x128x256.size a ≤ S2x4096x512.size a) ∧
  (∀ (hinb : ∀ a, (k0_off236 v1327) a + S1x128x256.size a ≤ S2x4096x512.size a), (Rect.unit (s := S2x4096x512) (k0_off236 v1327) S1x128x256.size hinb).WholeWords (EltTy.packing .bf16)) ∧
  (∀ a, (k0_off772 v1327) a + S1x128x256.size a ≤ S2x4096x512.size a) ∧
  (∀ (hinb : ∀ a, (k0_off772 v1327) a + S1x128x256.size a ≤ S2x4096x512.size a), (Rect.unit (s := S2x4096x512) (k0_off772 v1327) S1x128x256.size hinb).WholeWords (EltTy.packing .bf16))
theorem k0_off141_inb : ∀ (v1327 : BitVec 32) (k0_hw24 : k0_chk24 v1327), ∀ a, (k0_off141 v1327) a + S1x128x256.size a ≤ S2x4096x512.size a := fun v1327 k0_hw24 => k0_hw24.1
theorem k0_off141_wordsbf16 : ∀ (v1327 : BitVec 32) (k0_hw24 : k0_chk24 v1327), (Rect.unit (s := S2x4096x512) (k0_off141 v1327) S1x128x256.size (k0_off141_inb v1327 k0_hw24)).WholeWords (EltTy.packing .bf16) := fun v1327 k0_hw24 => k0_hw24.2.1 (k0_off141_inb v1327 k0_hw24)
theorem k0_off236_inb : ∀ (v1327 : BitVec 32) (k0_hw24 : k0_chk24 v1327), ∀ a, (k0_off236 v1327) a + S1x128x256.size a ≤ S2x4096x512.size a := fun v1327 k0_hw24 => k0_hw24.2.2.1
theorem k0_off236_wordsbf16 : ∀ (v1327 : BitVec 32) (k0_hw24 : k0_chk24 v1327), (Rect.unit (s := S2x4096x512) (k0_off236 v1327) S1x128x256.size (k0_off236_inb v1327 k0_hw24)).WholeWords (EltTy.packing .bf16) := fun v1327 k0_hw24 => k0_hw24.2.2.2.1 (k0_off236_inb v1327 k0_hw24)
theorem k0_off772_inb : ∀ (v1327 : BitVec 32) (k0_hw24 : k0_chk24 v1327), ∀ a, (k0_off772 v1327) a + S1x128x256.size a ≤ S2x4096x512.size a := fun v1327 k0_hw24 => k0_hw24.2.2.2.2.1
theorem k0_off772_wordsbf16 : ∀ (v1327 : BitVec 32) (k0_hw24 : k0_chk24 v1327), (Rect.unit (s := S2x4096x512) (k0_off772 v1327) S1x128x256.size (k0_off772_inb v1327 k0_hw24)).WholeWords (EltTy.packing .bf16) := fun v1327 k0_hw24 => k0_hw24.2.2.2.2.2 (k0_off772_inb v1327 k0_hw24)

def k0_off773 (v1347 : BitVec 32) : Fin 3 → Nat :=
  let c0_i32_5680 : BitVec 32 := 0#32
  let c128_i32_1157 : BitVec 32 := 128#32
  let v1348 : BitVec 32 := Scalar.muli v1347 c128_i32_1157
  let c256_i32_5688 : BitVec 32 := 256#32
  ![0, v1348.toNat, 256]

def k0_chk25 (v1347 : BitVec 32) : Prop :=
  (∀ a, (k0_off143 v1347) a + S1x128x256.size a ≤ S2x4096x512.size a) ∧
  (∀ (hinb : ∀ a, (k0_off143 v1347) a + S1x128x256.size a ≤ S2x4096x512.size a), (Rect.unit (s := S2x4096x512) (k0_off143 v1347) S1x128x256.size hinb).WholeWords (EltTy.packing .bf16)) ∧
  (∀ a, (k0_off238 v1347) a + S1x128x256.size a ≤ S2x4096x512.size a) ∧
  (∀ (hinb : ∀ a, (k0_off238 v1347) a + S1x128x256.size a ≤ S2x4096x512.size a), (Rect.unit (s := S2x4096x512) (k0_off238 v1347) S1x128x256.size hinb).WholeWords (EltTy.packing .bf16)) ∧
  (∀ a, (k0_off773 v1347) a + S1x128x256.size a ≤ S2x4096x512.size a) ∧
  (∀ (hinb : ∀ a, (k0_off773 v1347) a + S1x128x256.size a ≤ S2x4096x512.size a), (Rect.unit (s := S2x4096x512) (k0_off773 v1347) S1x128x256.size hinb).WholeWords (EltTy.packing .bf16))
theorem k0_off143_inb : ∀ (v1347 : BitVec 32) (k0_hw25 : k0_chk25 v1347), ∀ a, (k0_off143 v1347) a + S1x128x256.size a ≤ S2x4096x512.size a := fun v1347 k0_hw25 => k0_hw25.1
theorem k0_off143_wordsbf16 : ∀ (v1347 : BitVec 32) (k0_hw25 : k0_chk25 v1347), (Rect.unit (s := S2x4096x512) (k0_off143 v1347) S1x128x256.size (k0_off143_inb v1347 k0_hw25)).WholeWords (EltTy.packing .bf16) := fun v1347 k0_hw25 => k0_hw25.2.1 (k0_off143_inb v1347 k0_hw25)
theorem k0_off238_inb : ∀ (v1347 : BitVec 32) (k0_hw25 : k0_chk25 v1347), ∀ a, (k0_off238 v1347) a + S1x128x256.size a ≤ S2x4096x512.size a := fun v1347 k0_hw25 => k0_hw25.2.2.1
theorem k0_off238_wordsbf16 : ∀ (v1347 : BitVec 32) (k0_hw25 : k0_chk25 v1347), (Rect.unit (s := S2x4096x512) (k0_off238 v1347) S1x128x256.size (k0_off238_inb v1347 k0_hw25)).WholeWords (EltTy.packing .bf16) := fun v1347 k0_hw25 => k0_hw25.2.2.2.1 (k0_off238_inb v1347 k0_hw25)
theorem k0_off773_inb : ∀ (v1347 : BitVec 32) (k0_hw25 : k0_chk25 v1347), ∀ a, (k0_off773 v1347) a + S1x128x256.size a ≤ S2x4096x512.size a := fun v1347 k0_hw25 => k0_hw25.2.2.2.2.1
theorem k0_off773_wordsbf16 : ∀ (v1347 : BitVec 32) (k0_hw25 : k0_chk25 v1347), (Rect.unit (s := S2x4096x512) (k0_off773 v1347) S1x128x256.size (k0_off773_inb v1347 k0_hw25)).WholeWords (EltTy.packing .bf16) := fun v1347 k0_hw25 => k0_hw25.2.2.2.2.2 (k0_off773_inb v1347 k0_hw25)

def k0_off774 (v1367 : BitVec 32) : Fin 3 → Nat :=
  let c0_i32_5691 : BitVec 32 := 0#32
  let c128_i32_1184 : BitVec 32 := 128#32
  let v1368 : BitVec 32 := Scalar.muli v1367 c128_i32_1184
  let c0_i32_5699 : BitVec 32 := 0#32
  ![0, v1368.toNat, 0]

def k0_chk26 (v1367 : BitVec 32) : Prop :=
  (∀ a, (k0_off145 v1367) a + S1x128x256.size a ≤ S2x4096x512.size a) ∧
  (∀ (hinb : ∀ a, (k0_off145 v1367) a + S1x128x256.size a ≤ S2x4096x512.size a), (Rect.unit (s := S2x4096x512) (k0_off145 v1367) S1x128x256.size hinb).WholeWords (EltTy.packing .bf16)) ∧
  (∀ a, (k0_off240 v1367) a + S1x128x256.size a ≤ S2x4096x512.size a) ∧
  (∀ (hinb : ∀ a, (k0_off240 v1367) a + S1x128x256.size a ≤ S2x4096x512.size a), (Rect.unit (s := S2x4096x512) (k0_off240 v1367) S1x128x256.size hinb).WholeWords (EltTy.packing .bf16)) ∧
  (∀ a, (k0_off774 v1367) a + S1x128x256.size a ≤ S2x4096x512.size a) ∧
  (∀ (hinb : ∀ a, (k0_off774 v1367) a + S1x128x256.size a ≤ S2x4096x512.size a), (Rect.unit (s := S2x4096x512) (k0_off774 v1367) S1x128x256.size hinb).WholeWords (EltTy.packing .bf16))
theorem k0_off145_inb : ∀ (v1367 : BitVec 32) (k0_hw26 : k0_chk26 v1367), ∀ a, (k0_off145 v1367) a + S1x128x256.size a ≤ S2x4096x512.size a := fun v1367 k0_hw26 => k0_hw26.1
theorem k0_off145_wordsbf16 : ∀ (v1367 : BitVec 32) (k0_hw26 : k0_chk26 v1367), (Rect.unit (s := S2x4096x512) (k0_off145 v1367) S1x128x256.size (k0_off145_inb v1367 k0_hw26)).WholeWords (EltTy.packing .bf16) := fun v1367 k0_hw26 => k0_hw26.2.1 (k0_off145_inb v1367 k0_hw26)
theorem k0_off240_inb : ∀ (v1367 : BitVec 32) (k0_hw26 : k0_chk26 v1367), ∀ a, (k0_off240 v1367) a + S1x128x256.size a ≤ S2x4096x512.size a := fun v1367 k0_hw26 => k0_hw26.2.2.1
theorem k0_off240_wordsbf16 : ∀ (v1367 : BitVec 32) (k0_hw26 : k0_chk26 v1367), (Rect.unit (s := S2x4096x512) (k0_off240 v1367) S1x128x256.size (k0_off240_inb v1367 k0_hw26)).WholeWords (EltTy.packing .bf16) := fun v1367 k0_hw26 => k0_hw26.2.2.2.1 (k0_off240_inb v1367 k0_hw26)
theorem k0_off774_inb : ∀ (v1367 : BitVec 32) (k0_hw26 : k0_chk26 v1367), ∀ a, (k0_off774 v1367) a + S1x128x256.size a ≤ S2x4096x512.size a := fun v1367 k0_hw26 => k0_hw26.2.2.2.2.1
theorem k0_off774_wordsbf16 : ∀ (v1367 : BitVec 32) (k0_hw26 : k0_chk26 v1367), (Rect.unit (s := S2x4096x512) (k0_off774 v1367) S1x128x256.size (k0_off774_inb v1367 k0_hw26)).WholeWords (EltTy.packing .bf16) := fun v1367 k0_hw26 => k0_hw26.2.2.2.2.2 (k0_off774_inb v1367 k0_hw26)

def k0_off775 (v1387 : BitVec 32) : Fin 3 → Nat :=
  let c0_i32_5702 : BitVec 32 := 0#32
  let c128_i32_1211 : BitVec 32 := 128#32
  let v1388 : BitVec 32 := Scalar.muli v1387 c128_i32_1211
  let c256_i32_5710 : BitVec 32 := 256#32
  ![0, v1388.toNat, 256]

def k0_chk27 (v1387 : BitVec 32) : Prop :=
  (∀ a, (k0_off147 v1387) a + S1x128x256.size a ≤ S2x4096x512.size a) ∧
  (∀ (hinb : ∀ a, (k0_off147 v1387) a + S1x128x256.size a ≤ S2x4096x512.size a), (Rect.unit (s := S2x4096x512) (k0_off147 v1387) S1x128x256.size hinb).WholeWords (EltTy.packing .bf16)) ∧
  (∀ a, (k0_off242 v1387) a + S1x128x256.size a ≤ S2x4096x512.size a) ∧
  (∀ (hinb : ∀ a, (k0_off242 v1387) a + S1x128x256.size a ≤ S2x4096x512.size a), (Rect.unit (s := S2x4096x512) (k0_off242 v1387) S1x128x256.size hinb).WholeWords (EltTy.packing .bf16)) ∧
  (∀ a, (k0_off775 v1387) a + S1x128x256.size a ≤ S2x4096x512.size a) ∧
  (∀ (hinb : ∀ a, (k0_off775 v1387) a + S1x128x256.size a ≤ S2x4096x512.size a), (Rect.unit (s := S2x4096x512) (k0_off775 v1387) S1x128x256.size hinb).WholeWords (EltTy.packing .bf16))
theorem k0_off147_inb : ∀ (v1387 : BitVec 32) (k0_hw27 : k0_chk27 v1387), ∀ a, (k0_off147 v1387) a + S1x128x256.size a ≤ S2x4096x512.size a := fun v1387 k0_hw27 => k0_hw27.1
theorem k0_off147_wordsbf16 : ∀ (v1387 : BitVec 32) (k0_hw27 : k0_chk27 v1387), (Rect.unit (s := S2x4096x512) (k0_off147 v1387) S1x128x256.size (k0_off147_inb v1387 k0_hw27)).WholeWords (EltTy.packing .bf16) := fun v1387 k0_hw27 => k0_hw27.2.1 (k0_off147_inb v1387 k0_hw27)
theorem k0_off242_inb : ∀ (v1387 : BitVec 32) (k0_hw27 : k0_chk27 v1387), ∀ a, (k0_off242 v1387) a + S1x128x256.size a ≤ S2x4096x512.size a := fun v1387 k0_hw27 => k0_hw27.2.2.1
theorem k0_off242_wordsbf16 : ∀ (v1387 : BitVec 32) (k0_hw27 : k0_chk27 v1387), (Rect.unit (s := S2x4096x512) (k0_off242 v1387) S1x128x256.size (k0_off242_inb v1387 k0_hw27)).WholeWords (EltTy.packing .bf16) := fun v1387 k0_hw27 => k0_hw27.2.2.2.1 (k0_off242_inb v1387 k0_hw27)
theorem k0_off775_inb : ∀ (v1387 : BitVec 32) (k0_hw27 : k0_chk27 v1387), ∀ a, (k0_off775 v1387) a + S1x128x256.size a ≤ S2x4096x512.size a := fun v1387 k0_hw27 => k0_hw27.2.2.2.2.1
theorem k0_off775_wordsbf16 : ∀ (v1387 : BitVec 32) (k0_hw27 : k0_chk27 v1387), (Rect.unit (s := S2x4096x512) (k0_off775 v1387) S1x128x256.size (k0_off775_inb v1387 k0_hw27)).WholeWords (EltTy.packing .bf16) := fun v1387 k0_hw27 => k0_hw27.2.2.2.2.2 (k0_off775_inb v1387 k0_hw27)

def k0_off776 (v1407 : BitVec 32) : Fin 3 → Nat :=
  let c1_i32_5713 : BitVec 32 := 1#32
  let c128_i32_1238 : BitVec 32 := 128#32
  let v1408 : BitVec 32 := Scalar.muli v1407 c128_i32_1238
  let c0_i32_5721 : BitVec 32 := 0#32
  ![1, v1408.toNat, 0]

def k0_chk28 (v1407 : BitVec 32) : Prop :=
  (∀ a, (k0_off149 v1407) a + S1x128x256.size a ≤ S2x4096x512.size a) ∧
  (∀ (hinb : ∀ a, (k0_off149 v1407) a + S1x128x256.size a ≤ S2x4096x512.size a), (Rect.unit (s := S2x4096x512) (k0_off149 v1407) S1x128x256.size hinb).WholeWords (EltTy.packing .bf16)) ∧
  (∀ a, (k0_off244 v1407) a + S1x128x256.size a ≤ S2x4096x512.size a) ∧
  (∀ (hinb : ∀ a, (k0_off244 v1407) a + S1x128x256.size a ≤ S2x4096x512.size a), (Rect.unit (s := S2x4096x512) (k0_off244 v1407) S1x128x256.size hinb).WholeWords (EltTy.packing .bf16)) ∧
  (∀ a, (k0_off776 v1407) a + S1x128x256.size a ≤ S2x4096x512.size a) ∧
  (∀ (hinb : ∀ a, (k0_off776 v1407) a + S1x128x256.size a ≤ S2x4096x512.size a), (Rect.unit (s := S2x4096x512) (k0_off776 v1407) S1x128x256.size hinb).WholeWords (EltTy.packing .bf16))
theorem k0_off149_inb : ∀ (v1407 : BitVec 32) (k0_hw28 : k0_chk28 v1407), ∀ a, (k0_off149 v1407) a + S1x128x256.size a ≤ S2x4096x512.size a := fun v1407 k0_hw28 => k0_hw28.1
theorem k0_off149_wordsbf16 : ∀ (v1407 : BitVec 32) (k0_hw28 : k0_chk28 v1407), (Rect.unit (s := S2x4096x512) (k0_off149 v1407) S1x128x256.size (k0_off149_inb v1407 k0_hw28)).WholeWords (EltTy.packing .bf16) := fun v1407 k0_hw28 => k0_hw28.2.1 (k0_off149_inb v1407 k0_hw28)
theorem k0_off244_inb : ∀ (v1407 : BitVec 32) (k0_hw28 : k0_chk28 v1407), ∀ a, (k0_off244 v1407) a + S1x128x256.size a ≤ S2x4096x512.size a := fun v1407 k0_hw28 => k0_hw28.2.2.1
theorem k0_off244_wordsbf16 : ∀ (v1407 : BitVec 32) (k0_hw28 : k0_chk28 v1407), (Rect.unit (s := S2x4096x512) (k0_off244 v1407) S1x128x256.size (k0_off244_inb v1407 k0_hw28)).WholeWords (EltTy.packing .bf16) := fun v1407 k0_hw28 => k0_hw28.2.2.2.1 (k0_off244_inb v1407 k0_hw28)
theorem k0_off776_inb : ∀ (v1407 : BitVec 32) (k0_hw28 : k0_chk28 v1407), ∀ a, (k0_off776 v1407) a + S1x128x256.size a ≤ S2x4096x512.size a := fun v1407 k0_hw28 => k0_hw28.2.2.2.2.1
theorem k0_off776_wordsbf16 : ∀ (v1407 : BitVec 32) (k0_hw28 : k0_chk28 v1407), (Rect.unit (s := S2x4096x512) (k0_off776 v1407) S1x128x256.size (k0_off776_inb v1407 k0_hw28)).WholeWords (EltTy.packing .bf16) := fun v1407 k0_hw28 => k0_hw28.2.2.2.2.2 (k0_off776_inb v1407 k0_hw28)

def k0_off777 (v1427 : BitVec 32) : Fin 3 → Nat :=
  let c1_i32_5724 : BitVec 32 := 1#32
  let c128_i32_1265 : BitVec 32 := 128#32
  let v1428 : BitVec 32 := Scalar.muli v1427 c128_i32_1265
  let c256_i32_5732 : BitVec 32 := 256#32
  ![1, v1428.toNat, 256]

def k0_chk29 (v1427 : BitVec 32) : Prop :=
  (∀ a, (k0_off151 v1427) a + S1x128x256.size a ≤ S2x4096x512.size a) ∧
  (∀ (hinb : ∀ a, (k0_off151 v1427) a + S1x128x256.size a ≤ S2x4096x512.size a), (Rect.unit (s := S2x4096x512) (k0_off151 v1427) S1x128x256.size hinb).WholeWords (EltTy.packing .bf16)) ∧
  (∀ a, (k0_off246 v1427) a + S1x128x256.size a ≤ S2x4096x512.size a) ∧
  (∀ (hinb : ∀ a, (k0_off246 v1427) a + S1x128x256.size a ≤ S2x4096x512.size a), (Rect.unit (s := S2x4096x512) (k0_off246 v1427) S1x128x256.size hinb).WholeWords (EltTy.packing .bf16)) ∧
  (∀ a, (k0_off777 v1427) a + S1x128x256.size a ≤ S2x4096x512.size a) ∧
  (∀ (hinb : ∀ a, (k0_off777 v1427) a + S1x128x256.size a ≤ S2x4096x512.size a), (Rect.unit (s := S2x4096x512) (k0_off777 v1427) S1x128x256.size hinb).WholeWords (EltTy.packing .bf16))
theorem k0_off151_inb : ∀ (v1427 : BitVec 32) (k0_hw29 : k0_chk29 v1427), ∀ a, (k0_off151 v1427) a + S1x128x256.size a ≤ S2x4096x512.size a := fun v1427 k0_hw29 => k0_hw29.1
theorem k0_off151_wordsbf16 : ∀ (v1427 : BitVec 32) (k0_hw29 : k0_chk29 v1427), (Rect.unit (s := S2x4096x512) (k0_off151 v1427) S1x128x256.size (k0_off151_inb v1427 k0_hw29)).WholeWords (EltTy.packing .bf16) := fun v1427 k0_hw29 => k0_hw29.2.1 (k0_off151_inb v1427 k0_hw29)
theorem k0_off246_inb : ∀ (v1427 : BitVec 32) (k0_hw29 : k0_chk29 v1427), ∀ a, (k0_off246 v1427) a + S1x128x256.size a ≤ S2x4096x512.size a := fun v1427 k0_hw29 => k0_hw29.2.2.1
theorem k0_off246_wordsbf16 : ∀ (v1427 : BitVec 32) (k0_hw29 : k0_chk29 v1427), (Rect.unit (s := S2x4096x512) (k0_off246 v1427) S1x128x256.size (k0_off246_inb v1427 k0_hw29)).WholeWords (EltTy.packing .bf16) := fun v1427 k0_hw29 => k0_hw29.2.2.2.1 (k0_off246_inb v1427 k0_hw29)
theorem k0_off777_inb : ∀ (v1427 : BitVec 32) (k0_hw29 : k0_chk29 v1427), ∀ a, (k0_off777 v1427) a + S1x128x256.size a ≤ S2x4096x512.size a := fun v1427 k0_hw29 => k0_hw29.2.2.2.2.1
theorem k0_off777_wordsbf16 : ∀ (v1427 : BitVec 32) (k0_hw29 : k0_chk29 v1427), (Rect.unit (s := S2x4096x512) (k0_off777 v1427) S1x128x256.size (k0_off777_inb v1427 k0_hw29)).WholeWords (EltTy.packing .bf16) := fun v1427 k0_hw29 => k0_hw29.2.2.2.2.2 (k0_off777_inb v1427 k0_hw29)

def k0_off778 (v1447 : BitVec 32) : Fin 3 → Nat :=
  let c1_i32_5735 : BitVec 32 := 1#32
  let c128_i32_1292 : BitVec 32 := 128#32
  let v1448 : BitVec 32 := Scalar.muli v1447 c128_i32_1292
  let c0_i32_5743 : BitVec 32 := 0#32
  ![1, v1448.toNat, 0]

def k0_chk30 (v1447 : BitVec 32) : Prop :=
  (∀ a, (k0_off153 v1447) a + S1x128x256.size a ≤ S2x4096x512.size a) ∧
  (∀ (hinb : ∀ a, (k0_off153 v1447) a + S1x128x256.size a ≤ S2x4096x512.size a), (Rect.unit (s := S2x4096x512) (k0_off153 v1447) S1x128x256.size hinb).WholeWords (EltTy.packing .bf16)) ∧
  (∀ a, (k0_off248 v1447) a + S1x128x256.size a ≤ S2x4096x512.size a) ∧
  (∀ (hinb : ∀ a, (k0_off248 v1447) a + S1x128x256.size a ≤ S2x4096x512.size a), (Rect.unit (s := S2x4096x512) (k0_off248 v1447) S1x128x256.size hinb).WholeWords (EltTy.packing .bf16)) ∧
  (∀ a, (k0_off778 v1447) a + S1x128x256.size a ≤ S2x4096x512.size a) ∧
  (∀ (hinb : ∀ a, (k0_off778 v1447) a + S1x128x256.size a ≤ S2x4096x512.size a), (Rect.unit (s := S2x4096x512) (k0_off778 v1447) S1x128x256.size hinb).WholeWords (EltTy.packing .bf16))
theorem k0_off153_inb : ∀ (v1447 : BitVec 32) (k0_hw30 : k0_chk30 v1447), ∀ a, (k0_off153 v1447) a + S1x128x256.size a ≤ S2x4096x512.size a := fun v1447 k0_hw30 => k0_hw30.1
theorem k0_off153_wordsbf16 : ∀ (v1447 : BitVec 32) (k0_hw30 : k0_chk30 v1447), (Rect.unit (s := S2x4096x512) (k0_off153 v1447) S1x128x256.size (k0_off153_inb v1447 k0_hw30)).WholeWords (EltTy.packing .bf16) := fun v1447 k0_hw30 => k0_hw30.2.1 (k0_off153_inb v1447 k0_hw30)
theorem k0_off248_inb : ∀ (v1447 : BitVec 32) (k0_hw30 : k0_chk30 v1447), ∀ a, (k0_off248 v1447) a + S1x128x256.size a ≤ S2x4096x512.size a := fun v1447 k0_hw30 => k0_hw30.2.2.1
theorem k0_off248_wordsbf16 : ∀ (v1447 : BitVec 32) (k0_hw30 : k0_chk30 v1447), (Rect.unit (s := S2x4096x512) (k0_off248 v1447) S1x128x256.size (k0_off248_inb v1447 k0_hw30)).WholeWords (EltTy.packing .bf16) := fun v1447 k0_hw30 => k0_hw30.2.2.2.1 (k0_off248_inb v1447 k0_hw30)
theorem k0_off778_inb : ∀ (v1447 : BitVec 32) (k0_hw30 : k0_chk30 v1447), ∀ a, (k0_off778 v1447) a + S1x128x256.size a ≤ S2x4096x512.size a := fun v1447 k0_hw30 => k0_hw30.2.2.2.2.1
theorem k0_off778_wordsbf16 : ∀ (v1447 : BitVec 32) (k0_hw30 : k0_chk30 v1447), (Rect.unit (s := S2x4096x512) (k0_off778 v1447) S1x128x256.size (k0_off778_inb v1447 k0_hw30)).WholeWords (EltTy.packing .bf16) := fun v1447 k0_hw30 => k0_hw30.2.2.2.2.2 (k0_off778_inb v1447 k0_hw30)

def k0_off779 (v1467 : BitVec 32) : Fin 3 → Nat :=
  let c1_i32_5746 : BitVec 32 := 1#32
  let c128_i32_1319 : BitVec 32 := 128#32
  let v1468 : BitVec 32 := Scalar.muli v1467 c128_i32_1319
  let c256_i32_5754 : BitVec 32 := 256#32
  ![1, v1468.toNat, 256]

def k0_chk31 (v1467 : BitVec 32) : Prop :=
  (∀ a, (k0_off155 v1467) a + S1x128x256.size a ≤ S2x4096x512.size a) ∧
  (∀ (hinb : ∀ a, (k0_off155 v1467) a + S1x128x256.size a ≤ S2x4096x512.size a), (Rect.unit (s := S2x4096x512) (k0_off155 v1467) S1x128x256.size hinb).WholeWords (EltTy.packing .bf16)) ∧
  (∀ a, (k0_off250 v1467) a + S1x128x256.size a ≤ S2x4096x512.size a) ∧
  (∀ (hinb : ∀ a, (k0_off250 v1467) a + S1x128x256.size a ≤ S2x4096x512.size a), (Rect.unit (s := S2x4096x512) (k0_off250 v1467) S1x128x256.size hinb).WholeWords (EltTy.packing .bf16)) ∧
  (∀ a, (k0_off779 v1467) a + S1x128x256.size a ≤ S2x4096x512.size a) ∧
  (∀ (hinb : ∀ a, (k0_off779 v1467) a + S1x128x256.size a ≤ S2x4096x512.size a), (Rect.unit (s := S2x4096x512) (k0_off779 v1467) S1x128x256.size hinb).WholeWords (EltTy.packing .bf16))
theorem k0_off155_inb : ∀ (v1467 : BitVec 32) (k0_hw31 : k0_chk31 v1467), ∀ a, (k0_off155 v1467) a + S1x128x256.size a ≤ S2x4096x512.size a := fun v1467 k0_hw31 => k0_hw31.1
theorem k0_off155_wordsbf16 : ∀ (v1467 : BitVec 32) (k0_hw31 : k0_chk31 v1467), (Rect.unit (s := S2x4096x512) (k0_off155 v1467) S1x128x256.size (k0_off155_inb v1467 k0_hw31)).WholeWords (EltTy.packing .bf16) := fun v1467 k0_hw31 => k0_hw31.2.1 (k0_off155_inb v1467 k0_hw31)
theorem k0_off250_inb : ∀ (v1467 : BitVec 32) (k0_hw31 : k0_chk31 v1467), ∀ a, (k0_off250 v1467) a + S1x128x256.size a ≤ S2x4096x512.size a := fun v1467 k0_hw31 => k0_hw31.2.2.1
theorem k0_off250_wordsbf16 : ∀ (v1467 : BitVec 32) (k0_hw31 : k0_chk31 v1467), (Rect.unit (s := S2x4096x512) (k0_off250 v1467) S1x128x256.size (k0_off250_inb v1467 k0_hw31)).WholeWords (EltTy.packing .bf16) := fun v1467 k0_hw31 => k0_hw31.2.2.2.1 (k0_off250_inb v1467 k0_hw31)
theorem k0_off779_inb : ∀ (v1467 : BitVec 32) (k0_hw31 : k0_chk31 v1467), ∀ a, (k0_off779 v1467) a + S1x128x256.size a ≤ S2x4096x512.size a := fun v1467 k0_hw31 => k0_hw31.2.2.2.2.1
theorem k0_off779_wordsbf16 : ∀ (v1467 : BitVec 32) (k0_hw31 : k0_chk31 v1467), (Rect.unit (s := S2x4096x512) (k0_off779 v1467) S1x128x256.size (k0_off779_inb v1467 k0_hw31)).WholeWords (EltTy.packing .bf16) := fun v1467 k0_hw31 => k0_hw31.2.2.2.2.2 (k0_off779_inb v1467 k0_hw31)

def k0_off780 (v1487 : BitVec 32) : Fin 3 → Nat :=
  let c0_i32_5757 : BitVec 32 := 0#32
  let c128_i32_1346 : BitVec 32 := 128#32
  let v1488 : BitVec 32 := Scalar.muli v1487 c128_i32_1346
  let c0_i32_5765 : BitVec 32 := 0#32
  ![0, v1488.toNat, 0]

def k0_chk32 (v1487 : BitVec 32) : Prop :=
  (∀ a, (k0_off157 v1487) a + S1x128x256.size a ≤ S2x4096x512.size a) ∧
  (∀ (hinb : ∀ a, (k0_off157 v1487) a + S1x128x256.size a ≤ S2x4096x512.size a), (Rect.unit (s := S2x4096x512) (k0_off157 v1487) S1x128x256.size hinb).WholeWords (EltTy.packing .bf16)) ∧
  (∀ a, (k0_off252 v1487) a + S1x128x256.size a ≤ S2x4096x512.size a) ∧
  (∀ (hinb : ∀ a, (k0_off252 v1487) a + S1x128x256.size a ≤ S2x4096x512.size a), (Rect.unit (s := S2x4096x512) (k0_off252 v1487) S1x128x256.size hinb).WholeWords (EltTy.packing .bf16)) ∧
  (∀ a, (k0_off780 v1487) a + S1x128x256.size a ≤ S2x4096x512.size a) ∧
  (∀ (hinb : ∀ a, (k0_off780 v1487) a + S1x128x256.size a ≤ S2x4096x512.size a), (Rect.unit (s := S2x4096x512) (k0_off780 v1487) S1x128x256.size hinb).WholeWords (EltTy.packing .bf16))
theorem k0_off157_inb : ∀ (v1487 : BitVec 32) (k0_hw32 : k0_chk32 v1487), ∀ a, (k0_off157 v1487) a + S1x128x256.size a ≤ S2x4096x512.size a := fun v1487 k0_hw32 => k0_hw32.1
theorem k0_off157_wordsbf16 : ∀ (v1487 : BitVec 32) (k0_hw32 : k0_chk32 v1487), (Rect.unit (s := S2x4096x512) (k0_off157 v1487) S1x128x256.size (k0_off157_inb v1487 k0_hw32)).WholeWords (EltTy.packing .bf16) := fun v1487 k0_hw32 => k0_hw32.2.1 (k0_off157_inb v1487 k0_hw32)
theorem k0_off252_inb : ∀ (v1487 : BitVec 32) (k0_hw32 : k0_chk32 v1487), ∀ a, (k0_off252 v1487) a + S1x128x256.size a ≤ S2x4096x512.size a := fun v1487 k0_hw32 => k0_hw32.2.2.1
theorem k0_off252_wordsbf16 : ∀ (v1487 : BitVec 32) (k0_hw32 : k0_chk32 v1487), (Rect.unit (s := S2x4096x512) (k0_off252 v1487) S1x128x256.size (k0_off252_inb v1487 k0_hw32)).WholeWords (EltTy.packing .bf16) := fun v1487 k0_hw32 => k0_hw32.2.2.2.1 (k0_off252_inb v1487 k0_hw32)
theorem k0_off780_inb : ∀ (v1487 : BitVec 32) (k0_hw32 : k0_chk32 v1487), ∀ a, (k0_off780 v1487) a + S1x128x256.size a ≤ S2x4096x512.size a := fun v1487 k0_hw32 => k0_hw32.2.2.2.2.1
theorem k0_off780_wordsbf16 : ∀ (v1487 : BitVec 32) (k0_hw32 : k0_chk32 v1487), (Rect.unit (s := S2x4096x512) (k0_off780 v1487) S1x128x256.size (k0_off780_inb v1487 k0_hw32)).WholeWords (EltTy.packing .bf16) := fun v1487 k0_hw32 => k0_hw32.2.2.2.2.2 (k0_off780_inb v1487 k0_hw32)

def k0_off781 (v1507 : BitVec 32) : Fin 3 → Nat :=
  let c0_i32_5768 : BitVec 32 := 0#32
  let c128_i32_1373 : BitVec 32 := 128#32
  let v1508 : BitVec 32 := Scalar.muli v1507 c128_i32_1373
  let c256_i32_5776 : BitVec 32 := 256#32
  ![0, v1508.toNat, 256]

def k0_chk33 (v1507 : BitVec 32) : Prop :=
  (∀ a, (k0_off159 v1507) a + S1x128x256.size a ≤ S2x4096x512.size a) ∧
  (∀ (hinb : ∀ a, (k0_off159 v1507) a + S1x128x256.size a ≤ S2x4096x512.size a), (Rect.unit (s := S2x4096x512) (k0_off159 v1507) S1x128x256.size hinb).WholeWords (EltTy.packing .bf16)) ∧
  (∀ a, (k0_off254 v1507) a + S1x128x256.size a ≤ S2x4096x512.size a) ∧
  (∀ (hinb : ∀ a, (k0_off254 v1507) a + S1x128x256.size a ≤ S2x4096x512.size a), (Rect.unit (s := S2x4096x512) (k0_off254 v1507) S1x128x256.size hinb).WholeWords (EltTy.packing .bf16)) ∧
  (∀ a, (k0_off781 v1507) a + S1x128x256.size a ≤ S2x4096x512.size a) ∧
  (∀ (hinb : ∀ a, (k0_off781 v1507) a + S1x128x256.size a ≤ S2x4096x512.size a), (Rect.unit (s := S2x4096x512) (k0_off781 v1507) S1x128x256.size hinb).WholeWords (EltTy.packing .bf16))
theorem k0_off159_inb : ∀ (v1507 : BitVec 32) (k0_hw33 : k0_chk33 v1507), ∀ a, (k0_off159 v1507) a + S1x128x256.size a ≤ S2x4096x512.size a := fun v1507 k0_hw33 => k0_hw33.1
theorem k0_off159_wordsbf16 : ∀ (v1507 : BitVec 32) (k0_hw33 : k0_chk33 v1507), (Rect.unit (s := S2x4096x512) (k0_off159 v1507) S1x128x256.size (k0_off159_inb v1507 k0_hw33)).WholeWords (EltTy.packing .bf16) := fun v1507 k0_hw33 => k0_hw33.2.1 (k0_off159_inb v1507 k0_hw33)
theorem k0_off254_inb : ∀ (v1507 : BitVec 32) (k0_hw33 : k0_chk33 v1507), ∀ a, (k0_off254 v1507) a + S1x128x256.size a ≤ S2x4096x512.size a := fun v1507 k0_hw33 => k0_hw33.2.2.1
theorem k0_off254_wordsbf16 : ∀ (v1507 : BitVec 32) (k0_hw33 : k0_chk33 v1507), (Rect.unit (s := S2x4096x512) (k0_off254 v1507) S1x128x256.size (k0_off254_inb v1507 k0_hw33)).WholeWords (EltTy.packing .bf16) := fun v1507 k0_hw33 => k0_hw33.2.2.2.1 (k0_off254_inb v1507 k0_hw33)
theorem k0_off781_inb : ∀ (v1507 : BitVec 32) (k0_hw33 : k0_chk33 v1507), ∀ a, (k0_off781 v1507) a + S1x128x256.size a ≤ S2x4096x512.size a := fun v1507 k0_hw33 => k0_hw33.2.2.2.2.1
theorem k0_off781_wordsbf16 : ∀ (v1507 : BitVec 32) (k0_hw33 : k0_chk33 v1507), (Rect.unit (s := S2x4096x512) (k0_off781 v1507) S1x128x256.size (k0_off781_inb v1507 k0_hw33)).WholeWords (EltTy.packing .bf16) := fun v1507 k0_hw33 => k0_hw33.2.2.2.2.2 (k0_off781_inb v1507 k0_hw33)

def k0_off782 (v1527 : BitVec 32) : Fin 3 → Nat :=
  let c0_i32_5779 : BitVec 32 := 0#32
  let c128_i32_1400 : BitVec 32 := 128#32
  let v1528 : BitVec 32 := Scalar.muli v1527 c128_i32_1400
  let c0_i32_5787 : BitVec 32 := 0#32
  ![0, v1528.toNat, 0]

def k0_chk34 (v1527 : BitVec 32) : Prop :=
  (∀ a, (k0_off161 v1527) a + S1x128x256.size a ≤ S2x4096x512.size a) ∧
  (∀ (hinb : ∀ a, (k0_off161 v1527) a + S1x128x256.size a ≤ S2x4096x512.size a), (Rect.unit (s := S2x4096x512) (k0_off161 v1527) S1x128x256.size hinb).WholeWords (EltTy.packing .bf16)) ∧
  (∀ a, (k0_off256 v1527) a + S1x128x256.size a ≤ S2x4096x512.size a) ∧
  (∀ (hinb : ∀ a, (k0_off256 v1527) a + S1x128x256.size a ≤ S2x4096x512.size a), (Rect.unit (s := S2x4096x512) (k0_off256 v1527) S1x128x256.size hinb).WholeWords (EltTy.packing .bf16)) ∧
  (∀ a, (k0_off782 v1527) a + S1x128x256.size a ≤ S2x4096x512.size a) ∧
  (∀ (hinb : ∀ a, (k0_off782 v1527) a + S1x128x256.size a ≤ S2x4096x512.size a), (Rect.unit (s := S2x4096x512) (k0_off782 v1527) S1x128x256.size hinb).WholeWords (EltTy.packing .bf16))
theorem k0_off161_inb : ∀ (v1527 : BitVec 32) (k0_hw34 : k0_chk34 v1527), ∀ a, (k0_off161 v1527) a + S1x128x256.size a ≤ S2x4096x512.size a := fun v1527 k0_hw34 => k0_hw34.1
theorem k0_off161_wordsbf16 : ∀ (v1527 : BitVec 32) (k0_hw34 : k0_chk34 v1527), (Rect.unit (s := S2x4096x512) (k0_off161 v1527) S1x128x256.size (k0_off161_inb v1527 k0_hw34)).WholeWords (EltTy.packing .bf16) := fun v1527 k0_hw34 => k0_hw34.2.1 (k0_off161_inb v1527 k0_hw34)
theorem k0_off256_inb : ∀ (v1527 : BitVec 32) (k0_hw34 : k0_chk34 v1527), ∀ a, (k0_off256 v1527) a + S1x128x256.size a ≤ S2x4096x512.size a := fun v1527 k0_hw34 => k0_hw34.2.2.1
theorem k0_off256_wordsbf16 : ∀ (v1527 : BitVec 32) (k0_hw34 : k0_chk34 v1527), (Rect.unit (s := S2x4096x512) (k0_off256 v1527) S1x128x256.size (k0_off256_inb v1527 k0_hw34)).WholeWords (EltTy.packing .bf16) := fun v1527 k0_hw34 => k0_hw34.2.2.2.1 (k0_off256_inb v1527 k0_hw34)
theorem k0_off782_inb : ∀ (v1527 : BitVec 32) (k0_hw34 : k0_chk34 v1527), ∀ a, (k0_off782 v1527) a + S1x128x256.size a ≤ S2x4096x512.size a := fun v1527 k0_hw34 => k0_hw34.2.2.2.2.1
theorem k0_off782_wordsbf16 : ∀ (v1527 : BitVec 32) (k0_hw34 : k0_chk34 v1527), (Rect.unit (s := S2x4096x512) (k0_off782 v1527) S1x128x256.size (k0_off782_inb v1527 k0_hw34)).WholeWords (EltTy.packing .bf16) := fun v1527 k0_hw34 => k0_hw34.2.2.2.2.2 (k0_off782_inb v1527 k0_hw34)

def k0_off783 (v1547 : BitVec 32) : Fin 3 → Nat :=
  let c0_i32_5790 : BitVec 32 := 0#32
  let c128_i32_1427 : BitVec 32 := 128#32
  let v1548 : BitVec 32 := Scalar.muli v1547 c128_i32_1427
  let c256_i32_5798 : BitVec 32 := 256#32
  ![0, v1548.toNat, 256]

def k0_chk35 (v1547 : BitVec 32) : Prop :=
  (∀ a, (k0_off163 v1547) a + S1x128x256.size a ≤ S2x4096x512.size a) ∧
  (∀ (hinb : ∀ a, (k0_off163 v1547) a + S1x128x256.size a ≤ S2x4096x512.size a), (Rect.unit (s := S2x4096x512) (k0_off163 v1547) S1x128x256.size hinb).WholeWords (EltTy.packing .bf16)) ∧
  (∀ a, (k0_off258 v1547) a + S1x128x256.size a ≤ S2x4096x512.size a) ∧
  (∀ (hinb : ∀ a, (k0_off258 v1547) a + S1x128x256.size a ≤ S2x4096x512.size a), (Rect.unit (s := S2x4096x512) (k0_off258 v1547) S1x128x256.size hinb).WholeWords (EltTy.packing .bf16)) ∧
  (∀ a, (k0_off783 v1547) a + S1x128x256.size a ≤ S2x4096x512.size a) ∧
  (∀ (hinb : ∀ a, (k0_off783 v1547) a + S1x128x256.size a ≤ S2x4096x512.size a), (Rect.unit (s := S2x4096x512) (k0_off783 v1547) S1x128x256.size hinb).WholeWords (EltTy.packing .bf16))
theorem k0_off163_inb : ∀ (v1547 : BitVec 32) (k0_hw35 : k0_chk35 v1547), ∀ a, (k0_off163 v1547) a + S1x128x256.size a ≤ S2x4096x512.size a := fun v1547 k0_hw35 => k0_hw35.1
theorem k0_off163_wordsbf16 : ∀ (v1547 : BitVec 32) (k0_hw35 : k0_chk35 v1547), (Rect.unit (s := S2x4096x512) (k0_off163 v1547) S1x128x256.size (k0_off163_inb v1547 k0_hw35)).WholeWords (EltTy.packing .bf16) := fun v1547 k0_hw35 => k0_hw35.2.1 (k0_off163_inb v1547 k0_hw35)
theorem k0_off258_inb : ∀ (v1547 : BitVec 32) (k0_hw35 : k0_chk35 v1547), ∀ a, (k0_off258 v1547) a + S1x128x256.size a ≤ S2x4096x512.size a := fun v1547 k0_hw35 => k0_hw35.2.2.1
theorem k0_off258_wordsbf16 : ∀ (v1547 : BitVec 32) (k0_hw35 : k0_chk35 v1547), (Rect.unit (s := S2x4096x512) (k0_off258 v1547) S1x128x256.size (k0_off258_inb v1547 k0_hw35)).WholeWords (EltTy.packing .bf16) := fun v1547 k0_hw35 => k0_hw35.2.2.2.1 (k0_off258_inb v1547 k0_hw35)
theorem k0_off783_inb : ∀ (v1547 : BitVec 32) (k0_hw35 : k0_chk35 v1547), ∀ a, (k0_off783 v1547) a + S1x128x256.size a ≤ S2x4096x512.size a := fun v1547 k0_hw35 => k0_hw35.2.2.2.2.1
theorem k0_off783_wordsbf16 : ∀ (v1547 : BitVec 32) (k0_hw35 : k0_chk35 v1547), (Rect.unit (s := S2x4096x512) (k0_off783 v1547) S1x128x256.size (k0_off783_inb v1547 k0_hw35)).WholeWords (EltTy.packing .bf16) := fun v1547 k0_hw35 => k0_hw35.2.2.2.2.2 (k0_off783_inb v1547 k0_hw35)

def k0_off784 (v1567 : BitVec 32) : Fin 3 → Nat :=
  let c1_i32_5801 : BitVec 32 := 1#32
  let c128_i32_1454 : BitVec 32 := 128#32
  let v1568 : BitVec 32 := Scalar.muli v1567 c128_i32_1454
  let c0_i32_5809 : BitVec 32 := 0#32
  ![1, v1568.toNat, 0]

def k0_chk36 (v1567 : BitVec 32) : Prop :=
  (∀ a, (k0_off165 v1567) a + S1x128x256.size a ≤ S2x4096x512.size a) ∧
  (∀ (hinb : ∀ a, (k0_off165 v1567) a + S1x128x256.size a ≤ S2x4096x512.size a), (Rect.unit (s := S2x4096x512) (k0_off165 v1567) S1x128x256.size hinb).WholeWords (EltTy.packing .bf16)) ∧
  (∀ a, (k0_off260 v1567) a + S1x128x256.size a ≤ S2x4096x512.size a) ∧
  (∀ (hinb : ∀ a, (k0_off260 v1567) a + S1x128x256.size a ≤ S2x4096x512.size a), (Rect.unit (s := S2x4096x512) (k0_off260 v1567) S1x128x256.size hinb).WholeWords (EltTy.packing .bf16)) ∧
  (∀ a, (k0_off784 v1567) a + S1x128x256.size a ≤ S2x4096x512.size a) ∧
  (∀ (hinb : ∀ a, (k0_off784 v1567) a + S1x128x256.size a ≤ S2x4096x512.size a), (Rect.unit (s := S2x4096x512) (k0_off784 v1567) S1x128x256.size hinb).WholeWords (EltTy.packing .bf16))
theorem k0_off165_inb : ∀ (v1567 : BitVec 32) (k0_hw36 : k0_chk36 v1567), ∀ a, (k0_off165 v1567) a + S1x128x256.size a ≤ S2x4096x512.size a := fun v1567 k0_hw36 => k0_hw36.1
theorem k0_off165_wordsbf16 : ∀ (v1567 : BitVec 32) (k0_hw36 : k0_chk36 v1567), (Rect.unit (s := S2x4096x512) (k0_off165 v1567) S1x128x256.size (k0_off165_inb v1567 k0_hw36)).WholeWords (EltTy.packing .bf16) := fun v1567 k0_hw36 => k0_hw36.2.1 (k0_off165_inb v1567 k0_hw36)
theorem k0_off260_inb : ∀ (v1567 : BitVec 32) (k0_hw36 : k0_chk36 v1567), ∀ a, (k0_off260 v1567) a + S1x128x256.size a ≤ S2x4096x512.size a := fun v1567 k0_hw36 => k0_hw36.2.2.1
theorem k0_off260_wordsbf16 : ∀ (v1567 : BitVec 32) (k0_hw36 : k0_chk36 v1567), (Rect.unit (s := S2x4096x512) (k0_off260 v1567) S1x128x256.size (k0_off260_inb v1567 k0_hw36)).WholeWords (EltTy.packing .bf16) := fun v1567 k0_hw36 => k0_hw36.2.2.2.1 (k0_off260_inb v1567 k0_hw36)
theorem k0_off784_inb : ∀ (v1567 : BitVec 32) (k0_hw36 : k0_chk36 v1567), ∀ a, (k0_off784 v1567) a + S1x128x256.size a ≤ S2x4096x512.size a := fun v1567 k0_hw36 => k0_hw36.2.2.2.2.1
theorem k0_off784_wordsbf16 : ∀ (v1567 : BitVec 32) (k0_hw36 : k0_chk36 v1567), (Rect.unit (s := S2x4096x512) (k0_off784 v1567) S1x128x256.size (k0_off784_inb v1567 k0_hw36)).WholeWords (EltTy.packing .bf16) := fun v1567 k0_hw36 => k0_hw36.2.2.2.2.2 (k0_off784_inb v1567 k0_hw36)

def k0_off785 (v1587 : BitVec 32) : Fin 3 → Nat :=
  let c1_i32_5812 : BitVec 32 := 1#32
  let c128_i32_1481 : BitVec 32 := 128#32
  let v1588 : BitVec 32 := Scalar.muli v1587 c128_i32_1481
  let c256_i32_5820 : BitVec 32 := 256#32
  ![1, v1588.toNat, 256]

def k0_chk37 (v1587 : BitVec 32) : Prop :=
  (∀ a, (k0_off167 v1587) a + S1x128x256.size a ≤ S2x4096x512.size a) ∧
  (∀ (hinb : ∀ a, (k0_off167 v1587) a + S1x128x256.size a ≤ S2x4096x512.size a), (Rect.unit (s := S2x4096x512) (k0_off167 v1587) S1x128x256.size hinb).WholeWords (EltTy.packing .bf16)) ∧
  (∀ a, (k0_off262 v1587) a + S1x128x256.size a ≤ S2x4096x512.size a) ∧
  (∀ (hinb : ∀ a, (k0_off262 v1587) a + S1x128x256.size a ≤ S2x4096x512.size a), (Rect.unit (s := S2x4096x512) (k0_off262 v1587) S1x128x256.size hinb).WholeWords (EltTy.packing .bf16)) ∧
  (∀ a, (k0_off785 v1587) a + S1x128x256.size a ≤ S2x4096x512.size a) ∧
  (∀ (hinb : ∀ a, (k0_off785 v1587) a + S1x128x256.size a ≤ S2x4096x512.size a), (Rect.unit (s := S2x4096x512) (k0_off785 v1587) S1x128x256.size hinb).WholeWords (EltTy.packing .bf16))
theorem k0_off167_inb : ∀ (v1587 : BitVec 32) (k0_hw37 : k0_chk37 v1587), ∀ a, (k0_off167 v1587) a + S1x128x256.size a ≤ S2x4096x512.size a := fun v1587 k0_hw37 => k0_hw37.1
theorem k0_off167_wordsbf16 : ∀ (v1587 : BitVec 32) (k0_hw37 : k0_chk37 v1587), (Rect.unit (s := S2x4096x512) (k0_off167 v1587) S1x128x256.size (k0_off167_inb v1587 k0_hw37)).WholeWords (EltTy.packing .bf16) := fun v1587 k0_hw37 => k0_hw37.2.1 (k0_off167_inb v1587 k0_hw37)
theorem k0_off262_inb : ∀ (v1587 : BitVec 32) (k0_hw37 : k0_chk37 v1587), ∀ a, (k0_off262 v1587) a + S1x128x256.size a ≤ S2x4096x512.size a := fun v1587 k0_hw37 => k0_hw37.2.2.1
theorem k0_off262_wordsbf16 : ∀ (v1587 : BitVec 32) (k0_hw37 : k0_chk37 v1587), (Rect.unit (s := S2x4096x512) (k0_off262 v1587) S1x128x256.size (k0_off262_inb v1587 k0_hw37)).WholeWords (EltTy.packing .bf16) := fun v1587 k0_hw37 => k0_hw37.2.2.2.1 (k0_off262_inb v1587 k0_hw37)
theorem k0_off785_inb : ∀ (v1587 : BitVec 32) (k0_hw37 : k0_chk37 v1587), ∀ a, (k0_off785 v1587) a + S1x128x256.size a ≤ S2x4096x512.size a := fun v1587 k0_hw37 => k0_hw37.2.2.2.2.1
theorem k0_off785_wordsbf16 : ∀ (v1587 : BitVec 32) (k0_hw37 : k0_chk37 v1587), (Rect.unit (s := S2x4096x512) (k0_off785 v1587) S1x128x256.size (k0_off785_inb v1587 k0_hw37)).WholeWords (EltTy.packing .bf16) := fun v1587 k0_hw37 => k0_hw37.2.2.2.2.2 (k0_off785_inb v1587 k0_hw37)

def k0_off786 (v1607 : BitVec 32) : Fin 3 → Nat :=
  let c1_i32_5823 : BitVec 32 := 1#32
  let c128_i32_1508 : BitVec 32 := 128#32
  let v1608 : BitVec 32 := Scalar.muli v1607 c128_i32_1508
  let c0_i32_5831 : BitVec 32 := 0#32
  ![1, v1608.toNat, 0]

def k0_chk38 (v1607 : BitVec 32) : Prop :=
  (∀ a, (k0_off169 v1607) a + S1x128x256.size a ≤ S2x4096x512.size a) ∧
  (∀ (hinb : ∀ a, (k0_off169 v1607) a + S1x128x256.size a ≤ S2x4096x512.size a), (Rect.unit (s := S2x4096x512) (k0_off169 v1607) S1x128x256.size hinb).WholeWords (EltTy.packing .bf16)) ∧
  (∀ a, (k0_off264 v1607) a + S1x128x256.size a ≤ S2x4096x512.size a) ∧
  (∀ (hinb : ∀ a, (k0_off264 v1607) a + S1x128x256.size a ≤ S2x4096x512.size a), (Rect.unit (s := S2x4096x512) (k0_off264 v1607) S1x128x256.size hinb).WholeWords (EltTy.packing .bf16)) ∧
  (∀ a, (k0_off786 v1607) a + S1x128x256.size a ≤ S2x4096x512.size a) ∧
  (∀ (hinb : ∀ a, (k0_off786 v1607) a + S1x128x256.size a ≤ S2x4096x512.size a), (Rect.unit (s := S2x4096x512) (k0_off786 v1607) S1x128x256.size hinb).WholeWords (EltTy.packing .bf16))
theorem k0_off169_inb : ∀ (v1607 : BitVec 32) (k0_hw38 : k0_chk38 v1607), ∀ a, (k0_off169 v1607) a + S1x128x256.size a ≤ S2x4096x512.size a := fun v1607 k0_hw38 => k0_hw38.1
theorem k0_off169_wordsbf16 : ∀ (v1607 : BitVec 32) (k0_hw38 : k0_chk38 v1607), (Rect.unit (s := S2x4096x512) (k0_off169 v1607) S1x128x256.size (k0_off169_inb v1607 k0_hw38)).WholeWords (EltTy.packing .bf16) := fun v1607 k0_hw38 => k0_hw38.2.1 (k0_off169_inb v1607 k0_hw38)
theorem k0_off264_inb : ∀ (v1607 : BitVec 32) (k0_hw38 : k0_chk38 v1607), ∀ a, (k0_off264 v1607) a + S1x128x256.size a ≤ S2x4096x512.size a := fun v1607 k0_hw38 => k0_hw38.2.2.1
theorem k0_off264_wordsbf16 : ∀ (v1607 : BitVec 32) (k0_hw38 : k0_chk38 v1607), (Rect.unit (s := S2x4096x512) (k0_off264 v1607) S1x128x256.size (k0_off264_inb v1607 k0_hw38)).WholeWords (EltTy.packing .bf16) := fun v1607 k0_hw38 => k0_hw38.2.2.2.1 (k0_off264_inb v1607 k0_hw38)
theorem k0_off786_inb : ∀ (v1607 : BitVec 32) (k0_hw38 : k0_chk38 v1607), ∀ a, (k0_off786 v1607) a + S1x128x256.size a ≤ S2x4096x512.size a := fun v1607 k0_hw38 => k0_hw38.2.2.2.2.1
theorem k0_off786_wordsbf16 : ∀ (v1607 : BitVec 32) (k0_hw38 : k0_chk38 v1607), (Rect.unit (s := S2x4096x512) (k0_off786 v1607) S1x128x256.size (k0_off786_inb v1607 k0_hw38)).WholeWords (EltTy.packing .bf16) := fun v1607 k0_hw38 => k0_hw38.2.2.2.2.2 (k0_off786_inb v1607 k0_hw38)

def k0_off787 (v1627 : BitVec 32) : Fin 3 → Nat :=
  let c1_i32_5834 : BitVec 32 := 1#32
  let c128_i32_1535 : BitVec 32 := 128#32
  let v1628 : BitVec 32 := Scalar.muli v1627 c128_i32_1535
  let c256_i32_5842 : BitVec 32 := 256#32
  ![1, v1628.toNat, 256]

def k0_chk39 (v1627 : BitVec 32) : Prop :=
  (∀ a, (k0_off171 v1627) a + S1x128x256.size a ≤ S2x4096x512.size a) ∧
  (∀ (hinb : ∀ a, (k0_off171 v1627) a + S1x128x256.size a ≤ S2x4096x512.size a), (Rect.unit (s := S2x4096x512) (k0_off171 v1627) S1x128x256.size hinb).WholeWords (EltTy.packing .bf16)) ∧
  (∀ a, (k0_off266 v1627) a + S1x128x256.size a ≤ S2x4096x512.size a) ∧
  (∀ (hinb : ∀ a, (k0_off266 v1627) a + S1x128x256.size a ≤ S2x4096x512.size a), (Rect.unit (s := S2x4096x512) (k0_off266 v1627) S1x128x256.size hinb).WholeWords (EltTy.packing .bf16)) ∧
  (∀ a, (k0_off787 v1627) a + S1x128x256.size a ≤ S2x4096x512.size a) ∧
  (∀ (hinb : ∀ a, (k0_off787 v1627) a + S1x128x256.size a ≤ S2x4096x512.size a), (Rect.unit (s := S2x4096x512) (k0_off787 v1627) S1x128x256.size hinb).WholeWords (EltTy.packing .bf16))
theorem k0_off171_inb : ∀ (v1627 : BitVec 32) (k0_hw39 : k0_chk39 v1627), ∀ a, (k0_off171 v1627) a + S1x128x256.size a ≤ S2x4096x512.size a := fun v1627 k0_hw39 => k0_hw39.1
theorem k0_off171_wordsbf16 : ∀ (v1627 : BitVec 32) (k0_hw39 : k0_chk39 v1627), (Rect.unit (s := S2x4096x512) (k0_off171 v1627) S1x128x256.size (k0_off171_inb v1627 k0_hw39)).WholeWords (EltTy.packing .bf16) := fun v1627 k0_hw39 => k0_hw39.2.1 (k0_off171_inb v1627 k0_hw39)
theorem k0_off266_inb : ∀ (v1627 : BitVec 32) (k0_hw39 : k0_chk39 v1627), ∀ a, (k0_off266 v1627) a + S1x128x256.size a ≤ S2x4096x512.size a := fun v1627 k0_hw39 => k0_hw39.2.2.1
theorem k0_off266_wordsbf16 : ∀ (v1627 : BitVec 32) (k0_hw39 : k0_chk39 v1627), (Rect.unit (s := S2x4096x512) (k0_off266 v1627) S1x128x256.size (k0_off266_inb v1627 k0_hw39)).WholeWords (EltTy.packing .bf16) := fun v1627 k0_hw39 => k0_hw39.2.2.2.1 (k0_off266_inb v1627 k0_hw39)
theorem k0_off787_inb : ∀ (v1627 : BitVec 32) (k0_hw39 : k0_chk39 v1627), ∀ a, (k0_off787 v1627) a + S1x128x256.size a ≤ S2x4096x512.size a := fun v1627 k0_hw39 => k0_hw39.2.2.2.2.1
theorem k0_off787_wordsbf16 : ∀ (v1627 : BitVec 32) (k0_hw39 : k0_chk39 v1627), (Rect.unit (s := S2x4096x512) (k0_off787 v1627) S1x128x256.size (k0_off787_inb v1627 k0_hw39)).WholeWords (EltTy.packing .bf16) := fun v1627 k0_hw39 => k0_hw39.2.2.2.2.2 (k0_off787_inb v1627 k0_hw39)

def k0_off788 (v2039 : BitVec 32) : Fin 3 → Nat :=
  let c0_i32_5845 : BitVec 32 := 0#32
  let c128_i32_1798 : BitVec 32 := 128#32
  let v2040 : BitVec 32 := Scalar.muli v2039 c128_i32_1798
  let c0_i32_5853 : BitVec 32 := 0#32
  ![0, v2040.toNat, 0]

def k0_chk44 (v2039 : BitVec 32) : Prop :=
  (∀ a, (k0_off237 v2039) a + S1x128x256.size a ≤ S2x4096x512.size a) ∧
  (∀ (hinb : ∀ a, (k0_off237 v2039) a + S1x128x256.size a ≤ S2x4096x512.size a), (Rect.unit (s := S2x4096x512) (k0_off237 v2039) S1x128x256.size hinb).WholeWords (EltTy.packing .bf16)) ∧
  (∀ a, (k0_off332 v2039) a + S1x128x256.size a ≤ S2x4096x512.size a) ∧
  (∀ (hinb : ∀ a, (k0_off332 v2039) a + S1x128x256.size a ≤ S2x4096x512.size a), (Rect.unit (s := S2x4096x512) (k0_off332 v2039) S1x128x256.size hinb).WholeWords (EltTy.packing .bf16)) ∧
  (∀ a, (k0_off788 v2039) a + S1x128x256.size a ≤ S2x4096x512.size a) ∧
  (∀ (hinb : ∀ a, (k0_off788 v2039) a + S1x128x256.size a ≤ S2x4096x512.size a), (Rect.unit (s := S2x4096x512) (k0_off788 v2039) S1x128x256.size hinb).WholeWords (EltTy.packing .bf16))
theorem k0_off237_inb : ∀ (v2039 : BitVec 32) (k0_hw44 : k0_chk44 v2039), ∀ a, (k0_off237 v2039) a + S1x128x256.size a ≤ S2x4096x512.size a := fun v2039 k0_hw44 => k0_hw44.1
theorem k0_off237_wordsbf16 : ∀ (v2039 : BitVec 32) (k0_hw44 : k0_chk44 v2039), (Rect.unit (s := S2x4096x512) (k0_off237 v2039) S1x128x256.size (k0_off237_inb v2039 k0_hw44)).WholeWords (EltTy.packing .bf16) := fun v2039 k0_hw44 => k0_hw44.2.1 (k0_off237_inb v2039 k0_hw44)
theorem k0_off332_inb : ∀ (v2039 : BitVec 32) (k0_hw44 : k0_chk44 v2039), ∀ a, (k0_off332 v2039) a + S1x128x256.size a ≤ S2x4096x512.size a := fun v2039 k0_hw44 => k0_hw44.2.2.1
theorem k0_off332_wordsbf16 : ∀ (v2039 : BitVec 32) (k0_hw44 : k0_chk44 v2039), (Rect.unit (s := S2x4096x512) (k0_off332 v2039) S1x128x256.size (k0_off332_inb v2039 k0_hw44)).WholeWords (EltTy.packing .bf16) := fun v2039 k0_hw44 => k0_hw44.2.2.2.1 (k0_off332_inb v2039 k0_hw44)
theorem k0_off788_inb : ∀ (v2039 : BitVec 32) (k0_hw44 : k0_chk44 v2039), ∀ a, (k0_off788 v2039) a + S1x128x256.size a ≤ S2x4096x512.size a := fun v2039 k0_hw44 => k0_hw44.2.2.2.2.1
theorem k0_off788_wordsbf16 : ∀ (v2039 : BitVec 32) (k0_hw44 : k0_chk44 v2039), (Rect.unit (s := S2x4096x512) (k0_off788 v2039) S1x128x256.size (k0_off788_inb v2039 k0_hw44)).WholeWords (EltTy.packing .bf16) := fun v2039 k0_hw44 => k0_hw44.2.2.2.2.2 (k0_off788_inb v2039 k0_hw44)

def k0_off789 (v2059 : BitVec 32) : Fin 3 → Nat :=
  let c0_i32_5856 : BitVec 32 := 0#32
  let c128_i32_1825 : BitVec 32 := 128#32
  let v2060 : BitVec 32 := Scalar.muli v2059 c128_i32_1825
  let c256_i32_5864 : BitVec 32 := 256#32
  ![0, v2060.toNat, 256]

def k0_chk45 (v2059 : BitVec 32) : Prop :=
  (∀ a, (k0_off239 v2059) a + S1x128x256.size a ≤ S2x4096x512.size a) ∧
  (∀ (hinb : ∀ a, (k0_off239 v2059) a + S1x128x256.size a ≤ S2x4096x512.size a), (Rect.unit (s := S2x4096x512) (k0_off239 v2059) S1x128x256.size hinb).WholeWords (EltTy.packing .bf16)) ∧
  (∀ a, (k0_off334 v2059) a + S1x128x256.size a ≤ S2x4096x512.size a) ∧
  (∀ (hinb : ∀ a, (k0_off334 v2059) a + S1x128x256.size a ≤ S2x4096x512.size a), (Rect.unit (s := S2x4096x512) (k0_off334 v2059) S1x128x256.size hinb).WholeWords (EltTy.packing .bf16)) ∧
  (∀ a, (k0_off789 v2059) a + S1x128x256.size a ≤ S2x4096x512.size a) ∧
  (∀ (hinb : ∀ a, (k0_off789 v2059) a + S1x128x256.size a ≤ S2x4096x512.size a), (Rect.unit (s := S2x4096x512) (k0_off789 v2059) S1x128x256.size hinb).WholeWords (EltTy.packing .bf16))
theorem k0_off239_inb : ∀ (v2059 : BitVec 32) (k0_hw45 : k0_chk45 v2059), ∀ a, (k0_off239 v2059) a + S1x128x256.size a ≤ S2x4096x512.size a := fun v2059 k0_hw45 => k0_hw45.1
theorem k0_off239_wordsbf16 : ∀ (v2059 : BitVec 32) (k0_hw45 : k0_chk45 v2059), (Rect.unit (s := S2x4096x512) (k0_off239 v2059) S1x128x256.size (k0_off239_inb v2059 k0_hw45)).WholeWords (EltTy.packing .bf16) := fun v2059 k0_hw45 => k0_hw45.2.1 (k0_off239_inb v2059 k0_hw45)
theorem k0_off334_inb : ∀ (v2059 : BitVec 32) (k0_hw45 : k0_chk45 v2059), ∀ a, (k0_off334 v2059) a + S1x128x256.size a ≤ S2x4096x512.size a := fun v2059 k0_hw45 => k0_hw45.2.2.1
theorem k0_off334_wordsbf16 : ∀ (v2059 : BitVec 32) (k0_hw45 : k0_chk45 v2059), (Rect.unit (s := S2x4096x512) (k0_off334 v2059) S1x128x256.size (k0_off334_inb v2059 k0_hw45)).WholeWords (EltTy.packing .bf16) := fun v2059 k0_hw45 => k0_hw45.2.2.2.1 (k0_off334_inb v2059 k0_hw45)
theorem k0_off789_inb : ∀ (v2059 : BitVec 32) (k0_hw45 : k0_chk45 v2059), ∀ a, (k0_off789 v2059) a + S1x128x256.size a ≤ S2x4096x512.size a := fun v2059 k0_hw45 => k0_hw45.2.2.2.2.1
theorem k0_off789_wordsbf16 : ∀ (v2059 : BitVec 32) (k0_hw45 : k0_chk45 v2059), (Rect.unit (s := S2x4096x512) (k0_off789 v2059) S1x128x256.size (k0_off789_inb v2059 k0_hw45)).WholeWords (EltTy.packing .bf16) := fun v2059 k0_hw45 => k0_hw45.2.2.2.2.2 (k0_off789_inb v2059 k0_hw45)

def k0_off790 (v2079 : BitVec 32) : Fin 3 → Nat :=
  let c0_i32_5867 : BitVec 32 := 0#32
  let c128_i32_1852 : BitVec 32 := 128#32
  let v2080 : BitVec 32 := Scalar.muli v2079 c128_i32_1852
  let c0_i32_5875 : BitVec 32 := 0#32
  ![0, v2080.toNat, 0]

def k0_chk46 (v2079 : BitVec 32) : Prop :=
  (∀ a, (k0_off241 v2079) a + S1x128x256.size a ≤ S2x4096x512.size a) ∧
  (∀ (hinb : ∀ a, (k0_off241 v2079) a + S1x128x256.size a ≤ S2x4096x512.size a), (Rect.unit (s := S2x4096x512) (k0_off241 v2079) S1x128x256.size hinb).WholeWords (EltTy.packing .bf16)) ∧
  (∀ a, (k0_off336 v2079) a + S1x128x256.size a ≤ S2x4096x512.size a) ∧
  (∀ (hinb : ∀ a, (k0_off336 v2079) a + S1x128x256.size a ≤ S2x4096x512.size a), (Rect.unit (s := S2x4096x512) (k0_off336 v2079) S1x128x256.size hinb).WholeWords (EltTy.packing .bf16)) ∧
  (∀ a, (k0_off790 v2079) a + S1x128x256.size a ≤ S2x4096x512.size a) ∧
  (∀ (hinb : ∀ a, (k0_off790 v2079) a + S1x128x256.size a ≤ S2x4096x512.size a), (Rect.unit (s := S2x4096x512) (k0_off790 v2079) S1x128x256.size hinb).WholeWords (EltTy.packing .bf16))
theorem k0_off241_inb : ∀ (v2079 : BitVec 32) (k0_hw46 : k0_chk46 v2079), ∀ a, (k0_off241 v2079) a + S1x128x256.size a ≤ S2x4096x512.size a := fun v2079 k0_hw46 => k0_hw46.1
theorem k0_off241_wordsbf16 : ∀ (v2079 : BitVec 32) (k0_hw46 : k0_chk46 v2079), (Rect.unit (s := S2x4096x512) (k0_off241 v2079) S1x128x256.size (k0_off241_inb v2079 k0_hw46)).WholeWords (EltTy.packing .bf16) := fun v2079 k0_hw46 => k0_hw46.2.1 (k0_off241_inb v2079 k0_hw46)
theorem k0_off336_inb : ∀ (v2079 : BitVec 32) (k0_hw46 : k0_chk46 v2079), ∀ a, (k0_off336 v2079) a + S1x128x256.size a ≤ S2x4096x512.size a := fun v2079 k0_hw46 => k0_hw46.2.2.1
theorem k0_off336_wordsbf16 : ∀ (v2079 : BitVec 32) (k0_hw46 : k0_chk46 v2079), (Rect.unit (s := S2x4096x512) (k0_off336 v2079) S1x128x256.size (k0_off336_inb v2079 k0_hw46)).WholeWords (EltTy.packing .bf16) := fun v2079 k0_hw46 => k0_hw46.2.2.2.1 (k0_off336_inb v2079 k0_hw46)
theorem k0_off790_inb : ∀ (v2079 : BitVec 32) (k0_hw46 : k0_chk46 v2079), ∀ a, (k0_off790 v2079) a + S1x128x256.size a ≤ S2x4096x512.size a := fun v2079 k0_hw46 => k0_hw46.2.2.2.2.1
theorem k0_off790_wordsbf16 : ∀ (v2079 : BitVec 32) (k0_hw46 : k0_chk46 v2079), (Rect.unit (s := S2x4096x512) (k0_off790 v2079) S1x128x256.size (k0_off790_inb v2079 k0_hw46)).WholeWords (EltTy.packing .bf16) := fun v2079 k0_hw46 => k0_hw46.2.2.2.2.2 (k0_off790_inb v2079 k0_hw46)

def k0_off791 (v2099 : BitVec 32) : Fin 3 → Nat :=
  let c0_i32_5878 : BitVec 32 := 0#32
  let c128_i32_1879 : BitVec 32 := 128#32
  let v2100 : BitVec 32 := Scalar.muli v2099 c128_i32_1879
  let c256_i32_5886 : BitVec 32 := 256#32
  ![0, v2100.toNat, 256]

def k0_chk47 (v2099 : BitVec 32) : Prop :=
  (∀ a, (k0_off243 v2099) a + S1x128x256.size a ≤ S2x4096x512.size a) ∧
  (∀ (hinb : ∀ a, (k0_off243 v2099) a + S1x128x256.size a ≤ S2x4096x512.size a), (Rect.unit (s := S2x4096x512) (k0_off243 v2099) S1x128x256.size hinb).WholeWords (EltTy.packing .bf16)) ∧
  (∀ a, (k0_off338 v2099) a + S1x128x256.size a ≤ S2x4096x512.size a) ∧
  (∀ (hinb : ∀ a, (k0_off338 v2099) a + S1x128x256.size a ≤ S2x4096x512.size a), (Rect.unit (s := S2x4096x512) (k0_off338 v2099) S1x128x256.size hinb).WholeWords (EltTy.packing .bf16)) ∧
  (∀ a, (k0_off791 v2099) a + S1x128x256.size a ≤ S2x4096x512.size a) ∧
  (∀ (hinb : ∀ a, (k0_off791 v2099) a + S1x128x256.size a ≤ S2x4096x512.size a), (Rect.unit (s := S2x4096x512) (k0_off791 v2099) S1x128x256.size hinb).WholeWords (EltTy.packing .bf16))
theorem k0_off243_inb : ∀ (v2099 : BitVec 32) (k0_hw47 : k0_chk47 v2099), ∀ a, (k0_off243 v2099) a + S1x128x256.size a ≤ S2x4096x512.size a := fun v2099 k0_hw47 => k0_hw47.1
theorem k0_off243_wordsbf16 : ∀ (v2099 : BitVec 32) (k0_hw47 : k0_chk47 v2099), (Rect.unit (s := S2x4096x512) (k0_off243 v2099) S1x128x256.size (k0_off243_inb v2099 k0_hw47)).WholeWords (EltTy.packing .bf16) := fun v2099 k0_hw47 => k0_hw47.2.1 (k0_off243_inb v2099 k0_hw47)
theorem k0_off338_inb : ∀ (v2099 : BitVec 32) (k0_hw47 : k0_chk47 v2099), ∀ a, (k0_off338 v2099) a + S1x128x256.size a ≤ S2x4096x512.size a := fun v2099 k0_hw47 => k0_hw47.2.2.1
theorem k0_off338_wordsbf16 : ∀ (v2099 : BitVec 32) (k0_hw47 : k0_chk47 v2099), (Rect.unit (s := S2x4096x512) (k0_off338 v2099) S1x128x256.size (k0_off338_inb v2099 k0_hw47)).WholeWords (EltTy.packing .bf16) := fun v2099 k0_hw47 => k0_hw47.2.2.2.1 (k0_off338_inb v2099 k0_hw47)
theorem k0_off791_inb : ∀ (v2099 : BitVec 32) (k0_hw47 : k0_chk47 v2099), ∀ a, (k0_off791 v2099) a + S1x128x256.size a ≤ S2x4096x512.size a := fun v2099 k0_hw47 => k0_hw47.2.2.2.2.1
theorem k0_off791_wordsbf16 : ∀ (v2099 : BitVec 32) (k0_hw47 : k0_chk47 v2099), (Rect.unit (s := S2x4096x512) (k0_off791 v2099) S1x128x256.size (k0_off791_inb v2099 k0_hw47)).WholeWords (EltTy.packing .bf16) := fun v2099 k0_hw47 => k0_hw47.2.2.2.2.2 (k0_off791_inb v2099 k0_hw47)

def k0_off792 (v2119 : BitVec 32) : Fin 3 → Nat :=
  let c1_i32_5889 : BitVec 32 := 1#32
  let c128_i32_1906 : BitVec 32 := 128#32
  let v2120 : BitVec 32 := Scalar.muli v2119 c128_i32_1906
  let c0_i32_5897 : BitVec 32 := 0#32
  ![1, v2120.toNat, 0]

def k0_chk48 (v2119 : BitVec 32) : Prop :=
  (∀ a, (k0_off245 v2119) a + S1x128x256.size a ≤ S2x4096x512.size a) ∧
  (∀ (hinb : ∀ a, (k0_off245 v2119) a + S1x128x256.size a ≤ S2x4096x512.size a), (Rect.unit (s := S2x4096x512) (k0_off245 v2119) S1x128x256.size hinb).WholeWords (EltTy.packing .bf16)) ∧
  (∀ a, (k0_off340 v2119) a + S1x128x256.size a ≤ S2x4096x512.size a) ∧
  (∀ (hinb : ∀ a, (k0_off340 v2119) a + S1x128x256.size a ≤ S2x4096x512.size a), (Rect.unit (s := S2x4096x512) (k0_off340 v2119) S1x128x256.size hinb).WholeWords (EltTy.packing .bf16)) ∧
  (∀ a, (k0_off792 v2119) a + S1x128x256.size a ≤ S2x4096x512.size a) ∧
  (∀ (hinb : ∀ a, (k0_off792 v2119) a + S1x128x256.size a ≤ S2x4096x512.size a), (Rect.unit (s := S2x4096x512) (k0_off792 v2119) S1x128x256.size hinb).WholeWords (EltTy.packing .bf16))
theorem k0_off245_inb : ∀ (v2119 : BitVec 32) (k0_hw48 : k0_chk48 v2119), ∀ a, (k0_off245 v2119) a + S1x128x256.size a ≤ S2x4096x512.size a := fun v2119 k0_hw48 => k0_hw48.1
theorem k0_off245_wordsbf16 : ∀ (v2119 : BitVec 32) (k0_hw48 : k0_chk48 v2119), (Rect.unit (s := S2x4096x512) (k0_off245 v2119) S1x128x256.size (k0_off245_inb v2119 k0_hw48)).WholeWords (EltTy.packing .bf16) := fun v2119 k0_hw48 => k0_hw48.2.1 (k0_off245_inb v2119 k0_hw48)
theorem k0_off340_inb : ∀ (v2119 : BitVec 32) (k0_hw48 : k0_chk48 v2119), ∀ a, (k0_off340 v2119) a + S1x128x256.size a ≤ S2x4096x512.size a := fun v2119 k0_hw48 => k0_hw48.2.2.1
theorem k0_off340_wordsbf16 : ∀ (v2119 : BitVec 32) (k0_hw48 : k0_chk48 v2119), (Rect.unit (s := S2x4096x512) (k0_off340 v2119) S1x128x256.size (k0_off340_inb v2119 k0_hw48)).WholeWords (EltTy.packing .bf16) := fun v2119 k0_hw48 => k0_hw48.2.2.2.1 (k0_off340_inb v2119 k0_hw48)
theorem k0_off792_inb : ∀ (v2119 : BitVec 32) (k0_hw48 : k0_chk48 v2119), ∀ a, (k0_off792 v2119) a + S1x128x256.size a ≤ S2x4096x512.size a := fun v2119 k0_hw48 => k0_hw48.2.2.2.2.1
theorem k0_off792_wordsbf16 : ∀ (v2119 : BitVec 32) (k0_hw48 : k0_chk48 v2119), (Rect.unit (s := S2x4096x512) (k0_off792 v2119) S1x128x256.size (k0_off792_inb v2119 k0_hw48)).WholeWords (EltTy.packing .bf16) := fun v2119 k0_hw48 => k0_hw48.2.2.2.2.2 (k0_off792_inb v2119 k0_hw48)

def k0_off793 (v2139 : BitVec 32) : Fin 3 → Nat :=
  let c1_i32_5900 : BitVec 32 := 1#32
  let c128_i32_1933 : BitVec 32 := 128#32
  let v2140 : BitVec 32 := Scalar.muli v2139 c128_i32_1933
  let c256_i32_5908 : BitVec 32 := 256#32
  ![1, v2140.toNat, 256]

def k0_chk49 (v2139 : BitVec 32) : Prop :=
  (∀ a, (k0_off247 v2139) a + S1x128x256.size a ≤ S2x4096x512.size a) ∧
  (∀ (hinb : ∀ a, (k0_off247 v2139) a + S1x128x256.size a ≤ S2x4096x512.size a), (Rect.unit (s := S2x4096x512) (k0_off247 v2139) S1x128x256.size hinb).WholeWords (EltTy.packing .bf16)) ∧
  (∀ a, (k0_off342 v2139) a + S1x128x256.size a ≤ S2x4096x512.size a) ∧
  (∀ (hinb : ∀ a, (k0_off342 v2139) a + S1x128x256.size a ≤ S2x4096x512.size a), (Rect.unit (s := S2x4096x512) (k0_off342 v2139) S1x128x256.size hinb).WholeWords (EltTy.packing .bf16)) ∧
  (∀ a, (k0_off793 v2139) a + S1x128x256.size a ≤ S2x4096x512.size a) ∧
  (∀ (hinb : ∀ a, (k0_off793 v2139) a + S1x128x256.size a ≤ S2x4096x512.size a), (Rect.unit (s := S2x4096x512) (k0_off793 v2139) S1x128x256.size hinb).WholeWords (EltTy.packing .bf16))
theorem k0_off247_inb : ∀ (v2139 : BitVec 32) (k0_hw49 : k0_chk49 v2139), ∀ a, (k0_off247 v2139) a + S1x128x256.size a ≤ S2x4096x512.size a := fun v2139 k0_hw49 => k0_hw49.1
theorem k0_off247_wordsbf16 : ∀ (v2139 : BitVec 32) (k0_hw49 : k0_chk49 v2139), (Rect.unit (s := S2x4096x512) (k0_off247 v2139) S1x128x256.size (k0_off247_inb v2139 k0_hw49)).WholeWords (EltTy.packing .bf16) := fun v2139 k0_hw49 => k0_hw49.2.1 (k0_off247_inb v2139 k0_hw49)
theorem k0_off342_inb : ∀ (v2139 : BitVec 32) (k0_hw49 : k0_chk49 v2139), ∀ a, (k0_off342 v2139) a + S1x128x256.size a ≤ S2x4096x512.size a := fun v2139 k0_hw49 => k0_hw49.2.2.1
theorem k0_off342_wordsbf16 : ∀ (v2139 : BitVec 32) (k0_hw49 : k0_chk49 v2139), (Rect.unit (s := S2x4096x512) (k0_off342 v2139) S1x128x256.size (k0_off342_inb v2139 k0_hw49)).WholeWords (EltTy.packing .bf16) := fun v2139 k0_hw49 => k0_hw49.2.2.2.1 (k0_off342_inb v2139 k0_hw49)
theorem k0_off793_inb : ∀ (v2139 : BitVec 32) (k0_hw49 : k0_chk49 v2139), ∀ a, (k0_off793 v2139) a + S1x128x256.size a ≤ S2x4096x512.size a := fun v2139 k0_hw49 => k0_hw49.2.2.2.2.1
theorem k0_off793_wordsbf16 : ∀ (v2139 : BitVec 32) (k0_hw49 : k0_chk49 v2139), (Rect.unit (s := S2x4096x512) (k0_off793 v2139) S1x128x256.size (k0_off793_inb v2139 k0_hw49)).WholeWords (EltTy.packing .bf16) := fun v2139 k0_hw49 => k0_hw49.2.2.2.2.2 (k0_off793_inb v2139 k0_hw49)

def k0_off794 (v2159 : BitVec 32) : Fin 3 → Nat :=
  let c1_i32_5911 : BitVec 32 := 1#32
  let c128_i32_1960 : BitVec 32 := 128#32
  let v2160 : BitVec 32 := Scalar.muli v2159 c128_i32_1960
  let c0_i32_5919 : BitVec 32 := 0#32
  ![1, v2160.toNat, 0]

def k0_chk50 (v2159 : BitVec 32) : Prop :=
  (∀ a, (k0_off249 v2159) a + S1x128x256.size a ≤ S2x4096x512.size a) ∧
  (∀ (hinb : ∀ a, (k0_off249 v2159) a + S1x128x256.size a ≤ S2x4096x512.size a), (Rect.unit (s := S2x4096x512) (k0_off249 v2159) S1x128x256.size hinb).WholeWords (EltTy.packing .bf16)) ∧
  (∀ a, (k0_off344 v2159) a + S1x128x256.size a ≤ S2x4096x512.size a) ∧
  (∀ (hinb : ∀ a, (k0_off344 v2159) a + S1x128x256.size a ≤ S2x4096x512.size a), (Rect.unit (s := S2x4096x512) (k0_off344 v2159) S1x128x256.size hinb).WholeWords (EltTy.packing .bf16)) ∧
  (∀ a, (k0_off794 v2159) a + S1x128x256.size a ≤ S2x4096x512.size a) ∧
  (∀ (hinb : ∀ a, (k0_off794 v2159) a + S1x128x256.size a ≤ S2x4096x512.size a), (Rect.unit (s := S2x4096x512) (k0_off794 v2159) S1x128x256.size hinb).WholeWords (EltTy.packing .bf16))
theorem k0_off249_inb : ∀ (v2159 : BitVec 32) (k0_hw50 : k0_chk50 v2159), ∀ a, (k0_off249 v2159) a + S1x128x256.size a ≤ S2x4096x512.size a := fun v2159 k0_hw50 => k0_hw50.1
theorem k0_off249_wordsbf16 : ∀ (v2159 : BitVec 32) (k0_hw50 : k0_chk50 v2159), (Rect.unit (s := S2x4096x512) (k0_off249 v2159) S1x128x256.size (k0_off249_inb v2159 k0_hw50)).WholeWords (EltTy.packing .bf16) := fun v2159 k0_hw50 => k0_hw50.2.1 (k0_off249_inb v2159 k0_hw50)
theorem k0_off344_inb : ∀ (v2159 : BitVec 32) (k0_hw50 : k0_chk50 v2159), ∀ a, (k0_off344 v2159) a + S1x128x256.size a ≤ S2x4096x512.size a := fun v2159 k0_hw50 => k0_hw50.2.2.1
theorem k0_off344_wordsbf16 : ∀ (v2159 : BitVec 32) (k0_hw50 : k0_chk50 v2159), (Rect.unit (s := S2x4096x512) (k0_off344 v2159) S1x128x256.size (k0_off344_inb v2159 k0_hw50)).WholeWords (EltTy.packing .bf16) := fun v2159 k0_hw50 => k0_hw50.2.2.2.1 (k0_off344_inb v2159 k0_hw50)
theorem k0_off794_inb : ∀ (v2159 : BitVec 32) (k0_hw50 : k0_chk50 v2159), ∀ a, (k0_off794 v2159) a + S1x128x256.size a ≤ S2x4096x512.size a := fun v2159 k0_hw50 => k0_hw50.2.2.2.2.1
theorem k0_off794_wordsbf16 : ∀ (v2159 : BitVec 32) (k0_hw50 : k0_chk50 v2159), (Rect.unit (s := S2x4096x512) (k0_off794 v2159) S1x128x256.size (k0_off794_inb v2159 k0_hw50)).WholeWords (EltTy.packing .bf16) := fun v2159 k0_hw50 => k0_hw50.2.2.2.2.2 (k0_off794_inb v2159 k0_hw50)

def k0_off795 (v2179 : BitVec 32) : Fin 3 → Nat :=
  let c1_i32_5922 : BitVec 32 := 1#32
  let c128_i32_1987 : BitVec 32 := 128#32
  let v2180 : BitVec 32 := Scalar.muli v2179 c128_i32_1987
  let c256_i32_5930 : BitVec 32 := 256#32
  ![1, v2180.toNat, 256]

def k0_chk51 (v2179 : BitVec 32) : Prop :=
  (∀ a, (k0_off251 v2179) a + S1x128x256.size a ≤ S2x4096x512.size a) ∧
  (∀ (hinb : ∀ a, (k0_off251 v2179) a + S1x128x256.size a ≤ S2x4096x512.size a), (Rect.unit (s := S2x4096x512) (k0_off251 v2179) S1x128x256.size hinb).WholeWords (EltTy.packing .bf16)) ∧
  (∀ a, (k0_off346 v2179) a + S1x128x256.size a ≤ S2x4096x512.size a) ∧
  (∀ (hinb : ∀ a, (k0_off346 v2179) a + S1x128x256.size a ≤ S2x4096x512.size a), (Rect.unit (s := S2x4096x512) (k0_off346 v2179) S1x128x256.size hinb).WholeWords (EltTy.packing .bf16)) ∧
  (∀ a, (k0_off795 v2179) a + S1x128x256.size a ≤ S2x4096x512.size a) ∧
  (∀ (hinb : ∀ a, (k0_off795 v2179) a + S1x128x256.size a ≤ S2x4096x512.size a), (Rect.unit (s := S2x4096x512) (k0_off795 v2179) S1x128x256.size hinb).WholeWords (EltTy.packing .bf16))
theorem k0_off251_inb : ∀ (v2179 : BitVec 32) (k0_hw51 : k0_chk51 v2179), ∀ a, (k0_off251 v2179) a + S1x128x256.size a ≤ S2x4096x512.size a := fun v2179 k0_hw51 => k0_hw51.1
theorem k0_off251_wordsbf16 : ∀ (v2179 : BitVec 32) (k0_hw51 : k0_chk51 v2179), (Rect.unit (s := S2x4096x512) (k0_off251 v2179) S1x128x256.size (k0_off251_inb v2179 k0_hw51)).WholeWords (EltTy.packing .bf16) := fun v2179 k0_hw51 => k0_hw51.2.1 (k0_off251_inb v2179 k0_hw51)
theorem k0_off346_inb : ∀ (v2179 : BitVec 32) (k0_hw51 : k0_chk51 v2179), ∀ a, (k0_off346 v2179) a + S1x128x256.size a ≤ S2x4096x512.size a := fun v2179 k0_hw51 => k0_hw51.2.2.1
theorem k0_off346_wordsbf16 : ∀ (v2179 : BitVec 32) (k0_hw51 : k0_chk51 v2179), (Rect.unit (s := S2x4096x512) (k0_off346 v2179) S1x128x256.size (k0_off346_inb v2179 k0_hw51)).WholeWords (EltTy.packing .bf16) := fun v2179 k0_hw51 => k0_hw51.2.2.2.1 (k0_off346_inb v2179 k0_hw51)
theorem k0_off795_inb : ∀ (v2179 : BitVec 32) (k0_hw51 : k0_chk51 v2179), ∀ a, (k0_off795 v2179) a + S1x128x256.size a ≤ S2x4096x512.size a := fun v2179 k0_hw51 => k0_hw51.2.2.2.2.1
theorem k0_off795_wordsbf16 : ∀ (v2179 : BitVec 32) (k0_hw51 : k0_chk51 v2179), (Rect.unit (s := S2x4096x512) (k0_off795 v2179) S1x128x256.size (k0_off795_inb v2179 k0_hw51)).WholeWords (EltTy.packing .bf16) := fun v2179 k0_hw51 => k0_hw51.2.2.2.2.2 (k0_off795_inb v2179 k0_hw51)

def k0_off796 (v2199 : BitVec 32) : Fin 3 → Nat :=
  let c0_i32_5933 : BitVec 32 := 0#32
  let c128_i32_2014 : BitVec 32 := 128#32
  let v2200 : BitVec 32 := Scalar.muli v2199 c128_i32_2014
  let c0_i32_5941 : BitVec 32 := 0#32
  ![0, v2200.toNat, 0]

def k0_chk52 (v2199 : BitVec 32) : Prop :=
  (∀ a, (k0_off253 v2199) a + S1x128x256.size a ≤ S2x4096x512.size a) ∧
  (∀ (hinb : ∀ a, (k0_off253 v2199) a + S1x128x256.size a ≤ S2x4096x512.size a), (Rect.unit (s := S2x4096x512) (k0_off253 v2199) S1x128x256.size hinb).WholeWords (EltTy.packing .bf16)) ∧
  (∀ a, (k0_off348 v2199) a + S1x128x256.size a ≤ S2x4096x512.size a) ∧
  (∀ (hinb : ∀ a, (k0_off348 v2199) a + S1x128x256.size a ≤ S2x4096x512.size a), (Rect.unit (s := S2x4096x512) (k0_off348 v2199) S1x128x256.size hinb).WholeWords (EltTy.packing .bf16)) ∧
  (∀ a, (k0_off796 v2199) a + S1x128x256.size a ≤ S2x4096x512.size a) ∧
  (∀ (hinb : ∀ a, (k0_off796 v2199) a + S1x128x256.size a ≤ S2x4096x512.size a), (Rect.unit (s := S2x4096x512) (k0_off796 v2199) S1x128x256.size hinb).WholeWords (EltTy.packing .bf16))
theorem k0_off253_inb : ∀ (v2199 : BitVec 32) (k0_hw52 : k0_chk52 v2199), ∀ a, (k0_off253 v2199) a + S1x128x256.size a ≤ S2x4096x512.size a := fun v2199 k0_hw52 => k0_hw52.1
theorem k0_off253_wordsbf16 : ∀ (v2199 : BitVec 32) (k0_hw52 : k0_chk52 v2199), (Rect.unit (s := S2x4096x512) (k0_off253 v2199) S1x128x256.size (k0_off253_inb v2199 k0_hw52)).WholeWords (EltTy.packing .bf16) := fun v2199 k0_hw52 => k0_hw52.2.1 (k0_off253_inb v2199 k0_hw52)
theorem k0_off348_inb : ∀ (v2199 : BitVec 32) (k0_hw52 : k0_chk52 v2199), ∀ a, (k0_off348 v2199) a + S1x128x256.size a ≤ S2x4096x512.size a := fun v2199 k0_hw52 => k0_hw52.2.2.1
theorem k0_off348_wordsbf16 : ∀ (v2199 : BitVec 32) (k0_hw52 : k0_chk52 v2199), (Rect.unit (s := S2x4096x512) (k0_off348 v2199) S1x128x256.size (k0_off348_inb v2199 k0_hw52)).WholeWords (EltTy.packing .bf16) := fun v2199 k0_hw52 => k0_hw52.2.2.2.1 (k0_off348_inb v2199 k0_hw52)
theorem k0_off796_inb : ∀ (v2199 : BitVec 32) (k0_hw52 : k0_chk52 v2199), ∀ a, (k0_off796 v2199) a + S1x128x256.size a ≤ S2x4096x512.size a := fun v2199 k0_hw52 => k0_hw52.2.2.2.2.1
theorem k0_off796_wordsbf16 : ∀ (v2199 : BitVec 32) (k0_hw52 : k0_chk52 v2199), (Rect.unit (s := S2x4096x512) (k0_off796 v2199) S1x128x256.size (k0_off796_inb v2199 k0_hw52)).WholeWords (EltTy.packing .bf16) := fun v2199 k0_hw52 => k0_hw52.2.2.2.2.2 (k0_off796_inb v2199 k0_hw52)

def k0_off797 (v2219 : BitVec 32) : Fin 3 → Nat :=
  let c0_i32_5944 : BitVec 32 := 0#32
  let c128_i32_2041 : BitVec 32 := 128#32
  let v2220 : BitVec 32 := Scalar.muli v2219 c128_i32_2041
  let c256_i32_5952 : BitVec 32 := 256#32
  ![0, v2220.toNat, 256]

def k0_chk53 (v2219 : BitVec 32) : Prop :=
  (∀ a, (k0_off255 v2219) a + S1x128x256.size a ≤ S2x4096x512.size a) ∧
  (∀ (hinb : ∀ a, (k0_off255 v2219) a + S1x128x256.size a ≤ S2x4096x512.size a), (Rect.unit (s := S2x4096x512) (k0_off255 v2219) S1x128x256.size hinb).WholeWords (EltTy.packing .bf16)) ∧
  (∀ a, (k0_off350 v2219) a + S1x128x256.size a ≤ S2x4096x512.size a) ∧
  (∀ (hinb : ∀ a, (k0_off350 v2219) a + S1x128x256.size a ≤ S2x4096x512.size a), (Rect.unit (s := S2x4096x512) (k0_off350 v2219) S1x128x256.size hinb).WholeWords (EltTy.packing .bf16)) ∧
  (∀ a, (k0_off797 v2219) a + S1x128x256.size a ≤ S2x4096x512.size a) ∧
  (∀ (hinb : ∀ a, (k0_off797 v2219) a + S1x128x256.size a ≤ S2x4096x512.size a), (Rect.unit (s := S2x4096x512) (k0_off797 v2219) S1x128x256.size hinb).WholeWords (EltTy.packing .bf16))
theorem k0_off255_inb : ∀ (v2219 : BitVec 32) (k0_hw53 : k0_chk53 v2219), ∀ a, (k0_off255 v2219) a + S1x128x256.size a ≤ S2x4096x512.size a := fun v2219 k0_hw53 => k0_hw53.1
theorem k0_off255_wordsbf16 : ∀ (v2219 : BitVec 32) (k0_hw53 : k0_chk53 v2219), (Rect.unit (s := S2x4096x512) (k0_off255 v2219) S1x128x256.size (k0_off255_inb v2219 k0_hw53)).WholeWords (EltTy.packing .bf16) := fun v2219 k0_hw53 => k0_hw53.2.1 (k0_off255_inb v2219 k0_hw53)
theorem k0_off350_inb : ∀ (v2219 : BitVec 32) (k0_hw53 : k0_chk53 v2219), ∀ a, (k0_off350 v2219) a + S1x128x256.size a ≤ S2x4096x512.size a := fun v2219 k0_hw53 => k0_hw53.2.2.1
theorem k0_off350_wordsbf16 : ∀ (v2219 : BitVec 32) (k0_hw53 : k0_chk53 v2219), (Rect.unit (s := S2x4096x512) (k0_off350 v2219) S1x128x256.size (k0_off350_inb v2219 k0_hw53)).WholeWords (EltTy.packing .bf16) := fun v2219 k0_hw53 => k0_hw53.2.2.2.1 (k0_off350_inb v2219 k0_hw53)
theorem k0_off797_inb : ∀ (v2219 : BitVec 32) (k0_hw53 : k0_chk53 v2219), ∀ a, (k0_off797 v2219) a + S1x128x256.size a ≤ S2x4096x512.size a := fun v2219 k0_hw53 => k0_hw53.2.2.2.2.1
theorem k0_off797_wordsbf16 : ∀ (v2219 : BitVec 32) (k0_hw53 : k0_chk53 v2219), (Rect.unit (s := S2x4096x512) (k0_off797 v2219) S1x128x256.size (k0_off797_inb v2219 k0_hw53)).WholeWords (EltTy.packing .bf16) := fun v2219 k0_hw53 => k0_hw53.2.2.2.2.2 (k0_off797_inb v2219 k0_hw53)

def k0_off798 (v2239 : BitVec 32) : Fin 3 → Nat :=
  let c0_i32_5955 : BitVec 32 := 0#32
  let c128_i32_2068 : BitVec 32 := 128#32
  let v2240 : BitVec 32 := Scalar.muli v2239 c128_i32_2068
  let c0_i32_5963 : BitVec 32 := 0#32
  ![0, v2240.toNat, 0]

def k0_chk54 (v2239 : BitVec 32) : Prop :=
  (∀ a, (k0_off257 v2239) a + S1x128x256.size a ≤ S2x4096x512.size a) ∧
  (∀ (hinb : ∀ a, (k0_off257 v2239) a + S1x128x256.size a ≤ S2x4096x512.size a), (Rect.unit (s := S2x4096x512) (k0_off257 v2239) S1x128x256.size hinb).WholeWords (EltTy.packing .bf16)) ∧
  (∀ a, (k0_off352 v2239) a + S1x128x256.size a ≤ S2x4096x512.size a) ∧
  (∀ (hinb : ∀ a, (k0_off352 v2239) a + S1x128x256.size a ≤ S2x4096x512.size a), (Rect.unit (s := S2x4096x512) (k0_off352 v2239) S1x128x256.size hinb).WholeWords (EltTy.packing .bf16)) ∧
  (∀ a, (k0_off798 v2239) a + S1x128x256.size a ≤ S2x4096x512.size a) ∧
  (∀ (hinb : ∀ a, (k0_off798 v2239) a + S1x128x256.size a ≤ S2x4096x512.size a), (Rect.unit (s := S2x4096x512) (k0_off798 v2239) S1x128x256.size hinb).WholeWords (EltTy.packing .bf16))
theorem k0_off257_inb : ∀ (v2239 : BitVec 32) (k0_hw54 : k0_chk54 v2239), ∀ a, (k0_off257 v2239) a + S1x128x256.size a ≤ S2x4096x512.size a := fun v2239 k0_hw54 => k0_hw54.1
theorem k0_off257_wordsbf16 : ∀ (v2239 : BitVec 32) (k0_hw54 : k0_chk54 v2239), (Rect.unit (s := S2x4096x512) (k0_off257 v2239) S1x128x256.size (k0_off257_inb v2239 k0_hw54)).WholeWords (EltTy.packing .bf16) := fun v2239 k0_hw54 => k0_hw54.2.1 (k0_off257_inb v2239 k0_hw54)
theorem k0_off352_inb : ∀ (v2239 : BitVec 32) (k0_hw54 : k0_chk54 v2239), ∀ a, (k0_off352 v2239) a + S1x128x256.size a ≤ S2x4096x512.size a := fun v2239 k0_hw54 => k0_hw54.2.2.1
theorem k0_off352_wordsbf16 : ∀ (v2239 : BitVec 32) (k0_hw54 : k0_chk54 v2239), (Rect.unit (s := S2x4096x512) (k0_off352 v2239) S1x128x256.size (k0_off352_inb v2239 k0_hw54)).WholeWords (EltTy.packing .bf16) := fun v2239 k0_hw54 => k0_hw54.2.2.2.1 (k0_off352_inb v2239 k0_hw54)
theorem k0_off798_inb : ∀ (v2239 : BitVec 32) (k0_hw54 : k0_chk54 v2239), ∀ a, (k0_off798 v2239) a + S1x128x256.size a ≤ S2x4096x512.size a := fun v2239 k0_hw54 => k0_hw54.2.2.2.2.1
theorem k0_off798_wordsbf16 : ∀ (v2239 : BitVec 32) (k0_hw54 : k0_chk54 v2239), (Rect.unit (s := S2x4096x512) (k0_off798 v2239) S1x128x256.size (k0_off798_inb v2239 k0_hw54)).WholeWords (EltTy.packing .bf16) := fun v2239 k0_hw54 => k0_hw54.2.2.2.2.2 (k0_off798_inb v2239 k0_hw54)

def k0_off799 (v2259 : BitVec 32) : Fin 3 → Nat :=
  let c0_i32_5966 : BitVec 32 := 0#32
  let c128_i32_2095 : BitVec 32 := 128#32
  let v2260 : BitVec 32 := Scalar.muli v2259 c128_i32_2095
  let c256_i32_5974 : BitVec 32 := 256#32
  ![0, v2260.toNat, 256]

def k0_chk55 (v2259 : BitVec 32) : Prop :=
  (∀ a, (k0_off259 v2259) a + S1x128x256.size a ≤ S2x4096x512.size a) ∧
  (∀ (hinb : ∀ a, (k0_off259 v2259) a + S1x128x256.size a ≤ S2x4096x512.size a), (Rect.unit (s := S2x4096x512) (k0_off259 v2259) S1x128x256.size hinb).WholeWords (EltTy.packing .bf16)) ∧
  (∀ a, (k0_off354 v2259) a + S1x128x256.size a ≤ S2x4096x512.size a) ∧
  (∀ (hinb : ∀ a, (k0_off354 v2259) a + S1x128x256.size a ≤ S2x4096x512.size a), (Rect.unit (s := S2x4096x512) (k0_off354 v2259) S1x128x256.size hinb).WholeWords (EltTy.packing .bf16)) ∧
  (∀ a, (k0_off799 v2259) a + S1x128x256.size a ≤ S2x4096x512.size a) ∧
  (∀ (hinb : ∀ a, (k0_off799 v2259) a + S1x128x256.size a ≤ S2x4096x512.size a), (Rect.unit (s := S2x4096x512) (k0_off799 v2259) S1x128x256.size hinb).WholeWords (EltTy.packing .bf16))
theorem k0_off259_inb : ∀ (v2259 : BitVec 32) (k0_hw55 : k0_chk55 v2259), ∀ a, (k0_off259 v2259) a + S1x128x256.size a ≤ S2x4096x512.size a := fun v2259 k0_hw55 => k0_hw55.1
theorem k0_off259_wordsbf16 : ∀ (v2259 : BitVec 32) (k0_hw55 : k0_chk55 v2259), (Rect.unit (s := S2x4096x512) (k0_off259 v2259) S1x128x256.size (k0_off259_inb v2259 k0_hw55)).WholeWords (EltTy.packing .bf16) := fun v2259 k0_hw55 => k0_hw55.2.1 (k0_off259_inb v2259 k0_hw55)
theorem k0_off354_inb : ∀ (v2259 : BitVec 32) (k0_hw55 : k0_chk55 v2259), ∀ a, (k0_off354 v2259) a + S1x128x256.size a ≤ S2x4096x512.size a := fun v2259 k0_hw55 => k0_hw55.2.2.1
theorem k0_off354_wordsbf16 : ∀ (v2259 : BitVec 32) (k0_hw55 : k0_chk55 v2259), (Rect.unit (s := S2x4096x512) (k0_off354 v2259) S1x128x256.size (k0_off354_inb v2259 k0_hw55)).WholeWords (EltTy.packing .bf16) := fun v2259 k0_hw55 => k0_hw55.2.2.2.1 (k0_off354_inb v2259 k0_hw55)
theorem k0_off799_inb : ∀ (v2259 : BitVec 32) (k0_hw55 : k0_chk55 v2259), ∀ a, (k0_off799 v2259) a + S1x128x256.size a ≤ S2x4096x512.size a := fun v2259 k0_hw55 => k0_hw55.2.2.2.2.1
theorem k0_off799_wordsbf16 : ∀ (v2259 : BitVec 32) (k0_hw55 : k0_chk55 v2259), (Rect.unit (s := S2x4096x512) (k0_off799 v2259) S1x128x256.size (k0_off799_inb v2259 k0_hw55)).WholeWords (EltTy.packing .bf16) := fun v2259 k0_hw55 => k0_hw55.2.2.2.2.2 (k0_off799_inb v2259 k0_hw55)

def k0_off800 (v2279 : BitVec 32) : Fin 3 → Nat :=
  let c1_i32_5977 : BitVec 32 := 1#32
  let c128_i32_2122 : BitVec 32 := 128#32
  let v2280 : BitVec 32 := Scalar.muli v2279 c128_i32_2122
  let c0_i32_5985 : BitVec 32 := 0#32
  ![1, v2280.toNat, 0]

def k0_chk56 (v2279 : BitVec 32) : Prop :=
  (∀ a, (k0_off261 v2279) a + S1x128x256.size a ≤ S2x4096x512.size a) ∧
  (∀ (hinb : ∀ a, (k0_off261 v2279) a + S1x128x256.size a ≤ S2x4096x512.size a), (Rect.unit (s := S2x4096x512) (k0_off261 v2279) S1x128x256.size hinb).WholeWords (EltTy.packing .bf16)) ∧
  (∀ a, (k0_off356 v2279) a + S1x128x256.size a ≤ S2x4096x512.size a) ∧
  (∀ (hinb : ∀ a, (k0_off356 v2279) a + S1x128x256.size a ≤ S2x4096x512.size a), (Rect.unit (s := S2x4096x512) (k0_off356 v2279) S1x128x256.size hinb).WholeWords (EltTy.packing .bf16)) ∧
  (∀ a, (k0_off800 v2279) a + S1x128x256.size a ≤ S2x4096x512.size a) ∧
  (∀ (hinb : ∀ a, (k0_off800 v2279) a + S1x128x256.size a ≤ S2x4096x512.size a), (Rect.unit (s := S2x4096x512) (k0_off800 v2279) S1x128x256.size hinb).WholeWords (EltTy.packing .bf16))
theorem k0_off261_inb : ∀ (v2279 : BitVec 32) (k0_hw56 : k0_chk56 v2279), ∀ a, (k0_off261 v2279) a + S1x128x256.size a ≤ S2x4096x512.size a := fun v2279 k0_hw56 => k0_hw56.1
theorem k0_off261_wordsbf16 : ∀ (v2279 : BitVec 32) (k0_hw56 : k0_chk56 v2279), (Rect.unit (s := S2x4096x512) (k0_off261 v2279) S1x128x256.size (k0_off261_inb v2279 k0_hw56)).WholeWords (EltTy.packing .bf16) := fun v2279 k0_hw56 => k0_hw56.2.1 (k0_off261_inb v2279 k0_hw56)
theorem k0_off356_inb : ∀ (v2279 : BitVec 32) (k0_hw56 : k0_chk56 v2279), ∀ a, (k0_off356 v2279) a + S1x128x256.size a ≤ S2x4096x512.size a := fun v2279 k0_hw56 => k0_hw56.2.2.1
theorem k0_off356_wordsbf16 : ∀ (v2279 : BitVec 32) (k0_hw56 : k0_chk56 v2279), (Rect.unit (s := S2x4096x512) (k0_off356 v2279) S1x128x256.size (k0_off356_inb v2279 k0_hw56)).WholeWords (EltTy.packing .bf16) := fun v2279 k0_hw56 => k0_hw56.2.2.2.1 (k0_off356_inb v2279 k0_hw56)
theorem k0_off800_inb : ∀ (v2279 : BitVec 32) (k0_hw56 : k0_chk56 v2279), ∀ a, (k0_off800 v2279) a + S1x128x256.size a ≤ S2x4096x512.size a := fun v2279 k0_hw56 => k0_hw56.2.2.2.2.1
theorem k0_off800_wordsbf16 : ∀ (v2279 : BitVec 32) (k0_hw56 : k0_chk56 v2279), (Rect.unit (s := S2x4096x512) (k0_off800 v2279) S1x128x256.size (k0_off800_inb v2279 k0_hw56)).WholeWords (EltTy.packing .bf16) := fun v2279 k0_hw56 => k0_hw56.2.2.2.2.2 (k0_off800_inb v2279 k0_hw56)

def k0_off801 (v2299 : BitVec 32) : Fin 3 → Nat :=
  let c1_i32_5988 : BitVec 32 := 1#32
  let c128_i32_2149 : BitVec 32 := 128#32
  let v2300 : BitVec 32 := Scalar.muli v2299 c128_i32_2149
  let c256_i32_5996 : BitVec 32 := 256#32
  ![1, v2300.toNat, 256]

def k0_chk57 (v2299 : BitVec 32) : Prop :=
  (∀ a, (k0_off263 v2299) a + S1x128x256.size a ≤ S2x4096x512.size a) ∧
  (∀ (hinb : ∀ a, (k0_off263 v2299) a + S1x128x256.size a ≤ S2x4096x512.size a), (Rect.unit (s := S2x4096x512) (k0_off263 v2299) S1x128x256.size hinb).WholeWords (EltTy.packing .bf16)) ∧
  (∀ a, (k0_off358 v2299) a + S1x128x256.size a ≤ S2x4096x512.size a) ∧
  (∀ (hinb : ∀ a, (k0_off358 v2299) a + S1x128x256.size a ≤ S2x4096x512.size a), (Rect.unit (s := S2x4096x512) (k0_off358 v2299) S1x128x256.size hinb).WholeWords (EltTy.packing .bf16)) ∧
  (∀ a, (k0_off801 v2299) a + S1x128x256.size a ≤ S2x4096x512.size a) ∧
  (∀ (hinb : ∀ a, (k0_off801 v2299) a + S1x128x256.size a ≤ S2x4096x512.size a), (Rect.unit (s := S2x4096x512) (k0_off801 v2299) S1x128x256.size hinb).WholeWords (EltTy.packing .bf16))
theorem k0_off263_inb : ∀ (v2299 : BitVec 32) (k0_hw57 : k0_chk57 v2299), ∀ a, (k0_off263 v2299) a + S1x128x256.size a ≤ S2x4096x512.size a := fun v2299 k0_hw57 => k0_hw57.1
theorem k0_off263_wordsbf16 : ∀ (v2299 : BitVec 32) (k0_hw57 : k0_chk57 v2299), (Rect.unit (s := S2x4096x512) (k0_off263 v2299) S1x128x256.size (k0_off263_inb v2299 k0_hw57)).WholeWords (EltTy.packing .bf16) := fun v2299 k0_hw57 => k0_hw57.2.1 (k0_off263_inb v2299 k0_hw57)
theorem k0_off358_inb : ∀ (v2299 : BitVec 32) (k0_hw57 : k0_chk57 v2299), ∀ a, (k0_off358 v2299) a + S1x128x256.size a ≤ S2x4096x512.size a := fun v2299 k0_hw57 => k0_hw57.2.2.1
theorem k0_off358_wordsbf16 : ∀ (v2299 : BitVec 32) (k0_hw57 : k0_chk57 v2299), (Rect.unit (s := S2x4096x512) (k0_off358 v2299) S1x128x256.size (k0_off358_inb v2299 k0_hw57)).WholeWords (EltTy.packing .bf16) := fun v2299 k0_hw57 => k0_hw57.2.2.2.1 (k0_off358_inb v2299 k0_hw57)
theorem k0_off801_inb : ∀ (v2299 : BitVec 32) (k0_hw57 : k0_chk57 v2299), ∀ a, (k0_off801 v2299) a + S1x128x256.size a ≤ S2x4096x512.size a := fun v2299 k0_hw57 => k0_hw57.2.2.2.2.1
theorem k0_off801_wordsbf16 : ∀ (v2299 : BitVec 32) (k0_hw57 : k0_chk57 v2299), (Rect.unit (s := S2x4096x512) (k0_off801 v2299) S1x128x256.size (k0_off801_inb v2299 k0_hw57)).WholeWords (EltTy.packing .bf16) := fun v2299 k0_hw57 => k0_hw57.2.2.2.2.2 (k0_off801_inb v2299 k0_hw57)

def k0_off802 (v2319 : BitVec 32) : Fin 3 → Nat :=
  let c1_i32_5999 : BitVec 32 := 1#32
  let c128_i32_2176 : BitVec 32 := 128#32
  let v2320 : BitVec 32 := Scalar.muli v2319 c128_i32_2176
  let c0_i32_6007 : BitVec 32 := 0#32
  ![1, v2320.toNat, 0]

def k0_chk58 (v2319 : BitVec 32) : Prop :=
  (∀ a, (k0_off265 v2319) a + S1x128x256.size a ≤ S2x4096x512.size a) ∧
  (∀ (hinb : ∀ a, (k0_off265 v2319) a + S1x128x256.size a ≤ S2x4096x512.size a), (Rect.unit (s := S2x4096x512) (k0_off265 v2319) S1x128x256.size hinb).WholeWords (EltTy.packing .bf16)) ∧
  (∀ a, (k0_off360 v2319) a + S1x128x256.size a ≤ S2x4096x512.size a) ∧
  (∀ (hinb : ∀ a, (k0_off360 v2319) a + S1x128x256.size a ≤ S2x4096x512.size a), (Rect.unit (s := S2x4096x512) (k0_off360 v2319) S1x128x256.size hinb).WholeWords (EltTy.packing .bf16)) ∧
  (∀ a, (k0_off802 v2319) a + S1x128x256.size a ≤ S2x4096x512.size a) ∧
  (∀ (hinb : ∀ a, (k0_off802 v2319) a + S1x128x256.size a ≤ S2x4096x512.size a), (Rect.unit (s := S2x4096x512) (k0_off802 v2319) S1x128x256.size hinb).WholeWords (EltTy.packing .bf16))
theorem k0_off265_inb : ∀ (v2319 : BitVec 32) (k0_hw58 : k0_chk58 v2319), ∀ a, (k0_off265 v2319) a + S1x128x256.size a ≤ S2x4096x512.size a := fun v2319 k0_hw58 => k0_hw58.1
theorem k0_off265_wordsbf16 : ∀ (v2319 : BitVec 32) (k0_hw58 : k0_chk58 v2319), (Rect.unit (s := S2x4096x512) (k0_off265 v2319) S1x128x256.size (k0_off265_inb v2319 k0_hw58)).WholeWords (EltTy.packing .bf16) := fun v2319 k0_hw58 => k0_hw58.2.1 (k0_off265_inb v2319 k0_hw58)
theorem k0_off360_inb : ∀ (v2319 : BitVec 32) (k0_hw58 : k0_chk58 v2319), ∀ a, (k0_off360 v2319) a + S1x128x256.size a ≤ S2x4096x512.size a := fun v2319 k0_hw58 => k0_hw58.2.2.1
theorem k0_off360_wordsbf16 : ∀ (v2319 : BitVec 32) (k0_hw58 : k0_chk58 v2319), (Rect.unit (s := S2x4096x512) (k0_off360 v2319) S1x128x256.size (k0_off360_inb v2319 k0_hw58)).WholeWords (EltTy.packing .bf16) := fun v2319 k0_hw58 => k0_hw58.2.2.2.1 (k0_off360_inb v2319 k0_hw58)
theorem k0_off802_inb : ∀ (v2319 : BitVec 32) (k0_hw58 : k0_chk58 v2319), ∀ a, (k0_off802 v2319) a + S1x128x256.size a ≤ S2x4096x512.size a := fun v2319 k0_hw58 => k0_hw58.2.2.2.2.1
theorem k0_off802_wordsbf16 : ∀ (v2319 : BitVec 32) (k0_hw58 : k0_chk58 v2319), (Rect.unit (s := S2x4096x512) (k0_off802 v2319) S1x128x256.size (k0_off802_inb v2319 k0_hw58)).WholeWords (EltTy.packing .bf16) := fun v2319 k0_hw58 => k0_hw58.2.2.2.2.2 (k0_off802_inb v2319 k0_hw58)

def k0_off803 (v2339 : BitVec 32) : Fin 3 → Nat :=
  let c1_i32_6010 : BitVec 32 := 1#32
  let c128_i32_2203 : BitVec 32 := 128#32
  let v2340 : BitVec 32 := Scalar.muli v2339 c128_i32_2203
  let c256_i32_6018 : BitVec 32 := 256#32
  ![1, v2340.toNat, 256]

def k0_chk59 (v2339 : BitVec 32) : Prop :=
  (∀ a, (k0_off267 v2339) a + S1x128x256.size a ≤ S2x4096x512.size a) ∧
  (∀ (hinb : ∀ a, (k0_off267 v2339) a + S1x128x256.size a ≤ S2x4096x512.size a), (Rect.unit (s := S2x4096x512) (k0_off267 v2339) S1x128x256.size hinb).WholeWords (EltTy.packing .bf16)) ∧
  (∀ a, (k0_off362 v2339) a + S1x128x256.size a ≤ S2x4096x512.size a) ∧
  (∀ (hinb : ∀ a, (k0_off362 v2339) a + S1x128x256.size a ≤ S2x4096x512.size a), (Rect.unit (s := S2x4096x512) (k0_off362 v2339) S1x128x256.size hinb).WholeWords (EltTy.packing .bf16)) ∧
  (∀ a, (k0_off803 v2339) a + S1x128x256.size a ≤ S2x4096x512.size a) ∧
  (∀ (hinb : ∀ a, (k0_off803 v2339) a + S1x128x256.size a ≤ S2x4096x512.size a), (Rect.unit (s := S2x4096x512) (k0_off803 v2339) S1x128x256.size hinb).WholeWords (EltTy.packing .bf16))
theorem k0_off267_inb : ∀ (v2339 : BitVec 32) (k0_hw59 : k0_chk59 v2339), ∀ a, (k0_off267 v2339) a + S1x128x256.size a ≤ S2x4096x512.size a := fun v2339 k0_hw59 => k0_hw59.1
theorem k0_off267_wordsbf16 : ∀ (v2339 : BitVec 32) (k0_hw59 : k0_chk59 v2339), (Rect.unit (s := S2x4096x512) (k0_off267 v2339) S1x128x256.size (k0_off267_inb v2339 k0_hw59)).WholeWords (EltTy.packing .bf16) := fun v2339 k0_hw59 => k0_hw59.2.1 (k0_off267_inb v2339 k0_hw59)
theorem k0_off362_inb : ∀ (v2339 : BitVec 32) (k0_hw59 : k0_chk59 v2339), ∀ a, (k0_off362 v2339) a + S1x128x256.size a ≤ S2x4096x512.size a := fun v2339 k0_hw59 => k0_hw59.2.2.1
theorem k0_off362_wordsbf16 : ∀ (v2339 : BitVec 32) (k0_hw59 : k0_chk59 v2339), (Rect.unit (s := S2x4096x512) (k0_off362 v2339) S1x128x256.size (k0_off362_inb v2339 k0_hw59)).WholeWords (EltTy.packing .bf16) := fun v2339 k0_hw59 => k0_hw59.2.2.2.1 (k0_off362_inb v2339 k0_hw59)
theorem k0_off803_inb : ∀ (v2339 : BitVec 32) (k0_hw59 : k0_chk59 v2339), ∀ a, (k0_off803 v2339) a + S1x128x256.size a ≤ S2x4096x512.size a := fun v2339 k0_hw59 => k0_hw59.2.2.2.2.1
theorem k0_off803_wordsbf16 : ∀ (v2339 : BitVec 32) (k0_hw59 : k0_chk59 v2339), (Rect.unit (s := S2x4096x512) (k0_off803 v2339) S1x128x256.size (k0_off803_inb v2339 k0_hw59)).WholeWords (EltTy.packing .bf16) := fun v2339 k0_hw59 => k0_hw59.2.2.2.2.2 (k0_off803_inb v2339 k0_hw59)

def k0_off804 (v2751 : BitVec 32) : Fin 3 → Nat :=
  let c0_i32_6021 : BitVec 32 := 0#32
  let c128_i32_2465 : BitVec 32 := 128#32
  let v2752 : BitVec 32 := Scalar.muli v2751 c128_i32_2465
  let c0_i32_6029 : BitVec 32 := 0#32
  ![0, v2752.toNat, 0]

def k0_chk64 (v2751 : BitVec 32) : Prop :=
  (∀ a, (k0_off333 v2751) a + S1x128x256.size a ≤ S2x4096x512.size a) ∧
  (∀ (hinb : ∀ a, (k0_off333 v2751) a + S1x128x256.size a ≤ S2x4096x512.size a), (Rect.unit (s := S2x4096x512) (k0_off333 v2751) S1x128x256.size hinb).WholeWords (EltTy.packing .bf16)) ∧
  (∀ a, (k0_off428 v2751) a + S1x128x256.size a ≤ S2x4096x512.size a) ∧
  (∀ (hinb : ∀ a, (k0_off428 v2751) a + S1x128x256.size a ≤ S2x4096x512.size a), (Rect.unit (s := S2x4096x512) (k0_off428 v2751) S1x128x256.size hinb).WholeWords (EltTy.packing .bf16)) ∧
  (∀ a, (k0_off804 v2751) a + S1x128x256.size a ≤ S2x4096x512.size a) ∧
  (∀ (hinb : ∀ a, (k0_off804 v2751) a + S1x128x256.size a ≤ S2x4096x512.size a), (Rect.unit (s := S2x4096x512) (k0_off804 v2751) S1x128x256.size hinb).WholeWords (EltTy.packing .bf16))
theorem k0_off333_inb : ∀ (v2751 : BitVec 32) (k0_hw64 : k0_chk64 v2751), ∀ a, (k0_off333 v2751) a + S1x128x256.size a ≤ S2x4096x512.size a := fun v2751 k0_hw64 => k0_hw64.1
theorem k0_off333_wordsbf16 : ∀ (v2751 : BitVec 32) (k0_hw64 : k0_chk64 v2751), (Rect.unit (s := S2x4096x512) (k0_off333 v2751) S1x128x256.size (k0_off333_inb v2751 k0_hw64)).WholeWords (EltTy.packing .bf16) := fun v2751 k0_hw64 => k0_hw64.2.1 (k0_off333_inb v2751 k0_hw64)
theorem k0_off428_inb : ∀ (v2751 : BitVec 32) (k0_hw64 : k0_chk64 v2751), ∀ a, (k0_off428 v2751) a + S1x128x256.size a ≤ S2x4096x512.size a := fun v2751 k0_hw64 => k0_hw64.2.2.1
theorem k0_off428_wordsbf16 : ∀ (v2751 : BitVec 32) (k0_hw64 : k0_chk64 v2751), (Rect.unit (s := S2x4096x512) (k0_off428 v2751) S1x128x256.size (k0_off428_inb v2751 k0_hw64)).WholeWords (EltTy.packing .bf16) := fun v2751 k0_hw64 => k0_hw64.2.2.2.1 (k0_off428_inb v2751 k0_hw64)
theorem k0_off804_inb : ∀ (v2751 : BitVec 32) (k0_hw64 : k0_chk64 v2751), ∀ a, (k0_off804 v2751) a + S1x128x256.size a ≤ S2x4096x512.size a := fun v2751 k0_hw64 => k0_hw64.2.2.2.2.1
theorem k0_off804_wordsbf16 : ∀ (v2751 : BitVec 32) (k0_hw64 : k0_chk64 v2751), (Rect.unit (s := S2x4096x512) (k0_off804 v2751) S1x128x256.size (k0_off804_inb v2751 k0_hw64)).WholeWords (EltTy.packing .bf16) := fun v2751 k0_hw64 => k0_hw64.2.2.2.2.2 (k0_off804_inb v2751 k0_hw64)

def k0_off805 (v2771 : BitVec 32) : Fin 3 → Nat :=
  let c0_i32_6032 : BitVec 32 := 0#32
  let c128_i32_2491 : BitVec 32 := 128#32
  let v2772 : BitVec 32 := Scalar.muli v2771 c128_i32_2491
  let c256_i32_6040 : BitVec 32 := 256#32
  ![0, v2772.toNat, 256]

def k0_chk65 (v2771 : BitVec 32) : Prop :=
  (∀ a, (k0_off335 v2771) a + S1x128x256.size a ≤ S2x4096x512.size a) ∧
  (∀ (hinb : ∀ a, (k0_off335 v2771) a + S1x128x256.size a ≤ S2x4096x512.size a), (Rect.unit (s := S2x4096x512) (k0_off335 v2771) S1x128x256.size hinb).WholeWords (EltTy.packing .bf16)) ∧
  (∀ a, (k0_off430 v2771) a + S1x128x256.size a ≤ S2x4096x512.size a) ∧
  (∀ (hinb : ∀ a, (k0_off430 v2771) a + S1x128x256.size a ≤ S2x4096x512.size a), (Rect.unit (s := S2x4096x512) (k0_off430 v2771) S1x128x256.size hinb).WholeWords (EltTy.packing .bf16)) ∧
  (∀ a, (k0_off805 v2771) a + S1x128x256.size a ≤ S2x4096x512.size a) ∧
  (∀ (hinb : ∀ a, (k0_off805 v2771) a + S1x128x256.size a ≤ S2x4096x512.size a), (Rect.unit (s := S2x4096x512) (k0_off805 v2771) S1x128x256.size hinb).WholeWords (EltTy.packing .bf16))
theorem k0_off335_inb : ∀ (v2771 : BitVec 32) (k0_hw65 : k0_chk65 v2771), ∀ a, (k0_off335 v2771) a + S1x128x256.size a ≤ S2x4096x512.size a := fun v2771 k0_hw65 => k0_hw65.1
theorem k0_off335_wordsbf16 : ∀ (v2771 : BitVec 32) (k0_hw65 : k0_chk65 v2771), (Rect.unit (s := S2x4096x512) (k0_off335 v2771) S1x128x256.size (k0_off335_inb v2771 k0_hw65)).WholeWords (EltTy.packing .bf16) := fun v2771 k0_hw65 => k0_hw65.2.1 (k0_off335_inb v2771 k0_hw65)
theorem k0_off430_inb : ∀ (v2771 : BitVec 32) (k0_hw65 : k0_chk65 v2771), ∀ a, (k0_off430 v2771) a + S1x128x256.size a ≤ S2x4096x512.size a := fun v2771 k0_hw65 => k0_hw65.2.2.1
theorem k0_off430_wordsbf16 : ∀ (v2771 : BitVec 32) (k0_hw65 : k0_chk65 v2771), (Rect.unit (s := S2x4096x512) (k0_off430 v2771) S1x128x256.size (k0_off430_inb v2771 k0_hw65)).WholeWords (EltTy.packing .bf16) := fun v2771 k0_hw65 => k0_hw65.2.2.2.1 (k0_off430_inb v2771 k0_hw65)
theorem k0_off805_inb : ∀ (v2771 : BitVec 32) (k0_hw65 : k0_chk65 v2771), ∀ a, (k0_off805 v2771) a + S1x128x256.size a ≤ S2x4096x512.size a := fun v2771 k0_hw65 => k0_hw65.2.2.2.2.1
theorem k0_off805_wordsbf16 : ∀ (v2771 : BitVec 32) (k0_hw65 : k0_chk65 v2771), (Rect.unit (s := S2x4096x512) (k0_off805 v2771) S1x128x256.size (k0_off805_inb v2771 k0_hw65)).WholeWords (EltTy.packing .bf16) := fun v2771 k0_hw65 => k0_hw65.2.2.2.2.2 (k0_off805_inb v2771 k0_hw65)

def k0_off806 (v2791 : BitVec 32) : Fin 3 → Nat :=
  let c0_i32_6043 : BitVec 32 := 0#32
  let c128_i32_2518 : BitVec 32 := 128#32
  let v2792 : BitVec 32 := Scalar.muli v2791 c128_i32_2518
  let c0_i32_6051 : BitVec 32 := 0#32
  ![0, v2792.toNat, 0]

def k0_chk66 (v2791 : BitVec 32) : Prop :=
  (∀ a, (k0_off337 v2791) a + S1x128x256.size a ≤ S2x4096x512.size a) ∧
  (∀ (hinb : ∀ a, (k0_off337 v2791) a + S1x128x256.size a ≤ S2x4096x512.size a), (Rect.unit (s := S2x4096x512) (k0_off337 v2791) S1x128x256.size hinb).WholeWords (EltTy.packing .bf16)) ∧
  (∀ a, (k0_off432 v2791) a + S1x128x256.size a ≤ S2x4096x512.size a) ∧
  (∀ (hinb : ∀ a, (k0_off432 v2791) a + S1x128x256.size a ≤ S2x4096x512.size a), (Rect.unit (s := S2x4096x512) (k0_off432 v2791) S1x128x256.size hinb).WholeWords (EltTy.packing .bf16)) ∧
  (∀ a, (k0_off806 v2791) a + S1x128x256.size a ≤ S2x4096x512.size a) ∧
  (∀ (hinb : ∀ a, (k0_off806 v2791) a + S1x128x256.size a ≤ S2x4096x512.size a), (Rect.unit (s := S2x4096x512) (k0_off806 v2791) S1x128x256.size hinb).WholeWords (EltTy.packing .bf16))
theorem k0_off337_inb : ∀ (v2791 : BitVec 32) (k0_hw66 : k0_chk66 v2791), ∀ a, (k0_off337 v2791) a + S1x128x256.size a ≤ S2x4096x512.size a := fun v2791 k0_hw66 => k0_hw66.1
theorem k0_off337_wordsbf16 : ∀ (v2791 : BitVec 32) (k0_hw66 : k0_chk66 v2791), (Rect.unit (s := S2x4096x512) (k0_off337 v2791) S1x128x256.size (k0_off337_inb v2791 k0_hw66)).WholeWords (EltTy.packing .bf16) := fun v2791 k0_hw66 => k0_hw66.2.1 (k0_off337_inb v2791 k0_hw66)
theorem k0_off432_inb : ∀ (v2791 : BitVec 32) (k0_hw66 : k0_chk66 v2791), ∀ a, (k0_off432 v2791) a + S1x128x256.size a ≤ S2x4096x512.size a := fun v2791 k0_hw66 => k0_hw66.2.2.1
theorem k0_off432_wordsbf16 : ∀ (v2791 : BitVec 32) (k0_hw66 : k0_chk66 v2791), (Rect.unit (s := S2x4096x512) (k0_off432 v2791) S1x128x256.size (k0_off432_inb v2791 k0_hw66)).WholeWords (EltTy.packing .bf16) := fun v2791 k0_hw66 => k0_hw66.2.2.2.1 (k0_off432_inb v2791 k0_hw66)
theorem k0_off806_inb : ∀ (v2791 : BitVec 32) (k0_hw66 : k0_chk66 v2791), ∀ a, (k0_off806 v2791) a + S1x128x256.size a ≤ S2x4096x512.size a := fun v2791 k0_hw66 => k0_hw66.2.2.2.2.1
theorem k0_off806_wordsbf16 : ∀ (v2791 : BitVec 32) (k0_hw66 : k0_chk66 v2791), (Rect.unit (s := S2x4096x512) (k0_off806 v2791) S1x128x256.size (k0_off806_inb v2791 k0_hw66)).WholeWords (EltTy.packing .bf16) := fun v2791 k0_hw66 => k0_hw66.2.2.2.2.2 (k0_off806_inb v2791 k0_hw66)

def k0_off807 (v2811 : BitVec 32) : Fin 3 → Nat :=
  let c0_i32_6054 : BitVec 32 := 0#32
  let c128_i32_2545 : BitVec 32 := 128#32
  let v2812 : BitVec 32 := Scalar.muli v2811 c128_i32_2545
  let c256_i32_6062 : BitVec 32 := 256#32
  ![0, v2812.toNat, 256]

def k0_chk67 (v2811 : BitVec 32) : Prop :=
  (∀ a, (k0_off339 v2811) a + S1x128x256.size a ≤ S2x4096x512.size a) ∧
  (∀ (hinb : ∀ a, (k0_off339 v2811) a + S1x128x256.size a ≤ S2x4096x512.size a), (Rect.unit (s := S2x4096x512) (k0_off339 v2811) S1x128x256.size hinb).WholeWords (EltTy.packing .bf16)) ∧
  (∀ a, (k0_off434 v2811) a + S1x128x256.size a ≤ S2x4096x512.size a) ∧
  (∀ (hinb : ∀ a, (k0_off434 v2811) a + S1x128x256.size a ≤ S2x4096x512.size a), (Rect.unit (s := S2x4096x512) (k0_off434 v2811) S1x128x256.size hinb).WholeWords (EltTy.packing .bf16)) ∧
  (∀ a, (k0_off807 v2811) a + S1x128x256.size a ≤ S2x4096x512.size a) ∧
  (∀ (hinb : ∀ a, (k0_off807 v2811) a + S1x128x256.size a ≤ S2x4096x512.size a), (Rect.unit (s := S2x4096x512) (k0_off807 v2811) S1x128x256.size hinb).WholeWords (EltTy.packing .bf16))
theorem k0_off339_inb : ∀ (v2811 : BitVec 32) (k0_hw67 : k0_chk67 v2811), ∀ a, (k0_off339 v2811) a + S1x128x256.size a ≤ S2x4096x512.size a := fun v2811 k0_hw67 => k0_hw67.1
theorem k0_off339_wordsbf16 : ∀ (v2811 : BitVec 32) (k0_hw67 : k0_chk67 v2811), (Rect.unit (s := S2x4096x512) (k0_off339 v2811) S1x128x256.size (k0_off339_inb v2811 k0_hw67)).WholeWords (EltTy.packing .bf16) := fun v2811 k0_hw67 => k0_hw67.2.1 (k0_off339_inb v2811 k0_hw67)
theorem k0_off434_inb : ∀ (v2811 : BitVec 32) (k0_hw67 : k0_chk67 v2811), ∀ a, (k0_off434 v2811) a + S1x128x256.size a ≤ S2x4096x512.size a := fun v2811 k0_hw67 => k0_hw67.2.2.1
theorem k0_off434_wordsbf16 : ∀ (v2811 : BitVec 32) (k0_hw67 : k0_chk67 v2811), (Rect.unit (s := S2x4096x512) (k0_off434 v2811) S1x128x256.size (k0_off434_inb v2811 k0_hw67)).WholeWords (EltTy.packing .bf16) := fun v2811 k0_hw67 => k0_hw67.2.2.2.1 (k0_off434_inb v2811 k0_hw67)
theorem k0_off807_inb : ∀ (v2811 : BitVec 32) (k0_hw67 : k0_chk67 v2811), ∀ a, (k0_off807 v2811) a + S1x128x256.size a ≤ S2x4096x512.size a := fun v2811 k0_hw67 => k0_hw67.2.2.2.2.1
theorem k0_off807_wordsbf16 : ∀ (v2811 : BitVec 32) (k0_hw67 : k0_chk67 v2811), (Rect.unit (s := S2x4096x512) (k0_off807 v2811) S1x128x256.size (k0_off807_inb v2811 k0_hw67)).WholeWords (EltTy.packing .bf16) := fun v2811 k0_hw67 => k0_hw67.2.2.2.2.2 (k0_off807_inb v2811 k0_hw67)

def k0_off808 (v2831 : BitVec 32) : Fin 3 → Nat :=
  let c1_i32_6065 : BitVec 32 := 1#32
  let c128_i32_2572 : BitVec 32 := 128#32
  let v2832 : BitVec 32 := Scalar.muli v2831 c128_i32_2572
  let c0_i32_6073 : BitVec 32 := 0#32
  ![1, v2832.toNat, 0]

def k0_chk68 (v2831 : BitVec 32) : Prop :=
  (∀ a, (k0_off341 v2831) a + S1x128x256.size a ≤ S2x4096x512.size a) ∧
  (∀ (hinb : ∀ a, (k0_off341 v2831) a + S1x128x256.size a ≤ S2x4096x512.size a), (Rect.unit (s := S2x4096x512) (k0_off341 v2831) S1x128x256.size hinb).WholeWords (EltTy.packing .bf16)) ∧
  (∀ a, (k0_off436 v2831) a + S1x128x256.size a ≤ S2x4096x512.size a) ∧
  (∀ (hinb : ∀ a, (k0_off436 v2831) a + S1x128x256.size a ≤ S2x4096x512.size a), (Rect.unit (s := S2x4096x512) (k0_off436 v2831) S1x128x256.size hinb).WholeWords (EltTy.packing .bf16)) ∧
  (∀ a, (k0_off808 v2831) a + S1x128x256.size a ≤ S2x4096x512.size a) ∧
  (∀ (hinb : ∀ a, (k0_off808 v2831) a + S1x128x256.size a ≤ S2x4096x512.size a), (Rect.unit (s := S2x4096x512) (k0_off808 v2831) S1x128x256.size hinb).WholeWords (EltTy.packing .bf16))
theorem k0_off341_inb : ∀ (v2831 : BitVec 32) (k0_hw68 : k0_chk68 v2831), ∀ a, (k0_off341 v2831) a + S1x128x256.size a ≤ S2x4096x512.size a := fun v2831 k0_hw68 => k0_hw68.1
theorem k0_off341_wordsbf16 : ∀ (v2831 : BitVec 32) (k0_hw68 : k0_chk68 v2831), (Rect.unit (s := S2x4096x512) (k0_off341 v2831) S1x128x256.size (k0_off341_inb v2831 k0_hw68)).WholeWords (EltTy.packing .bf16) := fun v2831 k0_hw68 => k0_hw68.2.1 (k0_off341_inb v2831 k0_hw68)
theorem k0_off436_inb : ∀ (v2831 : BitVec 32) (k0_hw68 : k0_chk68 v2831), ∀ a, (k0_off436 v2831) a + S1x128x256.size a ≤ S2x4096x512.size a := fun v2831 k0_hw68 => k0_hw68.2.2.1
theorem k0_off436_wordsbf16 : ∀ (v2831 : BitVec 32) (k0_hw68 : k0_chk68 v2831), (Rect.unit (s := S2x4096x512) (k0_off436 v2831) S1x128x256.size (k0_off436_inb v2831 k0_hw68)).WholeWords (EltTy.packing .bf16) := fun v2831 k0_hw68 => k0_hw68.2.2.2.1 (k0_off436_inb v2831 k0_hw68)
theorem k0_off808_inb : ∀ (v2831 : BitVec 32) (k0_hw68 : k0_chk68 v2831), ∀ a, (k0_off808 v2831) a + S1x128x256.size a ≤ S2x4096x512.size a := fun v2831 k0_hw68 => k0_hw68.2.2.2.2.1
theorem k0_off808_wordsbf16 : ∀ (v2831 : BitVec 32) (k0_hw68 : k0_chk68 v2831), (Rect.unit (s := S2x4096x512) (k0_off808 v2831) S1x128x256.size (k0_off808_inb v2831 k0_hw68)).WholeWords (EltTy.packing .bf16) := fun v2831 k0_hw68 => k0_hw68.2.2.2.2.2 (k0_off808_inb v2831 k0_hw68)

def k0_off809 (v2851 : BitVec 32) : Fin 3 → Nat :=
  let c1_i32_6076 : BitVec 32 := 1#32
  let c128_i32_2599 : BitVec 32 := 128#32
  let v2852 : BitVec 32 := Scalar.muli v2851 c128_i32_2599
  let c256_i32_6084 : BitVec 32 := 256#32
  ![1, v2852.toNat, 256]

def k0_chk69 (v2851 : BitVec 32) : Prop :=
  (∀ a, (k0_off343 v2851) a + S1x128x256.size a ≤ S2x4096x512.size a) ∧
  (∀ (hinb : ∀ a, (k0_off343 v2851) a + S1x128x256.size a ≤ S2x4096x512.size a), (Rect.unit (s := S2x4096x512) (k0_off343 v2851) S1x128x256.size hinb).WholeWords (EltTy.packing .bf16)) ∧
  (∀ a, (k0_off438 v2851) a + S1x128x256.size a ≤ S2x4096x512.size a) ∧
  (∀ (hinb : ∀ a, (k0_off438 v2851) a + S1x128x256.size a ≤ S2x4096x512.size a), (Rect.unit (s := S2x4096x512) (k0_off438 v2851) S1x128x256.size hinb).WholeWords (EltTy.packing .bf16)) ∧
  (∀ a, (k0_off809 v2851) a + S1x128x256.size a ≤ S2x4096x512.size a) ∧
  (∀ (hinb : ∀ a, (k0_off809 v2851) a + S1x128x256.size a ≤ S2x4096x512.size a), (Rect.unit (s := S2x4096x512) (k0_off809 v2851) S1x128x256.size hinb).WholeWords (EltTy.packing .bf16))
theorem k0_off343_inb : ∀ (v2851 : BitVec 32) (k0_hw69 : k0_chk69 v2851), ∀ a, (k0_off343 v2851) a + S1x128x256.size a ≤ S2x4096x512.size a := fun v2851 k0_hw69 => k0_hw69.1
theorem k0_off343_wordsbf16 : ∀ (v2851 : BitVec 32) (k0_hw69 : k0_chk69 v2851), (Rect.unit (s := S2x4096x512) (k0_off343 v2851) S1x128x256.size (k0_off343_inb v2851 k0_hw69)).WholeWords (EltTy.packing .bf16) := fun v2851 k0_hw69 => k0_hw69.2.1 (k0_off343_inb v2851 k0_hw69)
theorem k0_off438_inb : ∀ (v2851 : BitVec 32) (k0_hw69 : k0_chk69 v2851), ∀ a, (k0_off438 v2851) a + S1x128x256.size a ≤ S2x4096x512.size a := fun v2851 k0_hw69 => k0_hw69.2.2.1
theorem k0_off438_wordsbf16 : ∀ (v2851 : BitVec 32) (k0_hw69 : k0_chk69 v2851), (Rect.unit (s := S2x4096x512) (k0_off438 v2851) S1x128x256.size (k0_off438_inb v2851 k0_hw69)).WholeWords (EltTy.packing .bf16) := fun v2851 k0_hw69 => k0_hw69.2.2.2.1 (k0_off438_inb v2851 k0_hw69)
theorem k0_off809_inb : ∀ (v2851 : BitVec 32) (k0_hw69 : k0_chk69 v2851), ∀ a, (k0_off809 v2851) a + S1x128x256.size a ≤ S2x4096x512.size a := fun v2851 k0_hw69 => k0_hw69.2.2.2.2.1
theorem k0_off809_wordsbf16 : ∀ (v2851 : BitVec 32) (k0_hw69 : k0_chk69 v2851), (Rect.unit (s := S2x4096x512) (k0_off809 v2851) S1x128x256.size (k0_off809_inb v2851 k0_hw69)).WholeWords (EltTy.packing .bf16) := fun v2851 k0_hw69 => k0_hw69.2.2.2.2.2 (k0_off809_inb v2851 k0_hw69)

def k0_off810 (v2871 : BitVec 32) : Fin 3 → Nat :=
  let c1_i32_6087 : BitVec 32 := 1#32
  let c128_i32_2626 : BitVec 32 := 128#32
  let v2872 : BitVec 32 := Scalar.muli v2871 c128_i32_2626
  let c0_i32_6095 : BitVec 32 := 0#32
  ![1, v2872.toNat, 0]

def k0_chk70 (v2871 : BitVec 32) : Prop :=
  (∀ a, (k0_off345 v2871) a + S1x128x256.size a ≤ S2x4096x512.size a) ∧
  (∀ (hinb : ∀ a, (k0_off345 v2871) a + S1x128x256.size a ≤ S2x4096x512.size a), (Rect.unit (s := S2x4096x512) (k0_off345 v2871) S1x128x256.size hinb).WholeWords (EltTy.packing .bf16)) ∧
  (∀ a, (k0_off440 v2871) a + S1x128x256.size a ≤ S2x4096x512.size a) ∧
  (∀ (hinb : ∀ a, (k0_off440 v2871) a + S1x128x256.size a ≤ S2x4096x512.size a), (Rect.unit (s := S2x4096x512) (k0_off440 v2871) S1x128x256.size hinb).WholeWords (EltTy.packing .bf16)) ∧
  (∀ a, (k0_off810 v2871) a + S1x128x256.size a ≤ S2x4096x512.size a) ∧
  (∀ (hinb : ∀ a, (k0_off810 v2871) a + S1x128x256.size a ≤ S2x4096x512.size a), (Rect.unit (s := S2x4096x512) (k0_off810 v2871) S1x128x256.size hinb).WholeWords (EltTy.packing .bf16))
theorem k0_off345_inb : ∀ (v2871 : BitVec 32) (k0_hw70 : k0_chk70 v2871), ∀ a, (k0_off345 v2871) a + S1x128x256.size a ≤ S2x4096x512.size a := fun v2871 k0_hw70 => k0_hw70.1
theorem k0_off345_wordsbf16 : ∀ (v2871 : BitVec 32) (k0_hw70 : k0_chk70 v2871), (Rect.unit (s := S2x4096x512) (k0_off345 v2871) S1x128x256.size (k0_off345_inb v2871 k0_hw70)).WholeWords (EltTy.packing .bf16) := fun v2871 k0_hw70 => k0_hw70.2.1 (k0_off345_inb v2871 k0_hw70)
theorem k0_off440_inb : ∀ (v2871 : BitVec 32) (k0_hw70 : k0_chk70 v2871), ∀ a, (k0_off440 v2871) a + S1x128x256.size a ≤ S2x4096x512.size a := fun v2871 k0_hw70 => k0_hw70.2.2.1
theorem k0_off440_wordsbf16 : ∀ (v2871 : BitVec 32) (k0_hw70 : k0_chk70 v2871), (Rect.unit (s := S2x4096x512) (k0_off440 v2871) S1x128x256.size (k0_off440_inb v2871 k0_hw70)).WholeWords (EltTy.packing .bf16) := fun v2871 k0_hw70 => k0_hw70.2.2.2.1 (k0_off440_inb v2871 k0_hw70)
theorem k0_off810_inb : ∀ (v2871 : BitVec 32) (k0_hw70 : k0_chk70 v2871), ∀ a, (k0_off810 v2871) a + S1x128x256.size a ≤ S2x4096x512.size a := fun v2871 k0_hw70 => k0_hw70.2.2.2.2.1
theorem k0_off810_wordsbf16 : ∀ (v2871 : BitVec 32) (k0_hw70 : k0_chk70 v2871), (Rect.unit (s := S2x4096x512) (k0_off810 v2871) S1x128x256.size (k0_off810_inb v2871 k0_hw70)).WholeWords (EltTy.packing .bf16) := fun v2871 k0_hw70 => k0_hw70.2.2.2.2.2 (k0_off810_inb v2871 k0_hw70)

def k0_off811 (v2891 : BitVec 32) : Fin 3 → Nat :=
  let c1_i32_6098 : BitVec 32 := 1#32
  let c128_i32_2653 : BitVec 32 := 128#32
  let v2892 : BitVec 32 := Scalar.muli v2891 c128_i32_2653
  let c256_i32_6106 : BitVec 32 := 256#32
  ![1, v2892.toNat, 256]

def k0_chk71 (v2891 : BitVec 32) : Prop :=
  (∀ a, (k0_off347 v2891) a + S1x128x256.size a ≤ S2x4096x512.size a) ∧
  (∀ (hinb : ∀ a, (k0_off347 v2891) a + S1x128x256.size a ≤ S2x4096x512.size a), (Rect.unit (s := S2x4096x512) (k0_off347 v2891) S1x128x256.size hinb).WholeWords (EltTy.packing .bf16)) ∧
  (∀ a, (k0_off442 v2891) a + S1x128x256.size a ≤ S2x4096x512.size a) ∧
  (∀ (hinb : ∀ a, (k0_off442 v2891) a + S1x128x256.size a ≤ S2x4096x512.size a), (Rect.unit (s := S2x4096x512) (k0_off442 v2891) S1x128x256.size hinb).WholeWords (EltTy.packing .bf16)) ∧
  (∀ a, (k0_off811 v2891) a + S1x128x256.size a ≤ S2x4096x512.size a) ∧
  (∀ (hinb : ∀ a, (k0_off811 v2891) a + S1x128x256.size a ≤ S2x4096x512.size a), (Rect.unit (s := S2x4096x512) (k0_off811 v2891) S1x128x256.size hinb).WholeWords (EltTy.packing .bf16))
theorem k0_off347_inb : ∀ (v2891 : BitVec 32) (k0_hw71 : k0_chk71 v2891), ∀ a, (k0_off347 v2891) a + S1x128x256.size a ≤ S2x4096x512.size a := fun v2891 k0_hw71 => k0_hw71.1
theorem k0_off347_wordsbf16 : ∀ (v2891 : BitVec 32) (k0_hw71 : k0_chk71 v2891), (Rect.unit (s := S2x4096x512) (k0_off347 v2891) S1x128x256.size (k0_off347_inb v2891 k0_hw71)).WholeWords (EltTy.packing .bf16) := fun v2891 k0_hw71 => k0_hw71.2.1 (k0_off347_inb v2891 k0_hw71)
theorem k0_off442_inb : ∀ (v2891 : BitVec 32) (k0_hw71 : k0_chk71 v2891), ∀ a, (k0_off442 v2891) a + S1x128x256.size a ≤ S2x4096x512.size a := fun v2891 k0_hw71 => k0_hw71.2.2.1
theorem k0_off442_wordsbf16 : ∀ (v2891 : BitVec 32) (k0_hw71 : k0_chk71 v2891), (Rect.unit (s := S2x4096x512) (k0_off442 v2891) S1x128x256.size (k0_off442_inb v2891 k0_hw71)).WholeWords (EltTy.packing .bf16) := fun v2891 k0_hw71 => k0_hw71.2.2.2.1 (k0_off442_inb v2891 k0_hw71)
theorem k0_off811_inb : ∀ (v2891 : BitVec 32) (k0_hw71 : k0_chk71 v2891), ∀ a, (k0_off811 v2891) a + S1x128x256.size a ≤ S2x4096x512.size a := fun v2891 k0_hw71 => k0_hw71.2.2.2.2.1
theorem k0_off811_wordsbf16 : ∀ (v2891 : BitVec 32) (k0_hw71 : k0_chk71 v2891), (Rect.unit (s := S2x4096x512) (k0_off811 v2891) S1x128x256.size (k0_off811_inb v2891 k0_hw71)).WholeWords (EltTy.packing .bf16) := fun v2891 k0_hw71 => k0_hw71.2.2.2.2.2 (k0_off811_inb v2891 k0_hw71)

def k0_off812 (v2911 : BitVec 32) : Fin 3 → Nat :=
  let c0_i32_6109 : BitVec 32 := 0#32
  let c128_i32_2680 : BitVec 32 := 128#32
  let v2912 : BitVec 32 := Scalar.muli v2911 c128_i32_2680
  let c0_i32_6117 : BitVec 32 := 0#32
  ![0, v2912.toNat, 0]

def k0_chk72 (v2911 : BitVec 32) : Prop :=
  (∀ a, (k0_off349 v2911) a + S1x128x256.size a ≤ S2x4096x512.size a) ∧
  (∀ (hinb : ∀ a, (k0_off349 v2911) a + S1x128x256.size a ≤ S2x4096x512.size a), (Rect.unit (s := S2x4096x512) (k0_off349 v2911) S1x128x256.size hinb).WholeWords (EltTy.packing .bf16)) ∧
  (∀ a, (k0_off444 v2911) a + S1x128x256.size a ≤ S2x4096x512.size a) ∧
  (∀ (hinb : ∀ a, (k0_off444 v2911) a + S1x128x256.size a ≤ S2x4096x512.size a), (Rect.unit (s := S2x4096x512) (k0_off444 v2911) S1x128x256.size hinb).WholeWords (EltTy.packing .bf16)) ∧
  (∀ a, (k0_off812 v2911) a + S1x128x256.size a ≤ S2x4096x512.size a) ∧
  (∀ (hinb : ∀ a, (k0_off812 v2911) a + S1x128x256.size a ≤ S2x4096x512.size a), (Rect.unit (s := S2x4096x512) (k0_off812 v2911) S1x128x256.size hinb).WholeWords (EltTy.packing .bf16))
theorem k0_off349_inb : ∀ (v2911 : BitVec 32) (k0_hw72 : k0_chk72 v2911), ∀ a, (k0_off349 v2911) a + S1x128x256.size a ≤ S2x4096x512.size a := fun v2911 k0_hw72 => k0_hw72.1
theorem k0_off349_wordsbf16 : ∀ (v2911 : BitVec 32) (k0_hw72 : k0_chk72 v2911), (Rect.unit (s := S2x4096x512) (k0_off349 v2911) S1x128x256.size (k0_off349_inb v2911 k0_hw72)).WholeWords (EltTy.packing .bf16) := fun v2911 k0_hw72 => k0_hw72.2.1 (k0_off349_inb v2911 k0_hw72)
theorem k0_off444_inb : ∀ (v2911 : BitVec 32) (k0_hw72 : k0_chk72 v2911), ∀ a, (k0_off444 v2911) a + S1x128x256.size a ≤ S2x4096x512.size a := fun v2911 k0_hw72 => k0_hw72.2.2.1
theorem k0_off444_wordsbf16 : ∀ (v2911 : BitVec 32) (k0_hw72 : k0_chk72 v2911), (Rect.unit (s := S2x4096x512) (k0_off444 v2911) S1x128x256.size (k0_off444_inb v2911 k0_hw72)).WholeWords (EltTy.packing .bf16) := fun v2911 k0_hw72 => k0_hw72.2.2.2.1 (k0_off444_inb v2911 k0_hw72)
theorem k0_off812_inb : ∀ (v2911 : BitVec 32) (k0_hw72 : k0_chk72 v2911), ∀ a, (k0_off812 v2911) a + S1x128x256.size a ≤ S2x4096x512.size a := fun v2911 k0_hw72 => k0_hw72.2.2.2.2.1
theorem k0_off812_wordsbf16 : ∀ (v2911 : BitVec 32) (k0_hw72 : k0_chk72 v2911), (Rect.unit (s := S2x4096x512) (k0_off812 v2911) S1x128x256.size (k0_off812_inb v2911 k0_hw72)).WholeWords (EltTy.packing .bf16) := fun v2911 k0_hw72 => k0_hw72.2.2.2.2.2 (k0_off812_inb v2911 k0_hw72)

def k0_off813 (v2931 : BitVec 32) : Fin 3 → Nat :=
  let c0_i32_6120 : BitVec 32 := 0#32
  let c128_i32_2707 : BitVec 32 := 128#32
  let v2932 : BitVec 32 := Scalar.muli v2931 c128_i32_2707
  let c256_i32_6128 : BitVec 32 := 256#32
  ![0, v2932.toNat, 256]

def k0_chk73 (v2931 : BitVec 32) : Prop :=
  (∀ a, (k0_off351 v2931) a + S1x128x256.size a ≤ S2x4096x512.size a) ∧
  (∀ (hinb : ∀ a, (k0_off351 v2931) a + S1x128x256.size a ≤ S2x4096x512.size a), (Rect.unit (s := S2x4096x512) (k0_off351 v2931) S1x128x256.size hinb).WholeWords (EltTy.packing .bf16)) ∧
  (∀ a, (k0_off446 v2931) a + S1x128x256.size a ≤ S2x4096x512.size a) ∧
  (∀ (hinb : ∀ a, (k0_off446 v2931) a + S1x128x256.size a ≤ S2x4096x512.size a), (Rect.unit (s := S2x4096x512) (k0_off446 v2931) S1x128x256.size hinb).WholeWords (EltTy.packing .bf16)) ∧
  (∀ a, (k0_off813 v2931) a + S1x128x256.size a ≤ S2x4096x512.size a) ∧
  (∀ (hinb : ∀ a, (k0_off813 v2931) a + S1x128x256.size a ≤ S2x4096x512.size a), (Rect.unit (s := S2x4096x512) (k0_off813 v2931) S1x128x256.size hinb).WholeWords (EltTy.packing .bf16))
theorem k0_off351_inb : ∀ (v2931 : BitVec 32) (k0_hw73 : k0_chk73 v2931), ∀ a, (k0_off351 v2931) a + S1x128x256.size a ≤ S2x4096x512.size a := fun v2931 k0_hw73 => k0_hw73.1
theorem k0_off351_wordsbf16 : ∀ (v2931 : BitVec 32) (k0_hw73 : k0_chk73 v2931), (Rect.unit (s := S2x4096x512) (k0_off351 v2931) S1x128x256.size (k0_off351_inb v2931 k0_hw73)).WholeWords (EltTy.packing .bf16) := fun v2931 k0_hw73 => k0_hw73.2.1 (k0_off351_inb v2931 k0_hw73)
theorem k0_off446_inb : ∀ (v2931 : BitVec 32) (k0_hw73 : k0_chk73 v2931), ∀ a, (k0_off446 v2931) a + S1x128x256.size a ≤ S2x4096x512.size a := fun v2931 k0_hw73 => k0_hw73.2.2.1
theorem k0_off446_wordsbf16 : ∀ (v2931 : BitVec 32) (k0_hw73 : k0_chk73 v2931), (Rect.unit (s := S2x4096x512) (k0_off446 v2931) S1x128x256.size (k0_off446_inb v2931 k0_hw73)).WholeWords (EltTy.packing .bf16) := fun v2931 k0_hw73 => k0_hw73.2.2.2.1 (k0_off446_inb v2931 k0_hw73)
theorem k0_off813_inb : ∀ (v2931 : BitVec 32) (k0_hw73 : k0_chk73 v2931), ∀ a, (k0_off813 v2931) a + S1x128x256.size a ≤ S2x4096x512.size a := fun v2931 k0_hw73 => k0_hw73.2.2.2.2.1
theorem k0_off813_wordsbf16 : ∀ (v2931 : BitVec 32) (k0_hw73 : k0_chk73 v2931), (Rect.unit (s := S2x4096x512) (k0_off813 v2931) S1x128x256.size (k0_off813_inb v2931 k0_hw73)).WholeWords (EltTy.packing .bf16) := fun v2931 k0_hw73 => k0_hw73.2.2.2.2.2 (k0_off813_inb v2931 k0_hw73)

def k0_off814 (v2951 : BitVec 32) : Fin 3 → Nat :=
  let c0_i32_6131 : BitVec 32 := 0#32
  let c128_i32_2734 : BitVec 32 := 128#32
  let v2952 : BitVec 32 := Scalar.muli v2951 c128_i32_2734
  let c0_i32_6139 : BitVec 32 := 0#32
  ![0, v2952.toNat, 0]

def k0_chk74 (v2951 : BitVec 32) : Prop :=
  (∀ a, (k0_off353 v2951) a + S1x128x256.size a ≤ S2x4096x512.size a) ∧
  (∀ (hinb : ∀ a, (k0_off353 v2951) a + S1x128x256.size a ≤ S2x4096x512.size a), (Rect.unit (s := S2x4096x512) (k0_off353 v2951) S1x128x256.size hinb).WholeWords (EltTy.packing .bf16)) ∧
  (∀ a, (k0_off448 v2951) a + S1x128x256.size a ≤ S2x4096x512.size a) ∧
  (∀ (hinb : ∀ a, (k0_off448 v2951) a + S1x128x256.size a ≤ S2x4096x512.size a), (Rect.unit (s := S2x4096x512) (k0_off448 v2951) S1x128x256.size hinb).WholeWords (EltTy.packing .bf16)) ∧
  (∀ a, (k0_off814 v2951) a + S1x128x256.size a ≤ S2x4096x512.size a) ∧
  (∀ (hinb : ∀ a, (k0_off814 v2951) a + S1x128x256.size a ≤ S2x4096x512.size a), (Rect.unit (s := S2x4096x512) (k0_off814 v2951) S1x128x256.size hinb).WholeWords (EltTy.packing .bf16))
theorem k0_off353_inb : ∀ (v2951 : BitVec 32) (k0_hw74 : k0_chk74 v2951), ∀ a, (k0_off353 v2951) a + S1x128x256.size a ≤ S2x4096x512.size a := fun v2951 k0_hw74 => k0_hw74.1
theorem k0_off353_wordsbf16 : ∀ (v2951 : BitVec 32) (k0_hw74 : k0_chk74 v2951), (Rect.unit (s := S2x4096x512) (k0_off353 v2951) S1x128x256.size (k0_off353_inb v2951 k0_hw74)).WholeWords (EltTy.packing .bf16) := fun v2951 k0_hw74 => k0_hw74.2.1 (k0_off353_inb v2951 k0_hw74)
theorem k0_off448_inb : ∀ (v2951 : BitVec 32) (k0_hw74 : k0_chk74 v2951), ∀ a, (k0_off448 v2951) a + S1x128x256.size a ≤ S2x4096x512.size a := fun v2951 k0_hw74 => k0_hw74.2.2.1
theorem k0_off448_wordsbf16 : ∀ (v2951 : BitVec 32) (k0_hw74 : k0_chk74 v2951), (Rect.unit (s := S2x4096x512) (k0_off448 v2951) S1x128x256.size (k0_off448_inb v2951 k0_hw74)).WholeWords (EltTy.packing .bf16) := fun v2951 k0_hw74 => k0_hw74.2.2.2.1 (k0_off448_inb v2951 k0_hw74)
theorem k0_off814_inb : ∀ (v2951 : BitVec 32) (k0_hw74 : k0_chk74 v2951), ∀ a, (k0_off814 v2951) a + S1x128x256.size a ≤ S2x4096x512.size a := fun v2951 k0_hw74 => k0_hw74.2.2.2.2.1
theorem k0_off814_wordsbf16 : ∀ (v2951 : BitVec 32) (k0_hw74 : k0_chk74 v2951), (Rect.unit (s := S2x4096x512) (k0_off814 v2951) S1x128x256.size (k0_off814_inb v2951 k0_hw74)).WholeWords (EltTy.packing .bf16) := fun v2951 k0_hw74 => k0_hw74.2.2.2.2.2 (k0_off814_inb v2951 k0_hw74)

def k0_off815 (v2971 : BitVec 32) : Fin 3 → Nat :=
  let c0_i32_6142 : BitVec 32 := 0#32
  let c128_i32_2761 : BitVec 32 := 128#32
  let v2972 : BitVec 32 := Scalar.muli v2971 c128_i32_2761
  let c256_i32_6150 : BitVec 32 := 256#32
  ![0, v2972.toNat, 256]

def k0_chk75 (v2971 : BitVec 32) : Prop :=
  (∀ a, (k0_off355 v2971) a + S1x128x256.size a ≤ S2x4096x512.size a) ∧
  (∀ (hinb : ∀ a, (k0_off355 v2971) a + S1x128x256.size a ≤ S2x4096x512.size a), (Rect.unit (s := S2x4096x512) (k0_off355 v2971) S1x128x256.size hinb).WholeWords (EltTy.packing .bf16)) ∧
  (∀ a, (k0_off450 v2971) a + S1x128x256.size a ≤ S2x4096x512.size a) ∧
  (∀ (hinb : ∀ a, (k0_off450 v2971) a + S1x128x256.size a ≤ S2x4096x512.size a), (Rect.unit (s := S2x4096x512) (k0_off450 v2971) S1x128x256.size hinb).WholeWords (EltTy.packing .bf16)) ∧
  (∀ a, (k0_off815 v2971) a + S1x128x256.size a ≤ S2x4096x512.size a) ∧
  (∀ (hinb : ∀ a, (k0_off815 v2971) a + S1x128x256.size a ≤ S2x4096x512.size a), (Rect.unit (s := S2x4096x512) (k0_off815 v2971) S1x128x256.size hinb).WholeWords (EltTy.packing .bf16))
theorem k0_off355_inb : ∀ (v2971 : BitVec 32) (k0_hw75 : k0_chk75 v2971), ∀ a, (k0_off355 v2971) a + S1x128x256.size a ≤ S2x4096x512.size a := fun v2971 k0_hw75 => k0_hw75.1
theorem k0_off355_wordsbf16 : ∀ (v2971 : BitVec 32) (k0_hw75 : k0_chk75 v2971), (Rect.unit (s := S2x4096x512) (k0_off355 v2971) S1x128x256.size (k0_off355_inb v2971 k0_hw75)).WholeWords (EltTy.packing .bf16) := fun v2971 k0_hw75 => k0_hw75.2.1 (k0_off355_inb v2971 k0_hw75)
theorem k0_off450_inb : ∀ (v2971 : BitVec 32) (k0_hw75 : k0_chk75 v2971), ∀ a, (k0_off450 v2971) a + S1x128x256.size a ≤ S2x4096x512.size a := fun v2971 k0_hw75 => k0_hw75.2.2.1
theorem k0_off450_wordsbf16 : ∀ (v2971 : BitVec 32) (k0_hw75 : k0_chk75 v2971), (Rect.unit (s := S2x4096x512) (k0_off450 v2971) S1x128x256.size (k0_off450_inb v2971 k0_hw75)).WholeWords (EltTy.packing .bf16) := fun v2971 k0_hw75 => k0_hw75.2.2.2.1 (k0_off450_inb v2971 k0_hw75)
theorem k0_off815_inb : ∀ (v2971 : BitVec 32) (k0_hw75 : k0_chk75 v2971), ∀ a, (k0_off815 v2971) a + S1x128x256.size a ≤ S2x4096x512.size a := fun v2971 k0_hw75 => k0_hw75.2.2.2.2.1
theorem k0_off815_wordsbf16 : ∀ (v2971 : BitVec 32) (k0_hw75 : k0_chk75 v2971), (Rect.unit (s := S2x4096x512) (k0_off815 v2971) S1x128x256.size (k0_off815_inb v2971 k0_hw75)).WholeWords (EltTy.packing .bf16) := fun v2971 k0_hw75 => k0_hw75.2.2.2.2.2 (k0_off815_inb v2971 k0_hw75)

def k0_off816 (v2991 : BitVec 32) : Fin 3 → Nat :=
  let c1_i32_6153 : BitVec 32 := 1#32
  let c128_i32_2788 : BitVec 32 := 128#32
  let v2992 : BitVec 32 := Scalar.muli v2991 c128_i32_2788
  let c0_i32_6161 : BitVec 32 := 0#32
  ![1, v2992.toNat, 0]

def k0_chk76 (v2991 : BitVec 32) : Prop :=
  (∀ a, (k0_off357 v2991) a + S1x128x256.size a ≤ S2x4096x512.size a) ∧
  (∀ (hinb : ∀ a, (k0_off357 v2991) a + S1x128x256.size a ≤ S2x4096x512.size a), (Rect.unit (s := S2x4096x512) (k0_off357 v2991) S1x128x256.size hinb).WholeWords (EltTy.packing .bf16)) ∧
  (∀ a, (k0_off452 v2991) a + S1x128x256.size a ≤ S2x4096x512.size a) ∧
  (∀ (hinb : ∀ a, (k0_off452 v2991) a + S1x128x256.size a ≤ S2x4096x512.size a), (Rect.unit (s := S2x4096x512) (k0_off452 v2991) S1x128x256.size hinb).WholeWords (EltTy.packing .bf16)) ∧
  (∀ a, (k0_off816 v2991) a + S1x128x256.size a ≤ S2x4096x512.size a) ∧
  (∀ (hinb : ∀ a, (k0_off816 v2991) a + S1x128x256.size a ≤ S2x4096x512.size a), (Rect.unit (s := S2x4096x512) (k0_off816 v2991) S1x128x256.size hinb).WholeWords (EltTy.packing .bf16))
theorem k0_off357_inb : ∀ (v2991 : BitVec 32) (k0_hw76 : k0_chk76 v2991), ∀ a, (k0_off357 v2991) a + S1x128x256.size a ≤ S2x4096x512.size a := fun v2991 k0_hw76 => k0_hw76.1
theorem k0_off357_wordsbf16 : ∀ (v2991 : BitVec 32) (k0_hw76 : k0_chk76 v2991), (Rect.unit (s := S2x4096x512) (k0_off357 v2991) S1x128x256.size (k0_off357_inb v2991 k0_hw76)).WholeWords (EltTy.packing .bf16) := fun v2991 k0_hw76 => k0_hw76.2.1 (k0_off357_inb v2991 k0_hw76)
theorem k0_off452_inb : ∀ (v2991 : BitVec 32) (k0_hw76 : k0_chk76 v2991), ∀ a, (k0_off452 v2991) a + S1x128x256.size a ≤ S2x4096x512.size a := fun v2991 k0_hw76 => k0_hw76.2.2.1
theorem k0_off452_wordsbf16 : ∀ (v2991 : BitVec 32) (k0_hw76 : k0_chk76 v2991), (Rect.unit (s := S2x4096x512) (k0_off452 v2991) S1x128x256.size (k0_off452_inb v2991 k0_hw76)).WholeWords (EltTy.packing .bf16) := fun v2991 k0_hw76 => k0_hw76.2.2.2.1 (k0_off452_inb v2991 k0_hw76)
theorem k0_off816_inb : ∀ (v2991 : BitVec 32) (k0_hw76 : k0_chk76 v2991), ∀ a, (k0_off816 v2991) a + S1x128x256.size a ≤ S2x4096x512.size a := fun v2991 k0_hw76 => k0_hw76.2.2.2.2.1
theorem k0_off816_wordsbf16 : ∀ (v2991 : BitVec 32) (k0_hw76 : k0_chk76 v2991), (Rect.unit (s := S2x4096x512) (k0_off816 v2991) S1x128x256.size (k0_off816_inb v2991 k0_hw76)).WholeWords (EltTy.packing .bf16) := fun v2991 k0_hw76 => k0_hw76.2.2.2.2.2 (k0_off816_inb v2991 k0_hw76)

def k0_off817 (v3011 : BitVec 32) : Fin 3 → Nat :=
  let c1_i32_6164 : BitVec 32 := 1#32
  let c128_i32_2815 : BitVec 32 := 128#32
  let v3012 : BitVec 32 := Scalar.muli v3011 c128_i32_2815
  let c256_i32_6172 : BitVec 32 := 256#32
  ![1, v3012.toNat, 256]

def k0_chk77 (v3011 : BitVec 32) : Prop :=
  (∀ a, (k0_off359 v3011) a + S1x128x256.size a ≤ S2x4096x512.size a) ∧
  (∀ (hinb : ∀ a, (k0_off359 v3011) a + S1x128x256.size a ≤ S2x4096x512.size a), (Rect.unit (s := S2x4096x512) (k0_off359 v3011) S1x128x256.size hinb).WholeWords (EltTy.packing .bf16)) ∧
  (∀ a, (k0_off454 v3011) a + S1x128x256.size a ≤ S2x4096x512.size a) ∧
  (∀ (hinb : ∀ a, (k0_off454 v3011) a + S1x128x256.size a ≤ S2x4096x512.size a), (Rect.unit (s := S2x4096x512) (k0_off454 v3011) S1x128x256.size hinb).WholeWords (EltTy.packing .bf16)) ∧
  (∀ a, (k0_off817 v3011) a + S1x128x256.size a ≤ S2x4096x512.size a) ∧
  (∀ (hinb : ∀ a, (k0_off817 v3011) a + S1x128x256.size a ≤ S2x4096x512.size a), (Rect.unit (s := S2x4096x512) (k0_off817 v3011) S1x128x256.size hinb).WholeWords (EltTy.packing .bf16))
theorem k0_off359_inb : ∀ (v3011 : BitVec 32) (k0_hw77 : k0_chk77 v3011), ∀ a, (k0_off359 v3011) a + S1x128x256.size a ≤ S2x4096x512.size a := fun v3011 k0_hw77 => k0_hw77.1
theorem k0_off359_wordsbf16 : ∀ (v3011 : BitVec 32) (k0_hw77 : k0_chk77 v3011), (Rect.unit (s := S2x4096x512) (k0_off359 v3011) S1x128x256.size (k0_off359_inb v3011 k0_hw77)).WholeWords (EltTy.packing .bf16) := fun v3011 k0_hw77 => k0_hw77.2.1 (k0_off359_inb v3011 k0_hw77)
theorem k0_off454_inb : ∀ (v3011 : BitVec 32) (k0_hw77 : k0_chk77 v3011), ∀ a, (k0_off454 v3011) a + S1x128x256.size a ≤ S2x4096x512.size a := fun v3011 k0_hw77 => k0_hw77.2.2.1
theorem k0_off454_wordsbf16 : ∀ (v3011 : BitVec 32) (k0_hw77 : k0_chk77 v3011), (Rect.unit (s := S2x4096x512) (k0_off454 v3011) S1x128x256.size (k0_off454_inb v3011 k0_hw77)).WholeWords (EltTy.packing .bf16) := fun v3011 k0_hw77 => k0_hw77.2.2.2.1 (k0_off454_inb v3011 k0_hw77)
theorem k0_off817_inb : ∀ (v3011 : BitVec 32) (k0_hw77 : k0_chk77 v3011), ∀ a, (k0_off817 v3011) a + S1x128x256.size a ≤ S2x4096x512.size a := fun v3011 k0_hw77 => k0_hw77.2.2.2.2.1
theorem k0_off817_wordsbf16 : ∀ (v3011 : BitVec 32) (k0_hw77 : k0_chk77 v3011), (Rect.unit (s := S2x4096x512) (k0_off817 v3011) S1x128x256.size (k0_off817_inb v3011 k0_hw77)).WholeWords (EltTy.packing .bf16) := fun v3011 k0_hw77 => k0_hw77.2.2.2.2.2 (k0_off817_inb v3011 k0_hw77)

def k0_off818 (v3031 : BitVec 32) : Fin 3 → Nat :=
  let c1_i32_6175 : BitVec 32 := 1#32
  let c128_i32_2842 : BitVec 32 := 128#32
  let v3032 : BitVec 32 := Scalar.muli v3031 c128_i32_2842
  let c0_i32_6183 : BitVec 32 := 0#32
  ![1, v3032.toNat, 0]

def k0_chk78 (v3031 : BitVec 32) : Prop :=
  (∀ a, (k0_off361 v3031) a + S1x128x256.size a ≤ S2x4096x512.size a) ∧
  (∀ (hinb : ∀ a, (k0_off361 v3031) a + S1x128x256.size a ≤ S2x4096x512.size a), (Rect.unit (s := S2x4096x512) (k0_off361 v3031) S1x128x256.size hinb).WholeWords (EltTy.packing .bf16)) ∧
  (∀ a, (k0_off456 v3031) a + S1x128x256.size a ≤ S2x4096x512.size a) ∧
  (∀ (hinb : ∀ a, (k0_off456 v3031) a + S1x128x256.size a ≤ S2x4096x512.size a), (Rect.unit (s := S2x4096x512) (k0_off456 v3031) S1x128x256.size hinb).WholeWords (EltTy.packing .bf16)) ∧
  (∀ a, (k0_off818 v3031) a + S1x128x256.size a ≤ S2x4096x512.size a) ∧
  (∀ (hinb : ∀ a, (k0_off818 v3031) a + S1x128x256.size a ≤ S2x4096x512.size a), (Rect.unit (s := S2x4096x512) (k0_off818 v3031) S1x128x256.size hinb).WholeWords (EltTy.packing .bf16))
theorem k0_off361_inb : ∀ (v3031 : BitVec 32) (k0_hw78 : k0_chk78 v3031), ∀ a, (k0_off361 v3031) a + S1x128x256.size a ≤ S2x4096x512.size a := fun v3031 k0_hw78 => k0_hw78.1
theorem k0_off361_wordsbf16 : ∀ (v3031 : BitVec 32) (k0_hw78 : k0_chk78 v3031), (Rect.unit (s := S2x4096x512) (k0_off361 v3031) S1x128x256.size (k0_off361_inb v3031 k0_hw78)).WholeWords (EltTy.packing .bf16) := fun v3031 k0_hw78 => k0_hw78.2.1 (k0_off361_inb v3031 k0_hw78)
theorem k0_off456_inb : ∀ (v3031 : BitVec 32) (k0_hw78 : k0_chk78 v3031), ∀ a, (k0_off456 v3031) a + S1x128x256.size a ≤ S2x4096x512.size a := fun v3031 k0_hw78 => k0_hw78.2.2.1
theorem k0_off456_wordsbf16 : ∀ (v3031 : BitVec 32) (k0_hw78 : k0_chk78 v3031), (Rect.unit (s := S2x4096x512) (k0_off456 v3031) S1x128x256.size (k0_off456_inb v3031 k0_hw78)).WholeWords (EltTy.packing .bf16) := fun v3031 k0_hw78 => k0_hw78.2.2.2.1 (k0_off456_inb v3031 k0_hw78)
theorem k0_off818_inb : ∀ (v3031 : BitVec 32) (k0_hw78 : k0_chk78 v3031), ∀ a, (k0_off818 v3031) a + S1x128x256.size a ≤ S2x4096x512.size a := fun v3031 k0_hw78 => k0_hw78.2.2.2.2.1
theorem k0_off818_wordsbf16 : ∀ (v3031 : BitVec 32) (k0_hw78 : k0_chk78 v3031), (Rect.unit (s := S2x4096x512) (k0_off818 v3031) S1x128x256.size (k0_off818_inb v3031 k0_hw78)).WholeWords (EltTy.packing .bf16) := fun v3031 k0_hw78 => k0_hw78.2.2.2.2.2 (k0_off818_inb v3031 k0_hw78)

def k0_off819 (v3051 : BitVec 32) : Fin 3 → Nat :=
  let c1_i32_6186 : BitVec 32 := 1#32
  let c128_i32_2869 : BitVec 32 := 128#32
  let v3052 : BitVec 32 := Scalar.muli v3051 c128_i32_2869
  let c256_i32_6194 : BitVec 32 := 256#32
  ![1, v3052.toNat, 256]

def k0_chk79 (v3051 : BitVec 32) : Prop :=
  (∀ a, (k0_off363 v3051) a + S1x128x256.size a ≤ S2x4096x512.size a) ∧
  (∀ (hinb : ∀ a, (k0_off363 v3051) a + S1x128x256.size a ≤ S2x4096x512.size a), (Rect.unit (s := S2x4096x512) (k0_off363 v3051) S1x128x256.size hinb).WholeWords (EltTy.packing .bf16)) ∧
  (∀ a, (k0_off458 v3051) a + S1x128x256.size a ≤ S2x4096x512.size a) ∧
  (∀ (hinb : ∀ a, (k0_off458 v3051) a + S1x128x256.size a ≤ S2x4096x512.size a), (Rect.unit (s := S2x4096x512) (k0_off458 v3051) S1x128x256.size hinb).WholeWords (EltTy.packing .bf16)) ∧
  (∀ a, (k0_off819 v3051) a + S1x128x256.size a ≤ S2x4096x512.size a) ∧
  (∀ (hinb : ∀ a, (k0_off819 v3051) a + S1x128x256.size a ≤ S2x4096x512.size a), (Rect.unit (s := S2x4096x512) (k0_off819 v3051) S1x128x256.size hinb).WholeWords (EltTy.packing .bf16))
theorem k0_off363_inb : ∀ (v3051 : BitVec 32) (k0_hw79 : k0_chk79 v3051), ∀ a, (k0_off363 v3051) a + S1x128x256.size a ≤ S2x4096x512.size a := fun v3051 k0_hw79 => k0_hw79.1
theorem k0_off363_wordsbf16 : ∀ (v3051 : BitVec 32) (k0_hw79 : k0_chk79 v3051), (Rect.unit (s := S2x4096x512) (k0_off363 v3051) S1x128x256.size (k0_off363_inb v3051 k0_hw79)).WholeWords (EltTy.packing .bf16) := fun v3051 k0_hw79 => k0_hw79.2.1 (k0_off363_inb v3051 k0_hw79)
theorem k0_off458_inb : ∀ (v3051 : BitVec 32) (k0_hw79 : k0_chk79 v3051), ∀ a, (k0_off458 v3051) a + S1x128x256.size a ≤ S2x4096x512.size a := fun v3051 k0_hw79 => k0_hw79.2.2.1
theorem k0_off458_wordsbf16 : ∀ (v3051 : BitVec 32) (k0_hw79 : k0_chk79 v3051), (Rect.unit (s := S2x4096x512) (k0_off458 v3051) S1x128x256.size (k0_off458_inb v3051 k0_hw79)).WholeWords (EltTy.packing .bf16) := fun v3051 k0_hw79 => k0_hw79.2.2.2.1 (k0_off458_inb v3051 k0_hw79)
theorem k0_off819_inb : ∀ (v3051 : BitVec 32) (k0_hw79 : k0_chk79 v3051), ∀ a, (k0_off819 v3051) a + S1x128x256.size a ≤ S2x4096x512.size a := fun v3051 k0_hw79 => k0_hw79.2.2.2.2.1
theorem k0_off819_wordsbf16 : ∀ (v3051 : BitVec 32) (k0_hw79 : k0_chk79 v3051), (Rect.unit (s := S2x4096x512) (k0_off819 v3051) S1x128x256.size (k0_off819_inb v3051 k0_hw79)).WholeWords (EltTy.packing .bf16) := fun v3051 k0_hw79 => k0_hw79.2.2.2.2.2 (k0_off819_inb v3051 k0_hw79)

def k0_off820 (v3463 : BitVec 32) : Fin 3 → Nat :=
  let c0_i32_6197 : BitVec 32 := 0#32
  let c128_i32_3131 : BitVec 32 := 128#32
  let v3464 : BitVec 32 := Scalar.muli v3463 c128_i32_3131
  let c0_i32_6205 : BitVec 32 := 0#32
  ![0, v3464.toNat, 0]

def k0_chk84 (v3463 : BitVec 32) : Prop :=
  (∀ a, (k0_off429 v3463) a + S1x128x256.size a ≤ S2x4096x512.size a) ∧
  (∀ (hinb : ∀ a, (k0_off429 v3463) a + S1x128x256.size a ≤ S2x4096x512.size a), (Rect.unit (s := S2x4096x512) (k0_off429 v3463) S1x128x256.size hinb).WholeWords (EltTy.packing .bf16)) ∧
  (∀ a, (k0_off524 v3463) a + S1x128x256.size a ≤ S2x4096x512.size a) ∧
  (∀ (hinb : ∀ a, (k0_off524 v3463) a + S1x128x256.size a ≤ S2x4096x512.size a), (Rect.unit (s := S2x4096x512) (k0_off524 v3463) S1x128x256.size hinb).WholeWords (EltTy.packing .bf16)) ∧
  (∀ a, (k0_off820 v3463) a + S1x128x256.size a ≤ S2x4096x512.size a) ∧
  (∀ (hinb : ∀ a, (k0_off820 v3463) a + S1x128x256.size a ≤ S2x4096x512.size a), (Rect.unit (s := S2x4096x512) (k0_off820 v3463) S1x128x256.size hinb).WholeWords (EltTy.packing .bf16))
theorem k0_off429_inb : ∀ (v3463 : BitVec 32) (k0_hw84 : k0_chk84 v3463), ∀ a, (k0_off429 v3463) a + S1x128x256.size a ≤ S2x4096x512.size a := fun v3463 k0_hw84 => k0_hw84.1
theorem k0_off429_wordsbf16 : ∀ (v3463 : BitVec 32) (k0_hw84 : k0_chk84 v3463), (Rect.unit (s := S2x4096x512) (k0_off429 v3463) S1x128x256.size (k0_off429_inb v3463 k0_hw84)).WholeWords (EltTy.packing .bf16) := fun v3463 k0_hw84 => k0_hw84.2.1 (k0_off429_inb v3463 k0_hw84)
theorem k0_off524_inb : ∀ (v3463 : BitVec 32) (k0_hw84 : k0_chk84 v3463), ∀ a, (k0_off524 v3463) a + S1x128x256.size a ≤ S2x4096x512.size a := fun v3463 k0_hw84 => k0_hw84.2.2.1
theorem k0_off524_wordsbf16 : ∀ (v3463 : BitVec 32) (k0_hw84 : k0_chk84 v3463), (Rect.unit (s := S2x4096x512) (k0_off524 v3463) S1x128x256.size (k0_off524_inb v3463 k0_hw84)).WholeWords (EltTy.packing .bf16) := fun v3463 k0_hw84 => k0_hw84.2.2.2.1 (k0_off524_inb v3463 k0_hw84)
theorem k0_off820_inb : ∀ (v3463 : BitVec 32) (k0_hw84 : k0_chk84 v3463), ∀ a, (k0_off820 v3463) a + S1x128x256.size a ≤ S2x4096x512.size a := fun v3463 k0_hw84 => k0_hw84.2.2.2.2.1
theorem k0_off820_wordsbf16 : ∀ (v3463 : BitVec 32) (k0_hw84 : k0_chk84 v3463), (Rect.unit (s := S2x4096x512) (k0_off820 v3463) S1x128x256.size (k0_off820_inb v3463 k0_hw84)).WholeWords (EltTy.packing .bf16) := fun v3463 k0_hw84 => k0_hw84.2.2.2.2.2 (k0_off820_inb v3463 k0_hw84)

def k0_off821 (v3483 : BitVec 32) : Fin 3 → Nat :=
  let c0_i32_6208 : BitVec 32 := 0#32
  let c128_i32_3157 : BitVec 32 := 128#32
  let v3484 : BitVec 32 := Scalar.muli v3483 c128_i32_3157
  let c256_i32_6216 : BitVec 32 := 256#32
  ![0, v3484.toNat, 256]

def k0_chk85 (v3483 : BitVec 32) : Prop :=
  (∀ a, (k0_off431 v3483) a + S1x128x256.size a ≤ S2x4096x512.size a) ∧
  (∀ (hinb : ∀ a, (k0_off431 v3483) a + S1x128x256.size a ≤ S2x4096x512.size a), (Rect.unit (s := S2x4096x512) (k0_off431 v3483) S1x128x256.size hinb).WholeWords (EltTy.packing .bf16)) ∧
  (∀ a, (k0_off526 v3483) a + S1x128x256.size a ≤ S2x4096x512.size a) ∧
  (∀ (hinb : ∀ a, (k0_off526 v3483) a + S1x128x256.size a ≤ S2x4096x512.size a), (Rect.unit (s := S2x4096x512) (k0_off526 v3483) S1x128x256.size hinb).WholeWords (EltTy.packing .bf16)) ∧
  (∀ a, (k0_off821 v3483) a + S1x128x256.size a ≤ S2x4096x512.size a) ∧
  (∀ (hinb : ∀ a, (k0_off821 v3483) a + S1x128x256.size a ≤ S2x4096x512.size a), (Rect.unit (s := S2x4096x512) (k0_off821 v3483) S1x128x256.size hinb).WholeWords (EltTy.packing .bf16))
theorem k0_off431_inb : ∀ (v3483 : BitVec 32) (k0_hw85 : k0_chk85 v3483), ∀ a, (k0_off431 v3483) a + S1x128x256.size a ≤ S2x4096x512.size a := fun v3483 k0_hw85 => k0_hw85.1
theorem k0_off431_wordsbf16 : ∀ (v3483 : BitVec 32) (k0_hw85 : k0_chk85 v3483), (Rect.unit (s := S2x4096x512) (k0_off431 v3483) S1x128x256.size (k0_off431_inb v3483 k0_hw85)).WholeWords (EltTy.packing .bf16) := fun v3483 k0_hw85 => k0_hw85.2.1 (k0_off431_inb v3483 k0_hw85)
theorem k0_off526_inb : ∀ (v3483 : BitVec 32) (k0_hw85 : k0_chk85 v3483), ∀ a, (k0_off526 v3483) a + S1x128x256.size a ≤ S2x4096x512.size a := fun v3483 k0_hw85 => k0_hw85.2.2.1
theorem k0_off526_wordsbf16 : ∀ (v3483 : BitVec 32) (k0_hw85 : k0_chk85 v3483), (Rect.unit (s := S2x4096x512) (k0_off526 v3483) S1x128x256.size (k0_off526_inb v3483 k0_hw85)).WholeWords (EltTy.packing .bf16) := fun v3483 k0_hw85 => k0_hw85.2.2.2.1 (k0_off526_inb v3483 k0_hw85)
theorem k0_off821_inb : ∀ (v3483 : BitVec 32) (k0_hw85 : k0_chk85 v3483), ∀ a, (k0_off821 v3483) a + S1x128x256.size a ≤ S2x4096x512.size a := fun v3483 k0_hw85 => k0_hw85.2.2.2.2.1
theorem k0_off821_wordsbf16 : ∀ (v3483 : BitVec 32) (k0_hw85 : k0_chk85 v3483), (Rect.unit (s := S2x4096x512) (k0_off821 v3483) S1x128x256.size (k0_off821_inb v3483 k0_hw85)).WholeWords (EltTy.packing .bf16) := fun v3483 k0_hw85 => k0_hw85.2.2.2.2.2 (k0_off821_inb v3483 k0_hw85)

def k0_off822 (v3503 : BitVec 32) : Fin 3 → Nat :=
  let c0_i32_6219 : BitVec 32 := 0#32
  let c128_i32_3184 : BitVec 32 := 128#32
  let v3504 : BitVec 32 := Scalar.muli v3503 c128_i32_3184
  let c0_i32_6227 : BitVec 32 := 0#32
  ![0, v3504.toNat, 0]

def k0_chk86 (v3503 : BitVec 32) : Prop :=
  (∀ a, (k0_off433 v3503) a + S1x128x256.size a ≤ S2x4096x512.size a) ∧
  (∀ (hinb : ∀ a, (k0_off433 v3503) a + S1x128x256.size a ≤ S2x4096x512.size a), (Rect.unit (s := S2x4096x512) (k0_off433 v3503) S1x128x256.size hinb).WholeWords (EltTy.packing .bf16)) ∧
  (∀ a, (k0_off528 v3503) a + S1x128x256.size a ≤ S2x4096x512.size a) ∧
  (∀ (hinb : ∀ a, (k0_off528 v3503) a + S1x128x256.size a ≤ S2x4096x512.size a), (Rect.unit (s := S2x4096x512) (k0_off528 v3503) S1x128x256.size hinb).WholeWords (EltTy.packing .bf16)) ∧
  (∀ a, (k0_off822 v3503) a + S1x128x256.size a ≤ S2x4096x512.size a) ∧
  (∀ (hinb : ∀ a, (k0_off822 v3503) a + S1x128x256.size a ≤ S2x4096x512.size a), (Rect.unit (s := S2x4096x512) (k0_off822 v3503) S1x128x256.size hinb).WholeWords (EltTy.packing .bf16))
theorem k0_off433_inb : ∀ (v3503 : BitVec 32) (k0_hw86 : k0_chk86 v3503), ∀ a, (k0_off433 v3503) a + S1x128x256.size a ≤ S2x4096x512.size a := fun v3503 k0_hw86 => k0_hw86.1
theorem k0_off433_wordsbf16 : ∀ (v3503 : BitVec 32) (k0_hw86 : k0_chk86 v3503), (Rect.unit (s := S2x4096x512) (k0_off433 v3503) S1x128x256.size (k0_off433_inb v3503 k0_hw86)).WholeWords (EltTy.packing .bf16) := fun v3503 k0_hw86 => k0_hw86.2.1 (k0_off433_inb v3503 k0_hw86)
theorem k0_off528_inb : ∀ (v3503 : BitVec 32) (k0_hw86 : k0_chk86 v3503), ∀ a, (k0_off528 v3503) a + S1x128x256.size a ≤ S2x4096x512.size a := fun v3503 k0_hw86 => k0_hw86.2.2.1
theorem k0_off528_wordsbf16 : ∀ (v3503 : BitVec 32) (k0_hw86 : k0_chk86 v3503), (Rect.unit (s := S2x4096x512) (k0_off528 v3503) S1x128x256.size (k0_off528_inb v3503 k0_hw86)).WholeWords (EltTy.packing .bf16) := fun v3503 k0_hw86 => k0_hw86.2.2.2.1 (k0_off528_inb v3503 k0_hw86)
theorem k0_off822_inb : ∀ (v3503 : BitVec 32) (k0_hw86 : k0_chk86 v3503), ∀ a, (k0_off822 v3503) a + S1x128x256.size a ≤ S2x4096x512.size a := fun v3503 k0_hw86 => k0_hw86.2.2.2.2.1
theorem k0_off822_wordsbf16 : ∀ (v3503 : BitVec 32) (k0_hw86 : k0_chk86 v3503), (Rect.unit (s := S2x4096x512) (k0_off822 v3503) S1x128x256.size (k0_off822_inb v3503 k0_hw86)).WholeWords (EltTy.packing .bf16) := fun v3503 k0_hw86 => k0_hw86.2.2.2.2.2 (k0_off822_inb v3503 k0_hw86)

def k0_off823 (v3523 : BitVec 32) : Fin 3 → Nat :=
  let c0_i32_6230 : BitVec 32 := 0#32
  let c128_i32_3211 : BitVec 32 := 128#32
  let v3524 : BitVec 32 := Scalar.muli v3523 c128_i32_3211
  let c256_i32_6238 : BitVec 32 := 256#32
  ![0, v3524.toNat, 256]

def k0_chk87 (v3523 : BitVec 32) : Prop :=
  (∀ a, (k0_off435 v3523) a + S1x128x256.size a ≤ S2x4096x512.size a) ∧
  (∀ (hinb : ∀ a, (k0_off435 v3523) a + S1x128x256.size a ≤ S2x4096x512.size a), (Rect.unit (s := S2x4096x512) (k0_off435 v3523) S1x128x256.size hinb).WholeWords (EltTy.packing .bf16)) ∧
  (∀ a, (k0_off530 v3523) a + S1x128x256.size a ≤ S2x4096x512.size a) ∧
  (∀ (hinb : ∀ a, (k0_off530 v3523) a + S1x128x256.size a ≤ S2x4096x512.size a), (Rect.unit (s := S2x4096x512) (k0_off530 v3523) S1x128x256.size hinb).WholeWords (EltTy.packing .bf16)) ∧
  (∀ a, (k0_off823 v3523) a + S1x128x256.size a ≤ S2x4096x512.size a) ∧
  (∀ (hinb : ∀ a, (k0_off823 v3523) a + S1x128x256.size a ≤ S2x4096x512.size a), (Rect.unit (s := S2x4096x512) (k0_off823 v3523) S1x128x256.size hinb).WholeWords (EltTy.packing .bf16))
theorem k0_off435_inb : ∀ (v3523 : BitVec 32) (k0_hw87 : k0_chk87 v3523), ∀ a, (k0_off435 v3523) a + S1x128x256.size a ≤ S2x4096x512.size a := fun v3523 k0_hw87 => k0_hw87.1
theorem k0_off435_wordsbf16 : ∀ (v3523 : BitVec 32) (k0_hw87 : k0_chk87 v3523), (Rect.unit (s := S2x4096x512) (k0_off435 v3523) S1x128x256.size (k0_off435_inb v3523 k0_hw87)).WholeWords (EltTy.packing .bf16) := fun v3523 k0_hw87 => k0_hw87.2.1 (k0_off435_inb v3523 k0_hw87)
theorem k0_off530_inb : ∀ (v3523 : BitVec 32) (k0_hw87 : k0_chk87 v3523), ∀ a, (k0_off530 v3523) a + S1x128x256.size a ≤ S2x4096x512.size a := fun v3523 k0_hw87 => k0_hw87.2.2.1
theorem k0_off530_wordsbf16 : ∀ (v3523 : BitVec 32) (k0_hw87 : k0_chk87 v3523), (Rect.unit (s := S2x4096x512) (k0_off530 v3523) S1x128x256.size (k0_off530_inb v3523 k0_hw87)).WholeWords (EltTy.packing .bf16) := fun v3523 k0_hw87 => k0_hw87.2.2.2.1 (k0_off530_inb v3523 k0_hw87)
theorem k0_off823_inb : ∀ (v3523 : BitVec 32) (k0_hw87 : k0_chk87 v3523), ∀ a, (k0_off823 v3523) a + S1x128x256.size a ≤ S2x4096x512.size a := fun v3523 k0_hw87 => k0_hw87.2.2.2.2.1
theorem k0_off823_wordsbf16 : ∀ (v3523 : BitVec 32) (k0_hw87 : k0_chk87 v3523), (Rect.unit (s := S2x4096x512) (k0_off823 v3523) S1x128x256.size (k0_off823_inb v3523 k0_hw87)).WholeWords (EltTy.packing .bf16) := fun v3523 k0_hw87 => k0_hw87.2.2.2.2.2 (k0_off823_inb v3523 k0_hw87)

def k0_off824 (v3543 : BitVec 32) : Fin 3 → Nat :=
  let c1_i32_6241 : BitVec 32 := 1#32
  let c128_i32_3238 : BitVec 32 := 128#32
  let v3544 : BitVec 32 := Scalar.muli v3543 c128_i32_3238
  let c0_i32_6249 : BitVec 32 := 0#32
  ![1, v3544.toNat, 0]

def k0_chk88 (v3543 : BitVec 32) : Prop :=
  (∀ a, (k0_off437 v3543) a + S1x128x256.size a ≤ S2x4096x512.size a) ∧
  (∀ (hinb : ∀ a, (k0_off437 v3543) a + S1x128x256.size a ≤ S2x4096x512.size a), (Rect.unit (s := S2x4096x512) (k0_off437 v3543) S1x128x256.size hinb).WholeWords (EltTy.packing .bf16)) ∧
  (∀ a, (k0_off532 v3543) a + S1x128x256.size a ≤ S2x4096x512.size a) ∧
  (∀ (hinb : ∀ a, (k0_off532 v3543) a + S1x128x256.size a ≤ S2x4096x512.size a), (Rect.unit (s := S2x4096x512) (k0_off532 v3543) S1x128x256.size hinb).WholeWords (EltTy.packing .bf16)) ∧
  (∀ a, (k0_off824 v3543) a + S1x128x256.size a ≤ S2x4096x512.size a) ∧
  (∀ (hinb : ∀ a, (k0_off824 v3543) a + S1x128x256.size a ≤ S2x4096x512.size a), (Rect.unit (s := S2x4096x512) (k0_off824 v3543) S1x128x256.size hinb).WholeWords (EltTy.packing .bf16))
theorem k0_off437_inb : ∀ (v3543 : BitVec 32) (k0_hw88 : k0_chk88 v3543), ∀ a, (k0_off437 v3543) a + S1x128x256.size a ≤ S2x4096x512.size a := fun v3543 k0_hw88 => k0_hw88.1
theorem k0_off437_wordsbf16 : ∀ (v3543 : BitVec 32) (k0_hw88 : k0_chk88 v3543), (Rect.unit (s := S2x4096x512) (k0_off437 v3543) S1x128x256.size (k0_off437_inb v3543 k0_hw88)).WholeWords (EltTy.packing .bf16) := fun v3543 k0_hw88 => k0_hw88.2.1 (k0_off437_inb v3543 k0_hw88)
theorem k0_off532_inb : ∀ (v3543 : BitVec 32) (k0_hw88 : k0_chk88 v3543), ∀ a, (k0_off532 v3543) a + S1x128x256.size a ≤ S2x4096x512.size a := fun v3543 k0_hw88 => k0_hw88.2.2.1
theorem k0_off532_wordsbf16 : ∀ (v3543 : BitVec 32) (k0_hw88 : k0_chk88 v3543), (Rect.unit (s := S2x4096x512) (k0_off532 v3543) S1x128x256.size (k0_off532_inb v3543 k0_hw88)).WholeWords (EltTy.packing .bf16) := fun v3543 k0_hw88 => k0_hw88.2.2.2.1 (k0_off532_inb v3543 k0_hw88)
theorem k0_off824_inb : ∀ (v3543 : BitVec 32) (k0_hw88 : k0_chk88 v3543), ∀ a, (k0_off824 v3543) a + S1x128x256.size a ≤ S2x4096x512.size a := fun v3543 k0_hw88 => k0_hw88.2.2.2.2.1
theorem k0_off824_wordsbf16 : ∀ (v3543 : BitVec 32) (k0_hw88 : k0_chk88 v3543), (Rect.unit (s := S2x4096x512) (k0_off824 v3543) S1x128x256.size (k0_off824_inb v3543 k0_hw88)).WholeWords (EltTy.packing .bf16) := fun v3543 k0_hw88 => k0_hw88.2.2.2.2.2 (k0_off824_inb v3543 k0_hw88)

def k0_off825 (v3563 : BitVec 32) : Fin 3 → Nat :=
  let c1_i32_6252 : BitVec 32 := 1#32
  let c128_i32_3265 : BitVec 32 := 128#32
  let v3564 : BitVec 32 := Scalar.muli v3563 c128_i32_3265
  let c256_i32_6260 : BitVec 32 := 256#32
  ![1, v3564.toNat, 256]

def k0_chk89 (v3563 : BitVec 32) : Prop :=
  (∀ a, (k0_off439 v3563) a + S1x128x256.size a ≤ S2x4096x512.size a) ∧
  (∀ (hinb : ∀ a, (k0_off439 v3563) a + S1x128x256.size a ≤ S2x4096x512.size a), (Rect.unit (s := S2x4096x512) (k0_off439 v3563) S1x128x256.size hinb).WholeWords (EltTy.packing .bf16)) ∧
  (∀ a, (k0_off534 v3563) a + S1x128x256.size a ≤ S2x4096x512.size a) ∧
  (∀ (hinb : ∀ a, (k0_off534 v3563) a + S1x128x256.size a ≤ S2x4096x512.size a), (Rect.unit (s := S2x4096x512) (k0_off534 v3563) S1x128x256.size hinb).WholeWords (EltTy.packing .bf16)) ∧
  (∀ a, (k0_off825 v3563) a + S1x128x256.size a ≤ S2x4096x512.size a) ∧
  (∀ (hinb : ∀ a, (k0_off825 v3563) a + S1x128x256.size a ≤ S2x4096x512.size a), (Rect.unit (s := S2x4096x512) (k0_off825 v3563) S1x128x256.size hinb).WholeWords (EltTy.packing .bf16))
theorem k0_off439_inb : ∀ (v3563 : BitVec 32) (k0_hw89 : k0_chk89 v3563), ∀ a, (k0_off439 v3563) a + S1x128x256.size a ≤ S2x4096x512.size a := fun v3563 k0_hw89 => k0_hw89.1
theorem k0_off439_wordsbf16 : ∀ (v3563 : BitVec 32) (k0_hw89 : k0_chk89 v3563), (Rect.unit (s := S2x4096x512) (k0_off439 v3563) S1x128x256.size (k0_off439_inb v3563 k0_hw89)).WholeWords (EltTy.packing .bf16) := fun v3563 k0_hw89 => k0_hw89.2.1 (k0_off439_inb v3563 k0_hw89)
theorem k0_off534_inb : ∀ (v3563 : BitVec 32) (k0_hw89 : k0_chk89 v3563), ∀ a, (k0_off534 v3563) a + S1x128x256.size a ≤ S2x4096x512.size a := fun v3563 k0_hw89 => k0_hw89.2.2.1
theorem k0_off534_wordsbf16 : ∀ (v3563 : BitVec 32) (k0_hw89 : k0_chk89 v3563), (Rect.unit (s := S2x4096x512) (k0_off534 v3563) S1x128x256.size (k0_off534_inb v3563 k0_hw89)).WholeWords (EltTy.packing .bf16) := fun v3563 k0_hw89 => k0_hw89.2.2.2.1 (k0_off534_inb v3563 k0_hw89)
theorem k0_off825_inb : ∀ (v3563 : BitVec 32) (k0_hw89 : k0_chk89 v3563), ∀ a, (k0_off825 v3563) a + S1x128x256.size a ≤ S2x4096x512.size a := fun v3563 k0_hw89 => k0_hw89.2.2.2.2.1
theorem k0_off825_wordsbf16 : ∀ (v3563 : BitVec 32) (k0_hw89 : k0_chk89 v3563), (Rect.unit (s := S2x4096x512) (k0_off825 v3563) S1x128x256.size (k0_off825_inb v3563 k0_hw89)).WholeWords (EltTy.packing .bf16) := fun v3563 k0_hw89 => k0_hw89.2.2.2.2.2 (k0_off825_inb v3563 k0_hw89)

def k0_off826 (v3583 : BitVec 32) : Fin 3 → Nat :=
  let c1_i32_6263 : BitVec 32 := 1#32
  let c128_i32_3292 : BitVec 32 := 128#32
  let v3584 : BitVec 32 := Scalar.muli v3583 c128_i32_3292
  let c0_i32_6271 : BitVec 32 := 0#32
  ![1, v3584.toNat, 0]

def k0_chk90 (v3583 : BitVec 32) : Prop :=
  (∀ a, (k0_off441 v3583) a + S1x128x256.size a ≤ S2x4096x512.size a) ∧
  (∀ (hinb : ∀ a, (k0_off441 v3583) a + S1x128x256.size a ≤ S2x4096x512.size a), (Rect.unit (s := S2x4096x512) (k0_off441 v3583) S1x128x256.size hinb).WholeWords (EltTy.packing .bf16)) ∧
  (∀ a, (k0_off536 v3583) a + S1x128x256.size a ≤ S2x4096x512.size a) ∧
  (∀ (hinb : ∀ a, (k0_off536 v3583) a + S1x128x256.size a ≤ S2x4096x512.size a), (Rect.unit (s := S2x4096x512) (k0_off536 v3583) S1x128x256.size hinb).WholeWords (EltTy.packing .bf16)) ∧
  (∀ a, (k0_off826 v3583) a + S1x128x256.size a ≤ S2x4096x512.size a) ∧
  (∀ (hinb : ∀ a, (k0_off826 v3583) a + S1x128x256.size a ≤ S2x4096x512.size a), (Rect.unit (s := S2x4096x512) (k0_off826 v3583) S1x128x256.size hinb).WholeWords (EltTy.packing .bf16))
theorem k0_off441_inb : ∀ (v3583 : BitVec 32) (k0_hw90 : k0_chk90 v3583), ∀ a, (k0_off441 v3583) a + S1x128x256.size a ≤ S2x4096x512.size a := fun v3583 k0_hw90 => k0_hw90.1
theorem k0_off441_wordsbf16 : ∀ (v3583 : BitVec 32) (k0_hw90 : k0_chk90 v3583), (Rect.unit (s := S2x4096x512) (k0_off441 v3583) S1x128x256.size (k0_off441_inb v3583 k0_hw90)).WholeWords (EltTy.packing .bf16) := fun v3583 k0_hw90 => k0_hw90.2.1 (k0_off441_inb v3583 k0_hw90)
theorem k0_off536_inb : ∀ (v3583 : BitVec 32) (k0_hw90 : k0_chk90 v3583), ∀ a, (k0_off536 v3583) a + S1x128x256.size a ≤ S2x4096x512.size a := fun v3583 k0_hw90 => k0_hw90.2.2.1
theorem k0_off536_wordsbf16 : ∀ (v3583 : BitVec 32) (k0_hw90 : k0_chk90 v3583), (Rect.unit (s := S2x4096x512) (k0_off536 v3583) S1x128x256.size (k0_off536_inb v3583 k0_hw90)).WholeWords (EltTy.packing .bf16) := fun v3583 k0_hw90 => k0_hw90.2.2.2.1 (k0_off536_inb v3583 k0_hw90)
theorem k0_off826_inb : ∀ (v3583 : BitVec 32) (k0_hw90 : k0_chk90 v3583), ∀ a, (k0_off826 v3583) a + S1x128x256.size a ≤ S2x4096x512.size a := fun v3583 k0_hw90 => k0_hw90.2.2.2.2.1
theorem k0_off826_wordsbf16 : ∀ (v3583 : BitVec 32) (k0_hw90 : k0_chk90 v3583), (Rect.unit (s := S2x4096x512) (k0_off826 v3583) S1x128x256.size (k0_off826_inb v3583 k0_hw90)).WholeWords (EltTy.packing .bf16) := fun v3583 k0_hw90 => k0_hw90.2.2.2.2.2 (k0_off826_inb v3583 k0_hw90)

def k0_off827 (v3603 : BitVec 32) : Fin 3 → Nat :=
  let c1_i32_6274 : BitVec 32 := 1#32
  let c128_i32_3319 : BitVec 32 := 128#32
  let v3604 : BitVec 32 := Scalar.muli v3603 c128_i32_3319
  let c256_i32_6282 : BitVec 32 := 256#32
  ![1, v3604.toNat, 256]

def k0_chk91 (v3603 : BitVec 32) : Prop :=
  (∀ a, (k0_off443 v3603) a + S1x128x256.size a ≤ S2x4096x512.size a) ∧
  (∀ (hinb : ∀ a, (k0_off443 v3603) a + S1x128x256.size a ≤ S2x4096x512.size a), (Rect.unit (s := S2x4096x512) (k0_off443 v3603) S1x128x256.size hinb).WholeWords (EltTy.packing .bf16)) ∧
  (∀ a, (k0_off538 v3603) a + S1x128x256.size a ≤ S2x4096x512.size a) ∧
  (∀ (hinb : ∀ a, (k0_off538 v3603) a + S1x128x256.size a ≤ S2x4096x512.size a), (Rect.unit (s := S2x4096x512) (k0_off538 v3603) S1x128x256.size hinb).WholeWords (EltTy.packing .bf16)) ∧
  (∀ a, (k0_off827 v3603) a + S1x128x256.size a ≤ S2x4096x512.size a) ∧
  (∀ (hinb : ∀ a, (k0_off827 v3603) a + S1x128x256.size a ≤ S2x4096x512.size a), (Rect.unit (s := S2x4096x512) (k0_off827 v3603) S1x128x256.size hinb).WholeWords (EltTy.packing .bf16))
theorem k0_off443_inb : ∀ (v3603 : BitVec 32) (k0_hw91 : k0_chk91 v3603), ∀ a, (k0_off443 v3603) a + S1x128x256.size a ≤ S2x4096x512.size a := fun v3603 k0_hw91 => k0_hw91.1
theorem k0_off443_wordsbf16 : ∀ (v3603 : BitVec 32) (k0_hw91 : k0_chk91 v3603), (Rect.unit (s := S2x4096x512) (k0_off443 v3603) S1x128x256.size (k0_off443_inb v3603 k0_hw91)).WholeWords (EltTy.packing .bf16) := fun v3603 k0_hw91 => k0_hw91.2.1 (k0_off443_inb v3603 k0_hw91)
theorem k0_off538_inb : ∀ (v3603 : BitVec 32) (k0_hw91 : k0_chk91 v3603), ∀ a, (k0_off538 v3603) a + S1x128x256.size a ≤ S2x4096x512.size a := fun v3603 k0_hw91 => k0_hw91.2.2.1
theorem k0_off538_wordsbf16 : ∀ (v3603 : BitVec 32) (k0_hw91 : k0_chk91 v3603), (Rect.unit (s := S2x4096x512) (k0_off538 v3603) S1x128x256.size (k0_off538_inb v3603 k0_hw91)).WholeWords (EltTy.packing .bf16) := fun v3603 k0_hw91 => k0_hw91.2.2.2.1 (k0_off538_inb v3603 k0_hw91)
theorem k0_off827_inb : ∀ (v3603 : BitVec 32) (k0_hw91 : k0_chk91 v3603), ∀ a, (k0_off827 v3603) a + S1x128x256.size a ≤ S2x4096x512.size a := fun v3603 k0_hw91 => k0_hw91.2.2.2.2.1
theorem k0_off827_wordsbf16 : ∀ (v3603 : BitVec 32) (k0_hw91 : k0_chk91 v3603), (Rect.unit (s := S2x4096x512) (k0_off827 v3603) S1x128x256.size (k0_off827_inb v3603 k0_hw91)).WholeWords (EltTy.packing .bf16) := fun v3603 k0_hw91 => k0_hw91.2.2.2.2.2 (k0_off827_inb v3603 k0_hw91)

def k0_off828 (v3623 : BitVec 32) : Fin 3 → Nat :=
  let c0_i32_6285 : BitVec 32 := 0#32
  let c128_i32_3346 : BitVec 32 := 128#32
  let v3624 : BitVec 32 := Scalar.muli v3623 c128_i32_3346
  let c0_i32_6293 : BitVec 32 := 0#32
  ![0, v3624.toNat, 0]

def k0_chk92 (v3623 : BitVec 32) : Prop :=
  (∀ a, (k0_off445 v3623) a + S1x128x256.size a ≤ S2x4096x512.size a) ∧
  (∀ (hinb : ∀ a, (k0_off445 v3623) a + S1x128x256.size a ≤ S2x4096x512.size a), (Rect.unit (s := S2x4096x512) (k0_off445 v3623) S1x128x256.size hinb).WholeWords (EltTy.packing .bf16)) ∧
  (∀ a, (k0_off540 v3623) a + S1x128x256.size a ≤ S2x4096x512.size a) ∧
  (∀ (hinb : ∀ a, (k0_off540 v3623) a + S1x128x256.size a ≤ S2x4096x512.size a), (Rect.unit (s := S2x4096x512) (k0_off540 v3623) S1x128x256.size hinb).WholeWords (EltTy.packing .bf16)) ∧
  (∀ a, (k0_off828 v3623) a + S1x128x256.size a ≤ S2x4096x512.size a) ∧
  (∀ (hinb : ∀ a, (k0_off828 v3623) a + S1x128x256.size a ≤ S2x4096x512.size a), (Rect.unit (s := S2x4096x512) (k0_off828 v3623) S1x128x256.size hinb).WholeWords (EltTy.packing .bf16))
theorem k0_off445_inb : ∀ (v3623 : BitVec 32) (k0_hw92 : k0_chk92 v3623), ∀ a, (k0_off445 v3623) a + S1x128x256.size a ≤ S2x4096x512.size a := fun v3623 k0_hw92 => k0_hw92.1
theorem k0_off445_wordsbf16 : ∀ (v3623 : BitVec 32) (k0_hw92 : k0_chk92 v3623), (Rect.unit (s := S2x4096x512) (k0_off445 v3623) S1x128x256.size (k0_off445_inb v3623 k0_hw92)).WholeWords (EltTy.packing .bf16) := fun v3623 k0_hw92 => k0_hw92.2.1 (k0_off445_inb v3623 k0_hw92)
theorem k0_off540_inb : ∀ (v3623 : BitVec 32) (k0_hw92 : k0_chk92 v3623), ∀ a, (k0_off540 v3623) a + S1x128x256.size a ≤ S2x4096x512.size a := fun v3623 k0_hw92 => k0_hw92.2.2.1
theorem k0_off540_wordsbf16 : ∀ (v3623 : BitVec 32) (k0_hw92 : k0_chk92 v3623), (Rect.unit (s := S2x4096x512) (k0_off540 v3623) S1x128x256.size (k0_off540_inb v3623 k0_hw92)).WholeWords (EltTy.packing .bf16) := fun v3623 k0_hw92 => k0_hw92.2.2.2.1 (k0_off540_inb v3623 k0_hw92)
theorem k0_off828_inb : ∀ (v3623 : BitVec 32) (k0_hw92 : k0_chk92 v3623), ∀ a, (k0_off828 v3623) a + S1x128x256.size a ≤ S2x4096x512.size a := fun v3623 k0_hw92 => k0_hw92.2.2.2.2.1
theorem k0_off828_wordsbf16 : ∀ (v3623 : BitVec 32) (k0_hw92 : k0_chk92 v3623), (Rect.unit (s := S2x4096x512) (k0_off828 v3623) S1x128x256.size (k0_off828_inb v3623 k0_hw92)).WholeWords (EltTy.packing .bf16) := fun v3623 k0_hw92 => k0_hw92.2.2.2.2.2 (k0_off828_inb v3623 k0_hw92)

def k0_off829 (v3643 : BitVec 32) : Fin 3 → Nat :=
  let c0_i32_6296 : BitVec 32 := 0#32
  let c128_i32_3373 : BitVec 32 := 128#32
  let v3644 : BitVec 32 := Scalar.muli v3643 c128_i32_3373
  let c256_i32_6304 : BitVec 32 := 256#32
  ![0, v3644.toNat, 256]

def k0_chk93 (v3643 : BitVec 32) : Prop :=
  (∀ a, (k0_off447 v3643) a + S1x128x256.size a ≤ S2x4096x512.size a) ∧
  (∀ (hinb : ∀ a, (k0_off447 v3643) a + S1x128x256.size a ≤ S2x4096x512.size a), (Rect.unit (s := S2x4096x512) (k0_off447 v3643) S1x128x256.size hinb).WholeWords (EltTy.packing .bf16)) ∧
  (∀ a, (k0_off542 v3643) a + S1x128x256.size a ≤ S2x4096x512.size a) ∧
  (∀ (hinb : ∀ a, (k0_off542 v3643) a + S1x128x256.size a ≤ S2x4096x512.size a), (Rect.unit (s := S2x4096x512) (k0_off542 v3643) S1x128x256.size hinb).WholeWords (EltTy.packing .bf16)) ∧
  (∀ a, (k0_off829 v3643) a + S1x128x256.size a ≤ S2x4096x512.size a) ∧
  (∀ (hinb : ∀ a, (k0_off829 v3643) a + S1x128x256.size a ≤ S2x4096x512.size a), (Rect.unit (s := S2x4096x512) (k0_off829 v3643) S1x128x256.size hinb).WholeWords (EltTy.packing .bf16))
theorem k0_off447_inb : ∀ (v3643 : BitVec 32) (k0_hw93 : k0_chk93 v3643), ∀ a, (k0_off447 v3643) a + S1x128x256.size a ≤ S2x4096x512.size a := fun v3643 k0_hw93 => k0_hw93.1
theorem k0_off447_wordsbf16 : ∀ (v3643 : BitVec 32) (k0_hw93 : k0_chk93 v3643), (Rect.unit (s := S2x4096x512) (k0_off447 v3643) S1x128x256.size (k0_off447_inb v3643 k0_hw93)).WholeWords (EltTy.packing .bf16) := fun v3643 k0_hw93 => k0_hw93.2.1 (k0_off447_inb v3643 k0_hw93)
theorem k0_off542_inb : ∀ (v3643 : BitVec 32) (k0_hw93 : k0_chk93 v3643), ∀ a, (k0_off542 v3643) a + S1x128x256.size a ≤ S2x4096x512.size a := fun v3643 k0_hw93 => k0_hw93.2.2.1
theorem k0_off542_wordsbf16 : ∀ (v3643 : BitVec 32) (k0_hw93 : k0_chk93 v3643), (Rect.unit (s := S2x4096x512) (k0_off542 v3643) S1x128x256.size (k0_off542_inb v3643 k0_hw93)).WholeWords (EltTy.packing .bf16) := fun v3643 k0_hw93 => k0_hw93.2.2.2.1 (k0_off542_inb v3643 k0_hw93)
theorem k0_off829_inb : ∀ (v3643 : BitVec 32) (k0_hw93 : k0_chk93 v3643), ∀ a, (k0_off829 v3643) a + S1x128x256.size a ≤ S2x4096x512.size a := fun v3643 k0_hw93 => k0_hw93.2.2.2.2.1
theorem k0_off829_wordsbf16 : ∀ (v3643 : BitVec 32) (k0_hw93 : k0_chk93 v3643), (Rect.unit (s := S2x4096x512) (k0_off829 v3643) S1x128x256.size (k0_off829_inb v3643 k0_hw93)).WholeWords (EltTy.packing .bf16) := fun v3643 k0_hw93 => k0_hw93.2.2.2.2.2 (k0_off829_inb v3643 k0_hw93)

def k0_off830 (v3663 : BitVec 32) : Fin 3 → Nat :=
  let c0_i32_6307 : BitVec 32 := 0#32
  let c128_i32_3400 : BitVec 32 := 128#32
  let v3664 : BitVec 32 := Scalar.muli v3663 c128_i32_3400
  let c0_i32_6315 : BitVec 32 := 0#32
  ![0, v3664.toNat, 0]

def k0_chk94 (v3663 : BitVec 32) : Prop :=
  (∀ a, (k0_off449 v3663) a + S1x128x256.size a ≤ S2x4096x512.size a) ∧
  (∀ (hinb : ∀ a, (k0_off449 v3663) a + S1x128x256.size a ≤ S2x4096x512.size a), (Rect.unit (s := S2x4096x512) (k0_off449 v3663) S1x128x256.size hinb).WholeWords (EltTy.packing .bf16)) ∧
  (∀ a, (k0_off544 v3663) a + S1x128x256.size a ≤ S2x4096x512.size a) ∧
  (∀ (hinb : ∀ a, (k0_off544 v3663) a + S1x128x256.size a ≤ S2x4096x512.size a), (Rect.unit (s := S2x4096x512) (k0_off544 v3663) S1x128x256.size hinb).WholeWords (EltTy.packing .bf16)) ∧
  (∀ a, (k0_off830 v3663) a + S1x128x256.size a ≤ S2x4096x512.size a) ∧
  (∀ (hinb : ∀ a, (k0_off830 v3663) a + S1x128x256.size a ≤ S2x4096x512.size a), (Rect.unit (s := S2x4096x512) (k0_off830 v3663) S1x128x256.size hinb).WholeWords (EltTy.packing .bf16))
theorem k0_off449_inb : ∀ (v3663 : BitVec 32) (k0_hw94 : k0_chk94 v3663), ∀ a, (k0_off449 v3663) a + S1x128x256.size a ≤ S2x4096x512.size a := fun v3663 k0_hw94 => k0_hw94.1
theorem k0_off449_wordsbf16 : ∀ (v3663 : BitVec 32) (k0_hw94 : k0_chk94 v3663), (Rect.unit (s := S2x4096x512) (k0_off449 v3663) S1x128x256.size (k0_off449_inb v3663 k0_hw94)).WholeWords (EltTy.packing .bf16) := fun v3663 k0_hw94 => k0_hw94.2.1 (k0_off449_inb v3663 k0_hw94)
theorem k0_off544_inb : ∀ (v3663 : BitVec 32) (k0_hw94 : k0_chk94 v3663), ∀ a, (k0_off544 v3663) a + S1x128x256.size a ≤ S2x4096x512.size a := fun v3663 k0_hw94 => k0_hw94.2.2.1
theorem k0_off544_wordsbf16 : ∀ (v3663 : BitVec 32) (k0_hw94 : k0_chk94 v3663), (Rect.unit (s := S2x4096x512) (k0_off544 v3663) S1x128x256.size (k0_off544_inb v3663 k0_hw94)).WholeWords (EltTy.packing .bf16) := fun v3663 k0_hw94 => k0_hw94.2.2.2.1 (k0_off544_inb v3663 k0_hw94)
theorem k0_off830_inb : ∀ (v3663 : BitVec 32) (k0_hw94 : k0_chk94 v3663), ∀ a, (k0_off830 v3663) a + S1x128x256.size a ≤ S2x4096x512.size a := fun v3663 k0_hw94 => k0_hw94.2.2.2.2.1
theorem k0_off830_wordsbf16 : ∀ (v3663 : BitVec 32) (k0_hw94 : k0_chk94 v3663), (Rect.unit (s := S2x4096x512) (k0_off830 v3663) S1x128x256.size (k0_off830_inb v3663 k0_hw94)).WholeWords (EltTy.packing .bf16) := fun v3663 k0_hw94 => k0_hw94.2.2.2.2.2 (k0_off830_inb v3663 k0_hw94)

def k0_off831 (v3683 : BitVec 32) : Fin 3 → Nat :=
  let c0_i32_6318 : BitVec 32 := 0#32
  let c128_i32_3427 : BitVec 32 := 128#32
  let v3684 : BitVec 32 := Scalar.muli v3683 c128_i32_3427
  let c256_i32_6326 : BitVec 32 := 256#32
  ![0, v3684.toNat, 256]

def k0_chk95 (v3683 : BitVec 32) : Prop :=
  (∀ a, (k0_off451 v3683) a + S1x128x256.size a ≤ S2x4096x512.size a) ∧
  (∀ (hinb : ∀ a, (k0_off451 v3683) a + S1x128x256.size a ≤ S2x4096x512.size a), (Rect.unit (s := S2x4096x512) (k0_off451 v3683) S1x128x256.size hinb).WholeWords (EltTy.packing .bf16)) ∧
  (∀ a, (k0_off546 v3683) a + S1x128x256.size a ≤ S2x4096x512.size a) ∧
  (∀ (hinb : ∀ a, (k0_off546 v3683) a + S1x128x256.size a ≤ S2x4096x512.size a), (Rect.unit (s := S2x4096x512) (k0_off546 v3683) S1x128x256.size hinb).WholeWords (EltTy.packing .bf16)) ∧
  (∀ a, (k0_off831 v3683) a + S1x128x256.size a ≤ S2x4096x512.size a) ∧
  (∀ (hinb : ∀ a, (k0_off831 v3683) a + S1x128x256.size a ≤ S2x4096x512.size a), (Rect.unit (s := S2x4096x512) (k0_off831 v3683) S1x128x256.size hinb).WholeWords (EltTy.packing .bf16))
theorem k0_off451_inb : ∀ (v3683 : BitVec 32) (k0_hw95 : k0_chk95 v3683), ∀ a, (k0_off451 v3683) a + S1x128x256.size a ≤ S2x4096x512.size a := fun v3683 k0_hw95 => k0_hw95.1
theorem k0_off451_wordsbf16 : ∀ (v3683 : BitVec 32) (k0_hw95 : k0_chk95 v3683), (Rect.unit (s := S2x4096x512) (k0_off451 v3683) S1x128x256.size (k0_off451_inb v3683 k0_hw95)).WholeWords (EltTy.packing .bf16) := fun v3683 k0_hw95 => k0_hw95.2.1 (k0_off451_inb v3683 k0_hw95)
theorem k0_off546_inb : ∀ (v3683 : BitVec 32) (k0_hw95 : k0_chk95 v3683), ∀ a, (k0_off546 v3683) a + S1x128x256.size a ≤ S2x4096x512.size a := fun v3683 k0_hw95 => k0_hw95.2.2.1
theorem k0_off546_wordsbf16 : ∀ (v3683 : BitVec 32) (k0_hw95 : k0_chk95 v3683), (Rect.unit (s := S2x4096x512) (k0_off546 v3683) S1x128x256.size (k0_off546_inb v3683 k0_hw95)).WholeWords (EltTy.packing .bf16) := fun v3683 k0_hw95 => k0_hw95.2.2.2.1 (k0_off546_inb v3683 k0_hw95)
theorem k0_off831_inb : ∀ (v3683 : BitVec 32) (k0_hw95 : k0_chk95 v3683), ∀ a, (k0_off831 v3683) a + S1x128x256.size a ≤ S2x4096x512.size a := fun v3683 k0_hw95 => k0_hw95.2.2.2.2.1
theorem k0_off831_wordsbf16 : ∀ (v3683 : BitVec 32) (k0_hw95 : k0_chk95 v3683), (Rect.unit (s := S2x4096x512) (k0_off831 v3683) S1x128x256.size (k0_off831_inb v3683 k0_hw95)).WholeWords (EltTy.packing .bf16) := fun v3683 k0_hw95 => k0_hw95.2.2.2.2.2 (k0_off831_inb v3683 k0_hw95)

def k0_off832 (v3703 : BitVec 32) : Fin 3 → Nat :=
  let c1_i32_6329 : BitVec 32 := 1#32
  let c128_i32_3454 : BitVec 32 := 128#32
  let v3704 : BitVec 32 := Scalar.muli v3703 c128_i32_3454
  let c0_i32_6337 : BitVec 32 := 0#32
  ![1, v3704.toNat, 0]

def k0_chk96 (v3703 : BitVec 32) : Prop :=
  (∀ a, (k0_off453 v3703) a + S1x128x256.size a ≤ S2x4096x512.size a) ∧
  (∀ (hinb : ∀ a, (k0_off453 v3703) a + S1x128x256.size a ≤ S2x4096x512.size a), (Rect.unit (s := S2x4096x512) (k0_off453 v3703) S1x128x256.size hinb).WholeWords (EltTy.packing .bf16)) ∧
  (∀ a, (k0_off548 v3703) a + S1x128x256.size a ≤ S2x4096x512.size a) ∧
  (∀ (hinb : ∀ a, (k0_off548 v3703) a + S1x128x256.size a ≤ S2x4096x512.size a), (Rect.unit (s := S2x4096x512) (k0_off548 v3703) S1x128x256.size hinb).WholeWords (EltTy.packing .bf16)) ∧
  (∀ a, (k0_off832 v3703) a + S1x128x256.size a ≤ S2x4096x512.size a) ∧
  (∀ (hinb : ∀ a, (k0_off832 v3703) a + S1x128x256.size a ≤ S2x4096x512.size a), (Rect.unit (s := S2x4096x512) (k0_off832 v3703) S1x128x256.size hinb).WholeWords (EltTy.packing .bf16))
theorem k0_off453_inb : ∀ (v3703 : BitVec 32) (k0_hw96 : k0_chk96 v3703), ∀ a, (k0_off453 v3703) a + S1x128x256.size a ≤ S2x4096x512.size a := fun v3703 k0_hw96 => k0_hw96.1
theorem k0_off453_wordsbf16 : ∀ (v3703 : BitVec 32) (k0_hw96 : k0_chk96 v3703), (Rect.unit (s := S2x4096x512) (k0_off453 v3703) S1x128x256.size (k0_off453_inb v3703 k0_hw96)).WholeWords (EltTy.packing .bf16) := fun v3703 k0_hw96 => k0_hw96.2.1 (k0_off453_inb v3703 k0_hw96)
theorem k0_off548_inb : ∀ (v3703 : BitVec 32) (k0_hw96 : k0_chk96 v3703), ∀ a, (k0_off548 v3703) a + S1x128x256.size a ≤ S2x4096x512.size a := fun v3703 k0_hw96 => k0_hw96.2.2.1
theorem k0_off548_wordsbf16 : ∀ (v3703 : BitVec 32) (k0_hw96 : k0_chk96 v3703), (Rect.unit (s := S2x4096x512) (k0_off548 v3703) S1x128x256.size (k0_off548_inb v3703 k0_hw96)).WholeWords (EltTy.packing .bf16) := fun v3703 k0_hw96 => k0_hw96.2.2.2.1 (k0_off548_inb v3703 k0_hw96)
theorem k0_off832_inb : ∀ (v3703 : BitVec 32) (k0_hw96 : k0_chk96 v3703), ∀ a, (k0_off832 v3703) a + S1x128x256.size a ≤ S2x4096x512.size a := fun v3703 k0_hw96 => k0_hw96.2.2.2.2.1
theorem k0_off832_wordsbf16 : ∀ (v3703 : BitVec 32) (k0_hw96 : k0_chk96 v3703), (Rect.unit (s := S2x4096x512) (k0_off832 v3703) S1x128x256.size (k0_off832_inb v3703 k0_hw96)).WholeWords (EltTy.packing .bf16) := fun v3703 k0_hw96 => k0_hw96.2.2.2.2.2 (k0_off832_inb v3703 k0_hw96)

def k0_off833 (v3723 : BitVec 32) : Fin 3 → Nat :=
  let c1_i32_6340 : BitVec 32 := 1#32
  let c128_i32_3481 : BitVec 32 := 128#32
  let v3724 : BitVec 32 := Scalar.muli v3723 c128_i32_3481
  let c256_i32_6348 : BitVec 32 := 256#32
  ![1, v3724.toNat, 256]

def k0_chk97 (v3723 : BitVec 32) : Prop :=
  (∀ a, (k0_off455 v3723) a + S1x128x256.size a ≤ S2x4096x512.size a) ∧
  (∀ (hinb : ∀ a, (k0_off455 v3723) a + S1x128x256.size a ≤ S2x4096x512.size a), (Rect.unit (s := S2x4096x512) (k0_off455 v3723) S1x128x256.size hinb).WholeWords (EltTy.packing .bf16)) ∧
  (∀ a, (k0_off550 v3723) a + S1x128x256.size a ≤ S2x4096x512.size a) ∧
  (∀ (hinb : ∀ a, (k0_off550 v3723) a + S1x128x256.size a ≤ S2x4096x512.size a), (Rect.unit (s := S2x4096x512) (k0_off550 v3723) S1x128x256.size hinb).WholeWords (EltTy.packing .bf16)) ∧
  (∀ a, (k0_off833 v3723) a + S1x128x256.size a ≤ S2x4096x512.size a) ∧
  (∀ (hinb : ∀ a, (k0_off833 v3723) a + S1x128x256.size a ≤ S2x4096x512.size a), (Rect.unit (s := S2x4096x512) (k0_off833 v3723) S1x128x256.size hinb).WholeWords (EltTy.packing .bf16))
theorem k0_off455_inb : ∀ (v3723 : BitVec 32) (k0_hw97 : k0_chk97 v3723), ∀ a, (k0_off455 v3723) a + S1x128x256.size a ≤ S2x4096x512.size a := fun v3723 k0_hw97 => k0_hw97.1
theorem k0_off455_wordsbf16 : ∀ (v3723 : BitVec 32) (k0_hw97 : k0_chk97 v3723), (Rect.unit (s := S2x4096x512) (k0_off455 v3723) S1x128x256.size (k0_off455_inb v3723 k0_hw97)).WholeWords (EltTy.packing .bf16) := fun v3723 k0_hw97 => k0_hw97.2.1 (k0_off455_inb v3723 k0_hw97)
theorem k0_off550_inb : ∀ (v3723 : BitVec 32) (k0_hw97 : k0_chk97 v3723), ∀ a, (k0_off550 v3723) a + S1x128x256.size a ≤ S2x4096x512.size a := fun v3723 k0_hw97 => k0_hw97.2.2.1
theorem k0_off550_wordsbf16 : ∀ (v3723 : BitVec 32) (k0_hw97 : k0_chk97 v3723), (Rect.unit (s := S2x4096x512) (k0_off550 v3723) S1x128x256.size (k0_off550_inb v3723 k0_hw97)).WholeWords (EltTy.packing .bf16) := fun v3723 k0_hw97 => k0_hw97.2.2.2.1 (k0_off550_inb v3723 k0_hw97)
theorem k0_off833_inb : ∀ (v3723 : BitVec 32) (k0_hw97 : k0_chk97 v3723), ∀ a, (k0_off833 v3723) a + S1x128x256.size a ≤ S2x4096x512.size a := fun v3723 k0_hw97 => k0_hw97.2.2.2.2.1
theorem k0_off833_wordsbf16 : ∀ (v3723 : BitVec 32) (k0_hw97 : k0_chk97 v3723), (Rect.unit (s := S2x4096x512) (k0_off833 v3723) S1x128x256.size (k0_off833_inb v3723 k0_hw97)).WholeWords (EltTy.packing .bf16) := fun v3723 k0_hw97 => k0_hw97.2.2.2.2.2 (k0_off833_inb v3723 k0_hw97)

def k0_off834 (v3743 : BitVec 32) : Fin 3 → Nat :=
  let c1_i32_6351 : BitVec 32 := 1#32
  let c128_i32_3508 : BitVec 32 := 128#32
  let v3744 : BitVec 32 := Scalar.muli v3743 c128_i32_3508
  let c0_i32_6359 : BitVec 32 := 0#32
  ![1, v3744.toNat, 0]

def k0_chk98 (v3743 : BitVec 32) : Prop :=
  (∀ a, (k0_off457 v3743) a + S1x128x256.size a ≤ S2x4096x512.size a) ∧
  (∀ (hinb : ∀ a, (k0_off457 v3743) a + S1x128x256.size a ≤ S2x4096x512.size a), (Rect.unit (s := S2x4096x512) (k0_off457 v3743) S1x128x256.size hinb).WholeWords (EltTy.packing .bf16)) ∧
  (∀ a, (k0_off552 v3743) a + S1x128x256.size a ≤ S2x4096x512.size a) ∧
  (∀ (hinb : ∀ a, (k0_off552 v3743) a + S1x128x256.size a ≤ S2x4096x512.size a), (Rect.unit (s := S2x4096x512) (k0_off552 v3743) S1x128x256.size hinb).WholeWords (EltTy.packing .bf16)) ∧
  (∀ a, (k0_off834 v3743) a + S1x128x256.size a ≤ S2x4096x512.size a) ∧
  (∀ (hinb : ∀ a, (k0_off834 v3743) a + S1x128x256.size a ≤ S2x4096x512.size a), (Rect.unit (s := S2x4096x512) (k0_off834 v3743) S1x128x256.size hinb).WholeWords (EltTy.packing .bf16))
theorem k0_off457_inb : ∀ (v3743 : BitVec 32) (k0_hw98 : k0_chk98 v3743), ∀ a, (k0_off457 v3743) a + S1x128x256.size a ≤ S2x4096x512.size a := fun v3743 k0_hw98 => k0_hw98.1
theorem k0_off457_wordsbf16 : ∀ (v3743 : BitVec 32) (k0_hw98 : k0_chk98 v3743), (Rect.unit (s := S2x4096x512) (k0_off457 v3743) S1x128x256.size (k0_off457_inb v3743 k0_hw98)).WholeWords (EltTy.packing .bf16) := fun v3743 k0_hw98 => k0_hw98.2.1 (k0_off457_inb v3743 k0_hw98)
theorem k0_off552_inb : ∀ (v3743 : BitVec 32) (k0_hw98 : k0_chk98 v3743), ∀ a, (k0_off552 v3743) a + S1x128x256.size a ≤ S2x4096x512.size a := fun v3743 k0_hw98 => k0_hw98.2.2.1
theorem k0_off552_wordsbf16 : ∀ (v3743 : BitVec 32) (k0_hw98 : k0_chk98 v3743), (Rect.unit (s := S2x4096x512) (k0_off552 v3743) S1x128x256.size (k0_off552_inb v3743 k0_hw98)).WholeWords (EltTy.packing .bf16) := fun v3743 k0_hw98 => k0_hw98.2.2.2.1 (k0_off552_inb v3743 k0_hw98)
theorem k0_off834_inb : ∀ (v3743 : BitVec 32) (k0_hw98 : k0_chk98 v3743), ∀ a, (k0_off834 v3743) a + S1x128x256.size a ≤ S2x4096x512.size a := fun v3743 k0_hw98 => k0_hw98.2.2.2.2.1
theorem k0_off834_wordsbf16 : ∀ (v3743 : BitVec 32) (k0_hw98 : k0_chk98 v3743), (Rect.unit (s := S2x4096x512) (k0_off834 v3743) S1x128x256.size (k0_off834_inb v3743 k0_hw98)).WholeWords (EltTy.packing .bf16) := fun v3743 k0_hw98 => k0_hw98.2.2.2.2.2 (k0_off834_inb v3743 k0_hw98)

def k0_off835 (v3763 : BitVec 32) : Fin 3 → Nat :=
  let c1_i32_6362 : BitVec 32 := 1#32
  let c128_i32_3535 : BitVec 32 := 128#32
  let v3764 : BitVec 32 := Scalar.muli v3763 c128_i32_3535
  let c256_i32_6370 : BitVec 32 := 256#32
  ![1, v3764.toNat, 256]

def k0_chk99 (v3763 : BitVec 32) : Prop :=
  (∀ a, (k0_off459 v3763) a + S1x128x256.size a ≤ S2x4096x512.size a) ∧
  (∀ (hinb : ∀ a, (k0_off459 v3763) a + S1x128x256.size a ≤ S2x4096x512.size a), (Rect.unit (s := S2x4096x512) (k0_off459 v3763) S1x128x256.size hinb).WholeWords (EltTy.packing .bf16)) ∧
  (∀ a, (k0_off554 v3763) a + S1x128x256.size a ≤ S2x4096x512.size a) ∧
  (∀ (hinb : ∀ a, (k0_off554 v3763) a + S1x128x256.size a ≤ S2x4096x512.size a), (Rect.unit (s := S2x4096x512) (k0_off554 v3763) S1x128x256.size hinb).WholeWords (EltTy.packing .bf16)) ∧
  (∀ a, (k0_off835 v3763) a + S1x128x256.size a ≤ S2x4096x512.size a) ∧
  (∀ (hinb : ∀ a, (k0_off835 v3763) a + S1x128x256.size a ≤ S2x4096x512.size a), (Rect.unit (s := S2x4096x512) (k0_off835 v3763) S1x128x256.size hinb).WholeWords (EltTy.packing .bf16))
theorem k0_off459_inb : ∀ (v3763 : BitVec 32) (k0_hw99 : k0_chk99 v3763), ∀ a, (k0_off459 v3763) a + S1x128x256.size a ≤ S2x4096x512.size a := fun v3763 k0_hw99 => k0_hw99.1
theorem k0_off459_wordsbf16 : ∀ (v3763 : BitVec 32) (k0_hw99 : k0_chk99 v3763), (Rect.unit (s := S2x4096x512) (k0_off459 v3763) S1x128x256.size (k0_off459_inb v3763 k0_hw99)).WholeWords (EltTy.packing .bf16) := fun v3763 k0_hw99 => k0_hw99.2.1 (k0_off459_inb v3763 k0_hw99)
theorem k0_off554_inb : ∀ (v3763 : BitVec 32) (k0_hw99 : k0_chk99 v3763), ∀ a, (k0_off554 v3763) a + S1x128x256.size a ≤ S2x4096x512.size a := fun v3763 k0_hw99 => k0_hw99.2.2.1
theorem k0_off554_wordsbf16 : ∀ (v3763 : BitVec 32) (k0_hw99 : k0_chk99 v3763), (Rect.unit (s := S2x4096x512) (k0_off554 v3763) S1x128x256.size (k0_off554_inb v3763 k0_hw99)).WholeWords (EltTy.packing .bf16) := fun v3763 k0_hw99 => k0_hw99.2.2.2.1 (k0_off554_inb v3763 k0_hw99)
theorem k0_off835_inb : ∀ (v3763 : BitVec 32) (k0_hw99 : k0_chk99 v3763), ∀ a, (k0_off835 v3763) a + S1x128x256.size a ≤ S2x4096x512.size a := fun v3763 k0_hw99 => k0_hw99.2.2.2.2.1
theorem k0_off835_wordsbf16 : ∀ (v3763 : BitVec 32) (k0_hw99 : k0_chk99 v3763), (Rect.unit (s := S2x4096x512) (k0_off835 v3763) S1x128x256.size (k0_off835_inb v3763 k0_hw99)).WholeWords (EltTy.packing .bf16) := fun v3763 k0_hw99 => k0_hw99.2.2.2.2.2 (k0_off835_inb v3763 k0_hw99)

def k0_off836 (v4175 : BitVec 32) : Fin 3 → Nat :=
  let c0_i32_6373 : BitVec 32 := 0#32
  let c128_i32_3797 : BitVec 32 := 128#32
  let v4176 : BitVec 32 := Scalar.muli v4175 c128_i32_3797
  let c0_i32_6381 : BitVec 32 := 0#32
  ![0, v4176.toNat, 0]

def k0_chk104 (v4175 : BitVec 32) : Prop :=
  (∀ a, (k0_off525 v4175) a + S1x128x256.size a ≤ S2x4096x512.size a) ∧
  (∀ (hinb : ∀ a, (k0_off525 v4175) a + S1x128x256.size a ≤ S2x4096x512.size a), (Rect.unit (s := S2x4096x512) (k0_off525 v4175) S1x128x256.size hinb).WholeWords (EltTy.packing .bf16)) ∧
  (∀ a, (k0_off620 v4175) a + S1x128x256.size a ≤ S2x4096x512.size a) ∧
  (∀ (hinb : ∀ a, (k0_off620 v4175) a + S1x128x256.size a ≤ S2x4096x512.size a), (Rect.unit (s := S2x4096x512) (k0_off620 v4175) S1x128x256.size hinb).WholeWords (EltTy.packing .bf16)) ∧
  (∀ a, (k0_off836 v4175) a + S1x128x256.size a ≤ S2x4096x512.size a) ∧
  (∀ (hinb : ∀ a, (k0_off836 v4175) a + S1x128x256.size a ≤ S2x4096x512.size a), (Rect.unit (s := S2x4096x512) (k0_off836 v4175) S1x128x256.size hinb).WholeWords (EltTy.packing .bf16))
theorem k0_off525_inb : ∀ (v4175 : BitVec 32) (k0_hw104 : k0_chk104 v4175), ∀ a, (k0_off525 v4175) a + S1x128x256.size a ≤ S2x4096x512.size a := fun v4175 k0_hw104 => k0_hw104.1
theorem k0_off525_wordsbf16 : ∀ (v4175 : BitVec 32) (k0_hw104 : k0_chk104 v4175), (Rect.unit (s := S2x4096x512) (k0_off525 v4175) S1x128x256.size (k0_off525_inb v4175 k0_hw104)).WholeWords (EltTy.packing .bf16) := fun v4175 k0_hw104 => k0_hw104.2.1 (k0_off525_inb v4175 k0_hw104)
theorem k0_off620_inb : ∀ (v4175 : BitVec 32) (k0_hw104 : k0_chk104 v4175), ∀ a, (k0_off620 v4175) a + S1x128x256.size a ≤ S2x4096x512.size a := fun v4175 k0_hw104 => k0_hw104.2.2.1
theorem k0_off620_wordsbf16 : ∀ (v4175 : BitVec 32) (k0_hw104 : k0_chk104 v4175), (Rect.unit (s := S2x4096x512) (k0_off620 v4175) S1x128x256.size (k0_off620_inb v4175 k0_hw104)).WholeWords (EltTy.packing .bf16) := fun v4175 k0_hw104 => k0_hw104.2.2.2.1 (k0_off620_inb v4175 k0_hw104)
theorem k0_off836_inb : ∀ (v4175 : BitVec 32) (k0_hw104 : k0_chk104 v4175), ∀ a, (k0_off836 v4175) a + S1x128x256.size a ≤ S2x4096x512.size a := fun v4175 k0_hw104 => k0_hw104.2.2.2.2.1
theorem k0_off836_wordsbf16 : ∀ (v4175 : BitVec 32) (k0_hw104 : k0_chk104 v4175), (Rect.unit (s := S2x4096x512) (k0_off836 v4175) S1x128x256.size (k0_off836_inb v4175 k0_hw104)).WholeWords (EltTy.packing .bf16) := fun v4175 k0_hw104 => k0_hw104.2.2.2.2.2 (k0_off836_inb v4175 k0_hw104)

def k0_off837 (v4195 : BitVec 32) : Fin 3 → Nat :=
  let c0_i32_6384 : BitVec 32 := 0#32
  let c128_i32_3823 : BitVec 32 := 128#32
  let v4196 : BitVec 32 := Scalar.muli v4195 c128_i32_3823
  let c256_i32_6392 : BitVec 32 := 256#32
  ![0, v4196.toNat, 256]

def k0_chk105 (v4195 : BitVec 32) : Prop :=
  (∀ a, (k0_off527 v4195) a + S1x128x256.size a ≤ S2x4096x512.size a) ∧
  (∀ (hinb : ∀ a, (k0_off527 v4195) a + S1x128x256.size a ≤ S2x4096x512.size a), (Rect.unit (s := S2x4096x512) (k0_off527 v4195) S1x128x256.size hinb).WholeWords (EltTy.packing .bf16)) ∧
  (∀ a, (k0_off622 v4195) a + S1x128x256.size a ≤ S2x4096x512.size a) ∧
  (∀ (hinb : ∀ a, (k0_off622 v4195) a + S1x128x256.size a ≤ S2x4096x512.size a), (Rect.unit (s := S2x4096x512) (k0_off622 v4195) S1x128x256.size hinb).WholeWords (EltTy.packing .bf16)) ∧
  (∀ a, (k0_off837 v4195) a + S1x128x256.size a ≤ S2x4096x512.size a) ∧
  (∀ (hinb : ∀ a, (k0_off837 v4195) a + S1x128x256.size a ≤ S2x4096x512.size a), (Rect.unit (s := S2x4096x512) (k0_off837 v4195) S1x128x256.size hinb).WholeWords (EltTy.packing .bf16))
theorem k0_off527_inb : ∀ (v4195 : BitVec 32) (k0_hw105 : k0_chk105 v4195), ∀ a, (k0_off527 v4195) a + S1x128x256.size a ≤ S2x4096x512.size a := fun v4195 k0_hw105 => k0_hw105.1
theorem k0_off527_wordsbf16 : ∀ (v4195 : BitVec 32) (k0_hw105 : k0_chk105 v4195), (Rect.unit (s := S2x4096x512) (k0_off527 v4195) S1x128x256.size (k0_off527_inb v4195 k0_hw105)).WholeWords (EltTy.packing .bf16) := fun v4195 k0_hw105 => k0_hw105.2.1 (k0_off527_inb v4195 k0_hw105)
theorem k0_off622_inb : ∀ (v4195 : BitVec 32) (k0_hw105 : k0_chk105 v4195), ∀ a, (k0_off622 v4195) a + S1x128x256.size a ≤ S2x4096x512.size a := fun v4195 k0_hw105 => k0_hw105.2.2.1
theorem k0_off622_wordsbf16 : ∀ (v4195 : BitVec 32) (k0_hw105 : k0_chk105 v4195), (Rect.unit (s := S2x4096x512) (k0_off622 v4195) S1x128x256.size (k0_off622_inb v4195 k0_hw105)).WholeWords (EltTy.packing .bf16) := fun v4195 k0_hw105 => k0_hw105.2.2.2.1 (k0_off622_inb v4195 k0_hw105)
theorem k0_off837_inb : ∀ (v4195 : BitVec 32) (k0_hw105 : k0_chk105 v4195), ∀ a, (k0_off837 v4195) a + S1x128x256.size a ≤ S2x4096x512.size a := fun v4195 k0_hw105 => k0_hw105.2.2.2.2.1
theorem k0_off837_wordsbf16 : ∀ (v4195 : BitVec 32) (k0_hw105 : k0_chk105 v4195), (Rect.unit (s := S2x4096x512) (k0_off837 v4195) S1x128x256.size (k0_off837_inb v4195 k0_hw105)).WholeWords (EltTy.packing .bf16) := fun v4195 k0_hw105 => k0_hw105.2.2.2.2.2 (k0_off837_inb v4195 k0_hw105)

def k0_off838 (v4215 : BitVec 32) : Fin 3 → Nat :=
  let c0_i32_6395 : BitVec 32 := 0#32
  let c128_i32_3850 : BitVec 32 := 128#32
  let v4216 : BitVec 32 := Scalar.muli v4215 c128_i32_3850
  let c0_i32_6403 : BitVec 32 := 0#32
  ![0, v4216.toNat, 0]

def k0_chk106 (v4215 : BitVec 32) : Prop :=
  (∀ a, (k0_off529 v4215) a + S1x128x256.size a ≤ S2x4096x512.size a) ∧
  (∀ (hinb : ∀ a, (k0_off529 v4215) a + S1x128x256.size a ≤ S2x4096x512.size a), (Rect.unit (s := S2x4096x512) (k0_off529 v4215) S1x128x256.size hinb).WholeWords (EltTy.packing .bf16)) ∧
  (∀ a, (k0_off624 v4215) a + S1x128x256.size a ≤ S2x4096x512.size a) ∧
  (∀ (hinb : ∀ a, (k0_off624 v4215) a + S1x128x256.size a ≤ S2x4096x512.size a), (Rect.unit (s := S2x4096x512) (k0_off624 v4215) S1x128x256.size hinb).WholeWords (EltTy.packing .bf16)) ∧
  (∀ a, (k0_off838 v4215) a + S1x128x256.size a ≤ S2x4096x512.size a) ∧
  (∀ (hinb : ∀ a, (k0_off838 v4215) a + S1x128x256.size a ≤ S2x4096x512.size a), (Rect.unit (s := S2x4096x512) (k0_off838 v4215) S1x128x256.size hinb).WholeWords (EltTy.packing .bf16))
theorem k0_off529_inb : ∀ (v4215 : BitVec 32) (k0_hw106 : k0_chk106 v4215), ∀ a, (k0_off529 v4215) a + S1x128x256.size a ≤ S2x4096x512.size a := fun v4215 k0_hw106 => k0_hw106.1
theorem k0_off529_wordsbf16 : ∀ (v4215 : BitVec 32) (k0_hw106 : k0_chk106 v4215), (Rect.unit (s := S2x4096x512) (k0_off529 v4215) S1x128x256.size (k0_off529_inb v4215 k0_hw106)).WholeWords (EltTy.packing .bf16) := fun v4215 k0_hw106 => k0_hw106.2.1 (k0_off529_inb v4215 k0_hw106)
theorem k0_off624_inb : ∀ (v4215 : BitVec 32) (k0_hw106 : k0_chk106 v4215), ∀ a, (k0_off624 v4215) a + S1x128x256.size a ≤ S2x4096x512.size a := fun v4215 k0_hw106 => k0_hw106.2.2.1
theorem k0_off624_wordsbf16 : ∀ (v4215 : BitVec 32) (k0_hw106 : k0_chk106 v4215), (Rect.unit (s := S2x4096x512) (k0_off624 v4215) S1x128x256.size (k0_off624_inb v4215 k0_hw106)).WholeWords (EltTy.packing .bf16) := fun v4215 k0_hw106 => k0_hw106.2.2.2.1 (k0_off624_inb v4215 k0_hw106)
theorem k0_off838_inb : ∀ (v4215 : BitVec 32) (k0_hw106 : k0_chk106 v4215), ∀ a, (k0_off838 v4215) a + S1x128x256.size a ≤ S2x4096x512.size a := fun v4215 k0_hw106 => k0_hw106.2.2.2.2.1
theorem k0_off838_wordsbf16 : ∀ (v4215 : BitVec 32) (k0_hw106 : k0_chk106 v4215), (Rect.unit (s := S2x4096x512) (k0_off838 v4215) S1x128x256.size (k0_off838_inb v4215 k0_hw106)).WholeWords (EltTy.packing .bf16) := fun v4215 k0_hw106 => k0_hw106.2.2.2.2.2 (k0_off838_inb v4215 k0_hw106)

def k0_off839 (v4235 : BitVec 32) : Fin 3 → Nat :=
  let c0_i32_6406 : BitVec 32 := 0#32
  let c128_i32_3877 : BitVec 32 := 128#32
  let v4236 : BitVec 32 := Scalar.muli v4235 c128_i32_3877
  let c256_i32_6414 : BitVec 32 := 256#32
  ![0, v4236.toNat, 256]

def k0_chk107 (v4235 : BitVec 32) : Prop :=
  (∀ a, (k0_off531 v4235) a + S1x128x256.size a ≤ S2x4096x512.size a) ∧
  (∀ (hinb : ∀ a, (k0_off531 v4235) a + S1x128x256.size a ≤ S2x4096x512.size a), (Rect.unit (s := S2x4096x512) (k0_off531 v4235) S1x128x256.size hinb).WholeWords (EltTy.packing .bf16)) ∧
  (∀ a, (k0_off626 v4235) a + S1x128x256.size a ≤ S2x4096x512.size a) ∧
  (∀ (hinb : ∀ a, (k0_off626 v4235) a + S1x128x256.size a ≤ S2x4096x512.size a), (Rect.unit (s := S2x4096x512) (k0_off626 v4235) S1x128x256.size hinb).WholeWords (EltTy.packing .bf16)) ∧
  (∀ a, (k0_off839 v4235) a + S1x128x256.size a ≤ S2x4096x512.size a) ∧
  (∀ (hinb : ∀ a, (k0_off839 v4235) a + S1x128x256.size a ≤ S2x4096x512.size a), (Rect.unit (s := S2x4096x512) (k0_off839 v4235) S1x128x256.size hinb).WholeWords (EltTy.packing .bf16))
theorem k0_off531_inb : ∀ (v4235 : BitVec 32) (k0_hw107 : k0_chk107 v4235), ∀ a, (k0_off531 v4235) a + S1x128x256.size a ≤ S2x4096x512.size a := fun v4235 k0_hw107 => k0_hw107.1
theorem k0_off531_wordsbf16 : ∀ (v4235 : BitVec 32) (k0_hw107 : k0_chk107 v4235), (Rect.unit (s := S2x4096x512) (k0_off531 v4235) S1x128x256.size (k0_off531_inb v4235 k0_hw107)).WholeWords (EltTy.packing .bf16) := fun v4235 k0_hw107 => k0_hw107.2.1 (k0_off531_inb v4235 k0_hw107)
theorem k0_off626_inb : ∀ (v4235 : BitVec 32) (k0_hw107 : k0_chk107 v4235), ∀ a, (k0_off626 v4235) a + S1x128x256.size a ≤ S2x4096x512.size a := fun v4235 k0_hw107 => k0_hw107.2.2.1
theorem k0_off626_wordsbf16 : ∀ (v4235 : BitVec 32) (k0_hw107 : k0_chk107 v4235), (Rect.unit (s := S2x4096x512) (k0_off626 v4235) S1x128x256.size (k0_off626_inb v4235 k0_hw107)).WholeWords (EltTy.packing .bf16) := fun v4235 k0_hw107 => k0_hw107.2.2.2.1 (k0_off626_inb v4235 k0_hw107)
theorem k0_off839_inb : ∀ (v4235 : BitVec 32) (k0_hw107 : k0_chk107 v4235), ∀ a, (k0_off839 v4235) a + S1x128x256.size a ≤ S2x4096x512.size a := fun v4235 k0_hw107 => k0_hw107.2.2.2.2.1
theorem k0_off839_wordsbf16 : ∀ (v4235 : BitVec 32) (k0_hw107 : k0_chk107 v4235), (Rect.unit (s := S2x4096x512) (k0_off839 v4235) S1x128x256.size (k0_off839_inb v4235 k0_hw107)).WholeWords (EltTy.packing .bf16) := fun v4235 k0_hw107 => k0_hw107.2.2.2.2.2 (k0_off839_inb v4235 k0_hw107)

def k0_off840 (v4255 : BitVec 32) : Fin 3 → Nat :=
  let c1_i32_6417 : BitVec 32 := 1#32
  let c128_i32_3904 : BitVec 32 := 128#32
  let v4256 : BitVec 32 := Scalar.muli v4255 c128_i32_3904
  let c0_i32_6425 : BitVec 32 := 0#32
  ![1, v4256.toNat, 0]

def k0_chk108 (v4255 : BitVec 32) : Prop :=
  (∀ a, (k0_off533 v4255) a + S1x128x256.size a ≤ S2x4096x512.size a) ∧
  (∀ (hinb : ∀ a, (k0_off533 v4255) a + S1x128x256.size a ≤ S2x4096x512.size a), (Rect.unit (s := S2x4096x512) (k0_off533 v4255) S1x128x256.size hinb).WholeWords (EltTy.packing .bf16)) ∧
  (∀ a, (k0_off628 v4255) a + S1x128x256.size a ≤ S2x4096x512.size a) ∧
  (∀ (hinb : ∀ a, (k0_off628 v4255) a + S1x128x256.size a ≤ S2x4096x512.size a), (Rect.unit (s := S2x4096x512) (k0_off628 v4255) S1x128x256.size hinb).WholeWords (EltTy.packing .bf16)) ∧
  (∀ a, (k0_off840 v4255) a + S1x128x256.size a ≤ S2x4096x512.size a) ∧
  (∀ (hinb : ∀ a, (k0_off840 v4255) a + S1x128x256.size a ≤ S2x4096x512.size a), (Rect.unit (s := S2x4096x512) (k0_off840 v4255) S1x128x256.size hinb).WholeWords (EltTy.packing .bf16))
theorem k0_off533_inb : ∀ (v4255 : BitVec 32) (k0_hw108 : k0_chk108 v4255), ∀ a, (k0_off533 v4255) a + S1x128x256.size a ≤ S2x4096x512.size a := fun v4255 k0_hw108 => k0_hw108.1
theorem k0_off533_wordsbf16 : ∀ (v4255 : BitVec 32) (k0_hw108 : k0_chk108 v4255), (Rect.unit (s := S2x4096x512) (k0_off533 v4255) S1x128x256.size (k0_off533_inb v4255 k0_hw108)).WholeWords (EltTy.packing .bf16) := fun v4255 k0_hw108 => k0_hw108.2.1 (k0_off533_inb v4255 k0_hw108)
theorem k0_off628_inb : ∀ (v4255 : BitVec 32) (k0_hw108 : k0_chk108 v4255), ∀ a, (k0_off628 v4255) a + S1x128x256.size a ≤ S2x4096x512.size a := fun v4255 k0_hw108 => k0_hw108.2.2.1
theorem k0_off628_wordsbf16 : ∀ (v4255 : BitVec 32) (k0_hw108 : k0_chk108 v4255), (Rect.unit (s := S2x4096x512) (k0_off628 v4255) S1x128x256.size (k0_off628_inb v4255 k0_hw108)).WholeWords (EltTy.packing .bf16) := fun v4255 k0_hw108 => k0_hw108.2.2.2.1 (k0_off628_inb v4255 k0_hw108)
theorem k0_off840_inb : ∀ (v4255 : BitVec 32) (k0_hw108 : k0_chk108 v4255), ∀ a, (k0_off840 v4255) a + S1x128x256.size a ≤ S2x4096x512.size a := fun v4255 k0_hw108 => k0_hw108.2.2.2.2.1
theorem k0_off840_wordsbf16 : ∀ (v4255 : BitVec 32) (k0_hw108 : k0_chk108 v4255), (Rect.unit (s := S2x4096x512) (k0_off840 v4255) S1x128x256.size (k0_off840_inb v4255 k0_hw108)).WholeWords (EltTy.packing .bf16) := fun v4255 k0_hw108 => k0_hw108.2.2.2.2.2 (k0_off840_inb v4255 k0_hw108)

def k0_off841 (v4275 : BitVec 32) : Fin 3 → Nat :=
  let c1_i32_6428 : BitVec 32 := 1#32
  let c128_i32_3931 : BitVec 32 := 128#32
  let v4276 : BitVec 32 := Scalar.muli v4275 c128_i32_3931
  let c256_i32_6436 : BitVec 32 := 256#32
  ![1, v4276.toNat, 256]

def k0_chk109 (v4275 : BitVec 32) : Prop :=
  (∀ a, (k0_off535 v4275) a + S1x128x256.size a ≤ S2x4096x512.size a) ∧
  (∀ (hinb : ∀ a, (k0_off535 v4275) a + S1x128x256.size a ≤ S2x4096x512.size a), (Rect.unit (s := S2x4096x512) (k0_off535 v4275) S1x128x256.size hinb).WholeWords (EltTy.packing .bf16)) ∧
  (∀ a, (k0_off630 v4275) a + S1x128x256.size a ≤ S2x4096x512.size a) ∧
  (∀ (hinb : ∀ a, (k0_off630 v4275) a + S1x128x256.size a ≤ S2x4096x512.size a), (Rect.unit (s := S2x4096x512) (k0_off630 v4275) S1x128x256.size hinb).WholeWords (EltTy.packing .bf16)) ∧
  (∀ a, (k0_off841 v4275) a + S1x128x256.size a ≤ S2x4096x512.size a) ∧
  (∀ (hinb : ∀ a, (k0_off841 v4275) a + S1x128x256.size a ≤ S2x4096x512.size a), (Rect.unit (s := S2x4096x512) (k0_off841 v4275) S1x128x256.size hinb).WholeWords (EltTy.packing .bf16))
theorem k0_off535_inb : ∀ (v4275 : BitVec 32) (k0_hw109 : k0_chk109 v4275), ∀ a, (k0_off535 v4275) a + S1x128x256.size a ≤ S2x4096x512.size a := fun v4275 k0_hw109 => k0_hw109.1
theorem k0_off535_wordsbf16 : ∀ (v4275 : BitVec 32) (k0_hw109 : k0_chk109 v4275), (Rect.unit (s := S2x4096x512) (k0_off535 v4275) S1x128x256.size (k0_off535_inb v4275 k0_hw109)).WholeWords (EltTy.packing .bf16) := fun v4275 k0_hw109 => k0_hw109.2.1 (k0_off535_inb v4275 k0_hw109)
theorem k0_off630_inb : ∀ (v4275 : BitVec 32) (k0_hw109 : k0_chk109 v4275), ∀ a, (k0_off630 v4275) a + S1x128x256.size a ≤ S2x4096x512.size a := fun v4275 k0_hw109 => k0_hw109.2.2.1
theorem k0_off630_wordsbf16 : ∀ (v4275 : BitVec 32) (k0_hw109 : k0_chk109 v4275), (Rect.unit (s := S2x4096x512) (k0_off630 v4275) S1x128x256.size (k0_off630_inb v4275 k0_hw109)).WholeWords (EltTy.packing .bf16) := fun v4275 k0_hw109 => k0_hw109.2.2.2.1 (k0_off630_inb v4275 k0_hw109)
theorem k0_off841_inb : ∀ (v4275 : BitVec 32) (k0_hw109 : k0_chk109 v4275), ∀ a, (k0_off841 v4275) a + S1x128x256.size a ≤ S2x4096x512.size a := fun v4275 k0_hw109 => k0_hw109.2.2.2.2.1
theorem k0_off841_wordsbf16 : ∀ (v4275 : BitVec 32) (k0_hw109 : k0_chk109 v4275), (Rect.unit (s := S2x4096x512) (k0_off841 v4275) S1x128x256.size (k0_off841_inb v4275 k0_hw109)).WholeWords (EltTy.packing .bf16) := fun v4275 k0_hw109 => k0_hw109.2.2.2.2.2 (k0_off841_inb v4275 k0_hw109)

def k0_off842 (v4295 : BitVec 32) : Fin 3 → Nat :=
  let c1_i32_6439 : BitVec 32 := 1#32
  let c128_i32_3958 : BitVec 32 := 128#32
  let v4296 : BitVec 32 := Scalar.muli v4295 c128_i32_3958
  let c0_i32_6447 : BitVec 32 := 0#32
  ![1, v4296.toNat, 0]

def k0_chk110 (v4295 : BitVec 32) : Prop :=
  (∀ a, (k0_off537 v4295) a + S1x128x256.size a ≤ S2x4096x512.size a) ∧
  (∀ (hinb : ∀ a, (k0_off537 v4295) a + S1x128x256.size a ≤ S2x4096x512.size a), (Rect.unit (s := S2x4096x512) (k0_off537 v4295) S1x128x256.size hinb).WholeWords (EltTy.packing .bf16)) ∧
  (∀ a, (k0_off632 v4295) a + S1x128x256.size a ≤ S2x4096x512.size a) ∧
  (∀ (hinb : ∀ a, (k0_off632 v4295) a + S1x128x256.size a ≤ S2x4096x512.size a), (Rect.unit (s := S2x4096x512) (k0_off632 v4295) S1x128x256.size hinb).WholeWords (EltTy.packing .bf16)) ∧
  (∀ a, (k0_off842 v4295) a + S1x128x256.size a ≤ S2x4096x512.size a) ∧
  (∀ (hinb : ∀ a, (k0_off842 v4295) a + S1x128x256.size a ≤ S2x4096x512.size a), (Rect.unit (s := S2x4096x512) (k0_off842 v4295) S1x128x256.size hinb).WholeWords (EltTy.packing .bf16))
theorem k0_off537_inb : ∀ (v4295 : BitVec 32) (k0_hw110 : k0_chk110 v4295), ∀ a, (k0_off537 v4295) a + S1x128x256.size a ≤ S2x4096x512.size a := fun v4295 k0_hw110 => k0_hw110.1
theorem k0_off537_wordsbf16 : ∀ (v4295 : BitVec 32) (k0_hw110 : k0_chk110 v4295), (Rect.unit (s := S2x4096x512) (k0_off537 v4295) S1x128x256.size (k0_off537_inb v4295 k0_hw110)).WholeWords (EltTy.packing .bf16) := fun v4295 k0_hw110 => k0_hw110.2.1 (k0_off537_inb v4295 k0_hw110)
theorem k0_off632_inb : ∀ (v4295 : BitVec 32) (k0_hw110 : k0_chk110 v4295), ∀ a, (k0_off632 v4295) a + S1x128x256.size a ≤ S2x4096x512.size a := fun v4295 k0_hw110 => k0_hw110.2.2.1
theorem k0_off632_wordsbf16 : ∀ (v4295 : BitVec 32) (k0_hw110 : k0_chk110 v4295), (Rect.unit (s := S2x4096x512) (k0_off632 v4295) S1x128x256.size (k0_off632_inb v4295 k0_hw110)).WholeWords (EltTy.packing .bf16) := fun v4295 k0_hw110 => k0_hw110.2.2.2.1 (k0_off632_inb v4295 k0_hw110)
theorem k0_off842_inb : ∀ (v4295 : BitVec 32) (k0_hw110 : k0_chk110 v4295), ∀ a, (k0_off842 v4295) a + S1x128x256.size a ≤ S2x4096x512.size a := fun v4295 k0_hw110 => k0_hw110.2.2.2.2.1
theorem k0_off842_wordsbf16 : ∀ (v4295 : BitVec 32) (k0_hw110 : k0_chk110 v4295), (Rect.unit (s := S2x4096x512) (k0_off842 v4295) S1x128x256.size (k0_off842_inb v4295 k0_hw110)).WholeWords (EltTy.packing .bf16) := fun v4295 k0_hw110 => k0_hw110.2.2.2.2.2 (k0_off842_inb v4295 k0_hw110)

def k0_off843 (v4315 : BitVec 32) : Fin 3 → Nat :=
  let c1_i32_6450 : BitVec 32 := 1#32
  let c128_i32_3985 : BitVec 32 := 128#32
  let v4316 : BitVec 32 := Scalar.muli v4315 c128_i32_3985
  let c256_i32_6458 : BitVec 32 := 256#32
  ![1, v4316.toNat, 256]

def k0_chk111 (v4315 : BitVec 32) : Prop :=
  (∀ a, (k0_off539 v4315) a + S1x128x256.size a ≤ S2x4096x512.size a) ∧
  (∀ (hinb : ∀ a, (k0_off539 v4315) a + S1x128x256.size a ≤ S2x4096x512.size a), (Rect.unit (s := S2x4096x512) (k0_off539 v4315) S1x128x256.size hinb).WholeWords (EltTy.packing .bf16)) ∧
  (∀ a, (k0_off634 v4315) a + S1x128x256.size a ≤ S2x4096x512.size a) ∧
  (∀ (hinb : ∀ a, (k0_off634 v4315) a + S1x128x256.size a ≤ S2x4096x512.size a), (Rect.unit (s := S2x4096x512) (k0_off634 v4315) S1x128x256.size hinb).WholeWords (EltTy.packing .bf16)) ∧
  (∀ a, (k0_off843 v4315) a + S1x128x256.size a ≤ S2x4096x512.size a) ∧
  (∀ (hinb : ∀ a, (k0_off843 v4315) a + S1x128x256.size a ≤ S2x4096x512.size a), (Rect.unit (s := S2x4096x512) (k0_off843 v4315) S1x128x256.size hinb).WholeWords (EltTy.packing .bf16))
theorem k0_off539_inb : ∀ (v4315 : BitVec 32) (k0_hw111 : k0_chk111 v4315), ∀ a, (k0_off539 v4315) a + S1x128x256.size a ≤ S2x4096x512.size a := fun v4315 k0_hw111 => k0_hw111.1
theorem k0_off539_wordsbf16 : ∀ (v4315 : BitVec 32) (k0_hw111 : k0_chk111 v4315), (Rect.unit (s := S2x4096x512) (k0_off539 v4315) S1x128x256.size (k0_off539_inb v4315 k0_hw111)).WholeWords (EltTy.packing .bf16) := fun v4315 k0_hw111 => k0_hw111.2.1 (k0_off539_inb v4315 k0_hw111)
theorem k0_off634_inb : ∀ (v4315 : BitVec 32) (k0_hw111 : k0_chk111 v4315), ∀ a, (k0_off634 v4315) a + S1x128x256.size a ≤ S2x4096x512.size a := fun v4315 k0_hw111 => k0_hw111.2.2.1
theorem k0_off634_wordsbf16 : ∀ (v4315 : BitVec 32) (k0_hw111 : k0_chk111 v4315), (Rect.unit (s := S2x4096x512) (k0_off634 v4315) S1x128x256.size (k0_off634_inb v4315 k0_hw111)).WholeWords (EltTy.packing .bf16) := fun v4315 k0_hw111 => k0_hw111.2.2.2.1 (k0_off634_inb v4315 k0_hw111)
theorem k0_off843_inb : ∀ (v4315 : BitVec 32) (k0_hw111 : k0_chk111 v4315), ∀ a, (k0_off843 v4315) a + S1x128x256.size a ≤ S2x4096x512.size a := fun v4315 k0_hw111 => k0_hw111.2.2.2.2.1
theorem k0_off843_wordsbf16 : ∀ (v4315 : BitVec 32) (k0_hw111 : k0_chk111 v4315), (Rect.unit (s := S2x4096x512) (k0_off843 v4315) S1x128x256.size (k0_off843_inb v4315 k0_hw111)).WholeWords (EltTy.packing .bf16) := fun v4315 k0_hw111 => k0_hw111.2.2.2.2.2 (k0_off843_inb v4315 k0_hw111)

def k0_off844 (v4335 : BitVec 32) : Fin 3 → Nat :=
  let c0_i32_6461 : BitVec 32 := 0#32
  let c128_i32_4012 : BitVec 32 := 128#32
  let v4336 : BitVec 32 := Scalar.muli v4335 c128_i32_4012
  let c0_i32_6469 : BitVec 32 := 0#32
  ![0, v4336.toNat, 0]

def k0_chk112 (v4335 : BitVec 32) : Prop :=
  (∀ a, (k0_off541 v4335) a + S1x128x256.size a ≤ S2x4096x512.size a) ∧
  (∀ (hinb : ∀ a, (k0_off541 v4335) a + S1x128x256.size a ≤ S2x4096x512.size a), (Rect.unit (s := S2x4096x512) (k0_off541 v4335) S1x128x256.size hinb).WholeWords (EltTy.packing .bf16)) ∧
  (∀ a, (k0_off636 v4335) a + S1x128x256.size a ≤ S2x4096x512.size a) ∧
  (∀ (hinb : ∀ a, (k0_off636 v4335) a + S1x128x256.size a ≤ S2x4096x512.size a), (Rect.unit (s := S2x4096x512) (k0_off636 v4335) S1x128x256.size hinb).WholeWords (EltTy.packing .bf16)) ∧
  (∀ a, (k0_off844 v4335) a + S1x128x256.size a ≤ S2x4096x512.size a) ∧
  (∀ (hinb : ∀ a, (k0_off844 v4335) a + S1x128x256.size a ≤ S2x4096x512.size a), (Rect.unit (s := S2x4096x512) (k0_off844 v4335) S1x128x256.size hinb).WholeWords (EltTy.packing .bf16))
theorem k0_off541_inb : ∀ (v4335 : BitVec 32) (k0_hw112 : k0_chk112 v4335), ∀ a, (k0_off541 v4335) a + S1x128x256.size a ≤ S2x4096x512.size a := fun v4335 k0_hw112 => k0_hw112.1
theorem k0_off541_wordsbf16 : ∀ (v4335 : BitVec 32) (k0_hw112 : k0_chk112 v4335), (Rect.unit (s := S2x4096x512) (k0_off541 v4335) S1x128x256.size (k0_off541_inb v4335 k0_hw112)).WholeWords (EltTy.packing .bf16) := fun v4335 k0_hw112 => k0_hw112.2.1 (k0_off541_inb v4335 k0_hw112)
theorem k0_off636_inb : ∀ (v4335 : BitVec 32) (k0_hw112 : k0_chk112 v4335), ∀ a, (k0_off636 v4335) a + S1x128x256.size a ≤ S2x4096x512.size a := fun v4335 k0_hw112 => k0_hw112.2.2.1
theorem k0_off636_wordsbf16 : ∀ (v4335 : BitVec 32) (k0_hw112 : k0_chk112 v4335), (Rect.unit (s := S2x4096x512) (k0_off636 v4335) S1x128x256.size (k0_off636_inb v4335 k0_hw112)).WholeWords (EltTy.packing .bf16) := fun v4335 k0_hw112 => k0_hw112.2.2.2.1 (k0_off636_inb v4335 k0_hw112)
theorem k0_off844_inb : ∀ (v4335 : BitVec 32) (k0_hw112 : k0_chk112 v4335), ∀ a, (k0_off844 v4335) a + S1x128x256.size a ≤ S2x4096x512.size a := fun v4335 k0_hw112 => k0_hw112.2.2.2.2.1
theorem k0_off844_wordsbf16 : ∀ (v4335 : BitVec 32) (k0_hw112 : k0_chk112 v4335), (Rect.unit (s := S2x4096x512) (k0_off844 v4335) S1x128x256.size (k0_off844_inb v4335 k0_hw112)).WholeWords (EltTy.packing .bf16) := fun v4335 k0_hw112 => k0_hw112.2.2.2.2.2 (k0_off844_inb v4335 k0_hw112)

def k0_off845 (v4355 : BitVec 32) : Fin 3 → Nat :=
  let c0_i32_6472 : BitVec 32 := 0#32
  let c128_i32_4039 : BitVec 32 := 128#32
  let v4356 : BitVec 32 := Scalar.muli v4355 c128_i32_4039
  let c256_i32_6480 : BitVec 32 := 256#32
  ![0, v4356.toNat, 256]

def k0_chk113 (v4355 : BitVec 32) : Prop :=
  (∀ a, (k0_off543 v4355) a + S1x128x256.size a ≤ S2x4096x512.size a) ∧
  (∀ (hinb : ∀ a, (k0_off543 v4355) a + S1x128x256.size a ≤ S2x4096x512.size a), (Rect.unit (s := S2x4096x512) (k0_off543 v4355) S1x128x256.size hinb).WholeWords (EltTy.packing .bf16)) ∧
  (∀ a, (k0_off637 v4355) a + S1x128x256.size a ≤ S2x4096x512.size a) ∧
  (∀ (hinb : ∀ a, (k0_off637 v4355) a + S1x128x256.size a ≤ S2x4096x512.size a), (Rect.unit (s := S2x4096x512) (k0_off637 v4355) S1x128x256.size hinb).WholeWords (EltTy.packing .bf16)) ∧
  (∀ a, (k0_off845 v4355) a + S1x128x256.size a ≤ S2x4096x512.size a) ∧
  (∀ (hinb : ∀ a, (k0_off845 v4355) a + S1x128x256.size a ≤ S2x4096x512.size a), (Rect.unit (s := S2x4096x512) (k0_off845 v4355) S1x128x256.size hinb).WholeWords (EltTy.packing .bf16))
theorem k0_off543_inb : ∀ (v4355 : BitVec 32) (k0_hw113 : k0_chk113 v4355), ∀ a, (k0_off543 v4355) a + S1x128x256.size a ≤ S2x4096x512.size a := fun v4355 k0_hw113 => k0_hw113.1
theorem k0_off543_wordsbf16 : ∀ (v4355 : BitVec 32) (k0_hw113 : k0_chk113 v4355), (Rect.unit (s := S2x4096x512) (k0_off543 v4355) S1x128x256.size (k0_off543_inb v4355 k0_hw113)).WholeWords (EltTy.packing .bf16) := fun v4355 k0_hw113 => k0_hw113.2.1 (k0_off543_inb v4355 k0_hw113)
theorem k0_off637_inb : ∀ (v4355 : BitVec 32) (k0_hw113 : k0_chk113 v4355), ∀ a, (k0_off637 v4355) a + S1x128x256.size a ≤ S2x4096x512.size a := fun v4355 k0_hw113 => k0_hw113.2.2.1
theorem k0_off637_wordsbf16 : ∀ (v4355 : BitVec 32) (k0_hw113 : k0_chk113 v4355), (Rect.unit (s := S2x4096x512) (k0_off637 v4355) S1x128x256.size (k0_off637_inb v4355 k0_hw113)).WholeWords (EltTy.packing .bf16) := fun v4355 k0_hw113 => k0_hw113.2.2.2.1 (k0_off637_inb v4355 k0_hw113)
theorem k0_off845_inb : ∀ (v4355 : BitVec 32) (k0_hw113 : k0_chk113 v4355), ∀ a, (k0_off845 v4355) a + S1x128x256.size a ≤ S2x4096x512.size a := fun v4355 k0_hw113 => k0_hw113.2.2.2.2.1
theorem k0_off845_wordsbf16 : ∀ (v4355 : BitVec 32) (k0_hw113 : k0_chk113 v4355), (Rect.unit (s := S2x4096x512) (k0_off845 v4355) S1x128x256.size (k0_off845_inb v4355 k0_hw113)).WholeWords (EltTy.packing .bf16) := fun v4355 k0_hw113 => k0_hw113.2.2.2.2.2 (k0_off845_inb v4355 k0_hw113)

def k0_off846 (v4375 : BitVec 32) : Fin 3 → Nat :=
  let c0_i32_6483 : BitVec 32 := 0#32
  let c128_i32_4066 : BitVec 32 := 128#32
  let v4376 : BitVec 32 := Scalar.muli v4375 c128_i32_4066
  let c0_i32_6491 : BitVec 32 := 0#32
  ![0, v4376.toNat, 0]

def k0_chk114 (v4375 : BitVec 32) : Prop :=
  (∀ a, (k0_off545 v4375) a + S1x128x256.size a ≤ S2x4096x512.size a) ∧
  (∀ (hinb : ∀ a, (k0_off545 v4375) a + S1x128x256.size a ≤ S2x4096x512.size a), (Rect.unit (s := S2x4096x512) (k0_off545 v4375) S1x128x256.size hinb).WholeWords (EltTy.packing .bf16)) ∧
  (∀ a, (k0_off638 v4375) a + S1x128x256.size a ≤ S2x4096x512.size a) ∧
  (∀ (hinb : ∀ a, (k0_off638 v4375) a + S1x128x256.size a ≤ S2x4096x512.size a), (Rect.unit (s := S2x4096x512) (k0_off638 v4375) S1x128x256.size hinb).WholeWords (EltTy.packing .bf16)) ∧
  (∀ a, (k0_off846 v4375) a + S1x128x256.size a ≤ S2x4096x512.size a) ∧
  (∀ (hinb : ∀ a, (k0_off846 v4375) a + S1x128x256.size a ≤ S2x4096x512.size a), (Rect.unit (s := S2x4096x512) (k0_off846 v4375) S1x128x256.size hinb).WholeWords (EltTy.packing .bf16))
theorem k0_off545_inb : ∀ (v4375 : BitVec 32) (k0_hw114 : k0_chk114 v4375), ∀ a, (k0_off545 v4375) a + S1x128x256.size a ≤ S2x4096x512.size a := fun v4375 k0_hw114 => k0_hw114.1
theorem k0_off545_wordsbf16 : ∀ (v4375 : BitVec 32) (k0_hw114 : k0_chk114 v4375), (Rect.unit (s := S2x4096x512) (k0_off545 v4375) S1x128x256.size (k0_off545_inb v4375 k0_hw114)).WholeWords (EltTy.packing .bf16) := fun v4375 k0_hw114 => k0_hw114.2.1 (k0_off545_inb v4375 k0_hw114)
theorem k0_off638_inb : ∀ (v4375 : BitVec 32) (k0_hw114 : k0_chk114 v4375), ∀ a, (k0_off638 v4375) a + S1x128x256.size a ≤ S2x4096x512.size a := fun v4375 k0_hw114 => k0_hw114.2.2.1
theorem k0_off638_wordsbf16 : ∀ (v4375 : BitVec 32) (k0_hw114 : k0_chk114 v4375), (Rect.unit (s := S2x4096x512) (k0_off638 v4375) S1x128x256.size (k0_off638_inb v4375 k0_hw114)).WholeWords (EltTy.packing .bf16) := fun v4375 k0_hw114 => k0_hw114.2.2.2.1 (k0_off638_inb v4375 k0_hw114)
theorem k0_off846_inb : ∀ (v4375 : BitVec 32) (k0_hw114 : k0_chk114 v4375), ∀ a, (k0_off846 v4375) a + S1x128x256.size a ≤ S2x4096x512.size a := fun v4375 k0_hw114 => k0_hw114.2.2.2.2.1
theorem k0_off846_wordsbf16 : ∀ (v4375 : BitVec 32) (k0_hw114 : k0_chk114 v4375), (Rect.unit (s := S2x4096x512) (k0_off846 v4375) S1x128x256.size (k0_off846_inb v4375 k0_hw114)).WholeWords (EltTy.packing .bf16) := fun v4375 k0_hw114 => k0_hw114.2.2.2.2.2 (k0_off846_inb v4375 k0_hw114)

def k0_off847 (v4395 : BitVec 32) : Fin 3 → Nat :=
  let c0_i32_6494 : BitVec 32 := 0#32
  let c128_i32_4093 : BitVec 32 := 128#32
  let v4396 : BitVec 32 := Scalar.muli v4395 c128_i32_4093
  let c256_i32_6502 : BitVec 32 := 256#32
  ![0, v4396.toNat, 256]

def k0_chk115 (v4395 : BitVec 32) : Prop :=
  (∀ a, (k0_off547 v4395) a + S1x128x256.size a ≤ S2x4096x512.size a) ∧
  (∀ (hinb : ∀ a, (k0_off547 v4395) a + S1x128x256.size a ≤ S2x4096x512.size a), (Rect.unit (s := S2x4096x512) (k0_off547 v4395) S1x128x256.size hinb).WholeWords (EltTy.packing .bf16)) ∧
  (∀ a, (k0_off639 v4395) a + S1x128x256.size a ≤ S2x4096x512.size a) ∧
  (∀ (hinb : ∀ a, (k0_off639 v4395) a + S1x128x256.size a ≤ S2x4096x512.size a), (Rect.unit (s := S2x4096x512) (k0_off639 v4395) S1x128x256.size hinb).WholeWords (EltTy.packing .bf16)) ∧
  (∀ a, (k0_off847 v4395) a + S1x128x256.size a ≤ S2x4096x512.size a) ∧
  (∀ (hinb : ∀ a, (k0_off847 v4395) a + S1x128x256.size a ≤ S2x4096x512.size a), (Rect.unit (s := S2x4096x512) (k0_off847 v4395) S1x128x256.size hinb).WholeWords (EltTy.packing .bf16))
theorem k0_off547_inb : ∀ (v4395 : BitVec 32) (k0_hw115 : k0_chk115 v4395), ∀ a, (k0_off547 v4395) a + S1x128x256.size a ≤ S2x4096x512.size a := fun v4395 k0_hw115 => k0_hw115.1
theorem k0_off547_wordsbf16 : ∀ (v4395 : BitVec 32) (k0_hw115 : k0_chk115 v4395), (Rect.unit (s := S2x4096x512) (k0_off547 v4395) S1x128x256.size (k0_off547_inb v4395 k0_hw115)).WholeWords (EltTy.packing .bf16) := fun v4395 k0_hw115 => k0_hw115.2.1 (k0_off547_inb v4395 k0_hw115)
theorem k0_off639_inb : ∀ (v4395 : BitVec 32) (k0_hw115 : k0_chk115 v4395), ∀ a, (k0_off639 v4395) a + S1x128x256.size a ≤ S2x4096x512.size a := fun v4395 k0_hw115 => k0_hw115.2.2.1
theorem k0_off639_wordsbf16 : ∀ (v4395 : BitVec 32) (k0_hw115 : k0_chk115 v4395), (Rect.unit (s := S2x4096x512) (k0_off639 v4395) S1x128x256.size (k0_off639_inb v4395 k0_hw115)).WholeWords (EltTy.packing .bf16) := fun v4395 k0_hw115 => k0_hw115.2.2.2.1 (k0_off639_inb v4395 k0_hw115)
theorem k0_off847_inb : ∀ (v4395 : BitVec 32) (k0_hw115 : k0_chk115 v4395), ∀ a, (k0_off847 v4395) a + S1x128x256.size a ≤ S2x4096x512.size a := fun v4395 k0_hw115 => k0_hw115.2.2.2.2.1
theorem k0_off847_wordsbf16 : ∀ (v4395 : BitVec 32) (k0_hw115 : k0_chk115 v4395), (Rect.unit (s := S2x4096x512) (k0_off847 v4395) S1x128x256.size (k0_off847_inb v4395 k0_hw115)).WholeWords (EltTy.packing .bf16) := fun v4395 k0_hw115 => k0_hw115.2.2.2.2.2 (k0_off847_inb v4395 k0_hw115)

def k0_off848 (v4415 : BitVec 32) : Fin 3 → Nat :=
  let c1_i32_6505 : BitVec 32 := 1#32
  let c128_i32_4120 : BitVec 32 := 128#32
  let v4416 : BitVec 32 := Scalar.muli v4415 c128_i32_4120
  let c0_i32_6513 : BitVec 32 := 0#32
  ![1, v4416.toNat, 0]

def k0_chk116 (v4415 : BitVec 32) : Prop :=
  (∀ a, (k0_off549 v4415) a + S1x128x256.size a ≤ S2x4096x512.size a) ∧
  (∀ (hinb : ∀ a, (k0_off549 v4415) a + S1x128x256.size a ≤ S2x4096x512.size a), (Rect.unit (s := S2x4096x512) (k0_off549 v4415) S1x128x256.size hinb).WholeWords (EltTy.packing .bf16)) ∧
  (∀ a, (k0_off640 v4415) a + S1x128x256.size a ≤ S2x4096x512.size a) ∧
  (∀ (hinb : ∀ a, (k0_off640 v4415) a + S1x128x256.size a ≤ S2x4096x512.size a), (Rect.unit (s := S2x4096x512) (k0_off640 v4415) S1x128x256.size hinb).WholeWords (EltTy.packing .bf16)) ∧
  (∀ a, (k0_off848 v4415) a + S1x128x256.size a ≤ S2x4096x512.size a) ∧
  (∀ (hinb : ∀ a, (k0_off848 v4415) a + S1x128x256.size a ≤ S2x4096x512.size a), (Rect.unit (s := S2x4096x512) (k0_off848 v4415) S1x128x256.size hinb).WholeWords (EltTy.packing .bf16))
theorem k0_off549_inb : ∀ (v4415 : BitVec 32) (k0_hw116 : k0_chk116 v4415), ∀ a, (k0_off549 v4415) a + S1x128x256.size a ≤ S2x4096x512.size a := fun v4415 k0_hw116 => k0_hw116.1
theorem k0_off549_wordsbf16 : ∀ (v4415 : BitVec 32) (k0_hw116 : k0_chk116 v4415), (Rect.unit (s := S2x4096x512) (k0_off549 v4415) S1x128x256.size (k0_off549_inb v4415 k0_hw116)).WholeWords (EltTy.packing .bf16) := fun v4415 k0_hw116 => k0_hw116.2.1 (k0_off549_inb v4415 k0_hw116)
theorem k0_off640_inb : ∀ (v4415 : BitVec 32) (k0_hw116 : k0_chk116 v4415), ∀ a, (k0_off640 v4415) a + S1x128x256.size a ≤ S2x4096x512.size a := fun v4415 k0_hw116 => k0_hw116.2.2.1
theorem k0_off640_wordsbf16 : ∀ (v4415 : BitVec 32) (k0_hw116 : k0_chk116 v4415), (Rect.unit (s := S2x4096x512) (k0_off640 v4415) S1x128x256.size (k0_off640_inb v4415 k0_hw116)).WholeWords (EltTy.packing .bf16) := fun v4415 k0_hw116 => k0_hw116.2.2.2.1 (k0_off640_inb v4415 k0_hw116)
theorem k0_off848_inb : ∀ (v4415 : BitVec 32) (k0_hw116 : k0_chk116 v4415), ∀ a, (k0_off848 v4415) a + S1x128x256.size a ≤ S2x4096x512.size a := fun v4415 k0_hw116 => k0_hw116.2.2.2.2.1
theorem k0_off848_wordsbf16 : ∀ (v4415 : BitVec 32) (k0_hw116 : k0_chk116 v4415), (Rect.unit (s := S2x4096x512) (k0_off848 v4415) S1x128x256.size (k0_off848_inb v4415 k0_hw116)).WholeWords (EltTy.packing .bf16) := fun v4415 k0_hw116 => k0_hw116.2.2.2.2.2 (k0_off848_inb v4415 k0_hw116)

def k0_off849 (v4435 : BitVec 32) : Fin 3 → Nat :=
  let c1_i32_6516 : BitVec 32 := 1#32
  let c128_i32_4147 : BitVec 32 := 128#32
  let v4436 : BitVec 32 := Scalar.muli v4435 c128_i32_4147
  let c256_i32_6524 : BitVec 32 := 256#32
  ![1, v4436.toNat, 256]

def k0_chk117 (v4435 : BitVec 32) : Prop :=
  (∀ a, (k0_off551 v4435) a + S1x128x256.size a ≤ S2x4096x512.size a) ∧
  (∀ (hinb : ∀ a, (k0_off551 v4435) a + S1x128x256.size a ≤ S2x4096x512.size a), (Rect.unit (s := S2x4096x512) (k0_off551 v4435) S1x128x256.size hinb).WholeWords (EltTy.packing .bf16)) ∧
  (∀ a, (k0_off641 v4435) a + S1x128x256.size a ≤ S2x4096x512.size a) ∧
  (∀ (hinb : ∀ a, (k0_off641 v4435) a + S1x128x256.size a ≤ S2x4096x512.size a), (Rect.unit (s := S2x4096x512) (k0_off641 v4435) S1x128x256.size hinb).WholeWords (EltTy.packing .bf16)) ∧
  (∀ a, (k0_off849 v4435) a + S1x128x256.size a ≤ S2x4096x512.size a) ∧
  (∀ (hinb : ∀ a, (k0_off849 v4435) a + S1x128x256.size a ≤ S2x4096x512.size a), (Rect.unit (s := S2x4096x512) (k0_off849 v4435) S1x128x256.size hinb).WholeWords (EltTy.packing .bf16))
theorem k0_off551_inb : ∀ (v4435 : BitVec 32) (k0_hw117 : k0_chk117 v4435), ∀ a, (k0_off551 v4435) a + S1x128x256.size a ≤ S2x4096x512.size a := fun v4435 k0_hw117 => k0_hw117.1
theorem k0_off551_wordsbf16 : ∀ (v4435 : BitVec 32) (k0_hw117 : k0_chk117 v4435), (Rect.unit (s := S2x4096x512) (k0_off551 v4435) S1x128x256.size (k0_off551_inb v4435 k0_hw117)).WholeWords (EltTy.packing .bf16) := fun v4435 k0_hw117 => k0_hw117.2.1 (k0_off551_inb v4435 k0_hw117)
theorem k0_off641_inb : ∀ (v4435 : BitVec 32) (k0_hw117 : k0_chk117 v4435), ∀ a, (k0_off641 v4435) a + S1x128x256.size a ≤ S2x4096x512.size a := fun v4435 k0_hw117 => k0_hw117.2.2.1
theorem k0_off641_wordsbf16 : ∀ (v4435 : BitVec 32) (k0_hw117 : k0_chk117 v4435), (Rect.unit (s := S2x4096x512) (k0_off641 v4435) S1x128x256.size (k0_off641_inb v4435 k0_hw117)).WholeWords (EltTy.packing .bf16) := fun v4435 k0_hw117 => k0_hw117.2.2.2.1 (k0_off641_inb v4435 k0_hw117)
theorem k0_off849_inb : ∀ (v4435 : BitVec 32) (k0_hw117 : k0_chk117 v4435), ∀ a, (k0_off849 v4435) a + S1x128x256.size a ≤ S2x4096x512.size a := fun v4435 k0_hw117 => k0_hw117.2.2.2.2.1
theorem k0_off849_wordsbf16 : ∀ (v4435 : BitVec 32) (k0_hw117 : k0_chk117 v4435), (Rect.unit (s := S2x4096x512) (k0_off849 v4435) S1x128x256.size (k0_off849_inb v4435 k0_hw117)).WholeWords (EltTy.packing .bf16) := fun v4435 k0_hw117 => k0_hw117.2.2.2.2.2 (k0_off849_inb v4435 k0_hw117)

def k0_off850 (v4455 : BitVec 32) : Fin 3 → Nat :=
  let c1_i32_6527 : BitVec 32 := 1#32
  let c128_i32_4174 : BitVec 32 := 128#32
  let v4456 : BitVec 32 := Scalar.muli v4455 c128_i32_4174
  let c0_i32_6535 : BitVec 32 := 0#32
  ![1, v4456.toNat, 0]

def k0_chk118 (v4455 : BitVec 32) : Prop :=
  (∀ a, (k0_off553 v4455) a + S1x128x256.size a ≤ S2x4096x512.size a) ∧
  (∀ (hinb : ∀ a, (k0_off553 v4455) a + S1x128x256.size a ≤ S2x4096x512.size a), (Rect.unit (s := S2x4096x512) (k0_off553 v4455) S1x128x256.size hinb).WholeWords (EltTy.packing .bf16)) ∧
  (∀ a, (k0_off642 v4455) a + S1x128x256.size a ≤ S2x4096x512.size a) ∧
  (∀ (hinb : ∀ a, (k0_off642 v4455) a + S1x128x256.size a ≤ S2x4096x512.size a), (Rect.unit (s := S2x4096x512) (k0_off642 v4455) S1x128x256.size hinb).WholeWords (EltTy.packing .bf16)) ∧
  (∀ a, (k0_off850 v4455) a + S1x128x256.size a ≤ S2x4096x512.size a) ∧
  (∀ (hinb : ∀ a, (k0_off850 v4455) a + S1x128x256.size a ≤ S2x4096x512.size a), (Rect.unit (s := S2x4096x512) (k0_off850 v4455) S1x128x256.size hinb).WholeWords (EltTy.packing .bf16))
theorem k0_off553_inb : ∀ (v4455 : BitVec 32) (k0_hw118 : k0_chk118 v4455), ∀ a, (k0_off553 v4455) a + S1x128x256.size a ≤ S2x4096x512.size a := fun v4455 k0_hw118 => k0_hw118.1
theorem k0_off553_wordsbf16 : ∀ (v4455 : BitVec 32) (k0_hw118 : k0_chk118 v4455), (Rect.unit (s := S2x4096x512) (k0_off553 v4455) S1x128x256.size (k0_off553_inb v4455 k0_hw118)).WholeWords (EltTy.packing .bf16) := fun v4455 k0_hw118 => k0_hw118.2.1 (k0_off553_inb v4455 k0_hw118)
theorem k0_off642_inb : ∀ (v4455 : BitVec 32) (k0_hw118 : k0_chk118 v4455), ∀ a, (k0_off642 v4455) a + S1x128x256.size a ≤ S2x4096x512.size a := fun v4455 k0_hw118 => k0_hw118.2.2.1
theorem k0_off642_wordsbf16 : ∀ (v4455 : BitVec 32) (k0_hw118 : k0_chk118 v4455), (Rect.unit (s := S2x4096x512) (k0_off642 v4455) S1x128x256.size (k0_off642_inb v4455 k0_hw118)).WholeWords (EltTy.packing .bf16) := fun v4455 k0_hw118 => k0_hw118.2.2.2.1 (k0_off642_inb v4455 k0_hw118)
theorem k0_off850_inb : ∀ (v4455 : BitVec 32) (k0_hw118 : k0_chk118 v4455), ∀ a, (k0_off850 v4455) a + S1x128x256.size a ≤ S2x4096x512.size a := fun v4455 k0_hw118 => k0_hw118.2.2.2.2.1
theorem k0_off850_wordsbf16 : ∀ (v4455 : BitVec 32) (k0_hw118 : k0_chk118 v4455), (Rect.unit (s := S2x4096x512) (k0_off850 v4455) S1x128x256.size (k0_off850_inb v4455 k0_hw118)).WholeWords (EltTy.packing .bf16) := fun v4455 k0_hw118 => k0_hw118.2.2.2.2.2 (k0_off850_inb v4455 k0_hw118)

def k0_off851 (v4475 : BitVec 32) : Fin 3 → Nat :=
  let c1_i32_6538 : BitVec 32 := 1#32
  let c128_i32_4201 : BitVec 32 := 128#32
  let v4476 : BitVec 32 := Scalar.muli v4475 c128_i32_4201
  let c256_i32_6546 : BitVec 32 := 256#32
  ![1, v4476.toNat, 256]

def k0_chk119 (v4475 : BitVec 32) : Prop :=
  (∀ a, (k0_off555 v4475) a + S1x128x256.size a ≤ S2x4096x512.size a) ∧
  (∀ (hinb : ∀ a, (k0_off555 v4475) a + S1x128x256.size a ≤ S2x4096x512.size a), (Rect.unit (s := S2x4096x512) (k0_off555 v4475) S1x128x256.size hinb).WholeWords (EltTy.packing .bf16)) ∧
  (∀ a, (k0_off643 v4475) a + S1x128x256.size a ≤ S2x4096x512.size a) ∧
  (∀ (hinb : ∀ a, (k0_off643 v4475) a + S1x128x256.size a ≤ S2x4096x512.size a), (Rect.unit (s := S2x4096x512) (k0_off643 v4475) S1x128x256.size hinb).WholeWords (EltTy.packing .bf16)) ∧
  (∀ a, (k0_off851 v4475) a + S1x128x256.size a ≤ S2x4096x512.size a) ∧
  (∀ (hinb : ∀ a, (k0_off851 v4475) a + S1x128x256.size a ≤ S2x4096x512.size a), (Rect.unit (s := S2x4096x512) (k0_off851 v4475) S1x128x256.size hinb).WholeWords (EltTy.packing .bf16))
theorem k0_off555_inb : ∀ (v4475 : BitVec 32) (k0_hw119 : k0_chk119 v4475), ∀ a, (k0_off555 v4475) a + S1x128x256.size a ≤ S2x4096x512.size a := fun v4475 k0_hw119 => k0_hw119.1
theorem k0_off555_wordsbf16 : ∀ (v4475 : BitVec 32) (k0_hw119 : k0_chk119 v4475), (Rect.unit (s := S2x4096x512) (k0_off555 v4475) S1x128x256.size (k0_off555_inb v4475 k0_hw119)).WholeWords (EltTy.packing .bf16) := fun v4475 k0_hw119 => k0_hw119.2.1 (k0_off555_inb v4475 k0_hw119)
theorem k0_off643_inb : ∀ (v4475 : BitVec 32) (k0_hw119 : k0_chk119 v4475), ∀ a, (k0_off643 v4475) a + S1x128x256.size a ≤ S2x4096x512.size a := fun v4475 k0_hw119 => k0_hw119.2.2.1
theorem k0_off643_wordsbf16 : ∀ (v4475 : BitVec 32) (k0_hw119 : k0_chk119 v4475), (Rect.unit (s := S2x4096x512) (k0_off643 v4475) S1x128x256.size (k0_off643_inb v4475 k0_hw119)).WholeWords (EltTy.packing .bf16) := fun v4475 k0_hw119 => k0_hw119.2.2.2.1 (k0_off643_inb v4475 k0_hw119)
theorem k0_off851_inb : ∀ (v4475 : BitVec 32) (k0_hw119 : k0_chk119 v4475), ∀ a, (k0_off851 v4475) a + S1x128x256.size a ≤ S2x4096x512.size a := fun v4475 k0_hw119 => k0_hw119.2.2.2.2.1
theorem k0_off851_wordsbf16 : ∀ (v4475 : BitVec 32) (k0_hw119 : k0_chk119 v4475), (Rect.unit (s := S2x4096x512) (k0_off851 v4475) S1x128x256.size (k0_off851_inb v4475 k0_hw119)).WholeWords (EltTy.packing .bf16) := fun v4475 k0_hw119 => k0_hw119.2.2.2.2.2 (k0_off851_inb v4475 k0_hw119)

def k0_off852 (v4887 : BitVec 32) : Fin 3 → Nat :=
  let c0_i32_6549 : BitVec 32 := 0#32
  let c128_i32_4463 : BitVec 32 := 128#32
  let v4888 : BitVec 32 := Scalar.muli v4887 c128_i32_4463
  let c0_i32_6557 : BitVec 32 := 0#32
  ![0, v4888.toNat, 0]

def k0_chk124 (v4887 : BitVec 32) : Prop :=
  (∀ a, (k0_off621 v4887) a + S1x128x256.size a ≤ S2x4096x512.size a) ∧
  (∀ (hinb : ∀ a, (k0_off621 v4887) a + S1x128x256.size a ≤ S2x4096x512.size a), (Rect.unit (s := S2x4096x512) (k0_off621 v4887) S1x128x256.size hinb).WholeWords (EltTy.packing .bf16)) ∧
  (∀ a, (k0_off708 v4887) a + S1x128x256.size a ≤ S2x4096x512.size a) ∧
  (∀ (hinb : ∀ a, (k0_off708 v4887) a + S1x128x256.size a ≤ S2x4096x512.size a), (Rect.unit (s := S2x4096x512) (k0_off708 v4887) S1x128x256.size hinb).WholeWords (EltTy.packing .bf16)) ∧
  (∀ a, (k0_off852 v4887) a + S1x128x256.size a ≤ S2x4096x512.size a) ∧
  (∀ (hinb : ∀ a, (k0_off852 v4887) a + S1x128x256.size a ≤ S2x4096x512.size a), (Rect.unit (s := S2x4096x512) (k0_off852 v4887) S1x128x256.size hinb).WholeWords (EltTy.packing .bf16))
theorem k0_off621_inb : ∀ (v4887 : BitVec 32) (k0_hw124 : k0_chk124 v4887), ∀ a, (k0_off621 v4887) a + S1x128x256.size a ≤ S2x4096x512.size a := fun v4887 k0_hw124 => k0_hw124.1
theorem k0_off621_wordsbf16 : ∀ (v4887 : BitVec 32) (k0_hw124 : k0_chk124 v4887), (Rect.unit (s := S2x4096x512) (k0_off621 v4887) S1x128x256.size (k0_off621_inb v4887 k0_hw124)).WholeWords (EltTy.packing .bf16) := fun v4887 k0_hw124 => k0_hw124.2.1 (k0_off621_inb v4887 k0_hw124)
theorem k0_off708_inb : ∀ (v4887 : BitVec 32) (k0_hw124 : k0_chk124 v4887), ∀ a, (k0_off708 v4887) a + S1x128x256.size a ≤ S2x4096x512.size a := fun v4887 k0_hw124 => k0_hw124.2.2.1
theorem k0_off708_wordsbf16 : ∀ (v4887 : BitVec 32) (k0_hw124 : k0_chk124 v4887), (Rect.unit (s := S2x4096x512) (k0_off708 v4887) S1x128x256.size (k0_off708_inb v4887 k0_hw124)).WholeWords (EltTy.packing .bf16) := fun v4887 k0_hw124 => k0_hw124.2.2.2.1 (k0_off708_inb v4887 k0_hw124)
theorem k0_off852_inb : ∀ (v4887 : BitVec 32) (k0_hw124 : k0_chk124 v4887), ∀ a, (k0_off852 v4887) a + S1x128x256.size a ≤ S2x4096x512.size a := fun v4887 k0_hw124 => k0_hw124.2.2.2.2.1
theorem k0_off852_wordsbf16 : ∀ (v4887 : BitVec 32) (k0_hw124 : k0_chk124 v4887), (Rect.unit (s := S2x4096x512) (k0_off852 v4887) S1x128x256.size (k0_off852_inb v4887 k0_hw124)).WholeWords (EltTy.packing .bf16) := fun v4887 k0_hw124 => k0_hw124.2.2.2.2.2 (k0_off852_inb v4887 k0_hw124)

def k0_off853 (v4907 : BitVec 32) : Fin 3 → Nat :=
  let c0_i32_6560 : BitVec 32 := 0#32
  let c128_i32_4489 : BitVec 32 := 128#32
  let v4908 : BitVec 32 := Scalar.muli v4907 c128_i32_4489
  let c256_i32_6568 : BitVec 32 := 256#32
  ![0, v4908.toNat, 256]

def k0_chk125 (v4907 : BitVec 32) : Prop :=
  (∀ a, (k0_off623 v4907) a + S1x128x256.size a ≤ S2x4096x512.size a) ∧
  (∀ (hinb : ∀ a, (k0_off623 v4907) a + S1x128x256.size a ≤ S2x4096x512.size a), (Rect.unit (s := S2x4096x512) (k0_off623 v4907) S1x128x256.size hinb).WholeWords (EltTy.packing .bf16)) ∧
  (∀ a, (k0_off709 v4907) a + S1x128x256.size a ≤ S2x4096x512.size a) ∧
  (∀ (hinb : ∀ a, (k0_off709 v4907) a + S1x128x256.size a ≤ S2x4096x512.size a), (Rect.unit (s := S2x4096x512) (k0_off709 v4907) S1x128x256.size hinb).WholeWords (EltTy.packing .bf16)) ∧
  (∀ a, (k0_off853 v4907) a + S1x128x256.size a ≤ S2x4096x512.size a) ∧
  (∀ (hinb : ∀ a, (k0_off853 v4907) a + S1x128x256.size a ≤ S2x4096x512.size a), (Rect.unit (s := S2x4096x512) (k0_off853 v4907) S1x128x256.size hinb).WholeWords (EltTy.packing .bf16))
theorem k0_off623_inb : ∀ (v4907 : BitVec 32) (k0_hw125 : k0_chk125 v4907), ∀ a, (k0_off623 v4907) a + S1x128x256.size a ≤ S2x4096x512.size a := fun v4907 k0_hw125 => k0_hw125.1
theorem k0_off623_wordsbf16 : ∀ (v4907 : BitVec 32) (k0_hw125 : k0_chk125 v4907), (Rect.unit (s := S2x4096x512) (k0_off623 v4907) S1x128x256.size (k0_off623_inb v4907 k0_hw125)).WholeWords (EltTy.packing .bf16) := fun v4907 k0_hw125 => k0_hw125.2.1 (k0_off623_inb v4907 k0_hw125)
theorem k0_off709_inb : ∀ (v4907 : BitVec 32) (k0_hw125 : k0_chk125 v4907), ∀ a, (k0_off709 v4907) a + S1x128x256.size a ≤ S2x4096x512.size a := fun v4907 k0_hw125 => k0_hw125.2.2.1
theorem k0_off709_wordsbf16 : ∀ (v4907 : BitVec 32) (k0_hw125 : k0_chk125 v4907), (Rect.unit (s := S2x4096x512) (k0_off709 v4907) S1x128x256.size (k0_off709_inb v4907 k0_hw125)).WholeWords (EltTy.packing .bf16) := fun v4907 k0_hw125 => k0_hw125.2.2.2.1 (k0_off709_inb v4907 k0_hw125)
theorem k0_off853_inb : ∀ (v4907 : BitVec 32) (k0_hw125 : k0_chk125 v4907), ∀ a, (k0_off853 v4907) a + S1x128x256.size a ≤ S2x4096x512.size a := fun v4907 k0_hw125 => k0_hw125.2.2.2.2.1
theorem k0_off853_wordsbf16 : ∀ (v4907 : BitVec 32) (k0_hw125 : k0_chk125 v4907), (Rect.unit (s := S2x4096x512) (k0_off853 v4907) S1x128x256.size (k0_off853_inb v4907 k0_hw125)).WholeWords (EltTy.packing .bf16) := fun v4907 k0_hw125 => k0_hw125.2.2.2.2.2 (k0_off853_inb v4907 k0_hw125)

def k0_off854 (v4927 : BitVec 32) : Fin 3 → Nat :=
  let c0_i32_6571 : BitVec 32 := 0#32
  let c128_i32_4516 : BitVec 32 := 128#32
  let v4928 : BitVec 32 := Scalar.muli v4927 c128_i32_4516
  let c0_i32_6579 : BitVec 32 := 0#32
  ![0, v4928.toNat, 0]

def k0_chk126 (v4927 : BitVec 32) : Prop :=
  (∀ a, (k0_off625 v4927) a + S1x128x256.size a ≤ S2x4096x512.size a) ∧
  (∀ (hinb : ∀ a, (k0_off625 v4927) a + S1x128x256.size a ≤ S2x4096x512.size a), (Rect.unit (s := S2x4096x512) (k0_off625 v4927) S1x128x256.size hinb).WholeWords (EltTy.packing .bf16)) ∧
  (∀ a, (k0_off710 v4927) a + S1x128x256.size a ≤ S2x4096x512.size a) ∧
  (∀ (hinb : ∀ a, (k0_off710 v4927) a + S1x128x256.size a ≤ S2x4096x512.size a), (Rect.unit (s := S2x4096x512) (k0_off710 v4927) S1x128x256.size hinb).WholeWords (EltTy.packing .bf16)) ∧
  (∀ a, (k0_off854 v4927) a + S1x128x256.size a ≤ S2x4096x512.size a) ∧
  (∀ (hinb : ∀ a, (k0_off854 v4927) a + S1x128x256.size a ≤ S2x4096x512.size a), (Rect.unit (s := S2x4096x512) (k0_off854 v4927) S1x128x256.size hinb).WholeWords (EltTy.packing .bf16))
theorem k0_off625_inb : ∀ (v4927 : BitVec 32) (k0_hw126 : k0_chk126 v4927), ∀ a, (k0_off625 v4927) a + S1x128x256.size a ≤ S2x4096x512.size a := fun v4927 k0_hw126 => k0_hw126.1
theorem k0_off625_wordsbf16 : ∀ (v4927 : BitVec 32) (k0_hw126 : k0_chk126 v4927), (Rect.unit (s := S2x4096x512) (k0_off625 v4927) S1x128x256.size (k0_off625_inb v4927 k0_hw126)).WholeWords (EltTy.packing .bf16) := fun v4927 k0_hw126 => k0_hw126.2.1 (k0_off625_inb v4927 k0_hw126)
theorem k0_off710_inb : ∀ (v4927 : BitVec 32) (k0_hw126 : k0_chk126 v4927), ∀ a, (k0_off710 v4927) a + S1x128x256.size a ≤ S2x4096x512.size a := fun v4927 k0_hw126 => k0_hw126.2.2.1
theorem k0_off710_wordsbf16 : ∀ (v4927 : BitVec 32) (k0_hw126 : k0_chk126 v4927), (Rect.unit (s := S2x4096x512) (k0_off710 v4927) S1x128x256.size (k0_off710_inb v4927 k0_hw126)).WholeWords (EltTy.packing .bf16) := fun v4927 k0_hw126 => k0_hw126.2.2.2.1 (k0_off710_inb v4927 k0_hw126)
theorem k0_off854_inb : ∀ (v4927 : BitVec 32) (k0_hw126 : k0_chk126 v4927), ∀ a, (k0_off854 v4927) a + S1x128x256.size a ≤ S2x4096x512.size a := fun v4927 k0_hw126 => k0_hw126.2.2.2.2.1
theorem k0_off854_wordsbf16 : ∀ (v4927 : BitVec 32) (k0_hw126 : k0_chk126 v4927), (Rect.unit (s := S2x4096x512) (k0_off854 v4927) S1x128x256.size (k0_off854_inb v4927 k0_hw126)).WholeWords (EltTy.packing .bf16) := fun v4927 k0_hw126 => k0_hw126.2.2.2.2.2 (k0_off854_inb v4927 k0_hw126)

def k0_off855 (v4947 : BitVec 32) : Fin 3 → Nat :=
  let c0_i32_6582 : BitVec 32 := 0#32
  let c128_i32_4543 : BitVec 32 := 128#32
  let v4948 : BitVec 32 := Scalar.muli v4947 c128_i32_4543
  let c256_i32_6590 : BitVec 32 := 256#32
  ![0, v4948.toNat, 256]

def k0_chk127 (v4947 : BitVec 32) : Prop :=
  (∀ a, (k0_off627 v4947) a + S1x128x256.size a ≤ S2x4096x512.size a) ∧
  (∀ (hinb : ∀ a, (k0_off627 v4947) a + S1x128x256.size a ≤ S2x4096x512.size a), (Rect.unit (s := S2x4096x512) (k0_off627 v4947) S1x128x256.size hinb).WholeWords (EltTy.packing .bf16)) ∧
  (∀ a, (k0_off711 v4947) a + S1x128x256.size a ≤ S2x4096x512.size a) ∧
  (∀ (hinb : ∀ a, (k0_off711 v4947) a + S1x128x256.size a ≤ S2x4096x512.size a), (Rect.unit (s := S2x4096x512) (k0_off711 v4947) S1x128x256.size hinb).WholeWords (EltTy.packing .bf16)) ∧
  (∀ a, (k0_off855 v4947) a + S1x128x256.size a ≤ S2x4096x512.size a) ∧
  (∀ (hinb : ∀ a, (k0_off855 v4947) a + S1x128x256.size a ≤ S2x4096x512.size a), (Rect.unit (s := S2x4096x512) (k0_off855 v4947) S1x128x256.size hinb).WholeWords (EltTy.packing .bf16))
theorem k0_off627_inb : ∀ (v4947 : BitVec 32) (k0_hw127 : k0_chk127 v4947), ∀ a, (k0_off627 v4947) a + S1x128x256.size a ≤ S2x4096x512.size a := fun v4947 k0_hw127 => k0_hw127.1
theorem k0_off627_wordsbf16 : ∀ (v4947 : BitVec 32) (k0_hw127 : k0_chk127 v4947), (Rect.unit (s := S2x4096x512) (k0_off627 v4947) S1x128x256.size (k0_off627_inb v4947 k0_hw127)).WholeWords (EltTy.packing .bf16) := fun v4947 k0_hw127 => k0_hw127.2.1 (k0_off627_inb v4947 k0_hw127)
theorem k0_off711_inb : ∀ (v4947 : BitVec 32) (k0_hw127 : k0_chk127 v4947), ∀ a, (k0_off711 v4947) a + S1x128x256.size a ≤ S2x4096x512.size a := fun v4947 k0_hw127 => k0_hw127.2.2.1
theorem k0_off711_wordsbf16 : ∀ (v4947 : BitVec 32) (k0_hw127 : k0_chk127 v4947), (Rect.unit (s := S2x4096x512) (k0_off711 v4947) S1x128x256.size (k0_off711_inb v4947 k0_hw127)).WholeWords (EltTy.packing .bf16) := fun v4947 k0_hw127 => k0_hw127.2.2.2.1 (k0_off711_inb v4947 k0_hw127)
theorem k0_off855_inb : ∀ (v4947 : BitVec 32) (k0_hw127 : k0_chk127 v4947), ∀ a, (k0_off855 v4947) a + S1x128x256.size a ≤ S2x4096x512.size a := fun v4947 k0_hw127 => k0_hw127.2.2.2.2.1
theorem k0_off855_wordsbf16 : ∀ (v4947 : BitVec 32) (k0_hw127 : k0_chk127 v4947), (Rect.unit (s := S2x4096x512) (k0_off855 v4947) S1x128x256.size (k0_off855_inb v4947 k0_hw127)).WholeWords (EltTy.packing .bf16) := fun v4947 k0_hw127 => k0_hw127.2.2.2.2.2 (k0_off855_inb v4947 k0_hw127)

def k0_off856 (v4967 : BitVec 32) : Fin 3 → Nat :=
  let c1_i32_6593 : BitVec 32 := 1#32
  let c128_i32_4570 : BitVec 32 := 128#32
  let v4968 : BitVec 32 := Scalar.muli v4967 c128_i32_4570
  let c0_i32_6601 : BitVec 32 := 0#32
  ![1, v4968.toNat, 0]

def k0_chk128 (v4967 : BitVec 32) : Prop :=
  (∀ a, (k0_off629 v4967) a + S1x128x256.size a ≤ S2x4096x512.size a) ∧
  (∀ (hinb : ∀ a, (k0_off629 v4967) a + S1x128x256.size a ≤ S2x4096x512.size a), (Rect.unit (s := S2x4096x512) (k0_off629 v4967) S1x128x256.size hinb).WholeWords (EltTy.packing .bf16)) ∧
  (∀ a, (k0_off712 v4967) a + S1x128x256.size a ≤ S2x4096x512.size a) ∧
  (∀ (hinb : ∀ a, (k0_off712 v4967) a + S1x128x256.size a ≤ S2x4096x512.size a), (Rect.unit (s := S2x4096x512) (k0_off712 v4967) S1x128x256.size hinb).WholeWords (EltTy.packing .bf16)) ∧
  (∀ a, (k0_off856 v4967) a + S1x128x256.size a ≤ S2x4096x512.size a) ∧
  (∀ (hinb : ∀ a, (k0_off856 v4967) a + S1x128x256.size a ≤ S2x4096x512.size a), (Rect.unit (s := S2x4096x512) (k0_off856 v4967) S1x128x256.size hinb).WholeWords (EltTy.packing .bf16))
theorem k0_off629_inb : ∀ (v4967 : BitVec 32) (k0_hw128 : k0_chk128 v4967), ∀ a, (k0_off629 v4967) a + S1x128x256.size a ≤ S2x4096x512.size a := fun v4967 k0_hw128 => k0_hw128.1
theorem k0_off629_wordsbf16 : ∀ (v4967 : BitVec 32) (k0_hw128 : k0_chk128 v4967), (Rect.unit (s := S2x4096x512) (k0_off629 v4967) S1x128x256.size (k0_off629_inb v4967 k0_hw128)).WholeWords (EltTy.packing .bf16) := fun v4967 k0_hw128 => k0_hw128.2.1 (k0_off629_inb v4967 k0_hw128)
theorem k0_off712_inb : ∀ (v4967 : BitVec 32) (k0_hw128 : k0_chk128 v4967), ∀ a, (k0_off712 v4967) a + S1x128x256.size a ≤ S2x4096x512.size a := fun v4967 k0_hw128 => k0_hw128.2.2.1
theorem k0_off712_wordsbf16 : ∀ (v4967 : BitVec 32) (k0_hw128 : k0_chk128 v4967), (Rect.unit (s := S2x4096x512) (k0_off712 v4967) S1x128x256.size (k0_off712_inb v4967 k0_hw128)).WholeWords (EltTy.packing .bf16) := fun v4967 k0_hw128 => k0_hw128.2.2.2.1 (k0_off712_inb v4967 k0_hw128)
theorem k0_off856_inb : ∀ (v4967 : BitVec 32) (k0_hw128 : k0_chk128 v4967), ∀ a, (k0_off856 v4967) a + S1x128x256.size a ≤ S2x4096x512.size a := fun v4967 k0_hw128 => k0_hw128.2.2.2.2.1
theorem k0_off856_wordsbf16 : ∀ (v4967 : BitVec 32) (k0_hw128 : k0_chk128 v4967), (Rect.unit (s := S2x4096x512) (k0_off856 v4967) S1x128x256.size (k0_off856_inb v4967 k0_hw128)).WholeWords (EltTy.packing .bf16) := fun v4967 k0_hw128 => k0_hw128.2.2.2.2.2 (k0_off856_inb v4967 k0_hw128)

def k0_off857 (v4987 : BitVec 32) : Fin 3 → Nat :=
  let c1_i32_6604 : BitVec 32 := 1#32
  let c128_i32_4597 : BitVec 32 := 128#32
  let v4988 : BitVec 32 := Scalar.muli v4987 c128_i32_4597
  let c256_i32_6612 : BitVec 32 := 256#32
  ![1, v4988.toNat, 256]

def k0_chk129 (v4987 : BitVec 32) : Prop :=
  (∀ a, (k0_off631 v4987) a + S1x128x256.size a ≤ S2x4096x512.size a) ∧
  (∀ (hinb : ∀ a, (k0_off631 v4987) a + S1x128x256.size a ≤ S2x4096x512.size a), (Rect.unit (s := S2x4096x512) (k0_off631 v4987) S1x128x256.size hinb).WholeWords (EltTy.packing .bf16)) ∧
  (∀ a, (k0_off713 v4987) a + S1x128x256.size a ≤ S2x4096x512.size a) ∧
  (∀ (hinb : ∀ a, (k0_off713 v4987) a + S1x128x256.size a ≤ S2x4096x512.size a), (Rect.unit (s := S2x4096x512) (k0_off713 v4987) S1x128x256.size hinb).WholeWords (EltTy.packing .bf16)) ∧
  (∀ a, (k0_off857 v4987) a + S1x128x256.size a ≤ S2x4096x512.size a) ∧
  (∀ (hinb : ∀ a, (k0_off857 v4987) a + S1x128x256.size a ≤ S2x4096x512.size a), (Rect.unit (s := S2x4096x512) (k0_off857 v4987) S1x128x256.size hinb).WholeWords (EltTy.packing .bf16))
theorem k0_off631_inb : ∀ (v4987 : BitVec 32) (k0_hw129 : k0_chk129 v4987), ∀ a, (k0_off631 v4987) a + S1x128x256.size a ≤ S2x4096x512.size a := fun v4987 k0_hw129 => k0_hw129.1
theorem k0_off631_wordsbf16 : ∀ (v4987 : BitVec 32) (k0_hw129 : k0_chk129 v4987), (Rect.unit (s := S2x4096x512) (k0_off631 v4987) S1x128x256.size (k0_off631_inb v4987 k0_hw129)).WholeWords (EltTy.packing .bf16) := fun v4987 k0_hw129 => k0_hw129.2.1 (k0_off631_inb v4987 k0_hw129)
theorem k0_off713_inb : ∀ (v4987 : BitVec 32) (k0_hw129 : k0_chk129 v4987), ∀ a, (k0_off713 v4987) a + S1x128x256.size a ≤ S2x4096x512.size a := fun v4987 k0_hw129 => k0_hw129.2.2.1
theorem k0_off713_wordsbf16 : ∀ (v4987 : BitVec 32) (k0_hw129 : k0_chk129 v4987), (Rect.unit (s := S2x4096x512) (k0_off713 v4987) S1x128x256.size (k0_off713_inb v4987 k0_hw129)).WholeWords (EltTy.packing .bf16) := fun v4987 k0_hw129 => k0_hw129.2.2.2.1 (k0_off713_inb v4987 k0_hw129)
theorem k0_off857_inb : ∀ (v4987 : BitVec 32) (k0_hw129 : k0_chk129 v4987), ∀ a, (k0_off857 v4987) a + S1x128x256.size a ≤ S2x4096x512.size a := fun v4987 k0_hw129 => k0_hw129.2.2.2.2.1
theorem k0_off857_wordsbf16 : ∀ (v4987 : BitVec 32) (k0_hw129 : k0_chk129 v4987), (Rect.unit (s := S2x4096x512) (k0_off857 v4987) S1x128x256.size (k0_off857_inb v4987 k0_hw129)).WholeWords (EltTy.packing .bf16) := fun v4987 k0_hw129 => k0_hw129.2.2.2.2.2 (k0_off857_inb v4987 k0_hw129)

def k0_off858 (v5007 : BitVec 32) : Fin 3 → Nat :=
  let c1_i32_6615 : BitVec 32 := 1#32
  let c128_i32_4624 : BitVec 32 := 128#32
  let v5008 : BitVec 32 := Scalar.muli v5007 c128_i32_4624
  let c0_i32_6623 : BitVec 32 := 0#32
  ![1, v5008.toNat, 0]

def k0_chk130 (v5007 : BitVec 32) : Prop :=
  (∀ a, (k0_off633 v5007) a + S1x128x256.size a ≤ S2x4096x512.size a) ∧
  (∀ (hinb : ∀ a, (k0_off633 v5007) a + S1x128x256.size a ≤ S2x4096x512.size a), (Rect.unit (s := S2x4096x512) (k0_off633 v5007) S1x128x256.size hinb).WholeWords (EltTy.packing .bf16)) ∧
  (∀ a, (k0_off714 v5007) a + S1x128x256.size a ≤ S2x4096x512.size a) ∧
  (∀ (hinb : ∀ a, (k0_off714 v5007) a + S1x128x256.size a ≤ S2x4096x512.size a), (Rect.unit (s := S2x4096x512) (k0_off714 v5007) S1x128x256.size hinb).WholeWords (EltTy.packing .bf16)) ∧
  (∀ a, (k0_off858 v5007) a + S1x128x256.size a ≤ S2x4096x512.size a) ∧
  (∀ (hinb : ∀ a, (k0_off858 v5007) a + S1x128x256.size a ≤ S2x4096x512.size a), (Rect.unit (s := S2x4096x512) (k0_off858 v5007) S1x128x256.size hinb).WholeWords (EltTy.packing .bf16))
theorem k0_off633_inb : ∀ (v5007 : BitVec 32) (k0_hw130 : k0_chk130 v5007), ∀ a, (k0_off633 v5007) a + S1x128x256.size a ≤ S2x4096x512.size a := fun v5007 k0_hw130 => k0_hw130.1
theorem k0_off633_wordsbf16 : ∀ (v5007 : BitVec 32) (k0_hw130 : k0_chk130 v5007), (Rect.unit (s := S2x4096x512) (k0_off633 v5007) S1x128x256.size (k0_off633_inb v5007 k0_hw130)).WholeWords (EltTy.packing .bf16) := fun v5007 k0_hw130 => k0_hw130.2.1 (k0_off633_inb v5007 k0_hw130)
theorem k0_off714_inb : ∀ (v5007 : BitVec 32) (k0_hw130 : k0_chk130 v5007), ∀ a, (k0_off714 v5007) a + S1x128x256.size a ≤ S2x4096x512.size a := fun v5007 k0_hw130 => k0_hw130.2.2.1
theorem k0_off714_wordsbf16 : ∀ (v5007 : BitVec 32) (k0_hw130 : k0_chk130 v5007), (Rect.unit (s := S2x4096x512) (k0_off714 v5007) S1x128x256.size (k0_off714_inb v5007 k0_hw130)).WholeWords (EltTy.packing .bf16) := fun v5007 k0_hw130 => k0_hw130.2.2.2.1 (k0_off714_inb v5007 k0_hw130)
theorem k0_off858_inb : ∀ (v5007 : BitVec 32) (k0_hw130 : k0_chk130 v5007), ∀ a, (k0_off858 v5007) a + S1x128x256.size a ≤ S2x4096x512.size a := fun v5007 k0_hw130 => k0_hw130.2.2.2.2.1
theorem k0_off858_wordsbf16 : ∀ (v5007 : BitVec 32) (k0_hw130 : k0_chk130 v5007), (Rect.unit (s := S2x4096x512) (k0_off858 v5007) S1x128x256.size (k0_off858_inb v5007 k0_hw130)).WholeWords (EltTy.packing .bf16) := fun v5007 k0_hw130 => k0_hw130.2.2.2.2.2 (k0_off858_inb v5007 k0_hw130)

def k0_off859 (v5027 : BitVec 32) : Fin 3 → Nat :=
  let c1_i32_6626 : BitVec 32 := 1#32
  let c128_i32_4651 : BitVec 32 := 128#32
  let v5028 : BitVec 32 := Scalar.muli v5027 c128_i32_4651
  let c256_i32_6634 : BitVec 32 := 256#32
  ![1, v5028.toNat, 256]

def k0_chk131 (v5027 : BitVec 32) : Prop :=
  (∀ a, (k0_off635 v5027) a + S1x128x256.size a ≤ S2x4096x512.size a) ∧
  (∀ (hinb : ∀ a, (k0_off635 v5027) a + S1x128x256.size a ≤ S2x4096x512.size a), (Rect.unit (s := S2x4096x512) (k0_off635 v5027) S1x128x256.size hinb).WholeWords (EltTy.packing .bf16)) ∧
  (∀ a, (k0_off715 v5027) a + S1x128x256.size a ≤ S2x4096x512.size a) ∧
  (∀ (hinb : ∀ a, (k0_off715 v5027) a + S1x128x256.size a ≤ S2x4096x512.size a), (Rect.unit (s := S2x4096x512) (k0_off715 v5027) S1x128x256.size hinb).WholeWords (EltTy.packing .bf16)) ∧
  (∀ a, (k0_off859 v5027) a + S1x128x256.size a ≤ S2x4096x512.size a) ∧
  (∀ (hinb : ∀ a, (k0_off859 v5027) a + S1x128x256.size a ≤ S2x4096x512.size a), (Rect.unit (s := S2x4096x512) (k0_off859 v5027) S1x128x256.size hinb).WholeWords (EltTy.packing .bf16))
theorem k0_off635_inb : ∀ (v5027 : BitVec 32) (k0_hw131 : k0_chk131 v5027), ∀ a, (k0_off635 v5027) a + S1x128x256.size a ≤ S2x4096x512.size a := fun v5027 k0_hw131 => k0_hw131.1
theorem k0_off635_wordsbf16 : ∀ (v5027 : BitVec 32) (k0_hw131 : k0_chk131 v5027), (Rect.unit (s := S2x4096x512) (k0_off635 v5027) S1x128x256.size (k0_off635_inb v5027 k0_hw131)).WholeWords (EltTy.packing .bf16) := fun v5027 k0_hw131 => k0_hw131.2.1 (k0_off635_inb v5027 k0_hw131)
theorem k0_off715_inb : ∀ (v5027 : BitVec 32) (k0_hw131 : k0_chk131 v5027), ∀ a, (k0_off715 v5027) a + S1x128x256.size a ≤ S2x4096x512.size a := fun v5027 k0_hw131 => k0_hw131.2.2.1
theorem k0_off715_wordsbf16 : ∀ (v5027 : BitVec 32) (k0_hw131 : k0_chk131 v5027), (Rect.unit (s := S2x4096x512) (k0_off715 v5027) S1x128x256.size (k0_off715_inb v5027 k0_hw131)).WholeWords (EltTy.packing .bf16) := fun v5027 k0_hw131 => k0_hw131.2.2.2.1 (k0_off715_inb v5027 k0_hw131)
theorem k0_off859_inb : ∀ (v5027 : BitVec 32) (k0_hw131 : k0_chk131 v5027), ∀ a, (k0_off859 v5027) a + S1x128x256.size a ≤ S2x4096x512.size a := fun v5027 k0_hw131 => k0_hw131.2.2.2.2.1
theorem k0_off859_wordsbf16 : ∀ (v5027 : BitVec 32) (k0_hw131 : k0_chk131 v5027), (Rect.unit (s := S2x4096x512) (k0_off859 v5027) S1x128x256.size (k0_off859_inb v5027 k0_hw131)).WholeWords (EltTy.packing .bf16) := fun v5027 k0_hw131 => k0_hw131.2.2.2.2.2 (k0_off859_inb v5027 k0_hw131)

def k0_dev128 (v3 : BitVec 32) : Nat :=
  let c0_i32_6638_r0 : BitVec 32 := 0#32
  let c1_i32_6637_r0 : BitVec 32 := 1#32
  let v6618_r0 : BitVec 32 := Scalar.muli v3 c1_i32_6637_r0
  let v6619_r0 : BitVec 32 := Scalar.addi c0_i32_6638_r0 v6618_r0
  v6619_r0.toNat

def k0_chk1_0 (v3 : BitVec 32) : Prop :=
  ((k0_dev1 v3) < nD) ∧
  ((k0_dev6 v3) < nD) ∧
  ((k0_dev9 v3) < nD) ∧
  ((k0_dev12 v3) < nD) ∧
  ((k0_dev15 v3) < nD) ∧
  ((k0_dev18 v3) < nD) ∧
  ((k0_dev19 v3) < nD) ∧
  ((k0_dev22 v3) < nD) ∧
  ((k0_dev23 v3) < nD) ∧
  ((k0_dev32 v3) < nD) ∧
  ((k0_dev33 v3) < nD) ∧
  ((k0_dev34 v3) < nD) ∧
  ((k0_dev35 v3) < nD) ∧
  ((k0_dev36 v3) < nD) ∧
  ((k0_dev37 v3) < nD) ∧
  ((k0_dev38 v3) < nD) ∧
  ((k0_dev39 v3) < nD) ∧
  ((k0_dev48 v3) < nD) ∧
  ((k0_dev49 v3) < nD) ∧
  ((k0_dev50 v3) < nD) ∧
  ((k0_dev51 v3) < nD) ∧
  ((k0_dev52 v3) < nD) ∧
  ((k0_dev53 v3) < nD) ∧
  ((k0_dev54 v3) < nD) ∧
  ((k0_dev55 v3) < nD) ∧
  ((k0_dev64 v3) < nD) ∧
  ((k0_dev65 v3) < nD) ∧
  ((k0_dev66 v3) < nD) ∧
  ((k0_dev67 v3) < nD) ∧
  ((k0_dev68 v3) < nD) ∧
  ((k0_dev69 v3) < nD) ∧
  ((k0_dev70 v3) < nD)
def k0_chk1_1 (v3 : BitVec 32) : Prop :=
  ((k0_dev71 v3) < nD) ∧
  ((k0_dev80 v3) < nD) ∧
  ((k0_dev81 v3) < nD) ∧
  ((k0_dev82 v3) < nD) ∧
  ((k0_dev83 v3) < nD) ∧
  ((k0_dev84 v3) < nD) ∧
  ((k0_dev85 v3) < nD) ∧
  ((k0_dev86 v3) < nD) ∧
  ((k0_dev87 v3) < nD) ∧
  ((k0_dev96 v3) < nD) ∧
  ((k0_dev97 v3) < nD) ∧
  ((k0_dev98 v3) < nD) ∧
  ((k0_dev99 v3) < nD) ∧
  ((k0_dev100 v3) < nD) ∧
  ((k0_dev101 v3) < nD) ∧
  ((k0_dev102 v3) < nD) ∧
  ((k0_dev103 v3) < nD) ∧
  ((k0_dev112 v3) < nD) ∧
  ((k0_dev113 v3) < nD) ∧
  ((k0_dev114 v3) < nD) ∧
  ((k0_dev115 v3) < nD) ∧
  ((k0_dev116 v3) < nD) ∧
  ((k0_dev117 v3) < nD) ∧
  ((k0_dev118 v3) < nD) ∧
  ((k0_dev119 v3) < nD) ∧
  ((k0_dev128 v3) < nD)
def k0_chk1 (v3 : BitVec 32) : Prop :=
  k0_chk1_0 v3 ∧
  k0_chk1_1 v3
theorem k0_dev1_lt : ∀ (v3 : BitVec 32) (k0_hw1 : k0_chk1 v3), (k0_dev1 v3) < nD := fun v3 k0_hw1 => k0_hw1.1.1
theorem k0_dev6_lt : ∀ (v3 : BitVec 32) (k0_hw1 : k0_chk1 v3), (k0_dev6 v3) < nD := fun v3 k0_hw1 => k0_hw1.1.2.1
theorem k0_dev9_lt : ∀ (v3 : BitVec 32) (k0_hw1 : k0_chk1 v3), (k0_dev9 v3) < nD := fun v3 k0_hw1 => k0_hw1.1.2.2.1
theorem k0_dev12_lt : ∀ (v3 : BitVec 32) (k0_hw1 : k0_chk1 v3), (k0_dev12 v3) < nD := fun v3 k0_hw1 => k0_hw1.1.2.2.2.1
theorem k0_dev15_lt : ∀ (v3 : BitVec 32) (k0_hw1 : k0_chk1 v3), (k0_dev15 v3) < nD := fun v3 k0_hw1 => k0_hw1.1.2.2.2.2.1
theorem k0_dev18_lt : ∀ (v3 : BitVec 32) (k0_hw1 : k0_chk1 v3), (k0_dev18 v3) < nD := fun v3 k0_hw1 => k0_hw1.1.2.2.2.2.2.1
theorem k0_dev19_lt : ∀ (v3 : BitVec 32) (k0_hw1 : k0_chk1 v3), (k0_dev19 v3) < nD := fun v3 k0_hw1 => k0_hw1.1.2.2.2.2.2.2.1
theorem k0_dev22_lt : ∀ (v3 : BitVec 32) (k0_hw1 : k0_chk1 v3), (k0_dev22 v3) < nD := fun v3 k0_hw1 => k0_hw1.1.2.2.2.2.2.2.2.1
theorem k0_dev23_lt : ∀ (v3 : BitVec 32) (k0_hw1 : k0_chk1 v3), (k0_dev23 v3) < nD := fun v3 k0_hw1 => k0_hw1.1.2.2.2.2.2.2.2.2.1
theorem k0_dev32_lt : ∀ (v3 : BitVec 32) (k0_hw1 : k0_chk1 v3), (k0_dev32 v3) < nD := fun v3 k0_hw1 => k0_hw1.1.2.2.2.2.2.2.2.2.2.1
theorem k0_dev33_lt : ∀ (v3 : BitVec 32) (k0_hw1 : k0_chk1 v3), (k0_dev33 v3) < nD := fun v3 k0_hw1 => k0_hw1.1.2.2.2.2.2.2.2.2.2.2.1
theorem k0_dev34_lt : ∀ (v3 : BitVec 32) (k0_hw1 : k0_chk1 v3), (k0_dev34 v3) < nD := fun v3 k0_hw1 => k0_hw1.1.2.2.2.2.2.2.2.2.2.2.2.1
theorem k0_dev35_lt : ∀ (v3 : BitVec 32) (k0_hw1 : k0_chk1 v3), (k0_dev35 v3) < nD := fun v3 k0_hw1 => k0_hw1.1.2.2.2.2.2.2.2.2.2.2.2.2.1
theorem k0_dev36_lt : ∀ (v3 : BitVec 32) (k0_hw1 : k0_chk1 v3), (k0_dev36 v3) < nD := fun v3 k0_hw1 => k0_hw1.1.2.2.2.2.2.2.2.2.2.2.2.2.2.1
theorem k0_dev37_lt : ∀ (v3 : BitVec 32) (k0_hw1 : k0_chk1 v3), (k0_dev37 v3) < nD := fun v3 k0_hw1 => k0_hw1.1.2.2.2.2.2.2.2.2.2.2.2.2.2.2.1
theorem k0_dev38_lt : ∀ (v3 : BitVec 32) (k0_hw1 : k0_chk1 v3), (k0_dev38 v3) < nD := fun v3 k0_hw1 => k0_hw1.1.2.2.2.2.2.2.2.2.2.2.2.2.2.2.2.1
theorem k0_dev39_lt : ∀ (v3 : BitVec 32) (k0_hw1 : k0_chk1 v3), (k0_dev39 v3) < nD := fun v3 k0_hw1 => k0_hw1.1.2.2.2.2.2.2.2.2.2.2.2.2.2.2.2.2.1
theorem k0_dev48_lt : ∀ (v3 : BitVec 32) (k0_hw1 : k0_chk1 v3), (k0_dev48 v3) < nD := fun v3 k0_hw1 => k0_hw1.1.2.2.2.2.2.2.2.2.2.2.2.2.2.2.2.2.2.1
theorem k0_dev49_lt : ∀ (v3 : BitVec 32) (k0_hw1 : k0_chk1 v3), (k0_dev49 v3) < nD := fun v3 k0_hw1 => k0_hw1.1.2.2.2.2.2.2.2.2.2.2.2.2.2.2.2.2.2.2.1
theorem k0_dev50_lt : ∀ (v3 : BitVec 32) (k0_hw1 : k0_chk1 v3), (k0_dev50 v3) < nD := fun v3 k0_hw1 => k0_hw1.1.2.2.2.2.2.2.2.2.2.2.2.2.2.2.2.2.2.2.2.1
theorem k0_dev51_lt : ∀ (v3 : BitVec 32) (k0_hw1 : k0_chk1 v3), (k0_dev51 v3) < nD := fun v3 k0_hw1 => k0_hw1.1.2.2.2.2.2.2.2.2.2.2.2.2.2.2.2.2.2.2.2.2.1
theorem k0_dev52_lt : ∀ (v3 : BitVec 32) (k0_hw1 : k0_chk1 v3), (k0_dev52 v3) < nD := fun v3 k0_hw1 => k0_hw1.1.2.2.2.2.2.2.2.2.2.2.2.2.2.2.2.2.2.2.2.2.2.1
theorem k0_dev53_lt : ∀ (v3 : BitVec 32) (k0_hw1 : k0_chk1 v3), (k0_dev53 v3) < nD := fun v3 k0_hw1 => k0_hw1.1.2.2.2.2.2.2.2.2.2.2.2.2.2.2.2.2.2.2.2.2.2.2.1
theorem k0_dev54_lt : ∀ (v3 : BitVec 32) (k0_hw1 : k0_chk1 v3), (k0_dev54 v3) < nD := fun v3 k0_hw1 => k0_hw1.1.2.2.2.2.2.2.2.2.2.2.2.2.2.2.2.2.2.2.2.2.2.2.2.1
theorem k0_dev55_lt : ∀ (v3 : BitVec 32) (k0_hw1 : k0_chk1 v3), (k0_dev55 v3) < nD := fun v3 k0_hw1 => k0_hw1.1.2.2.2.2.2.2.2.2.2.2.2.2.2.2.2.2.2.2.2.2.2.2.2.2.1
theorem k0_dev64_lt : ∀ (v3 : BitVec 32) (k0_hw1 : k0_chk1 v3), (k0_dev64 v3) < nD := fun v3 k0_hw1 => k0_hw1.1.2.2.2.2.2.2.2.2.2.2.2.2.2.2.2.2.2.2.2.2.2.2.2.2.2.1
theorem k0_dev65_lt : ∀ (v3 : BitVec 32) (k0_hw1 : k0_chk1 v3), (k0_dev65 v3) < nD := fun v3 k0_hw1 => k0_hw1.1.2.2.2.2.2.2.2.2.2.2.2.2.2.2.2.2.2.2.2.2.2.2.2.2.2.2.1
theorem k0_dev66_lt : ∀ (v3 : BitVec 32) (k0_hw1 : k0_chk1 v3), (k0_dev66 v3) < nD := fun v3 k0_hw1 => k0_hw1.1.2.2.2.2.2.2.2.2.2.2.2.2.2.2.2.2.2.2.2.2.2.2.2.2.2.2.2.1
theorem k0_dev67_lt : ∀ (v3 : BitVec 32) (k0_hw1 : k0_chk1 v3), (k0_dev67 v3) < nD := fun v3 k0_hw1 => k0_hw1.1.2.2.2.2.2.2.2.2.2.2.2.2.2.2.2.2.2.2.2.2.2.2.2.2.2.2.2.2.1
theorem k0_dev68_lt : ∀ (v3 : BitVec 32) (k0_hw1 : k0_chk1 v3), (k0_dev68 v3) < nD := fun v3 k0_hw1 => k0_hw1.1.2.2.2.2.2.2.2.2.2.2.2.2.2.2.2.2.2.2.2.2.2.2.2.2.2.2.2.2.2.1
theorem k0_dev69_lt : ∀ (v3 : BitVec 32) (k0_hw1 : k0_chk1 v3), (k0_dev69 v3) < nD := fun v3 k0_hw1 => k0_hw1.1.2.2.2.2.2.2.2.2.2.2.2.2.2.2.2.2.2.2.2.2.2.2.2.2.2.2.2.2.2.2.1
theorem k0_dev70_lt : ∀ (v3 : BitVec 32) (k0_hw1 : k0_chk1 v3), (k0_dev70 v3) < nD := fun v3 k0_hw1 => k0_hw1.1.2.2.2.2.2.2.2.2.2.2.2.2.2.2.2.2.2.2.2.2.2.2.2.2.2.2.2.2.2.2.2
theorem k0_dev71_lt : ∀ (v3 : BitVec 32) (k0_hw1 : k0_chk1 v3), (k0_dev71 v3) < nD := fun v3 k0_hw1 => k0_hw1.2.1
theorem k0_dev80_lt : ∀ (v3 : BitVec 32) (k0_hw1 : k0_chk1 v3), (k0_dev80 v3) < nD := fun v3 k0_hw1 => k0_hw1.2.2.1
theorem k0_dev81_lt : ∀ (v3 : BitVec 32) (k0_hw1 : k0_chk1 v3), (k0_dev81 v3) < nD := fun v3 k0_hw1 => k0_hw1.2.2.2.1
theorem k0_dev82_lt : ∀ (v3 : BitVec 32) (k0_hw1 : k0_chk1 v3), (k0_dev82 v3) < nD := fun v3 k0_hw1 => k0_hw1.2.2.2.2.1
theorem k0_dev83_lt : ∀ (v3 : BitVec 32) (k0_hw1 : k0_chk1 v3), (k0_dev83 v3) < nD := fun v3 k0_hw1 => k0_hw1.2.2.2.2.2.1
theorem k0_dev84_lt : ∀ (v3 : BitVec 32) (k0_hw1 : k0_chk1 v3), (k0_dev84 v3) < nD := fun v3 k0_hw1 => k0_hw1.2.2.2.2.2.2.1
theorem k0_dev85_lt : ∀ (v3 : BitVec 32) (k0_hw1 : k0_chk1 v3), (k0_dev85 v3) < nD := fun v3 k0_hw1 => k0_hw1.2.2.2.2.2.2.2.1
theorem k0_dev86_lt : ∀ (v3 : BitVec 32) (k0_hw1 : k0_chk1 v3), (k0_dev86 v3) < nD := fun v3 k0_hw1 => k0_hw1.2.2.2.2.2.2.2.2.1
theorem k0_dev87_lt : ∀ (v3 : BitVec 32) (k0_hw1 : k0_chk1 v3), (k0_dev87 v3) < nD := fun v3 k0_hw1 => k0_hw1.2.2.2.2.2.2.2.2.2.1
theorem k0_dev96_lt : ∀ (v3 : BitVec 32) (k0_hw1 : k0_chk1 v3), (k0_dev96 v3) < nD := fun v3 k0_hw1 => k0_hw1.2.2.2.2.2.2.2.2.2.2.1
theorem k0_dev97_lt : ∀ (v3 : BitVec 32) (k0_hw1 : k0_chk1 v3), (k0_dev97 v3) < nD := fun v3 k0_hw1 => k0_hw1.2.2.2.2.2.2.2.2.2.2.2.1
theorem k0_dev98_lt : ∀ (v3 : BitVec 32) (k0_hw1 : k0_chk1 v3), (k0_dev98 v3) < nD := fun v3 k0_hw1 => k0_hw1.2.2.2.2.2.2.2.2.2.2.2.2.1
theorem k0_dev99_lt : ∀ (v3 : BitVec 32) (k0_hw1 : k0_chk1 v3), (k0_dev99 v3) < nD := fun v3 k0_hw1 => k0_hw1.2.2.2.2.2.2.2.2.2.2.2.2.2.1
theorem k0_dev100_lt : ∀ (v3 : BitVec 32) (k0_hw1 : k0_chk1 v3), (k0_dev100 v3) < nD := fun v3 k0_hw1 => k0_hw1.2.2.2.2.2.2.2.2.2.2.2.2.2.2.1
theorem k0_dev101_lt : ∀ (v3 : BitVec 32) (k0_hw1 : k0_chk1 v3), (k0_dev101 v3) < nD := fun v3 k0_hw1 => k0_hw1.2.2.2.2.2.2.2.2.2.2.2.2.2.2.2.1
theorem k0_dev102_lt : ∀ (v3 : BitVec 32) (k0_hw1 : k0_chk1 v3), (k0_dev102 v3) < nD := fun v3 k0_hw1 => k0_hw1.2.2.2.2.2.2.2.2.2.2.2.2.2.2.2.2.1
theorem k0_dev103_lt : ∀ (v3 : BitVec 32) (k0_hw1 : k0_chk1 v3), (k0_dev103 v3) < nD := fun v3 k0_hw1 => k0_hw1.2.2.2.2.2.2.2.2.2.2.2.2.2.2.2.2.2.1
theorem k0_dev112_lt : ∀ (v3 : BitVec 32) (k0_hw1 : k0_chk1 v3), (k0_dev112 v3) < nD := fun v3 k0_hw1 => k0_hw1.2.2.2.2.2.2.2.2.2.2.2.2.2.2.2.2.2.2.1
theorem k0_dev113_lt : ∀ (v3 : BitVec 32) (k0_hw1 : k0_chk1 v3), (k0_dev113 v3) < nD := fun v3 k0_hw1 => k0_hw1.2.2.2.2.2.2.2.2.2.2.2.2.2.2.2.2.2.2.2.1
theorem k0_dev114_lt : ∀ (v3 : BitVec 32) (k0_hw1 : k0_chk1 v3), (k0_dev114 v3) < nD := fun v3 k0_hw1 => k0_hw1.2.2.2.2.2.2.2.2.2.2.2.2.2.2.2.2.2.2.2.2.1
theorem k0_dev115_lt : ∀ (v3 : BitVec 32) (k0_hw1 : k0_chk1 v3), (k0_dev115 v3) < nD := fun v3 k0_hw1 => k0_hw1.2.2.2.2.2.2.2.2.2.2.2.2.2.2.2.2.2.2.2.2.2.1
theorem k0_dev116_lt : ∀ (v3 : BitVec 32) (k0_hw1 : k0_chk1 v3), (k0_dev116 v3) < nD := fun v3 k0_hw1 => k0_hw1.2.2.2.2.2.2.2.2.2.2.2.2.2.2.2.2.2.2.2.2.2.2.1
theorem k0_dev117_lt : ∀ (v3 : BitVec 32) (k0_hw1 : k0_chk1 v3), (k0_dev117 v3) < nD := fun v3 k0_hw1 => k0_hw1.2.2.2.2.2.2.2.2.2.2.2.2.2.2.2.2.2.2.2.2.2.2.2.1
theorem k0_dev118_lt : ∀ (v3 : BitVec 32) (k0_hw1 : k0_chk1 v3), (k0_dev118 v3) < nD := fun v3 k0_hw1 => k0_hw1.2.2.2.2.2.2.2.2.2.2.2.2.2.2.2.2.2.2.2.2.2.2.2.2.1
theorem k0_dev119_lt : ∀ (v3 : BitVec 32) (k0_hw1 : k0_chk1 v3), (k0_dev119 v3) < nD := fun v3 k0_hw1 => k0_hw1.2.2.2.2.2.2.2.2.2.2.2.2.2.2.2.2.2.2.2.2.2.2.2.2.2.1
theorem k0_dev128_lt : ∀ (v3 : BitVec 32) (k0_hw1 : k0_chk1 v3), (k0_dev128 v3) < nD := fun v3 k0_hw1 => k0_hw1.2.2.2.2.2.2.2.2.2.2.2.2.2.2.2.2.2.2.2.2.2.2.2.2.2.2

def k0_dev129 (v4 : BitVec 32) : Nat :=
  let c0_i32_6641_r0 : BitVec 32 := 0#32
  let c1_i32_6640_r0 : BitVec 32 := 1#32
  let v6620_r0 : BitVec 32 := Scalar.muli v4 c1_i32_6640_r0
  let v6621_r0 : BitVec 32 := Scalar.addi c0_i32_6641_r0 v6620_r0
  v6621_r0.toNat

def k0_chk2_0 (v4 : BitVec 32) : Prop :=
  ((k0_dev2 v4) < nD) ∧
  ((k0_dev5 v4) < nD) ∧
  ((k0_dev8 v4) < nD) ∧
  ((k0_dev11 v4) < nD) ∧
  ((k0_dev14 v4) < nD) ∧
  ((k0_dev16 v4) < nD) ∧
  ((k0_dev17 v4) < nD) ∧
  ((k0_dev20 v4) < nD) ∧
  ((k0_dev21 v4) < nD) ∧
  ((k0_dev24 v4) < nD) ∧
  ((k0_dev25 v4) < nD) ∧
  ((k0_dev26 v4) < nD) ∧
  ((k0_dev27 v4) < nD) ∧
  ((k0_dev28 v4) < nD) ∧
  ((k0_dev29 v4) < nD) ∧
  ((k0_dev30 v4) < nD) ∧
  ((k0_dev31 v4) < nD) ∧
  ((k0_dev40 v4) < nD) ∧
  ((k0_dev41 v4) < nD) ∧
  ((k0_dev42 v4) < nD) ∧
  ((k0_dev43 v4) < nD) ∧
  ((k0_dev44 v4) < nD) ∧
  ((k0_dev45 v4) < nD) ∧
  ((k0_dev46 v4) < nD) ∧
  ((k0_dev47 v4) < nD) ∧
  ((k0_dev56 v4) < nD) ∧
  ((k0_dev57 v4) < nD) ∧
  ((k0_dev58 v4) < nD) ∧
  ((k0_dev59 v4) < nD) ∧
  ((k0_dev60 v4) < nD) ∧
  ((k0_dev61 v4) < nD) ∧
  ((k0_dev62 v4) < nD)
def k0_chk2_1 (v4 : BitVec 32) : Prop :=
  ((k0_dev63 v4) < nD) ∧
  ((k0_dev72 v4) < nD) ∧
  ((k0_dev73 v4) < nD) ∧
  ((k0_dev74 v4) < nD) ∧
  ((k0_dev75 v4) < nD) ∧
  ((k0_dev76 v4) < nD) ∧
  ((k0_dev77 v4) < nD) ∧
  ((k0_dev78 v4) < nD) ∧
  ((k0_dev79 v4) < nD) ∧
  ((k0_dev88 v4) < nD) ∧
  ((k0_dev89 v4) < nD) ∧
  ((k0_dev90 v4) < nD) ∧
  ((k0_dev91 v4) < nD) ∧
  ((k0_dev92 v4) < nD) ∧
  ((k0_dev93 v4) < nD) ∧
  ((k0_dev94 v4) < nD) ∧
  ((k0_dev95 v4) < nD) ∧
  ((k0_dev104 v4) < nD) ∧
  ((k0_dev105 v4) < nD) ∧
  ((k0_dev106 v4) < nD) ∧
  ((k0_dev107 v4) < nD) ∧
  ((k0_dev108 v4) < nD) ∧
  ((k0_dev109 v4) < nD) ∧
  ((k0_dev110 v4) < nD) ∧
  ((k0_dev111 v4) < nD) ∧
  ((k0_dev120 v4) < nD) ∧
  ((k0_dev121 v4) < nD) ∧
  ((k0_dev122 v4) < nD) ∧
  ((k0_dev123 v4) < nD) ∧
  ((k0_dev124 v4) < nD) ∧
  ((k0_dev125 v4) < nD) ∧
  ((k0_dev126 v4) < nD)
def k0_chk2_2 (v4 : BitVec 32) : Prop :=
  ((k0_dev127 v4) < nD) ∧
  ((k0_dev129 v4) < nD)
def k0_chk2 (v4 : BitVec 32) : Prop :=
  k0_chk2_0 v4 ∧
  k0_chk2_1 v4 ∧
  k0_chk2_2 v4
theorem k0_dev2_lt : ∀ (v4 : BitVec 32) (k0_hw2 : k0_chk2 v4), (k0_dev2 v4) < nD := fun v4 k0_hw2 => k0_hw2.1.1
theorem k0_dev5_lt : ∀ (v4 : BitVec 32) (k0_hw2 : k0_chk2 v4), (k0_dev5 v4) < nD := fun v4 k0_hw2 => k0_hw2.1.2.1
theorem k0_dev8_lt : ∀ (v4 : BitVec 32) (k0_hw2 : k0_chk2 v4), (k0_dev8 v4) < nD := fun v4 k0_hw2 => k0_hw2.1.2.2.1
theorem k0_dev11_lt : ∀ (v4 : BitVec 32) (k0_hw2 : k0_chk2 v4), (k0_dev11 v4) < nD := fun v4 k0_hw2 => k0_hw2.1.2.2.2.1
theorem k0_dev14_lt : ∀ (v4 : BitVec 32) (k0_hw2 : k0_chk2 v4), (k0_dev14 v4) < nD := fun v4 k0_hw2 => k0_hw2.1.2.2.2.2.1
theorem k0_dev16_lt : ∀ (v4 : BitVec 32) (k0_hw2 : k0_chk2 v4), (k0_dev16 v4) < nD := fun v4 k0_hw2 => k0_hw2.1.2.2.2.2.2.1
theorem k0_dev17_lt : ∀ (v4 : BitVec 32) (k0_hw2 : k0_chk2 v4), (k0_dev17 v4) < nD := fun v4 k0_hw2 => k0_hw2.1.2.2.2.2.2.2.1
theorem k0_dev20_lt : ∀ (v4 : BitVec 32) (k0_hw2 : k0_chk2 v4), (k0_dev20 v4) < nD := fun v4 k0_hw2 => k0_hw2.1.2.2.2.2.2.2.2.1
theorem k0_dev21_lt : ∀ (v4 : BitVec 32) (k0_hw2 : k0_chk2 v4), (k0_dev21 v4) < nD := fun v4 k0_hw2 => k0_hw2.1.2.2.2.2.2.2.2.2.1
theorem k0_dev24_lt : ∀ (v4 : BitVec 32) (k0_hw2 : k0_chk2 v4), (k0_dev24 v4) < nD := fun v4 k0_hw2 => k0_hw2.1.2.2.2.2.2.2.2.2.2.1
theorem k0_dev25_lt : ∀ (v4 : BitVec 32) (k0_hw2 : k0_chk2 v4), (k0_dev25 v4) < nD := fun v4 k0_hw2 => k0_hw2.1.2.2.2.2.2.2.2.2.2.2.1
theorem k0_dev26_lt : ∀ (v4 : BitVec 32) (k0_hw2 : k0_chk2 v4), (k0_dev26 v4) < nD := fun v4 k0_hw2 => k0_hw2.1.2.2.2.2.2.2.2.2.2.2.2.1
theorem k0_dev27_lt : ∀ (v4 : BitVec 32) (k0_hw2 : k0_chk2 v4), (k0_dev27 v4) < nD := fun v4 k0_hw2 => k0_hw2.1.2.2.2.2.2.2.2.2.2.2.2.2.1
theorem k0_dev28_lt : ∀ (v4 : BitVec 32) (k0_hw2 : k0_chk2 v4), (k0_dev28 v4) < nD := fun v4 k0_hw2 => k0_hw2.1.2.2.2.2.2.2.2.2.2.2.2.2.2.1
theorem k0_dev29_lt : ∀ (v4 : BitVec 32) (k0_hw2 : k0_chk2 v4), (k0_dev29 v4) < nD := fun v4 k0_hw2 => k0_hw2.1.2.2.2.2.2.2.2.2.2.2.2.2.2.2.1
theorem k0_dev30_lt : ∀ (v4 : BitVec 32) (k0_hw2 : k0_chk2 v4), (k0_dev30 v4) < nD := fun v4 k0_hw2 => k0_hw2.1.2.2.2.2.2.2.2.2.2.2.2.2.2.2.2.1
theorem k0_dev31_lt : ∀ (v4 : BitVec 32) (k0_hw2 : k0_chk2 v4), (k0_dev31 v4) < nD := fun v4 k0_hw2 => k0_hw2.1.2.2.2.2.2.2.2.2.2.2.2.2.2.2.2.2.1
theorem k0_dev40_lt : ∀ (v4 : BitVec 32) (k0_hw2 : k0_chk2 v4), (k0_dev40 v4) < nD := fun v4 k0_hw2 => k0_hw2.1.2.2.2.2.2.2.2.2.2.2.2.2.2.2.2.2.2.1
theorem k0_dev41_lt : ∀ (v4 : BitVec 32) (k0_hw2 : k0_chk2 v4), (k0_dev41 v4) < nD := fun v4 k0_hw2 => k0_hw2.1.2.2.2.2.2.2.2.2.2.2.2.2.2.2.2.2.2.2.1
theorem k0_dev42_lt : ∀ (v4 : BitVec 32) (k0_hw2 : k0_chk2 v4), (k0_dev42 v4) < nD := fun v4 k0_hw2 => k0_hw2.1.2.2.2.2.2.2.2.2.2.2.2.2.2.2.2.2.2.2.2.1
theorem k0_dev43_lt : ∀ (v4 : BitVec 32) (k0_hw2 : k0_chk2 v4), (k0_dev43 v4) < nD := fun v4 k0_hw2 => k0_hw2.1.2.2.2.2.2.2.2.2.2.2.2.2.2.2.2.2.2.2.2.2.1
theorem k0_dev44_lt : ∀ (v4 : BitVec 32) (k0_hw2 : k0_chk2 v4), (k0_dev44 v4) < nD := fun v4 k0_hw2 => k0_hw2.1.2.2.2.2.2.2.2.2.2.2.2.2.2.2.2.2.2.2.2.2.2.1
theorem k0_dev45_lt : ∀ (v4 : BitVec 32) (k0_hw2 : k0_chk2 v4), (k0_dev45 v4) < nD := fun v4 k0_hw2 => k0_hw2.1.2.2.2.2.2.2.2.2.2.2.2.2.2.2.2.2.2.2.2.2.2.2.1
theorem k0_dev46_lt : ∀ (v4 : BitVec 32) (k0_hw2 : k0_chk2 v4), (k0_dev46 v4) < nD := fun v4 k0_hw2 => k0_hw2.1.2.2.2.2.2.2.2.2.2.2.2.2.2.2.2.2.2.2.2.2.2.2.2.1
theorem k0_dev47_lt : ∀ (v4 : BitVec 32) (k0_hw2 : k0_chk2 v4), (k0_dev47 v4) < nD := fun v4 k0_hw2 => k0_hw2.1.2.2.2.2.2.2.2.2.2.2.2.2.2.2.2.2.2.2.2.2.2.2.2.2.1
theorem k0_dev56_lt : ∀ (v4 : BitVec 32) (k0_hw2 : k0_chk2 v4), (k0_dev56 v4) < nD := fun v4 k0_hw2 => k0_hw2.1.2.2.2.2.2.2.2.2.2.2.2.2.2.2.2.2.2.2.2.2.2.2.2.2.2.1
theorem k0_dev57_lt : ∀ (v4 : BitVec 32) (k0_hw2 : k0_chk2 v4), (k0_dev57 v4) < nD := fun v4 k0_hw2 => k0_hw2.1.2.2.2.2.2.2.2.2.2.2.2.2.2.2.2.2.2.2.2.2.2.2.2.2.2.2.1
theorem k0_dev58_lt : ∀ (v4 : BitVec 32) (k0_hw2 : k0_chk2 v4), (k0_dev58 v4) < nD := fun v4 k0_hw2 => k0_hw2.1.2.2.2.2.2.2.2.2.2.2.2.2.2.2.2.2.2.2.2.2.2.2.2.2.2.2.2.1
theorem k0_dev59_lt : ∀ (v4 : BitVec 32) (k0_hw2 : k0_chk2 v4), (k0_dev59 v4) < nD := fun v4 k0_hw2 => k0_hw2.1.2.2.2.2.2.2.2.2.2.2.2.2.2.2.2.2.2.2.2.2.2.2.2.2.2.2.2.2.1
theorem k0_dev60_lt : ∀ (v4 : BitVec 32) (k0_hw2 : k0_chk2 v4), (k0_dev60 v4) < nD := fun v4 k0_hw2 => k0_hw2.1.2.2.2.2.2.2.2.2.2.2.2.2.2.2.2.2.2.2.2.2.2.2.2.2.2.2.2.2.2.1
theorem k0_dev61_lt : ∀ (v4 : BitVec 32) (k0_hw2 : k0_chk2 v4), (k0_dev61 v4) < nD := fun v4 k0_hw2 => k0_hw2.1.2.2.2.2.2.2.2.2.2.2.2.2.2.2.2.2.2.2.2.2.2.2.2.2.2.2.2.2.2.2.1
theorem k0_dev62_lt : ∀ (v4 : BitVec 32) (k0_hw2 : k0_chk2 v4), (k0_dev62 v4) < nD := fun v4 k0_hw2 => k0_hw2.1.2.2.2.2.2.2.2.2.2.2.2.2.2.2.2.2.2.2.2.2.2.2.2.2.2.2.2.2.2.2.2
theorem k0_dev63_lt : ∀ (v4 : BitVec 32) (k0_hw2 : k0_chk2 v4), (k0_dev63 v4) < nD := fun v4 k0_hw2 => k0_hw2.2.1.1
theorem k0_dev72_lt : ∀ (v4 : BitVec 32) (k0_hw2 : k0_chk2 v4), (k0_dev72 v4) < nD := fun v4 k0_hw2 => k0_hw2.2.1.2.1
theorem k0_dev73_lt : ∀ (v4 : BitVec 32) (k0_hw2 : k0_chk2 v4), (k0_dev73 v4) < nD := fun v4 k0_hw2 => k0_hw2.2.1.2.2.1
theorem k0_dev74_lt : ∀ (v4 : BitVec 32) (k0_hw2 : k0_chk2 v4), (k0_dev74 v4) < nD := fun v4 k0_hw2 => k0_hw2.2.1.2.2.2.1
theorem k0_dev75_lt : ∀ (v4 : BitVec 32) (k0_hw2 : k0_chk2 v4), (k0_dev75 v4) < nD := fun v4 k0_hw2 => k0_hw2.2.1.2.2.2.2.1
theorem k0_dev76_lt : ∀ (v4 : BitVec 32) (k0_hw2 : k0_chk2 v4), (k0_dev76 v4) < nD := fun v4 k0_hw2 => k0_hw2.2.1.2.2.2.2.2.1
theorem k0_dev77_lt : ∀ (v4 : BitVec 32) (k0_hw2 : k0_chk2 v4), (k0_dev77 v4) < nD := fun v4 k0_hw2 => k0_hw2.2.1.2.2.2.2.2.2.1
theorem k0_dev78_lt : ∀ (v4 : BitVec 32) (k0_hw2 : k0_chk2 v4), (k0_dev78 v4) < nD := fun v4 k0_hw2 => k0_hw2.2.1.2.2.2.2.2.2.2.1
theorem k0_dev79_lt : ∀ (v4 : BitVec 32) (k0_hw2 : k0_chk2 v4), (k0_dev79 v4) < nD := fun v4 k0_hw2 => k0_hw2.2.1.2.2.2.2.2.2.2.2.1
theorem k0_dev88_lt : ∀ (v4 : BitVec 32) (k0_hw2 : k0_chk2 v4), (k0_dev88 v4) < nD := fun v4 k0_hw2 => k0_hw2.2.1.2.2.2.2.2.2.2.2.2.1
theorem k0_dev89_lt : ∀ (v4 : BitVec 32) (k0_hw2 : k0_chk2 v4), (k0_dev89 v4) < nD := fun v4 k0_hw2 => k0_hw2.2.1.2.2.2.2.2.2.2.2.2.2.1
theorem k0_dev90_lt : ∀ (v4 : BitVec 32) (k0_hw2 : k0_chk2 v4), (k0_dev90 v4) < nD := fun v4 k0_hw2 => k0_hw2.2.1.2.2.2.2.2.2.2.2.2.2.2.1
theorem k0_dev91_lt : ∀ (v4 : BitVec 32) (k0_hw2 : k0_chk2 v4), (k0_dev91 v4) < nD := fun v4 k0_hw2 => k0_hw2.2.1.2.2.2.2.2.2.2.2.2.2.2.2.1
theorem k0_dev92_lt : ∀ (v4 : BitVec 32) (k0_hw2 : k0_chk2 v4), (k0_dev92 v4) < nD := fun v4 k0_hw2 => k0_hw2.2.1.2.2.2.2.2.2.2.2.2.2.2.2.2.1
theorem k0_dev93_lt : ∀ (v4 : BitVec 32) (k0_hw2 : k0_chk2 v4), (k0_dev93 v4) < nD := fun v4 k0_hw2 => k0_hw2.2.1.2.2.2.2.2.2.2.2.2.2.2.2.2.2.1
theorem k0_dev94_lt : ∀ (v4 : BitVec 32) (k0_hw2 : k0_chk2 v4), (k0_dev94 v4) < nD := fun v4 k0_hw2 => k0_hw2.2.1.2.2.2.2.2.2.2.2.2.2.2.2.2.2.2.1
theorem k0_dev95_lt : ∀ (v4 : BitVec 32) (k0_hw2 : k0_chk2 v4), (k0_dev95 v4) < nD := fun v4 k0_hw2 => k0_hw2.2.1.2.2.2.2.2.2.2.2.2.2.2.2.2.2.2.2.1
theorem k0_dev104_lt : ∀ (v4 : BitVec 32) (k0_hw2 : k0_chk2 v4), (k0_dev104 v4) < nD := fun v4 k0_hw2 => k0_hw2.2.1.2.2.2.2.2.2.2.2.2.2.2.2.2.2.2.2.2.1
theorem k0_dev105_lt : ∀ (v4 : BitVec 32) (k0_hw2 : k0_chk2 v4), (k0_dev105 v4) < nD := fun v4 k0_hw2 => k0_hw2.2.1.2.2.2.2.2.2.2.2.2.2.2.2.2.2.2.2.2.2.1
theorem k0_dev106_lt : ∀ (v4 : BitVec 32) (k0_hw2 : k0_chk2 v4), (k0_dev106 v4) < nD := fun v4 k0_hw2 => k0_hw2.2.1.2.2.2.2.2.2.2.2.2.2.2.2.2.2.2.2.2.2.2.1
theorem k0_dev107_lt : ∀ (v4 : BitVec 32) (k0_hw2 : k0_chk2 v4), (k0_dev107 v4) < nD := fun v4 k0_hw2 => k0_hw2.2.1.2.2.2.2.2.2.2.2.2.2.2.2.2.2.2.2.2.2.2.2.1
theorem k0_dev108_lt : ∀ (v4 : BitVec 32) (k0_hw2 : k0_chk2 v4), (k0_dev108 v4) < nD := fun v4 k0_hw2 => k0_hw2.2.1.2.2.2.2.2.2.2.2.2.2.2.2.2.2.2.2.2.2.2.2.2.1
theorem k0_dev109_lt : ∀ (v4 : BitVec 32) (k0_hw2 : k0_chk2 v4), (k0_dev109 v4) < nD := fun v4 k0_hw2 => k0_hw2.2.1.2.2.2.2.2.2.2.2.2.2.2.2.2.2.2.2.2.2.2.2.2.2.1
theorem k0_dev110_lt : ∀ (v4 : BitVec 32) (k0_hw2 : k0_chk2 v4), (k0_dev110 v4) < nD := fun v4 k0_hw2 => k0_hw2.2.1.2.2.2.2.2.2.2.2.2.2.2.2.2.2.2.2.2.2.2.2.2.2.2.1
theorem k0_dev111_lt : ∀ (v4 : BitVec 32) (k0_hw2 : k0_chk2 v4), (k0_dev111 v4) < nD := fun v4 k0_hw2 => k0_hw2.2.1.2.2.2.2.2.2.2.2.2.2.2.2.2.2.2.2.2.2.2.2.2.2.2.2.1
theorem k0_dev120_lt : ∀ (v4 : BitVec 32) (k0_hw2 : k0_chk2 v4), (k0_dev120 v4) < nD := fun v4 k0_hw2 => k0_hw2.2.1.2.2.2.2.2.2.2.2.2.2.2.2.2.2.2.2.2.2.2.2.2.2.2.2.2.1
theorem k0_dev121_lt : ∀ (v4 : BitVec 32) (k0_hw2 : k0_chk2 v4), (k0_dev121 v4) < nD := fun v4 k0_hw2 => k0_hw2.2.1.2.2.2.2.2.2.2.2.2.2.2.2.2.2.2.2.2.2.2.2.2.2.2.2.2.2.1
theorem k0_dev122_lt : ∀ (v4 : BitVec 32) (k0_hw2 : k0_chk2 v4), (k0_dev122 v4) < nD := fun v4 k0_hw2 => k0_hw2.2.1.2.2.2.2.2.2.2.2.2.2.2.2.2.2.2.2.2.2.2.2.2.2.2.2.2.2.2.1
theorem k0_dev123_lt : ∀ (v4 : BitVec 32) (k0_hw2 : k0_chk2 v4), (k0_dev123 v4) < nD := fun v4 k0_hw2 => k0_hw2.2.1.2.2.2.2.2.2.2.2.2.2.2.2.2.2.2.2.2.2.2.2.2.2.2.2.2.2.2.2.1
theorem k0_dev124_lt : ∀ (v4 : BitVec 32) (k0_hw2 : k0_chk2 v4), (k0_dev124 v4) < nD := fun v4 k0_hw2 => k0_hw2.2.1.2.2.2.2.2.2.2.2.2.2.2.2.2.2.2.2.2.2.2.2.2.2.2.2.2.2.2.2.2.1
theorem k0_dev125_lt : ∀ (v4 : BitVec 32) (k0_hw2 : k0_chk2 v4), (k0_dev125 v4) < nD := fun v4 k0_hw2 => k0_hw2.2.1.2.2.2.2.2.2.2.2.2.2.2.2.2.2.2.2.2.2.2.2.2.2.2.2.2.2.2.2.2.2.1
theorem k0_dev126_lt : ∀ (v4 : BitVec 32) (k0_hw2 : k0_chk2 v4), (k0_dev126 v4) < nD := fun v4 k0_hw2 => k0_hw2.2.1.2.2.2.2.2.2.2.2.2.2.2.2.2.2.2.2.2.2.2.2.2.2.2.2.2.2.2.2.2.2.2
theorem k0_dev127_lt : ∀ (v4 : BitVec 32) (k0_hw2 : k0_chk2 v4), (k0_dev127 v4) < nD := fun v4 k0_hw2 => k0_hw2.2.2.1
theorem k0_dev129_lt : ∀ (v4 : BitVec 32) (k0_hw2 : k0_chk2 v4), (k0_dev129 v4) < nD := fun v4 k0_hw2 => k0_hw2.2.2.2

def k0_dev130 (v5 : BitVec 32) : Nat :=
  let c0_i32_6644_r0 : BitVec 32 := 0#32
  let c1_i32_6643_r0 : BitVec 32 := 1#32
  let v6622_r0 : BitVec 32 := Scalar.muli v5 c1_i32_6643_r0
  let v6623_r0 : BitVec 32 := Scalar.addi c0_i32_6644_r0 v6622_r0
  v6623_r0.toNat

def k0_chk3_0 (v5 : BitVec 32) : Prop :=
  ((k0_dev3 v5) < nD) ∧
  ((k0_dev4 v5) < nD) ∧
  ((k0_dev7 v5) < nD) ∧
  ((k0_dev10 v5) < nD) ∧
  ((k0_dev13 v5) < nD) ∧
  (∀ a, (k0_off25 v5) a + S1x128x64.size a ≤ S2x4096x512.size a) ∧
  (∀ a, (k0_off26 v5) a + S1x1x128x128.size a ≤ S2x4x128x4096.size a) ∧
  (∀ a, (k0_off27 v5) a + S1x128x64.size a ≤ S2x4096x512.size a) ∧
  (∀ a, (k0_off28 v5) a + S1x1x128x128.size a ≤ S2x4x128x4096.size a) ∧
  (∀ a, (k0_off29 v5) a + S1x128x64.size a ≤ S2x4096x512.size a) ∧
  (∀ a, (k0_off30 v5) a + S1x1x128x128.size a ≤ S2x4x128x4096.size a) ∧
  (∀ a, (k0_off31 v5) a + S1x128x64.size a ≤ S2x4096x512.size a) ∧
  (∀ a, (k0_off32 v5) a + S1x1x128x128.size a ≤ S2x4x128x4096.size a) ∧
  (∀ a, (k0_off33 v5) a + S1x128x64.size a ≤ S2x4096x512.size a) ∧
  (∀ a, (k0_off34 v5) a + S1x1x128x128.size a ≤ S2x4x128x4096.size a) ∧
  (∀ a, (k0_off35 v5) a + S1x128x64.size a ≤ S2x4096x512.size a) ∧
  (∀ a, (k0_off36 v5) a + S1x1x128x128.size a ≤ S2x4x128x4096.size a) ∧
  (∀ a, (k0_off37 v5) a + S1x128x64.size a ≤ S2x4096x512.size a) ∧
  (∀ a, (k0_off38 v5) a + S1x1x128x128.size a ≤ S2x4x128x4096.size a) ∧
  (∀ a, (k0_off39 v5) a + S1x128x64.size a ≤ S2x4096x512.size a) ∧
  (∀ a, (k0_off40 v5) a + S1x1x128x128.size a ≤ S2x4x128x4096.size a) ∧
  (∀ a, (k0_off41 v5) a + S1x128x256.size a ≤ S2x4096x512.size a) ∧
  (∀ (hinb : ∀ a, (k0_off41 v5) a + S1x128x256.size a ≤ S2x4096x512.size a), (Rect.unit (s := S2x4096x512) (k0_off41 v5) S1x128x256.size hinb).WholeWords (EltTy.packing .bf16)) ∧
  (∀ a, (k0_off42 v5) a + S1x128x256.size a ≤ S2x4096x512.size a) ∧
  (∀ (hinb : ∀ a, (k0_off42 v5) a + S1x128x256.size a ≤ S2x4096x512.size a), (Rect.unit (s := S2x4096x512) (k0_off42 v5) S1x128x256.size hinb).WholeWords (EltTy.packing .bf16)) ∧
  (∀ a, (k0_off43 v5) a + S1x128x256.size a ≤ S2x4096x512.size a) ∧
  (∀ (hinb : ∀ a, (k0_off43 v5) a + S1x128x256.size a ≤ S2x4096x512.size a), (Rect.unit (s := S2x4096x512) (k0_off43 v5) S1x128x256.size hinb).WholeWords (EltTy.packing .bf16)) ∧
  (∀ a, (k0_off44 v5) a + S1x128x256.size a ≤ S2x4096x512.size a) ∧
  (∀ (hinb : ∀ a, (k0_off44 v5) a + S1x128x256.size a ≤ S2x4096x512.size a), (Rect.unit (s := S2x4096x512) (k0_off44 v5) S1x128x256.size hinb).WholeWords (EltTy.packing .bf16)) ∧
  (∀ a, (k0_off48 v5) a + S1x128x256.size a ≤ S2x4096x512.size a) ∧
  (∀ (hinb : ∀ a, (k0_off48 v5) a + S1x128x256.size a ≤ S2x4096x512.size a), (Rect.unit (s := S2x4096x512) (k0_off48 v5) S1x128x256.size hinb).WholeWords (EltTy.packing .bf16)) ∧
  (∀ a, (k0_off50 v5) a + S1x128x256.size a ≤ S2x4096x512.size a)
def k0_chk3_1 (v5 : BitVec 32) : Prop :=
  (∀ (hinb : ∀ a, (k0_off50 v5) a + S1x128x256.size a ≤ S2x4096x512.size a), (Rect.unit (s := S2x4096x512) (k0_off50 v5) S1x128x256.size hinb).WholeWords (EltTy.packing .bf16)) ∧
  (∀ a, (k0_off56 v5) a + S1x128x256.size a ≤ S2x4096x512.size a) ∧
  (∀ (hinb : ∀ a, (k0_off56 v5) a + S1x128x256.size a ≤ S2x4096x512.size a), (Rect.unit (s := S2x4096x512) (k0_off56 v5) S1x128x256.size hinb).WholeWords (EltTy.packing .bf16)) ∧
  (∀ a, (k0_off58 v5) a + S1x128x256.size a ≤ S2x4096x512.size a) ∧
  (∀ (hinb : ∀ a, (k0_off58 v5) a + S1x128x256.size a ≤ S2x4096x512.size a), (Rect.unit (s := S2x4096x512) (k0_off58 v5) S1x128x256.size hinb).WholeWords (EltTy.packing .bf16)) ∧
  (∀ a, (k0_off64 v5) a + S1x128x256.size a ≤ S2x4096x512.size a) ∧
  (∀ (hinb : ∀ a, (k0_off64 v5) a + S1x128x256.size a ≤ S2x4096x512.size a), (Rect.unit (s := S2x4096x512) (k0_off64 v5) S1x128x256.size hinb).WholeWords (EltTy.packing .bf16)) ∧
  (∀ a, (k0_off66 v5) a + S1x128x256.size a ≤ S2x4096x512.size a) ∧
  (∀ (hinb : ∀ a, (k0_off66 v5) a + S1x128x256.size a ≤ S2x4096x512.size a), (Rect.unit (s := S2x4096x512) (k0_off66 v5) S1x128x256.size hinb).WholeWords (EltTy.packing .bf16)) ∧
  (∀ a, (k0_off72 v5) a + S1x128x256.size a ≤ S2x4096x512.size a) ∧
  (∀ (hinb : ∀ a, (k0_off72 v5) a + S1x128x256.size a ≤ S2x4096x512.size a), (Rect.unit (s := S2x4096x512) (k0_off72 v5) S1x128x256.size hinb).WholeWords (EltTy.packing .bf16)) ∧
  (∀ a, (k0_off74 v5) a + S1x128x256.size a ≤ S2x4096x512.size a) ∧
  (∀ (hinb : ∀ a, (k0_off74 v5) a + S1x128x256.size a ≤ S2x4096x512.size a), (Rect.unit (s := S2x4096x512) (k0_off74 v5) S1x128x256.size hinb).WholeWords (EltTy.packing .bf16)) ∧
  (∀ a, (k0_off752 v5) a + S1x128x256.size a ≤ S2x4096x512.size a) ∧
  (∀ (hinb : ∀ a, (k0_off752 v5) a + S1x128x256.size a ≤ S2x4096x512.size a), (Rect.unit (s := S2x4096x512) (k0_off752 v5) S1x128x256.size hinb).WholeWords (EltTy.packing .bf16)) ∧
  (∀ a, (k0_off753 v5) a + S1x128x256.size a ≤ S2x4096x512.size a) ∧
  (∀ (hinb : ∀ a, (k0_off753 v5) a + S1x128x256.size a ≤ S2x4096x512.size a), (Rect.unit (s := S2x4096x512) (k0_off753 v5) S1x128x256.size hinb).WholeWords (EltTy.packing .bf16)) ∧
  (∀ a, (k0_off754 v5) a + S1x128x256.size a ≤ S2x4096x512.size a) ∧
  (∀ (hinb : ∀ a, (k0_off754 v5) a + S1x128x256.size a ≤ S2x4096x512.size a), (Rect.unit (s := S2x4096x512) (k0_off754 v5) S1x128x256.size hinb).WholeWords (EltTy.packing .bf16)) ∧
  (∀ a, (k0_off755 v5) a + S1x128x256.size a ≤ S2x4096x512.size a) ∧
  (∀ (hinb : ∀ a, (k0_off755 v5) a + S1x128x256.size a ≤ S2x4096x512.size a), (Rect.unit (s := S2x4096x512) (k0_off755 v5) S1x128x256.size hinb).WholeWords (EltTy.packing .bf16)) ∧
  ((k0_dev130 v5) < nD)
def k0_chk3 (v5 : BitVec 32) : Prop :=
  k0_chk3_0 v5 ∧
  k0_chk3_1 v5
theorem k0_dev3_lt : ∀ (v5 : BitVec 32) (k0_hw3 : k0_chk3 v5), (k0_dev3 v5) < nD := fun v5 k0_hw3 => k0_hw3.1.1
theorem k0_dev4_lt : ∀ (v5 : BitVec 32) (k0_hw3 : k0_chk3 v5), (k0_dev4 v5) < nD := fun v5 k0_hw3 => k0_hw3.1.2.1
theorem k0_dev7_lt : ∀ (v5 : BitVec 32) (k0_hw3 : k0_chk3 v5), (k0_dev7 v5) < nD := fun v5 k0_hw3 => k0_hw3.1.2.2.1
theorem k0_dev10_lt : ∀ (v5 : BitVec 32) (k0_hw3 : k0_chk3 v5), (k0_dev10 v5) < nD := fun v5 k0_hw3 => k0_hw3.1.2.2.2.1
theorem k0_dev13_lt : ∀ (v5 : BitVec 32) (k0_hw3 : k0_chk3 v5), (k0_dev13 v5) < nD := fun v5 k0_hw3 => k0_hw3.1.2.2.2.2.1
theorem k0_off25_inb : ∀ (v5 : BitVec 32) (k0_hw3 : k0_chk3 v5), ∀ a, (k0_off25 v5) a + S1x128x64.size a ≤ S2x4096x512.size a := fun v5 k0_hw3 => k0_hw3.1.2.2.2.2.2.1
theorem k0_off26_inb : ∀ (v5 : BitVec 32) (k0_hw3 : k0_chk3 v5), ∀ a, (k0_off26 v5) a + S1x1x128x128.size a ≤ S2x4x128x4096.size a := fun v5 k0_hw3 => k0_hw3.1.2.2.2.2.2.2.1
theorem k0_off27_inb : ∀ (v5 : BitVec 32) (k0_hw3 : k0_chk3 v5), ∀ a, (k0_off27 v5) a + S1x128x64.size a ≤ S2x4096x512.size a := fun v5 k0_hw3 => k0_hw3.1.2.2.2.2.2.2.2.1
theorem k0_off28_inb : ∀ (v5 : BitVec 32) (k0_hw3 : k0_chk3 v5), ∀ a, (k0_off28 v5) a + S1x1x128x128.size a ≤ S2x4x128x4096.size a := fun v5 k0_hw3 => k0_hw3.1.2.2.2.2.2.2.2.2.1
theorem k0_off29_inb : ∀ (v5 : BitVec 32) (k0_hw3 : k0_chk3 v5), ∀ a, (k0_off29 v5) a + S1x128x64.size a ≤ S2x4096x512.size a := fun v5 k0_hw3 => k0_hw3.1.2.2.2.2.2.2.2.2.2.1
theorem k0_off30_inb : ∀ (v5 : BitVec 32) (k0_hw3 : k0_chk3 v5), ∀ a, (k0_off30 v5) a + S1x1x128x128.size a ≤ S2x4x128x4096.size a := fun v5 k0_hw3 => k0_hw3.1.2.2.2.2.2.2.2.2.2.2.1
theorem k0_off31_inb : ∀ (v5 : BitVec 32) (k0_hw3 : k0_chk3 v5), ∀ a, (k0_off31 v5) a + S1x128x64.size a ≤ S2x4096x512.size a := fun v5 k0_hw3 => k0_hw3.1.2.2.2.2.2.2.2.2.2.2.2.1
theorem k0_off32_inb : ∀ (v5 : BitVec 32) (k0_hw3 : k0_chk3 v5), ∀ a, (k0_off32 v5) a + S1x1x128x128.size a ≤ S2x4x128x4096.size a := fun v5 k0_hw3 => k0_hw3.1.2.2.2.2.2.2.2.2.2.2.2.2.1
theorem k0_off33_inb : ∀ (v5 : BitVec 32) (k0_hw3 : k0_chk3 v5), ∀ a, (k0_off33 v5) a + S1x128x64.size a ≤ S2x4096x512.size a := fun v5 k0_hw3 => k0_hw3.1.2.2.2.2.2.2.2.2.2.2.2.2.2.1
theorem k0_off34_inb : ∀ (v5 : BitVec 32) (k0_hw3 : k0_chk3 v5), ∀ a, (k0_off34 v5) a + S1x1x128x128.size a ≤ S2x4x128x4096.size a := fun v5 k0_hw3 => k0_hw3.1.2.2.2.2.2.2.2.2.2.2.2.2.2.2.1
theorem k0_off35_inb : ∀ (v5 : BitVec 32) (k0_hw3 : k0_chk3 v5), ∀ a, (k0_off35 v5) a + S1x128x64.size a ≤ S2x4096x512.size a := fun v5 k0_hw3 => k0_hw3.1.2.2.2.2.2.2.2.2.2.2.2.2.2.2.2.1
theorem k0_off36_inb : ∀ (v5 : BitVec 32) (k0_hw3 : k0_chk3 v5), ∀ a, (k0_off36 v5) a + S1x1x128x128.size a ≤ S2x4x128x4096.size a := fun v5 k0_hw3 => k0_hw3.1.2.2.2.2.2.2.2.2.2.2.2.2.2.2.2.2.1
theorem k0_off37_inb : ∀ (v5 : BitVec 32) (k0_hw3 : k0_chk3 v5), ∀ a, (k0_off37 v5) a + S1x128x64.size a ≤ S2x4096x512.size a := fun v5 k0_hw3 => k0_hw3.1.2.2.2.2.2.2.2.2.2.2.2.2.2.2.2.2.2.1
theorem k0_off38_inb : ∀ (v5 : BitVec 32) (k0_hw3 : k0_chk3 v5), ∀ a, (k0_off38 v5) a + S1x1x128x128.size a ≤ S2x4x128x4096.size a := fun v5 k0_hw3 => k0_hw3.1.2.2.2.2.2.2.2.2.2.2.2.2.2.2.2.2.2.2.1
theorem k0_off39_inb : ∀ (v5 : BitVec 32) (k0_hw3 : k0_chk3 v5), ∀ a, (k0_off39 v5) a + S1x128x64.size a ≤ S2x4096x512.size a := fun v5 k0_hw3 => k0_hw3.1.2.2.2.2.2.2.2.2.2.2.2.2.2.2.2.2.2.2.2.1
theorem k0_off40_inb : ∀ (v5 : BitVec 32) (k0_hw3 : k0_chk3 v5), ∀ a, (k0_off40 v5) a + S1x1x128x128.size a ≤ S2x4x128x4096.size a := fun v5 k0_hw3 => k0_hw3.1.2.2.2.2.2.2.2.2.2.2.2.2.2.2.2.2.2.2.2.2.1
theorem k0_off41_inb : ∀ (v5 : BitVec 32) (k0_hw3 : k0_chk3 v5), ∀ a, (k0_off41 v5) a + S1x128x256.size a ≤ S2x4096x512.size a := fun v5 k0_hw3 => k0_hw3.1.2.2.2.2.2.2.2.2.2.2.2.2.2.2.2.2.2.2.2.2.2.1
theorem k0_off41_wordsbf16 : ∀ (v5 : BitVec 32) (k0_hw3 : k0_chk3 v5), (Rect.unit (s := S2x4096x512) (k0_off41 v5) S1x128x256.size (k0_off41_inb v5 k0_hw3)).WholeWords (EltTy.packing .bf16) := fun v5 k0_hw3 => k0_hw3.1.2.2.2.2.2.2.2.2.2.2.2.2.2.2.2.2.2.2.2.2.2.2.1 (k0_off41_inb v5 k0_hw3)
theorem k0_off42_inb : ∀ (v5 : BitVec 32) (k0_hw3 : k0_chk3 v5), ∀ a, (k0_off42 v5) a + S1x128x256.size a ≤ S2x4096x512.size a := fun v5 k0_hw3 => k0_hw3.1.2.2.2.2.2.2.2.2.2.2.2.2.2.2.2.2.2.2.2.2.2.2.2.1
theorem k0_off42_wordsbf16 : ∀ (v5 : BitVec 32) (k0_hw3 : k0_chk3 v5), (Rect.unit (s := S2x4096x512) (k0_off42 v5) S1x128x256.size (k0_off42_inb v5 k0_hw3)).WholeWords (EltTy.packing .bf16) := fun v5 k0_hw3 => k0_hw3.1.2.2.2.2.2.2.2.2.2.2.2.2.2.2.2.2.2.2.2.2.2.2.2.2.1 (k0_off42_inb v5 k0_hw3)
theorem k0_off43_inb : ∀ (v5 : BitVec 32) (k0_hw3 : k0_chk3 v5), ∀ a, (k0_off43 v5) a + S1x128x256.size a ≤ S2x4096x512.size a := fun v5 k0_hw3 => k0_hw3.1.2.2.2.2.2.2.2.2.2.2.2.2.2.2.2.2.2.2.2.2.2.2.2.2.2.1
theorem k0_off43_wordsbf16 : ∀ (v5 : BitVec 32) (k0_hw3 : k0_chk3 v5), (Rect.unit (s := S2x4096x512) (k0_off43 v5) S1x128x256.size (k0_off43_inb v5 k0_hw3)).WholeWords (EltTy.packing .bf16) := fun v5 k0_hw3 => k0_hw3.1.2.2.2.2.2.2.2.2.2.2.2.2.2.2.2.2.2.2.2.2.2.2.2.2.2.2.1 (k0_off43_inb v5 k0_hw3)
theorem k0_off44_inb : ∀ (v5 : BitVec 32) (k0_hw3 : k0_chk3 v5), ∀ a, (k0_off44 v5) a + S1x128x256.size a ≤ S2x4096x512.size a := fun v5 k0_hw3 => k0_hw3.1.2.2.2.2.2.2.2.2.2.2.2.2.2.2.2.2.2.2.2.2.2.2.2.2.2.2.2.1
theorem k0_off44_wordsbf16 : ∀ (v5 : BitVec 32) (k0_hw3 : k0_chk3 v5), (Rect.unit (s := S2x4096x512) (k0_off44 v5) S1x128x256.size (k0_off44_inb v5 k0_hw3)).WholeWords (EltTy.packing .bf16) := fun v5 k0_hw3 => k0_hw3.1.2.2.2.2.2.2.2.2.2.2.2.2.2.2.2.2.2.2.2.2.2.2.2.2.2.2.2.2.1 (k0_off44_inb v5 k0_hw3)
theorem k0_off48_inb : ∀ (v5 : BitVec 32) (k0_hw3 : k0_chk3 v5), ∀ a, (k0_off48 v5) a + S1x128x256.size a ≤ S2x4096x512.size a := fun v5 k0_hw3 => k0_hw3.1.2.2.2.2.2.2.2.2.2.2.2.2.2.2.2.2.2.2.2.2.2.2.2.2.2.2.2.2.2.1
theorem k0_off48_wordsbf16 : ∀ (v5 : BitVec 32) (k0_hw3 : k0_chk3 v5), (Rect.unit (s := S2x4096x512) (k0_off48 v5) S1x128x256.size (k0_off48_inb v5 k0_hw3)).WholeWords (EltTy.packing .bf16) := fun v5 k0_hw3 => k0_hw3.1.2.2.2.2.2.2.2.2.2.2.2.2.2.2.2.2.2.2.2.2.2.2.2.2.2.2.2.2.2.2.1 (k0_off48_inb v5 k0_hw3)
theorem k0_off50_inb : ∀ (v5 : BitVec 32) (k0_hw3 : k0_chk3 v5), ∀ a, (k0_off50 v5) a + S1x128x256.size a ≤ S2x4096x512.size a := fun v5 k0_hw3 => k0_hw3.1.2.2.2.2.2.2.2.2.2.2.2.2.2.2.2.2.2.2.2.2.2.2.2.2.2.2.2.2.2.2.2
theorem k0_off50_wordsbf16 : ∀ (v5 : BitVec 32) (k0_hw3 : k0_chk3 v5), (Rect.unit (s := S2x4096x512) (k0_off50 v5) S1x128x256.size (k0_off50_inb v5 k0_hw3)).WholeWords (EltTy.packing .bf16) := fun v5 k0_hw3 => k0_hw3.2.1 (k0_off50_inb v5 k0_hw3)
theorem k0_off56_inb : ∀ (v5 : BitVec 32) (k0_hw3 : k0_chk3 v5), ∀ a, (k0_off56 v5) a + S1x128x256.size a ≤ S2x4096x512.size a := fun v5 k0_hw3 => k0_hw3.2.2.1
theorem k0_off56_wordsbf16 : ∀ (v5 : BitVec 32) (k0_hw3 : k0_chk3 v5), (Rect.unit (s := S2x4096x512) (k0_off56 v5) S1x128x256.size (k0_off56_inb v5 k0_hw3)).WholeWords (EltTy.packing .bf16) := fun v5 k0_hw3 => k0_hw3.2.2.2.1 (k0_off56_inb v5 k0_hw3)
theorem k0_off58_inb : ∀ (v5 : BitVec 32) (k0_hw3 : k0_chk3 v5), ∀ a, (k0_off58 v5) a + S1x128x256.size a ≤ S2x4096x512.size a := fun v5 k0_hw3 => k0_hw3.2.2.2.2.1
theorem k0_off58_wordsbf16 : ∀ (v5 : BitVec 32) (k0_hw3 : k0_chk3 v5), (Rect.unit (s := S2x4096x512) (k0_off58 v5) S1x128x256.size (k0_off58_inb v5 k0_hw3)).WholeWords (EltTy.packing .bf16) := fun v5 k0_hw3 => k0_hw3.2.2.2.2.2.1 (k0_off58_inb v5 k0_hw3)
theorem k0_off64_inb : ∀ (v5 : BitVec 32) (k0_hw3 : k0_chk3 v5), ∀ a, (k0_off64 v5) a + S1x128x256.size a ≤ S2x4096x512.size a := fun v5 k0_hw3 => k0_hw3.2.2.2.2.2.2.1
theorem k0_off64_wordsbf16 : ∀ (v5 : BitVec 32) (k0_hw3 : k0_chk3 v5), (Rect.unit (s := S2x4096x512) (k0_off64 v5) S1x128x256.size (k0_off64_inb v5 k0_hw3)).WholeWords (EltTy.packing .bf16) := fun v5 k0_hw3 => k0_hw3.2.2.2.2.2.2.2.1 (k0_off64_inb v5 k0_hw3)
theorem k0_off66_inb : ∀ (v5 : BitVec 32) (k0_hw3 : k0_chk3 v5), ∀ a, (k0_off66 v5) a + S1x128x256.size a ≤ S2x4096x512.size a := fun v5 k0_hw3 => k0_hw3.2.2.2.2.2.2.2.2.1
theorem k0_off66_wordsbf16 : ∀ (v5 : BitVec 32) (k0_hw3 : k0_chk3 v5), (Rect.unit (s := S2x4096x512) (k0_off66 v5) S1x128x256.size (k0_off66_inb v5 k0_hw3)).WholeWords (EltTy.packing .bf16) := fun v5 k0_hw3 => k0_hw3.2.2.2.2.2.2.2.2.2.1 (k0_off66_inb v5 k0_hw3)
theorem k0_off72_inb : ∀ (v5 : BitVec 32) (k0_hw3 : k0_chk3 v5), ∀ a, (k0_off72 v5) a + S1x128x256.size a ≤ S2x4096x512.size a := fun v5 k0_hw3 => k0_hw3.2.2.2.2.2.2.2.2.2.2.1
theorem k0_off72_wordsbf16 : ∀ (v5 : BitVec 32) (k0_hw3 : k0_chk3 v5), (Rect.unit (s := S2x4096x512) (k0_off72 v5) S1x128x256.size (k0_off72_inb v5 k0_hw3)).WholeWords (EltTy.packing .bf16) := fun v5 k0_hw3 => k0_hw3.2.2.2.2.2.2.2.2.2.2.2.1 (k0_off72_inb v5 k0_hw3)
theorem k0_off74_inb : ∀ (v5 : BitVec 32) (k0_hw3 : k0_chk3 v5), ∀ a, (k0_off74 v5) a + S1x128x256.size a ≤ S2x4096x512.size a := fun v5 k0_hw3 => k0_hw3.2.2.2.2.2.2.2.2.2.2.2.2.1
theorem k0_off74_wordsbf16 : ∀ (v5 : BitVec 32) (k0_hw3 : k0_chk3 v5), (Rect.unit (s := S2x4096x512) (k0_off74 v5) S1x128x256.size (k0_off74_inb v5 k0_hw3)).WholeWords (EltTy.packing .bf16) := fun v5 k0_hw3 => k0_hw3.2.2.2.2.2.2.2.2.2.2.2.2.2.1 (k0_off74_inb v5 k0_hw3)
theorem k0_off752_inb : ∀ (v5 : BitVec 32) (k0_hw3 : k0_chk3 v5), ∀ a, (k0_off752 v5) a + S1x128x256.size a ≤ S2x4096x512.size a := fun v5 k0_hw3 => k0_hw3.2.2.2.2.2.2.2.2.2.2.2.2.2.2.1
theorem k0_off752_wordsbf16 : ∀ (v5 : BitVec 32) (k0_hw3 : k0_chk3 v5), (Rect.unit (s := S2x4096x512) (k0_off752 v5) S1x128x256.size (k0_off752_inb v5 k0_hw3)).WholeWords (EltTy.packing .bf16) := fun v5 k0_hw3 => k0_hw3.2.2.2.2.2.2.2.2.2.2.2.2.2.2.2.1 (k0_off752_inb v5 k0_hw3)
theorem k0_off753_inb : ∀ (v5 : BitVec 32) (k0_hw3 : k0_chk3 v5), ∀ a, (k0_off753 v5) a + S1x128x256.size a ≤ S2x4096x512.size a := fun v5 k0_hw3 => k0_hw3.2.2.2.2.2.2.2.2.2.2.2.2.2.2.2.2.1
theorem k0_off753_wordsbf16 : ∀ (v5 : BitVec 32) (k0_hw3 : k0_chk3 v5), (Rect.unit (s := S2x4096x512) (k0_off753 v5) S1x128x256.size (k0_off753_inb v5 k0_hw3)).WholeWords (EltTy.packing .bf16) := fun v5 k0_hw3 => k0_hw3.2.2.2.2.2.2.2.2.2.2.2.2.2.2.2.2.2.1 (k0_off753_inb v5 k0_hw3)
theorem k0_off754_inb : ∀ (v5 : BitVec 32) (k0_hw3 : k0_chk3 v5), ∀ a, (k0_off754 v5) a + S1x128x256.size a ≤ S2x4096x512.size a := fun v5 k0_hw3 => k0_hw3.2.2.2.2.2.2.2.2.2.2.2.2.2.2.2.2.2.2.1
theorem k0_off754_wordsbf16 : ∀ (v5 : BitVec 32) (k0_hw3 : k0_chk3 v5), (Rect.unit (s := S2x4096x512) (k0_off754 v5) S1x128x256.size (k0_off754_inb v5 k0_hw3)).WholeWords (EltTy.packing .bf16) := fun v5 k0_hw3 => k0_hw3.2.2.2.2.2.2.2.2.2.2.2.2.2.2.2.2.2.2.2.1 (k0_off754_inb v5 k0_hw3)
theorem k0_off755_inb : ∀ (v5 : BitVec 32) (k0_hw3 : k0_chk3 v5), ∀ a, (k0_off755 v5) a + S1x128x256.size a ≤ S2x4096x512.size a := fun v5 k0_hw3 => k0_hw3.2.2.2.2.2.2.2.2.2.2.2.2.2.2.2.2.2.2.2.2.1
theorem k0_off755_wordsbf16 : ∀ (v5 : BitVec 32) (k0_hw3 : k0_chk3 v5), (Rect.unit (s := S2x4096x512) (k0_off755 v5) S1x128x256.size (k0_off755_inb v5 k0_hw3)).WholeWords (EltTy.packing .bf16) := fun v5 k0_hw3 => k0_hw3.2.2.2.2.2.2.2.2.2.2.2.2.2.2.2.2.2.2.2.2.2.1 (k0_off755_inb v5 k0_hw3)
theorem k0_dev130_lt : ∀ (v5 : BitVec 32) (k0_hw3 : k0_chk3 v5), (k0_dev130 v5) < nD := fun v5 k0_hw3 => k0_hw3.2.2.2.2.2.2.2.2.2.2.2.2.2.2.2.2.2.2.2.2.2.2

abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S3 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S2x9 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S2x8 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S2x4096x512 : Shape := ⟨3, ![2, 4096, 512]⟩
abbrev S512x256 : Shape := ⟨2, ![512, 256]⟩
abbrev S256x512 : Shape := ⟨2, ![256, 512]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x32x2 : Shape := ⟨3, ![4096, 32, 2]⟩
abbrev S4096x64 : Shape := ⟨2, ![4096, 64]⟩
abbrev S2x4096x256 : Shape := ⟨3, ![2, 4096, 256]⟩
abbrev S2x4096x4x64 : Shape := ⟨4, ![2, 4096, 4, 64]⟩
abbrev S2x4096x4x32x2 : Shape := ⟨5, ![2, 4096, 4, 32, 2]⟩
abbrev S2x4096x4x32x1 : Shape := ⟨5, ![2, 4096, 4, 32, 1]⟩
abbrev S2x4096x4x32 : Shape := ⟨4, ![2, 4096, 4, 32]⟩
abbrev S1x4096x1x64 : Shape := ⟨4, ![1, 4096, 1, 64]⟩
abbrev S2x4x4096x4096 : Shape := ⟨4, ![2, 4, 4096, 4096]⟩
abbrev S2x4x4096 : Shape := ⟨3, ![2, 4, 4096]⟩
abbrev S2x4x4096x1 : Shape := ⟨4, ![2, 4, 4096, 1]⟩
abbrev S2x4x64x4096 : Shape := ⟨4, ![2, 4, 64, 4096]⟩

abbrev nBuf : Space → Nat
  | .hbm => 99
  | .vmem => 0
  | .smem => 0
  | _ => 0

abbrev bufTy : (tb : Table) → Fin (tcTables nBuf tb) → BufTy
  | .hbm, ⟨0, _⟩ => ⟨S2x4096x512, .bf16⟩
  | .hbm, ⟨1, _⟩ => ⟨S512x256, .bf16⟩
  | .hbm, ⟨2, _⟩ => ⟨S512x256, .bf16⟩
  | .hbm, ⟨3, _⟩ => ⟨S512x256, .bf16⟩
  | .hbm, ⟨4, _⟩ => ⟨S256x512, .bf16⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .i32⟩
  | .hbm, ⟨23, _⟩ => ⟨S4096x1, .i32⟩
  | .hbm, ⟨24, _⟩ => ⟨S1x32, .f32⟩
  | .hbm, ⟨25, _⟩ => ⟨S4096x1, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32x2, .f32⟩
  | .hbm, ⟨31, _⟩ => ⟨S4096x64, .f32⟩
  | .hbm, ⟨32, _⟩ => ⟨S4096x32, .f32⟩
  | .hbm, ⟨33, _⟩ => ⟨S4096x32x2, .f32⟩
  | .hbm, ⟨34, _⟩ => ⟨S4096x64, .f32⟩
  | .hbm, ⟨35, _⟩ => ⟨S2x4096x512, .f32⟩
  | .hbm, ⟨36, _⟩ => ⟨S512x256, .f32⟩
  | .hbm, ⟨37, _⟩ => ⟨S512x256, .f32⟩
  | .hbm, ⟨38, _⟩ => ⟨S512x256, .f32⟩
  | .hbm, ⟨39, _⟩ => ⟨S256x512, .f32⟩
  | .hbm, ⟨40, _⟩ => ⟨S2x4096x256, .f32⟩
  | .hbm, ⟨41, _⟩ => ⟨S2x4096x4x64, .f32⟩
  | .hbm, ⟨42, _⟩ => ⟨S2x4096x4x32x2, .f32⟩
  | .hbm, ⟨43, _⟩ => ⟨S2x4096x4x32x1, .f32⟩
  | .hbm, ⟨44, _⟩ => ⟨S2x4096x4x32, .f32⟩
  | .hbm, ⟨45, _⟩ => ⟨S2x4096x4x32, .f32⟩
  | .hbm, ⟨46, _⟩ => ⟨S2x4096x4x32x1, .f32⟩
  | .hbm, ⟨47, _⟩ => ⟨S2x4096x4x32, .f32⟩
  | .hbm, ⟨48, _⟩ => ⟨S2x4096x4x32x1, .f32⟩
  | .hbm, ⟨49, _⟩ => ⟨S2x4096x4x32x1, .f32⟩
  | .hbm, ⟨50, _⟩ => ⟨S2x4096x4x32x2, .f32⟩
  | .hbm, ⟨51, _⟩ => ⟨S2x4096x4x64, .f32⟩
  | .hbm, ⟨52, _⟩ => ⟨S1x4096x1x64, .f32⟩
  | .hbm, ⟨53, _⟩ => ⟨S2x4096x4x64, .f32⟩
  | .hbm, ⟨54, _⟩ => ⟨S2x4096x4x64, .f32⟩
  | .hbm, ⟨55, _⟩ => ⟨S1x4096x1x64, .f32⟩
  | .hbm, ⟨56, _⟩ => ⟨S2x4096x4x64, .f32⟩
  | .hbm, ⟨57, _⟩ => ⟨S2x4096x4x64, .f32⟩
  | .hbm, ⟨58, _⟩ => ⟨S2x4096x4x64, .f32⟩
  | .hbm, ⟨59, _⟩ => ⟨S2x4096x256, .f32⟩
  | .hbm, ⟨60, _⟩ => ⟨S2x4096x4x64, .f32⟩
  | .hbm, ⟨61, _⟩ => ⟨S2x4096x4x32x2, .f32⟩
  | .hbm, ⟨62, _⟩ => ⟨S2x4096x4x32x1, .f32⟩
  | .hbm, ⟨63, _⟩ => ⟨S2x4096x4x32, .f32⟩
  | .hbm, ⟨64, _⟩ => ⟨S2x4096x4x32, .f32⟩
  | .hbm, ⟨65, _⟩ => ⟨S2x4096x4x32x1, .f32⟩
  | .hbm, ⟨66, _⟩ => ⟨S2x4096x4x32, .f32⟩
  | .hbm, ⟨67, _⟩ => ⟨S2x4096x4x32x1, .f32⟩
  | .hbm, ⟨68, _⟩ => ⟨S2x4096x4x32x1, .f32⟩
  | .hbm, ⟨69, _⟩ => ⟨S2x4096x4x32x2, .f32⟩
  | .hbm, ⟨70, _⟩ => ⟨S2x4096x4x64, .f32⟩
  | .hbm, ⟨71, _⟩ => ⟨S1x4096x1x64, .f32⟩
  | .hbm, ⟨72, _⟩ => ⟨S2x4096x4x64, .f32⟩
  | .hbm, ⟨73, _⟩ => ⟨S2x4096x4x64, .f32⟩
  | .hbm, ⟨74, _⟩ => ⟨S1x4096x1x64, .f32⟩
  | .hbm, ⟨75, _⟩ => ⟨S2x4096x4x64, .f32⟩
  | .hbm, ⟨76, _⟩ => ⟨S2x4096x4x64, .f32⟩
  | .hbm, ⟨77, _⟩ => ⟨S2x4096x4x64, .f32⟩
  | .hbm, ⟨78, _⟩ => ⟨S2x4096x256, .f32⟩
  | .hbm, ⟨79, _⟩ => ⟨S2x4096x4x64, .f32⟩
  | .hbm, ⟨80, _⟩ => ⟨S2x4x4096x4096, .f32⟩
  | .hbm, ⟨81, _⟩ => ⟨S_, .f32⟩
  | .hbm, ⟨82, _⟩ => ⟨S2x4x4096x4096, .f32⟩
  | .hbm, ⟨83, _⟩ => ⟨S2x4x4096x4096, .f32⟩
  | .hbm, ⟨84, _⟩ => ⟨S_, .f32⟩
  | .hbm, ⟨85, _⟩ => ⟨S2x4x4096, .f32⟩
  | .hbm, ⟨86, _⟩ => ⟨S2x4x4096x1, .f32⟩
  | .hbm, ⟨87, _⟩ => ⟨S2x4x4096x4096, .f32⟩
  | .hbm, ⟨88, _⟩ => ⟨S2x4x4096x4096, .f32⟩
  | .hbm, ⟨89, _⟩ => ⟨S2x4x4096x4096, .f32⟩
  | .hbm, ⟨90, _⟩ => ⟨S_, .f32⟩
  | .hbm, ⟨91, _⟩ => ⟨S2x4x4096, .f32⟩
  | .hbm, ⟨92, _⟩ => ⟨S2x4x4096x1, .f32⟩
  | .hbm, ⟨93, _⟩ => ⟨S2x4x4096x4096, .f32⟩
  | .hbm, ⟨94, _⟩ => ⟨S2x4x4096x4096, .f32⟩
  | .hbm, ⟨95, _⟩ => ⟨S2x4x64x4096, .f32⟩
  | .hbm, ⟨96, _⟩ => ⟨S2x4096x4x64, .f32⟩
  | .hbm, ⟨97, _⟩ => ⟨S2x4096x256, .f32⟩
  | .hbm, ⟨98, _⟩ => ⟨S2x4096x512, .f32⟩
  | _, _ => ⟨S2x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_3 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_5 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩

abbrev nD : Nat := 1
abbrev τ : Topo := Topo.v7x

variable {F : FTy → Type} [FloatOps F]
-- ==== Proof.Same.lean ====
/-
  The kernel and its ideal text are the same text: their runs are the same.
-/
module

public import Idealize.ShloMosaic.PureOps.BitExact
public import proofs.«01_k».proof.Proof.Gen.Kernel
public import proofs.«01_k».proof.Proof.Gen.KernelIdeal
public import proofs.«01_k».proof.Proof.Gen.Kernel.Skeleton
public import proofs.«01_k».proof.Proof.Gen.KernelIdeal.Skeleton

@[expose] public section
noncomputable section
namespace Cert.Proof
open Idealize.ShloMosaic Idealize.SL.Sem
set_option cleanup.letToHave false
set_option maxHeartbeats 1000000
set_option maxRecDepth 20000

set_option maxRecDepth 100000 in set_option maxHeartbeats 40000000 in
/-- The two bodies, read as skeletons of memory operations, are the same. -/
theorem skel_eq : Cert.Kernel.Gen.cc0_body_skel (F := Bits) = Cert.KernelIdeal.Gen.cc0_body_skel (F := Bits) := rfl

theorem body_eq : Cert.Kernel.cc0_body (F := Bits) = Cert.KernelIdeal.cc0_body (F := Bits) :=
  Cert.Kernel.Gen.cc0_body_eq_skeleton.trans (skel_eq.trans Cert.KernelIdeal.Gen.cc0_body_eq_skeleton.symm)

theorem defs0_eq : Cert.Kernel.defs₀ (F := Bits) = Cert.KernelIdeal.defs₀ (F := Bits) := by
  unfold Cert.Kernel.defs₀ Cert.KernelIdeal.defs₀
  refine congrArg Defs.onTc (funext fun l => funext fun ts => ?_)
  match l, ts with
  | ⟨0, _⟩, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _) _) _) _) _) _) _) _) _) _) _) _) _
/-- The run of one is the run of the other. -/
theorem run_eq (m : (ℓ : Loc Cert.Kernel.nD Cert.Kernel.τ Cert.Kernel.sig) → Buf (Elt Bits) ℓ) (ρ : Dev Cert.Kernel.nD → PrngReg) :
   θ_run (Cert.Kernel.defs (F := Bits)) (onTc (τ := Cert.Kernel.τ) (Cert.Kernel.main (F := Bits))) ⟨m, fun _ => 0, ρ⟩
   = θ_run (Cert.KernelIdeal.defs (F := Bits)) (onTc (τ := Cert.KernelIdeal.τ) (Cert.KernelIdeal.main (F := Bits))) ⟨m, fun _ => 0, ρ⟩ := by
  unfold Cert.Kernel.defs
  rw [defs0_eq]
  rfl
end Cert.Proof
end
-- ==== Proof.Tables.lean ====
/-
  The copy protocol of the kernel as numbers. Each of the 32 chips (device `c`) starts 124 copies in one fixed order
  and sees 128 pieces of the key/value buffer arrive in one fixed order (the first four are its own, stored; each of
  the others is made by one copy of a neighbour). A piece stems from the chip `org c r`, `r = 16 * s + t`: `t` places
  to the left around the ring of sixteen, in the own ring (`s = 0`) or in the partner's (`s = 1`).
-/
module

public import proofs.«01_k».proof.Proof.Gen.KernelIdeal.Skeleton
public import proofs.«01_k».proof.Proof.Gen.KernelIdeal.Points

@[expose] public section

set_option maxRecDepth 100000

namespace Cert.Proof

/-- The pair of chips at each position of the ring of sixteen. -/
def cycT : List ℕ := [0, 4, 8, 12, 13, 9, 5, 6, 10, 14, 15, 11, 7, 3, 2, 1]
/-- The position in the ring of each pair of chips. -/
def posT : List ℕ := [0, 15, 14, 13, 1, 6, 7, 12, 2, 5, 8, 11, 3, 4, 9, 10]
/-- Where each copy goes: 0 to the right, 1 to the left, 2 to the partner. -/
def dirT : List ℕ := [2, 0, 1, 2, 0, 1, 2, 0, 1, 2, 0, 1, 0, 0, 1, 1, 0, 0, 1, 1, 0, 0, 0, 0, 0, 0, 0, 0, 1, 1, 1, 1, 1, 1, 1, 1, 0, 0, 0, 0, 0, 0, 0, 0, 1, 1, 1, 1, 1, 1, 1, 1, 0, 0, 0, 0, 0, 0, 0, 0, 1, 1, 1, 1, 1, 1, 1, 1, 0, 0, 0, 0, 0, 0, 0, 0, 1, 1, 1, 1, 1, 1, 1, 1, 0, 0, 0, 0, 0, 0, 0, 0, 1, 1, 1, 1, 1, 1, 1, 1, 0, 0, 0, 0, 0, 0, 0, 0, 1, 1, 1, 1, 1, 1, 1, 1, 0, 0, 0, 0, 0, 0, 0, 0]
/-- The arrival each copy sends on. -/
def srcT : List ℕ := [0, 0, 0, 1, 1, 1, 2, 2, 2, 3, 3, 3, 4, 5, 4, 5, 6, 7, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111]
/-- The arrival each copy makes at its receiver. -/
def dstT : List ℕ := [4, 8, 16, 5, 9, 17, 6, 12, 20, 7, 13, 21, 10, 11, 18, 19, 14, 15, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127]
/-- The send semaphore of each copy. -/
def sndT : List ℕ := [9, 17, 145, 13, 81, 201, 10, 25, 152, 14, 89, 208, 33, 97, 159, 215, 41, 105, 166, 222, 18, 82, 34, 98, 26, 90, 42, 106, 146, 202, 160, 216, 153, 209, 167, 223, 19, 83, 35, 99, 27, 91, 43, 107, 147, 203, 161, 217, 154, 210, 168, 224, 20, 84, 36, 100, 28, 92, 44, 108, 148, 204, 162, 218, 155, 211, 169, 225, 21, 85, 37, 101, 29, 93, 45, 109, 149, 205, 163, 219, 156, 212, 170, 226, 22, 86, 38, 102, 30, 94, 46, 110, 150, 206, 164, 220, 157, 213, 171, 227, 23, 87, 39, 103, 31, 95, 47, 111, 151, 207, 165, 221, 158, 214, 172, 228, 24, 88, 40, 104, 32, 96, 48, 112]
/-- The receive semaphore of each copy. -/
def rcvT : List ℕ := [11, 49, 173, 15, 113, 229, 12, 57, 180, 16, 121, 236, 65, 129, 187, 243, 73, 137, 194, 250, 50, 114, 66, 130, 58, 122, 74, 138, 174, 230, 188, 244, 181, 237, 195, 251, 51, 115, 67, 131, 59, 123, 75, 139, 175, 231, 189, 245, 182, 238, 196, 252, 52, 116, 68, 132, 60, 124, 76, 140, 176, 232, 190, 246, 183, 239, 197, 253, 53, 117, 69, 133, 61, 125, 77, 141, 177, 233, 191, 247, 184, 240, 198, 254, 54, 118, 70, 134, 62, 126, 78, 142, 178, 234, 192, 248, 185, 241, 199, 255, 55, 119, 71, 135, 63, 127, 79, 143, 179, 235, 193, 249, 186, 242, 200, 256, 56, 120, 72, 136, 64, 128, 80, 144]
/-- The level of the receive semaphore of each copy. -/
def lvlT : List ℕ := [2, 3, 3, 2, 3, 3, 2, 3, 3, 2, 3, 3, 3, 3, 3, 3, 3, 3, 3, 3, 4, 4, 4, 4, 4, 4, 4, 4, 4, 4, 4, 4, 4, 4, 4, 4, 5, 5, 5, 5, 5, 5, 5, 5, 5, 5, 5, 5, 5, 5, 5, 5, 6, 6, 6, 6, 6, 6, 6, 6, 6, 6, 6, 6, 6, 6, 6, 6, 7, 7, 7, 7, 7, 7, 7, 7, 7, 7, 7, 7, 7, 7, 7, 7, 8, 8, 8, 8, 8, 8, 8, 8, 8, 8, 8, 8, 8, 8, 8, 8, 9, 9, 9, 9, 9, 9, 9, 9, 9, 9, 9, 9, 9, 9, 9, 9, 10, 10, 10, 10, 10, 10, 10, 10]
/-- The least level among the copies not yet started. -/
def minT : List ℕ := [2, 2, 2, 2, 2, 2, 2, 2, 2, 2, 3, 3, 3, 3, 3, 3, 3, 3, 3, 3, 4, 4, 4, 4, 4, 4, 4, 4, 4, 4, 4, 4, 4, 4, 4, 4, 5, 5, 5, 5, 5, 5, 5, 5, 5, 5, 5, 5, 5, 5, 5, 5, 6, 6, 6, 6, 6, 6, 6, 6, 6, 6, 6, 6, 6, 6, 6, 6, 7, 7, 7, 7, 7, 7, 7, 7, 7, 7, 7, 7, 7, 7, 7, 7, 8, 8, 8, 8, 8, 8, 8, 8, 8, 8, 8, 8, 8, 8, 8, 8, 9, 9, 9, 9, 9, 9, 9, 9, 9, 9, 9, 9, 9, 9, 9, 9, 10, 10, 10, 10, 10, 10, 10, 10, 1000]
/-- The copy that makes each arrival (none for the four own pieces). -/
def arrT : List ℕ := [1000, 1000, 1000, 1000, 0, 3, 6, 9, 1, 4, 12, 13, 7, 10, 16, 17, 2, 5, 14, 15, 8, 11, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123]
/-- The ring each arrival stems from: 0 the own one, 1 the partner's. -/
def arsT : List ℕ := [0, 0, 0, 0, 1, 1, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1, 0, 0, 1, 1]
/-- How many places to the left, around that ring, each arrival stems from. -/
def artT : List ℕ := [0, 0, 0, 0, 0, 0, 0, 0, 1, 1, 1, 1, 1, 1, 1, 1, 15, 15, 15, 15, 15, 15, 15, 15, 2, 2, 2, 2, 2, 2, 2, 2, 14, 14, 14, 14, 14, 14, 14, 14, 3, 3, 3, 3, 3, 3, 3, 3, 13, 13, 13, 13, 13, 13, 13, 13, 4, 4, 4, 4, 4, 4, 4, 4, 12, 12, 12, 12, 12, 12, 12, 12, 5, 5, 5, 5, 5, 5, 5, 5, 11, 11, 11, 11, 11, 11, 11, 11, 6, 6, 6, 6, 6, 6, 6, 6, 10, 10, 10, 10, 10, 10, 10, 10, 7, 7, 7, 7, 7, 7, 7, 7, 9, 9, 9, 9, 9, 9, 9, 9, 8, 8, 8, 8, 8, 8, 8, 8]
/-- The batch row of each arrival. -/
def arbT : List ℕ := [0, 0, 1, 1, 0, 0, 1, 1, 0, 0, 0, 0, 1, 1, 1, 1, 0, 0, 0, 0, 1, 1, 1, 1, 0, 0, 0, 0, 1, 1, 1, 1, 0, 0, 0, 0, 1, 1, 1, 1, 0, 0, 0, 0, 1, 1, 1, 1, 0, 0, 0, 0, 1, 1, 1, 1, 0, 0, 0, 0, 1, 1, 1, 1, 0, 0, 0, 0, 1, 1, 1, 1, 0, 0, 0, 0, 1, 1, 1, 1, 0, 0, 0, 0, 1, 1, 1, 1, 0, 0, 0, 0, 1, 1, 1, 1, 0, 0, 0, 0, 1, 1, 1, 1, 0, 0, 0, 0, 1, 1, 1, 1, 0, 0, 0, 0, 1, 1, 1, 1, 0, 0, 0, 0, 1, 1, 1, 1]
/-- The half of the columns of each arrival: 0 keys, 1 values. -/
def arhT : List ℕ := [0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1, 0, 1]
/-- The copy that sends each arrival on in each direction. -/
def kofT : List ℕ := [1, 2, 0, 4, 5, 3, 7, 8, 6, 10, 11, 9, 12, 14, 1000, 13, 15, 1000, 16, 18, 1000, 17, 19, 1000, 20, 1000, 1000, 21, 1000, 1000, 22, 1000, 1000, 23, 1000, 1000, 24, 1000, 1000, 25, 1000, 1000, 26, 1000, 1000, 27, 1000, 1000, 1000, 28, 1000, 1000, 29, 1000, 1000, 30, 1000, 1000, 31, 1000, 1000, 32, 1000, 1000, 33, 1000, 1000, 34, 1000, 1000, 35, 1000, 36, 1000, 1000, 37, 1000, 1000, 38, 1000, 1000, 39, 1000, 1000, 40, 1000, 1000, 41, 1000, 1000, 42, 1000, 1000, 43, 1000, 1000, 1000, 44, 1000, 1000, 45, 1000, 1000, 46, 1000, 1000, 47, 1000, 1000, 48, 1000, 1000, 49, 1000, 1000, 50, 1000, 1000, 51, 1000, 52, 1000, 1000, 53, 1000, 1000, 54, 1000, 1000, 55, 1000, 1000, 56, 1000, 1000, 57, 1000, 1000, 58, 1000, 1000, 59, 1000, 1000, 1000, 60, 1000, 1000, 61, 1000, 1000, 62, 1000, 1000, 63, 1000, 1000, 64, 1000, 1000, 65, 1000, 1000, 66, 1000, 1000, 67, 1000, 68, 1000, 1000, 69, 1000, 1000, 70, 1000, 1000, 71, 1000, 1000, 72, 1000, 1000, 73, 1000, 1000, 74, 1000, 1000, 75, 1000, 1000, 1000, 76, 1000, 1000, 77, 1000, 1000, 78, 1000, 1000, 79, 1000, 1000, 80, 1000, 1000, 81, 1000, 1000, 82, 1000, 1000, 83, 1000, 84, 1000, 1000, 85, 1000, 1000, 86, 1000, 1000, 87, 1000, 1000, 88, 1000, 1000, 89, 1000, 1000, 90, 1000, 1000, 91, 1000, 1000, 1000, 92, 1000, 1000, 93, 1000, 1000, 94, 1000, 1000, 95, 1000, 1000, 96, 1000, 1000, 97, 1000, 1000, 98, 1000, 1000, 99, 1000, 100, 1000, 1000, 101, 1000, 1000, 102, 1000, 1000, 103, 1000, 1000, 104, 1000, 1000, 105, 1000, 1000, 106, 1000, 1000, 107, 1000, 1000, 1000, 108, 1000, 1000, 109, 1000, 1000, 110, 1000, 1000, 111, 1000, 1000, 112, 1000, 1000, 113, 1000, 1000, 114, 1000, 1000, 115, 1000, 116, 1000, 1000, 117, 1000, 1000, 118, 1000, 1000, 119, 1000, 1000, 120, 1000, 1000, 121, 1000, 1000, 122, 1000, 1000, 123, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000]
/-- The ring of each scored block, in order. -/
def scsT : List ℕ := [0, 1, 0, 1, 0, 1, 0, 1, 0, 1, 0, 1, 0, 1, 0, 1, 0, 1, 0, 1, 0, 1, 0, 1, 0, 1, 0, 1, 0, 1, 0, 1]
/-- The place of each scored block, in order. -/
def sctT : List ℕ := [0, 0, 1, 1, 15, 15, 2, 2, 14, 14, 3, 3, 13, 13, 4, 4, 12, 12, 5, 5, 11, 11, 6, 6, 10, 10, 7, 7, 9, 9, 8, 8]
/-- The copy of each send semaphore. -/
def kSndT : List ℕ := [1000, 1000, 1000, 1000, 1000, 1000, 1000, 1000, 1000, 0, 6, 1000, 1000, 3, 9, 1000, 1000, 1, 20, 36, 52, 68, 84, 100, 116, 7, 24, 40, 56, 72, 88, 104, 120, 12, 22, 38, 54, 70, 86, 102, 118, 16, 26, 42, 58, 74, 90, 106, 122, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 4, 21, 37, 53, 69, 85, 101, 117, 10, 25, 41, 57, 73, 89, 105, 121, 13, 23, 39, 55, 71, 87, 103, 119, 17, 27, 43, 59, 75, 91, 107, 123, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 2, 28, 44, 60, 76, 92, 108, 8, 32, 48, 64, 80, 96, 112, 14, 30, 46, 62, 78, 94, 110, 18, 34, 50, 66, 82, 98, 114, 1000, 1000, 1000, 1000, 1000, 1000, 1000, 1000, 1000, 1000, 1000, 1000, 1000, 1000, 1000, 1000, 1000, 1000, 1000, 1000, 1000, 1000, 1000, 1000, 1000, 1000, 1000, 1000, 5, 29, 45, 61, 77, 93, 109, 11, 33, 49, 65, 81, 97, 113, 15, 31, 47, 63, 79, 95, 111, 19, 35, 51, 67, 83, 99, 115, 1000, 1000, 1000, 1000, 1000, 1000, 1000, 1000, 1000, 1000, 1000, 1000, 1000, 1000, 1000, 1000, 1000, 1000, 1000, 1000, 1000, 1000, 1000, 1000, 1000, 1000, 1000, 1000]
/-- The copy of each receive semaphore. -/
def kRcvT : List ℕ := [1000, 1000, 1000, 1000, 1000, 1000, 1000, 1000, 1000, 1000, 1000, 0, 6, 1000, 1000, 3, 9, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1, 20, 36, 52, 68, 84, 100, 116, 7, 24, 40, 56, 72, 88, 104, 120, 12, 22, 38, 54, 70, 86, 102, 118, 16, 26, 42, 58, 74, 90, 106, 122, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 1000, 4, 21, 37, 53, 69, 85, 101, 117, 10, 25, 41, 57, 73, 89, 105, 121, 13, 23, 39, 55, 71, 87, 103, 119, 17, 27, 43, 59, 75, 91, 107, 123, 1000, 1000, 1000, 1000, 1000, 1000, 1000, 1000, 1000, 1000, 1000, 1000, 1000, 1000, 1000, 1000, 1000, 1000, 1000, 1000, 1000, 1000, 1000, 1000, 1000, 1000, 1000, 1000, 2, 28, 44, 60, 76, 92, 108, 8, 32, 48, 64, 80, 96, 112, 14, 30, 46, 62, 78, 94, 110, 18, 34, 50, 66, 82, 98, 114, 1000, 1000, 1000, 1000, 1000, 1000, 1000, 1000, 1000, 1000, 1000, 1000, 1000, 1000, 1000, 1000, 1000, 1000, 1000, 1000, 1000, 1000, 1000, 1000, 1000, 1000, 1000, 1000, 5, 29, 45, 61, 77, 93, 109, 11, 33, 49, 65, 81, 97, 113, 15, 31, 47, 63, 79, 95, 111, 19, 35, 51, 67, 83, 99, 115]

def cyc (n : ℕ) : ℕ := cycT.getD n 0
def pos (n : ℕ) : ℕ := posT.getD n 0
def dirK (k : ℕ) : ℕ := dirT.getD k 0
def srcK (k : ℕ) : ℕ := srcT.getD k 0
def dstK (k : ℕ) : ℕ := dstT.getD k 0
def sndK (k : ℕ) : ℕ := sndT.getD k 0
def rcvK (k : ℕ) : ℕ := rcvT.getD k 0
def lvlK (k : ℕ) : ℕ := lvlT.getD k 0
def minK (k : ℕ) : ℕ := minT.getD k 1000
def arrA (j : ℕ) : ℕ := arrT.getD j 1000
def arsA (j : ℕ) : ℕ := arsT.getD j 0
def artA (j : ℕ) : ℕ := artT.getD j 0
def relA (j : ℕ) : ℕ := 16 * arsT.getD j 0 + artT.getD j 0
def batA (j : ℕ) : ℕ := arbT.getD j 0
def halA (j : ℕ) : ℕ := arhT.getD j 0
def kof (j d : ℕ) : ℕ := kofT.getD (3 * j + d) 1000
def relS (w : ℕ) : ℕ := 16 * scsT.getD w 0 + sctT.getD w 0
def kSnd (n : ℕ) : ℕ := kSndT.getD n 1000
def kRcv (n : ℕ) : ℕ := kRcvT.getD n 1000

/-- The chip `r` stands for, seen from chip `c`. -/
def org (c r : ℕ) : ℕ := (c % 2 + r / 16) % 2 + 2 * cyc ((pos (c / 2) + 16 - r % 16) % 16)

theorem org_lt (c r : ℕ) : org c r < 32 := by
  have h : ∀ n : Fin 16, cyc n.val < 16 := by decide
  have := h ⟨(pos (c / 2) + 16 - r % 16) % 16, Nat.mod_lt _ (by decide)⟩
  unfold org
  simp only at this
  omega

/-- The place of the neighbour in direction `d`: to the right, to the left, the partner. -/
def relD (d : ℕ) : ℕ := if d = 0 then 15 else if d = 1 then 1 else 16
/-- The opposite direction. -/
def opp (d : ℕ) : ℕ := if d = 0 then 1 else if d = 1 then 0 else 2

/-- The neighbour of `c` in direction `d`. -/
def nb (c : Fin 32) (d : ℕ) : Fin 32 := ⟨org c.val (relD d), org_lt _ _⟩

theorem org_zero : ∀ c : Fin 32, org c.val 0 = c.val := by decide +kernel
theorem nb_opp : ∀ (c : Fin 32) (d : Fin 3), nb (nb c d.val) (opp d.val) = c := by decide +kernel
theorem nb_opp' : ∀ (c : Fin 32) (d : Fin 3), nb (nb c (opp d.val)) d.val = c := by decide +kernel
/-- A copy takes a piece to the place its arrival has at the receiver. -/
theorem org_copy : ∀ (c : Fin 32) (k : Fin 124), org (nb c (dirK k.val)).val (relA (dstK k.val)) = org c.val (relA (srcK k.val)) := by
  decide +kernel
theorem org_inj : ∀ (c : Fin 32) (r r' : Fin 32), org c.val r.val = org c.val r'.val → r = r' := by decide +kernel
theorem org_surj : ∀ (c o : Fin 32), ∃ w : Fin 32, org c.val (relS w.val) = o.val := by decide +kernel

theorem bat_copy : ∀ k : Fin 124, batA (dstK k.val) = batA (srcK k.val) := by decide +kernel
theorem hal_copy : ∀ k : Fin 124, halA (dstK k.val) = halA (srcK k.val) := by decide +kernel
theorem dirK_lt : ∀ k : Fin 124, dirK k.val < 3 := by decide +kernel
theorem srcK_lt : ∀ k : Fin 124, srcK k.val < 128 := by decide +kernel
theorem dstK_lt : ∀ k : Fin 124, dstK k.val < 128 ∧ 4 ≤ dstK k.val := by decide +kernel
theorem arr_dst : ∀ k : Fin 124, arrA (dstK k.val) = k.val := by decide +kernel
theorem dst_arr : ∀ j : Fin 128, 4 ≤ j.val → dstK (arrA j.val) = j.val ∧ arrA j.val < 124 := by decide +kernel
theorem kof_src : ∀ k : Fin 124, kof (srcK k.val) (dirK k.val) = k.val := by decide +kernel
theorem src_kof : ∀ (j : Fin 128) (d : Fin 3), kof j.val d.val < 124 → srcK (kof j.val d.val) = j.val ∧ dirK (kof j.val d.val) = d.val := by
  decide +kernel
theorem minK_le : ∀ a k : Fin 124, a.val ≤ k.val → minK a.val ≤ lvlK k.val := by decide +kernel
theorem minK_le20 : ∀ a : Fin 125, minK a.val ≤ 1000 ∧ 2 ≤ minK a.val := by decide +kernel
theorem lvlK_le : ∀ k : Fin 124, 2 ≤ lvlK k.val ∧ lvlK k.val < 20 := by decide +kernel
theorem relA_lt : ∀ j : Fin 128, relA j.val < 32 ∧ batA j.val < 2 ∧ halA j.val < 2 := by decide +kernel
theorem relS_lt : ∀ w : Fin 32, relS w.val < 32 := by decide +kernel
theorem relS_inj : ∀ w w' : Fin 32, relS w.val = relS w'.val → w = w' := by decide +kernel
theorem relS_surj : ∀ r : Fin 32, ∃ w : Fin 32, relS w.val = r.val := by decide +kernel
theorem arrival_inj : ∀ j j' : Fin 128, (relA j.val * 2 + batA j.val) * 2 + halA j.val = (relA j'.val * 2 + batA j'.val) * 2 + halA j'.val → j = j' := by
  decide +kernel
theorem arrival_surj : ∀ (r : Fin 32) (b h : Fin 2), ∃ j : Fin 128, relA j.val = r.val ∧ batA j.val = b.val ∧ halA j.val = h.val := by
  decide +kernel
theorem snd_lt : ∀ k : Fin 124, sndK k.val < 257 ∧ rcvK k.val < 257 := by decide +kernel
theorem kSnd_snd : ∀ k : Fin 124, kSnd (sndK k.val) = k.val ∧ kRcv (sndK k.val) = 1000 := by decide +kernel
theorem kRcv_rcv : ∀ k : Fin 124, kRcv (rcvK k.val) = k.val ∧ kSnd (rcvK k.val) = 1000 := by decide +kernel
theorem snd_kSnd : ∀ n : Fin 257, kSnd n.val < 124 → sndK (kSnd n.val) = n.val := by decide +kernel
theorem rcv_kRcv : ∀ n : Fin 257, kRcv n.val < 124 → rcvK (kRcv n.val) = n.val := by decide +kernel
theorem own_sems : ∀ n : Fin 257, 9 ≤ n.val → kSnd n.val < 124 ∨ kRcv n.val < 124 := by decide +kernel
theorem staging_sems : ∀ n : Fin 257, n.val < 9 → kSnd n.val = 1000 ∧ kRcv n.val = 1000 := by decide +kernel
/-- The four own pieces: keys and values of the two batch rows, of place 0. -/
theorem own_arr : ∀ j : Fin 4, relA j.val = 0 := by decide +kernel

end Cert.Proof

end
-- ==== Proof.Protocol.lean ====
/-
  The copy protocol in the logic: the inputs of the kernel per chip, what every piece of the key/value buffer holds once
  it is there, the cells of the semaphores, what each of their units hands over, what a chip owes, and the state of a
  chip between two of its operations.
-/
module

public import proofs.«01_k».proof.KernelIdeal
public import Idealize.ShloMosaic.Lib.Layout
public import Idealize.ShloMosaic.PureOps.BitExact
public import Idealize.ShloMosaic.PureOps.Ideal
public import Idealize.ShloMosaic.PureOps.IdealRules
public import Idealize.ShloMosaic.Lib.Pipeline.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic
public import Idealize.ShloMosaic.Lib.ValueIdxCore
public import proofs.«01_k».proof.Proof.Gen.KernelIdeal.Skeleton
public import proofs.«01_k».proof.Proof.Gen.KernelIdeal.Points
public import proofs.«01_k».proof.Proof.Tables

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.RefSig (tileCredit tileCredit_pos)

variable {F : FTy → Type} [FloatOps F]

/-! ## The resource algebra -/

/-- The pipeline library's copy of the rounds library's algebra. -/
abbrev UR1 : Type := URounds (GSem nD τ sig) Unit
/-- The protocol's copy; its duties are named by the three directions. -/
abbrev UR3 : Type := URounds (GSem nD τ sig) (Fin 3)
abbrev UU : Type := UR1 × UR3

/-- The resources of the protocol. -/
abbrev MM (F : FTy → Type) := MT nD τ sig Unit (Elt F) ℕ UU ℕ

local notation "𝕄" => MT nD τ sig Unit (Elt F) ℕ UU ℕ

abbrev EP : Emb UR1 (MT nD τ sig Unit (Elt F) ℕ UU ℕ) := embL
abbrev ER : Emb UR3 (MT nD τ sig Unit (Elt F) ℕ UU ℕ) := embR

abbrev 𝒱₀ : Variants := Variants.none

/-! ## Inputs and contents -/

/-- The blocks of the arguments a chip holds. -/
structure Ins (F : FTy → Type) where
  x : S2x128x512.Idx → Elt F .bf16
  wq : S512x256.Idx → Elt F .bf16
  wk : S512x256.Idx → Elt F .bf16
  wv : S512x256.Idx → Elt F .bf16
  wo : S256x512.Idx → Elt F .bf16

abbrev XR : Memref sig .tc .vmem S2x128x512 .bf16 := Memref.whole cc0_stg0_0
abbrev WQ : Memref sig .tc .vmem S512x256 .bf16 := Memref.whole cc0_stg1_0
abbrev WK : Memref sig .tc .vmem S512x256 .bf16 := Memref.whole cc0_stg2_0
abbrev WV : Memref sig .tc .vmem S512x256 .bf16 := Memref.whole cc0_stg3_0
abbrev WO : Memref sig .tc .vmem S256x512 .bf16 := Memref.whole cc0_stg4_0
abbrev NB : Memref sig .tc .smem S3 .i32 := Memref.whole cc0_stg5_0
abbrev CW : Memref sig .tc .smem S2x9 .i32 := Memref.whole cc0_stg6_0
abbrev CC : Memref sig .tc .smem S2x8 .i32 := Memref.whole cc0_stg7_0
abbrev OUT : Memref sig .tc .vmem S2x128x512 .f32 := Memref.whole cc0_stg8_0
abbrev KV : Memref sig .tc .vmem S2x4096x512 .bf16 := Memref.whole cc0_scratch0
abbrev SR : Memref sig .tc .vmem S2x4x128x4096 .f32 := Memref.whole cc0_scratch1

/-- The two batch rows of the activations, as the kernel loads them. -/
def xB0 (I : Ins F) : Vec F S1x128x512 .bf16 :=
  (XR.access (Rect.unit (s := S2x128x512) ![0, 0, 0] S1x128x512.size inb_S2x128x512_S1x128x512_0_0_0)).read (Elt F) I.x
def xB1 (I : Ins F) : Vec F S1x128x512 .bf16 :=
  (XR.access (Rect.unit (s := S2x128x512) ![1, 0, 0] S1x128x512.size inb_S2x128x512_S1x128x512_1_0_0)).read (Elt F) I.x

abbrev v2W (c : Dev nD) : BitVec 32 := Scalar.remsi (Scalar.divsi (Dev.word c) 1#32) 32#32
abbrev v29W : BitVec 32 := Scalar.subi (Scalar.extui (Scalar.cmpi .sgt 2#32 0#32)) (Scalar.extui (Scalar.cmpi .slt 2#32 0#32))

/-- The rotation's cosines and sines on chip `c`, and the rotation's exchange pattern. -/
def cosT (c : Dev nD) : FVec F S128x256 .f32 := k0_pay5 (F := F) (v2W c) k0_pay1 2#32 k0_pay2 k0_pay3 v29W
def sinT (c : Dev nD) : FVec F S128x256 .f32 := k0_pay6 (F := F) (v2W c) k0_pay1 2#32 k0_pay2 k0_pay3 v29W
def evT := k0_pay7 (iota .tc S128x256 32 [1] iota_S128x256_d1_w32)

/-- The rotated keys (`h = 0`) and the values (`h = 1`) of batch row `b` that chip `c` stores. -/
def ownP (I : Dev nD → Ins F) (c : Dev nD) (b h : ℕ) : Vec F S1x128x256 .bf16 :=
  if h = 0 then
    if b = 0 then k0_pay15 (cosT c) (sinT c) evT (k0_pay11 (I c).wk (xB0 (I c))) (k0_pay12 (I c).wk (xB0 (I c))) (k0_pay13 (I c).wk (xB0 (I c))) (k0_pay14 (I c).wk (xB0 (I c)))
    else k0_pay22 (cosT c) (sinT c) evT (k0_pay18 (k0_pay8 (I c).wk) (xB1 (I c))) (k0_pay19 (k0_pay8 (I c).wk) (xB1 (I c))) (k0_pay20 (k0_pay8 (I c).wk) (xB1 (I c))) (k0_pay21 (k0_pay8 (I c).wk) (xB1 (I c)))
  else
    if b = 0 then k0_pay16 (k0_pay9 (I c).wv) (k0_pay10 (xB0 (I c)))
    else k0_pay23 (k0_pay9 (I c).wv) (k0_pay17 (xB1 (I c)))

/-- An entry of the filled key/value buffer, by its three coordinates: batch row, position, column. -/
def Gn (I : Dev nD → Ins F) (b p col : ℕ) : Elt F .bf16 :=
  ownP I ⟨p / 128 % 32, Nat.mod_lt _ (by decide)⟩ b (col / 256)
    (ix3 (n0 := 1) (n1 := 128) (n2 := 256) 0 ⟨p % 128, Nat.mod_lt _ (by decide)⟩ ⟨col % 256, Nat.mod_lt _ (by decide)⟩)
/-- The filled key/value buffer: the same on every chip. -/
def G (I : Dev nD → Ins F) : S2x4096x512.Idx → Elt F .bf16 := fun i => Gn I (i 0).val (i 1).val (i 2).val

/-- A block of keys (64 columns of one chip's 128 positions). -/
def kvBlk (I : Dev nD → Ins F) (b o col : ℕ) : Vec F S1x128x64 .bf16 := fun i => Gn I b (o * 128 + (i 1).val) (col + (i 2).val)
/-- A column block over all positions. -/
def kvCol (I : Dev nD → Ins F) (b col : ℕ) : Vec F S1x4096x64 .bf16 := fun i => Gn I b (i 1).val (col + (i 2).val)

/-- The rotated and scaled queries of chip `c`, batch row `b`. -/
def qv (I : Dev nD → Ins F) (c : Dev nD) (b : ℕ) : FVec F S128x256 .bf16 :=
  if b = 0 then k0_pay27 (cosT c) (sinT c) evT (k0_pay25 (I c).wq (xB0 (I c))) (k0_pay26 (I c).wq (xB0 (I c))) (Scalar.ofBits .f32 0x00000000#32)
  else k0_pay28 (cosT c) (sinT c) evT (k0_pay24 (I c).wq) (xB1 (I c))

/-- The scores of one head against one block of keys. -/
def scF (q : FVec F S128x256 .bf16) (kv : Vec F S1x128x64 .bf16) (hh : ℕ) : FVec F S1x1x128x128 .f32 :=
  if hh = 0 then k0_pay149 q kv else if hh = 1 then k0_pay152 q kv else if hh = 2 then k0_pay155 q kv else k0_pay158 q kv

/-- The scores of chip `c`'s queries against the keys of chip `o`. -/
def SC (I : Dev nD → Ins F) (c : Dev nD) (b hh o : ℕ) : FVec F S1x1x128x128 .f32 := scF (qv I c b) (kvBlk I b o (64 * hh)) hh

/-- An entry of the filled score buffer. -/
def Sn (I : Dev nD → Ins F) (c : Dev nD) (b hh p k : ℕ) : Elt F .f32 :=
  SC I c b hh (k / 128) (ix4 (n0 := 1) (n1 := 1) (n2 := 128) (n3 := 128) 0 0 ⟨p % 128, Nat.mod_lt _ (by decide)⟩ ⟨k % 128, Nat.mod_lt _ (by decide)⟩)

/-- The score buffer after `u` blocks are stored, over what it held before. -/
def sC (I : Dev nD → Ins F) (c : Dev nD) (f0 : S2x4x128x4096.Idx → Elt F .f32) (u : ℕ) : S2x4x128x4096.Idx → Elt F .f32 := fun i =>
  open Classical in
  if ∃ w < 32, org c.val (relS w) = (i 3).val / 128 ∧ 8 * w + 4 * (i 0).val + (i 1).val < u
  then Sn I c (i 0).val (i 1).val (i 2).val (i 3).val else f0 i

/-- The scores of one batch row and head over all positions. -/
def sRow (I : Dev nD → Ins F) (c : Dev nD) (b hh : ℕ) : Vec F S1x1x128x4096 .f32 := fun i => Sn I c b hh (i 2).val (i 3).val

/-- The running maximum of one head after `n` sources. -/
def mx (I : Dev nD → Ins F) (c : Dev nD) (b hh : ℕ) : ℕ → FVec F S128x1 .f32
  | 0 => k0_pay29
  | n + 1 =>
    let kv := kvBlk I b (org c.val (relS n)) (64 * hh)
    if hh = 0 then k0_pay150 (qv I c b) (mx I c b hh n) kv
    else if hh = 1 then k0_pay153 (qv I c b) (mx I c b hh n) kv
    else if hh = 2 then k0_pay156 (mx I c b hh n) (k0_pay154 (qv I c b) kv)
    else k0_pay159 (qv I c b) (mx I c b hh n) kv

/-- The result block of one batch row. -/
def outW (I : Dev nD → Ins F) (c : Dev nD) (b : ℕ) : FVec F S1x128x512 .f32 :=
  if b = 0 then
    k0_pay847 (mx I c 0 3 32) (k0_pay842 (I c).wo) (k0_pay843 (mx I c 0 0 32) (sRow I c 0 0) (kvCol I 0 256))
      (k0_pay844 (mx I c 0 1 32) (sRow I c 0 1) (kvCol I 0 320)) (k0_pay845 (mx I c 0 2 32) (sRow I c 0 2)) (k0_pay846 (mx I c 0 2 32) (sRow I c 0 2))
      (kvCol I 0 384) (sRow I c 0 3) (kvCol I 0 448)
  else
    k0_pay854 (k0_pay842 (I c).wo) (k0_pay850 (k0_pay848 (mx I c 1 0 32) (sRow I c 1 0)) (k0_pay849 (mx I c 1 0 32) (sRow I c 1 0)) (kvCol I 1 256))
      (k0_pay851 (mx I c 1 1 32) (sRow I c 1 1) (kvCol I 1 320)) (k0_pay852 (mx I c 1 2 32) (sRow I c 1 2) (kvCol I 1 384))
      (k0_pay853 (mx I c 1 3 32) (sRow I c 1 3)) (kvCol I 1 448)

/-! ## Pieces, shares -/

/-- The piece of the key/value buffer that stems from chip `o`: batch row `b`, keys or values `h`. -/
def pc (o b h : ℕ) : Finset S2x4096x512.Idx := Finset.univ.filter fun i => (i 0).val = b ∧ (i 1).val / 128 = o ∧ (i 2).val / 256 = h
/-- The piece of arrival `j` on chip `c`. -/
abbrev pcA (c : Dev nD) (j : ℕ) : Finset S2x4096x512.Idx := pc (org c.val (relA j)) (batA j) (halA j)

/-- The share loads read with. -/
def q0 : PosShare TreeShare := fullShare.left
/-- The shares the three copies of a piece read with. -/
def qd (d : ℕ) : PosShare TreeShare :=
  if d = 0 then fullShare.right.left else if d = 1 then fullShare.right.right.left else fullShare.right.right.right

abbrev kvL (c : Dev nD) := KV.view.loc (c : Thread nD τ)

/-! ## Cells -/

def dsem (n : ℕ) : DmaSem sig := (⟨n % 257, Nat.mod_lt _ (by decide)⟩ : Fin 257)
abbrev barS : Sem sig := sig.barrier 0 rfl
abbrev finS : Sem sig := (⟨1, by decide⟩ : Fin 2)

abbrev sndC (c : Dev nD) (k : ℕ) : GSem nD τ sig := ((c : Thread nD τ), .dma (dsem (sndK k)))
abbrev rcvC (c : Dev nD) (k : ℕ) : GSem nD τ sig := ((c : Thread nD τ), .dma (dsem (rcvK k)))
abbrev barC (c : Dev nD) : GSem nD τ sig := ((c : Thread nD τ), .reg barS)
abbrev finC (c : Dev nD) : GSem nD τ sig := ((c : Thread nD τ), .reg finS)

/-- The units one copy of a piece credits. -/
def N : ℕ := tileCredit S128x256 .bf16
theorem N_pos : 0 < N := tileCredit_pos _ _ (by decide)

/-! ## What the units hand over -/

/-- What the barrier signal hands over for copy `k` into chip `c`: the piece, and that its semaphore is in use. -/
def barPiece (c : Dev nD) (k : ℕ) : sProp 𝕄 :=
  iprop((∃ f, kvL c ↦[pcA c (dstK k)]{fullShare} f) ∗ reached ER (rcvC c k) 0)

set_option synthInstance.maxHeartbeats 200000 in
instance ER_landsIn : (ER (F := F)).LandsIn (upEmb : UEmb _ 𝕄) := by infer_instance
set_option synthInstance.maxHeartbeats 200000 in
instance reached_ER_storable (g : GSem nD τ sig) (r : ℕ) : BI.Storable (upEmb : UEmb _ 𝕄) (reached (ER (F := F)) g r) := by infer_instance
set_option synthInstance.maxHeartbeats 200000 in
instance someAt_storable (c : Dev nD) (s : Finset S2x4096x512.Idx) :
    BI.Storable (upEmb : UEmb _ 𝕄) (iprop(∃ f, kvL c ↦[s]{fullShare} f) : sProp 𝕄) := by infer_instance

instance barPiece_storable (c : Dev nD) (k : ℕ) : BI.Storable (upEmb : UEmb _ 𝕄) (barPiece (F := F) c k) := by
  unfold barPiece; exact @BI.Storable.sep _ _ _ _ _ _ _ _ (someAt_storable c _) (reached_ER_storable _ _)

theorem storable_pieces (s : Finset ℕ) (Φ : ℕ → sProp 𝕄) (h : ∀ k, BI.Storable (upEmb : UEmb _ 𝕄) (Φ k)) :
    BI.Storable (upEmb : UEmb _ 𝕄) (bigSep s Φ) := by
  classical
  induction s using Finset.induction_on with
  | empty => rw [bigSep_empty]; exact BI.Storable.emp _
  | insert a s ha ih => rw [bigSep_insert ha]; exact @BI.Storable.sep _ _ _ _ _ _ _ _ (h a) ih

/-- What the neighbour in direction `d` hands to chip `c` with its barrier signal: the pieces `c` will write there, the
    knowledge that the semaphores `c`'s copies credit there are in use, and the same of the last semaphore. -/
def barPay (c : Dev nD) (d : ℕ) : sProp 𝕄 :=
  iprop((bigSep ((Finset.range 124).filter fun k => dirK k = d) fun k => barPiece (nb c d) k)
    ∗ reached ER (finC (nb c d)) 0)
/-- A landed copy: the piece at its contents. -/
def rcvPay (I : Dev nD → Ins F) (c : Dev nD) (k : ℕ) : sProp 𝕄 := kvL c ↦[pcA c (dstK k)]{fullShare} G I
/-- A copy read out: its share of the source. -/
def sndPay (I : Dev nD → Ins F) (c : Dev nD) (k : ℕ) : sProp 𝕄 := kvL c ↦[pcA c (srcK k)]{qd (dirK k)} G I

def kRd (I : Dev nD → Ins F) : Rounds.Schedule (GSem nD τ sig) (Fin 3) 𝕄 where
  duties g r := if r = 0 ∧ g.1.2 = .tc then (match g.2 with | .reg _ => Finset.univ | .dma n => if 9 ≤ n.val then {0} else ∅) else ∅
  unitless _ := False
  amount g _ _ := match g.2 with | .reg _ => 1 | .dma _ => N
  payload g _ d := match g.2 with
    | .reg s => if s.val = 0 then barPay g.1.1 d.val else iprop(emp)
    | .dma n => if kRcv n.val < 124 then rcvPay I g.1.1 (kRcv n.val) else if kSnd n.val < 124 then sndPay I g.1.1 (kSnd n.val) else iprop(emp)
  amount_pos g _ _ _ := by
    cases h : g.2 with
    | reg _ => exact Nat.one_pos
    | dma _ => exact N_pos

instance barPay_storable (c : Dev nD) (d : ℕ) : BI.Storable (upEmb : UEmb _ 𝕄) (barPay (F := F) c d) := by
  unfold barPay
  exact @BI.Storable.sep _ _ _ _ _ _ _ _ (storable_pieces _ _ fun k => barPiece_storable _ k) (reached_ER_storable _ _)
instance rcvPay_storable (I : Dev nD → Ins F) (c : Dev nD) (k : ℕ) : BI.Storable (upEmb : UEmb _ 𝕄) (rcvPay I c k) := by
  unfold rcvPay; infer_instance
instance sndPay_storable (I : Dev nD → Ins F) (c : Dev nD) (k : ℕ) : BI.Storable (upEmb : UEmb _ 𝕄) (sndPay I c k) := by
  unfold sndPay; infer_instance

instance kRd_payload_storable (I : Dev nD → Ins F) (g : GSem nD τ sig) (r : ℕ) (d : Fin 3) :
    BI.Storable (upEmb : UEmb _ 𝕄) ((kRd I).payload g r d) := by
  show BI.Storable upEmb (match g.2 with
    | .reg s => if s.val = 0 then barPay g.1.1 d.val else iprop(emp)
    | .dma n => if kRcv n.val < 124 then rcvPay I g.1.1 (kRcv n.val) else if kSnd n.val < 124 then sndPay I g.1.1 (kSnd n.val) else iprop(emp))
  split <;> (repeat' split) <;> infer_instance

/-! ## What is owed, and the levels -/

/-- The last signals chip `c` still owes after the first `i` of them: to the left, to the right, to the partner. -/
def finO (c : Dev nD) (i : ℕ) : CellTallies nD τ sig Unit :=
  (if i < 3 then tallyAt (finC (nb c 2)) () 1 else 0) + (if i < 2 then tallyAt (finC (nb c 0)) () 1 else 0) + (if i < 1 then tallyAt (finC (nb c 1)) () 1 else 0)
/-- What chip `c` owes after starting `a` copies. -/
def owed (c : Dev nD) (a : ℕ) : CellTallies nD τ sig Unit :=
  finO c 0 + ∑ k ∈ Finset.Ico a 124, tallyAt (rcvC (nb c (dirK k)) k) () N
/-- What chip `c` owes after `i` of its barrier signals. -/
def barO (c : Dev nD) (i : ℕ) : CellTallies nD τ sig Unit :=
  owed c 0 + (if i < 3 then tallyAt (barC (nb c 2)) () 1 else 0) + (if i < 2 then tallyAt (barC (nb c 0)) () 1 else 0) + (if i < 1 then tallyAt (barC (nb c 1)) () 1 else 0)

def L (g : GSem nD τ sig) : Finset Unit := if g.1.2 = .tc then {()} else ∅
/-- Staging 0; the barrier and the send semaphores 1; a receive semaphore its copy's level; the last semaphore 20. -/
def lv (g : GSem nD τ sig) (_ : Unit) : ℕ := match g.2 with
  | .reg s => if s.val = 0 then 1 else 20
  | .dma n => if kRcv n.val < 124 then lvlK (kRcv n.val) else if kSnd n.val < 124 then 1 else 0

/-! ## The state of a chip -/

/-- The semaphores of the protocol: the barrier's, the last one, the semaphores of the copies. -/
def csem (i : Fin 250) : SemLoc sig := if i.val = 0 then .reg barS else if i.val = 1 then .reg finS else .dma (dsem (i.val + 7))

/-- The invariants of all cells of all chips. -/
def invs (I : Dev nD → Ins F) (K : GSem nD τ sig → ℕ) : sProp 𝕄 :=
  bigSep (Finset.univ : Finset (Dev nD × Fin 250)) fun p => cellInv ER (kRd I) (K ((p.1 : Thread nD τ), csem p.2)) ((p.1 : Thread nD τ), csem p.2)

instance invs_persistent (I : Dev nD → Ins F) (K : GSem nD τ sig → ℕ) : BI.Persistent (invs I K) := by unfold invs; infer_instance

/-- The words of the three tables in scalar memory. -/
def nbW (c : Dev nD) : S3.Idx → Elt F .i32 := fun i =>
  BitVec.ofNat 32 (org c.val (relD (if (i 0).val = 0 then 1 else if (i 0).val = 1 then 0 else 2)))
def cwW (c : Dev nD) : S2x9.Idx → Elt F .i32 := fun i => BitVec.ofNat 32 (org c.val (16 * (i 0).val + (i 1).val))
def ccW (c : Dev nD) : S2x8.Idx → Elt F .i32 := fun i => BitVec.ofNat 32 (org c.val (16 * (i 0).val + (16 - (i 1).val) % 16))

abbrev ptW {sp : Space} {s : Shape} {e : EltTy} (c : Dev nD) (m : Memref sig .tc sp s e) (f : Buf (Elt F) (m.view.loc (c : Thread nD τ))) : sProp 𝕄 :=
  m.view.loc (c : Thread nD τ) ↦{fullShare} f

/-- The input windows. -/
def Win (I : Ins F) (c : Dev nD) : sProp 𝕄 :=
  iprop(ptW c XR I.x ∗ ptW c WQ I.wq ∗ ptW c WK I.wk ∗ ptW c WV I.wv ∗ ptW c WO I.wo ∗ ptW c NB (nbW (F := F) c) ∗ ptW c CW (cwW (F := F) c) ∗ ptW c CC (ccW (F := F) c))

/-- The shares of arrived pieces that no copy under way reads with. -/
def Shares (I : Dev nD → Ins F) (c : Dev nD) (a r s : ℕ) : sProp 𝕄 :=
  bigSep ((Finset.range r ×ˢ Finset.range 3).filter fun p => ¬ (s ≤ kof p.1 p.2 ∧ kof p.1 p.2 < a))
    fun p => kvL c ↦[pcA c p.1]{qd p.2} G I

/-- What starting copy `k` needs beside its source. -/
def Pend (c : Dev nD) (k : ℕ) : sProp 𝕄 :=
  iprop((∃ f, kvL (nb c (dirK k)) ↦[pcA (nb c (dirK k)) (dstK k)]{fullShare} f)
    ∗ dutyTok ER (sndC c k) 0 0 ∗ dutyTok ER (rcvC (nb c (dirK k)) k) 0 0 ∗ reached ER (sndC c k) 0 ∗ reached ER (rcvC (nb c (dirK k)) k) 0)

/-- What waiting for arrival `j` needs; an own piece is waited for by nobody. -/
def Arr (c : Dev nD) (j : ℕ) : sProp 𝕄 :=
  if j < 4 then iprop(∃ f, kvL c ↦[pcA c j]{fullShare} f)
  else iprop(atPos ER (rcvC c (arrA j)) 0 ∅ 0 ∗ cred (tallyAt (rcvC c (arrA j)) () N))

/-- What the last exchange of signals needs. -/
def Fin0 (c : Dev nD) : sProp 𝕄 :=
  iprop(atPos ER (finC c) 0 ∅ 0 ∗ cred (tallyAt (finC c) () 3)
    ∗ dutyTok ER (finC (nb c 1)) 0 0 ∗ reached ER (finC (nb c 1)) 0
    ∗ dutyTok ER (finC (nb c 0)) 0 1 ∗ reached ER (finC (nb c 0)) 0
    ∗ dutyTok ER (finC (nb c 2)) 0 2 ∗ reached ER (finC (nb c 2)) 0)

/-- The state with `a` copies started, `r` pieces arrived, `s` copies read out, `u` blocks of scores stored. -/
def St (I : Dev nD → Ins F) (K : GSem nD τ sig → ℕ) (c : Dev nD) (f0 : S2x4x128x4096.Idx → Elt F .f32) (R : sProp 𝕄)
    (o : S2x128x512.Idx → Elt F .f32) (a r s u : ℕ) : sProp 𝕄 :=
  iprop((invs I K ∗ levAts L lv) ∗ Win (I c) c
    ∗ (kvL c ↦[(Finset.range r).biUnion (pcA c)]{q0} G I)
    ∗ Shares I c a r s
    ∗ bigSep (Finset.Ico a 124) (Pend c)
    ∗ bigSep (Finset.Ico s a) (fun k => cred (tallyAt (sndC c k) () N))
    ∗ bigSep (Finset.Ico s 124) (fun k => atPos ER (sndC c k) 0 ∅ 0)
    ∗ bigSep (Finset.Ico r 128) (Arr c)
    ∗ bigSep (Finset.Ico 4 r) (fun j => semVal (rcvC c (arrA j)) 0)
    ∗ bigSep (Finset.Ico 0 s) (fun k => semVal (sndC c k) 0)
    ∗ (∃ W, owes (c : Thread nD τ) (owed c a) W)
    ∗ ptW c SR (sC I c f0 u)
    ∗ ptW c OUT o
    ∗ R)

/-- Running `p` from the state `P` ends in the state `P'` with the result `v`. -/
def Tr {α : Type} (c : Dev nD) (P : sProp 𝕄) (p : Prog (TpuEff nD τ sig (Elt F) Λ₀ .tc) α) (P' : sProp 𝕄) (v : α) : Prop :=
  ∀ Q : α → sProp 𝕄, iprop(P ∗ (P' -∗ Q v)) ⊢ wp frame (wpE (defs₀ (F := F)) 𝒱₀ (c : Thread nD τ) none) Set.univ p Q

theorem Tr_pure {α : Type} {c : Dev nD} {P : sProp 𝕄} {v : α} : Tr (F := F) c P (pure v) P v := fun Q => by
  show _ ⊢ wp frame _ _ (.ret v) Q
  rw [wp_ret]
  iintro ⟨HP, HQ⟩
  imodintro
  iapply HQ
  iexact HP

theorem Tr_bind {α β : Type} {c : Dev nD} {P P' P'' : sProp 𝕄} {p : Prog (TpuEff nD τ sig (Elt F) Λ₀ .tc) α}
    {k : α → Prog (TpuEff nD τ sig (Elt F) Λ₀ .tc) β} {v : α} {w : β} (h : Tr c P p P' v) (h' : Tr c P' (k v) P'' w) :
    Tr c P (p >>= k) P'' w := fun Q => by
  rw [wp_bind]
  refine .trans ?_ (h _)
  refine sep_mono_right (BIClass.wand_intro ?_)
  exact (sep_comm.1).trans (h' Q)

/-- A program that unfolds to a sequence. -/
theorem Tr_seq {α β : Type} {c : Dev nD} {P P'' : sProp 𝕄} {p : Prog (TpuEff nD τ sig (Elt F) Λ₀ .tc) α}
    {k : α → Prog (TpuEff nD τ sig (Elt F) Λ₀ .tc) β} {w : β} (h : Tr c P (p >>= k) P'' w) : Tr c P (p >>= k) P'' w := h

/-- A value nothing reads may be anything. -/
theorem Tr_any {α β : Type} {c : Dev nD} {P P'' : sProp 𝕄} {p : Prog (TpuEff nD τ sig (Elt F) Λ₀ .tc) α}
    {k : α → Prog (TpuEff nD τ sig (Elt F) Λ₀ .tc) β} {w : β}
    (h : ∀ Q : α → sProp 𝕄, iprop(P ∗ ∀ v, P -∗ Q v) ⊢ wp frame (wpE (defs₀ (F := F)) 𝒱₀ (c : Thread nD τ) none) Set.univ p Q)
    (h' : ∀ v, Tr c P (k v) P'' w) : Tr c P (p >>= k) P'' w := fun Q => by
  rw [wp_bind]
  refine .trans ?_ (h _)
  refine sep_mono_right (forall_intro fun v => BIClass.wand_intro ?_)
  exact (sep_comm.1).trans (h' v Q)

theorem Tr_conv {α : Type} {c : Dev nD} {P P' P₀ P₁ : sProp 𝕄} {p : Prog (TpuEff nD τ sig (Elt F) Λ₀ .tc) α} {v : α}
    (h : Tr c P p P' v) (h₀ : P₀ ⊢ P) (h₁ : P' ⊢ P₁) : Tr c P₀ p P₁ v := fun Q =>
  (BI.sep_mono h₀ (wand_mono_left h₁)).trans (h Q)

end Cert.Proof
-- ==== Proof.Facts.lean ====
/-
  Facts about the pieces of the buffer, the schedule of the semaphores and the levels.
-/
module

public import proofs.«01_k».proof.Proof.Protocol
public import Idealize.ShloMosaic.Lib.Pipeline.ValueKit.Geometry

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-! ## Pieces of the buffer -/

theorem mem_pc {o b h : ℕ} {i : S2x4096x512.Idx} : i ∈ pc o b h ↔ (i 0).val = b ∧ (i 1).val / 128 = o ∧ (i 2).val / 256 = h := by
  unfold pc; simp only [Finset.mem_filter, Finset.mem_univ, true_and]

/-- The pieces of two arrivals have no entry in common. -/
theorem pcA_disj {c : Dev nD} {j j' : ℕ} (hj : j < 128) (hj' : j' < 128) (h : j ≠ j') : Disjoint (pcA c j) (pcA c j') := by
  rw [Finset.disjoint_left]
  intro i h1 h2
  rw [mem_pc] at h1 h2
  refine h ?_
  have hr := org_inj c ⟨relA j, (relA_lt ⟨j, hj⟩).1⟩ ⟨relA j', (relA_lt ⟨j', hj'⟩).1⟩ (h1.2.1.symm.trans h2.2.1)
  have hr' : relA j = relA j' := congrArg Fin.val hr
  have := arrival_inj ⟨j, hj⟩ ⟨j', hj'⟩ (by show _ = _; rw [hr', ← h1.1, ← h2.1, ← h1.2.2, ← h2.2.2])
  exact congrArg Fin.val this

theorem pcA_disj_upto {c : Dev nD} {r : ℕ} (hr : r < 128) : Disjoint (pcA c r) ((Finset.range r).biUnion (pcA c)) := by
  rw [Finset.disjoint_biUnion_right]
  intro j hj
  exact pcA_disj hr (by have := Finset.mem_range.mp hj; omega) (by have := Finset.mem_range.mp hj; omega)

theorem upto_succ (c : Dev nD) (r : ℕ) : (Finset.range (r + 1)).biUnion (pcA c) = pcA c r ∪ (Finset.range r).biUnion (pcA c) := by
  rw [Finset.range_add_one, Finset.biUnion_insert]

/-- In the end every entry has arrived. -/
theorem upto_all (c : Dev nD) : (Finset.range 128).biUnion (pcA c) = Finset.univ := by
  ext i
  simp only [Finset.mem_biUnion, Finset.mem_range, Finset.mem_univ, iff_true]
  have h0 : (i 0).val < 2 := (i 0).isLt
  have h1 : (i 1).val < 4096 := (i 1).isLt
  have h2 : (i 2).val < 512 := (i 2).isLt
  obtain ⟨w, hw⟩ := org_surj c ⟨(i 1).val / 128, by omega⟩
  obtain ⟨j, hj1, hj2, hj3⟩ := arrival_surj ⟨relS w.val, relS_lt w⟩ ⟨(i 0).val, h0⟩ ⟨(i 2).val / 256, by omega⟩
  refine ⟨j.val, j.isLt, mem_pc.mpr ⟨hj2.symm, ?_, hj3.symm⟩⟩
  rw [hj1]; exact hw.symm

/-- Membership in a block of the buffer. -/
theorem mem_block (b : Ref sig .tc) (off size : Fin b.ty.shape.rank → ℕ) (inb) (i : b.ty.shape.Idx) :
    i ∈ ((View.whole b).slice (Rect.unit off size inb)).set ↔ ∀ a, off a ≤ (i a).val ∧ (i a).val < off a + size a :=
  ValueKit.mem_set_slice_whole_iff b _ i Rect.mem_set_unit

/-- The block a copy or a store of a piece works on. -/
theorem block_pc {b o h : ℕ} {off : Fin 3 → ℕ} {inb} (hoff : off = ![b, o * 128, 256 * h]) :
    ((View.whole cc0_scratch0).slice (Rect.unit (s := S2x4096x512) off S1x128x256.size inb)).set = pc o b h := by
  subst hoff
  ext i
  rw [mem_block, mem_pc]
  constructor
  · intro H
    have h0 : b ≤ (i 0).val ∧ (i 0).val < b + 1 := H 0
    have h1 : o * 128 ≤ (i 1).val ∧ (i 1).val < o * 128 + 128 := H 1
    have h2 : 256 * h ≤ (i 2).val ∧ (i 2).val < 256 * h + 256 := H 2
    omega
  · rintro ⟨h0, h1, h2⟩ a
    match a with
    | 0 => show b ≤ (i 0).val ∧ (i 0).val < b + 1; omega
    | 1 => show o * 128 ≤ (i 1).val ∧ (i 1).val < o * 128 + 128; omega
    | 2 => show 256 * h ≤ (i 2).val ∧ (i 2).val < 256 * h + 256; omega

/-! ## Splitting off one of many -/

theorem Ico_step {a b : ℕ} (h : a < b) (Φ : ℕ → sProp (MM F)) : bigSep (Finset.Ico a b) Φ = iprop(Φ a ∗ bigSep (Finset.Ico (a + 1) b) Φ) := by
  have e : Finset.Ico a b = insert a (Finset.Ico (a + 1) b) := by ext x; simp only [Finset.mem_Ico, Finset.mem_insert]; omega
  rw [e, bigSep_insert (by simp only [Finset.mem_Ico]; omega)]; rfl

theorem Ico_last {a b : ℕ} (h : a ≤ b) (Φ : ℕ → sProp (MM F)) : bigSep (Finset.Ico a (b + 1)) Φ = iprop(Φ b ∗ bigSep (Finset.Ico a b) Φ) := by
  have e : Finset.Ico a (b + 1) = insert b (Finset.Ico a b) := by ext x; simp only [Finset.mem_Ico, Finset.mem_insert]; omega
  rw [e, bigSep_insert (by simp only [Finset.mem_Ico]; omega)]; rfl

/-- The four shares of a piece. -/
theorem share_split (c : Dev nD) (S : Finset S2x4096x512.Idx) (f : S2x4096x512.Idx → Elt F .bf16) :
    (kvL c ↦[S]{fullShare} f : sProp (MM F)) ⊣⊢ iprop((kvL c ↦[S]{q0} f) ∗ (kvL c ↦[S]{qd 0} f) ∗ (kvL c ↦[S]{qd 1} f) ∗ (kvL c ↦[S]{qd 2} f)) := by
  refine (pointsTo_share (PosShare.mem_left_op_right fullShare)).trans ?_
  refine sep_congr .rfl ?_
  refine (pointsTo_share (PosShare.mem_left_op_right fullShare.right)).trans ?_
  exact sep_congr .rfl (pointsTo_share (PosShare.mem_left_op_right fullShare.right.right))

/-- The shares a copy's start takes out. -/
theorem Shares_start {I : Dev nD → Ins F} {c : Dev nD} {a r s : ℕ} (ha : a < 124) (hs : s ≤ a) (hr : srcK a < r) (hr' : r ≤ 128) :
    Shares I c a r s = iprop((kvL c ↦[pcA c (srcK a)]{qd (dirK a)} G I) ∗ Shares I c (a + 1) r s) := by
  unfold Shares
  have e : ((Finset.range r ×ˢ Finset.range 3).filter fun p : ℕ × ℕ => ¬ (s ≤ kof p.1 p.2 ∧ kof p.1 p.2 < a))
      = insert (srcK a, dirK a) ((Finset.range r ×ˢ Finset.range 3).filter fun p : ℕ × ℕ => ¬ (s ≤ kof p.1 p.2 ∧ kof p.1 p.2 < a + 1)) := by
    ext ⟨j, d⟩
    simp only [Finset.mem_filter, Finset.mem_product, Finset.mem_range, Finset.mem_insert, Prod.mk.injEq]
    have hk := kof_src ⟨a, ha⟩
    have hd := dirK_lt ⟨a, ha⟩
    simp only at hk hd
    constructor
    · rintro ⟨⟨h1, h2⟩, h3⟩
      by_cases hka : kof j d = a
      · have := src_kof ⟨j, by omega⟩ ⟨d, h2⟩ (by show kof j d < 124; omega)
        simp only [hka] at this
        exact .inl ⟨this.1.symm, this.2.symm⟩
      · exact .inr ⟨⟨h1, h2⟩, by omega⟩
    · rintro (⟨rfl, rfl⟩ | ⟨⟨h1, h2⟩, h3⟩)
      · exact ⟨⟨hr, hd⟩, by omega⟩
      · exact ⟨⟨h1, h2⟩, by omega⟩
  rw [e, bigSep_insert]
  · rfl
  simp only [Finset.mem_filter, not_and, not_not]
  intro _
  have hk := kof_src ⟨a, ha⟩
  simp only at hk
  omega

/-- The share a copy's end gives back. -/
theorem Shares_back {I : Dev nD → Ins F} {c : Dev nD} {a r s : ℕ} (ha : a ≤ 124) (hs : s < a) (hr : srcK s < r) (hr' : r ≤ 128) :
    Shares I c a r (s + 1) = iprop((kvL c ↦[pcA c (srcK s)]{qd (dirK s)} G I) ∗ Shares I c a r s) := by
  unfold Shares
  have e : ((Finset.range r ×ˢ Finset.range 3).filter fun p : ℕ × ℕ => ¬ (s + 1 ≤ kof p.1 p.2 ∧ kof p.1 p.2 < a))
      = insert (srcK s, dirK s) ((Finset.range r ×ˢ Finset.range 3).filter fun p : ℕ × ℕ => ¬ (s ≤ kof p.1 p.2 ∧ kof p.1 p.2 < a)) := by
    ext ⟨j, d⟩
    simp only [Finset.mem_filter, Finset.mem_product, Finset.mem_range, Finset.mem_insert, Prod.mk.injEq]
    have hk := kof_src ⟨s, by omega⟩
    have hd := dirK_lt ⟨s, by omega⟩
    simp only at hk hd
    constructor
    · rintro ⟨⟨h1, h2⟩, h3⟩
      by_cases hka : kof j d = s
      · have := src_kof ⟨j, by omega⟩ ⟨d, h2⟩ (by show kof j d < 124; omega)
        simp only [hka] at this
        exact .inl ⟨this.1.symm, this.2.symm⟩
      · exact .inr ⟨⟨h1, h2⟩, by omega⟩
    · rintro (⟨rfl, rfl⟩ | ⟨⟨h1, h2⟩, h3⟩)
      · exact ⟨⟨hr, hd⟩, by omega⟩
      · exact ⟨⟨h1, h2⟩, by omega⟩
  rw [e, bigSep_insert]
  · rfl
  simp only [Finset.mem_filter, not_and, not_not]
  intro _
  have hk := kof_src ⟨s, by omega⟩
  simp only at hk
  omega

/-- The shares a new arrival adds. -/
theorem Shares_new {I : Dev nD → Ins F} {c : Dev nD} {a r s : ℕ} (h : ∀ d < 3, ¬ (s ≤ kof r d ∧ kof r d < a)) :
    Shares I c a (r + 1) s = iprop(((kvL c ↦[pcA c r]{qd 0} G I) ∗ (kvL c ↦[pcA c r]{qd 1} G I) ∗ (kvL c ↦[pcA c r]{qd 2} G I)) ∗ Shares I c a r s) := by
  unfold Shares
  have e : ((Finset.range (r + 1) ×ˢ Finset.range 3).filter fun p : ℕ × ℕ => ¬ (s ≤ kof p.1 p.2 ∧ kof p.1 p.2 < a))
      = ({(r, 0), (r, 1), (r, 2)} : Finset (ℕ × ℕ)) ∪ ((Finset.range r ×ˢ Finset.range 3).filter fun p : ℕ × ℕ => ¬ (s ≤ kof p.1 p.2 ∧ kof p.1 p.2 < a)) := by
    ext ⟨j, d⟩
    simp only [Finset.mem_filter, Finset.mem_product, Finset.mem_range, Finset.mem_union, Finset.mem_insert, Finset.mem_singleton, Prod.mk.injEq]
    constructor
    · rintro ⟨⟨h1, h2⟩, h3⟩
      by_cases hj : j = r
      · left; omega
      · exact .inr ⟨⟨by omega, h2⟩, h3⟩
    · rintro (H | ⟨⟨h1, h2⟩, h3⟩)
      · have hj : j = r := by omega
        have hd : d < 3 := by omega
        subst hj
        exact ⟨⟨by omega, hd⟩, h d hd⟩
      · exact ⟨⟨by omega, h2⟩, h3⟩
  have hd : Disjoint ({(r, 0), (r, 1), (r, 2)} : Finset (ℕ × ℕ)) ((Finset.range r ×ˢ Finset.range 3).filter fun p : ℕ × ℕ => ¬ (s ≤ kof p.1 p.2 ∧ kof p.1 p.2 < a)) := by
    rw [Finset.disjoint_left]
    rintro ⟨j, d⟩ h1 h2
    simp only [Finset.mem_filter, Finset.mem_product, Finset.mem_range, Finset.mem_insert, Finset.mem_singleton, Prod.mk.injEq] at h1 h2
    omega
  rw [e, bigSep_union hd, bigSep_insert (by simp), bigSep_insert (by simp), bigSep_singleton]; rfl

/-! ## The schedule's entries -/

theorem dsem_val {n : ℕ} (h : n < 257) : (dsem n).val = n := Nat.mod_eq_of_lt h
theorem snd_ge : ∀ k : Fin 124, 9 ≤ sndK k.val ∧ 9 ≤ rcvK k.val := by decide +kernel

variable (I : Dev nD → Ins F) (K : GSem nD τ sig → ℕ) (c : Dev nD)

theorem duties_snd {k : ℕ} (h : k < 124) : (kRd I).duties (sndC c k) 0 = {0} := by
  have h1 := (snd_lt ⟨k, h⟩).1
  have h2 := (snd_ge ⟨k, h⟩).1
  show (if 0 = 0 ∧ Kind.tc = .tc then (if 9 ≤ (dsem (sndK k)).val then ({0} : Finset (Fin 3)) else ∅) else ∅) = {0}
  rw [dsem_val h1, if_pos ⟨rfl, rfl⟩, if_pos h2]
theorem duties_rcv {k : ℕ} (h : k < 124) : (kRd I).duties (rcvC c k) 0 = {0} := by
  have h1 := (snd_lt ⟨k, h⟩).2
  have h2 := (snd_ge ⟨k, h⟩).2
  show (if 0 = 0 ∧ Kind.tc = .tc then (if 9 ≤ (dsem (rcvK k)).val then ({0} : Finset (Fin 3)) else ∅) else ∅) = {0}
  rw [dsem_val h1, if_pos ⟨rfl, rfl⟩, if_pos h2]
theorem duties_reg (s : Sem sig) : (kRd I).duties ((c : Thread nD τ), .reg s) 0 = Finset.univ := by
  show (if 0 = 0 ∧ Kind.tc = .tc then (Finset.univ : Finset (Fin 3)) else ∅) = _
  exact if_pos ⟨rfl, rfl⟩
theorem duties_later (g : GSem nD τ sig) : ∀ r, 1 ≤ r → (kRd I).duties g r = ∅ := fun r hr => by
  dsimp only [kRd]; rw [if_neg (fun h => by omega)]
theorem amount_dma (n : DmaSem sig) (d : Fin 3) : (kRd I).amount ((c : Thread nD τ), .dma n) 0 d = N := rfl
theorem amount_reg (s : Sem sig) (d : Fin 3) : (kRd I).amount ((c : Thread nD τ), .reg s) 0 d = 1 := rfl
theorem expect_snd {k : ℕ} (h : k < 124) : (kRd I).expect (sndC c k) 0 = N := by
  unfold Schedule.expect Schedule.amountOf; rw [duties_snd I c h, Finset.sum_singleton, amount_dma]
theorem expect_rcv {k : ℕ} (h : k < 124) : (kRd I).expect (rcvC c k) 0 = N := by
  unfold Schedule.expect Schedule.amountOf; rw [duties_rcv I c h, Finset.sum_singleton, amount_dma]
theorem expect_reg (s : Sem sig) : (kRd I).expect ((c : Thread nD τ), .reg s) 0 = 3 := by
  unfold Schedule.expect Schedule.amountOf; rw [duties_reg I c s]
  simp only [amount_reg, Finset.sum_const, Finset.card_univ, Fintype.card_fin, smul_eq_mul, Nat.mul_one]
theorem payload_snd {k : ℕ} (h : k < 124) (d : Fin 3) : (kRd I).payload (sndC c k) 0 d = sndPay I c k := by
  have h1 := (snd_lt ⟨k, h⟩).1
  obtain ⟨h2, h3⟩ := kSnd_snd ⟨k, h⟩
  show (if kRcv (dsem (sndK k)).val < 124 then rcvPay I c (kRcv (dsem (sndK k)).val) else if kSnd (dsem (sndK k)).val < 124 then sndPay I c (kSnd (dsem (sndK k)).val) else iprop(emp)) = _
  rw [dsem_val h1, h3, h2, if_neg (by decide), if_pos h]
theorem payload_rcv {k : ℕ} (h : k < 124) (d : Fin 3) : (kRd I).payload (rcvC c k) 0 d = rcvPay I c k := by
  have h1 := (snd_lt ⟨k, h⟩).2
  obtain ⟨h2, h3⟩ := kRcv_rcv ⟨k, h⟩
  show (if kRcv (dsem (rcvK k)).val < 124 then rcvPay I c (kRcv (dsem (rcvK k)).val) else if kSnd (dsem (rcvK k)).val < 124 then sndPay I c (kSnd (dsem (rcvK k)).val) else iprop(emp)) = _
  rw [dsem_val h1, h2, if_pos h]
theorem payload_bar (d : Fin 3) : (kRd I).payload (barC c) 0 d = barPay c d.val := by
  show (if (barS : Fin 2).val = 0 then barPay c d.val else iprop(emp)) = _
  exact if_pos rfl
theorem payload_fin (d : Fin 3) : (kRd I).payload (finC c) 0 d = iprop(emp) := by
  show (if (finS : Fin 2).val = 0 then barPay c d.val else iprop(emp)) = _
  exact if_neg (by decide)

theorem lv_rcv {k : ℕ} (h : k < 124) : lv (rcvC c k) () = lvlK k := by
  have h1 := (snd_lt ⟨k, h⟩).2
  obtain ⟨h2, h3⟩ := kRcv_rcv ⟨k, h⟩
  show (if kRcv (dsem (rcvK k)).val < 124 then lvlK (kRcv (dsem (rcvK k)).val) else if kSnd (dsem (rcvK k)).val < 124 then 1 else 0) = _
  rw [dsem_val h1, h2, if_pos h]
theorem lv_snd {k : ℕ} (h : k < 124) : lv (sndC c k) () = 1 := by
  have h1 := (snd_lt ⟨k, h⟩).1
  obtain ⟨h2, h3⟩ := kSnd_snd ⟨k, h⟩
  show (if kRcv (dsem (sndK k)).val < 124 then lvlK (kRcv (dsem (sndK k)).val) else if kSnd (dsem (sndK k)).val < 124 then 1 else 0) = _
  rw [dsem_val h1, h2, h3, if_neg (by decide), if_pos h]
theorem L_tc (sm : SemLoc sig) : L ((c : Thread nD τ), sm) = {()} := if_pos rfl

/-! ## Invariants -/

theorem invs_get {sm : SemLoc sig} (i : Fin 250) (h : csem i = sm) (c : Dev nD) :
    (invs I K : sProp (MM F)) ⊢ cellInv ER (kRd I) (K ((c : Thread nD τ), sm)) ((c : Thread nD τ), sm) := by
  subst h
  unfold invs
  exact bigSep_elim (i := (c, i)) (Finset.mem_univ _)
theorem csem_dma : ∀ n : Fin 257, 9 ≤ n.val → ∃ i : Fin 250, csem i = .dma (dsem n.val) := fun n h =>
  ⟨⟨n.val - 7, by omega⟩, by unfold csem; rw [if_neg (by show ¬ n.val - 7 = 0; omega), if_neg (by show ¬ n.val - 7 = 1; omega)]; congr 2; show n.val - 7 + 7 = n.val; omega⟩
theorem invs_snd {k : ℕ} (h : k < 124) (c : Dev nD) : (invs I K : sProp (MM F)) ⊢ cellInv ER (kRd I) (K (sndC c k)) (sndC c k) := by
  obtain ⟨i, hi⟩ := csem_dma ⟨sndK k, (snd_lt ⟨k, h⟩).1⟩ (snd_ge ⟨k, h⟩).1
  exact invs_get I K i hi c
theorem invs_rcv {k : ℕ} (h : k < 124) (c : Dev nD) : (invs I K : sProp (MM F)) ⊢ cellInv ER (kRd I) (K (rcvC c k)) (rcvC c k) := by
  obtain ⟨i, hi⟩ := csem_dma ⟨rcvK k, (snd_lt ⟨k, h⟩).2⟩ (snd_ge ⟨k, h⟩).2
  exact invs_get I K i hi c
theorem invs_bar (c : Dev nD) : (invs I K : sProp (MM F)) ⊢ cellInv ER (kRd I) (K (barC c)) (barC c) := invs_get I K 0 rfl c
theorem invs_fin (c : Dev nD) : (invs I K : sProp (MM F)) ⊢ cellInv ER (kRd I) (K (finC c)) (finC c) := invs_get I K 1 rfl c

theorem close (g : GSem nD τ sig) :
    iprop(cellInv ER (kRd I) (K g) g ∗ atPos ER g (0 + 1) ∅ 0) ⊢ (|={Set.univ}=> semVal g 0 : sProp (MM F)) :=
  Rounds.cell_close ER (kRd I) (Set.mem_univ (K g)) id (duties_later I g)

/-! ## What may be waited for -/

theorem tally_pos {g g' : GSem nD τ sig} {n : ℕ} {u u' : Unit} (h : 0 < tallyAt g u n g' u') : g' = g := by
  rw [tallyAt_apply] at h
  by_contra hne
  rw [if_neg (fun h' => hne h'.1)] at h
  exact absurd h (Nat.lt_irrefl 0)

theorem finO_pos {i : ℕ} {g : GSem nD τ sig} {u : Unit} (h : 0 < finO c i g u) : ∃ c', g = finC c' := by
  unfold finO at h
  simp only [Finsupp.add_apply, Pi.add_apply] at h
  by_contra hne
  have hz : ∀ (p : Prop) [Decidable p] (c' : Dev nD), (if p then (tallyAt (finC c') () 1 : CellTallies nD τ sig Unit) else 0) g u = 0 := by
    intro p _ c'
    split
    · by_contra h0
      exact hne ⟨c', tally_pos (Nat.pos_of_ne_zero h0)⟩
    · rfl
  rw [hz, hz, hz] at h
  exact absurd h (Nat.lt_irrefl 0)

theorem owed_pos {a : ℕ} {g : GSem nD τ sig} {u : Unit} (h : 0 < owed c a g u) :
    (∃ c', g = finC c') ∨ ∃ k, a ≤ k ∧ k < 124 ∧ ∃ c', g = rcvC c' k := by
  unfold owed at h
  by_contra hne
  rw [not_or] at hne
  have h1 : finO c 0 g u = 0 := by
    by_contra h0
    exact hne.1 (finO_pos c (Nat.pos_of_ne_zero h0))
  have h2 : ∀ s : Finset ℕ, (∀ k ∈ s, a ≤ k ∧ k < 124) → (∑ k ∈ s, (tallyAt (rcvC (nb c (dirK k)) k) () N : CellTallies nD τ sig Unit)) g u = 0 := by
    intro s
    induction s using Finset.induction_on with
    | empty => intro _; rfl
    | insert k s hk ih =>
      intro hs
      rw [Finset.sum_insert hk]
      have hk' : (tallyAt (rcvC (nb c (dirK k)) k) () N : CellTallies nD τ sig Unit) g u = 0 := by
        by_contra h0
        have := hs k (Finset.mem_insert_self _ _)
        exact hne.2 ⟨k, this.1, this.2, _, tally_pos (Nat.pos_of_ne_zero h0)⟩
      show _ + _ = 0
      rw [hk', ih (fun k hk => hs k (Finset.mem_insert_of_mem hk))]
  have h3 := h2 (Finset.Ico a 124) (fun k hk => Finset.mem_Ico.mp hk)
  have : 0 < finO c 0 g u + (∑ k ∈ Finset.Ico a 124, (tallyAt (rcvC (nb c (dirK k)) k) () N : CellTallies nD τ sig Unit)) g u := h
  omega

theorem owed_step {a : ℕ} (ha : a < 124) : owed c a = owed c (a + 1) + tallyAt (rcvC (nb c (dirK a)) a) () N := by
  unfold owed
  rw [Finset.sum_eq_sum_Ico_succ_bot ha, add_assoc, add_comm (tallyAt _ () N)]

/-- Below the levels of all copies still to start one may wait. -/
theorem mayWait (a : ℕ) (ha : a ≤ 124) (sm : SemLoc sig) (h : lv ((c : Thread nD τ), sm) () < min (minK a) 20) :
    (levAts L lv : sProp (MM F)) ⊢ MayWait (c : Thread nD τ) sm () (owed c a) :=
  MayOwe.of_cut (L := L) (lev := lv) (lv ((c : Thread nD τ), sm) ())
    (fun p hp => by rw [Finset.mem_singleton.mp hp, L_tc]; exact Finset.mem_singleton_self _)
    (fun g u hg => by
      obtain ⟨c', rfl⟩ | ⟨k, -, -, c', rfl⟩ := owed_pos c hg <;> exact Finset.mem_singleton_self _)
    (fun p hp => by rw [Finset.mem_singleton.mp hp])
    (fun g u hg => by
      obtain ⟨c', rfl⟩ | ⟨k, h1, h2, c', rfl⟩ := owed_pos c hg
      · show _ < 20; omega
      · have := minK_le ⟨a, by omega⟩ ⟨k, h2⟩ h1
        simp only at this
        show _ < lv (rcvC c' k) ()
        rw [lv_rcv c' h2]; omega)

end Cert.Proof
-- ==== Proof.Leaves.lean ====
/-
  One rule per kind of operation of the body.
-/
module

public import proofs.«01_k».proof.Proof.Facts
public import Idealize.ShloMosaic.Lib.Pipeline.ValueKit.Geometry

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-! ## Arithmetic of the words -/

theorem off_word (c r b col : ℕ) :
    (![b, (Scalar.indexCast (Scalar.muli (BitVec.ofNat 32 (org c r)) 128#32)).toNat, col] : Fin 3 → ℕ) = ![b, org c r * 128, col] := by
  have h : ∀ o : Fin 32, (Scalar.indexCast (Scalar.muli (BitVec.ofNat 32 o.val) 128#32)).toNat = o.val * 128 := by decide +kernel
  rw [h ⟨org c r, org_lt _ _⟩]
theorem off_own (c : Dev nD) (b col : ℕ) :
    (![b, (Scalar.indexCast (Scalar.muli (Scalar.remsi (Scalar.divsi (Dev.word c) 1#32) 32#32) 128#32)).toNat, col] : Fin 3 → ℕ) = ![b, org c.val 0 * 128, col] := by
  have h : ∀ o : Fin 32, (Scalar.indexCast (Scalar.muli (Scalar.remsi (Scalar.divsi (Dev.word (nD := nD) o) 1#32) 32#32) 128#32)).toNat = o.val * 128 := by decide +kernel
  rw [h c, org_zero c]
theorem off4_word (c r b hh z : ℕ) :
    (![b, hh, z, (Scalar.indexCast (Scalar.muli (BitVec.ofNat 32 (org c r)) 128#32)).toNat] : Fin 4 → ℕ) = ![b, hh, z, org c r * 128] := by
  have h : ∀ o : Fin 32, (Scalar.indexCast (Scalar.muli (BitVec.ofNat 32 o.val) 128#32)).toNat = o.val * 128 := by decide +kernel
  rw [h ⟨org c r, org_lt _ _⟩]
theorem off4_own (c : Dev nD) (b hh z : ℕ) :
    (![b, hh, z, (Scalar.indexCast (Scalar.muli (Scalar.remsi (Scalar.divsi (Dev.word c) 1#32) 32#32) 128#32)).toNat] : Fin 4 → ℕ) = ![b, hh, z, org c.val 0 * 128] := by
  have h : ∀ o : Fin 32, (Scalar.indexCast (Scalar.muli (Scalar.remsi (Scalar.divsi (Dev.word (nD := nD) o) 1#32) 32#32) 128#32)).toNat = o.val * 128 := by decide +kernel
  rw [h c, org_zero c]
theorem dev_word (c r : ℕ) : (Scalar.addi 0#32 (Scalar.muli (BitVec.ofNat 32 (org c r)) 1#32)).toNat = org c r := by
  have h : ∀ o : Fin 32, (Scalar.addi 0#32 (Scalar.muli (BitVec.ofNat 32 o.val) 1#32)).toNat = o.val := by decide +kernel
  exact h ⟨org c r, org_lt _ _⟩
theorem chk_of {p : BitVec 32 → Prop} (h : ∀ o : Fin 32, p (BitVec.ofNat 32 o.val)) (c r : ℕ) : p (BitVec.ofNat 32 (org c r)) :=
  h ⟨org c r, org_lt _ _⟩

/-- To tell the offsets that depend on the chip from those that depend on a table's word. -/
theorem own_arg {c : Dev nD} {n : ℕ} {f : Dev nD → Fin n → ℕ} {y : Fin n → ℕ} (h : f c = y) : f c = y := h

/-! ## Operations of any state -/

theorem Tr_dev {c : Dev nD} {P : sProp (MM F)} : Tr c P (Prog.lift .deviceId) P c := by
  intro Q
  change _ ⊢ wp frame (wpE (defs₀ (F := F)) 𝒱₀ (c : Thread nD τ) none) Set.univ (.op TpuEff.deviceId .ret) Q
  rw [wp_deviceId, wp_ret]
  iintro ⟨HP, HQ⟩
  imodintro
  iapply HQ
  iexact HP
theorem Tr_assume {c : Dev nD} {P : sProp (MM F)} {p : Prop} {dec : Decidable p} (h : p) :
    Tr c P (Prog.lift (TpuEff.assume p dec)) P ⟨h⟩ := by
  intro Q
  refine .trans ?_ (wp_assume 𝒱₀ (c : Thread nD τ) none Set.univ h)
  rw [wp_ret]
  iintro ⟨HP, HQ⟩
  imodintro
  iapply HQ
  iexact HP

/-- Running on a part of the state. -/
theorem Tr_use {α : Type} {c : Dev nD} {P X X' P' : sProp (MM F)} {p : Prog (TpuEff nD τ sig (Elt F) Λ₀ .tc) α} {v : α}
    (hP : P ⊢ iprop(X ∗ (X' -∗ P'))) (h : Tr c X p X' v) : Tr c P p P' v := fun Q => by
  iintro ⟨HP, HQ⟩
  ihave H := hP $$ HP
  icases H with ⟨HX, Hw⟩
  iapply (h Q)
  isplitl [HX]
  · iexact HX
  iintro HX
  iapply HQ
  iapply Hw
  iexact HX

theorem Tr_load {c : Dev nD} {cs : CoreSpace} {s : Shape} {e : EltTy} {m : Memref sig .tc cs s e} {r : Rect s} {hl : m.view.LoadsAt r.toLoadRect}
    {S : Finset (Idx (m.view.loc (c : Thread nD τ)))} {q : PosShare TreeShare} {f : Buf (Elt F) (m.view.loc (c : Thread nD τ))}
    {v : r.shape.Idx → Elt F e}
    (hS : (m.access r).set ⊆ S) (hv : (m.access r).read (Elt F) f = v) :
    Tr c ((m.view.loc (c : Thread nD τ)) ↦[S]{q} f) (Prog.lift (.load m r.toLoadRect hl)) ((m.view.loc (c : Thread nD τ)) ↦[S]{q} f) v := fun Q => by
  subst hv
  iintro ⟨HP, HQ⟩
  iapply (wp_load_rect 𝒱₀ (c : Thread nD τ) none Set.univ (hl := hl) hS) $$ [HP]
  · iexact HP
  iintro HP
  rw [wp_ret]
  imodintro
  iapply HQ
  iexact HP

theorem Tr_store {c : Dev nD} {cs : CoreSpace} {s : Shape} {e : EltTy} {m : Memref sig .tc cs s e} {r : Rect s} {w : r.shape.Idx → Elt F e}
    {hx : (m.access r).Stores Finset.univ} {hm}
    {S : Finset (Idx (m.view.loc (c : Thread nD τ)))} {f : Buf (Elt F) (m.view.loc (c : Thread nD τ))}
    (hS : (m.access r).setOn Finset.univ ⊆ S) :
    Tr c ((m.view.loc (c : Thread nD τ)) ↦[S]{fullShare} f) (Prog.lift (.store m r w Finset.univ hx hm))
      ((m.view.loc (c : Thread nD τ)) ↦[S]{fullShare} ((m.access r).write (Elt F) f w Finset.univ)) PUnit.unit := fun Q => by
  iintro ⟨HP, HQ⟩
  iapply (wp_store 𝒱₀ (c : Thread nD τ) none Set.univ (hx := hx) (hm := hm) hS) $$ [HP]
  · iexact HP
  iintro HP
  rw [wp_ret]
  imodintro
  iapply HQ
  iexact HP

theorem Tr_load_any {c : Dev nD} {cs : CoreSpace} {s : Shape} {e : EltTy} {m : Memref sig .tc cs s e} {r : LoadRect s} {hl : m.view.LoadsAt r}
    {f : Buf (Elt F) (m.view.loc (c : Thread nD τ))} :
    Tr c (m.view.loc (c : Thread nD τ) ↦{fullShare} f) (Prog.lift (.load m r hl)) (m.view.loc (c : Thread nD τ) ↦{fullShare} f)
      (m.view.readAt (Elt F) r f) := fun Q => by
  iintro ⟨HP, HQ⟩
  iapply (wp_load 𝒱₀ (c : Thread nD τ) none Set.univ (hl := hl) (Finset.subset_univ _)) $$ [HP]
  · iexact HP
  iintro HP
  rw [wp_ret]
  imodintro
  iapply HQ
  iexact HP

/-- A whole buffer read from its origin. -/
theorem read_zero (b : Ref sig .tc) (off : Fin b.ty.shape.rank → ℕ) (inb : ∀ a, off a + b.ty.shape.size a ≤ b.ty.shape.size a)
    (f : b.ty.Contents (Elt F)) (h : ∀ a, off a = 0) :
    ((View.whole b).slice (Rect.unit off b.ty.shape.size inb)).read (Elt F) f = f := by
  funext i
  show f _ = f i
  congr 1
  funext a
  refine Fin.ext ?_
  rw [Idealize.ShloMosaic.ValueKit.view_emb_slice_whole_unit_val, h a, Nat.zero_add]

/-- A load nothing reads. -/
theorem Tr_dead {α β : Type} {c : Dev nD} {P X P'' : sProp (MM F)} {p : Prog (TpuEff nD τ sig (Elt F) Λ₀ .tc) α}
    {k : α → Prog (TpuEff nD τ sig (Elt F) Λ₀ .tc) β} {w : β}
    (hP : P ⊢ iprop(X ∗ (X -∗ P)))
    (hp : ∃ v, Tr c X p X v)
    (h : ∀ x, Tr c P (k x) P'' w) : Tr c P (p >>= k) P'' w := by
  obtain ⟨v, hv⟩ := hp
  exact Tr_bind (Tr_use hP hv) (h v)

/-- One word of a table. -/
theorem Tr_smem {c : Dev nD} {s : Shape} {e : EltTy} {m : Memref sig .tc .smem s e} {r : Rect s} {h1 : r.shape.numel = 1} {hp}
    {f : Buf (Elt F) (m.view.loc (c : Thread nD τ))} {v : Elt F e}
    (hv : (m.access r).read (Elt F) f (Shape.Idx.first (by rw [h1]; exact Nat.one_pos)) = v) :
    Tr c ((m.view.loc (c : Thread nD τ)) ↦{fullShare} f) (smemLoad m r h1 hp) ((m.view.loc (c : Thread nD τ)) ↦{fullShare} f) v := fun Q => by
  subst hv
  iintro ⟨HP, HQ⟩
  iapply (wp_smemLoadElt 𝒱₀ (c : Thread nD τ) none Set.univ (Finset.subset_univ _)) $$ [HP]
  · iexact HP
  iintro HP
  rw [wp_ret]
  imodintro
  iapply HQ
  iexact HP

/-- Where a block's entry lies. -/
theorem emb_at (b : Ref sig .tc) (off size : Fin b.ty.shape.rank → ℕ) (inb) (j : (Rect.unit off size inb).shape.Idx) (i : b.ty.shape.Idx)
    (h : ∀ a, off a + (j a).val = (i a).val) : ((View.whole b).slice (Rect.unit off size inb)).emb j = i := by
  funext a
  refine Fin.ext ?_
  rw [ValueKit.view_emb_slice_whole_unit_val]
  exact h a
theorem write_at (b : Ref sig .tc) (off size : Fin b.ty.shape.rank → ℕ) (inb) (f : b.ty.Contents (Elt F))
    (w : (Rect.unit off size inb).shape.Idx → Elt F b.ty.elt) (j : (Rect.unit off size inb).shape.Idx) (i : b.ty.shape.Idx)
    (h : ∀ a, off a + (j a).val = (i a).val) :
    ((View.whole b).slice (Rect.unit off size inb)).write (Elt F) f w Finset.univ i = w j := by
  have e := emb_at b off size inb j i h
  subst e
  exact View.write_emb_of_mem (v := (View.whole b).slice (Rect.unit off size inb)) (Val := Elt F) f w (Finset.mem_univ j)
/-- A copy leaves what it read. -/
theorem write_read {sp : Space} {s : Shape} {e : EltTy} (v : View sig .tc sp s e) (f g : v.ty.Contents (Elt F)) {i : v.ty.Idx} (hi : i ∈ v.set) :
    v.write (Elt F) f (v.read (Elt F) g) Finset.univ i = g i := by
  obtain ⟨x, -, rfl⟩ := Finset.mem_map.mp hi
  have h := View.write_emb_of_mem (v := v) (Val := Elt F) f (v.read (Elt F) g) (Finset.mem_univ x)
  refine h.trans ?_
  rw [View.read_apply]
  simp only [cast_cast, cast_eq]

theorem Tr_ex {α X : Type} {c : Dev nD} {P : X → sProp (MM F)} {P' : sProp (MM F)} {p : Prog (TpuEff nD τ sig (Elt F) Λ₀ .tc) α} {v : α}
    (h : ∀ x, Tr c (P x) p P' v) : Tr c iprop(∃ x, P x) p P' v := fun Q => by
  iintro ⟨HP, HQ⟩
  icases HP with ⟨%x, HP⟩
  iapply (h x Q)
  isplitl [HP]
  · iexact HP
  iexact HQ

section

variable {I : Dev nD → Ins F} {K : GSem nD τ sig → ℕ} {c : Dev nD} {f0 : S2x4x128x4096.Idx → Elt F .f32} {R : sProp (MM F)}
  {o : S2x128x512.Idx → Elt F .f32} {a r s u : ℕ}

theorem Win_take {X : sProp (MM F)} (h : Win (I c) c ⊢ iprop(X ∗ (X -∗ Win (I c) c))) :
    St I K c f0 R o a r s u ⊢ iprop(X ∗ (X -∗ St I K c f0 R o a r s u)) := by
  unfold St
  iintro ⟨Hi, HW, H⟩
  ihave HX := h $$ HW
  icases HX with ⟨HX, Hw⟩
  isplitl [HX]
  · iexact HX
  iintro HX
  isplitl [Hi]
  · iexact Hi
  isplitl [HX Hw]
  · iapply Hw
    iexact HX
  iexact H

theorem take_x : St I K c f0 R o a r s u ⊢ iprop(ptW c XR (I c).x ∗ (ptW c XR (I c).x -∗ St I K c f0 R o a r s u)) := by
  apply Win_take
  unfold Win
  iintro ⟨HX, HWQ, HWK, HWV, HWO, HNB, HCW, HCC⟩
  isplitl [HX]
  · iexact HX
  iintro HX
  iframe

theorem take_wq : St I K c f0 R o a r s u ⊢ iprop(ptW c WQ (I c).wq ∗ (ptW c WQ (I c).wq -∗ St I K c f0 R o a r s u)) := by
  apply Win_take
  unfold Win
  iintro ⟨HX, HWQ, HWK, HWV, HWO, HNB, HCW, HCC⟩
  isplitl [HWQ]
  · iexact HWQ
  iintro HWQ
  iframe

theorem take_wk : St I K c f0 R o a r s u ⊢ iprop(ptW c WK (I c).wk ∗ (ptW c WK (I c).wk -∗ St I K c f0 R o a r s u)) := by
  apply Win_take
  unfold Win
  iintro ⟨HX, HWQ, HWK, HWV, HWO, HNB, HCW, HCC⟩
  isplitl [HWK]
  · iexact HWK
  iintro HWK
  iframe

theorem take_wv : St I K c f0 R o a r s u ⊢ iprop(ptW c WV (I c).wv ∗ (ptW c WV (I c).wv -∗ St I K c f0 R o a r s u)) := by
  apply Win_take
  unfold Win
  iintro ⟨HX, HWQ, HWK, HWV, HWO, HNB, HCW, HCC⟩
  isplitl [HWV]
  · iexact HWV
  iintro HWV
  iframe

theorem take_wo : St I K c f0 R o a r s u ⊢ iprop(ptW c WO (I c).wo ∗ (ptW c WO (I c).wo -∗ St I K c f0 R o a r s u)) := by
  apply Win_take
  unfold Win
  iintro ⟨HX, HWQ, HWK, HWV, HWO, HNB, HCW, HCC⟩
  isplitl [HWO]
  · iexact HWO
  iintro HWO
  iframe

theorem take_nb : St I K c f0 R o a r s u ⊢ iprop(ptW c NB (nbW (F := F) c) ∗ (ptW c NB (nbW (F := F) c) -∗ St I K c f0 R o a r s u)) := by
  apply Win_take
  unfold Win
  iintro ⟨HX, HWQ, HWK, HWV, HWO, HNB, HCW, HCC⟩
  isplitl [HNB]
  · iexact HNB
  iintro HNB
  iframe

theorem take_cw : St I K c f0 R o a r s u ⊢ iprop(ptW c CW (cwW (F := F) c) ∗ (ptW c CW (cwW (F := F) c) -∗ St I K c f0 R o a r s u)) := by
  apply Win_take
  unfold Win
  iintro ⟨HX, HWQ, HWK, HWV, HWO, HNB, HCW, HCC⟩
  isplitl [HCW]
  · iexact HCW
  iintro HCW
  iframe

theorem take_cc : St I K c f0 R o a r s u ⊢ iprop(ptW c CC (ccW (F := F) c) ∗ (ptW c CC (ccW (F := F) c) -∗ St I K c f0 R o a r s u)) := by
  apply Win_take
  unfold Win
  iintro ⟨HX, HWQ, HWK, HWV, HWO, HNB, HCW, HCC⟩
  isplitl [HCC]
  · iexact HCC
  iintro HCC
  iframe

theorem take_sr {u' : ℕ} : St I K c f0 R o a r s u ⊢ iprop(ptW c SR (sC I c f0 u) ∗ (ptW c SR (sC I c f0 u') -∗ St I K c f0 R o a r s u')) := by
  unfold St
  iintro ⟨Hi, HW, Hkv, Hsh, Hpd, Hcs, Has, Har, Hvr, Hvs, HO, Hs, Ho, HR⟩
  isplitl [Hs]
  · iexact Hs
  iintro Hs
  iframe

theorem take_out {o' : S2x128x512.Idx → Elt F .f32} : St I K c f0 R o a r s u ⊢ iprop(ptW c OUT o ∗ (ptW c OUT o' -∗ St I K c f0 R o' a r s u)) := by
  unfold St
  iintro ⟨Hi, HW, Hkv, Hsh, Hpd, Hcs, Has, Har, Hvr, Hvs, HO, Hs, Ho, HR⟩
  isplitl [Ho]
  · iexact Ho
  iintro Ho
  iframe

theorem take_kv : St I K c f0 R o a r s u ⊢ iprop((kvL c ↦[(Finset.range r).biUnion (pcA c)]{q0} G I)
    ∗ ((kvL c ↦[(Finset.range r).biUnion (pcA c)]{q0} G I) -∗ St I K c f0 R o a r s u)) := by
  unfold St
  iintro ⟨Hi, HW, Hkv, Hsh, Hpd, Hcs, Has, Har, Hvr, Hvs, HO, Hs, Ho, HR⟩
  isplitl [Hkv]
  · iexact Hkv
  iintro Hkv
  iframe

/-- The piece of an own arrival. -/
theorem take_own (h : r < 4) : St I K c f0 R o a r s u ⊢ iprop((∃ f, kvL c ↦[pcA c r]{fullShare} f)
    ∗ ((∃ f, kvL c ↦[pcA c r]{fullShare} f) -∗ St I K c f0 R o a r s u)) := by
  unfold St
  rw [Ico_step (show r < 128 by omega) (Arr c)]
  have hA : (Arr c r : sProp (MM F)) = iprop(∃ f, kvL c ↦[pcA c r]{fullShare} f) := if_pos h
  rw [hA]
  iintro ⟨Hi, HW, Hkv, Hsh, Hpd, Hcs, Has, ⟨Hp, Har⟩, Hvr, Hvs, HO, Hs, Ho, HR⟩
  isplitl [Hp]
  · iexact Hp
  iintro Hp
  iframe

/-- A new piece joins the arrived ones. -/
theorem arrive (hr : r < 128) (h : ∀ d < 3, ¬ (s ≤ kof r d ∧ kof r d < a)) :
    iprop((kvL c ↦[(Finset.range r).biUnion (pcA c)]{q0} G I) ∗ Shares I c a r s ∗ (kvL c ↦[pcA c r]{fullShare} G I))
      ⊢ iprop((kvL c ↦[(Finset.range (r + 1)).biUnion (pcA c)]{q0} G I) ∗ Shares I c a (r + 1) s) := by
  rw [upto_succ, Shares_new h]
  iintro ⟨Hkv, Hsh, Hp⟩
  ihave Hp := (share_split c _ _).1 $$ Hp
  icases Hp with ⟨H0, H1⟩
  isplitl [Hkv H0]
  · iapply (pointsTo_union (pcA_disj_upto hr)).2
    isplitl [H0]
    · iexact H0
    iexact Hkv
  isplitl [H1]
  · iexact H1
  iexact Hsh

theorem put_own (h : r < 4) (hk : ∀ d < 3, ¬ (s ≤ kof r d ∧ kof r d < a)) : St I K c f0 R o a r s u ⊢ iprop((∃ f, kvL c ↦[pcA c r]{fullShare} f)
    ∗ ((kvL c ↦[pcA c r]{fullShare} G I) -∗ St I K c f0 R o a (r + 1) s u)) := by
  unfold St
  rw [Ico_step (show r < 128 by omega) (Arr c)]
  have hA : (Arr c r : sProp (MM F)) = iprop(∃ f, kvL c ↦[pcA c r]{fullShare} f) := if_pos h
  have e1 : Finset.Ico 4 r = ∅ := Finset.Ico_eq_empty (by omega)
  have e2 : Finset.Ico 4 (r + 1) = ∅ := Finset.Ico_eq_empty (by omega)
  rw [hA, e1, e2]
  iintro ⟨Hi, HW, Hkv, Hsh, Hpd, Hcs, Has, ⟨Hp, Har⟩, Hvr, Hvs, HO, Hs, Ho, HR⟩
  isplitl [Hp]
  · iexact Hp
  iintro Hp
  ihave H := arrive (show r < 128 by omega) hk $$ [Hkv Hsh Hp]
  · iframe
  icases H with ⟨Hkv, Hsh⟩
  iframe

theorem St_set_own {b rel col : ℕ} {off : Fin 3 → ℕ} {inb}
    (hoff : off = ![b, org c.val rel * 128, col]) (hck : relA r = rel ∧ batA r = b ∧ 256 * halA r = col) :
    ((View.whole cc0_scratch0).slice (Rect.unit (s := S2x4096x512) off S1x128x256.size inb)).set = pcA c r := by
  obtain ⟨rfl, rfl, rfl⟩ := hck
  exact block_pc hoff

theorem credit (m : Memref sig .tc .vmem S128x256 .bf16) (sm : DmaSem sig) : m.view.amount (.dma sm) = N := rfl

theorem wait_op {α : Type} {src dst : Memref sig .tc .vmem S128x256 .bf16} {sm : DmaSem sig} {h₁ h₂} {k : PUnit → Prog (TpuEff nD τ sig (Elt F) Λ₀ .tc) α} {Q : α → sProp (MM F)} {W}
    {X : sProp (MM F)} (ha : a ≤ 124) (hl : lv ((c : Thread nD τ), .dma sm) () < min (minK a) 20)
    (hi : (invs I K : sProp (MM F)) ⊢ cellInv ER (kRd I) (K ((c : Thread nD τ), .dma sm)) ((c : Thread nD τ), .dma sm))
    (hd : (kRd I).duties ((c : Thread nD τ), .dma sm) 0 = {0}) (hp : (kRd I).payload ((c : Thread nD τ), .dma sm) 0 0 = X) :
    iprop(invs I K ∗ levAts L lv ∗ cred (tallyAt ((c : Thread nD τ), .dma sm) () N) ∗ owes (c : Thread nD τ) (owed c a) W ∗ atPos ER ((c : Thread nD τ), .dma sm) 0 ∅ 0)
      ⊢ iprop((((∃ W, owes (c : Thread nD τ) (owed c a) W) ∗ semVal ((c : Thread nD τ), .dma sm) 0 ∗ X) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  have hex : 0 + dst.view.dmaCredit = (kRd I).expect ((c : Thread nD τ), .dma sm) 0 := by
    unfold Schedule.expect Schedule.amountOf; rw [hd, Finset.sum_singleton, Nat.zero_add]; rfl
  iintro ⟨#Hi, #HL, Hc, HO, Hat⟩ HK
  iapply (wp_wait_rest_token 𝒱₀ ER (kRd I) (c : Thread nD τ) none (w := .waitDma2 sm src dst h₁ h₂) (wpE_waitDma2_eq 𝒱₀ (c : Thread nD τ) none Set.univ) (Set.mem_univ (K ((c : Thread nD τ), .dma sm)))
    () (R := 0) (T := ∅) (m := 0) hex) $$ [Hc HO Hat]
  · isplitr
    · iapply hi; iexact Hi
    isplitl [Hc]; · iexact Hc
    isplitl [HO]; · iexact HO
    isplitr
    · iapply (mayWait c a ha _ hl); iexact HL
    iexact Hat
  rw [Finset.sdiff_empty, hd, bigSep_singleton, hp]
  iintro ⟨HO, Hat, -, Hx⟩
  imod (close I K ((c : Thread nD τ), .dma sm)) $$ [Hat] with Hv
  · isplitr
    · iapply hi; iexact Hi
    iexact Hat
  iapply HK
  isplitl [HO]
  · iexists _; iexact HO
  iframe

/-- Issuing copy `a`. -/
theorem send_op {α : Type} {src dst : Memref sig .tc .vmem S128x256 .bf16} {h₁ h₂ h₃} {k : PUnit → Prog (TpuEff nD τ sig (Elt F) Λ₀ .tc) α} {Q : α → sProp (MM F)} {W}
    (ha : a < 124)
    {fs : Buf (Elt F) (src.view.loc (c : Thread nD τ))} {fd : Buf (Elt F) (dst.view.loc (nb c (dirK a) : Thread nD τ))}
    (hs : (src.view.loc (c : Thread nD τ) ↦[src.view.set]{qd (dirK a)} fs) ⊢ sndPay I c a)
    (hd : (dst.view.loc (nb c (dirK a) : Thread nD τ) ↦[dst.view.set]{fullShare} (dst.view.write (Elt F) fd (src.view.read (Elt F) fs) Finset.univ)) ⊢ rcvPay I (nb c (dirK a)) a) :
    iprop(invs I K ∗ (src.view.loc (c : Thread nD τ) ↦[src.view.set]{qd (dirK a)} fs) ∗ (dst.view.loc (nb c (dirK a) : Thread nD τ) ↦[dst.view.set]{fullShare} fd)
        ∗ owes (c : Thread nD τ) (owed c a) W
        ∗ dutyTok ER (sndC c a) 0 0 ∗ dutyTok ER (rcvC (nb c (dirK a)) a) 0 0
        ∗ reached ER (sndC c a) 0 ∗ reached ER (rcvC (nb c (dirK a)) a) 0)
      ⊢ iprop(((cred (tallyAt (sndC c a) () N) ∗ owes (c : Thread nD τ) (owed c (a + 1)) W) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma src (.remote (Dev.tc (nb c (dirK a))) dst (.dma (dsem (sndK a)))) (.dma (dsem (rcvK a))) h₁ h₂ h₃) k) Q) := by
  iintro ⟨#Hi, Hp, Hf, HO, Hd1, Hd2, Hr1, Hr2⟩
  iapply (wp_send_pointsTo 𝒱₀ ER (kRd I) (c : Thread nD τ) none (r₁ := 0) (r₂ := 0) (d₁ := 0) (d₂ := 0) (κ₁ := K (sndC c a)) (κ₂ := K (rcvC (nb c (dirK a)) a))
    (q := qd (dirK a)) (fs := fs) (fd := fd)
    (by rw [duties_snd I c ha]; exact Finset.mem_singleton_self _) (by rw [duties_rcv I _ ha]; exact Finset.mem_singleton_self _)
    () () N (credit _ _) rfl rfl (owed c (a + 1)) (owed_step c ha) (by rw [payload_snd I c ha]; exact hs) (by rw [payload_rcv I _ ha]; exact hd)) $$ [HO Hp Hf Hd1 Hd2 Hr1 Hr2]
  isplitr
  · iapply (invs_snd I K ha c)
    iexact Hi
  isplitr
  · iapply (invs_rcv I K ha _)
    iexact Hi
  iframe

theorem Tr_cw {x y : ℕ} {inb} {hn : S1x1.numel = 1} :
    Tr c (St I K c f0 R o a r s u) (smemLoad CW (Rect.unit (s := S2x9) ![x, y] S1x1.size inb) hn rfl) (St I K c f0 R o a r s u)
      (BitVec.ofNat 32 (org c.val (16 * x + y))) := by
  refine Tr_use take_cw ?_
  apply Tr_smem
  have h := fun a => ValueKit.view_emb_slice_whole_unit_val cc0_stg6_0 ![x, y] S1x1.size inb (Shape.Idx.first (s := S1x1) (by decide)) a
  have h0 : _ = x := h 0
  have h1 : _ = y := h 1
  show cwW (F := F) c (((View.whole cc0_stg6_0).slice (Rect.unit ![x, y] S1x1.size inb)).emb (Shape.Idx.first (s := S1x1) (by decide))) = _
  unfold cwW
  rw [h0, h1]
theorem Tr_cc {x y : ℕ} {inb} {hn : S1x1.numel = 1} :
    Tr c (St I K c f0 R o a r s u) (smemLoad CC (Rect.unit (s := S2x8) ![x, y] S1x1.size inb) hn rfl) (St I K c f0 R o a r s u)
      (BitVec.ofNat 32 (org c.val (16 * x + (16 - y) % 16))) := by
  refine Tr_use take_cc ?_
  apply Tr_smem
  have h := fun a => ValueKit.view_emb_slice_whole_unit_val cc0_stg7_0 ![x, y] S1x1.size inb (Shape.Idx.first (s := S1x1) (by decide)) a
  have h0 : _ = x := h 0
  have h1 : _ = y := h 1
  show ccW (F := F) c (((View.whole cc0_stg7_0).slice (Rect.unit ![x, y] S1x1.size inb)).emb (Shape.Idx.first (s := S1x1) (by decide))) = _
  unfold ccW
  rw [h0, h1]

theorem Tr_x0 {hl} : Tr c (St I K c f0 R o a r s u)
    (Prog.lift (.load XR (Rect.unit (s := S2x128x512) ![0, 0, 0] S1x128x512.size inb_S2x128x512_S1x128x512_0_0_0).toLoadRect hl)) (St I K c f0 R o a r s u) (xB0 (I c)) := by
  refine Tr_use take_x ?_
  apply Tr_load
  · exact Finset.subset_univ _
  rfl
theorem Tr_x1 {hl} : Tr c (St I K c f0 R o a r s u)
    (Prog.lift (.load XR (Rect.unit (s := S2x128x512) ![1, 0, 0] S1x128x512.size inb_S2x128x512_S1x128x512_1_0_0).toLoadRect hl)) (St I K c f0 R o a r s u) (xB1 (I c)) := by
  refine Tr_use take_x ?_
  apply Tr_load
  · exact Finset.subset_univ _
  rfl
theorem Tr_wq {hl} : Tr c (St I K c f0 R o a r s u)
    (Prog.lift (.load WQ (Rect.unit (s := S512x256) ![0, 0] S512x256.size inb_S512x256_S512x256_0_0).toLoadRect hl)) (St I K c f0 R o a r s u) (I c).wq := by
  refine Tr_use take_wq ?_
  apply Tr_load
  · exact Finset.subset_univ _
  exact read_zero _ _ _ _ (by intro a; fin_cases a <;> rfl)
theorem Tr_wk {hl} : Tr c (St I K c f0 R o a r s u)
    (Prog.lift (.load WK (Rect.unit (s := S512x256) ![0, 0] S512x256.size inb_S512x256_S512x256_0_0).toLoadRect hl)) (St I K c f0 R o a r s u) (I c).wk := by
  refine Tr_use take_wk ?_
  apply Tr_load
  · exact Finset.subset_univ _
  exact read_zero _ _ _ _ (by intro a; fin_cases a <;> rfl)
theorem Tr_wv {hl} : Tr c (St I K c f0 R o a r s u)
    (Prog.lift (.load WV (Rect.unit (s := S512x256) ![0, 0] S512x256.size inb_S512x256_S512x256_0_0).toLoadRect hl)) (St I K c f0 R o a r s u) (I c).wv := by
  refine Tr_use take_wv ?_
  apply Tr_load
  · exact Finset.subset_univ _
  exact read_zero _ _ _ _ (by intro a; fin_cases a <;> rfl)
theorem Tr_wo {hl} : Tr c (St I K c f0 R o a r s u)
    (Prog.lift (.load WO (Rect.unit (s := S256x512) ![0, 0] S256x512.size inb_S256x512_S256x512_0_0).toLoadRect hl)) (St I K c f0 R o a r s u) (I c).wo := by
  refine Tr_use take_wo ?_
  apply Tr_load
  · exact Finset.subset_univ _
  exact read_zero _ _ _ _ (by intro a; fin_cases a <;> rfl)

/-- A load of the score buffer or of the result buffer, wherever it reads. -/
theorem Tr_any_s {ld} {hl} : Tr c (St I K c f0 R o a r s u) (Prog.lift (.load SR ld hl)) (St I K c f0 R o a r s u)
    (SR.view.readAt (Elt F) ld (sC I c f0 u)) :=
  Tr_use (take_sr (u' := u)) Tr_load_any
theorem Tr_any_o {ld} {hl} : Tr c (St I K c f0 R o a r s u) (Prog.lift (.load OUT ld hl)) (St I K c f0 R o a r s u)
    (OUT.view.readAt (Elt F) ld o) :=
  Tr_use (take_out (o' := o)) Tr_load_any
/-- Loads nothing reads. -/
theorem Tr_dead_kv {β : Type} {v : β} {P'' : sProp (MM F)} {b rel col : ℕ} {off : Fin 3 → ℕ} {inb} {hl} {k}
    (hoff : off = ![b, org c.val rel * 128, col]) (hck : r < 4 ∧ relA r = rel ∧ batA r = b ∧ 256 * halA r = col)
    (h : ∀ x, Tr c (St I K c f0 R o a r s u) (k x) P'' v) :
    Tr c (St I K c f0 R o a r s u) (Prog.lift (.load KV (Rect.unit (s := S2x4096x512) off S1x128x256.size inb).toLoadRect hl) >>= k) P'' v := by
  refine Tr_any (fun Q => ?_) h
  have hset := St_set_own (inb := inb) hoff ⟨hck.2.1, hck.2.2.1, hck.2.2.2⟩
  iintro ⟨HP, HQ⟩
  ihave H := take_own hck.1 $$ HP
  icases H with ⟨⟨%f, Hp⟩, Hw⟩
  iapply (wp_load_rect 𝒱₀ (c : Thread nD τ) none Set.univ (hl := hl) (hset.subset)) $$ [Hp]
  · iexact Hp
  iintro Hp
  rw [wp_ret]
  imodintro
  iapply HQ
  iapply Hw
  iexists f
  iexact Hp

/-- An own piece is stored. -/
theorem Tr_own {b rel col : ℕ} {off : Fin 3 → ℕ} {inb} {w : FVec F S1x128x256 .bf16} {hs} {hx} {r' : ℕ}
    (hoff : off = ![b, org c.val rel * 128, col]) (hck : r < 4 ∧ relA r = rel ∧ batA r = b ∧ 256 * halA r = col ∧ ∀ d < 3, ¬ (s ≤ kof r d ∧ kof r d < a))
    (hw : w = ownP I c b (col / 256)) (hr : r + 1 = r') :
    Tr c (St I K c f0 R o a r s u) (Prog.lift (.store KV (Rect.unit (s := S2x4096x512) off S1x128x256.size inb) w Finset.univ hs hx))
      (St I K c f0 R o a r' s u) PUnit.unit := by
  subst hw hr
  refine Tr_use (put_own hck.1 hck.2.2.2.2) ?_
  have hset := St_set_own (inb := inb) hoff ⟨hck.2.1, hck.2.2.1, hck.2.2.2.1⟩
  refine Tr_ex fun f => ?_
  refine Tr_conv (P' := (kvL c ↦[pcA c r]{fullShare} (((View.whole cc0_scratch0).slice (Rect.unit (s := S2x4096x512) off S1x128x256.size inb)).write (Elt F) f (ownP I c b (col / 256)) Finset.univ)))
    ?_ (.refl) (Entails.of_eq (pointsTo_congr ?_))
  · apply Tr_store
    refine ((View.setOn_subset_set _ _).trans ?_)
    exact hset.subset
  · intro i hi
    have hi' := hi
    rw [mem_pc] at hi
    obtain ⟨hr4, h1, h2, h3, -⟩ := hck
    have h0 : relA r = 0 := own_arr ⟨r, hr4⟩
    subst hoff
    rw [write_at cc0_scratch0 ![b, org c.val rel * 128, col] S1x128x256.size inb f _ (ix3 (n0 := 1) (n1 := 128) (n2 := 256) 0 ⟨(i 1).val % 128, Nat.mod_lt _ (by decide)⟩ ⟨(i 2).val % 256, Nat.mod_lt _ (by decide)⟩) i ?_]
    · show _ = Gn I (i 0).val (i 1).val (i 2).val
      unfold Gn
      have hc : (⟨(i 1).val / 128 % 32, Nat.mod_lt _ (by decide)⟩ : Dev nD) = c := by
        refine Fin.ext ?_
        show (i 1).val / 128 % 32 = c.val
        rw [hi.2.1, h0, org_zero c]
        exact Nat.mod_eq_of_lt c.isLt
      rw [hc, hi.1, h2, hi.2.2, ← h3, Nat.mul_div_cancel_left _ (by decide)]
    · intro d
      match d with
      | 0 => show b + 0 = (i 0).val; omega
      | 1 => show org c.val rel * 128 + (i 1).val % 128 = (i 1).val; rw [← h1]; omega
      | 2 => show col + (i 2).val % 256 = (i 2).val; omega

/-- A block of keys is loaded. -/
theorem Tr_kv {b rel col : ℕ} {off : Fin 3 → ℕ} {inb} {hl}
    (hoff : off = ![b, org c.val rel * 128, col]) (hck : ∃ j < r, relA j = rel ∧ batA j = b ∧ halA j = col / 256 ∧ (col + 63) / 256 = col / 256) :
    Tr c (St I K c f0 R o a r s u) (Prog.lift (.load KV (Rect.unit (s := S2x4096x512) off S1x128x64.size inb).toLoadRect hl))
      (St I K c f0 R o a r s u) (kvBlk I b (org c.val rel) col) := by
  subst hoff
  obtain ⟨j, hj, h1, h2, h3, h4⟩ := hck
  refine Tr_use take_kv ?_
  apply Tr_load
  · intro i hi
    rw [Finset.mem_biUnion]
    refine ⟨j, Finset.mem_range.mpr hj, ?_⟩
    have H := (mem_block cc0_scratch0 _ _ _ i).mp hi
    have H0 : b ≤ (i 0).val ∧ (i 0).val < b + 1 := H 0
    have H1 : org c.val rel * 128 ≤ (i 1).val ∧ (i 1).val < org c.val rel * 128 + 128 := H 1
    have H2 : col ≤ (i 2).val ∧ (i 2).val < col + 64 := H 2
    rw [mem_pc, h1, h2, h3]
    omega
  · funext j
    have h := fun a => ValueKit.view_emb_slice_whole_unit_val cc0_scratch0 ![b, org c.val rel * 128, col] S1x128x64.size inb j a
    have h0 : _ = b := (h 0).trans (by show b + (j 0).val = b; have : (j 0).val < 1 := (j 0).isLt; omega)
    have h1 : _ = org c.val rel * 128 + (j 1).val := h 1
    have h2 : _ = col + (j 2).val := h 2
    show Gn I _ _ _ = Gn I _ _ _
    rw [h0, h1, h2]

/-- A block of scores is stored. -/
theorem Tr_sc {b hh rel : ℕ} {off : Fin 4 → ℕ} {inb} {w : FVec F S1x1x128x128 .f32} {hs} {hx} {u' : ℕ}
    (hoff : off = ![b, hh, 0, org c.val rel * 128]) (hck : ∃ w < 32, relS w = rel ∧ 8 * w + 4 * b + hh = u)
    (hw : w = SC I c b hh (org c.val rel)) (hu : u + 1 = u') :
    Tr c (St I K c f0 R o a r s u) (Prog.lift (.store SR (Rect.unit (s := S2x4x128x4096) off S1x1x128x128.size inb) w Finset.univ hs hx))
      (St I K c f0 R o a r s u') PUnit.unit := by
  subst hw hu hoff
  obtain ⟨w, hw, h1, h2⟩ := hck
  refine Tr_use (take_sr (u' := u + 1)) ?_
  have hb : b < 2 := by have : b + 1 ≤ 2 := inb 0; omega
  have hh4 : hh < 4 := by have : hh + 1 ≤ 4 := inb 1; omega
  refine Tr_conv (P' := ptW c SR (((View.whole cc0_scratch1).slice (Rect.unit (s := S2x4x128x4096) ![b, hh, 0, org c.val rel * 128] S1x1x128x128.size inb)).write (Elt F) (sC I c f0 u) (SC I c b hh (org c.val rel)) Finset.univ))
    ?_ (.refl) (Entails.of_eq (pointsTo_congr ?_))
  · apply Tr_store
    exact Finset.subset_univ _
  · intro i _
    have i0 : (i 0).val < 2 := (i 0).isLt
    have i1 : (i 1).val < 4 := (i 1).isLt
    have i2 : (i 2).val < 128 := (i 2).isLt
    by_cases hi : (i 0).val = b ∧ (i 1).val = hh ∧ (i 3).val / 128 = org c.val rel
    · obtain ⟨e0, e1, e3⟩ := hi
      rw [write_at cc0_scratch1 ![b, hh, 0, org c.val rel * 128] S1x1x128x128.size inb _ _ (ix4 (n0 := 1) (n1 := 1) (n2 := 128) (n3 := 128) 0 0 ⟨(i 2).val % 128, Nat.mod_lt _ (by decide)⟩ ⟨(i 3).val % 128, Nat.mod_lt _ (by decide)⟩) i ?_]
      · show _ = sC I c f0 (u + 1) i
        unfold sC
        rw [if_pos ⟨w, hw, by rw [h1, e3], by omega⟩]
        unfold Sn
        rw [e0, e1, e3]
      · intro d
        match d with
        | 0 => show b + 0 = (i 0).val; omega
        | 1 => show hh + 0 = (i 1).val; omega
        | 2 => show 0 + (i 2).val % 128 = (i 2).val; omega
        | 3 => show org c.val rel * 128 + (i 3).val % 128 = (i 3).val; omega
    · rw [View.write_of_not_mem]
      · show sC I c f0 u i = sC I c f0 (u + 1) i
        unfold sC
        suffices e : (∃ w' < 32, org c.val (relS w') = (i 3).val / 128 ∧ 8 * w' + 4 * (i 0).val + (i 1).val < u)
            = (∃ w' < 32, org c.val (relS w') = (i 3).val / 128 ∧ 8 * w' + 4 * (i 0).val + (i 1).val < u + 1) by rw [e]
        refine propext ?_
        refine exists_congr fun w' => and_congr_right fun hw' => and_congr_right fun he => ?_
        constructor
        · intro h; omega
        · intro h
          by_contra hne
          have : w' = w := by omega
          subst this
          refine hi ⟨by omega, by omega, ?_⟩
          rw [← he, h1]
      · intro hm
        have H := (mem_block cc0_scratch1 _ _ _ i).mp (View.setOn_subset_set _ _ hm)
        have H0 : b ≤ (i 0).val ∧ (i 0).val < b + 1 := H 0
        have H1 : hh ≤ (i 1).val ∧ (i 1).val < hh + 1 := H 1
        have H3 : org c.val rel * 128 ≤ (i 3).val ∧ (i 3).val < org c.val rel * 128 + 128 := H 3
        refine hi ⟨by omega, by omega, by omega⟩

/-- All scores of a head are loaded. -/
theorem Tr_row {b hh : ℕ} {inb} {hl} (hck : b < 2 ∧ hh < 4 ∧ u = 256) :
    Tr c (St I K c f0 R o a r s u) (Prog.lift (.load SR (Rect.unit (s := S2x4x128x4096) ![b, hh, 0, 0] S1x1x128x4096.size inb).toLoadRect hl))
      (St I K c f0 R o a r s u) (sRow I c b hh) := by
  obtain ⟨hb, hh4, rfl⟩ := hck
  refine Tr_use (take_sr (u' := 256)) ?_
  apply Tr_load
  · exact Finset.subset_univ _
  · funext j
    have h := fun a => ValueKit.view_emb_slice_whole_unit_val cc0_scratch1 ![b, hh, 0, 0] S1x1x128x4096.size inb j a
    have j3 : (j 3).val < 4096 := (j 3).isLt
    have h0 : _ = b := (h 0).trans (by show b + (j 0).val = b; have : (j 0).val < 1 := (j 0).isLt; omega)
    have h1 : _ = hh := (h 1).trans (by show hh + (j 1).val = hh; have : (j 1).val < 1 := (j 1).isLt; omega)
    have h2 : _ = (j 2).val := (h 2).trans (Nat.zero_add _)
    have h3 : _ = (j 3).val := (h 3).trans (Nat.zero_add _)
    obtain ⟨w, hw⟩ := org_surj c ⟨(j 3).val / 128, by omega⟩
    have hw' : w.val < 32 := w.isLt
    show sC I c f0 256 (((View.whole cc0_scratch1).slice (Rect.unit (s := S2x4x128x4096) ![b, hh, 0, 0] S1x1x128x4096.size inb)).emb j) = _
    unfold sC
    rw [h0, h1, h2, h3, if_pos ⟨w.val, w.isLt, hw, by omega⟩]
    rfl
/-- All values of a head are loaded. -/
theorem Tr_col {b col : ℕ} {inb} {hl} (hck : b < 2 ∧ r = 128) :
    Tr c (St I K c f0 R o a r s u) (Prog.lift (.load KV (Rect.unit (s := S2x4096x512) ![b, 0, col] S1x4096x64.size inb).toLoadRect hl))
      (St I K c f0 R o a r s u) (kvCol I b col) := by
  obtain ⟨hb, rfl⟩ := hck
  refine Tr_use take_kv ?_
  apply Tr_load
  · rw [upto_all]
    exact Finset.subset_univ _
  · funext j
    have h := fun a => ValueKit.view_emb_slice_whole_unit_val cc0_scratch0 ![b, 0, col] S1x4096x64.size inb j a
    have h0 : _ = b := (h 0).trans (by show b + (j 0).val = b; have : (j 0).val < 1 := (j 0).isLt; omega)
    have h1 : _ = (j 1).val := (h 1).trans (Nat.zero_add _)
    have h2 : _ = col + (j 2).val := h 2
    show Gn I _ _ _ = Gn I _ _ _
    rw [h0, h1, h2]

/-- A result block is stored. -/
theorem Tr_out {b : ℕ} {inb} {w : FVec F S1x128x512 .f32} {hs} {hx} (hw : w = outW I c b) :
    Tr c (St I K c f0 R o a r s u) (Prog.lift (.store OUT (Rect.unit (s := S2x128x512) ![b, 0, 0] S1x128x512.size inb) w Finset.univ hs hx))
      (St I K c f0 R ((OUT.access (Rect.unit (s := S2x128x512) ![b, 0, 0] S1x128x512.size inb)).write (Elt F) o (outW I c b) Finset.univ) a r s u) PUnit.unit := by
  subst hw
  refine Tr_use take_out ?_
  apply Tr_store
  exact Finset.subset_univ _

/-- A copy is started. -/
theorem Tr_start {b rel col rd : ℕ} {off : Fin 3 → ℕ} {inb inb' hst hst'} {hq hq' : S1x128x256.Squeezes S128x256} {dst : Dev nD} {sS sR : DmaSem sig} {h₁ h₂ h₃} {a' : ℕ}
    (hoff : off = ![b, org c.val rel * 128, col]) (hd : dst.val = org c.val rd)
    (hck : a < 124 ∧ s ≤ a ∧ relD (dirK a) = rd ∧ srcK a < r ∧ r ≤ 128 ∧ relA (srcK a) = rel ∧ batA (srcK a) = b ∧ 256 * halA (srcK a) = col)
    (hS : sS = dsem (sndK a)) (hR : sR = dsem (rcvK a)) (ha : a + 1 = a') :
    Tr c (St I K c f0 R o a r s u)
      (Prog.lift (.enqueueDma ((KV.slice (Rect.unit (s := S2x4096x512) off S1x128x256.size inb) hst).squeeze S128x256 hq)
        (.remote (Dev.tc dst) ((KV.slice (Rect.unit (s := S2x4096x512) off S1x128x256.size inb') hst').squeeze S128x256 hq') (.dma sS)) (.dma sR) h₁ h₂ h₃))
      (St I K c f0 R o a' r s u) PUnit.unit := by
  subst hS hR ha
  obtain ⟨ha, hsa, h0, hsr, hr, h1, h2, h3⟩ := hck
  obtain rfl : dst = nb c (dirK a) := Fin.ext (hd.trans (by rw [← h0]; rfl))
  have hsrc : ((KV.slice (Rect.unit (s := S2x4096x512) off S1x128x256.size inb) hst).squeeze S128x256 hq).view.set = pcA c (srcK a) :=
    (View.set_reshape _ _).trans (by rw [pcA, h1, h2]; exact block_pc (hoff.trans (by rw [h3])))
  have hdst : ((KV.slice (Rect.unit (s := S2x4096x512) off S1x128x256.size inb') hst').squeeze S128x256 hq').view.set = pcA (nb c (dirK a)) (dstK a) :=
    (View.set_reshape _ _).trans (by
      rw [pcA, org_copy c ⟨a, ha⟩, bat_copy ⟨a, ha⟩, hal_copy ⟨a, ha⟩]
      show _ = pc (org c.val (relA (srcK a))) (batA (srcK a)) (halA (srcK a))
      rw [h1, h2]; exact block_pc (hoff.trans (by rw [h3])))
  have hs : (kvL c ↦[((KV.slice (Rect.unit (s := S2x4096x512) off S1x128x256.size inb) hst).squeeze S128x256 hq).view.set]{qd (dirK a)} G I) ⊢ sndPay I c a := by
    rw [hsrc]; exact .rfl
  have hd' : ∀ f : Buf (Elt F) (kvL (nb c (dirK a))), (kvL (nb c (dirK a)) ↦[((KV.slice (Rect.unit (s := S2x4096x512) off S1x128x256.size inb') hst').squeeze S128x256 hq').view.set]{fullShare} (((KV.slice (Rect.unit (s := S2x4096x512) off S1x128x256.size inb') hst').squeeze S128x256 hq').view.write (Elt F) f (((KV.slice (Rect.unit (s := S2x4096x512) off S1x128x256.size inb) hst).squeeze S128x256 hq).view.read (Elt F) (G I)) Finset.univ)) ⊢ rcvPay I (nb c (dirK a)) a := fun f => by
    refine (Entails.of_eq (pointsTo_congr fun i hi => write_read ((KV.slice (Rect.unit (s := S2x4096x512) off S1x128x256.size inb') hst').squeeze S128x256 hq').view f (G I) hi)).trans ?_
    rw [hdst]; exact .rfl
  intro Q
  unfold St
  rw [Shares_start ha hsa hsr hr, Ico_step ha (Pend c), Ico_last hsa (fun k => cred (tallyAt (sndC c k) () N))]
  iintro ⟨⟨⟨#Hi, #HL⟩, HW, Hkv, ⟨Hp, Hsh⟩, ⟨Hq, Hpd⟩, Hcs, Has, Har, Hvr, Hvs, ⟨%W, HO⟩, Hs, Ho, HR⟩, HQ⟩
  unfold Pend
  icases Hq with ⟨⟨%f, Hf⟩, Hd1, Hd2, #Hr1, #Hr2⟩
  iapply (send_op (I := I) (K := K) (c := c) (src := ((KV.slice (Rect.unit (s := S2x4096x512) off S1x128x256.size inb) hst).squeeze S128x256 hq)) (dst := ((KV.slice (Rect.unit (s := S2x4096x512) off S1x128x256.size inb') hst').squeeze S128x256 hq')) ha (fs := G I) (fd := f) hs (hd' f)) $$ [HO Hp Hf Hd1 Hd2]
  · isplitr
    · iexact Hi
    isplitl [Hp]
    · rw [hsrc]; iexact Hp
    isplitl [Hf]
    · rw [hdst]; iexact Hf
    iframe
    isplitr
    · iexact Hr1
    iexact Hr2
  iintro ⟨Hc, HO⟩
  rw [wp_ret]
  imodintro
  iapply HQ
  isplitr
  · isplitr
    · iexact Hi
    iexact HL
  iframe
  iexists W
  iexact HO

/-- An arrival is waited for. -/
theorem Tr_rwait {src dst : Memref sig .tc .vmem S128x256 .bf16} {sm : DmaSem sig} {h₁ h₂} {r' : ℕ}
    (hS : sm = dsem (rcvK (arrA r))) (hck : 4 ≤ r ∧ r < 128 ∧ lvlK (arrA r) < minK a ∧ a ≤ 124 ∧ ∀ d < 3, ¬ (s ≤ kof r d ∧ kof r d < a)) (hr : r + 1 = r') :
    Tr c (St I K c f0 R o a r s u) (Prog.lift (.waitDma2 sm src dst h₁ h₂)) (St I K c f0 R o a r' s u) PUnit.unit := by
  subst hS hr
  obtain ⟨h4, hr, hl, ha, hk⟩ := hck
  obtain ⟨hda, har⟩ := dst_arr ⟨r, hr⟩ h4
  simp only at hda har
  have hmin := minK_le20 ⟨a, by omega⟩
  have hlv := lvlK_le ⟨arrA r, har⟩
  simp only at hmin hlv
  intro Q
  unfold St
  rw [Ico_step hr (Arr c), Ico_last h4 (fun j => semVal (rcvC c (arrA j)) 0)]
  have hA : (Arr c r : sProp (MM F)) = iprop(atPos ER (rcvC c (arrA r)) 0 ∅ 0 ∗ cred (tallyAt (rcvC c (arrA r)) () N)) := if_neg (by omega)
  rw [hA]
  iintro ⟨⟨⟨#Hi, #HL⟩, HW, Hkv, Hsh, Hpd, Hcs, Has, ⟨⟨Hat, Hc⟩, Har⟩, Hvr, Hvs, ⟨%W, HO⟩, Hs, Ho, HR⟩, HQ⟩
  iapply (wait_op (I := I) (K := K) (c := c) ha (by rw [lv_rcv c har]; omega) (invs_rcv I K har c) (duties_rcv I c har) (payload_rcv I c har 0)) $$ [Hc HO Hat]
  · isplitr
    · iexact Hi
    isplitr
    · iexact HL
    iframe
  iintro ⟨HO, Hv, Hx⟩
  unfold rcvPay
  rw [hda]
  ihave H := arrive hr hk $$ [Hkv Hsh Hx]
  · iframe
  icases H with ⟨Hkv, Hsh⟩
  rw [wp_ret]
  imodintro
  iapply HQ
  isplitr
  · isplitr
    · iexact Hi
    iexact HL
  iframe

/-- A copy is waited for to be read out. -/
theorem Tr_swait {src dst : Memref sig .tc .vmem S128x256 .bf16} {sm : DmaSem sig} {h₁ h₂} {s' : ℕ}
    (hS : sm = dsem (sndK s)) (hck : s < a ∧ a ≤ 124 ∧ srcK s < r ∧ r ≤ 128) (hs : s + 1 = s') :
    Tr c (St I K c f0 R o a r s u) (Prog.lift (.waitDma2 sm src dst h₁ h₂)) (St I K c f0 R o a r s' u) PUnit.unit := by
  subst hS hs
  obtain ⟨hs, ha, hr, hr'⟩ := hck
  have hs' : s < 124 := by omega
  have hmin := minK_le20 ⟨a, by omega⟩
  simp only at hmin
  intro Q
  unfold St
  rw [Shares_back ha hs hr hr', Ico_step hs (fun k => cred (tallyAt (sndC c k) () N)), Ico_step hs' (fun k => atPos ER (sndC c k) 0 ∅ 0),
    Ico_last (Nat.zero_le s) (fun k => semVal (sndC c k) 0)]
  iintro ⟨⟨⟨#Hi, #HL⟩, HW, Hkv, Hsh, Hpd, ⟨Hc, Hcs⟩, ⟨Hat, Has⟩, Har, Hvr, Hvs, ⟨%W, HO⟩, Hs, Ho, HR⟩, HQ⟩
  iapply (wait_op (I := I) (K := K) (c := c) ha (by rw [lv_snd c hs']; omega) (invs_snd I K hs' c) (duties_snd I c hs') (payload_snd I c hs' 0)) $$ [Hc HO Hat]
  · isplitr
    · iexact Hi
    isplitr
    · iexact HL
    iframe
  iintro ⟨HO, Hv, Hx⟩
  unfold sndPay
  rw [wp_ret]
  imodintro
  iapply HQ
  isplitr
  · isplitr
    · iexact Hi
    iexact HL
  iframe

end

end Cert.Proof
-- ==== Proof.Ends.lean ====
/-
  The two ends of the body: the exchange of signals before the first copy, and the one after the last.
-/
module

public import proofs.«01_k».proof.Proof.Leaves

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-! ## Regrouping -/

theorem all_mono {s : Finset ℕ} {Φ Ψ : ℕ → sProp (MM F)} (h : ∀ k ∈ s, Φ k ⊢ Ψ k) : bigSep s Φ ⊢ bigSep s Ψ := bigSep_mono h

theorem zip_in {s : Finset ℕ} {Φ Ψ X : ℕ → sProp (MM F)} (h : ∀ k ∈ s, iprop(Φ k ∗ Ψ k) ⊢ X k) : iprop(bigSep s Φ ∗ bigSep s Ψ) ⊢ bigSep s X := by
  rw [show iprop(bigSep s Φ ∗ bigSep s Ψ) = bigSep s (fun k => iprop(Φ k ∗ Ψ k)) from (BI.bigSep_sep s Φ Ψ).symm]
  exact all_mono h

/-- Arrivals from outside and copies correspond. -/
theorem dst_bij (Φ : ℕ → sProp (MM F)) : bigSep (Finset.Ico 4 128) Φ = bigSep (Finset.range 124) (fun k => Φ (dstK k)) := by
  have e1 : Finset.Ico 4 128 = (Finset.univ : Finset (Fin 124)).map ⟨fun k => dstK k.val, fun k k' h => Fin.ext (by
      rw [← arr_dst k, ← arr_dst k']; exact congrArg arrA h)⟩ := by
    ext j
    simp only [Finset.mem_Ico, Finset.mem_map, Finset.mem_univ, true_and, Function.Embedding.coeFn_mk]
    constructor
    · rintro ⟨h1, h2⟩
      obtain ⟨h3, h4⟩ := dst_arr ⟨j, h2⟩ h1
      exact ⟨⟨arrA j, h4⟩, h3⟩
    · rintro ⟨k, rfl⟩
      exact ⟨(dstK_lt k).2, (dstK_lt k).1⟩
  have e2 : Finset.range 124 = (Finset.univ : Finset (Fin 124)).map Fin.valEmbedding := by
    ext j
    simp only [Finset.mem_range, Finset.mem_map, Finset.mem_univ, true_and, Fin.valEmbedding_apply]
    exact ⟨fun h => ⟨⟨j, h⟩, rfl⟩, fun ⟨k, hk⟩ => hk ▸ k.isLt⟩
  rw [e1, e2, BI.bigSep_map, BI.bigSep_map]
  rfl

abbrev dirs (d : ℕ) : Finset ℕ := (Finset.range 124).filter fun k => dirK k = d

theorem dir_split (Φ : ℕ → sProp (MM F)) : bigSep (Finset.range 124) Φ = iprop(bigSep (dirs 0) Φ ∗ bigSep (dirs 1) Φ ∗ bigSep (dirs 2) Φ) := by
  have e : Finset.range 124 = dirs 0 ∪ (dirs 1 ∪ dirs 2) := by
    ext k
    simp only [Finset.mem_union, Finset.mem_filter, Finset.mem_range]
    constructor
    · intro h
      have : dirK k < 3 := dirK_lt ⟨k, h⟩
      omega
    · rintro (h | h | h) <;> exact h.1
  rw [e, BI.bigSep_union, BI.bigSep_union]
  · rfl
  · exact Finset.disjoint_filter.mpr fun k _ h h' => by omega
  · rw [Finset.disjoint_union_right]
    exact ⟨Finset.disjoint_filter.mpr fun k _ h h' => by omega, Finset.disjoint_filter.mpr fun k _ h h' => by omega⟩

theorem Ico_split (Φ : ℕ → sProp (MM F)) : bigSep (Finset.Ico 0 128) Φ = iprop(bigSep (Finset.Ico 0 4) Φ ∗ bigSep (Finset.Ico 4 128) Φ) := by
  rw [← Finset.Ico_union_Ico_eq_Ico (show 0 ≤ 4 by decide) (show 4 ≤ 128 by decide), BI.bigSep_union (Finset.Ico_disjoint_Ico_consecutive 0 4 128)]
  rfl

/-- The whole buffer is the pieces of the arrivals. -/
theorem kv_pieces (c : Dev nD) (f : Buf (Elt F) (kvL c)) (q : PosShare TreeShare) :
    (kvL c ↦{q} f : sProp (MM F)) = bigSep (Finset.range 128) fun j => (kvL c ↦[pcA c j]{q} f) := by
  rw [← pointsTo_biUnion _ _ fun j hj j' hj' h => pcA_disj (Finset.mem_range.mp hj) (Finset.mem_range.mp hj') h, upto_all]

theorem pieces_out (c : Dev nD) : iprop((∃ f, kvL c ↦{fullShare} f) ∗ bigSep (Finset.range 124) (fun k => reached ER (rcvC c k) 0))
    ⊢ (iprop(bigSep (Finset.Ico 0 4) (Arr (F := F) c) ∗ bigSep (dirs 0) (barPiece c) ∗ bigSep (dirs 1) (barPiece c) ∗ bigSep (dirs 2) (barPiece c)) : sProp (MM F)) := by
  rw [← dir_split]
  iintro ⟨⟨%f, Hf⟩, Hr⟩
  ihave Hf := (Entails.of_eq (show (kvL c ↦{fullShare} f : sProp (MM F)) = _ from by rw [kv_pieces, Finset.range_eq_Ico, Ico_split, dst_bij])) $$ Hf
  icases Hf with ⟨H0, H1⟩
  isplitl [H0]
  · iapply (all_mono (s := Finset.Ico 0 4) (Φ := fun j => (kvL c ↦[pcA c j]{fullShare} f : sProp (MM F))) (Ψ := Arr c) (fun j hj => by
      unfold Arr
      rw [if_pos (Finset.mem_Ico.mp hj).2]
      iintro H
      iexists f
      iexact H))
    iexact H0
  iapply (zip_in (s := Finset.range 124) (Φ := fun k => (kvL c ↦[pcA c (dstK k)]{fullShare} f : sProp (MM F))) (Ψ := fun k => reached ER (rcvC c k) 0) (X := barPiece c) fun k _ => by
      unfold barPiece
      iintro ⟨H, H'⟩
      isplitl [H]
      · iexists f
        iexact H
      iexact H')
  isplitl [H1]
  · iexact H1
  iexact Hr

theorem fin3 (Φ : Fin 3 → sProp (MM F)) : bigSep Finset.univ Φ = iprop(Φ 0 ∗ Φ 1 ∗ Φ 2) := by
  rw [show (Finset.univ : Finset (Fin 3)) = {0, 1, 2} from by decide, bigSep_insert (by decide), bigSep_insert (by decide), bigSep_singleton]
  rfl

/-! ## Signals -/

theorem barO_0 (c : Dev nD) : barO c 0 = barO c 1 + tallyAt (barC (nb c 1)) () 1 := by simp [barO]
theorem barO_1 (c : Dev nD) : barO c 1 = barO c 2 + tallyAt (barC (nb c 0)) () 1 := by simp [barO]
theorem barO_2 (c : Dev nD) : barO c 2 = barO c 3 + tallyAt (barC (nb c 2)) () 1 := by simp [barO]
theorem barO_3 (c : Dev nD) : barO c 3 = owed c 0 := by simp [barO]
theorem finO_0 (c : Dev nD) : owed c 124 = finO c 1 + tallyAt (finC (nb c 1)) () 1 := by simp [finO, owed]
theorem finO_1 (c : Dev nD) : finO c 1 = finO c 2 + tallyAt (finC (nb c 0)) () 1 := by simp [finO]
theorem finO_2 (c : Dev nD) : finO c 2 = 0 + tallyAt (finC (nb c 2)) () 1 := by simp [finO]

section

variable {I : Dev nD → Ins F} {K : GSem nD τ sig → ℕ} {c : Dev nD}

theorem sig_op {d : Dev nD} {sm : Sem sig} {j : Fin 3} {O₀ : CellTallies nD τ sig Unit} (O : CellTallies nD τ sig Unit) {W} {X : sProp (MM F)} {Q : PUnit → sProp (MM F)}
    (hO : O₀ = O + tallyAt ((d : Thread nD τ), .reg sm) () 1)
    (hi : (invs I K : sProp (MM F)) ⊢ cellInv ER (kRd I) (K ((d : Thread nD τ), .reg sm)) ((d : Thread nD τ), .reg sm))
    (hp : X ⊢ (kRd I).payload ((d : Thread nD τ), .reg sm) 0 j) :
    iprop(invs I K ∗ X ∗ owes (c : Thread nD τ) O₀ W ∗ dutyTok ER ((d : Thread nD τ), .reg sm) 0 j ∗ reached ER ((d : Thread nD τ), .reg sm) 0)
      ⊢ iprop((owes (c : Thread nD τ) O W -∗ Q ⟨⟩)
          -∗ wp frame (wpE (defs₀ (F := F)) 𝒱₀ (c : Thread nD τ) none) Set.univ (semSignalWord d sm 1#32) Q) := by
  change _ ⊢ iprop(_ -∗ wp frame (wpE (defs₀ (F := F)) 𝒱₀ (c : Thread nD τ) none) Set.univ (.op (.semSignal ((d : Thread nD τ)) sm 1) .ret) Q)
  iintro ⟨#Hi, HX, HO, Ht, Hr⟩ HK
  iapply (wp_signal 𝒱₀ ER (kRd I) (c : Thread nD τ) none (dst := (d : Thread nD τ)) (sem := sm) (r := 0) (d := j) (κ := K ((d : Thread nD τ), .reg sm)) (k' := 1)
    (by rw [duties_reg]; exact Finset.mem_univ _) rfl () O hO) $$ [HX HO Ht Hr]
  · isplitr
    · iapply hi; iexact Hi
    isplitl [HO]; · iexact HO
    isplitl [Ht]; · iexact Ht
    isplitl [HX]
    · iapply hp; iexact HX
    iexact Hr
  iintro HO
  rw [wp_ret]
  imodintro
  iapply HK
  iexact HO

theorem wait_reg {sm : Sem sig} {O : CellTallies nD τ sig Unit} {W} {Q : PUnit → sProp (MM F)}
    (hm : (levAts L lv : sProp (MM F)) ⊢ MayWait (c : Thread nD τ) (.reg sm) () O)
    (hi : (invs I K : sProp (MM F)) ⊢ cellInv ER (kRd I) (K ((c : Thread nD τ), .reg sm)) ((c : Thread nD τ), .reg sm)) :
    iprop(invs I K ∗ levAts L lv ∗ cred (tallyAt ((c : Thread nD τ), .reg sm) () 3) ∗ owes (c : Thread nD τ) O W ∗ atPos ER ((c : Thread nD τ), .reg sm) 0 ∅ 0)
      ⊢ iprop((((∃ W, owes (c : Thread nD τ) O W) ∗ semVal ((c : Thread nD τ), .reg sm) 0
            ∗ (kRd I).payload ((c : Thread nD τ), .reg sm) 0 0 ∗ (kRd I).payload ((c : Thread nD τ), .reg sm) 0 1 ∗ (kRd I).payload ((c : Thread nD τ), .reg sm) 0 2) -∗ Q ⟨⟩)
          -∗ wp frame (wpE (defs₀ (F := F)) 𝒱₀ (c : Thread nD τ) none) Set.univ (semWaitWord sm 3#32) Q) := by
  change _ ⊢ iprop(_ -∗ wp frame (wpE (defs₀ (F := F)) 𝒱₀ (c : Thread nD τ) none) Set.univ (.op (.semWait sm 3) .ret) Q)
  iintro ⟨#Hi, #HL, Hc, HO, Hat⟩ HK
  iapply (wp_wait_rest_token 𝒱₀ ER (kRd I) (c : Thread nD τ) none (w := .semWait sm 3) (wpE_semWait_eq 𝒱₀ (c : Thread nD τ) none Set.univ) (Set.mem_univ (K ((c : Thread nD τ), .reg sm)))
    () (R := 0) (T := ∅) (m := 0) ((expect_reg I c sm).symm)) $$ [Hc HO Hat]
  · isplitr
    · iapply hi; iexact Hi
    isplitl [Hc]; · iexact Hc
    isplitl [HO]; · iexact HO
    isplitr
    · iapply hm; iexact HL
    iexact Hat
  rw [Finset.sdiff_empty, duties_reg, fin3]
  iintro ⟨HO, Hat, -, Hx⟩
  imod (close I K ((c : Thread nD τ), .reg sm)) $$ [Hat] with Hv
  · isplitr
    · iapply hi; iexact Hi
    iexact Hat
  rw [wp_ret]
  imodintro
  iapply HK
  isplitl [HO]
  · iexists _; iexact HO
  iframe

end

theorem rcv_back (c : Dev nD) : bigSep (Finset.range 124) (fun k => semVal (rcvC c (arrA (dstK k))) 0) = (bigSep (Finset.range 124) (fun k => semVal (rcvC c k) 0) : sProp (MM F)) :=
  bigSep_congr fun k hk => by rw [show arrA (dstK k) = k from arr_dst ⟨k, Finset.mem_range.mp hk⟩]

theorem pend_one (c : Dev nD) (k : ℕ) : iprop(barPiece (nb c (dirK k)) k ∗ (dutyTok ER (sndC c k) 0 0 ∗ dutyTok ER (rcvC (nb c (dirK k)) k) 0 0 ∗ reached ER (sndC c k) 0))
    ⊢ (Pend c k : sProp (MM F)) := by
  unfold barPiece Pend
  iintro ⟨⟨H, Hr⟩, Ht, Ht', Hr'⟩
  iframe

theorem insert_prod (a : ℕ) (s t : Finset ℕ) : insert a s ×ˢ t = Finset.image (Prod.mk a) t ∪ s ×ˢ t := by
  ext ⟨x, y⟩
  rw [Finset.mem_union, Finset.mem_product, Finset.mem_product, Finset.mem_insert, Finset.mem_image]
  constructor
  · rintro ⟨rfl | h, h'⟩
    · exact .inl ⟨y, h', rfl⟩
    · exact .inr ⟨h, h'⟩
  · rintro (⟨z, h, h'⟩ | ⟨h, h'⟩)
    · obtain ⟨rfl, rfl⟩ := Prod.mk.inj h'
      exact ⟨.inl rfl, h⟩
    · exact ⟨.inr h, h'⟩

theorem pairs (s t : Finset ℕ) (Φ : ℕ × ℕ → sProp (MM F)) : bigSep (s ×ˢ t) Φ = bigSep s fun i => bigSep t fun j => Φ (i, j) := by
  induction s using Finset.induction_on with
  | empty => rw [Finset.empty_product, bigSep_empty, bigSep_empty]
  | insert a s ha ih =>
    rw [bigSep_insert ha, ← ih, insert_prod, BI.bigSep_union]
    · have e : Finset.image (Prod.mk a) t = t.map ⟨Prod.mk a, Prod.mk_right_injective a⟩ := by ext p; rw [Finset.mem_image, Finset.mem_map]; rfl
      rw [e, BI.bigSep_map]
      rfl
    rw [Finset.disjoint_left]
    intro p hp hp'
    obtain ⟨j, _, rfl⟩ := Finset.mem_image.mp hp
    exact ha (Finset.mem_product.mp hp').1

theorem kv_whole {I : Dev nD → Ins F} (c : Dev nD) : iprop((kvL c ↦[(Finset.range 128).biUnion (pcA c)]{q0} G I) ∗ Shares I c 124 128 124)
    ⊢ (kvL c ↦{fullShare} G I : sProp (MM F)) := by
  have e : ((Finset.range 128 ×ˢ Finset.range 3).filter fun p : ℕ × ℕ => ¬ (124 ≤ kof p.1 p.2 ∧ kof p.1 p.2 < 124)) = Finset.range 128 ×ˢ Finset.range 3 :=
    Finset.filter_true_of_mem fun p _ => by omega
  unfold Shares
  rw [e, pairs, upto_all, kv_pieces c (G I) fullShare]
  have h : (kvL c ↦[Finset.univ]{q0} G I : sProp (MM F)) = _ := kv_pieces c (G I) q0
  rw [h]
  refine zip_in fun j _ => ?_
  rw [show Finset.range 3 = {0, 1, 2} from by decide, bigSep_insert (by decide), bigSep_insert (by decide), bigSep_singleton]
  exact (share_split c _ _).2

theorem pend_in (c : Dev nD) : iprop(bigSep (dirs 0) (barPiece (nb c 0)) ∗ bigSep (dirs 1) (barPiece (nb c 1)) ∗ bigSep (dirs 2) (barPiece (nb c 2))
      ∗ bigSep (Finset.range 124) (fun k => iprop(dutyTok ER (sndC c k) 0 0 ∗ dutyTok ER (rcvC (nb c (dirK k)) k) 0 0 ∗ reached ER (sndC c k) 0)))
    ⊢ (bigSep (Finset.range 124) (Pend c) : sProp (MM F)) := by
  have e : ∀ d, bigSep (dirs d) (barPiece (F := F) (nb c d)) = bigSep (dirs d) (fun k => barPiece (nb c (dirK k)) k) :=
    fun d => bigSep_congr fun k hk => by rw [(Finset.mem_filter.mp hk).2]
  rw [e 0, e 1, e 2]
  iintro ⟨H0, H1, H2, Hd⟩
  ihave H := (Entails.of_eq (dir_split (fun k => barPiece (F := F) (nb c (dirK k)) k)).symm) $$ [H0 H1 H2]
  · iframe
  iapply (zip_in (s := Finset.range 124) (Φ := fun k => barPiece (F := F) (nb c (dirK k)) k)
      (Ψ := fun k => iprop(dutyTok ER (sndC c k) 0 0 ∗ dutyTok ER (rcvC (nb c (dirK k)) k) 0 0 ∗ reached ER (sndC c k) 0)) (X := Pend c) fun k _ => pend_one c k)
  isplitl [H]
  · iexact H
  iexact Hd

theorem arr_in (c : Dev nD) : bigSep (Finset.range 124) (fun k => iprop(atPos ER (rcvC c k) 0 ∅ 0 ∗ cred (tallyAt (rcvC c k) () N)))
    ⊢ (bigSep (Finset.range 124) (fun k => Arr c (dstK k)) : sProp (MM F)) :=
  all_mono fun k hk => by
    unfold Arr
    have h := dstK_lt ⟨k, Finset.mem_range.mp hk⟩
    have h' := arr_dst ⟨k, Finset.mem_range.mp hk⟩
    simp only at h h'
    rw [if_neg (by omega), h']

/-- The state before the first operation. -/
def Start (I : Dev nD → Ins F) (K : GSem nD τ sig → ℕ) (c : Dev nD) (f0 : S2x4x128x4096.Idx → Elt F .f32)
    (o : S2x128x512.Idx → Elt F .f32) : sProp (MM F) :=
  iprop((invs I K ∗ levAts L lv) ∗ Win (I c) c
    ∗ (∃ f, kvL c ↦{fullShare} f)
    ∗ bigSep (Finset.range 124) (fun k => iprop(dutyTok ER (sndC c k) 0 0 ∗ dutyTok ER (rcvC (nb c (dirK k)) k) 0 0 ∗ reached ER (sndC c k) 0))
    ∗ bigSep (Finset.range 124) (fun k => reached ER (rcvC c k) 0)
    ∗ bigSep (Finset.range 124) (fun k => atPos ER (sndC c k) 0 ∅ 0)
    ∗ bigSep (Finset.range 124) (fun k => iprop(atPos ER (rcvC c k) 0 ∅ 0 ∗ cred (tallyAt (rcvC c k) () N)))
    ∗ reached ER (finC c) 0 ∗ atPos ER (finC c) 0 ∅ 0 ∗ cred (tallyAt (finC c) () 3)
    ∗ dutyTok ER (finC (nb c 1)) 0 0 ∗ dutyTok ER (finC (nb c 0)) 0 1 ∗ dutyTok ER (finC (nb c 2)) 0 2
    ∗ atPos ER (barC c) 0 ∅ 0 ∗ cred (tallyAt (barC c) () 3)
    ∗ dutyTok ER (barC (nb c 1)) 0 0 ∗ reached ER (barC (nb c 1)) 0
    ∗ dutyTok ER (barC (nb c 0)) 0 1 ∗ reached ER (barC (nb c 0)) 0
    ∗ dutyTok ER (barC (nb c 2)) 0 2 ∗ reached ER (barC (nb c 2)) 0
    ∗ (∃ W, owes (c : Thread nD τ) (barO c 0) W)
    ∗ ptW c SR f0 ∗ ptW c OUT o)

/-- The state after the last operation. -/
def Done (I : Dev nD → Ins F) (c : Dev nD) (f0 : S2x4x128x4096.Idx → Elt F .f32) (o : S2x128x512.Idx → Elt F .f32) : sProp (MM F) :=
  iprop(Win (I c) c
    ∗ (∃ f, kvL c ↦{fullShare} f)
    ∗ bigSep (Finset.range 124) (fun k => semVal (rcvC c k) 0)
    ∗ bigSep (Finset.range 124) (fun k => semVal (sndC c k) 0)
    ∗ semVal (barC c) 0 ∗ semVal (finC c) 0
    ∗ (∃ W, owes (c : Thread nD τ) (0 : CellTallies nD τ sig Unit) W)
    ∗ ptW c SR (sC I c f0 256) ∗ ptW c OUT o)

/-- What the result buffer holds in the end, over what it held before. -/
def outC (I : Dev nD → Ins F) (c : Dev nD) (o : S2x128x512.Idx → Elt F .f32) : S2x128x512.Idx → Elt F .f32 :=
  (OUT.access (Rect.unit (s := S2x128x512) ![1, 0, 0] S1x128x512.size inb_S2x128x512_S1x128x512_1_0_0)).write (Elt F)
    ((OUT.access (Rect.unit (s := S2x128x512) ![0, 0, 0] S1x128x512.size inb_S2x128x512_S1x128x512_0_0_0)).write (Elt F) o (outW I c 0) Finset.univ)
    (outW I c 1) Finset.univ

section

variable {I : Dev nD → Ins F} {K : GSem nD τ sig → ℕ} {c : Dev nD} {f0 : S2x4x128x4096.Idx → Elt F .f32} {o : S2x128x512.Idx → Elt F .f32}

theorem Tr_bar {α : Type} {v : α} {d₁ d₂ d₃ : Dev nD} {sm : Sem sig} (h₁ : d₁.val = org c.val (relD 1)) (h₂ : d₂.val = org c.val (relD 0))
    (h₃ : d₃.val = org c.val (relD 2)) (hs : sm = barS) :
    Tr c (Start I K c f0 o)
      (do
        semSignalWord d₁ sm 1#32
        semSignalWord d₂ sm 1#32
        semSignalWord d₃ sm 1#32
        semWaitWord sm 3#32
        pure v) (St I K c f0 iprop(semVal (barC c) 0 ∗ Fin0 c) o 0 0 0 0) v := by
  subst hs
  obtain rfl : d₁ = nb c 1 := Fin.ext h₁
  obtain rfl : d₂ = nb c 0 := Fin.ext h₂
  obtain rfl : d₃ = nb c 2 := Fin.ext h₃
  intro Q
  unfold Start
  iintro ⟨⟨⟨#Hi, #HL⟩, HW, Hkv, Hdt, Hrr, Has, Har, #HrF, HaF, HcF, Ht1, Ht0, Ht2, HaB, HcB, Hb1, Hr1, Hb0, Hr0, Hb2, Hr2, ⟨%W, HO⟩, Hs, Ho⟩, HQ⟩
  ihave H := (pieces_out c) $$ [Hkv Hrr]
  · iframe
  icases H with ⟨HA, Hp0, Hp1, Hp2⟩
  rw [wp_bind]
  iapply (sig_op (I := I) (K := K) (c := c) (d := nb c 1) (sm := barS) (j := 0) (X := iprop(bigSep (dirs 0) (barPiece c) ∗ reached ER (finC c) 0)) (barO c 1) (barO_0 c) (invs_bar I K _)
    (by rw [payload_bar]; unfold barPay; rw [show nb (nb c 1) ((0 : Fin 3) : ℕ) = c from nb_opp c 1]; exact .rfl)) $$ [Hp0 HO Hb1 Hr1]
  · isplitr; · iexact Hi
    isplitl [Hp0]
    · isplitl [Hp0]; · iexact Hp0
      iexact HrF
    iframe
  iintro HO
  rw [wp_bind]
  iapply (sig_op (I := I) (K := K) (c := c) (d := nb c 0) (sm := barS) (j := 1) (X := iprop(bigSep (dirs 1) (barPiece c) ∗ reached ER (finC c) 0)) (barO c 2) (barO_1 c) (invs_bar I K _)
    (by rw [payload_bar]; unfold barPay; rw [show nb (nb c 0) ((1 : Fin 3) : ℕ) = c from nb_opp c 0]; exact .rfl)) $$ [Hp1 HO Hb0 Hr0]
  · isplitr; · iexact Hi
    isplitl [Hp1]
    · isplitl [Hp1]; · iexact Hp1
      iexact HrF
    iframe
  iintro HO
  rw [wp_bind]
  iapply (sig_op (I := I) (K := K) (c := c) (d := nb c 2) (sm := barS) (j := 2) (X := iprop(bigSep (dirs 2) (barPiece c) ∗ reached ER (finC c) 0)) (barO c 3) (barO_2 c) (invs_bar I K _)
    (by rw [payload_bar]; unfold barPay; rw [show nb (nb c 2) ((2 : Fin 3) : ℕ) = c from nb_opp c 2]; exact .rfl)) $$ [Hp2 HO Hb2 Hr2]
  · isplitr; · iexact Hi
    isplitl [Hp2]
    · isplitl [Hp2]; · iexact Hp2
      iexact HrF
    iframe
  iintro HO
  rw [wp_bind, barO_3]
  iapply (wait_reg (I := I) (K := K) (c := c) (sm := barS) (mayWait c 0 (by decide) _ (show 1 < min (minK 0) 20 by decide +kernel)) (invs_bar I K c)) $$ [HcB HO HaB]
  · isplitr; · iexact Hi
    isplitr; · iexact HL
    iframe
  rw [payload_bar, payload_bar, payload_bar]
  iintro ⟨HO, HvB, Hy0, Hy1, Hy2⟩
  unfold barPay
  icases Hy0 with ⟨Hp0, HrF0⟩
  icases Hy1 with ⟨Hp1, HrF1⟩
  icases Hy2 with ⟨Hp2, HrF2⟩
  ihave Hp := (pend_in c) $$ [Hp0 Hp1 Hp2 Hdt]
  · isplitl [Hp0]; · iexact Hp0
    isplitl [Hp1]; · iexact Hp1
    isplitl [Hp2]; · iexact Hp2
    iexact Hdt
  rw [show (pure v : Prog (TpuEff nD τ sig (Elt F) Λ₀ .tc) α) = .ret v from rfl, wp_ret]
  imodintro
  iapply HQ
  unfold St
  isplitr
  · isplitr; · iexact Hi
    iexact HL
  isplitl [HW]; · iexact HW
  isplitr; · rw [Finset.range_zero, Finset.biUnion_empty, pointsTo_empty]; iempintro
  isplitr; · unfold Shares; rw [Finset.range_zero, Finset.empty_product, Finset.filter_empty, bigSep_empty]; iempintro
  isplitl [Hp]; · rw [← Finset.range_eq_Ico]; iexact Hp
  isplitr; · rw [Finset.Ico_self, bigSep_empty]; iempintro
  isplitl [Has]; · rw [← Finset.range_eq_Ico]; iexact Has
  isplitl [HA Har]
  · rw [Ico_split]
    isplitl [HA]; · iexact HA
    rw [dst_bij]
    iapply (arr_in c)
    iexact Har
  isplitr; · rw [Finset.Ico_eq_empty (by decide), bigSep_empty]; iempintro
  isplitr; · rw [Finset.Ico_self, bigSep_empty]; iempintro
  isplitl [HO]; · iexact HO
  isplitl [Hs]
  · rw [show sC I c f0 0 = f0 from funext fun i => if_neg fun ⟨w, _, _, h⟩ => Nat.not_lt_zero _ h]
    iexact Hs
  isplitl [Ho]; · iexact Ho
  isplitl [HvB]; · iexact HvB
  unfold Fin0
  iframe
  isplitl [HrF1]; · iexact HrF1
  isplitl [HrF0]; · iexact HrF0
  iexact HrF2

theorem Tr_nb {x : ℕ} {inb} {hn : S1.numel = 1} (d : ℕ) (hd : (if x = 0 then 1 else if x = 1 then 0 else 2) = d) :
    Tr c (Start I K c f0 o) (smemLoad NB (Rect.unit (s := S3) ![x] S1.size inb) hn rfl) (Start I K c f0 o)
      (BitVec.ofNat 32 (org c.val (relD d))) := by
  refine Tr_use (X := ptW c NB (nbW (F := F) c)) (X' := ptW c NB (nbW (F := F) c)) ?_ ?_
  · unfold Start Win
    iintro ⟨Hi, ⟨HX, HWQ, HWK, HWV, HWO, HNB, HCW, HCC⟩, H⟩
    isplitl [HNB]
    · iexact HNB
    iintro HNB
    iframe
  apply Tr_smem
  have h := fun a => ValueKit.view_emb_slice_whole_unit_val cc0_stg5_0 ![x] S1.size inb (Shape.Idx.first (s := S1) (by decide)) a
  have h0 : _ = x := h 0
  show nbW (F := F) c (((View.whole cc0_stg5_0).slice (Rect.unit ![x] S1.size inb)).emb (Shape.Idx.first (s := S1) (by decide))) = _
  unfold nbW
  rw [h0, hd]

theorem Tr_part1 : Tr c (Start I K c f0 o) (k0_part1 XR (Memref.isWhole_whole _) WQ (Memref.isWhole_whole _) WK (Memref.isWhole_whole _) WV (Memref.isWhole_whole _) WO (Memref.isWhole_whole _) NB (Memref.isWhole_whole _) CW (Memref.isWhole_whole _) CC (Memref.isWhole_whole _) OUT (Memref.isWhole_whole _) KV (Memref.isWhole_whole _) SR (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scoped0)
    (St I K c f0 iprop(semVal (barC c) 0 ∗ Fin0 c) o 0 0 0 0) ⟨c, v2W c, (BitVec.ofNat 32 (org c.val (relD 1))), chk_of (by decide +kernel) _ _, (BitVec.ofNat 32 (org c.val (relD 0))), chk_of (by decide +kernel) _ _, (BitVec.ofNat 32 (org c.val (relD 2))), chk_of (by decide +kernel) _ _, iota .tc S128x256 32 [1] iota_S128x256_d1_w32, k0_pay1, 2#32, k0_pay2, k0_pay3, v29W⟩ := by
  apply Tr_seq
  apply Tr_bind Tr_dev
  apply Tr_bind (Tr_nb 1 rfl)
  apply Tr_bind (Tr_assume (chk_of (by decide +kernel) _ _))
  apply Tr_bind (Tr_nb 0 rfl)
  apply Tr_bind (Tr_assume (chk_of (by decide +kernel) _ _))
  apply Tr_bind (Tr_nb 2 rfl)
  apply Tr_bind (Tr_assume (chk_of (by decide +kernel) _ _))
  exact Tr_bar (dev_word _ _) (dev_word _ _) (dev_word _ _) rfl

theorem Tr_final {d₁ d₂ d₃ : Dev nD} {sm : Sem sig} (h₁ : d₁.val = org c.val (relD 1)) (h₂ : d₂.val = org c.val (relD 0))
    (h₃ : d₃.val = org c.val (relD 2)) (hs : sm = finS) :
    Tr c (St I K c f0 iprop(semVal (barC c) 0 ∗ Fin0 c) o 124 128 124 256)
      (do
        semSignalWord d₁ sm 1#32
        semSignalWord d₂ sm 1#32
        semSignalWord d₃ sm 1#32
        semWaitWord sm 3#32
        pure ⟨⟩) (Done I c f0 o) PUnit.unit := by
  subst hs
  obtain rfl : d₁ = nb c 1 := Fin.ext h₁
  obtain rfl : d₂ = nb c 0 := Fin.ext h₂
  obtain rfl : d₃ = nb c 2 := Fin.ext h₃
  intro Q
  unfold St Fin0
  iintro ⟨⟨⟨#Hi, #HL⟩, HW, Hkv, Hsh, -, -, -, -, Hvr, Hvs, ⟨%W, HO⟩, Hs, Ho, HvB, HaF, HcF, Ht1, Hr1, Ht0, Hr0, Ht2, Hr2⟩, HQ⟩
  rw [wp_bind]
  iapply (sig_op (I := I) (K := K) (c := c) (d := nb c 1) (sm := finS) (j := 0) (X := iprop(emp)) (finO c 1) (finO_0 c) (invs_fin I K _)
    (by rw [payload_fin])) $$ [HO Ht1 Hr1]
  · isplitr; · iexact Hi
    isplitr; · iempintro
    iframe
  iintro HO
  rw [wp_bind]
  iapply (sig_op (I := I) (K := K) (c := c) (d := nb c 0) (sm := finS) (j := 1) (X := iprop(emp)) (finO c 2) (finO_1 c) (invs_fin I K _)
    (by rw [payload_fin])) $$ [HO Ht0 Hr0]
  · isplitr; · iexact Hi
    isplitr; · iempintro
    iframe
  iintro HO
  rw [wp_bind]
  iapply (sig_op (I := I) (K := K) (c := c) (d := nb c 2) (sm := finS) (j := 2) (X := iprop(emp)) 0 (finO_2 c) (invs_fin I K _)
    (by rw [payload_fin])) $$ [HO Ht2 Hr2]
  · isplitr; · iexact Hi
    isplitr; · iempintro
    iframe
  iintro HO
  rw [wp_bind]
  iapply (wait_reg (I := I) (K := K) (c := c) (sm := finS) (by rw [MayWait_zero]; iintro -; iempintro) (invs_fin I K c)) $$ [HcF HO HaF]
  · isplitr; · iexact Hi
    isplitr; · iexact HL
    iframe
  iintro ⟨HO, HvF, -, -, -⟩
  rw [show (pure PUnit.unit : Prog (TpuEff nD τ sig (Elt F) Λ₀ .tc) PUnit) = .ret PUnit.unit from rfl, wp_ret]
  imodintro
  iapply HQ
  unfold Done
  isplitl [HW]; · iexact HW
  isplitl [Hkv Hsh]
  · iexists (G I)
    iapply (kv_whole c)
    iframe
  isplitl [Hvr]
  · ihave Hvr := (Entails.of_eq (dst_bij (fun j => semVal (rcvC c (arrA j)) 0))) $$ Hvr
    ihave Hvr := (Entails.of_eq (rcv_back c)) $$ Hvr
    iexact Hvr
  isplitl [Hvs]
  · rw [Finset.range_eq_Ico]; iexact Hvs
  iframe

end

end Cert.Proof
-- ==== Proof.Walk.lean ====
/-
  The run of the body on one chip, operation by operation.
-/
module

public import proofs.«01_k».proof.Proof.Ends

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The end, with the result named apart. -/
theorem Tr_last {I : Dev nD → Ins F} {K : GSem nD τ sig → ℕ} {c : Dev nD} {f0 : S2x4x128x4096.Idx → Elt F .f32} {o o' : S2x128x512.Idx → Elt F .f32}
    {d₁ d₂ d₃ : Dev nD} {sm : Sem sig} (h₁ : d₁.val = org c.val (relD 1)) (h₂ : d₂.val = org c.val (relD 0))
    (h₃ : d₃.val = org c.val (relD 2)) (hs : sm = finS) (ho : o = o') :
    Tr c (St I K c f0 iprop(semVal (barC c) 0 ∗ Fin0 c) o 124 128 124 256)
      (do
        semSignalWord d₁ sm 1#32
        semSignalWord d₂ sm 1#32
        semSignalWord d₃ sm 1#32
        semWaitWord sm 3#32
        pure ⟨⟩) (Done I c f0 o') PUnit.unit := by
  subst ho
  exact Tr_final h₁ h₂ h₃ hs

set_option maxHeartbeats 8000000 in
theorem run_body (I : Dev nD → Ins F) (K : GSem nD τ sig → ℕ) (c : Dev nD) (f0 : S2x4x128x4096.Idx → Elt F .f32) (o : S2x128x512.Idx → Elt F .f32) :
    Tr c (Start I K c f0 o) (cc0_body XR (Memref.isWhole_whole _) WQ (Memref.isWhole_whole _) WK (Memref.isWhole_whole _) WV (Memref.isWhole_whole _) WO (Memref.isWhole_whole _) NB (Memref.isWhole_whole _) CW (Memref.isWhole_whole _) CC (Memref.isWhole_whole _) OUT (Memref.isWhole_whole _) KV (Memref.isWhole_whole _) SR (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scoped0) (Done I c f0 (outC I c o)) PUnit.unit := by
  rw [cc0_body_eq_skeleton]
  delta cc0_body_skel
  rw [k0_part235_eq_skeleton, k0_part236_eq_skeleton, k0_part237_eq_skeleton, k0_part238_eq_skeleton]
  delta k0_part235_skel k0_part236_skel k0_part237_skel k0_part238_skel
  rw [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton]
  repeat (first
    | with_reducible apply Tr_pure
    | (with_reducible apply Tr_dead_kv
       · exact off_own _ _ _
       · decide +kernel
       intro _)
    | (with_reducible apply Tr_last
       · exact dev_word _ _
       · exact dev_word _ _
       · exact dev_word _ _
       · rfl
       · rfl)
    | with_reducible apply Tr_bind
    | with_reducible apply Tr_part1
    | (with_reducible apply Tr_kv
       · first | ((with_reducible apply own_arg); exact off_own _ _ _) | exact off_word _ _ _ _
       · decide +kernel)
    | (with_reducible apply Tr_sc
       · first | ((with_reducible apply own_arg); exact off4_own _ _ _ _) | exact off4_word _ _ _ _ _
       · decide +kernel
       · rfl
       · simp only [Nat.reduceAdd]; rfl)
    | (with_reducible apply Tr_start
       · first | ((with_reducible apply own_arg); exact off_own _ _ _) | exact off_word _ _ _ _
       · exact dev_word _ _
       · decide +kernel
       · decide +kernel
       · decide +kernel
       · simp only [Nat.reduceAdd]; rfl)
    | (with_reducible apply Tr_rwait
       · decide +kernel
       · decide +kernel
       · simp only [Nat.reduceAdd]; rfl)
    | (with_reducible apply Tr_swait
       · decide +kernel
       · decide +kernel
       · simp only [Nat.reduceAdd]; rfl)
    | with_reducible apply Tr_cw
    | with_reducible apply Tr_cc
    | ((with_reducible apply Tr_assume); exact chk_of (by decide +kernel) _ _)
    | (with_reducible apply Tr_own
       · exact off_own _ _ _
       · decide +kernel
       · rfl
       · simp only [Nat.reduceAdd]; rfl)
    | with_reducible apply Tr_x0
    | with_reducible apply Tr_x1
    | with_reducible apply Tr_wq
    | with_reducible apply Tr_wk
    | with_reducible apply Tr_wv
    | with_reducible apply Tr_wo
    | ((with_reducible apply Tr_row); decide +kernel)
    | with_reducible apply Tr_any_s
    | with_reducible apply Tr_any_o
    | ((with_reducible apply Tr_col); decide +kernel)
    | ((with_reducible apply Tr_out); rfl)
    | apply Tr_seq)

end Cert.Proof
-- ==== Proof.Host.lean ====
/-
  The tables the host code leaves for the kernel: each chip's row of the three neighbour tables.
-/
module

public import proofs.«01_k».proof.Proof.Protocol
public import proofs.«01_k».proof.Proof.Gen.KernelIdeal.Regions

@[expose] public section

set_option maxRecDepth 10000

noncomputable section

namespace Cert.Proof

open Cert.KernelIdeal Cert.KernelIdeal.Gen

open Idealize.ShloMosaic
open Idealize.ShloMosaic.TcCoe
open Idealize.ShloMosaic.ValueIdx

variable {F : FTy → Type} [FloatOps F]

/-- The chip's number as the host code computes it. -/
def hostId (c : Dev nD) : S_.Idx → BitVec 32 := Host.remui (Host.divui (constantI S_ 32 (Dev.word c)) (constantI S_ 32 1#32)) (constantI S_ 32 32#32)
/-- The row a table is read at, a negative number counted from the end. -/
def hostRow (c : Dev nD) : S1.Idx → BitVec 32 :=
  broadcastInDim S1 ![] bcast_S_S1 (select (cmpi .slt (hostId c) (constantI S_ 32 0#32)) (addi (hostId c) (constantI S_ 32 32#32)) (hostId c))
/-- Whether the row lies in the table. -/
def hostIn (c : Dev nD) : S_.Idx → BitVec 1 :=
  Host.reduce IntOp.andi (andi (cmpi .sge (hostRow c) (broadcastInDim S1 ![] bcast_S_S1 (constantI S_ 32 0#32))) (cmpi .sle (hostRow c) (constantI S1 32 31#32)))
    (constantI S_ 1 1#1) reducesTo_S1_S_d0 h_S_
def hostNb (c : Dev nD) : S3.Idx → BitVec 32 :=
  select (broadcastInDim S3 ![] bcast_S_S3 (hostIn c)) (Host.gather gather_S32x3_S1_S3_0_0_n_n_0_0_13 (fun i => lit0 (S32x3.rowMajor i)) (hostRow c))
    (broadcastInDim S3 ![] bcast_S_S3 (constantI S_ 32 2147483648#32))
def hostCw (c : Dev nD) : S2x9.Idx → BitVec 32 :=
  select (broadcastInDim S2x9 ![] bcast_S_S2x9 (hostIn c)) (Host.gather gather_S32x2x9_S1_S2x9_01_0_n_n_0_0_129 (fun i => lit1 (S32x2x9.rowMajor i)) (hostRow c))
    (broadcastInDim S2x9 ![] bcast_S_S2x9 (constantI S_ 32 2147483648#32))
def hostCc (c : Dev nD) : S2x8.Idx → BitVec 32 :=
  select (broadcastInDim S2x8 ![] bcast_S_S2x8 (hostIn c)) (Host.gather gather_S32x2x8_S1_S2x8_01_0_n_n_0_0_128 (fun i => lit2 (S32x2x8.rowMajor i)) (hostRow c))
    (broadcastInDim S2x8 ![] bcast_S_S2x8 (constantI S_ 32 2147483648#32))

theorem hostNb_eq : ∀ (c : Fin 32) (k : Fin 3), hostNb c (ix1 (n := 3) k) = BitVec.ofNat 32 (org c.val (relD (if k.val = 0 then 1 else if k.val = 1 then 0 else 2))) := by
  decide +kernel
theorem hostCw_eq : ∀ (c : Fin 32) (j : Fin 2) (k : Fin 9), hostCw c (ix2 (n0 := 2) (n1 := 9) j k) = BitVec.ofNat 32 (org c.val (16 * j.val + k.val)) := by
  decide +kernel
theorem hostCc_eq : ∀ (c : Fin 32) (j : Fin 2) (k : Fin 8), hostCc c (ix2 (n0 := 2) (n1 := 8) j k) = BitVec.ofNat 32 (org c.val (16 * j.val + (16 - k.val) % 16)) := by
  decide +kernel

variable (m : (ℓ : Loc nD τ sig) → Buf (Elt F) ℓ)

theorem host_nb (c : Dev nD) : V4 m c main_v5 = nbW (F := F) c := by
  rw [V4_of m c main_v5 (by decide), V3_of m c main_v5 (by decide)]
  after_results
  refine (show _ = hostNb c from rfl).trans (funext fun i => ?_)
  have h := hostNb_eq c (i 0)
  rw [show ix1 (n := 3) (i 0) = i from by funext a; fin_cases a; rfl] at h
  exact h

theorem host_cw (c : Dev nD) : V4 m c main_v6 = cwW (F := F) c := by
  rw [V4_of m c main_v6 (by decide)]
  after_results
  refine (show _ = hostCw c from rfl).trans (funext fun i => ?_)
  have h := hostCw_eq c (i 0) (i 1)
  rw [show ix2 (n0 := 2) (n1 := 9) (i 0) (i 1) = i from by funext a; fin_cases a <;> rfl] at h
  exact h

theorem host_cc (c : Dev nD) : V4 m c main_v7 = ccW (F := F) c := by
  after_results
  refine (show _ = hostCc c from rfl).trans (funext fun i => ?_)
  have h := hostCc_eq c (i 0) (i 1)
  rw [show ix2 (n0 := 2) (n1 := 8) (i 0) (i 1) = i from by funext a; fin_cases a <;> rfl] at h
  exact h

end Cert.Proof
-- ==== Proof.Region.lean ====
/-
  The kernel's region on one chip: what enters it, what it leaves, and the run of its body inside it.
-/
module

public import proofs.«01_k».proof.Proof.Ends
public import proofs.«01_k».proof.Proof.Host
public import Idealize.ShloMosaic.Lib.Pipeline.ValueKit.Geometry

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat BodyObligation)

variable {F : FTy → Type} [FloatOps F]

/-! ## Contents -/

/-- What the result buffer of chip `c` holds in the end. -/
def outAll (I : Dev nD → Ins F) (c : Dev nD) : S2x128x512.Idx → Elt F .f32 :=
  fun i => outW I c (i 0).val (ix3 (n0 := 1) (n1 := 128) (n2 := 512) 0 (i 1) (i 2))

theorem outC_eq (I : Dev nD → Ins F) (c : Dev nD) (o : S2x128x512.Idx → Elt F .f32) : outC I c o = outAll I c := by
  funext i
  rw [eq_ix3 (n0 := 2) (n1 := 128) (n2 := 512) i]
  generalize i 1 = i1
  generalize i 2 = i2
  unfold outC outAll
  have h := (i 0).isLt
  by_cases h0 : (i 0).val = 0
  · rw [show i 0 = (0 : Fin 2) from Fin.ext h0]
    refine (View.write_of_not_mem _ _ _ ?_).trans (write_at cc0_stg8_0 _ _ _ o (outW I c 0) (ix3 (n0 := 1) 0 i1 i2) (ix3 (n0 := 2) 0 i1 i2) ?_)
    · intro hm
      have H := (mem_block cc0_stg8_0 _ _ _ _).mp (View.setOn_subset_set _ _ hm)
      have H0 : 1 ≤ 0 ∧ 0 < 1 + 1 := H 0
      exact absurd H0.1 (by decide)
    · intro a
      match a with
      | 0 => rfl
      | 1 => exact Nat.zero_add _
      | 2 => exact Nat.zero_add _
  · rw [show i 0 = (1 : Fin 2) from Fin.ext (by have : (i 0).val < 2 := h; show (i 0).val = 1; omega)]
    refine write_at cc0_stg8_0 _ _ _ _ (outW I c 1) (ix3 (n0 := 1) 0 i1 i2) (ix3 (n0 := 2) 1 i1 i2) ?_
    intro a
    match a with
    | 0 => rfl
    | 1 => exact Nat.zero_add _
    | 2 => exact Nat.zero_add _

variable (m : (ℓ : Loc nD τ sig) → Buf (Elt F) ℓ)

/-- The arguments chip `c` holds. -/
def insOf (c : Dev nD) : Ins F where
  x := m ((c : Thread nD τ).loc main_arg0)
  wq := m ((c : Thread nD τ).loc main_arg1)
  wk := m ((c : Thread nD τ).loc main_arg2)
  wv := m ((c : Thread nD τ).loc main_arg3)
  wo := m ((c : Thread nD τ).loc main_arg4)

theorem V4_x (c : Dev nD) : V4 m c main_arg0 = (insOf m c).x :=
  (V4_of m c main_arg0 (by decide)).trans <| (V3_of m c main_arg0 (by decide)).trans <| (V2_of m c main_arg0 (by decide)).trans <| (V1_of m c main_arg0 (by decide)).trans rfl
theorem V4_wq (c : Dev nD) : V4 m c main_arg1 = (insOf m c).wq :=
  (V4_of m c main_arg1 (by decide)).trans <| (V3_of m c main_arg1 (by decide)).trans <| (V2_of m c main_arg1 (by decide)).trans <| (V1_of m c main_arg1 (by decide)).trans rfl
theorem V4_wk (c : Dev nD) : V4 m c main_arg2 = (insOf m c).wk :=
  (V4_of m c main_arg2 (by decide)).trans <| (V3_of m c main_arg2 (by decide)).trans <| (V2_of m c main_arg2 (by decide)).trans <| (V1_of m c main_arg2 (by decide)).trans rfl
theorem V4_wv (c : Dev nD) : V4 m c main_arg3 = (insOf m c).wv :=
  (V4_of m c main_arg3 (by decide)).trans <| (V3_of m c main_arg3 (by decide)).trans <| (V2_of m c main_arg3 (by decide)).trans <| (V1_of m c main_arg3 (by decide)).trans rfl
theorem V4_wo (c : Dev nD) : V4 m c main_arg4 = (insOf m c).wo :=
  (V4_of m c main_arg4 (by decide)).trans <| (V3_of m c main_arg4 (by decide)).trans <| (V2_of m c main_arg4 (by decide)).trans <| (V1_of m c main_arg4 (by decide)).trans rfl

/-! ## The region's data -/

abbrev fst (t : Fin (cfg0.N + 1)) : Prop := t.val = 0

/-- What the protocol hands a chip for its run, the semaphores' counters apart. -/
def Ghost (K : GSem nD τ sig → ℕ) (c : Dev nD) : sProp (MM F) :=
  iprop((invs (insOf m) K ∗ levAts L lv)
    ∗ bigSep (Finset.range 124) (fun k => iprop(dutyTok ER (sndC c k) 0 0 ∗ dutyTok ER (rcvC (nb c (dirK k)) k) 0 0 ∗ reached ER (sndC c k) 0))
    ∗ bigSep (Finset.range 124) (fun k => reached ER (rcvC c k) 0)
    ∗ bigSep (Finset.range 124) (fun k => atPos ER (sndC c k) 0 ∅ 0)
    ∗ bigSep (Finset.range 124) (fun k => iprop(atPos ER (rcvC c k) 0 ∅ 0 ∗ cred (tallyAt (rcvC c k) () N)))
    ∗ reached ER (finC c) 0 ∗ atPos ER (finC c) 0 ∅ 0 ∗ cred (tallyAt (finC c) () 3)
    ∗ dutyTok ER (finC (nb c 1)) 0 0 ∗ dutyTok ER (finC (nb c 0)) 0 1 ∗ dutyTok ER (finC (nb c 2)) 0 2
    ∗ atPos ER (barC c) 0 ∅ 0 ∗ cred (tallyAt (barC c) () 3)
    ∗ dutyTok ER (barC (nb c 1)) 0 0 ∗ reached ER (barC (nb c 1)) 0
    ∗ dutyTok ER (barC (nb c 0)) 0 1 ∗ reached ER (barC (nb c 0)) 0
    ∗ dutyTok ER (barC (nb c 2)) 0 2 ∗ reached ER (barC (nb c 2)) 0)

/-- The two buffers the body works in. -/
def Scr (c : Dev nD) : sProp (MM F) := iprop((∃ f, kvL c ↦{fullShare} f) ∗ (∃ f, ptW c SR f))

/-- The counters the body leaves at zero. -/
def Zero (c : Dev nD) : sProp (MM F) :=
  iprop(semVal (finC c) 0 ∗ bigSep (Finset.range 124) (fun k => semVal (sndC c k) 0) ∗ bigSep (Finset.range 124) (fun k => semVal (rcvC c k) 0))

def dat0 (c : Dev nD) : Dat τ (Elt F) Unit ℕ UU ℕ cfg0 c where
  A w := V4 m c (Pipeline.arrRef spec0 w)
  after w _ := match w with
    | ⟨0, _⟩ => (insOf m c).x
    | ⟨1, _⟩ => (insOf m c).wq
    | ⟨2, _⟩ => (insOf m c).wk
    | ⟨3, _⟩ => (insOf m c).wv
    | ⟨4, _⟩ => (insOf m c).wo
    | ⟨5, _⟩ => nbW (F := F) c
    | ⟨6, _⟩ => cwW (F := F) c
    | ⟨7, _⟩ => ccW (F := F) c
    | ⟨8, _⟩ => outAll (insOf m) c
  Φ t := if t.val = 0 then iprop((∃ K, Ghost m K c) ∗ Scr c ∗ ∃ r, prngReg c r) else iprop(semVal (barC c) 0 ∗ Zero c ∗ Scr c ∗ ∃ r, prngReg c r)
  q _ := fullShare
  owed t := if t.val = 0 then barO c 0 else 0

theorem owed_eq (c : Dev nD) (t : Fin (cfg0.N + 1)) : (dat0 (F := F) m c).owed t = if t.val = 0 then barO c 0 else 0 := rfl
theorem owed_first (c : Dev nD) : (dat0 (F := F) m c).owed 0 = barO c 0 := by rw [owed_eq]; exact if_pos rfl
theorem owed_first' (c : Dev nD) : (dat0 (F := F) m c).owed t0_0.castSucc = barO c 0 := by rw [owed_eq]; exact if_pos rfl
theorem owed_last (c : Dev nD) : (dat0 (F := F) m c).owed (Fin.last _) = 0 := by
  rw [owed_eq, Fin.val_last, if_neg (by rw [show cfg0.N = 1 from N_0]; decide)]
theorem owed_last' (c : Dev nD) : (dat0 (F := F) m c).owed t0_0.succ = 0 := by
  rw [owed_eq, Fin.val_succ, if_neg (Nat.succ_ne_zero _)]

theorem Phi_eq (c : Dev nD) (t : Fin (cfg0.N + 1)) : (dat0 (F := F) m c).Φ t
    = if t.val = 0 then iprop((∃ K, Ghost m K c) ∗ Scr c ∗ ∃ r, prngReg c r) else iprop(semVal (barC c) 0 ∗ Zero c ∗ Scr c ∗ ∃ r, prngReg c r) := rfl
theorem Phi_first (c : Dev nD) : (dat0 (F := F) m c).Φ 0 = iprop((∃ K, Ghost m K c) ∗ Scr c ∗ ∃ r, prngReg c r) := by rw [Phi_eq]; exact if_pos rfl
theorem Phi_first' (c : Dev nD) : (dat0 (F := F) m c).Φ t0_0.castSucc = iprop((∃ K, Ghost m K c) ∗ Scr c ∗ ∃ r, prngReg c r) := by rw [Phi_eq]; exact if_pos rfl
theorem Phi_last (c : Dev nD) : (dat0 (F := F) m c).Φ (Fin.last _) = iprop(semVal (barC c) 0 ∗ Zero c ∗ Scr c ∗ ∃ r, prngReg c r) := by
  rw [Phi_eq, Fin.val_last, if_neg (by rw [show cfg0.N = 1 from N_0]; decide)]
theorem Phi_last' (c : Dev nD) : (dat0 (F := F) m c).Φ t0_0.succ = iprop(semVal (barC c) 0 ∗ Zero c ∗ Scr c ∗ ∃ r, prngReg c r) := by
  rw [Phi_eq, Fin.val_succ, if_neg (Nat.succ_ne_zero _)]

theorem share_eq (c : Dev nD) (w : Fin 9) : (dat0 (F := F) m c).share w = fullShare := by unfold Dat.share; split <;> rfl

theorem owes_in {O : CellTallies nD τ sig Unit} (c : Dev nD) (t : Fin (cfg0.N + 1)) (h : (dat0 (F := F) m c).owed t = O) (W : Waits sig Unit) :
    (owes (c : Thread nD τ) O W : sProp (MM F)) ⊢ ((dat0 (F := F) m c).owesAt () t : sProp (MM F)) := by
  unfold Dat.owesAt Pipeline.owesWithin Dat.bound
  rw [h, show (dat0 (F := F) m c).recorded t = Set.univ from rfl]
  iintro HO
  iexists W
  isplitr
  · ipureintro; exact fun _ _ => Or.inl trivial
  iexact HO
theorem owes_in' {O : CellTallies nD τ sig Unit} (c : Dev nD) (t : Fin (cfg0.N + 1)) (h : (dat0 (F := F) m c).owed t = O) :
    iprop(∃ W, owes (c : Thread nD τ) O W) ⊢ ((dat0 (F := F) m c).owesAt () t : sProp (MM F)) := by
  iintro ⟨%W, HO⟩
  iapply (owes_in m c t h W)
  iexact HO
theorem owes_out {O : CellTallies nD τ sig Unit} (c : Dev nD) (t : Fin (cfg0.N + 1)) (h : (dat0 (F := F) m c).owed t = O) :
    ((dat0 (F := F) m c).owesAt () t : sProp (MM F)) ⊢ iprop(∃ W, owes (c : Thread nD τ) O W) := by
  unfold Dat.owesAt Pipeline.owesWithin
  rw [h]
  iintro ⟨%W, -, HO⟩
  iexists W
  iexact HO

theorem owns_eq (c : Dev nD) (b : Ref sig .tc) (X : b.ty.Contents (Elt F)) :
    (owns (Ix := Unit) (Name := ℕ) (U := UU) (Lvl := ℕ) (c : Thread nD τ) (Memref.whole b) fullShare X : sProp (MM F))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem blk_0 (X : main_arg0.ty.Contents (Elt F)) : ((cfg0.win 0).blk t0_0).view.read (Elt F) X = X :=
  read_zero main_arg0 _ _ X (by intro a; fin_cases a <;> rfl)
theorem blk_1 (X : main_arg1.ty.Contents (Elt F)) : ((cfg0.win 1).blk t0_0).view.read (Elt F) X = X :=
  read_zero main_arg1 _ _ X (by intro a; fin_cases a <;> rfl)
theorem blk_2 (X : main_arg2.ty.Contents (Elt F)) : ((cfg0.win 2).blk t0_0).view.read (Elt F) X = X :=
  read_zero main_arg2 _ _ X (by intro a; fin_cases a <;> rfl)
theorem blk_3 (X : main_arg3.ty.Contents (Elt F)) : ((cfg0.win 3).blk t0_0).view.read (Elt F) X = X :=
  read_zero main_arg3 _ _ X (by intro a; fin_cases a <;> rfl)
theorem blk_4 (X : main_arg4.ty.Contents (Elt F)) : ((cfg0.win 4).blk t0_0).view.read (Elt F) X = X :=
  read_zero main_arg4 _ _ X (by intro a; fin_cases a <;> rfl)
theorem blk_5 (X : main_v5.ty.Contents (Elt F)) : ((cfg0.win 5).blk t0_0).view.read (Elt F) X = X :=
  read_zero main_v5 _ _ X (by intro a; fin_cases a <;> rfl)
theorem blk_6 (X : main_v6.ty.Contents (Elt F)) : ((cfg0.win 6).blk t0_0).view.read (Elt F) X = X :=
  read_zero main_v6 _ _ X (by intro a; fin_cases a <;> rfl)
theorem blk_7 (X : main_v7.ty.Contents (Elt F)) : ((cfg0.win 7).blk t0_0).view.read (Elt F) X = X :=
  read_zero main_v7 _ _ X (by intro a; fin_cases a <;> rfl)

theorem before_0 (c : Dev nD) (d) : (dat0 (F := F) m c).before 0 t0_0 d = (insOf m c).x := by
  unfold Pipeline.Dat.before; rw [if_pos (by decide)]; exact (blk_0 (V4 m c main_arg0)).trans (V4_x m c)
theorem before_1 (c : Dev nD) (d) : (dat0 (F := F) m c).before 1 t0_0 d = (insOf m c).wq := by
  unfold Pipeline.Dat.before; rw [if_pos (by decide)]; exact (blk_1 (V4 m c main_arg1)).trans (V4_wq m c)
theorem before_2 (c : Dev nD) (d) : (dat0 (F := F) m c).before 2 t0_0 d = (insOf m c).wk := by
  unfold Pipeline.Dat.before; rw [if_pos (by decide)]; exact (blk_2 (V4 m c main_arg2)).trans (V4_wk m c)
theorem before_3 (c : Dev nD) (d) : (dat0 (F := F) m c).before 3 t0_0 d = (insOf m c).wv := by
  unfold Pipeline.Dat.before; rw [if_pos (by decide)]; exact (blk_3 (V4 m c main_arg3)).trans (V4_wv m c)
theorem before_4 (c : Dev nD) (d) : (dat0 (F := F) m c).before 4 t0_0 d = (insOf m c).wo := by
  unfold Pipeline.Dat.before; rw [if_pos (by decide)]; exact (blk_4 (V4 m c main_arg4)).trans (V4_wo m c)
theorem before_5 (c : Dev nD) (d) : (dat0 (F := F) m c).before 5 t0_0 d = nbW (F := F) c := by
  unfold Pipeline.Dat.before; rw [if_pos (by decide)]; exact (blk_5 (V4 m c main_v5)).trans (host_nb m c)
theorem before_6 (c : Dev nD) (d) : (dat0 (F := F) m c).before 6 t0_0 d = cwW (F := F) c := by
  unfold Pipeline.Dat.before; rw [if_pos (by decide)]; exact (blk_6 (V4 m c main_v6)).trans (host_cw m c)
theorem before_7 (c : Dev nD) (d) : (dat0 (F := F) m c).before 7 t0_0 d = ccW (F := F) c := by
  unfold Pipeline.Dat.before; rw [if_pos (by decide)]; exact (blk_7 (V4 m c main_v7)).trans (host_cc m c)

set_option maxHeartbeats 1000000 in
/-- The body, given its run. -/
theorem body_ob (hrun : ∀ (I : Dev nD → Ins F) (K : GSem nD τ sig → ℕ) (c : Dev nD) (f0 : S2x4x128x4096.Idx → Elt F .f32) (o : S2x128x512.Idx → Elt F .f32),
      Tr c (Start I K c f0 o) (cc0_body XR (Memref.isWhole_whole _) WQ (Memref.isWhole_whole _) WK (Memref.isWhole_whole _) WV (Memref.isWhole_whole _) WO (Memref.isWhole_whole _) NB (Memref.isWhole_whole _) CW (Memref.isWhole_whole _) CC (Memref.isWhole_whole _) OUT (Memref.isWhole_whole _) KV (Memref.isWhole_whole _) SR (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scoped0) (Done I c f0 (outC I c o)) PUnit.unit) (c : Dev nD) :
    BodyObligation (dat0 (F := F) m c) (defs₀ (F := F)) 𝒱₀ () Set.univ := fun t => by
  obtain rfl := fin_N0 t
  rw [bigSep_W0, bigSep_W0]
  simp only [owns_eq]
  rw [Phi_first' m c, Phi_last' m c]
  iintro ⟨⟨⟨%K, HG⟩, HS, Hp⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩⟩
  obtain rfl : f0 = (insOf m c).x := h0.trans (before_0 m c d0)
  obtain rfl : f1 = (insOf m c).wq := h1.trans (before_1 m c d1)
  obtain rfl : f2 = (insOf m c).wk := h2.trans (before_2 m c d2)
  obtain rfl : f3 = (insOf m c).wv := h3.trans (before_3 m c d3)
  obtain rfl : f4 = (insOf m c).wo := h4.trans (before_4 m c d4)
  obtain rfl : f5 = nbW (F := F) c := h5.trans (before_5 m c d5)
  obtain rfl : f6 = cwW (F := F) c := h6.trans (before_6 m c d6)
  obtain rfl : f7 = ccW (F := F) c := h7.trans (before_7 m c d7)
  ihave HO := (owes_out m c _ (owed_first' m c)) $$ HO
  unfold Scr
  icases HS with ⟨Hkv, ⟨%f0, Hs⟩⟩
  have hc := hrun (insOf m) K c f0 f8
  iapply (hc _)
  isplitl [HG Hkv Hs HO H0 H1 H2 H3 H4 H5 H6 H7 H8]
  · unfold Start Ghost Win
    icases HG with ⟨⟨Hi, Hlv⟩, G1, G2, G3, G4, G5, G6, G7, G8, G9, G10, G11, G12, G13, G14, G15, G16, G17, G18⟩
    isplitl [Hi Hlv]
    · isplitl [Hi] <;> iassumption
    isplitl [H0 H1 H2 H3 H4 H5 H6 H7]
    · iframe
    iframe
  iintro HD
  unfold Done Zero
  icases HD with ⟨HW, Hkv, Hr, Hsd, Hb, Hf, HO, Hs, Ho⟩
  unfold Win
  icases HW with ⟨H0, H1, H2, H3, H4, H5, H6, H7⟩
  ihave HO := (owes_in' m c _ (owed_last' m c)) $$ HO
  isplitl [Hb Hf Hsd Hr Hkv Hs Hp]
  · iframe
    iexists _
    iexact Hs
  isplitl [HO]
  · iexact HO
  isplitl [H0]
  · iexists _; isplitr
    · ipureintro; rfl
    iexact H0
  isplitl [H1]
  · iexists _; isplitr
    · ipureintro; rfl
    iexact H1
  isplitl [H2]
  · iexists _; isplitr
    · ipureintro; rfl
    iexact H2
  isplitl [H3]
  · iexists _; isplitr
    · ipureintro; rfl
    iexact H3
  isplitl [H4]
  · iexists _; isplitr
    · ipureintro; rfl
    iexact H4
  isplitl [H5]
  · iexists _; isplitr
    · ipureintro; rfl
    iexact H5
  isplitl [H6]
  · iexists _; isplitr
    · ipureintro; rfl
    iexact H6
  isplitl [H7]
  · iexists _; isplitr
    · ipureintro; rfl
    iexact H7
  iexists _; isplitr
  · ipureintro; exact outC_eq (insOf m) c f8
  iexact Ho

end Cert.Proof
-- ==== Proof.Seeds.lean ====
/-
  What the chips start from: the cells, the tokens and the credits, dealt out.
-/
module

public import proofs.«01_k».proof.Proof.Region

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The semaphores, listed -/

/-- The semaphores the region owns. -/
abbrev osem (i : Fin 249) : SemLoc sig := csem i.succ
abbrev sSem (k : Fin 124) : SemLoc sig := .dma (dsem (sndK k.val))
abbrev rSem (k : Fin 124) : SemLoc sig := .dma (dsem (rcvK k.val))
/-- The duties of a chip's cells. -/
def tk (i : Fin 254) : SemLoc sig × Fin 3 :=
  if h : i.val < 3 then (.reg barS, ⟨i.val, h⟩) else if h : i.val < 6 then (.reg finS, ⟨i.val - 3, by omega⟩) else (.dma (dsem (i.val + 3)), 0)

theorem csem_inj : Function.Injective csem := by
  intro i j h
  unfold csem at h
  have key : ∀ a b : ℕ, a < 257 → b < 257 → (SemLoc.dma (dsem a) : SemLoc sig) = .dma (dsem b) → a = b := by
    intro a b ha hb h
    rw [← dsem_val ha, ← dsem_val hb]
    exact congrArg Fin.val (SemLoc.dma.inj h)
  refine Fin.ext ?_
  have hi := i.isLt
  have hj := j.isLt
  by_cases i0 : i.val = 0 <;> by_cases i1 : i.val = 1 <;> by_cases j0 : j.val = 0 <;> by_cases j1 : j.val = 1 <;> first
    | omega
    | (simp only [i0, i1, j0, j1, if_true, if_false] at h
       first
         | exact absurd h (by decide)
         | cases h
         | (have := key _ _ (by omega) (by omega) h; omega))
theorem osem_inj : Function.Injective osem := fun _ _ h => Fin.succ_injective _ (csem_inj h)
theorem tk_inj : Function.Injective tk := by
  have key : ∀ a b : ℕ, a < 257 → b < 257 → (SemLoc.dma (dsem a) : SemLoc sig) = .dma (dsem b) → a = b := by
    intro a b ha hb h
    rw [← dsem_val ha, ← dsem_val hb]
    exact congrArg Fin.val (SemLoc.dma.inj h)
  intro i j h
  unfold tk at h
  refine Fin.ext ?_
  have hi := i.isLt
  have hj := j.isLt
  split at h <;> split at h <;> (try split at h) <;> (try split at h) <;>
    first
      | (have h2 := congrArg (fun p : SemLoc sig × Fin 3 => p.2.val) h; simp only at h2; omega)
      | exact absurd (congrArg Prod.fst h) (by first | decide | (intro h'; cases h'))
      | (have := key _ _ (by omega) (by omega) (congrArg Prod.fst h); omega)

theorem sSem_inj : Function.Injective sSem := fun i j h => by
  have h1 := congrArg Fin.val (SemLoc.dma.inj h)
  rw [dsem_val (snd_lt i).1, dsem_val (snd_lt j).1] at h1
  exact Fin.ext (by rw [← (kSnd_snd i).1, ← (kSnd_snd j).1, h1])
theorem rSem_inj : Function.Injective rSem := fun i j h => by
  have h1 := congrArg Fin.val (SemLoc.dma.inj h)
  rw [dsem_val (snd_lt i).2, dsem_val (snd_lt j).2] at h1
  exact Fin.ext (by rw [← (kRcv_rcv i).1, ← (kRcv_rcv j).1, h1])
theorem sSem_ne_rSem (i j : Fin 124) : sSem i ≠ rSem j := fun h => by
  have h1 := congrArg Fin.val (SemLoc.dma.inj h)
  rw [dsem_val (snd_lt i).1, dsem_val (snd_lt j).2] at h1
  have h2 := (kSnd_snd i).2
  have h3 := (kRcv_rcv j).1
  rw [h1, h3] at h2
  have := j.isLt
  omega
/-- Every semaphore from the ninth on serves a copy. -/
theorem dma_cases (n : ℕ) (h : 9 ≤ n) (h' : n < 257) : (∃ k : Fin 124, (.dma (dsem n) : SemLoc sig) = sSem k) ∨ ∃ k : Fin 124, (.dma (dsem n) : SemLoc sig) = rSem k := by
  rcases own_sems ⟨n, h'⟩ h with h1 | h1
  · exact .inl ⟨⟨kSnd n, h1⟩, by have := snd_kSnd ⟨n, h'⟩ h1; simp only at this; simp only [sSem, this]⟩
  · exact .inr ⟨⟨kRcv n, h1⟩, by have := rcv_kRcv ⟨n, h'⟩ h1; simp only at this; simp only [rSem, this]⟩
theorem dma_csem (n : ℕ) (h : 9 ≤ n) (h' : n < 257) : ∃ i : Fin 248, (.dma (dsem n) : SemLoc sig) = csem i.succ.succ :=
  ⟨⟨n - 9, by omega⟩, by
    unfold csem
    rw [if_neg (by simp), if_neg (by simp)]
    have e : (Fin.succ (Fin.succ (⟨n - 9, by omega⟩ : Fin 248))).val + 7 = n := by simp only [Fin.val_succ]; omega
    rw [e]⟩

theorem rng (Φ : ℕ → sProp (MM F)) : bigSep (Finset.range 124) Φ = bigSep Finset.univ (fun k : Fin 124 => Φ k.val) := by
  have e2 : Finset.range 124 = (Finset.univ : Finset (Fin 124)).map Fin.valEmbedding := by
    ext j
    simp only [Finset.mem_range, Finset.mem_map, Finset.mem_univ, true_and, Fin.valEmbedding_apply]
    exact ⟨fun h => ⟨⟨j, h⟩, rfl⟩, fun ⟨k, hk⟩ => hk ▸ k.isLt⟩
  rw [e2, BI.bigSep_map]
  rfl

def sEmb : Fin 124 ↪ SemLoc sig := ⟨sSem, sSem_inj⟩
def rEmb : Fin 124 ↪ SemLoc sig := ⟨rSem, rSem_inj⟩
def oEmb : Fin 249 ↪ SemLoc sig := ⟨osem, osem_inj⟩

theorem own_set : (Finset.univ.map oEmb : Finset (SemLoc sig)) = {SemLoc.reg finS} ∪ (Finset.univ.map sEmb ∪ Finset.univ.map rEmb) := by
  ext sm
  simp only [Finset.mem_map, Finset.mem_univ, true_and, Finset.mem_union, Finset.mem_singleton]
  constructor
  · rintro ⟨i, rfl⟩
    by_cases h : i.val = 0
    · left
      show csem i.succ = _
      unfold csem
      rw [if_neg (by simp), if_pos (by simp [h])]
    · right
      have e : oEmb i = .dma (dsem (i.val + 8)) := by
        show csem i.succ = _
        unfold csem
        rw [if_neg (by simp), if_neg (by simp only [Fin.val_succ]; omega)]
        rfl
      rw [e]
      have := i.isLt
      rcases dma_cases (i.val + 8) (by omega) (by omega) with ⟨k, hk⟩ | ⟨k, hk⟩
      · exact .inl ⟨k, hk.symm⟩
      · exact .inr ⟨k, hk.symm⟩
  · have hd (n : ℕ) (h : 9 ≤ n) (h' : n < 257) : ∃ a, oEmb a = .dma (dsem n) := by
      obtain ⟨i, hi⟩ := dma_csem n h h'
      exact ⟨i.succ, hi.symm⟩
    rintro (rfl | ⟨k, rfl⟩ | ⟨k, rfl⟩)
    · exact ⟨0, rfl⟩
    · exact hd _ (snd_ge k).1 (snd_lt k).1
    · exact hd _ (snd_ge k).2 (snd_lt k).2

theorem own_split (Φ : SemLoc sig → sProp (MM F)) : bigSep Finset.univ (fun i : Fin 249 => Φ (osem i))
    = iprop(Φ (.reg finS) ∗ bigSep (Finset.range 124) (fun k => Φ (.dma (dsem (sndK k)))) ∗ bigSep (Finset.range 124) (fun k => Φ (.dma (dsem (rcvK k))))) := by
  rw [rng, rng]
  have h := BI.bigSep_map (s := Finset.univ) oEmb (Φ := Φ)
  refine h.symm.trans ?_
  rw [own_set, BI.bigSep_union, BI.bigSep_union, BI.bigSep_singleton, BI.bigSep_map, BI.bigSep_map]
  · rfl
  · rw [Finset.disjoint_left]
    intro sm h1 h2
    obtain ⟨i, -, rfl⟩ := Finset.mem_map.mp h1
    obtain ⟨j, -, hj⟩ := Finset.mem_map.mp h2
    exact sSem_ne_rSem i j hj.symm
  · rw [Finset.disjoint_left]
    intro sm h1 h2
    rw [Finset.mem_singleton] at h1
    subst h1
    rcases Finset.mem_union.mp h2 with h2 | h2
    · obtain ⟨j, -, hj⟩ := Finset.mem_map.mp h2; cases hj
    · obtain ⟨j, -, hj⟩ := Finset.mem_map.mp h2; cases hj

/-! ## The duties, listed -/

def tEmb : Fin 254 ↪ SemLoc sig × Fin 3 := ⟨tk, tk_inj⟩
def lEmb (sm : SemLoc sig) : Fin 3 ↪ SemLoc sig × Fin 3 := ⟨fun j => (sm, j), fun _ _ h => congrArg Prod.snd h⟩
def zEmb : SemLoc sig ↪ SemLoc sig × Fin 3 := ⟨fun s => (s, 0), fun _ _ h => congrArg Prod.fst h⟩

theorem tk_set : (Finset.univ.map tEmb : Finset (SemLoc sig × Fin 3))
    = Finset.univ.map (lEmb (.reg barS)) ∪ (Finset.univ.map (lEmb (.reg finS)) ∪ (Finset.univ.map (sEmb.trans zEmb) ∪ Finset.univ.map (rEmb.trans zEmb))) := by
  ext p
  simp only [Finset.mem_map, Finset.mem_univ, true_and, Finset.mem_union]
  constructor
  · rintro ⟨i, rfl⟩
    have hi := i.isLt
    show _ ∨ _
    by_cases h : i.val < 3
    · exact .inl ⟨⟨i.val, h⟩, by show _ = tk i; unfold tk; rw [dif_pos h]; rfl⟩
    by_cases h' : i.val < 6
    · exact .inr (.inl ⟨⟨i.val - 3, by omega⟩, by show _ = tk i; unfold tk; rw [dif_neg h, dif_pos h']; rfl⟩)
    have e : tEmb i = (.dma (dsem (i.val + 3)), 0) := by show tk i = _; unfold tk; rw [dif_neg h, dif_neg h']
    rw [e]
    rcases dma_cases (i.val + 3) (by omega) (by omega) with ⟨k, hk⟩ | ⟨k, hk⟩
    · exact .inr (.inr (.inl ⟨k, by rw [hk]; rfl⟩))
    · exact .inr (.inr (.inr ⟨k, by rw [hk]; rfl⟩))
  · have hd (n : ℕ) (h : 9 ≤ n) (h' : n < 257) : ∃ a, tEmb a = (.dma (dsem n), 0) :=
      ⟨⟨n - 3, by omega⟩, by
        show tk _ = _
        unfold tk
        rw [dif_neg (by simp only; omega), dif_neg (by simp only; omega)]
        simp only
        rw [show n - 3 + 3 = n by omega]⟩
    rintro (⟨j, rfl⟩ | ⟨j, rfl⟩ | ⟨k, rfl⟩ | ⟨k, rfl⟩)
    · exact ⟨⟨j.val, by omega⟩, by show tk _ = _; unfold tk; rw [dif_pos j.isLt]; rfl⟩
    · have hj := j.isLt
      have e : tk (⟨j.val + 3, by omega⟩ : Fin 254) = (SemLoc.reg finS, j) := by
        unfold tk
        rw [dif_neg (by simp only; omega), dif_pos (by simp only; omega)]
        exact congrArg (Prod.mk _) (Fin.ext (Nat.add_sub_cancel _ _))
      exact ⟨(⟨j.val + 3, by omega⟩ : Fin 254), e⟩
    · exact hd _ (snd_ge k).1 (snd_lt k).1
    · exact hd _ (snd_ge k).2 (snd_lt k).2

theorem tk_split (Φ : SemLoc sig → Fin 3 → sProp (MM F)) : bigSep Finset.univ (fun i : Fin 254 => Φ (tk i).1 (tk i).2)
    = iprop(bigSep Finset.univ (Φ (.reg barS)) ∗ bigSep Finset.univ (Φ (.reg finS))
      ∗ bigSep Finset.univ (fun k => Φ (sSem k) 0) ∗ bigSep Finset.univ (fun k => Φ (rSem k) 0)) := by
  have h := BI.bigSep_map (s := Finset.univ) tEmb (Φ := fun p => Φ p.1 p.2)
  refine h.symm.trans ?_
  rw [tk_set, BI.bigSep_union, BI.bigSep_union, BI.bigSep_union, BI.bigSep_map, BI.bigSep_map, BI.bigSep_map, BI.bigSep_map]
  · rfl
  · rw [Finset.disjoint_left]
    intro p h1 h2
    obtain ⟨i, -, rfl⟩ := Finset.mem_map.mp h1
    obtain ⟨j, -, hj⟩ := Finset.mem_map.mp h2
    exact sSem_ne_rSem i j (congrArg Prod.fst hj).symm
  · rw [Finset.disjoint_left]
    intro p h1 h2
    obtain ⟨i, -, rfl⟩ := Finset.mem_map.mp h1
    rcases Finset.mem_union.mp h2 with h2 | h2
    · obtain ⟨j, -, hj⟩ := Finset.mem_map.mp h2; exact absurd (congrArg Prod.fst hj) (fun h => by cases h)
    · obtain ⟨j, -, hj⟩ := Finset.mem_map.mp h2; exact absurd (congrArg Prod.fst hj) (fun h => by cases h)
  · rw [Finset.disjoint_left]
    intro p h1 h2
    obtain ⟨i, -, rfl⟩ := Finset.mem_map.mp h1
    rcases Finset.mem_union.mp h2 with h2 | h2
    · obtain ⟨j, -, hj⟩ := Finset.mem_map.mp h2
      exact absurd (congrArg Prod.fst hj) (show (SemLoc.reg finS : SemLoc sig) ≠ .reg barS by decide)
    rcases Finset.mem_union.mp h2 with h2 | h2
    · obtain ⟨j, -, hj⟩ := Finset.mem_map.mp h2; exact absurd (congrArg Prod.fst hj) (fun h => by cases h)
    · obtain ⟨j, -, hj⟩ := Finset.mem_map.mp h2; exact absurd (congrArg Prod.fst hj) (fun h => by cases h)

/-! ## Cells and tokens of all chips -/

def barEmb : Dev nD ↪ GSem nD τ sig := ⟨fun c => barC c, fun _ _ h => congrArg (fun g : GSem nD τ sig => g.1.1) h⟩
def scEmb : Dev nD × Fin 249 ↪ GSem nD τ sig :=
  ⟨fun p => ((p.1 : Thread nD τ), osem p.2), fun _ _ h =>
    Prod.ext (congrArg (fun g : GSem nD τ sig => g.1.1) h) (osem_inj (congrArg Prod.snd h))⟩
def allEmb : Dev nD × Fin 250 ↪ GSem nD τ sig :=
  ⟨fun p => ((p.1 : Thread nD τ), csem p.2), fun _ _ h =>
    Prod.ext (congrArg (fun g : GSem nD τ sig => g.1.1) h) (csem_inj (congrArg Prod.snd h))⟩
def toEmb : Dev nD × Fin 254 ↪ GSem nD τ sig × ℕ × Fin 3 :=
  ⟨fun p => (((p.1 : Thread nD τ), (tk p.2).1), 0, (tk p.2).2), fun _ _ h =>
    Prod.ext (congrArg (fun t : GSem nD τ sig × ℕ × Fin 3 => t.1.1.1) h)
      (tk_inj (Prod.ext (congrArg (fun t : GSem nD τ sig × ℕ × Fin 3 => t.1.2) h) (congrArg (fun t : GSem nD τ sig × ℕ × Fin 3 => t.2.2) h)))⟩

/-- The barrier cells, live from the start; all others, opened in the region; one token for each duty. -/
abbrev barCells : Finset (GSem nD τ sig) := Finset.univ.map barEmb
abbrev scCells : Finset (GSem nD τ sig) := Finset.univ.map scEmb
abbrev toks : Finset (GSem nD τ sig × ℕ × Fin 3) := Finset.univ.map toEmb

theorem disjoint_cells : Disjoint barCells scCells := by
  rw [Finset.disjoint_left]
  intro g h₁ h₂
  obtain ⟨c, -, rfl⟩ := Finset.mem_map.mp h₁
  obtain ⟨p, -, h⟩ := Finset.mem_map.mp h₂
  have h3 : csem p.2.succ = csem 0 := congrArg Prod.snd h
  exact absurd (csem_inj h3) (Fin.succ_ne_zero _)

theorem all_cells : barCells ∪ scCells = Finset.univ.map allEmb := by
  ext g
  simp only [Finset.mem_map, Finset.mem_univ, true_and, Finset.mem_union]
  constructor
  · rintro (⟨c, rfl⟩ | ⟨p, rfl⟩)
    · exact ⟨(c, 0), rfl⟩
    · exact ⟨(p.1, p.2.succ), rfl⟩
  · rintro ⟨⟨c, i⟩, rfl⟩
    induction i using Fin.cases with
    | zero => exact .inl ⟨c, rfl⟩
    | succ i => exact .inr ⟨(c, i), rfl⟩

theorem invs_eq (I : Dev nD → Ins F) (K : GSem nD τ sig → ℕ) : bigSep (barCells ∪ scCells) (fun g => cellInv ER (kRd I) (K g) g) = (invs I K : sProp (MM F)) := by
  rw [all_cells, BI.bigSep_map]; rfl

/-! ## Handing the tokens round -/

def nbE (d : Fin 3) : Dev nD ≃ Dev nD where
  toFun c := nb c d.val
  invFun c := nb c (opp d.val)
  left_inv c := nb_opp c d
  right_inv c := nb_opp' c d

def nbK : Dev nD × Fin 124 ≃ Dev nD × Fin 124 where
  toFun p := (nb p.1 (dirK p.2.val), p.2)
  invFun p := (nb p.1 (opp (dirK p.2.val)), p.2)
  left_inv p := Prod.ext (nb_opp p.1 ⟨_, dirK_lt p.2⟩) rfl
  right_inv p := Prod.ext (nb_opp' p.1 ⟨_, dirK_lt p.2⟩) rfl

theorem around (d : Fin 3) (Φ : Dev nD → sProp (MM F)) : bigSep Finset.univ Φ = bigSep Finset.univ (fun c => Φ (nb c d.val)) := bigSep_univ_equiv (nbE d) Φ
theorem aroundK (Φ : Dev nD → Fin 124 → sProp (MM F)) : bigSep Finset.univ (fun c => bigSep Finset.univ (Φ c))
    = bigSep Finset.univ (fun c => bigSep Finset.univ (fun k => Φ (nb c (dirK k.val)) k)) := by
  rw [← BI.bigSep_univ_prod (fun p : Dev nD × Fin 124 => Φ p.1 p.2), bigSep_univ_equiv nbK, BI.bigSep_univ_prod]
  rfl

/-- The tokens a chip pays with. -/
def Toks (c : Dev nD) : sProp (MM F) :=
  iprop((dutyTok ER (barC (nb c 1)) 0 0 ∗ dutyTok ER (barC (nb c 0)) 0 1 ∗ dutyTok ER (barC (nb c 2)) 0 2)
    ∗ (dutyTok ER (finC (nb c 1)) 0 0 ∗ dutyTok ER (finC (nb c 0)) 0 1 ∗ dutyTok ER (finC (nb c 2)) 0 2)
    ∗ bigSep (Finset.range 124) (fun k => dutyTok ER (sndC c k) 0 0) ∗ bigSep (Finset.range 124) (fun k => dutyTok ER (rcvC (nb c (dirK k)) k) 0 0))

theorem three (Φ : Dev nD → Fin 3 → sProp (MM F)) : bigSep Finset.univ (fun c => bigSep Finset.univ (Φ c))
    = bigSep Finset.univ (fun c => iprop(Φ (nb c 1) 0 ∗ Φ (nb c 0) 1 ∗ Φ (nb c 2) 2)) := by
  simp only [fin3, bigSep_sep']
  rw [around 1 (fun c => Φ c 0), around 0 (fun c => Φ c 1), around 2 (fun c => Φ c 2)]
  rfl

theorem toks_eq : bigSep toks (fun x => (dutyTok ER x.1 x.2.1 x.2.2 : sProp (MM F))) = bigSep Finset.univ Toks := by
  rw [BI.bigSep_map, BI.bigSep_univ_prod]
  have h (c : Dev nD) := tk_split (F := F) (fun sm j => dutyTok ER ((c : Thread nD τ), sm) 0 j)
  refine (BI.bigSep_congr fun c _ => h c).trans ?_
  unfold Toks
  simp only [rng]
  rw [bigSep_sep', bigSep_sep', bigSep_sep',
    three (fun c j => dutyTok ER (barC c) 0 j), three (fun c j => dutyTok ER (finC c) 0 j), aroundK (fun c k => dutyTok ER (rcvC c k.val) 0 0)]
  refine .trans ?_ (bigSep_sep' _ _ _).symm
  refine congrArg _ ?_
  refine .trans ?_ (bigSep_sep' _ _ _).symm
  refine congrArg _ ?_
  exact (bigSep_sep' _ _ _).symm

/-! ## The credits -/

theorem sum_tally (d : Fin 3) (sm sm' : SemLoc sig) (n : ℕ) (c : Dev nD) :
    ∑ e : Dev nD, (tallyAt ((nb e d.val : Thread nD τ), sm) () n : CellTallies nD τ sig Unit) ((c : Thread nD τ), sm') () = if sm = sm' then n else 0 := by
  rw [← Equiv.sum_comp (nbE d).symm]
  rw [Finset.sum_eq_single c]
  · rw [tallyAt_apply]
    have e : nb ((nbE d).symm c) d.val = c := nb_opp' c d
    rw [e]
    by_cases h : sm = sm'
    · subst h; rw [if_pos ⟨rfl, rfl⟩, if_pos rfl]
    · rw [if_neg (fun h' => h (congrArg Prod.snd h'.1).symm), if_neg h]
  · intro b _ hb
    rw [tallyAt_apply, if_neg]
    intro h'
    have e : nb ((nbE d).symm b) d.val = b := nb_opp' b d
    rw [e] at h'
    exact hb (congrArg (fun g : GSem nD τ sig => g.1.1) h'.1).symm
  · intro h; exact absurd (Finset.mem_univ c) h

theorem sum_barO (c : Dev nD) (sm : SemLoc sig) : ∑ e : Dev nD, barO e 0 ((c : Thread nD τ), sm) ()
    = (if SemLoc.reg finS = sm then 3 else 0) + (∑ k ∈ Finset.range 124, if SemLoc.dma (dsem (rcvK k)) = sm then N else 0) + (if SemLoc.reg barS = sm then 3 else 0) := by
  have h (e : Dev nD) : barO e 0 ((c : Thread nD τ), sm) ()
      = (tallyAt (finC (nb e 2)) () 1 : CellTallies nD τ sig Unit) ((c : Thread nD τ), sm) () + (tallyAt (finC (nb e 0)) () 1 : CellTallies nD τ sig Unit) ((c : Thread nD τ), sm) ()
        + (tallyAt (finC (nb e 1)) () 1 : CellTallies nD τ sig Unit) ((c : Thread nD τ), sm) ()
        + (∑ k ∈ Finset.range 124, (tallyAt (rcvC (nb e (dirK k)) k) () N : CellTallies nD τ sig Unit) ((c : Thread nD τ), sm) ())
        + (tallyAt (barC (nb e 2)) () 1 : CellTallies nD τ sig Unit) ((c : Thread nD τ), sm) () + (tallyAt (barC (nb e 0)) () 1 : CellTallies nD τ sig Unit) ((c : Thread nD τ), sm) ()
        + (tallyAt (barC (nb e 1)) () 1 : CellTallies nD τ sig Unit) ((c : Thread nD τ), sm) () := by
    unfold barO owed finO
    rw [if_pos (by decide), if_pos (by decide), if_pos (by decide), if_pos (by decide), if_pos (by decide), if_pos (by decide), ← Finset.range_eq_Ico]
    simp only [Pi.add_apply, Finsupp.add_apply, Finset.sum_apply, Finsupp.finsetSum_apply]
  rw [Finset.sum_congr rfl fun e _ => h e]
  simp only [Finset.sum_add_distrib]
  have hs (sm₀ : SemLoc sig) (n : ℕ) (d : Fin 3) := sum_tally d sm₀ sm n c
  have h0 (sm₀ : SemLoc sig) (n : ℕ) := hs sm₀ n 0
  have h1 (sm₀ : SemLoc sig) (n : ℕ) := hs sm₀ n 1
  have h2 (sm₀ : SemLoc sig) (n : ℕ) := hs sm₀ n 2
  simp only [Fin.val_zero, Fin.val_one, Fin.val_two] at h0 h1 h2
  have hr (k : ℕ) (hk : k ∈ Finset.range 124) : ∑ e : Dev nD, (tallyAt (rcvC (nb e (dirK k)) k) () N : CellTallies nD τ sig Unit) ((c : Thread nD τ), sm) ()
      = if SemLoc.dma (dsem (rcvK k)) = sm then N else 0 := by
    have hd : dirK k < 3 := dirK_lt ⟨k, Finset.mem_range.mp hk⟩
    generalize N = n
    exact hs (.dma (dsem (rcvK k))) n ⟨dirK k, hd⟩
  rw [Finset.sum_comm, Finset.sum_congr rfl hr,
    h0, h1, h2, h0, h1, h2]
  by_cases hf : SemLoc.reg finS = sm
  · subst hf
    have hb : ¬ (SemLoc.reg barS : SemLoc sig) = SemLoc.reg finS := by decide
    simp only [if_true, if_neg hb]
    try omega
  · rw [if_neg hf, if_neg hf]
    split <;> omega

theorem credit_of (c : Dev nD) (sm : SemLoc sig) (n : ℕ) (h : ∑ e : Dev nD, barO e 0 ((c : Thread nD τ), sm) () = n) :
    (cred (tallyOn ((c : Thread nD τ), sm) (launchCredit (Pipeline.owing fun e => barO e 0) 0 ((c : Thread nD τ), sm))) : sProp (MM F))
      = cred (tallyAt ((c : Thread nD τ), sm) () n) := by
  unfold tallyAt
  refine congrArg _ (congrArg _ (Finsupp.ext fun u => ?_))
  cases u
  rw [Pipeline.launchCredit_owing, Finsupp.single_eq_same, h]

theorem credits (c : Dev nD) : (Pipeline.launchCred (fun e => barO e 0) c : sProp (MM F))
    ⊢ iprop(cred (tallyAt (barC c) () 3) ∗ cred (tallyAt (finC c) () 3) ∗ bigSep (Finset.range 124) (fun k => cred (tallyAt (rcvC c k) () N))) := by
  unfold Pipeline.launchCred
  refine (BI.bigSep_subset (t := {SemLoc.reg barS} ∪ ({SemLoc.reg finS} ∪ Finset.univ.map rEmb)) (Finset.subset_univ _)).trans ?_
  rw [BI.bigSep_union, BI.bigSep_union, BI.bigSep_singleton, BI.bigSep_singleton, BI.bigSep_map]
  · rw [rng]
    refine BIClass.sep_mono (Entails.of_eq (credit_of c _ 3 ?_)) (BIClass.sep_mono (Entails.of_eq (credit_of c _ 3 ?_)) (bigSep_mono fun k _ => Entails.of_eq (credit_of c _ N ?_)))
    · rw [sum_barO, if_neg (by decide), if_pos rfl, Finset.sum_eq_zero (fun k _ => if_neg (fun h => by cases h))]; try rfl
    · rw [sum_barO, if_pos rfl, if_neg (by decide), Finset.sum_eq_zero (fun k _ => if_neg (fun h => by cases h))]; try rfl
    · rw [sum_barO, if_neg (fun h => by cases h), if_neg (fun h => by cases h), Finset.sum_eq_single k.val]
      · rw [if_pos (show SemLoc.dma (dsem (rcvK k.val)) = rEmb k from rfl)]; omega
      · intro j hj hne
        exact if_neg (fun h => hne (congrArg Fin.val (rSem_inj (a₁ := ⟨j, Finset.mem_range.mp hj⟩) (a₂ := k) h)))
      · intro h; exact absurd (Finset.mem_range.mpr k.isLt) h
  · rw [Finset.disjoint_left]
    intro sm h1 h2
    rw [Finset.mem_singleton] at h1
    subst h1
    obtain ⟨j, -, hj⟩ := Finset.mem_map.mp h2; cases hj
  · rw [Finset.disjoint_left]
    intro sm h1 h2
    rw [Finset.mem_singleton] at h1
    subst h1
    rcases Finset.mem_union.mp h2 with h2 | h2
    · exact absurd (Finset.mem_singleton.mp h2) (by decide)
    · obtain ⟨j, -, hj⟩ := Finset.mem_map.mp h2; cases hj

end Cert.Proof
-- ==== Proof.Launch.lean ====
/-
  The launch: cells, tokens and credits handed out; the region entered and left; the whole run.
-/
module

public import proofs.«01_k».proof.Proof.Seeds

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-- What the body's run is. -/
abbrev RunBody (F : FTy → Type) [FloatOps F] : Prop := ∀ (I : Dev nD → Ins F) (K : GSem nD τ sig → ℕ) (c : Dev nD) (f0 : S2x4x128x4096.Idx → Elt F .f32) (o : S2x128x512.Idx → Elt F .f32),
  Tr c (Start I K c f0 o) (cc0_body XR (Memref.isWhole_whole _) WQ (Memref.isWhole_whole _) WK (Memref.isWhole_whole _) WV (Memref.isWhole_whole _) WO (Memref.isWhole_whole _) NB (Memref.isWhole_whole _) CW (Memref.isWhole_whole _) CC (Memref.isWhole_whole _) OUT (Memref.isWhole_whole _) KV (Memref.isWhole_whole _) SR (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scoped0) (Done I c f0 (outC I c o)) PUnit.unit

/-! ## What a chip holds before its region -/

/-- What every chip may consult. -/
def records (κ : GSem nD τ sig → ℕ) : sProp (MM F) :=
  iprop(invs (insOf m) κ ∗ bigSep barCells fun g => reached ER g 0)

instance records_persistent (κ : GSem nD τ sig → ℕ) : BI.Persistent (records m κ) := by unfold records invs; infer_instance

theorem reached_at (c : Dev nD) : (bigSep barCells fun g => (reached ER g 0 : sProp (MM F))) ⊢ reached ER (barC c) 0 :=
  bigSep_elim (Finset.mem_map_of_mem barEmb (Finset.mem_univ c))

/-- What is the chip's own: its place at the barrier, its cells to open, the tokens it pays with. -/
def Lin (c : Dev nD) : sProp (MM F) :=
  iprop(atPos ER (barC c) 0 ∅ 0 ∗ bigSep Finset.univ (fun i : Fin 249 => openTok ER ((c : Thread nD τ), osem i)) ∗ Toks c)

/-- The credits the chip waits with. -/
def Creds (c : Dev nD) : sProp (MM F) :=
  iprop(cred (tallyAt (barC c) () 3) ∗ cred (tallyAt (finC c) () 3) ∗ bigSep (Finset.range 124) (fun k => cred (tallyAt (rcvC c k) () N)))

def Tk (c : Dev nD) : sProp (MM F) := iprop((∃ κ, records m κ) ∗ Lin c ∗ Creds c)
def Xk (c : Dev nD) : sProp (MM F) := iprop(∃ K, Ghost m K c)
def Yk (c : Dev nD) : sProp (MM F) := semVal (barC c) 0

/-! ## The cells opened -/

theorem open_one (K : GSem nD τ sig → ℕ) (c : Dev nD) (i : Fin 249) :
    iprop(invs (insOf m) K ∗ (openTok ER ((c : Thread nD τ), osem i) ∗ semVal ((c : Thread nD τ), osem i) 0))
      ⊢ (|={Set.univ}=> iprop(atPos ER ((c : Thread nD τ), osem i) 0 ∅ 0 ∗ reached ER ((c : Thread nD τ), osem i) 0) : sProp (MM F)) := by
  iintro ⟨#Hi, Ho, Hv⟩
  iapply (Rounds.cell_open ER (kRd (insOf m)) (g := ((c : Thread nD τ), osem i)) (Set.mem_univ (K ((c : Thread nD τ), osem i))))
  isplitr
  · iapply (invs_get (I := insOf m) (K := K) i.succ rfl c)
    iexact Hi
  isplitl [Ho] <;> iassumption

theorem open_all (K : GSem nD τ sig → ℕ) (c : Dev nD) :
    iprop(invs (insOf m) K ∗ (bigSep Finset.univ (fun i : Fin 249 => openTok ER ((c : Thread nD τ), osem i)) ∗ Pipeline.ownSems0 osem c))
      ⊢ (|={Set.univ}=> iprop(bigSep Finset.univ (fun i : Fin 249 => atPos ER ((c : Thread nD τ), osem i) 0 ∅ 0)
          ∗ bigSep Finset.univ (fun i : Fin 249 => reached ER ((c : Thread nD τ), osem i) 0)) : sProp (MM F)) := by
  unfold Pipeline.ownSems0
  rw [← bigSep_sep' Finset.univ (fun i : Fin 249 => (openTok ER ((c : Thread nD τ), osem i) : sProp (MM F))),
    ← bigSep_sep' Finset.univ (fun i : Fin 249 => (atPos ER ((c : Thread nD τ), osem i) 0 ∅ 0 : sProp (MM F)))]
  exact (bigSep_with_persistent (R := invs (insOf m) K) fun i _ => open_one m K c i).trans (bigSep_fupd _ _)

theorem hopen (c : Dev nD) : iprop(Tk m c ∗ Pipeline.ownSems0 osem c ∗ levAts L lv) ⊢ (|={Set.univ}=> Xk m c : sProp (MM F)) := by
  unfold Tk Lin Creds Toks records Xk
  iintro ⟨⟨⟨%K, #Hi, #Hr⟩, ⟨HaB, Ho, ⟨B1, B0, B2⟩, ⟨F1, F0, F2⟩, TS, TR⟩, HcB, HcF, HcR⟩, Hv, #HL⟩
  imod (open_all m K c) $$ [Ho Hv] with ⟨Ha, Hc⟩
  · isplitr; · iexact Hi
    isplitl [Ho] <;> iassumption
  imodintro
  ihave Ha := (Entails.of_eq (own_split (fun sm => (atPos ER ((c : Thread nD τ), sm) 0 ∅ 0 : sProp (MM F))))) $$ Ha
  ihave Hc := (Entails.of_eq (own_split (fun sm => (reached ER ((c : Thread nD τ), sm) 0 : sProp (MM F))))) $$ Hc
  icases Ha with ⟨HaF, HaS, HaR⟩
  icases Hc with ⟨HrF, HrS, HrR⟩
  iexists K
  unfold Ghost
  rw [bigSep_sep', bigSep_sep', bigSep_sep']
  isplitr
  · isplitr; · iexact Hi
    iexact HL
  isplitl [TS TR HrS]
  · isplitl [TS]; · iexact TS
    isplitl [TR]; · iexact TR
    iexact HrS
  isplitl [HrR]; · iexact HrR
  isplitl [HaS]; · iexact HaS
  isplitl [HaR HcR]
  · isplitl [HaR]; · iexact HaR
    iexact HcR
  isplitl [HrF]; · iexact HrF
  isplitl [HaF]; · iexact HaF
  isplitl [HcF]; · iexact HcF
  isplitl [F1]; · iexact F1
  isplitl [F0]; · iexact F0
  isplitl [F2]; · iexact F2
  isplitl [HaB]; · iexact HaB
  isplitl [HcB]; · iexact HcB
  isplitl [B1]; · iexact B1
  isplitr; · iapply (reached_at (F := F) (nb c 1)); iexact Hr
  isplitl [B0]; · iexact B0
  isplitr; · iapply (reached_at (F := F) (nb c 0)); iexact Hr
  isplitl [B2]; · iexact B2
  iapply (reached_at (F := F) (nb c 2)); iexact Hr

/-! ## Into the region and out of it -/

abbrev pd : (p : Fin 1) → (c : Dev nD) → Pipeline.Dat τ (Elt F) Unit ℕ UU ℕ (cfgs p) c := fun p => match p with | ⟨0, _⟩ => dat0 m

/-- What the region leaves in its result. -/
def outs : Outs (F := F) := fun _ r c =>
  Function.update (V4 m c) (Proc.devRef .tc main_v8) ((dat0 m c).arrAt 8 cfg0.N) (Proc.devRef .tc r)

theorem hin (c : Dev nD) : iprop(Pipeline.scopedRest (Pipeline.pin (pcfgs (F := F)) adm 0).spec c ∗ (∃ r, prngReg c r) ∗ StableHlo.held (c.tc : Thread nD τ) ∅ (V4 m c) ∗ Xk m c)
    ⊢ (pd m 0 c).Φ 0 := by
  rw [show (pd m 0 c).Φ 0 = (dat0 m c).Φ 0 from rfl, Phi_first, show (Pipeline.pin (pcfgs (F := F)) adm 0).spec = spec0 from rfl, scopedRest0_eq]
  unfold Xk Scr
  iintro ⟨⟨Hkv, Hs⟩, Hp, -, HK⟩
  isplitl [HK]; · iexact HK
  isplitl [Hkv Hs]
  · isplitl [Hkv]; · iexact Hkv
    iexact Hs
  iexact Hp

theorem hout (c : Dev nD) : (pd m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V5 m (outs m) c) ∗ Pipeline.ownSems0 osem c ∗ Yk c) := by
  rw [show (pd m 0 c).Φ (Fin.last _) = (dat0 m c).Φ (Fin.last _) from rfl, Phi_last, show (Pipeline.pin (pcfgs (F := F)) adm 0).spec = spec0 from rfl, scopedRest0_eq]
  unfold Yk Zero Scr
  rw [show (Pipeline.ownSems0 osem c : sProp (MM F)) = _ from own_split (fun sm => (semVal ((c : Thread nD τ), sm) 0 : sProp (MM F)))]
  iintro ⟨Hb, ⟨Hf, Hs, Hr⟩, ⟨Hkv, Hsr⟩, Hp⟩
  isplitl [Hkv Hsr]
  · isplitl [Hkv]; · iexact Hkv
    iexact Hsr
  isplitl [Hp]; · iexact Hp
  isplitr
  · unfold StableHlo.held
    rw [BI.bigSep_empty]
    iempintro
  isplitr [Hb]
  · isplitl [Hf]; · iexact Hf
    isplitl [Hs]; · iexact Hs
    iexact Hr
  iexact Hb

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem barO_pos {c : Dev nD} {g : GSem nD τ sig} {u : Unit} (h : 0 < barO c 0 g u) :
    (∃ c', g = barC c') ∨ (∃ c', g = finC c') ∨ ∃ k, k < 124 ∧ ∃ c', g = rcvC c' k := by
  unfold barO at h
  rw [if_pos (by decide), if_pos (by decide), if_pos (by decide)] at h
  simp only [Finsupp.add_apply, Pi.add_apply] at h
  have e : 0 < owed c 0 g u ∨ 0 < (tallyAt (barC (nb c 2)) () 1 : CellTallies nD τ sig Unit) g u
      ∨ 0 < (tallyAt (barC (nb c 0)) () 1 : CellTallies nD τ sig Unit) g u ∨ 0 < (tallyAt (barC (nb c 1)) () 1 : CellTallies nD τ sig Unit) g u := by omega
  rcases e with h | h | h | h
  · rcases owed_pos _ h with h | ⟨k, -, hk, c', e⟩
    · exact .inr (.inl h)
    · exact .inr (.inr ⟨k, hk, c', e⟩)
  all_goals exact .inl ⟨_, tally_pos h⟩

theorem lvl_pos : ∀ k : Fin 124, 0 < lvlK k.val := by decide +kernel

theorem cutD (c : Dev nD) (t : Fin (cfg0.N + 1)) (g : GSem nD τ sig) (i : Unit) (h : 0 < (dat0 m c).owed t g i) : i ∈ L g ∧ (0 : ℕ) < lv g i := by
  rw [owed_eq] at h
  split at h
  · rcases barO_pos h with ⟨c', rfl⟩ | ⟨c', rfl⟩ | ⟨k, hk, c', rfl⟩
    · exact ⟨by rw [L_tc]; exact Finset.mem_singleton_self _, Nat.one_pos⟩
    · exact ⟨by rw [L_tc]; exact Finset.mem_singleton_self _, show (0 : ℕ) < 20 by decide⟩
    · exact ⟨by rw [show rcvC c' k = ((c' : Thread nD τ), SemLoc.dma (dsem (rcvK k))) from rfl, L_tc]; exact Finset.mem_singleton_self _, by
        have e := lv_rcv (c := c') hk
        cases i
        rw [e]
        exact lvl_pos ⟨k, hk⟩⟩
  · exact absurd h (Nat.lt_irrefl 0)

theorem stage_sem : ∀ (w : Fin 9) (s : Fin (spec0 w).nbuf), ((spec0 w).sem s).val < 9 := by decide +kernel
theorem cutI (c : Dev nD) (w : Fin 9) (s : Fin (spec0 w).nbuf) : lv ((c : Thread nD τ), .dma ((spec0 w).sem s)) () ≤ 0 := by
  obtain ⟨h1, h2⟩ := staging_sems ((spec0 w).sem s) (stage_sem w s)
  show (if kRcv ((spec0 w).sem s).val < 124 then lvlK (kRcv ((spec0 w).sem s).val) else if kSnd ((spec0 w).sem s).val < 124 then 1 else 0) ≤ 0
  rw [h1, h2, if_neg (by decide), if_neg (by decide)]

theorem osem_facts : Pipeline.OwnSemFacts spec0 osem where
  isScoped := by decide +kernel
  inj := osem_inj
  disj k w s h := by
    have hs := stage_sem w s
    rw [show osem k = csem k.succ from rfl] at h
    unfold csem at h
    rw [if_neg (by simp)] at h
    split at h
    · cases h
    · have h1 := congrArg Fin.val (SemLoc.dma.inj h)
      rw [dsem_val (by have := k.succ.isLt; omega)] at h1
      rename_i hne
      have : k.succ.val ≠ 0 := by simp
      omega

theorem outs_eq (c : Dev nD) : V5 m (outs m) c main_v8 = (dat0 m c).arrAt 8 cfg0.N := by
  unfold V5 outs
  rw [Function.update_self, Function.update_self]

theorem arr_other : ∀ w : Fin 9, w ≠ 8 → (spec0 w).isOut = false ∧ Pipeline.arrRef spec0 w ∉ ([main_v8] : List (Ref sig .tc)) := by decide +kernel

theorem arr_end (c : Dev nD) (w : Fin 9) : (dat0 m c).arrAt w cfg0.N = V5 m (outs m) c (Proc.devRef .tc (Pipeline.arrRef spec0 w)) := by
  by_cases h : w = 8
  · subst h
    exact (outs_eq m c).symm
  · obtain ⟨h1, h2⟩ := arr_other w h
    exact (Pipeline.Dat.arrAt_in (dat0 m c) w h1 _).trans (V5_of m (outs m) c (Pipeline.arrRef spec0 w) h2).symm

abbrev arrs : Finset (DevRef τ sig) := Pipeline.arrRefs (τ := τ) spec0
abbrev rest : Finset (DevRef τ sig) := Pipeline.ucRefs τ sig \ arrs

theorem v8_mem : (Proc.devRef .tc main_v8 : DevRef τ sig) ∈ arrs := by
  unfold arrs Pipeline.arrRefs
  exact Finset.mem_map.mpr ⟨main_v8, Finset.mem_image.mpr ⟨8, Finset.mem_univ _, rfl⟩, rfl⟩

theorem rest_same (c : Dev nD) (b : DevRef τ sig) (hb : b ∈ rest \ ∅) : V5 m (outs m) c b = V4 m c b := by
  rw [Finset.sdiff_empty] at hb
  unfold V5
  refine Function.update_of_ne (fun e => ?_) _ _
  subst e
  exact (Finset.mem_sdiff.mp hb).2 v8_mem

set_option backward.isDefEq.respectTransparency.types false in
def reg (hrun : RunBody F) : Pipeline.RegionSeg (pcfgs (F := F)) adm (pd m) () (defs₀ (F := F)) 𝒱₀ L lv 0 :=
  Pipeline.RegionSeg.ofTalk (pcfgs (F := F)) adm (pd m) () defs₀ 𝒱₀ L lv 0 osem osem_facts
    ∅ rest (Finset.empty_subset _) kitP rfl (fun c => (body_ob m hrun c).loose)
    (fun _ => 0) (fun c => barO c 0) (fun c => (owed_first m c).trans (zero_add _).symm) (owed_last m) (fun _ => rfl) (fun c w => share_eq m c w)
    (V4 m) (V5 m (outs m)) (rest_same m)
    (Tk m) Yk (Xk m) Yk (hopen m) (hin m) (hout m)
    (fun c => by iintro H; imodintro; iexact H)
    (fun _ => 0)
    ⟨fun c w s => by rw [L_tc]; exact Finset.mem_singleton_self _, fun c w s => cutI c w s, fun c t g i h => cutD m c t g i h⟩
    (fun _ => iprop(emp))
    (fun _ _ => rfl) (fun c w => arr_end m c w)

/-- What rides beside the buffers. -/
def Rest (c : Dev nD) : sProp (MM F) := iprop(Tk m c ∗ (∃ r, prngReg c r) ∗ ∃ W, owes (c : Thread nD τ) (barO c 0) W)
def Rest' (c : Dev nD) : sProp (MM F) := iprop(semVal (barC c) 0 ∗ ∃ W, owes (c : Thread nD τ) (0 : CellTallies nD τ sig Unit) W)

theorem arrs_sub : arrs ⊆ Pipeline.ucRefs τ sig := Pipeline.arrRefs_sub_ucRefs spec0 winFacts0.arr_unscoped

theorem reg_pre (hrun : RunBody F) (c : Dev nD) : iprop(StableHlo.held (c : Thread nD τ) (Pipeline.ucRefs τ sig) (V4 m c) ∗ Rest m c) ⊢ (reg m hrun).pre c := by
  show _ ⊢ iprop(StableHlo.held (c.tc : Thread nD τ) arrs (V4 m c) ∗ (∃ r, prngReg c r)
    ∗ (StableHlo.held (c.tc : Thread nD τ) rest (V4 m c) ∗ emp) ∗ Tk m c ∗ ∃ Wd, owes (c : Thread nD τ) (0 + barO c 0) Wd)
  rw [zero_add, StableHlo.held_sub_split (c.tc : Thread nD τ) arrs_sub (V4 m c)]
  unfold Rest
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (hrun : RunBody F) (c : Dev nD) : (reg m hrun).post c ⊢ iprop(StableHlo.held (c : Thread nD τ) (Pipeline.ucRefs τ sig) (V5 m (outs m) c) ∗ Rest' c) := by
  show iprop(StableHlo.held (c.tc : Thread nD τ) arrs (V5 m (outs m) c) ∗ (∃ r, prngReg c r)
    ∗ (StableHlo.held (c.tc : Thread nD τ) rest (V5 m (outs m) c) ∗ emp) ∗ Yk c ∗ ∃ Wd, owes (c : Thread nD τ) (0 : CellTallies nD τ sig Unit) Wd) ⊢ _
  rw [StableHlo.held_sub_split (c.tc : Thread nD τ) arrs_sub (V5 m (outs m) c)]
  unfold Yk Rest'
  iintro ⟨Ha, -, ⟨Hr, -⟩, Hb, HO⟩
  isplitl [Ha Hr]
  · isplitl [Ha] <;> iassumption
  isplitl [Hb]; · iexact Hb
  iexact HO

/-! ## The launch -/

def u₀ : UU :=
  (initOf (Pipeline.cells cfgs cellOf_inj) (Pipeline.launchToks cfgs cellOf_inj), launchOf barCells scCells toks)

/-- The launch's resource, kept on one chip until it is dealt out. -/
def onDev (X : sProp (MM F)) (c : Dev nD) : sProp (MM F) := if c = 0 then X else iprop(emp)
theorem bigSep_onDev (X : sProp (MM F)) : bigSep Finset.univ (onDev X) = X := by
  rw [bigSep_univ_at _ (0 : Dev nD), BI.bigSep_congr (s := Finset.univ.erase (0 : Dev nD)) (Ψ := fun _ => (BI.emp : sProp (MM F)))
      fun c hc => by unfold onDev; rw [if_neg (Finset.ne_of_mem_erase hc)]; rfl, BI.bigSep_emp_const]
  unfold onDev; rw [if_pos rfl]
  exact BI.equiv_iff.mp sep_emp

def G₀ : Dev nD → sProp (MM F) := onDev (BI.own (ER (launchOf barCells scCells toks)))

theorem unscopedSems0_eq (c : Dev nD) : (unscopedSems0 c : sProp (MM F)) = semVal (barC c) 0 := by
  unfold unscopedSems0
  rw [show (Finset.univ.filter fun sm : SemLoc sig => ¬ sm.isScoped .tc) = {SemLoc.reg barS} from by decide +kernel, BI.bigSep_singleton]

/-- What of a chip's launch is not of the protocol. -/
def Bundle (c : Dev nD) : sProp (MM F) :=
  iprop(StableHlo.held (c : Thread nD τ) (Pipeline.ucRefs τ sig) (V0 m c) ∗ Creds c ∗ owes (c : Thread nD τ) (barO c 0) ∅ ∗ ∃ r, prngReg c r)

abbrev T₀ (c : Dev nD) : sProp (MM F) := iprop(StableHlo.held (c : Thread nD τ) (Pipeline.ucRefs τ sig) (V0 m c) ∗ Rest m c)
abbrev Tₙ (c : Dev nD) : sProp (MM F) := iprop(StableHlo.held (c : Thread nD τ) (Pipeline.ucRefs τ sig) (V5 m (outs m) c) ∗ semVal (barC c) 0)

theorem T₀_intro (κ : GSem nD τ sig → ℕ) (c : Dev nD) : iprop(records m κ ∗ (Lin c ∗ Bundle m c)) ⊢ T₀ m c := by
  unfold Bundle T₀ Rest Tk
  iintro ⟨#HR, Hl, Hh, Hc, HO, Hp⟩
  isplitl [Hh]; · iexact Hh
  isplitl [Hl Hc]
  · isplitr; · iexists κ; iexact HR
    isplitl [Hl]; · iexact Hl
    iexact Hc
  isplitl [Hp]; · iexact Hp
  iexists ∅; iexact HO

theorem core (c : Dev nD) : iprop(unscopedBufs c (fun b => m ((c : Thread nD τ).loc b)) ∗ unscopedSems0 c
      ∗ owes (c : Thread nD τ) (barO c 0) ∅ ∗ Pipeline.launchCred (fun e => barO e 0) c ∗ prngReg c (ρ c) ∗ G₀ c)
    ⊢ (iprop(Bundle m c ∗ (semVal (barC c) 0 ∗ G₀ c)) : sProp (MM F)) := by
  rw [show unscopedBufs c (fun b => m ((c : Thread nD τ).loc b)) = StableHlo.held (c : Thread nD τ) (Pipeline.ucRefs τ sig) (V0 m c)
    from Pipeline.unscopedBufs_held (Ix := Unit) (Name := ℕ) (U := UU) (Lvl := ℕ) c (V0 m c), unscopedSems0_eq]
  unfold Bundle
  iintro ⟨Hh, Hus, HO, Hcr, Hp, HG⟩
  ihave Hc := (credits (F := F) c) $$ Hcr
  isplitl [Hh Hc HO Hp]
  · isplitl [Hh]; · iexact Hh
    isplitl [Hc]; · unfold Creds; iexact Hc
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (barO c 0) ∅ ∗ Pipeline.launchCred (fun e => barO e 0) c ∗ prngReg c (ρ c) ∗ G₀ c)) ∗ levAts L lv)
      ⊢ (|={Set.univ}=> bigSep Finset.univ (T₀ m) : sProp (MM F)) := by
  have hv : bigSep Finset.univ (fun c : Dev nD => (semVal (barC c) 0 : sProp (MM F))) ⊢ bigSep barCells (fun g => (semVal g 0 : sProp (MM F))) :=
    Entails.of_eq (BI.bigSep_map (s := Finset.univ) barEmb (Φ := fun g : GSem nD τ sig => (semVal g 0 : sProp (MM F)))).symm
  have hat : bigSep barCells (fun g => (atPos ER g 0 ∅ 0 : sProp (MM F))) ⊢ bigSep Finset.univ (fun c : Dev nD => (atPos ER (barC c) 0 ∅ 0 : sProp (MM F))) :=
    Entails.of_eq (BI.bigSep_map (s := Finset.univ) barEmb (Φ := fun g : GSem nD τ sig => (atPos ER g 0 ∅ 0 : sProp (MM F))))
  have hop : bigSep scCells (fun g => (openTok ER g : sProp (MM F)))
      ⊢ bigSep Finset.univ (fun c : Dev nD => bigSep Finset.univ (fun i : Fin 249 => (openTok ER ((c : Thread nD τ), osem i) : sProp (MM F)))) :=
    Entails.of_eq (by rw [BI.bigSep_map, BI.bigSep_univ_prod]; rfl)
  have hinv (κ : GSem nD τ sig → ℕ) : bigSep (barCells ∪ scCells) (fun g => (cellInv ER (kRd (insOf m)) (κ g) g : sProp (MM F))) ⊢ invs (insOf m) κ :=
    Entails.of_eq (invs_eq (insOf m) κ)
  iintro ⟨H, -⟩
  ihave H' := (show (bigSep Finset.univ fun c : Dev nD => iprop(unscopedBufs c (fun b => m ((c : Thread nD τ).loc b)) ∗ unscopedSems0 c
          ∗ owes (c : Thread nD τ) (barO c 0) ∅ ∗ Pipeline.launchCred (fun e => barO e 0) c ∗ prngReg c (ρ c) ∗ G₀ c))
      ⊢ (bigSep Finset.univ fun c : Dev nD => iprop(Bundle m c ∗ (semVal (barC c) 0 ∗ G₀ c)) : sProp (MM F)) from bigSep_mono fun c _ => core m ρ c) $$ H
  ihave H2 := (Entails.of_eq (bigSep_sep' Finset.univ (fun c : Dev nD => Bundle m c) (fun c => iprop(semVal (barC c) 0 ∗ G₀ (F := F) c)))) $$ H'
  icases H2 with ⟨HB, H3⟩
  ihave H4 := (Entails.of_eq (bigSep_sep' Finset.univ (fun c : Dev nD => (semVal (barC c) 0 : sProp (MM F))) (fun c => G₀ (F := F) c))) $$ H3
  icases H4 with ⟨Hv, HG⟩
  ihave Hu := (show bigSep Finset.univ (G₀ (F := F)) ⊢ BI.own (ER (launchOf barCells scCells toks)) from
    Entails.of_eq (bigSep_onDev (F := F) (BI.own (ER (launchOf barCells scCells toks))))) $$ HG
  imod (Rounds.fund_launch ER (kRd (insOf m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(Lin c ∗ Bundle m c)) fun c _ => T₀_intro m κ c)
  isplitr
  · unfold records
    isplitr; · iapply (hinv κ); iexact Hinv
    iexact Hr
  iapply (Entails.of_eq (bigSep_sep' Finset.univ (fun c : Dev nD => (Lin c : sProp (MM F))) (fun c => Bundle m c)).symm)
  isplitr [HB]
  · unfold Lin
    rw [bigSep_sep', bigSep_sep']
    isplitl [Hat]; · iapply hat $$ Hat
    isplitl [Hopen]; · iapply hop $$ Hopen
    iapply (Entails.of_eq (toks_eq (F := F))) $$ Htok
  · iexact HB

theorem unscoped_eq : ∀ sm : SemLoc sig, sm.isScoped .tc = false → sm = .reg barS := by decide +kernel

/-- What a finished machine holds. -/
abbrev Fin1 (c : Dev nD) (s : MemSt nD τ sig (Elt F)) : Prop :=
  (s.mem ((c.tc : Thread nD τ).loc main_arg0) = m ((c.tc : Thread nD τ).loc main_arg0) ∧ s.mem ((c.tc : Thread nD τ).loc main_arg1) = m ((c.tc : Thread nD τ).loc main_arg1)
    ∧ s.mem ((c.tc : Thread nD τ).loc main_arg2) = m ((c.tc : Thread nD τ).loc main_arg2) ∧ s.mem ((c.tc : Thread nD τ).loc main_arg3) = m ((c.tc : Thread nD τ).loc main_arg3)
    ∧ s.mem ((c.tc : Thread nD τ).loc main_arg4) = m ((c.tc : Thread nD τ).loc main_arg4)) ∧ s.mem ((c.tc : Thread nD τ).loc main_v8) = (dat0 m c).arrAt 8 cfg0.N

set_option backward.isDefEq.respectTransparency.types false in
/-- The run, given the body's. -/
theorem run_of (hrun : RunBody F) : θ_run defs (onTc (τ := τ) (main (F := F))) ⟨m, fun _ => 0, ρ⟩
    (fun r => (∀ c : Dev nD, Fin1 m c r.2) ∧ r.2.sem = fun _ => 0) := by
  refine Pipeline.θ_run_regions_kit_dev_sems (pcfgs (F := F)) adm (pd m) () cellOf_inj EP defs₀ 𝒱₀ L lv m ρ main
    (segs m 𝒱₀ L lv (fun _ => Rest m) () (pd m) (reg m hrun))
    (fun c Q => by
      rewrite [main_chain c, Pipeline.Seg.run_eq_chain,
        show (segs m 𝒱₀ L lv (fun _ => Rest m) () (pd m) (reg m hrun) c).map Pipeline.Seg.prog = [
          StableHlo.seq (hostOps0 c),
          StableHlo.seq hostOps0_1,
          StableHlo.seq hostOps0_2,
          StableHlo.seq hostOps0_3,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (fun c => barO c 0) (fun g h => if_neg h) G₀ u₀ ?_ (T₀ := T₀ m) (Tₙ := Tₙ m)
    (hch := fun c => ⟨.rfl, .rfl, .rfl, .rfl, reg_pre m hrun c, (reg_post m hrun c).trans ?_⟩)
    (hinit := init m ρ) (QY := fun c s => Fin1 m c s ∧ s.sem (barC c) = 0)
    (hfin := fun c s' => ?_)
    (hQ := fun s h hs => ⟨fun c => (h c).1, sem_eq_zero hs fun c sm hsm => by
        obtain rfl := unscoped_eq sm hsm
        exact (h c).2⟩)
  · unfold u₀ G₀
    iintro Hu
    ihave H := (ownU_pair _ _) $$ Hu
    icases H with ⟨HP, HX⟩
    imodintro
    isplitl [HP]; · iexact HP
    rw [bigSep_onDev]; iexact HX
  · unfold Rest'
    show _ ⊢ iprop(Tₙ m c ∗ ∃ W, owes (c : Thread nD τ) (0 : CellTallies nD τ sig Unit) W)
    iintro ⟨Hh, Hb, HO⟩
    isplitr [HO]
    · isplitl [Hh] <;> iassumption
    · iexact HO
  · dsimp only [Tₙ]
    unfold StableHlo.held
    iintro ⟨⟨Hh, Hb⟩, HSI⟩
    icombine HSI Hb gives %hb
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨⟨⟨(h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c)⟩,
        (h (Proc.devRef .tc main_v8) (Finset.mem_filter.mpr ⟨StableHlo.devRef_mem_tcRefs main_v8, by decide⟩)).trans (outs_eq m c)⟩, by simpa using hb⟩
    · iexact HSI

end Cert.Proof
-- ==== Proof.Spec.lean ====
/-
  The mathematics of the kernel over the real numbers: the projections, the rotation by position, the softmax
  weights and the projected result, on arrays indexed by natural numbers.
-/
module

public import Idealize.ShloMosaic.PureOps.Ideal
public import Mathlib.Analysis.SpecialFunctions.Pow.Real
public import Mathlib.Analysis.SpecialFunctions.Trigonometric.Basic

@[expose] public section

noncomputable section

namespace Cert.Proof

open Idealize.ShloMosaic

/-- The angle of position `s` at the pair of columns `k` of a head. -/
def angle (s k : ℕ) : ℝ := (s : ℝ) * Real.exp ((k : ℝ) * (-(1 / 32) * Real.log 10000))
def proj (X : ℕ → ℕ → ℕ → ℝ) (W : ℕ → ℕ → ℝ) (b s e : ℕ) : ℝ := ∑ d : Fin 512, X b s d.val * W d.val e
/-- A row of a projection rotated by its position. -/
def rotd (f : ℕ → ℝ) (s e : ℕ) : ℝ :=
  f e * Real.cos (angle s (e % 64 / 2)) + (if e % 2 = 0 then -f (e + 1) else f (e - 1)) * Real.sin (angle s (e % 64 / 2))
def score (Q K : ℕ → ℕ → ℕ → ℝ) (b h i j : ℕ) : ℝ := (∑ d : Fin 64, Q b i (64 * h + d.val) * K b j (64 * h + d.val)) * (1 / 8)
/-- The softmax weights applied to the values. -/
def mix (S : ℕ → ℕ → ℕ → ℕ → ℝ) (V : ℕ → ℕ → ℕ → ℝ) (b i e : ℕ) : ℝ :=
  (∑ j : Fin 4096, Real.exp (S b (e / 64) i j.val) * V b j.val e) / ∑ j : Fin 4096, Real.exp (S b (e / 64) i j.val)
def result (C : ℕ → ℕ → ℕ → ℝ) (W : ℕ → ℕ → ℝ) (b i o : ℕ) : ℝ := ∑ e : Fin 256, C b i e.val * W e.val o

/-- The kernel's mathematics, whole. -/
def attn (X : ℕ → ℕ → ℕ → ℝ) (Wq Wk Wv Wo : ℕ → ℕ → ℝ) : ℕ → ℕ → ℕ → ℝ :=
  result (mix (score (fun b s => rotd (proj X Wq b s) s) (fun b s => rotd (proj X Wk b s) s)) (proj X Wv)) Wo

theorem coe_sum {ι : Type} [Fintype ι] (f : ι → ℝ) : ∑ i, ((f i : ℝ) : EReal) = ((∑ i, f i : ℝ) : EReal) := by
  classical
  refine Finset.induction_on (Finset.univ : Finset ι) ?_ fun a s ha ih => ?_
  · simp
  · rw [Finset.sum_insert ha, Finset.sum_insert ha, ih, EReal.coe_add]

theorem fold_max {n : ℕ} (f : Fin (n + 1) → ℝ) : ∃ M : ℝ, (Finset.univ.fold max ⊥ fun i => ((f i : ℝ) : EReal)) = M := by
  obtain ⟨i, _, hi⟩ := Finset.exists_mem_eq_sup (Finset.univ : Finset (Fin (n + 1))) ⟨0, Finset.mem_univ _⟩ fun i => ((f i : ℝ) : EReal)
  exact ⟨f i, hi⟩

theorem div_coe' (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

theorem ofBits_10000 : Ideal.ofBits .f32 0x461C4000#32 = ((10000 : ℝ) : EReal) := by
  simp [Ideal.ofBits, Ideal.ieee, ← EReal.coe_mul]; norm_num
theorem ofBits_64 : Ideal.ofBits .f32 0x42800000#32 = ((64 : ℝ) : EReal) := by
  simp [Ideal.ofBits, Ideal.ieee, ← EReal.coe_mul]; norm_num
theorem ofBits_1 : Ideal.ofBits .f32 0x3F800000#32 = ((1 : ℝ) : EReal) := by
  simp [Ideal.ofBits, Ideal.ieee, ← EReal.coe_mul]; norm_num
theorem ofBits_eighth : Ideal.ofBits .f32 0x3E000000#32 = ((1 / 8 : ℝ) : EReal) := by
  simp [Ideal.ofBits, Ideal.ieee, ← EReal.coe_mul]; norm_num
theorem ofBits_neg32 : Ideal.ofBits .f32 0xBD000000#32 = ((-(1 / 32) : ℝ) : EReal) := by
  simp [Ideal.ofBits, Ideal.ieee, ← EReal.coe_mul]; norm_num
theorem ofBits_bot : Ideal.ofBits .f32 0xFF800000#32 = ⊥ := by
  simp [Ideal.ofBits, Ideal.ieee]
/-- The kernel's starting maximum is a finite number. -/
theorem ofBits_low : ∃ M : ℝ, Ideal.ofBits .f32 0xF149F2CA#32 = (M : EReal) := by
  simp [Ideal.ofBits, Ideal.ieee]; exact ⟨_, rfl⟩

/-- A softmax is the same from any real shift. -/
theorem softmax_shift {ι : Type} [Fintype ι] (S V : ι → ℝ) (M : ℝ) :
    (∑ j, Real.exp (S j - M) * V j) / ∑ j, Real.exp (S j - M) = (∑ j, Real.exp (S j) * V j) / ∑ j, Real.exp (S j) := by
  have h : ∀ j, Real.exp (S j - M) = Real.exp (-M) * Real.exp (S j) := fun j => by rw [← Real.exp_add]; ring_nf
  simp_rw [h, mul_assoc, ← Finset.mul_sum]
  exact mul_div_mul_left _ _ (Real.exp_ne_zero _)

theorem pow_angle (k : ℕ) : (1 : ℝ) / Real.rpow 10000 (((2 * k : ℕ) : ℝ) / 64) = Real.exp ((k : ℝ) * (-(1 / 32) * Real.log 10000)) := by
  show 1 / ((10000 : ℝ) ^ (((2 * k : ℕ) : ℝ) / 64)) = _
  rw [Real.rpow_def_of_pos (by norm_num), one_div, ← Real.exp_neg]
  congr 1
  push_cast
  ring

end Cert.Proof

end
-- ==== Proof.KerVal.lean ====
/-
  The kernel's result block as the real numbers it computes.
-/
module

public import proofs.«01_k».proof.Proof.Protocol
public import proofs.«01_k».proof.Proof.Spec
public import Idealize.ShloMosaic.Lib.Pointwise

@[expose] public section

set_option maxRecDepth 16384

noncomputable section

namespace Cert.Proof.Ker

open Cert.KernelIdeal Cert.KernelIdeal.Gen
open Idealize.ShloMosaic

/-! ## The pieces of the body, as functions of vectors -/

/-- A block of activations times a weight. -/
def mm (w : Vec Ideal S512x256 .bf16) (x : Vec Ideal S1x128x512 .bf16) : FVec Ideal S128x256 .f32 := k0_pay11 w x
/-- The neighbour in the pair of columns, with the rotation's sign. -/
def turn (t : FVec Ideal S128x256 .f32) : FVec Ideal S128x256 .f32 :=
  select evT (subf (broadcast S128x256 (Scalar.ofBits .f32 0x00000000#32))
      (concatenate S128x256 1 [⟨S128x255, extractStridedSlice S128x255 ![0, 1] t slices_S128x256_o0_1_S128x255⟩,
        ⟨S128x1, extractStridedSlice S128x1 ![0, 0] t slices_S128x256_o0_0_S128x1⟩] concatenates_S128x255_S128x1_S128x256_d1))
    (concatenate S128x256 1 [⟨S128x1, extractStridedSlice S128x1 ![0, 255] t slices_S128x256_o0_255_S128x1⟩,
        ⟨S128x255, extractStridedSlice S128x255 ![0, 0] t slices_S128x256_o0_0_S128x255⟩] concatenates_S128x1_S128x255_S128x256_d1)
def rope (c : Dev nD) (t : FVec Ideal S128x256 .f32) : FVec Ideal S128x256 .f32 :=
  addf (mulf t (cosT c)) (mulf (turn t) (sinT c))
/-- The batch row's activations. -/
def xB (I : Ins Ideal) (b : ℕ) : Vec Ideal S1x128x512 .bf16 := if b = 0 then xB0 I else xB1 I

theorem ownP_k (I : Dev nD → Ins Ideal) (c : Dev nD) (b : ℕ) :
    ownP I c b 0 = shapeCast S1x128x256 (truncf .bf16 (rope c (mm (I c).wk (xB (I c) b))) bitsLt_bf16_f32) shapeCasts_S128x256_S1x128x256 := by
  unfold ownP xB
  by_cases h : b = 0
  · simp only [h, if_true]; rfl
  · simp only [h, if_true, if_false]; rfl
theorem ownP_v (I : Dev nD → Ins Ideal) (c : Dev nD) (b : ℕ) :
    ownP I c b 1 = shapeCast S1x128x256 (truncf .bf16 (mm (I c).wv (xB (I c) b)) bitsLt_bf16_f32) shapeCasts_S128x256_S1x128x256 := by
  unfold ownP xB
  by_cases h : b = 0
  · simp only [h, if_true, one_ne_zero, if_false]; rfl
  · simp only [h, one_ne_zero, if_false]; rfl
theorem qv_eq (I : Dev nD → Ins Ideal) (c : Dev nD) (b : ℕ) :
    qv I c b = truncf .bf16 (mulf (rope c (mm (I c).wq (xB (I c) b))) (broadcast S128x256 (Scalar.ofBits .f32 0x3E000000#32))) bitsLt_bf16_f32 := by
  unfold qv xB
  by_cases h : b = 0
  · simp only [h, if_true]; rfl
  · simp only [h, if_false]; rfl

/-- The scores of one head against one block of keys, as a matrix. -/
def scD (q : FVec Ideal S128x256 .bf16) (kv : Vec Ideal S1x128x64 .bf16) (hh : ℕ) : FVec Ideal S128x128 .f32 :=
  if hh = 0 then k0_pay148 q kv else if hh = 1 then k0_pay151 q kv else if hh = 2 then k0_pay154 q kv else k0_pay157 q kv
theorem scF_eq (q : FVec Ideal S128x256 .bf16) (kv : Vec Ideal S1x128x64 .bf16) (hh : ℕ) :
    scF q kv hh = shapeCast S1x1x128x128 (scD q kv hh) shapeCasts_S128x128_S1x1x128x128 := by
  unfold scF scD
  split_ifs <;> rfl
theorem mx_succ (I : Dev nD → Ins Ideal) (c : Dev nD) (b hh n : ℕ) :
    mx I c b hh (n + 1) = k0_pay156 (mx I c b hh n) (scD (qv I c b) (kvBlk I b (org c.val (relS n)) (64 * hh)) hh) := by
  rw [mx]
  unfold scD
  split_ifs <;> rfl

/-- One head's result. -/
def hd (m : FVec Ideal S128x1 .f32) (s : Vec Ideal S1x1x128x4096 .f32) (v : Vec Ideal S1x4096x64 .bf16) : FVec Ideal S128x64 .f32 := k0_pay843 m s v
/-- The heads together, projected. -/
def fin (wo : Vec Ideal S256x512 .bf16) (h0 h1 h2 h3 : FVec Ideal S128x64 .f32) : FVec Ideal S1x128x512 .f32 :=
  shapeCast S1x128x512 (matmul dot_S128x256_S256x512_S128x512_1_0_0_1_n_n none
    (truncf .bf16 (concatenate S128x256 1 [⟨S128x64, h0⟩, ⟨S128x64, h1⟩, ⟨S128x64, h2⟩, ⟨S128x64, h3⟩] concatenates_S128x64_S128x64_S128x64_S128x64_S128x256_d1) bitsLt_bf16_f32)
    (k0_pay842 (F := Ideal) wo) (constant S128x512 .f32 0x00000000#32)) shapeCasts_S128x512_S1x128x512
def hdOf (I : Dev nD → Ins Ideal) (c : Dev nD) (b hh : ℕ) : FVec Ideal S128x64 .f32 := hd (mx I c b hh 32) (sRow I c b hh) (kvCol I b (256 + 64 * hh))

set_option maxHeartbeats 1000000 in
theorem outW_eq (I : Dev nD → Ins Ideal) (c : Dev nD) (b : ℕ) (hb : b < 2) :
    outW I c b = fin (I c).wo (hdOf I c b 0) (hdOf I c b 1) (hdOf I c b 2) (hdOf I c b 3) := by
  obtain rfl | rfl : b = 0 ∨ b = 1 := by omega
  · rfl
  · rfl

/-! ## Their values -/

theorem sitofp_nat (n : ℕ) (h : n < 2147483648) : FloatOps.sitofp (F := Ideal) .f32 (BitVec.ofNat 32 n) = (((n : ℕ) : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

theorem mm_val (x : Vec Ideal S1x128x512 .bf16) (w : Vec Ideal S512x256 .bf16) (X : ℕ → ℕ → ℝ) (W : ℕ → ℕ → ℝ)
    (hx : ∀ p d, x (ix3 0 p d) = ((X p.val d.val : ℝ) : EReal)) (hw : ∀ d e, w (ix2 d e) = ((W d.val e.val : ℝ) : EReal))
    (p : Fin 128) (e : Fin 256) : mm w x (ix2 p e) = ((∑ d : Fin 512, X p.val d.val * W d.val e.val : ℝ) : EReal) := by
  pointwise [mm, k0_pay11, k0_pay10, k0_pay8]
  simp only [hx, hw, ← EReal.coe_mul, coe_sum]

/-- The pair of columns of column `e`, as the kernel computes it. -/
theorem half_word : ∀ e : Fin 256, Scalar.select
    (IntOp.andi
      (IntOp.cmpi CmpIPredicate.ne
        (IntOp.subi (BitVec.setWidth 32 (IntOp.cmpi CmpIPredicate.sgt (IntOp.remsi ArithUnit.vector (BitVec.ofNat 32 e.val) 64#32) 0#32))
          (BitVec.setWidth 32 (IntOp.cmpi CmpIPredicate.slt (IntOp.remsi ArithUnit.vector (BitVec.ofNat 32 e.val) 64#32) 0#32)))
        v29W)
      (IntOp.cmpi CmpIPredicate.ne (IntOp.remsi ArithUnit.vector (IntOp.remsi ArithUnit.vector (BitVec.ofNat 32 e.val) 64#32) 2#32) 0#32))
    (IntOp.subi (IntOp.divsi ArithUnit.vector (IntOp.remsi ArithUnit.vector (BitVec.ofNat 32 e.val) 64#32) 2#32) 1#32)
    (IntOp.divsi ArithUnit.vector (IntOp.remsi ArithUnit.vector (BitVec.ofNat 32 e.val) 64#32) 2#32) = BitVec.ofNat 32 (e.val % 64 / 2) := by
  decide +kernel
theorem even_word : ∀ e : Fin 256, IntOp.cmpi CmpIPredicate.eq (IntOp.remsi ArithUnit.vector (BitVec.ofNat 32 e.val) 2#32) 0#32
    = if e.val % 2 = 0 then 1#1 else 0#1 := by
  decide +kernel
theorem chip_word : ∀ c : Fin 32, Scalar.muli (v2W c) 128#32 = BitVec.ofNat 32 (128 * c.val) := by
  decide +kernel

theorem ang_val (c : Dev nD) (p : Fin 128) (e : Fin 256) :
    k0_pay4 (F := Ideal) (v2W c) k0_pay1 2#32 k0_pay2 k0_pay3 v29W (ix2 p e) = ((angle (128 * c.val + p.val) (e.val % 64 / 2) : ℝ) : EReal) := by
  pointwise [k0_pay4, k0_pay1, k0_pay2, k0_pay3]
  rw [half_word e, chip_word c, show IntOp.addi (BitVec.ofNat 32 p.val) (BitVec.ofNat 32 (128 * c.val)) = BitVec.ofNat 32 (128 * c.val + p.val) from by
      rw [Nat.add_comm]; exact (BitVec.ofNat_add _ _).symm,
    sitofp_nat _ (by have : c.val < 32 := c.isLt; omega), sitofp_nat _ (by omega), ofBits_10000, ofBits_neg32]
  have hl : Scalar.log (F := Ideal) (φ := .f32) ((10000 : ℝ) : EReal) = ((Real.log 10000 : ℝ) : EReal) :=
    show (if (10000 : ℝ) ≤ 0 then ⊥ else ((Real.log 10000 : ℝ) : EReal)) = _ from if_neg (by norm_num)
  rw [hl]
  rw [← EReal.coe_mul, ← EReal.coe_mul]
  show _ * ((Real.exp _ : ℝ) : EReal) = _
  rw [← EReal.coe_mul]
  rfl

theorem turn_val (t : FVec Ideal S128x256 .f32) (T : ℕ → ℕ → ℝ) (ht : ∀ p e, t (ix2 p e) = ((T p.val e.val : ℝ) : EReal)) (p : Fin 128) (e : Fin 256) :
    turn t (ix2 p e) = (((if e.val % 2 = 0 then -T p.val (e.val + 1) else T p.val (e.val - 1)) : ℝ) : EReal) := by
  pointwise [turn, evT, k0_pay7]
  rw [even_word]
  by_cases h : e.val % 2 = 0
  · have h1 : e.val < 255 := by omega
    have h2 : 1 + e.val = e.val + 1 := by omega
    simp only [h, if_true, h1, dite_true, ht, h2, zero_sub]
    rfl
  · have h1 : ¬ e.val < 1 := by omega
    simp only [h, if_false, h1, dite_false, ht]
    rfl

theorem rope_val (c : Dev nD) (t : FVec Ideal S128x256 .f32) (T : ℕ → ℕ → ℝ) (ht : ∀ p e, t (ix2 p e) = ((T p.val e.val : ℝ) : EReal)) (p : Fin 128) (e : Fin 256) :
    rope c t (ix2 p e) = ((rotd (T p.val) (128 * c.val + p.val) e.val : ℝ) : EReal) := by
  have h1 : rope c t (ix2 p e) = t (ix2 p e) * Ideal.cos (k0_pay4 (F := Ideal) (v2W c) k0_pay1 2#32 k0_pay2 k0_pay3 v29W (ix2 p e))
      + turn t (ix2 p e) * Ideal.sin (k0_pay4 (F := Ideal) (v2W c) k0_pay1 2#32 k0_pay2 k0_pay3 v29W (ix2 p e)) := rfl
  rw [h1, ang_val, turn_val t T ht, ht]
  show _ * ((Real.cos _ : ℝ) : EReal) + _ * ((Real.sin _ : ℝ) : EReal) = _
  rw [← EReal.coe_mul, ← EReal.coe_mul, ← EReal.coe_add]
  rfl

theorem scD_val (q : FVec Ideal S128x256 .bf16) (kv : Vec Ideal S1x128x64 .bf16) (hh : ℕ) (hhh : hh < 4) (Q K : ℕ → ℕ → ℝ)
    (hq : ∀ p e, q (ix2 p e) = ((Q p.val e.val : ℝ) : EReal)) (hk : ∀ k d, kv (ix3 0 k d) = ((K k.val d.val : ℝ) : EReal)) (p k : Fin 128) :
    scD q kv hh (ix2 p k) = ((∑ d : Fin 64, Q p.val (64 * hh + d.val) * K k.val d.val : ℝ) : EReal) := by
  obtain rfl | rfl | rfl | rfl : hh = 0 ∨ hh = 1 ∨ hh = 2 ∨ hh = 3 := by omega
  all_goals
    pointwise [scD, k0_pay148, k0_pay151, k0_pay154, k0_pay157]
    simp only [hq, hk, ← EReal.coe_mul, coe_sum]

theorem mx_val (m : FVec Ideal S128x1 .f32) (s : FVec Ideal S128x128 .f32) (S : ℕ → ℕ → ℝ) (p : Fin 128) (M : ℝ)
    (hm : m (ix2 p 0) = (M : EReal)) (hs : ∀ p k, s (ix2 p k) = ((S p.val k.val : ℝ) : EReal)) :
    ∃ M' : ℝ, k0_pay156 m s (ix2 p 0) = (M' : EReal) := by
  obtain ⟨N, hN⟩ := fold_max (n := 127) fun k => S p.val k.val
  refine ⟨max M N, ?_⟩
  pointwise [k0_pay156]
  simp only [hs, hm, ofBits_bot]
  rw [hN]
  exact (EReal.coe_strictMono.monotone.map_max).symm

theorem hd_val (m : FVec Ideal S128x1 .f32) (s : Vec Ideal S1x1x128x4096 .f32) (v : Vec Ideal S1x4096x64 .bf16) (S V : ℕ → ℕ → ℝ) (p : Fin 128) (d : Fin 64)
    (hm : ∃ M : ℝ, m (ix2 p 0) = (M : EReal)) (hs : ∀ p k, s (ix4 0 0 p k) = ((S p.val k.val : ℝ) : EReal))
    (hv : ∀ k d, v (ix3 0 k d) = ((V k.val d.val : ℝ) : EReal)) :
    hd m s v (ix2 p d) = (((∑ j : Fin 4096, Real.exp (S p.val j.val) * V j.val d.val) / ∑ j : Fin 4096, Real.exp (S p.val j.val) : ℝ) : EReal) := by
  obtain ⟨M, hM⟩ := hm
  pointwise [hd, k0_pay843]
  simp only [hs, hM, hv, ← EReal.coe_sub]
  have he : ∀ r : ℝ, Ideal.exp (r : EReal) = ((Real.exp r : ℝ) : EReal) := fun _ => rfl
  simp only [he, ← EReal.coe_mul, coe_sum]
  rw [div_coe' _ _ (Finset.sum_pos (fun _ _ => Real.exp_pos _) ⟨0, Finset.mem_univ _⟩).ne', softmax_shift]

theorem fin_val (wo : Vec Ideal S256x512 .bf16) (h0 h1 h2 h3 : FVec Ideal S128x64 .f32) (C : ℕ → ℕ → ℝ) (W : ℕ → ℕ → ℝ)
    (e0 : ∀ p d, h0 (ix2 p d) = ((C p.val d.val : ℝ) : EReal)) (e1 : ∀ p d, h1 (ix2 p d) = ((C p.val (64 + d.val) : ℝ) : EReal))
    (e2 : ∀ p d, h2 (ix2 p d) = ((C p.val (128 + d.val) : ℝ) : EReal)) (e3 : ∀ p d, h3 (ix2 p d) = ((C p.val (192 + d.val) : ℝ) : EReal))
    (hw : ∀ d e, wo (ix2 d e) = ((W d.val e.val : ℝ) : EReal)) (p : Fin 128) (o : Fin 512) :
    fin wo h0 h1 h2 h3 (ix3 0 p o) = ((∑ e : Fin 256, C p.val e.val * W e.val o.val : ℝ) : EReal) := by
  pointwise [fin, k0_pay842]
  have h : ∀ x : Fin 256, (if h : x.val < 64 then h0 (ix2 p ⟨x.val, h⟩) else
      if h : x.val - 64 < 64 then h1 (ix2 p ⟨x.val - 64, h⟩) else
        if h : x.val - 64 - 64 < 64 then h2 (ix2 p ⟨x.val - 64 - 64, h⟩) else h3 (ix2 p ⟨x.val - 64 - 64 - 64, by omega⟩)) = ((C p.val x.val : ℝ) : EReal) := fun x => by
    split_ifs with a1 a2 a3
    · exact e0 p _
    · exact (e1 p _).trans (by rw [show 64 + (x.val - 64) = x.val by omega])
    · exact (e2 p _).trans (by rw [show 128 + (x.val - 64 - 64) = x.val by omega])
    · exact (e3 p _).trans (by rw [show 192 + (x.val - 64 - 64 - 64) = x.val by omega])
  simp only [h, hw, ← EReal.coe_mul, coe_sum]

/-! ## The whole -/

theorem ix_eq {a b c : ℕ} (i : Fin a) (j : Fin b) (k : Fin c) : ValueIdx.ix3 i j k = ix3 i j k := by
  funext x; match x with | ⟨0, _⟩ => rfl | ⟨1, _⟩ => rfl | ⟨2, _⟩ => rfl

section
variable (I : Dev nD → Ins Ideal) (X : ℕ → ℕ → ℕ → ℝ) (Wq Wk Wv Wo : ℕ → ℕ → ℝ)

/-- The chips hold real numbers: their blocks of the activations, and the weights. -/
structure Holds : Prop where
  x : ∀ (c : Dev nD) (b : Fin 2) (p : Fin 128) (d : Fin 512), (I c).x (ix3 b p d) = ((X b.val (128 * c.val + p.val) d.val : ℝ) : EReal)
  wq : ∀ (c : Dev nD) (d : Fin 512) (e : Fin 256), (I c).wq (ix2 d e) = ((Wq d.val e.val : ℝ) : EReal)
  wk : ∀ (c : Dev nD) (d : Fin 512) (e : Fin 256), (I c).wk (ix2 d e) = ((Wk d.val e.val : ℝ) : EReal)
  wv : ∀ (c : Dev nD) (d : Fin 512) (e : Fin 256), (I c).wv (ix2 d e) = ((Wv d.val e.val : ℝ) : EReal)
  wo : ∀ (c : Dev nD) (d : Fin 256) (e : Fin 512), (I c).wo (ix2 d e) = ((Wo d.val e.val : ℝ) : EReal)

variable {I X Wq Wk Wv Wo} (H : Holds I X Wq Wk Wv Wo)
include H

theorem xB_val (c : Dev nD) (b : ℕ) (hb : b < 2) (p : Fin 128) (d : Fin 512) :
    xB (I c) b (ix3 0 p d) = ((X b (128 * c.val + p.val) d.val : ℝ) : EReal) := by
  obtain rfl | rfl : b = 0 ∨ b = 1 := by omega
  · have h : xB (I c) 0 (ix3 0 p d) = (I c).x (ix3 0 p d) := congrArg (I c).x (by
      funext x; match x with | ⟨0, _⟩ => rfl | ⟨1, _⟩ => exact Fin.ext (by show 0 + 1 * p.val = p.val; omega) | ⟨2, _⟩ => exact Fin.ext (by show 0 + 1 * d.val = d.val; omega))
    rw [h, H.x]; rfl
  · have h : xB (I c) 1 (ix3 0 p d) = (I c).x (ix3 1 p d) := congrArg (I c).x (by
      funext x; match x with | ⟨0, _⟩ => rfl | ⟨1, _⟩ => exact Fin.ext (by show 0 + 1 * p.val = p.val; omega) | ⟨2, _⟩ => exact Fin.ext (by show 0 + 1 * d.val = d.val; omega))
    rw [h, H.x]; rfl

theorem own_k (c : Dev nD) (b : ℕ) (hb : b < 2) (p : Fin 128) (e : Fin 256) :
    ownP I c b 0 (ix3 0 p e) = ((rotd (proj X Wk b (128 * c.val + p.val)) (128 * c.val + p.val) e.val : ℝ) : EReal) := by
  rw [ownP_k]
  pointwise []
  exact rope_val c _ (fun p e => proj X Wk b (128 * c.val + p) e) (fun p e => mm_val _ _ (fun p d => X b (128 * c.val + p) d) Wk (xB_val H c b hb) (H.wk c) p e) p e
theorem own_v (c : Dev nD) (b : ℕ) (hb : b < 2) (p : Fin 128) (e : Fin 256) :
    ownP I c b 1 (ix3 0 p e) = ((proj X Wv b (128 * c.val + p.val) e.val : ℝ) : EReal) := by
  rw [ownP_v]
  pointwise []
  exact mm_val _ _ (fun p d => X b (128 * c.val + p) d) Wv (xB_val H c b hb) (H.wv c) p e

theorem Gn_k (b s e : ℕ) (hb : b < 2) (hs : s < 4096) (he : e < 256) : Gn I b s e = ((rotd (proj X Wk b s) s e : ℝ) : EReal) := by
  unfold Gn
  rw [show e / 256 = 0 by omega, ix_eq, own_k H _ b hb]
  have h1 : 128 * (s / 128 % 32) + s % 128 = s := by omega
  have h2 : e % 256 = e := by omega
  simp only [h1, h2]
theorem Gn_v (b s e : ℕ) (hb : b < 2) (hs : s < 4096) (he : e < 256) : Gn I b s (256 + e) = ((proj X Wv b s e : ℝ) : EReal) := by
  unfold Gn
  rw [show (256 + e) / 256 = 1 by omega, ix_eq, own_v H _ b hb]
  have h1 : 128 * (s / 128 % 32) + s % 128 = s := by omega
  have h2 : (256 + e) % 256 = e := by omega
  simp only [h1, h2]

/-- The chip's queries, rotated. -/
theorem q_val (c : Dev nD) (b : ℕ) (hb : b < 2) (p : Fin 128) (e : Fin 256) :
    qv I c b (ix2 p e) = ((rotd (proj X Wq b (128 * c.val + p.val)) (128 * c.val + p.val) e.val * (1 / 8) : ℝ) : EReal) := by
  rw [qv_eq]
  pointwise []
  rw [rope_val c _ (fun p e => proj X Wq b (128 * c.val + p) e) (fun p e => mm_val _ _ (fun p d => X b (128 * c.val + p) d) Wq (xB_val H c b hb) (H.wq c) p e) p e,
    ofBits_eighth, ← EReal.coe_mul]

abbrev Qr (X : ℕ → ℕ → ℕ → ℝ) (W : ℕ → ℕ → ℝ) : ℕ → ℕ → ℕ → ℝ := fun b s => rotd (proj X W b s) s

theorem sc_val (c : Dev nD) (b hh o : ℕ) (hb : b < 2) (hhh : hh < 4) (ho : o < 32) (p k : Fin 128) :
    scD (qv I c b) (kvBlk I b o (64 * hh)) hh (ix2 p k) = ((score (Qr X Wq) (Qr X Wk) b hh (128 * c.val + p.val) (o * 128 + k.val) : ℝ) : EReal) := by
  rw [scD_val _ _ hh hhh (fun p e => Qr X Wq b (128 * c.val + p) e * (1 / 8)) (fun k d => Qr X Wk b (o * 128 + k) (64 * hh + d)) (q_val H c b hb)
    (fun k d => Gn_k H b (o * 128 + k.val) (64 * hh + d.val) hb (by omega) (by omega))]
  unfold score
  rw [Finset.sum_mul]
  congr 1
  exact Finset.sum_congr rfl fun d _ => by ring

theorem Sn_val (c : Dev nD) (b hh k : ℕ) (hb : b < 2) (hhh : hh < 4) (hk : k < 4096) (p : Fin 128) :
    Sn I c b hh p.val k = ((score (Qr X Wq) (Qr X Wk) b hh (128 * c.val + p.val) k : ℝ) : EReal) := by
  unfold Sn SC
  rw [scF_eq]
  have h := sc_val H c b hh (k / 128) hb hhh (by omega) p ⟨k % 128, Nat.mod_lt _ (by decide)⟩
  have e1 : k / 128 * 128 + k % 128 = k := by omega
  have e2 : (⟨p.val % 128, Nat.mod_lt _ (by decide)⟩ : Fin 128) = p := Fin.ext (Nat.mod_eq_of_lt p.isLt)
  simp only [e1] at h
  rw [e2, ← h]
  generalize scD (qv I c b) (kvBlk I b (k / 128) (64 * hh)) hh = s
  generalize (⟨k % 128, Nat.mod_lt _ (by decide)⟩ : Fin 128) = k'
  have e3 : ValueIdx.ix4 (n0 := 1) (n1 := 1) 0 0 p k' = ix4 0 0 p k' := by
    funext x; match x with | ⟨0, _⟩ => rfl | ⟨1, _⟩ => rfl | ⟨2, _⟩ => rfl | ⟨3, _⟩ => rfl
  rw [e3]
  pointwise []

theorem mx_real (c : Dev nD) (b hh : ℕ) (hb : b < 2) (hhh : hh < 4) (p : Fin 128) (n : ℕ) : ∃ M : ℝ, mx I c b hh n (ix2 p 0) = (M : EReal) := by
  induction n with
  | zero =>
    obtain ⟨M, hM⟩ := ofBits_low
    exact ⟨M, hM⟩
  | succ n ih =>
    obtain ⟨M, hM⟩ := ih
    rw [mx_succ]
    exact mx_val _ _ (fun p k => score (Qr X Wq) (Qr X Wk) b hh (128 * c.val + p) (org c.val (relS n) * 128 + k)) p M hM fun p k =>
      sc_val H c b hh _ hb hhh (org_lt _ _) p k

theorem hdOf_val (c : Dev nD) (b hh : ℕ) (hb : b < 2) (hhh : hh < 4) (p : Fin 128) (d : Fin 64) :
    hdOf I c b hh (ix2 p d) = ((mix (score (Qr X Wq) (Qr X Wk)) (proj X Wv) b (128 * c.val + p.val) (64 * hh + d.val) : ℝ) : EReal) := by
  unfold hdOf mix
  rw [hd_val _ _ _ (fun p k => score (Qr X Wq) (Qr X Wk) b hh (128 * c.val + p) k) (fun k d => proj X Wv b k (64 * hh + d)) p d
    (mx_real H c b hh hb hhh p 32) (fun p k => Sn_val H c b hh k.val hb hhh k.isLt p)
    (fun k d => (congrArg (Gn I b k.val) (by show 256 + 64 * hh + d.val = 256 + (64 * hh + d.val); omega)).trans (Gn_v H b k.val (64 * hh + d.val) hb k.isLt (by omega))),
    show (64 * hh + d.val) / 64 = hh by omega]

theorem outW_val (c : Dev nD) (b : ℕ) (hb : b < 2) (p : Fin 128) (o : Fin 512) :
    outW I c b (ix3 0 p o) = ((attn X Wq Wk Wv Wo b (128 * c.val + p.val) o.val : ℝ) : EReal) := by
  rw [outW_eq _ _ _ hb]
  exact fin_val _ _ _ _ _ (fun p e => mix (score (Qr X Wq) (Qr X Wk)) (proj X Wv) b (128 * c.val + p) e) Wo
    (fun p d => (hdOf_val H c b 0 hb (by omega) p d).trans (by rw [show 64 * 0 + d.val = d.val by omega])) (hdOf_val H c b 1 hb (by omega)) (hdOf_val H c b 2 hb (by omega)) (hdOf_val H c b 3 hb (by omega))
    (H.wo c) p o

end

end Cert.Proof.Ker

end
-- ==== Proof.RefVal.lean ====
/-
  The reference's result as the real numbers it computes.
-/
module

public import proofs.«01_k».proof.Proof.Spec
public import proofs.«01_k».proof.Proof.Gen.ReferenceIdeal.Run
public import Idealize.ShloMosaic.Lib.Pointwise

@[expose] public section

set_option maxRecDepth 16384

noncomputable section

namespace Cert.Proof.Ref

open Cert.ReferenceIdeal Cert.ReferenceIdeal.Gen
open Idealize.ShloMosaic

/-- A projection, its columns split into heads. -/
def rProj (a : FVec Ideal S2x4096x512 .bf16) (w : FVec Ideal S512x256 .bf16) : FVec Ideal S2x4096x4x64 .f32 :=
  shapeCast _ (Host.dotGeneral (F := Ideal) dot_S2x4096x512_S512x256_S2x4096x256_2_0_01_1_n_n none (extf .f32 a bitsLt_bf16_f32) (extf .f32 w bitsLt_bf16_f32)) shapeCasts_S2x4096x256_S2x4096x4x64
def rAng : FVec Ideal S4096x32 .f32 :=
  mulf (broadcastInDim S4096x32 ![0, 1] bcast_S4096x1_S4096x32_0_1 (sitofp .f32 (broadcastInDim S4096x1 ![0] bcast_S4096_S4096x1_0 (iotaInDim S4096 32 0))))
    (broadcastInDim S4096x32 ![0, 1] bcast_S1x32_S4096x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (addi (broadcastInDim S32 ![] bcast_S_S32 (constantI S_ 32 0#32)) (muli (broadcastInDim S32 ![] bcast_S_S32 (constantI S_ 32 2#32)) (iotaInDim S32 32 0))))
            (broadcastInDim S32 ![] bcast_S_S32 (constant S_ .f32 0x42800000#32)))))))
/-- A table over positions and pairs of columns, spread over the heads. -/
def rTab (c : FVec Ideal S4096x32 .f32) : FVec Ideal S2x4096x4x64 .f32 :=
  broadcastInDim S2x4096x4x64 ![0, 1, 2, 3] bcast_S1x4096x1x64_S2x4096x4x64_0_1_2_3 (broadcastInDim S1x4096x1x64 ![1, 3] bcast_S4096x64_S1x4096x1x64_1_3
    (shapeCast _ (broadcastInDim S4096x32x2 ![0, 1] bcast_S4096x32_S4096x32x2_0_1 c) shapeCasts_S4096x32x2_S4096x64))
def rTurn (t : FVec Ideal S2x4096x4x64 .f32) : FVec Ideal S2x4096x4x64 .f32 :=
  shapeCast _ (concatenate S2x4096x4x32x2 4
    [⟨S2x4096x4x32x1, (broadcastInDim S2x4096x4x32x1 ![0, 1, 2, 3] bcast_S2x4096x4x32_S2x4096x4x32x1_0_1_2_3 (Host.negf (shapeCast _ (extractStridedSlice S2x4096x4x32x1 ![0, 0, 0, 0, 1] (shapeCast _ t shapeCasts_S2x4096x4x64_S2x4096x4x32x2) slices_S2x4096x4x32x2_S2x4096x4x32x1_0_0_0_0_1) shapeCasts_S2x4096x4x32x1_S2x4096x4x32)))⟩,
     ⟨S2x4096x4x32x1, (broadcastInDim S2x4096x4x32x1 ![0, 1, 2, 3] bcast_S2x4096x4x32_S2x4096x4x32x1_0_1_2_3 (shapeCast _ (extractStridedSlice S2x4096x4x32x1 ![0, 0, 0, 0, 0] (shapeCast _ t shapeCasts_S2x4096x4x64_S2x4096x4x32x2) slices_S2x4096x4x32x2_S2x4096x4x32x1_0_0_0_0_0) shapeCasts_S2x4096x4x32x1_S2x4096x4x32))⟩]
    concatenates_S2x4096x4x32x1_S2x4096x4x32x1_S2x4096x4x32x2_d4) shapeCasts_S2x4096x4x32x2_S2x4096x4x64
def rRot (t : FVec Ideal S2x4096x4x64 .f32) : FVec Ideal S2x4096x4x64 .f32 :=
  addf (mulf t (rTab (Host.cos rAng))) (mulf (rTurn t) (rTab (Host.sin rAng)))
def rScore (q k : FVec Ideal S2x4096x4x64 .f32) : FVec Ideal S2x4x4096x4096 .f32 :=
  mulf (Host.dotGeneral dot_S2x4096x4x64_S2x4096x4x64_S2x4x4096x4096_3_3_1_1_02_02 none q k) (broadcastInDim S2x4x4096x4096 ![] bcast_S_S2x4x4096x4096 (constant S_ .f32 0x3E000000#32))
def rExp (s : FVec Ideal S2x4x4096x4096 .f32) : FVec Ideal S2x4x4096x4096 .f32 :=
  Host.exp (subf s (broadcastInDim S2x4x4096x4096 ![0, 1, 2, 3] bcast_S2x4x4096x1_S2x4x4096x4096_0_1_2_3 (broadcastInDim S2x4x4096x1 ![0, 1, 2] bcast_S2x4x4096_S2x4x4096x1_0_1_2
    (Host.reduce FloatOps.maximumf s (constant S_ .f32 0xFF800000#32) reducesTo_S2x4x4096x4096_S2x4x4096_d3 h_S_))))
def rWeight (p : FVec Ideal S2x4x4096x4096 .f32) : FVec Ideal S2x4x4096x4096 .f32 :=
  Host.divf p (broadcastInDim S2x4x4096x4096 ![0, 1, 2, 3] bcast_S2x4x4096x1_S2x4x4096x4096_0_1_2_3 (broadcastInDim S2x4x4096x1 ![0, 1, 2] bcast_S2x4x4096_S2x4x4096x1_0_1_2
    (Host.reduceAdd p (constant S_ .f32 0x00000000#32) reducesTo_S2x4x4096x4096_S2x4x4096_d3 h_S_)))
def rCtx (v : FVec Ideal S2x4096x4x64 .f32) (w : FVec Ideal S2x4x4096x4096 .f32) : FVec Ideal S2x4096x256 .f32 :=
  shapeCast _ (transpose S2x4096x4x64 [0, 3, 1, 2] (Host.dotGeneral dot_S2x4096x4x64_S2x4x4096x4096_S2x4x64x4096_1_3_3_2_02_01 none v w) transposes_S2x4x64x4096_S2x4096x4x64_0_3_1_2) shapeCasts_S2x4096x4x64_S2x4096x256
def rOut (c : FVec Ideal S2x4096x256 .f32) (w : FVec Ideal S256x512 .bf16) : FVec Ideal S2x4096x512 .f32 :=
  Host.dotGeneral dot_S2x4096x256_S256x512_S2x4096x512_2_0_01_1_n_n none c (extf .f32 w bitsLt_bf16_f32)

theorem res_eq (m : (ℓ : Loc nD τ sig) → Buf (Elt Ideal) ℓ) (c : Dev nD) : Cert.ReferenceIdeal.Value.res_main_v85 m c
    = rOut (rCtx (rProj (m ((c.tc : Thread nD τ).loc main_arg0)) (m ((c.tc : Thread nD τ).loc main_arg3)))
        (rWeight (rExp (rScore (rRot (rProj (m ((c.tc : Thread nD τ).loc main_arg0)) (m ((c.tc : Thread nD τ).loc main_arg1))))
          (rRot (rProj (m ((c.tc : Thread nD τ).loc main_arg0)) (m ((c.tc : Thread nD τ).loc main_arg2))))))))
        (m ((c.tc : Thread nD τ).loc main_arg4)) := rfl

theorem rProj_val (a : FVec Ideal S2x4096x512 .bf16) (w : FVec Ideal S512x256 .bf16) (X : ℕ → ℕ → ℕ → ℝ) (W : ℕ → ℕ → ℝ)
    (ha : ∀ b s d, a (ix3 b s d) = ((X b.val s.val d.val : ℝ) : EReal)) (hw : ∀ d e, w (ix2 d e) = ((W d.val e.val : ℝ) : EReal))
    (b : Fin 2) (s : Fin 4096) (h : Fin 4) (d : Fin 64) :
    rProj a w (ix4 b s h d) = ((proj X W b.val s.val (64 * h.val + d.val) : ℝ) : EReal) := by
  pointwise [rProj]
  have he : h.val * 64 + d.val = 64 * h.val + d.val := by omega
  simp only [ha, hw, he, ← EReal.coe_mul, coe_sum]
  rfl

/-- A small word read as a number. -/
theorem sitofp_nat (n : ℕ) (h : n < 2147483648) : FloatOps.sitofp (F := Ideal) .f32 (BitVec.ofNat 32 n) = (((n : ℕ) : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

theorem rAng_val (s : Fin 4096) (k : Fin 32) : rAng (ix2 s k) = ((angle s.val k.val : ℝ) : EReal) := by
  pointwise [rAng]
  rw [show IntOp.addi 0#32 (IntOp.muli 2#32 (BitVec.ofNat 32 k.val)) = BitVec.ofNat 32 (2 * k.val) from by
    simp [IntOp.addi, IntOp.muli, BitVec.ofNat_mul],
    sitofp_nat _ (by omega), sitofp_nat _ (by omega), ofBits_10000, ofBits_64, div_coe' _ _ (by norm_num)]
  show _ * Ideal.div 1 (((10000 : ℝ).rpow (((2 * k.val : ℕ) : ℝ) / 64) : ℝ) : EReal) = _
  have hp : (10000 : ℝ).rpow (((2 * k.val : ℕ) : ℝ) / 64) ≠ 0 := (Real.rpow_pos_of_pos (by norm_num) _).ne'
  rw [show (1 : EReal) = ((1 : ℝ) : EReal) from rfl, div_coe' _ _ hp, pow_angle, ← EReal.coe_mul]
  rfl

theorem rTab_val (c : FVec Ideal S4096x32 .f32) (b : Fin 2) (s : Fin 4096) (h : Fin 4) (d : Fin 64) :
    rTab c (ix4 b s h d) = c (ix2 s ⟨d.val / 2, by omega⟩) := by
  pointwise [rTab]

theorem rTurn_val (t : FVec Ideal S2x4096x4x64 .f32) (T : ℕ → ℕ → ℕ → ℝ) (ht : ∀ b s h d, t (ix4 b s h d) = ((T b.val s.val (64 * h.val + d.val) : ℝ) : EReal))
    (b : Fin 2) (s : Fin 4096) (h : Fin 4) (d : Fin 64) :
    rTurn t (ix4 b s h d) = (((if (64 * h.val + d.val) % 2 = 0 then -T b.val s.val (64 * h.val + d.val + 1) else T b.val s.val (64 * h.val + d.val - 1) : ℝ)) : EReal) := by
  pointwise [rTurn]
  have he : d.val % 2 = 0 → 64 * h.val + (d.val / 2 * 2 + 1) = 64 * h.val + d.val + 1 := fun _ => by omega
  have ho : d.val % 2 ≠ 0 → 64 * h.val + d.val / 2 * 2 = 64 * h.val + d.val - 1 := fun _ => by omega
  by_cases hd : d.val % 2 = 0
  · simp only [ht, he hd, show d.val % 2 < 1 by omega, show (64 * h.val + d.val) % 2 = 0 by omega, dite_true, if_true, EReal.coe_neg]
  · simp only [ht, ho hd, show ¬ d.val % 2 < 1 by omega, show ¬ (64 * h.val + d.val) % 2 = 0 by omega, dite_false, if_false]

theorem rScore_val (q k : FVec Ideal S2x4096x4x64 .f32) (Q K : ℕ → ℕ → ℕ → ℝ) (hq : ∀ b s h d, q (ix4 b s h d) = ((Q b.val s.val (64 * h.val + d.val) : ℝ) : EReal))
    (hk : ∀ b s h d, k (ix4 b s h d) = ((K b.val s.val (64 * h.val + d.val) : ℝ) : EReal)) (b : Fin 2) (h : Fin 4) (i j : Fin 4096) :
    rScore q k (ix4 b h i j) = ((score Q K b.val h.val i.val j.val : ℝ) : EReal) := by
  pointwise [rScore]
  simp only [hq, hk, ← EReal.coe_mul, coe_sum, ofBits_eighth]
  rfl

theorem rRot_val (t : FVec Ideal S2x4096x4x64 .f32) (T : ℕ → ℕ → ℕ → ℝ) (ht : ∀ b s h d, t (ix4 b s h d) = ((T b.val s.val (64 * h.val + d.val) : ℝ) : EReal))
    (b : Fin 2) (s : Fin 4096) (h : Fin 4) (d : Fin 64) :
    rRot t (ix4 b s h d) = ((rotd (T b.val s.val) s.val (64 * h.val + d.val) : ℝ) : EReal) := by
  have h1 : rRot t (ix4 b s h d) = t (ix4 b s h d) * rTab (Host.cos rAng) (ix4 b s h d) + rTurn t (ix4 b s h d) * rTab (Host.sin rAng) (ix4 b s h d) := rfl
  rw [h1, rTab_val, rTab_val, rTurn_val t T ht, ht]
  have h2 : ∀ x, Host.cos rAng x = Ideal.cos (rAng x) := fun _ => rfl
  have h3 : ∀ x, Host.sin rAng x = Ideal.sin (rAng x) := fun _ => rfl
  rw [h2, h3, rAng_val]
  show _ * ((Real.cos _ : ℝ) : EReal) + _ * ((Real.sin _ : ℝ) : EReal) = _
  rw [← EReal.coe_mul, ← EReal.coe_mul, ← EReal.coe_add]
  unfold rotd
  rw [show (64 * h.val + d.val) % 64 = d.val by omega]

theorem rExp_val (s : FVec Ideal S2x4x4096x4096 .f32) (S : ℕ → ℕ → ℕ → ℕ → ℝ) (hs : ∀ b h i j, s (ix4 b h i j) = ((S b.val h.val i.val j.val : ℝ) : EReal))
    (b : Fin 2) (h : Fin 4) (i : Fin 4096) :
    ∃ M : ℝ, ∀ j, rExp s (ix4 b h i j) = ((Real.exp (S b.val h.val i.val j.val - M) : ℝ) : EReal) := by
  obtain ⟨M, hM⟩ := fold_max (n := 4095) fun j => S b.val h.val i.val j.val
  refine ⟨M, fun j => ?_⟩
  pointwise [rExp]
  simp only [hs, ofBits_bot]
  rw [hM, ← EReal.coe_sub]
  rfl

theorem rWeight_val (p : FVec Ideal S2x4x4096x4096 .f32) (b : Fin 2) (h : Fin 4) (i : Fin 4096) (E : Fin 4096 → ℝ)
    (hp : ∀ j, p (ix4 b h i j) = ((E j : ℝ) : EReal)) (hE : ∑ j, E j ≠ 0) (j : Fin 4096) :
    rWeight p (ix4 b h i j) = ((E j / ∑ j : Fin 4096, E j : ℝ) : EReal) := by
  pointwise [rWeight]
  simp only [hp, coe_sum]
  exact div_coe' _ _ hE

theorem rCtx_val (v : FVec Ideal S2x4096x4x64 .f32) (w : FVec Ideal S2x4x4096x4096 .f32) (V : ℕ → ℕ → ℕ → ℝ)
    (hv : ∀ b s h d, v (ix4 b s h d) = ((V b.val s.val (64 * h.val + d.val) : ℝ) : EReal)) (b : Fin 2) (i : Fin 4096) (e : Fin 256) (W : Fin 4096 → ℝ)
    (hw : ∀ j, w (ix4 b ⟨e.val / 64, by omega⟩ i j) = ((W j : ℝ) : EReal)) :
    rCtx v w (ix3 b i e) = ((∑ j : Fin 4096, V b.val j.val e.val * W j : ℝ) : EReal) := by
  pointwise [rCtx]
  have he : 64 * (e.val / 64) + e.val % 64 = e.val := by omega
  simp only [hw, hv, he, ← EReal.coe_mul, coe_sum]

theorem rOut_val (c : FVec Ideal S2x4096x256 .f32) (w : FVec Ideal S256x512 .bf16) (C : ℕ → ℕ → ℕ → ℝ) (W : ℕ → ℕ → ℝ)
    (hc : ∀ b i e, c (ix3 b i e) = ((C b.val i.val e.val : ℝ) : EReal)) (hw : ∀ d e, w (ix2 d e) = ((W d.val e.val : ℝ) : EReal))
    (b : Fin 2) (i : Fin 4096) (o : Fin 512) :
    rOut c w (ix3 b i o) = ((result C W b.val i.val o.val : ℝ) : EReal) := by
  pointwise [rOut]
  simp only [hc, hw, ← EReal.coe_mul, coe_sum]
  rfl

/-- The reference's result, on finite arguments. -/
theorem res_val (m : (ℓ : Loc nD τ sig) → Buf (Elt Ideal) ℓ) (c : Dev nD) (X : ℕ → ℕ → ℕ → ℝ) (Wq Wk Wv Wo : ℕ → ℕ → ℝ)
    (h0 : ∀ (b : Fin 2) (s : Fin 4096) (d : Fin 512), (m ((c.tc : Thread nD τ).loc main_arg0) : FVec Ideal S2x4096x512 .bf16) (ix3 b s d) = ((X b.val s.val d.val : ℝ) : EReal))
    (h1 : ∀ (d : Fin 512) (e : Fin 256), (m ((c.tc : Thread nD τ).loc main_arg1) : FVec Ideal S512x256 .bf16) (ix2 d e) = ((Wq d.val e.val : ℝ) : EReal))
    (h2 : ∀ (d : Fin 512) (e : Fin 256), (m ((c.tc : Thread nD τ).loc main_arg2) : FVec Ideal S512x256 .bf16) (ix2 d e) = ((Wk d.val e.val : ℝ) : EReal))
    (h3 : ∀ (d : Fin 512) (e : Fin 256), (m ((c.tc : Thread nD τ).loc main_arg3) : FVec Ideal S512x256 .bf16) (ix2 d e) = ((Wv d.val e.val : ℝ) : EReal))
    (h4 : ∀ (d : Fin 256) (e : Fin 512), (m ((c.tc : Thread nD τ).loc main_arg4) : FVec Ideal S256x512 .bf16) (ix2 d e) = ((Wo d.val e.val : ℝ) : EReal))
    (b : Fin 2) (i : Fin 4096) (o : Fin 512) :
    (Cert.ReferenceIdeal.Value.res_main_v85 m c : FVec Ideal S2x4096x512 .f32) (ix3 b i o) = ((attn X Wq Wk Wv Wo b.val i.val o.val : ℝ) : EReal) := by
  rw [res_eq]
  unfold attn
  refine rOut_val _ _ _ _ (fun b i e => ?_) h4 b i o
  set S := score (fun b s => rotd (proj X Wq b s) s) (fun b s => rotd (proj X Wk b s) s)
  obtain ⟨M, hM⟩ := rExp_val _ S (fun b h i j => rScore_val _ _ _ _
    (rRot_val _ _ (rProj_val _ _ _ _ h0 h1)) (rRot_val _ _ (rProj_val _ _ _ _ h0 h2)) b h i j) b ⟨e.val / 64, by omega⟩ i
  have hpos : ∑ j : Fin 4096, Real.exp (S b.val (e.val / 64) i.val j.val - M) ≠ 0 :=
    (Finset.sum_pos (fun _ _ => Real.exp_pos _) ⟨0, Finset.mem_univ _⟩).ne'
  rw [rCtx_val _ _ _ (rProj_val _ _ _ _ h0 h3) b i e _ (rWeight_val _ _ _ _ _ hM hpos)]
  unfold mix
  rw [← softmax_shift _ _ M, Finset.sum_div]
  congr 1
  exact Finset.sum_congr rfl fun j _ => by ring

end Cert.Proof.Ref

end
-- ==== Proof.Value.lean ====
/-
  The kernel's result against the reference's: on finite arguments both are the same real numbers.
-/
module

public import proofs.«01_k».proof.Defs
public import proofs.«01_k».proof.Proof.Region
public import proofs.«01_k».proof.Proof.KerVal
public import proofs.«01_k».proof.Proof.RefVal
public import Idealize.ShloMosaic.Lib.Pointwise
public import Idealize.ShloMosaic.Lib.Pipeline.ValueKit.Geometry

@[expose] public section

set_option maxRecDepth 16384

noncomputable section

namespace Cert.Proof

open Idealize.ShloMosaic Idealize.ShloMosaic.TcCoe

/-! ## The precondition -/

instance preK : Cert.Pre_finite_KernelIdeal.Facts := by constructor <;> decide
instance preR : Cert.Pre_finite_ReferenceIdeal.Facts := by constructor <;> decide

/-- An extended real whose size is below infinity is a real number. -/
theorem real_of (x : EReal) (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  have hl : max x (-x) < ⊤ := by
    by_contra hn
    simp [Ideal.cmp, hn] at h
  have h1 : x ≠ ⊤ := fun e => by simp [e] at hl
  have h2 : x ≠ ⊥ := fun e => by simp [e] at hl
  exact (EReal.coe_toReal h1 h2).symm

theorem pre_at (m : (ℓ : Loc Cert.KernelIdeal.nD Cert.KernelIdeal.τ Cert.KernelIdeal.sig) → Buf (Elt Ideal) ℓ)
    (h : Pre_KernelIdeal_finite_KernelIdeal m) (c : Dev Cert.KernelIdeal.nD) :
    (∀ i, (insOf m c).x i = (((insOf m c).x i).toReal : EReal)) ∧ (∀ i, (insOf m c).wq i = (((insOf m c).wq i).toReal : EReal))
    ∧ (∀ i, (insOf m c).wk i = (((insOf m c).wk i).toReal : EReal)) ∧ (∀ i, (insOf m c).wv i = (((insOf m c).wv i).toReal : EReal))
    ∧ (∀ i, (insOf m c).wo i = (((insOf m c).wo i).toReal : EReal)) :=
  ⟨fun i => real_of _ (congrFun (h c).1 i), fun i => real_of _ (congrFun (h c).2.1 i), fun i => real_of _ (congrFun (h c).2.2.1 i),
    fun i => real_of _ (congrFun (h c).2.2.2.1 i), fun i => real_of _ (congrFun (h c).2.2.2.2 i)⟩

/-! ## The result array after the run -/

section
open Cert.KernelIdeal Cert.KernelIdeal.Gen

theorem arr_out (m : (ℓ : Loc nD τ sig) → Buf (Elt Ideal) ℓ) (c : Dev nD) : (dat0 m c).arrAt 8 cfg0.N = outAll (insOf m) c := by
  refine (dat0 m c).arrAt_eq_of_covers 8 _ (by decide +kernel) fun t hf y => ?_
  have he : ((cfg0.win 8).blk t).view.emb y = y := by
    funext a
    have hi : ∀ (t : Fin grid0.N) (a : Fin 3), win0_8.index t a = 0 := by decide +kernel
    match a with
    | ⟨0, _⟩ => exact Fin.ext (by blk_simp; exact (congrArg (· * _ + _) (hi t 0)).trans (by simp))
    | ⟨1, _⟩ => exact Fin.ext (by blk_simp; exact (congrArg (· * _ + _) (hi t 1)).trans (by simp))
    | ⟨2, _⟩ => exact Fin.ext (by blk_simp; exact (congrArg (· * _ + _) (hi t 2)).trans (by simp))
  rw [he]
  rfl

end

/-! ## The real numbers -/

abbrev Mem' := (ℓ : Loc Cert.ReferenceIdeal.nD Cert.ReferenceIdeal.τ Cert.ReferenceIdeal.sig) → Buf (Elt Ideal) ℓ

/-- The reference's first argument as real numbers. -/
def R3 (v : FVec Ideal Cert.ReferenceIdeal.S2x4096x512 .bf16) : ℕ → ℕ → ℕ → ℝ := fun b s d =>
  if h : b < 2 ∧ s < 4096 ∧ d < 512 then (v (ix3 ⟨b, h.1⟩ ⟨s, h.2.1⟩ ⟨d, h.2.2⟩)).toReal else 0
/-- A matrix as real numbers. -/
def R2 {a b : ℕ} (v : FVec Ideal ⟨2, ![a, b]⟩ .bf16) : ℕ → ℕ → ℝ := fun d e =>
  if h : d < a ∧ e < b then (v (ix2 ⟨d, h.1⟩ ⟨e, h.2⟩)).toReal else 0

theorem R2_val {a b : ℕ} (v : FVec Ideal ⟨2, ![a, b]⟩ .bf16) (h : ∀ i, v i = ((v i).toReal : EReal)) (d : Fin a) (e : Fin b) :
    v (ix2 d e) = ((R2 v d.val e.val : ℝ) : EReal) := by
  unfold R2
  rw [dif_pos ⟨d.isLt, e.isLt⟩]
  exact h _

theorem block_at {α : Type} (v : (⟨3, ![2, 4096, 512]⟩ : Shape).Idx → α) (c : Fin 32) (b : Fin 2) (p : Fin 128) (d : Fin 512) :
    Layout.block ⟨3, ![2, 128, 512]⟩ ⟨3, ![2, 4096, 512]⟩ 1 32 c v (by decide) (ix3 b p d) = v (ix3 b ⟨128 * c.val + p.val, by omega⟩ d) := by
  rw [Layout.block_apply]
  refine congrArg v (funext fun a => Fin.ext ?_)
  rw [Layout.Tiles.idx_val]
  match a with
  | ⟨0, _⟩ => rfl
  | ⟨1, _⟩ => exact congrArg (· + p.val) (Nat.mul_comm c.val 128)
  | ⟨2, _⟩ => rfl

set_option maxHeartbeats 4000000 in
/-- On finite arguments the blocks the chips leave are the blocks of the reference's result. -/
theorem same (m : (ℓ : Loc Cert.KernelIdeal.nD Cert.KernelIdeal.τ Cert.KernelIdeal.sig) → Buf (Elt Ideal) ℓ) (m' : Mem')
    (h : Pre_KernelIdeal_finite_KernelIdeal m)
    (x : FVec Ideal Cert.ReferenceIdeal.S2x4096x512 .bf16) (wq wk wv : FVec Ideal ⟨2, ![512, 256]⟩ .bf16) (wo : FVec Ideal ⟨2, ![256, 512]⟩ .bf16)
    (e0 : x = m' (((0 : Dev Cert.ReferenceIdeal.nD).tc : Thread Cert.ReferenceIdeal.nD Cert.ReferenceIdeal.τ).loc Cert.ReferenceIdeal.main_arg0))
    (e1 : wq = m' (((0 : Dev Cert.ReferenceIdeal.nD).tc : Thread Cert.ReferenceIdeal.nD Cert.ReferenceIdeal.τ).loc Cert.ReferenceIdeal.main_arg1))
    (e2 : wk = m' (((0 : Dev Cert.ReferenceIdeal.nD).tc : Thread Cert.ReferenceIdeal.nD Cert.ReferenceIdeal.τ).loc Cert.ReferenceIdeal.main_arg2))
    (e3 : wv = m' (((0 : Dev Cert.ReferenceIdeal.nD).tc : Thread Cert.ReferenceIdeal.nD Cert.ReferenceIdeal.τ).loc Cert.ReferenceIdeal.main_arg3))
    (e4 : wo = m' (((0 : Dev Cert.ReferenceIdeal.nD).tc : Thread Cert.ReferenceIdeal.nD Cert.ReferenceIdeal.τ).loc Cert.ReferenceIdeal.main_arg4))
    (hb : ∀ c : Dev Cert.KernelIdeal.nD, (insOf m c).x = Layout.block ⟨3, ![2, 128, 512]⟩ ⟨3, ![2, 4096, 512]⟩ 1 32 c x
      ∧ (insOf m c).wq = wq ∧ (insOf m c).wk = wk ∧ (insOf m c).wv = wv ∧ (insOf m c).wo = wo)
    (c : Dev Cert.KernelIdeal.nD) :
    outAll (insOf m) c = Layout.block ⟨3, ![2, 128, 512]⟩ ⟨3, ![2, 4096, 512]⟩ 1 32 c (Cert.ReferenceIdeal.Value.res_main_v85 m' 0) := by
  have hx : ∀ (b : Fin 2) (s : Fin 4096) (d : Fin 512), x (ix3 b s d) = ((R3 x b.val s.val d.val : ℝ) : EReal) := fun b s d => by
    unfold R3
    rw [dif_pos ⟨b.isLt, s.isLt, d.isLt⟩]
    have hp := (pre_at m h ⟨s.val / 128, by have := s.isLt; show s.val / 128 < 32; omega⟩).1 (ix3 b ⟨s.val % 128, Nat.mod_lt _ (by decide)⟩ d)
    rw [(hb _).1, block_at] at hp
    have hs : 128 * (s.val / 128) + s.val % 128 = s.val := by omega
    simp only [hs] at hp
    exact hp
  have hq := fun d e => R2_val wq (fun i => by have := (pre_at m h c).2.1 i; rwa [(hb c).2.1] at this) d e
  have hk := fun d e => R2_val wk (fun i => by have := (pre_at m h c).2.2.1 i; rwa [(hb c).2.2.1] at this) d e
  have hv := fun d e => R2_val wv (fun i => by have := (pre_at m h c).2.2.2.1 i; rwa [(hb c).2.2.2.1] at this) d e
  have ho := fun d e => R2_val wo (fun i => by have := (pre_at m h c).2.2.2.2 i; rwa [(hb c).2.2.2.2] at this) d e
  have H : Ker.Holds (insOf m) (R3 x) (R2 wq) (R2 wk) (R2 wv) (R2 wo) :=
    { x := fun c b p d => by rw [(hb c).1, block_at, hx]
      wq := fun c d e => by rw [(hb c).2.1, hq]
      wk := fun c d e => by rw [(hb c).2.2.1, hk]
      wv := fun c d e => by rw [(hb c).2.2.2.1, hv]
      wo := fun c d e => by rw [(hb c).2.2.2.2, ho] }
  suffices hs : ∀ (b : Fin 2) (p : Fin 128) (o : Fin 512), outAll (insOf m) c (ix3 b p o)
      = Layout.block ⟨3, ![2, 128, 512]⟩ ⟨3, ![2, 4096, 512]⟩ 1 32 c (Cert.ReferenceIdeal.Value.res_main_v85 m' 0) (by decide) (ix3 b p o) by
    funext i
    rw [eq_ix3 (n0 := 2) (n1 := 128) (n2 := 512) i]
    exact hs _ _ _
  intro b p o
  rw [block_at, Ref.res_val m' 0 (R3 x) (R2 wq) (R2 wk) (R2 wv) (R2 wo) (by rw [← e0]; exact hx) (by rw [← e1]; exact hq) (by rw [← e2]; exact hk)
    (by rw [← e3]; exact hv) (by rw [← e4]; exact ho)]
  exact Ker.outW_val H c b.val b.isLt p o

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Same
public import proofs.«01_k».proof.Proof.Walk
public import proofs.«01_k».proof.Proof.Launch
public import proofs.«01_k».proof.Proof.Value
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel terminates without a fault on every chip, every counter ends at zero, and the arguments end as
    they were: the one run, at any element type. -/
theorem run_main {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD, Fin1 m c r.2) ∧ r.2.sem = fun _ => 0) :=
  run_of m ρ fun I K c f0 o => run_body I K c f0 o

set_option maxRecDepth 100000 in set_option maxHeartbeats 40000000 in
set_option cleanup.letToHave false in
theorem frame_ideal : Cert.quiescent_KernelIdeal := fun m ρ _ =>
  (θ_run (Cert.KernelIdeal.defs (F := Ideal)) _ _).mono (fun _ h => ⟨fun c => (h.1 c).1, h.2⟩) (run_main (F := Ideal) m ρ)

set_option maxRecDepth 100000 in set_option maxHeartbeats 40000000 in
set_option cleanup.letToHave false in
theorem frame_kernel : Cert.quiescent_Kernel := fun m ρ _ => by
  rw [run_eq]
  exact (θ_run (Cert.KernelIdeal.defs (F := Bits)) _ _).mono (fun _ h => ⟨fun c => (h.1 c).1, h.2⟩) (run_main (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

set_option maxRecDepth 100000 in set_option maxHeartbeats 40000000 in
set_option cleanup.letToHave false in
/-- On finite arguments every chip's result is its block of the reference's. -/
theorem value : Cert.algebraic_KernelIdeal_ReferenceIdeal_pre_finite_KernelIdeal := fun m g m' g' hp hb =>
  ⟨Cert.ReferenceIdeal.Value.res_main_v85 m' 0,
    (θ_run (Cert.KernelIdeal.defs (F := Ideal)) _ _).mono
      (fun _ h c => ⟨((h.1 c).2.trans (arr_out m c)).trans (same m m' hp _ _ _ _ _ rfl rfl rfl rfl rfl hb c), (h.1 c).1⟩) (run_main (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, preK, preR,
    frame_kernel, frame_ideal, fun m g _ => frame_ideal m g trivial, frame_reference, fun m g _ => frame_reference m g trivial, trivial, value⟩

end Cert.Proof

end
